-- ==== Defs.lean ====
def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2)
      ∧ r.2.mem ((c.tc : Thread Cert.Kernel17.nD Cert.Kernel17.τ).loc Cert.Kernel17.main_arg3) = m ((c.tc : Thread Cert.Kernel17.nD Cert.Kernel17.τ).loc Cert.Kernel17.main_arg3))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2)
      ∧ r.2.mem ((c.tc : Thread Cert.Kernel19.nD Cert.Kernel19.τ).loc Cert.Kernel19.main_arg3) = m ((c.tc : Thread Cert.Kernel19.nD Cert.Kernel19.τ).loc Cert.Kernel19.main_arg3)
      ∧ r.2.mem ((c.tc : Thread Cert.Kernel19.nD Cert.Kernel19.τ).loc Cert.Kernel19.main_arg4) = m ((c.tc : Thread Cert.Kernel19.nD Cert.Kernel19.τ).loc Cert.Kernel19.main_arg4))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
      ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3)
      ∧ r.2.mem ((c.tc : Thread Cert.Kernel19Ideal.nD Cert.Kernel19Ideal.τ).loc Cert.Kernel19Ideal.main_arg4) = m ((c.tc : Thread Cert.Kernel19Ideal.nD Cert.Kernel19Ideal.τ).loc Cert.Kernel19Ideal.main_arg4))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3)
      ∧ r.2.mem ((c.tc : Thread Cert.Reference19Ideal.nD Cert.Reference19Ideal.τ).loc Cert.Reference19Ideal.main_arg4) = m ((c.tc : Thread Cert.Reference19Ideal.nD Cert.Reference19Ideal.τ).loc Cert.Reference19Ideal.main_arg4))
      ∧ r.2.sem = fun _ => 0)

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v1_0)) (v1 : (c : Dev Cert.Kernel2Ideal.nD) → Buf (Elt Ideal) ((c.tc : Thread Cert.Kernel2Ideal.nD Cert.Kernel2Ideal.τ).loc Cert.Kernel2Ideal.main_v1_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v1_0) = v0 c
          ∧ r.2.mem ((c.tc : Thread Cert.Kernel2Ideal.nD Cert.Kernel2Ideal.τ).loc Cert.Kernel2Ideal.main_v1_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v6) = v0 c
          ∧ r.2.mem ((c.tc : Thread Cert.Reference2Ideal.nD Cert.Reference2Ideal.τ).loc Cert.Reference2Ideal.main_v7) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v1) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v6) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v0_0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0_0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v16) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v6_0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v6_0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v20) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v11)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v11) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v6) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)) →
    ∃ (v0 : (c : Dev Cert.Kernel7Ideal.nD) → Buf (Elt Ideal) ((c.tc : Thread Cert.Kernel7Ideal.nD Cert.Kernel7Ideal.τ).loc Cert.Kernel7Ideal.main_v0_0)) (v1 : (c : Dev Cert.Kernel7Ideal.nD) → Buf (Elt Ideal) ((c.tc : Thread Cert.Kernel7Ideal.nD Cert.Kernel7Ideal.τ).loc Cert.Kernel7Ideal.main_v0_1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0_0) = v0 c
          ∧ r.2.mem ((c.tc : Thread Cert.Kernel7Ideal.nD Cert.Kernel7Ideal.τ).loc Cert.Kernel7Ideal.main_v0_1) = v1 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v40) = v0 c
          ∧ r.2.mem ((c.tc : Thread Cert.Reference7Ideal.nD Cert.Reference7Ideal.τ).loc Cert.Reference7Ideal.main_v23) = v1 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)) →
    ∃ (v0 : (c : Dev Cert.Kernel8Ideal.nD) → Buf (Elt Ideal) ((c.tc : Thread Cert.Kernel8Ideal.nD Cert.Kernel8Ideal.τ).loc Cert.Kernel8Ideal.main_v10_0)) (v1 : (c : Dev Cert.Kernel8Ideal.nD) → Buf (Elt Ideal) ((c.tc : Thread Cert.Kernel8Ideal.nD Cert.Kernel8Ideal.τ).loc Cert.Kernel8Ideal.main_v10_1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v10_0) = v0 c
          ∧ r.2.mem ((c.tc : Thread Cert.Kernel8Ideal.nD Cert.Kernel8Ideal.τ).loc Cert.Kernel8Ideal.main_v10_1) = v1 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v40) = v0 c
          ∧ r.2.mem ((c.tc : Thread Cert.Reference8Ideal.nD Cert.Reference8Ideal.τ).loc Cert.Reference8Ideal.main_v23) = v1 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)) →
    ∃ (v0 : (c : Dev Cert.Kernel9Ideal.nD) → Buf (Elt Ideal) ((c.tc : Thread Cert.Kernel9Ideal.nD Cert.Kernel9Ideal.τ).loc Cert.Kernel9Ideal.main_v0_0)) (v1 : (c : Dev Cert.Kernel9Ideal.nD) → Buf (Elt Ideal) ((c.tc : Thread Cert.Kernel9Ideal.nD Cert.Kernel9Ideal.τ).loc Cert.Kernel9Ideal.main_v0_1)) (v2 : (c : Dev Cert.Kernel9Ideal.nD) → Buf (Elt Ideal) ((c.tc : Thread Cert.Kernel9Ideal.nD Cert.Kernel9Ideal.τ).loc Cert.Kernel9Ideal.main_v0_2)) (v3 : (c : Dev Cert.Kernel9Ideal.nD) → Buf (Elt Ideal) ((c.tc : Thread Cert.Kernel9Ideal.nD Cert.Kernel9Ideal.τ).loc Cert.Kernel9Ideal.main_v0_3)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0_0) = v0 c
          ∧ r.2.mem ((c.tc : Thread Cert.Kernel9Ideal.nD Cert.Kernel9Ideal.τ).loc Cert.Kernel9Ideal.main_v0_1) = v1 c
          ∧ r.2.mem ((c.tc : Thread Cert.Kernel9Ideal.nD Cert.Kernel9Ideal.τ).loc Cert.Kernel9Ideal.main_v0_2) = v2 c
          ∧ r.2.mem ((c.tc : Thread Cert.Kernel9Ideal.nD Cert.Kernel9Ideal.τ).loc Cert.Kernel9Ideal.main_v0_3) = v3 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v1) = v0 c
          ∧ r.2.mem ((c.tc : Thread Cert.Reference9Ideal.nD Cert.Reference9Ideal.τ).loc Cert.Reference9Ideal.main_v25) = v1 c
          ∧ r.2.mem ((c.tc : Thread Cert.Reference9Ideal.nD Cert.Reference9Ideal.τ).loc Cert.Reference9Ideal.main_v6) = v2 c
          ∧ r.2.mem ((c.tc : Thread Cert.Reference9Ideal.nD Cert.Reference9Ideal.τ).loc Cert.Reference9Ideal.main_v12) = v3 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)) →
    ∃ (v0 : (c : Dev Cert.Kernel10Ideal.nD) → Buf (Elt Ideal) ((c.tc : Thread Cert.Kernel10Ideal.nD Cert.Kernel10Ideal.τ).loc Cert.Kernel10Ideal.main_v0_0)) (v1 : (c : Dev Cert.Kernel10Ideal.nD) → Buf (Elt Ideal) ((c.tc : Thread Cert.Kernel10Ideal.nD Cert.Kernel10Ideal.τ).loc Cert.Kernel10Ideal.main_v0_1)) (v2 : (c : Dev Cert.Kernel10Ideal.nD) → Buf (Elt Ideal) ((c.tc : Thread Cert.Kernel10Ideal.nD Cert.Kernel10Ideal.τ).loc Cert.Kernel10Ideal.main_v0_2)) (v3 : (c : Dev Cert.Kernel10Ideal.nD) → Buf (Elt Ideal) ((c.tc : Thread Cert.Kernel10Ideal.nD Cert.Kernel10Ideal.τ).loc Cert.Kernel10Ideal.main_v0_3)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0_0) = v0 c
          ∧ r.2.mem ((c.tc : Thread Cert.Kernel10Ideal.nD Cert.Kernel10Ideal.τ).loc Cert.Kernel10Ideal.main_v0_1) = v1 c
          ∧ r.2.mem ((c.tc : Thread Cert.Kernel10Ideal.nD Cert.Kernel10Ideal.τ).loc Cert.Kernel10Ideal.main_v0_2) = v2 c
          ∧ r.2.mem ((c.tc : Thread Cert.Kernel10Ideal.nD Cert.Kernel10Ideal.τ).loc Cert.Kernel10Ideal.main_v0_3) = v3 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v1) = v0 c
          ∧ r.2.mem ((c.tc : Thread Cert.Reference10Ideal.nD Cert.Reference10Ideal.τ).loc Cert.Reference10Ideal.main_v25) = v1 c
          ∧ r.2.mem ((c.tc : Thread Cert.Reference10Ideal.nD Cert.Reference10Ideal.τ).loc Cert.Reference10Ideal.main_v6) = v2 c
          ∧ r.2.mem ((c.tc : Thread Cert.Reference10Ideal.nD Cert.Reference10Ideal.τ).loc Cert.Reference10Ideal.main_v12) = v3 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)) →
    ∃ (v0 : (c : Dev Cert.Kernel11Ideal.nD) → Buf (Elt Ideal) ((c.tc : Thread Cert.Kernel11Ideal.nD Cert.Kernel11Ideal.τ).loc Cert.Kernel11Ideal.main_v0_0)) (v1 : (c : Dev Cert.Kernel11Ideal.nD) → Buf (Elt Ideal) ((c.tc : Thread Cert.Kernel11Ideal.nD Cert.Kernel11Ideal.τ).loc Cert.Kernel11Ideal.main_v0_1)) (v2 : (c : Dev Cert.Kernel11Ideal.nD) → Buf (Elt Ideal) ((c.tc : Thread Cert.Kernel11Ideal.nD Cert.Kernel11Ideal.τ).loc Cert.Kernel11Ideal.main_v0_2)) (v3 : (c : Dev Cert.Kernel11Ideal.nD) → Buf (Elt Ideal) ((c.tc : Thread Cert.Kernel11Ideal.nD Cert.Kernel11Ideal.τ).loc Cert.Kernel11Ideal.main_v0_3)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0_0) = v0 c
          ∧ r.2.mem ((c.tc : Thread Cert.Kernel11Ideal.nD Cert.Kernel11Ideal.τ).loc Cert.Kernel11Ideal.main_v0_1) = v1 c
          ∧ r.2.mem ((c.tc : Thread Cert.Kernel11Ideal.nD Cert.Kernel11Ideal.τ).loc Cert.Kernel11Ideal.main_v0_2) = v2 c
          ∧ r.2.mem ((c.tc : Thread Cert.Kernel11Ideal.nD Cert.Kernel11Ideal.τ).loc Cert.Kernel11Ideal.main_v0_3) = v3 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v1) = v0 c
          ∧ r.2.mem ((c.tc : Thread Cert.Reference11Ideal.nD Cert.Reference11Ideal.τ).loc Cert.Reference11Ideal.main_v25) = v1 c
          ∧ r.2.mem ((c.tc : Thread Cert.Reference11Ideal.nD Cert.Reference11Ideal.τ).loc Cert.Reference11Ideal.main_v6) = v2 c
          ∧ r.2.mem ((c.tc : Thread Cert.Reference11Ideal.nD Cert.Reference11Ideal.τ).loc Cert.Reference11Ideal.main_v12) = v3 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)) →
    ∃ (v0 : (c : Dev Cert.Kernel12Ideal.nD) → Buf (Elt Ideal) ((c.tc : Thread Cert.Kernel12Ideal.nD Cert.Kernel12Ideal.τ).loc Cert.Kernel12Ideal.main_v0_0)) (v1 : (c : Dev Cert.Kernel12Ideal.nD) → Buf (Elt Ideal) ((c.tc : Thread Cert.Kernel12Ideal.nD Cert.Kernel12Ideal.τ).loc Cert.Kernel12Ideal.main_v0_1)) (v2 : (c : Dev Cert.Kernel12Ideal.nD) → Buf (Elt Ideal) ((c.tc : Thread Cert.Kernel12Ideal.nD Cert.Kernel12Ideal.τ).loc Cert.Kernel12Ideal.main_v0_2)) (v3 : (c : Dev Cert.Kernel12Ideal.nD) → Buf (Elt Ideal) ((c.tc : Thread Cert.Kernel12Ideal.nD Cert.Kernel12Ideal.τ).loc Cert.Kernel12Ideal.main_v0_3)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0_0) = v0 c
          ∧ r.2.mem ((c.tc : Thread Cert.Kernel12Ideal.nD Cert.Kernel12Ideal.τ).loc Cert.Kernel12Ideal.main_v0_1) = v1 c
          ∧ r.2.mem ((c.tc : Thread Cert.Kernel12Ideal.nD Cert.Kernel12Ideal.τ).loc Cert.Kernel12Ideal.main_v0_2) = v2 c
          ∧ r.2.mem ((c.tc : Thread Cert.Kernel12Ideal.nD Cert.Kernel12Ideal.τ).loc Cert.Kernel12Ideal.main_v0_3) = v3 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v1) = v0 c
          ∧ r.2.mem ((c.tc : Thread Cert.Reference12Ideal.nD Cert.Reference12Ideal.τ).loc Cert.Reference12Ideal.main_v25) = v1 c
          ∧ r.2.mem ((c.tc : Thread Cert.Reference12Ideal.nD Cert.Reference12Ideal.τ).loc Cert.Reference12Ideal.main_v6) = v2 c
          ∧ r.2.mem ((c.tc : Thread Cert.Reference12Ideal.nD Cert.Reference12Ideal.τ).loc Cert.Reference12Ideal.main_v12) = v3 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)) →
    ∃ (v0 : (c : Dev Cert.Kernel13Ideal.nD) → Buf (Elt Ideal) ((c.tc : Thread Cert.Kernel13Ideal.nD Cert.Kernel13Ideal.τ).loc Cert.Kernel13Ideal.main_v0_0)) (v1 : (c : Dev Cert.Kernel13Ideal.nD) → Buf (Elt Ideal) ((c.tc : Thread Cert.Kernel13Ideal.nD Cert.Kernel13Ideal.τ).loc Cert.Kernel13Ideal.main_v0_1)) (v2 : (c : Dev Cert.Kernel13Ideal.nD) → Buf (Elt Ideal) ((c.tc : Thread Cert.Kernel13Ideal.nD Cert.Kernel13Ideal.τ).loc Cert.Kernel13Ideal.main_v0_2)) (v3 : (c : Dev Cert.Kernel13Ideal.nD) → Buf (Elt Ideal) ((c.tc : Thread Cert.Kernel13Ideal.nD Cert.Kernel13Ideal.τ).loc Cert.Kernel13Ideal.main_v0_3)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0_0) = v0 c
          ∧ r.2.mem ((c.tc : Thread Cert.Kernel13Ideal.nD Cert.Kernel13Ideal.τ).loc Cert.Kernel13Ideal.main_v0_1) = v1 c
          ∧ r.2.mem ((c.tc : Thread Cert.Kernel13Ideal.nD Cert.Kernel13Ideal.τ).loc Cert.Kernel13Ideal.main_v0_2) = v2 c
          ∧ r.2.mem ((c.tc : Thread Cert.Kernel13Ideal.nD Cert.Kernel13Ideal.τ).loc Cert.Kernel13Ideal.main_v0_3) = v3 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_arg0) = v0 c
          ∧ r.2.mem ((c.tc : Thread Cert.Reference13Ideal.nD Cert.Reference13Ideal.τ).loc Cert.Reference13Ideal.main_v23) = v1 c
          ∧ r.2.mem ((c.tc : Thread Cert.Reference13Ideal.nD Cert.Reference13Ideal.τ).loc Cert.Reference13Ideal.main_v4) = v2 c
          ∧ r.2.mem ((c.tc : Thread Cert.Reference13Ideal.nD Cert.Reference13Ideal.τ).loc Cert.Reference13Ideal.main_v10) = v3 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)) →
    ∃ (v0 : (c : Dev Cert.Kernel14Ideal.nD) → Buf (Elt Ideal) ((c.tc : Thread Cert.Kernel14Ideal.nD Cert.Kernel14Ideal.τ).loc Cert.Kernel14Ideal.main_v0_0)) (v1 : (c : Dev Cert.Kernel14Ideal.nD) → Buf (Elt Ideal) ((c.tc : Thread Cert.Kernel14Ideal.nD Cert.Kernel14Ideal.τ).loc Cert.Kernel14Ideal.main_v0_1)) (v2 : (c : Dev Cert.Kernel14Ideal.nD) → Buf (Elt Ideal) ((c.tc : Thread Cert.Kernel14Ideal.nD Cert.Kernel14Ideal.τ).loc Cert.Kernel14Ideal.main_v0_2)) (v3 : (c : Dev Cert.Kernel14Ideal.nD) → Buf (Elt Ideal) ((c.tc : Thread Cert.Kernel14Ideal.nD Cert.Kernel14Ideal.τ).loc Cert.Kernel14Ideal.main_v0_3)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0_0) = v0 c
          ∧ r.2.mem ((c.tc : Thread Cert.Kernel14Ideal.nD Cert.Kernel14Ideal.τ).loc Cert.Kernel14Ideal.main_v0_1) = v1 c
          ∧ r.2.mem ((c.tc : Thread Cert.Kernel14Ideal.nD Cert.Kernel14Ideal.τ).loc Cert.Kernel14Ideal.main_v0_2) = v2 c
          ∧ r.2.mem ((c.tc : Thread Cert.Kernel14Ideal.nD Cert.Kernel14Ideal.τ).loc Cert.Kernel14Ideal.main_v0_3) = v3 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_arg0) = v0 c
          ∧ r.2.mem ((c.tc : Thread Cert.Reference14Ideal.nD Cert.Reference14Ideal.τ).loc Cert.Reference14Ideal.main_v23) = v1 c
          ∧ r.2.mem ((c.tc : Thread Cert.Reference14Ideal.nD Cert.Reference14Ideal.τ).loc Cert.Reference14Ideal.main_v4) = v2 c
          ∧ r.2.mem ((c.tc : Thread Cert.Reference14Ideal.nD Cert.Reference14Ideal.τ).loc Cert.Reference14Ideal.main_v10) = v3 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)) →
    ∃ (v0 : (c : Dev Cert.Kernel15Ideal.nD) → Buf (Elt Ideal) ((c.tc : Thread Cert.Kernel15Ideal.nD Cert.Kernel15Ideal.τ).loc Cert.Kernel15Ideal.main_v0_0)) (v1 : (c : Dev Cert.Kernel15Ideal.nD) → Buf (Elt Ideal) ((c.tc : Thread Cert.Kernel15Ideal.nD Cert.Kernel15Ideal.τ).loc Cert.Kernel15Ideal.main_v0_1)) (v2 : (c : Dev Cert.Kernel15Ideal.nD) → Buf (Elt Ideal) ((c.tc : Thread Cert.Kernel15Ideal.nD Cert.Kernel15Ideal.τ).loc Cert.Kernel15Ideal.main_v0_2)) (v3 : (c : Dev Cert.Kernel15Ideal.nD) → Buf (Elt Ideal) ((c.tc : Thread Cert.Kernel15Ideal.nD Cert.Kernel15Ideal.τ).loc Cert.Kernel15Ideal.main_v0_3)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0_0) = v0 c
          ∧ r.2.mem ((c.tc : Thread Cert.Kernel15Ideal.nD Cert.Kernel15Ideal.τ).loc Cert.Kernel15Ideal.main_v0_1) = v1 c
          ∧ r.2.mem ((c.tc : Thread Cert.Kernel15Ideal.nD Cert.Kernel15Ideal.τ).loc Cert.Kernel15Ideal.main_v0_2) = v2 c
          ∧ r.2.mem ((c.tc : Thread Cert.Kernel15Ideal.nD Cert.Kernel15Ideal.τ).loc Cert.Kernel15Ideal.main_v0_3) = v3 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_arg0) = v0 c
          ∧ r.2.mem ((c.tc : Thread Cert.Reference15Ideal.nD Cert.Reference15Ideal.τ).loc Cert.Reference15Ideal.main_v23) = v1 c
          ∧ r.2.mem ((c.tc : Thread Cert.Reference15Ideal.nD Cert.Reference15Ideal.τ).loc Cert.Reference15Ideal.main_v4) = v2 c
          ∧ r.2.mem ((c.tc : Thread Cert.Reference15Ideal.nD Cert.Reference15Ideal.τ).loc Cert.Reference15Ideal.main_v10) = v3 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)) →
    ∃ (v0 : (c : Dev Cert.Kernel16Ideal.nD) → Buf (Elt Ideal) ((c.tc : Thread Cert.Kernel16Ideal.nD Cert.Kernel16Ideal.τ).loc Cert.Kernel16Ideal.main_v0_0)) (v1 : (c : Dev Cert.Kernel16Ideal.nD) → Buf (Elt Ideal) ((c.tc : Thread Cert.Kernel16Ideal.nD Cert.Kernel16Ideal.τ).loc Cert.Kernel16Ideal.main_v0_1)) (v2 : (c : Dev Cert.Kernel16Ideal.nD) → Buf (Elt Ideal) ((c.tc : Thread Cert.Kernel16Ideal.nD Cert.Kernel16Ideal.τ).loc Cert.Kernel16Ideal.main_v0_2)) (v3 : (c : Dev Cert.Kernel16Ideal.nD) → Buf (Elt Ideal) ((c.tc : Thread Cert.Kernel16Ideal.nD Cert.Kernel16Ideal.τ).loc Cert.Kernel16Ideal.main_v0_3)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0_0) = v0 c
          ∧ r.2.mem ((c.tc : Thread Cert.Kernel16Ideal.nD Cert.Kernel16Ideal.τ).loc Cert.Kernel16Ideal.main_v0_1) = v1 c
          ∧ r.2.mem ((c.tc : Thread Cert.Kernel16Ideal.nD Cert.Kernel16Ideal.τ).loc Cert.Kernel16Ideal.main_v0_2) = v2 c
          ∧ r.2.mem ((c.tc : Thread Cert.Kernel16Ideal.nD Cert.Kernel16Ideal.τ).loc Cert.Kernel16Ideal.main_v0_3) = v3 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_arg0) = v0 c
          ∧ r.2.mem ((c.tc : Thread Cert.Reference16Ideal.nD Cert.Reference16Ideal.τ).loc Cert.Reference16Ideal.main_v23) = v1 c
          ∧ r.2.mem ((c.tc : Thread Cert.Reference16Ideal.nD Cert.Reference16Ideal.τ).loc Cert.Reference16Ideal.main_v4) = v2 c
          ∧ r.2.mem ((c.tc : Thread Cert.Reference16Ideal.nD Cert.Reference16Ideal.τ).loc Cert.Reference16Ideal.main_v10) = v3 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)
      ∧ m' ((c.tc : Thread Cert.Reference17Ideal.nD Cert.Reference17Ideal.τ).loc Cert.Reference17Ideal.main_arg3) = m ((c.tc : Thread Cert.Kernel17Ideal.nD Cert.Kernel17Ideal.τ).loc Cert.Kernel17Ideal.main_arg3)) →
    ∃ (v0 : (c : Dev Cert.Kernel17Ideal.nD) → Buf (Elt Ideal) ((c.tc : Thread Cert.Kernel17Ideal.nD Cert.Kernel17Ideal.τ).loc Cert.Kernel17Ideal.main_v0_0)) (v1 : (c : Dev Cert.Kernel17Ideal.nD) → Buf (Elt Ideal) ((c.tc : Thread Cert.Kernel17Ideal.nD Cert.Kernel17Ideal.τ).loc Cert.Kernel17Ideal.main_v0_1)) (v2 : (c : Dev Cert.Kernel17Ideal.nD) → Buf (Elt Ideal) ((c.tc : Thread Cert.Kernel17Ideal.nD Cert.Kernel17Ideal.τ).loc Cert.Kernel17Ideal.main_v0_2)) (v3 : (c : Dev Cert.Kernel17Ideal.nD) → Buf (Elt Ideal) ((c.tc : Thread Cert.Kernel17Ideal.nD Cert.Kernel17Ideal.τ).loc Cert.Kernel17Ideal.main_v0_3)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0_0) = v0 c
          ∧ r.2.mem ((c.tc : Thread Cert.Kernel17Ideal.nD Cert.Kernel17Ideal.τ).loc Cert.Kernel17Ideal.main_v0_1) = v1 c
          ∧ r.2.mem ((c.tc : Thread Cert.Kernel17Ideal.nD Cert.Kernel17Ideal.τ).loc Cert.Kernel17Ideal.main_v0_2) = v2 c
          ∧ r.2.mem ((c.tc : Thread Cert.Kernel17Ideal.nD Cert.Kernel17Ideal.τ).loc Cert.Kernel17Ideal.main_v0_3) = v3 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
          ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_arg0) = v0 c
          ∧ r.2.mem ((c.tc : Thread Cert.Reference17Ideal.nD Cert.Reference17Ideal.τ).loc Cert.Reference17Ideal.main_v23) = v1 c
          ∧ r.2.mem ((c.tc : Thread Cert.Reference17Ideal.nD Cert.Reference17Ideal.τ).loc Cert.Reference17Ideal.main_v4) = v2 c
          ∧ r.2.mem ((c.tc : Thread Cert.Reference17Ideal.nD Cert.Reference17Ideal.τ).loc Cert.Reference17Ideal.main_v10) = v3 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2)
          ∧ r.2.mem ((c.tc : Thread Cert.Reference17Ideal.nD Cert.Reference17Ideal.τ).loc Cert.Reference17Ideal.main_arg3) = m' ((c.tc : Thread Cert.Reference17Ideal.nD Cert.Reference17Ideal.τ).loc Cert.Reference17Ideal.main_arg3))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)) →
    ∃ (v0 : (c : Dev Cert.Kernel18Ideal.nD) → Buf (Elt Ideal) ((c.tc : Thread Cert.Kernel18Ideal.nD Cert.Kernel18Ideal.τ).loc Cert.Kernel18Ideal.main_v0)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0) = v0 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v0) = v0 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)
      ∧ m' ((c.tc : Thread Cert.Reference19Ideal.nD Cert.Reference19Ideal.τ).loc Cert.Reference19Ideal.main_arg3) = m ((c.tc : Thread Cert.Kernel19Ideal.nD Cert.Kernel19Ideal.τ).loc Cert.Kernel19Ideal.main_arg3)
      ∧ m' ((c.tc : Thread Cert.Reference19Ideal.nD Cert.Reference19Ideal.τ).loc Cert.Reference19Ideal.main_arg4) = m ((c.tc : Thread Cert.Kernel19Ideal.nD Cert.Kernel19Ideal.τ).loc Cert.Kernel19Ideal.main_arg4)) →
    ∃ (v0 : (c : Dev Cert.Kernel19Ideal.nD) → Buf (Elt Ideal) ((c.tc : Thread Cert.Kernel19Ideal.nD Cert.Kernel19Ideal.τ).loc Cert.Kernel19Ideal.main_v0_0)) (v1 : (c : Dev Cert.Kernel19Ideal.nD) → Buf (Elt Ideal) ((c.tc : Thread Cert.Kernel19Ideal.nD Cert.Kernel19Ideal.τ).loc Cert.Kernel19Ideal.main_v0_1)) (v2 : (c : Dev Cert.Kernel19Ideal.nD) → Buf (Elt Ideal) ((c.tc : Thread Cert.Kernel19Ideal.nD Cert.Kernel19Ideal.τ).loc Cert.Kernel19Ideal.main_v0_2)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0_0) = v0 c
          ∧ r.2.mem ((c.tc : Thread Cert.Kernel19Ideal.nD Cert.Kernel19Ideal.τ).loc Cert.Kernel19Ideal.main_v0_1) = v1 c
          ∧ r.2.mem ((c.tc : Thread Cert.Kernel19Ideal.nD Cert.Kernel19Ideal.τ).loc Cert.Kernel19Ideal.main_v0_2) = v2 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
          ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3)
          ∧ r.2.mem ((c.tc : Thread Cert.Kernel19Ideal.nD Cert.Kernel19Ideal.τ).loc Cert.Kernel19Ideal.main_arg4) = m ((c.tc : Thread Cert.Kernel19Ideal.nD Cert.Kernel19Ideal.τ).loc Cert.Kernel19Ideal.main_arg4))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v52) = v0 c
          ∧ r.2.mem ((c.tc : Thread Cert.Reference19Ideal.nD Cert.Reference19Ideal.τ).loc Cert.Reference19Ideal.main_v53) = v1 c
          ∧ r.2.mem ((c.tc : Thread Cert.Reference19Ideal.nD Cert.Reference19Ideal.τ).loc Cert.Reference19Ideal.main_v36) = v2 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2)
          ∧ r.2.mem ((c.tc : Thread Cert.Reference19Ideal.nD Cert.Reference19Ideal.τ).loc Cert.Reference19Ideal.main_arg3) = m' ((c.tc : Thread Cert.Reference19Ideal.nD Cert.Reference19Ideal.τ).loc Cert.Reference19Ideal.main_arg3)
          ∧ r.2.mem ((c.tc : Thread Cert.Reference19Ideal.nD Cert.Reference19Ideal.τ).loc Cert.Reference19Ideal.main_arg4) = m' ((c.tc : Thread Cert.Reference19Ideal.nD Cert.Reference19Ideal.τ).loc Cert.Reference19Ideal.main_arg4))

def Claim : Prop :=
  ∃ (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts),
    quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
-- ==== Kernel2.lean ====
abbrev S8192x1024 : Shape := ⟨2, ![8192, 1024]⟩
abbrev S2048x1024 : Shape := ⟨2, ![2048, 1024]⟩
abbrev S8192x2048 : Shape := ⟨2, ![8192, 2048]⟩
abbrev S1024x2048 : Shape := ⟨2, ![1024, 2048]⟩
abbrev S512x1024 : Shape := ⟨2, ![512, 1024]⟩
abbrev S512x2048 : Shape := ⟨2, ![512, 2048]⟩
abbrev S2048x512 : Shape := ⟨2, ![2048, 512]⟩
abbrev S512x512 : Shape := ⟨2, ![512, 512]⟩

abbrev nBuf : Space → Nat
  | .hbm => 6
  | .vmem => 9
  | .smem => 0
  | _ => 0

abbrev bufTy : (tb : Table) → Fin (tcTables nBuf tb) → BufTy
  | .hbm, ⟨0, _⟩ => ⟨S8192x1024, .f32⟩
  | .hbm, ⟨1, _⟩ => ⟨S2048x1024, .bf16⟩
  | .hbm, ⟨2, _⟩ => ⟨S8192x2048, .bf16⟩
  | .hbm, ⟨3, _⟩ => ⟨S1024x2048, .bf16⟩
  | .hbm, ⟨4, _⟩ => ⟨S8192x2048, .bf16⟩
  | .hbm, ⟨5, _⟩ => ⟨S2048x1024, .bf16⟩
  | .local _ .vmem, ⟨0, _⟩ => ⟨S512x1024, .f32⟩
  | .local _ .vmem, ⟨1, _⟩ => ⟨S512x1024, .f32⟩
  | .local _ .vmem, ⟨2, _⟩ => ⟨S1024x2048, .bf16⟩
  | .local _ .vmem, ⟨3, _⟩ => ⟨S512x2048, .bf16⟩
  | .local _ .vmem, ⟨4, _⟩ => ⟨S512x2048, .bf16⟩
  | .local _ .vmem, ⟨5, _⟩ => ⟨S512x2048, .bf16⟩
  | .local _ .vmem, ⟨6, _⟩ => ⟨S512x2048, .bf16⟩
  | .local _ .vmem, ⟨7, _⟩ => ⟨S2048x1024, .bf16⟩
  | .local _ .vmem, ⟨8, _⟩ => ⟨S2048x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32 : BitVec 32 := 15#32
  let v26 : BitVec 1 := Scalar.cmpi .eq arg0 c15_i32
  let v27 : BitVec 32 := Scalar.extui v26
  let c0_i32_19 : BitVec 32 := 0#32
  let v28 : BitVec 1 := Scalar.cmpi .ne v27 c0_i32_19
  v28

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S2048x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== Reference2Ideal.lean ====
abbrev S8192x1024 : Shape := ⟨2, ![8192, 1024]⟩
abbrev S2048x1024 : Shape := ⟨2, ![2048, 1024]⟩
abbrev S8192x2048 : Shape := ⟨2, ![8192, 2048]⟩
abbrev S1024x2048 : Shape := ⟨2, ![1024, 2048]⟩

abbrev nBuf : Space → Nat
  | .hbm => 11
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S2048x1024, .bf16⟩
  | .hbm, ⟨2, _⟩ => ⟨S8192x2048, .bf16⟩
  | .hbm, ⟨3, _⟩ => ⟨S8192x2048, .f32⟩
  | .hbm, ⟨4, _⟩ => ⟨S2048x1024, .f32⟩
  | .hbm, ⟨5, _⟩ => ⟨S8192x1024, .f32⟩
  | .hbm, ⟨6, _⟩ => ⟨S1024x2048, .f32⟩
  | .hbm, ⟨7, _⟩ => ⟨S2048x1024, .f32⟩
  | .hbm, ⟨8, _⟩ => ⟨S8192x2048, .f32⟩
  | .hbm, ⟨9, _⟩ => ⟨S8192x2048, .bf16⟩
  | .hbm, ⟨10, _⟩ => ⟨S2048x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel3.lean ====
abbrev S8192x1024 : Shape := ⟨2, ![8192, 1024]⟩
abbrev S8192x5120 : Shape := ⟨2, ![8192, 5120]⟩
abbrev S1024x8192 : Shape := ⟨2, ![1024, 8192]⟩
abbrev S1024x5120 : Shape := ⟨2, ![1024, 5120]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x5120, .bf16⟩
  | .hbm, ⟨2, _⟩ => ⟨S1024x8192, .bf16⟩
  | .hbm, ⟨3, _⟩ => ⟨S1024x5120, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![5, 4], ![false, false]⟩

def k0_cond3 (i : grid0.Coords) : BitVec 1 :=
  let arg1 : BitVec 32 := BitVec.ofNat 32 (i 1).val
  let c3_i32 : BitVec 32 := 3#32
  let v8 : BitVec 1 := Scalar.cmpi .eq arg1 c3_i32
  let v9 : BitVec 32 := Scalar.extui v8
  let c0_i32_3 : BitVec 32 := 0#32
  let v10 : BitVec 1 := Scalar.cmpi .ne v9 c0_i32_3
  v10

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .sge arg0 c0_i32
  let c5_i32 : BitVec 32 := 5#32
  let v1 : BitVec 1 := Scalar.cmpi .slt arg0 c5_i32
  let v2 : BitVec 1 := Scalar.andi v0 v1
  let c0_i32_0 : BitVec 32 := 0#32
  let v3 : BitVec 32 := Scalar.subi arg0 c0_i32_0
  let c0_i32_1 : BitVec 32 := 0#32
  let c4_i32 : BitVec 32 := 4#32
  let v4 : BitVec 32 := Scalar.maxsi c0_i32_1 v3
  let v5 : BitVec 32 := Scalar.minsi c4_i32 v4
  let c0_i32_2 : BitVec 32 := 0#32
  let v6 : BitVec 32 := Scalar.select v2 arg1 c0_i32_2
  let c0_i32_3 : BitVec 32 := 0#32
  ![v6.toNat, v5.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference3Ideal.lean ====
abbrev S8192x1024 : Shape := ⟨2, ![8192, 1024]⟩
abbrev S8192x5120 : Shape := ⟨2, ![8192, 5120]⟩
abbrev S_ : Shape := ⟨0, ![]⟩
abbrev S1024x5120 : Shape := ⟨2, ![1024, 5120]⟩
abbrev S5120x1024 : Shape := ⟨2, ![5120, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x5120, .bf16⟩
  | .hbm, ⟨2, _⟩ => ⟨S_, .f32⟩
  | .hbm, ⟨3, _⟩ => ⟨S1024x5120, .f32⟩
  | .hbm, ⟨4, _⟩ => ⟨S8192x1024, .f32⟩
  | .hbm, ⟨5, _⟩ => ⟨S8192x5120, .f32⟩
  | .hbm, ⟨6, _⟩ => ⟨S8192x5120, .f32⟩
  | .hbm, ⟨7, _⟩ => ⟨S5120x1024, .f32⟩
  | .hbm, ⟨8, _⟩ => ⟨S1024x5120, .f32⟩
  | .hbm, ⟨9, _⟩ => ⟨S1024x5120, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel4.lean ====
abbrev S8192x1024 : Shape := ⟨2, ![8192, 1024]⟩
abbrev S1x1024 : Shape := ⟨2, ![1, 1024]⟩
abbrev S1024x5120 : Shape := ⟨2, ![1024, 5120]⟩
abbrev S8192x5120 : Shape := ⟨2, ![8192, 5120]⟩
abbrev S1024x8192 : Shape := ⟨2, ![1024, 8192]⟩
abbrev S6400x1024 : Shape := ⟨2, ![6400, 1024]⟩
abbrev S1024x1024 : Shape := ⟨2, ![1024, 1024]⟩
abbrev S1024x1280 : Shape := ⟨2, ![1024, 1280]⟩
abbrev S1280x1024 : Shape := ⟨2, ![1280, 1024]⟩
abbrev S256x1024 : Shape := ⟨2, ![256, 1024]⟩
abbrev S256 : Shape := ⟨1, ![256]⟩
abbrev S256x1 : Shape := ⟨2, ![256, 1]⟩

abbrev nBuf : Space → Nat
  | .hbm => 6
  | .vmem => 12
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x5120, .bf16⟩
  | .hbm, ⟨3, _⟩ => ⟨S8192x5120, .bf16⟩
  | .hbm, ⟨4, _⟩ => ⟨S1024x8192, .bf16⟩
  | .hbm, ⟨5, _⟩ => ⟨S6400x1024, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x1280, .bf16⟩
  | .local _ .vmem, ⟨4, _⟩ => ⟨S1024x1280, .bf16⟩
  | .local _ .vmem, ⟨5, _⟩ => ⟨S1024x1280, .bf16⟩
  | .local _ .vmem, ⟨6, _⟩ => ⟨S1024x1280, .bf16⟩
  | .local _ .vmem, ⟨7, _⟩ => ⟨S1024x1024, .bf16⟩
  | .local _ .vmem, ⟨8, _⟩ => ⟨S1024x1024, .bf16⟩
  | .local _ .vmem, ⟨9, _⟩ => ⟨S1280x1024, .bf16⟩
  | .local _ .vmem, ⟨10, _⟩ => ⟨S1280x1024, .bf16⟩
  | .local _ .vmem, ⟨11, _⟩ => ⟨S1024x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![8, 4], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c0_i32_6 : BitVec 32 := 0#32
  let v8 : BitVec 1 := Scalar.cmpi .eq arg0 c0_i32_6
  let v9 : BitVec 32 := Scalar.extui v8
  let c0_i32_7 : BitVec 32 := 0#32
  let v10 : BitVec 1 := Scalar.cmpi .ne v9 c0_i32_7
  v10

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c4_i32 : BitVec 32 := 4#32
  let v1 : BitVec 32 := Scalar.select v0 arg1 c4_i32
  let c0_i32_0 : BitVec 32 := 0#32
  let c0_i32_1 : BitVec 32 := 0#32
  ![v1.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1280 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1280 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1280x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference4Ideal.lean ====
abbrev S8192x1024 : Shape := ⟨2, ![8192, 1024]⟩
abbrev S1x1024 : Shape := ⟨2, ![1, 1024]⟩
abbrev S1024x5120 : Shape := ⟨2, ![1024, 5120]⟩
abbrev S_ : Shape := ⟨0, ![]⟩
abbrev S8192 : Shape := ⟨1, ![8192]⟩
abbrev S8192x1 : Shape := ⟨2, ![8192, 1]⟩
abbrev S8192x5120 : Shape := ⟨2, ![8192, 5120]⟩

abbrev nBuf : Space → Nat
  | .hbm => 23
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x5120, .bf16⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S8192x1024, .bf16⟩
  | .hbm, ⟨19, _⟩ => ⟨S8192x1024, .f32⟩
  | .hbm, ⟨20, _⟩ => ⟨S1024x5120, .f32⟩
  | .hbm, ⟨21, _⟩ => ⟨S8192x5120, .f32⟩
  | .hbm, ⟨22, _⟩ => ⟨S8192x5120, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]
-- ==== Kernel5.lean ====
abbrev S8192x1024 : Shape := ⟨2, ![8192, 1024]⟩
abbrev S1024x14336 : Shape := ⟨2, ![1024, 14336]⟩
abbrev S16x128x4x1024 : Shape := ⟨4, ![16, 128, 4, 1024]⟩
abbrev S16x4x128x1024 : Shape := ⟨4, ![16, 4, 128, 1024]⟩
abbrev S4x128x16x1024 : Shape := ⟨4, ![4, 128, 16, 1024]⟩
abbrev S4x16x128x1024 : Shape := ⟨4, ![4, 16, 128, 1024]⟩
abbrev S8192x14336 : Shape := ⟨2, ![8192, 14336]⟩
abbrev S15360x1024 : Shape := ⟨2, ![15360, 1024]⟩
abbrev S2048x1024 : Shape := ⟨2, ![2048, 1024]⟩
abbrev S1024x1024 : Shape := ⟨2, ![1024, 1024]⟩

abbrev nBuf : Space → Nat
  | .hbm => 10
  | .vmem => 12
  | .smem => 0
  | _ => 0

abbrev bufTy : (tb : Table) → Fin (tcTables nBuf tb) → BufTy
  | .hbm, ⟨0, _⟩ => ⟨S8192x1024, .bf16⟩
  | .hbm, ⟨1, _⟩ => ⟨S1024x14336, .bf16⟩
  | .hbm, ⟨2, _⟩ => ⟨S16x128x4x1024, .bf16⟩
  | .hbm, ⟨3, _⟩ => ⟨S16x4x128x1024, .bf16⟩
  | .hbm, ⟨4, _⟩ => ⟨S8192x1024, .bf16⟩
  | .hbm, ⟨5, _⟩ => ⟨S4x128x16x1024, .bf16⟩
  | .hbm, ⟨6, _⟩ => ⟨S4x16x128x1024, .bf16⟩
  | .hbm, ⟨7, _⟩ => ⟨S8192x1024, .bf16⟩
  | .hbm, ⟨8, _⟩ => ⟨S8192x14336, .bf16⟩
  | .hbm, ⟨9, _⟩ => ⟨S15360x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S2048x1024, .bf16⟩
  | .local _ .vmem, ⟨5, _⟩ => ⟨S2048x1024, .bf16⟩
  | .local _ .vmem, ⟨6, _⟩ => ⟨S1024x1024, .bf16⟩
  | .local _ .vmem, ⟨7, _⟩ => ⟨S1024x1024, .bf16⟩
  | .local _ .vmem, ⟨8, _⟩ => ⟨S2048x1024, .bf16⟩
  | .local _ .vmem, ⟨9, _⟩ => ⟨S2048x1024, .bf16⟩
  | .local _ .vmem, ⟨10, _⟩ => ⟨S1024x1024, .bf16⟩
  | .local _ .vmem, ⟨11, _⟩ => ⟨S1024x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6_0 : Ref sig .tc := ⟨.hbm, 8, rfl⟩
abbrev main_v6_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 14], ![false, false]⟩

def k0_cond1 (i : grid0.Coords) : BitVec 1 :=
  let arg1 : BitVec 32 := BitVec.ofNat 32 (i 1).val
  let c9_i32 : BitVec 32 := 9#32
  let v0 : BitVec 1 := Scalar.cmpi .slt arg1 c9_i32
  let c0_i32 : BitVec 32 := 0#32
  let v2 : BitVec 1 := Scalar.cmpi .sgt arg1 c0_i32
  let v3 : BitVec 32 := Scalar.extui v2
  let c0_i32_0 : BitVec 32 := 0#32
  let v4 : BitVec 1 := Scalar.cmpi .slt arg1 c0_i32_0
  let v5 : BitVec 32 := Scalar.extui v4
  let v6 : BitVec 32 := Scalar.subi v3 v5
  let c3_i32 : BitVec 32 := 3#32
  let c0_i32_1 : BitVec 32 := 0#32
  let v7 : BitVec 1 := Scalar.cmpi .sgt c3_i32 c0_i32_1
  let v8 : BitVec 32 := Scalar.extui v7
  let c0_i32_2 : BitVec 32 := 0#32
  let v9 : BitVec 1 := Scalar.cmpi .slt c3_i32 c0_i32_2
  let v10 : BitVec 32 := Scalar.extui v9
  let v11 : BitVec 32 := Scalar.subi v8 v10
  let v12 : BitVec 1 := Scalar.cmpi .ne v6 v11
  let v13 : BitVec 32 := Scalar.remsi arg1 c3_i32
  let c0_i32_3 : BitVec 32 := 0#32
  let v14 : BitVec 1 := Scalar.cmpi .ne v13 c0_i32_3
  let v15 : BitVec 1 := Scalar.andi v12 v14
  let v1 : BitVec 32 := Scalar.divsi arg1 c3_i32
  let c1_i32 : BitVec 32 := 1#32
  let v16 : BitVec 32 := Scalar.subi v1 c1_i32
  let v17 : BitVec 32 := Scalar.select v15 v16 v1
  let c0_i32_4 : BitVec 32 := 0#32
  let v18 : BitVec 32 := Scalar.select v0 v17 c0_i32_4
  let c0_i32_5 : BitVec 32 := 0#32
  let v19 : BitVec 1 := Scalar.cmpi .eq v18 c0_i32_5
  let v20 : BitVec 32 := Scalar.extui v19
  let c0_i32_6 : BitVec 32 := 0#32
  let v21 : BitVec 1 := Scalar.cmpi .ne v20 c0_i32_6
  v21

def k0_cond2 (i : grid0.Coords) : BitVec 1 :=
  let arg1 : BitVec 32 := BitVec.ofNat 32 (i 1).val
  let c9_i32 : BitVec 32 := 9#32
  let v0 : BitVec 1 := Scalar.cmpi .slt arg1 c9_i32
  let c0_i32 : BitVec 32 := 0#32
  let v2 : BitVec 1 := Scalar.cmpi .sgt arg1 c0_i32
  let v3 : BitVec 32 := Scalar.extui v2
  let c0_i32_0 : BitVec 32 := 0#32
  let v4 : BitVec 1 := Scalar.cmpi .slt arg1 c0_i32_0
  let v5 : BitVec 32 := Scalar.extui v4
  let v6 : BitVec 32 := Scalar.subi v3 v5
  let c3_i32 : BitVec 32 := 3#32
  let c0_i32_1 : BitVec 32 := 0#32
  let v7 : BitVec 1 := Scalar.cmpi .sgt c3_i32 c0_i32_1
  let v8 : BitVec 32 := Scalar.extui v7
  let c0_i32_2 : BitVec 32 := 0#32
  let v9 : BitVec 1 := Scalar.cmpi .slt c3_i32 c0_i32_2
  let v10 : BitVec 32 := Scalar.extui v9
  let v11 : BitVec 32 := Scalar.subi v8 v10
  let v12 : BitVec 1 := Scalar.cmpi .ne v6 v11
  let v13 : BitVec 32 := Scalar.remsi arg1 c3_i32
  let c0_i32_3 : BitVec 32 := 0#32
  let v14 : BitVec 1 := Scalar.cmpi .ne v13 c0_i32_3
  let v15 : BitVec 1 := Scalar.andi v12 v14
  let v1 : BitVec 32 := Scalar.divsi arg1 c3_i32
  let c1_i32 : BitVec 32 := 1#32
  let v16 : BitVec 32 := Scalar.subi v1 c1_i32
  let v17 : BitVec 32 := Scalar.select v15 v16 v1
  let c0_i32_4 : BitVec 32 := 0#32
  let v18 : BitVec 32 := Scalar.select v0 v17 c0_i32_4
  let c1_i32_7 : BitVec 32 := 1#32
  let v22 : BitVec 1 := Scalar.cmpi .eq v18 c1_i32_7
  let v23 : BitVec 32 := Scalar.extui v22
  let c0_i32_8 : BitVec 32 := 0#32
  let v24 : BitVec 1 := Scalar.cmpi .ne v23 c0_i32_8
  v24

def k0_cond3 (i : grid0.Coords) : BitVec 1 :=
  let arg1 : BitVec 32 := BitVec.ofNat 32 (i 1).val
  let c9_i32 : BitVec 32 := 9#32
  let v0 : BitVec 1 := Scalar.cmpi .slt arg1 c9_i32
  let c0_i32 : BitVec 32 := 0#32
  let v2 : BitVec 1 := Scalar.cmpi .sgt arg1 c0_i32
  let v3 : BitVec 32 := Scalar.extui v2
  let c0_i32_0 : BitVec 32 := 0#32
  let v4 : BitVec 1 := Scalar.cmpi .slt arg1 c0_i32_0
  let v5 : BitVec 32 := Scalar.extui v4
  let v6 : BitVec 32 := Scalar.subi v3 v5
  let c3_i32 : BitVec 32 := 3#32
  let c0_i32_1 : BitVec 32 := 0#32
  let v7 : BitVec 1 := Scalar.cmpi .sgt c3_i32 c0_i32_1
  let v8 : BitVec 32 := Scalar.extui v7
  let c0_i32_2 : BitVec 32 := 0#32
  let v9 : BitVec 1 := Scalar.cmpi .slt c3_i32 c0_i32_2
  let v10 : BitVec 32 := Scalar.extui v9
  let v11 : BitVec 32 := Scalar.subi v8 v10
  let v12 : BitVec 1 := Scalar.cmpi .ne v6 v11
  let v13 : BitVec 32 := Scalar.remsi arg1 c3_i32
  let c0_i32_3 : BitVec 32 := 0#32
  let v14 : BitVec 1 := Scalar.cmpi .ne v13 c0_i32_3
  let v15 : BitVec 1 := Scalar.andi v12 v14
  let v1 : BitVec 32 := Scalar.divsi arg1 c3_i32
  let c1_i32 : BitVec 32 := 1#32
  let v16 : BitVec 32 := Scalar.subi v1 c1_i32
  let v17 : BitVec 32 := Scalar.select v15 v16 v1
  let c0_i32_4 : BitVec 32 := 0#32
  let v18 : BitVec 32 := Scalar.select v0 v17 c0_i32_4
  let c2_i32 : BitVec 32 := 2#32
  let v25 : BitVec 1 := Scalar.cmpi .eq v18 c2_i32
  let v26 : BitVec 32 := Scalar.extui v25
  let c0_i32_9 : BitVec 32 := 0#32
  let v27 : BitVec 1 := Scalar.cmpi .ne v26 c0_i32_9
  v27

def k0_cond4 (i : grid0.Coords) : BitVec 1 :=
  let arg0 : BitVec 32 := BitVec.ofNat 32 (i 0).val
  let c0_i32_10 : BitVec 32 := 0#32
  let v28 : BitVec 1 := Scalar.cmpi .eq arg0 c0_i32_10
  let v29 : BitVec 32 := Scalar.extui v28
  let c0_i32_11 : BitVec 32 := 0#32
  let v30 : BitVec 1 := Scalar.cmpi .ne v29 c0_i32_11
  v30

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c9_i32 : BitVec 32 := 9#32
  let v0 : BitVec 1 := Scalar.cmpi .slt arg1 c9_i32
  let c3_i32 : BitVec 32 := 3#32
  let c0_i32 : BitVec 32 := 0#32
  let v1 : BitVec 1 := Scalar.cmpi .eq c3_i32 c0_i32
  let c1_i32 : BitVec 32 := 1#32
  let v2 : BitVec 32 := Scalar.select v1 c1_i32 c3_i32
  let v3 : BitVec 32 := Scalar.remsi arg1 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c3_i32_3 : BitVec 32 := 3#32
  let v11 : BitVec 32 := Scalar.muli v10 c3_i32_3
  let c3_i32_4 : BitVec 32 := 3#32
  let v12 : BitVec 32 := Scalar.divsi arg1 c3_i32_4
  let c0_i32_5 : BitVec 32 := 0#32
  let v13 : BitVec 1 := Scalar.cmpi .sgt arg1 c0_i32_5
  let v14 : BitVec 32 := Scalar.extui v13
  let c0_i32_6 : BitVec 32 := 0#32
  let v15 : BitVec 1 := Scalar.cmpi .slt arg1 c0_i32_6
  let v16 : BitVec 32 := Scalar.extui v15
  let v17 : BitVec 32 := Scalar.subi v14 v16
  let c0_i32_7 : BitVec 32 := 0#32
  let v18 : BitVec 1 := Scalar.cmpi .sgt c3_i32_4 c0_i32_7
  let v19 : BitVec 32 := Scalar.extui v18
  let c0_i32_8 : BitVec 32 := 0#32
  let v20 : BitVec 1 := Scalar.cmpi .slt c3_i32_4 c0_i32_8
  let v21 : BitVec 32 := Scalar.extui v20
  let v22 : BitVec 32 := Scalar.subi v19 v21
  let v23 : BitVec 1 := Scalar.cmpi .ne v17 v22
  let v24 : BitVec 32 := Scalar.remsi arg1 c3_i32_4
  let c0_i32_9 : BitVec 32 := 0#32
  let v25 : BitVec 1 := Scalar.cmpi .ne v24 c0_i32_9
  let v26 : BitVec 1 := Scalar.andi v23 v25
  let c1_i32_10 : BitVec 32 := 1#32
  let v27 : BitVec 32 := Scalar.subi v12 c1_i32_10
  let v28 : BitVec 32 := Scalar.select v26 v27 v12
  let v29 : BitVec 32 := Scalar.addi v11 v28
  let v30 : BitVec 32 := Scalar.select v0 v29 arg1
  let c0_i32_11 : BitVec 32 := 0#32
  let c0_i32_12 : BitVec 32 := 0#32
  ![c0_i32_11.toNat, v30.toNat]

def cc0_transform_4 (i : grid0.Coords) : Fin 2 → Nat :=
  let arg0 : BitVec 32 := BitVec.ofNat 32 (i 0).val
  let arg1 : BitVec 32 := BitVec.ofNat 32 (i 1).val
  let c9_i32 : BitVec 32 := 9#32
  let v0 : BitVec 1 := Scalar.cmpi .slt arg1 c9_i32
  let c3_i32 : BitVec 32 := 3#32
  let c0_i32 : BitVec 32 := 0#32
  let v1 : BitVec 1 := Scalar.cmpi .eq c3_i32 c0_i32
  let c1_i32 : BitVec 32 := 1#32
  let v2 : BitVec 32 := Scalar.select v1 c1_i32 c3_i32
  let v3 : BitVec 32 := Scalar.remsi arg1 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c3_i32_3 : BitVec 32 := 3#32
  let v11 : BitVec 32 := Scalar.muli v10 c3_i32_3
  let c3_i32_4 : BitVec 32 := 3#32
  let v12 : BitVec 32 := Scalar.divsi arg1 c3_i32_4
  let c0_i32_5 : BitVec 32 := 0#32
  let v13 : BitVec 1 := Scalar.cmpi .sgt arg1 c0_i32_5
  let v14 : BitVec 32 := Scalar.extui v13
  let c0_i32_6 : BitVec 32 := 0#32
  let v15 : BitVec 1 := Scalar.cmpi .slt arg1 c0_i32_6
  let v16 : BitVec 32 := Scalar.extui v15
  let v17 : BitVec 32 := Scalar.subi v14 v16
  let c0_i32_7 : BitVec 32 := 0#32
  let v18 : BitVec 1 := Scalar.cmpi .sgt c3_i32_4 c0_i32_7
  let v19 : BitVec 32 := Scalar.extui v18
  let c0_i32_8 : BitVec 32 := 0#32
  let v20 : BitVec 1 := Scalar.cmpi .slt c3_i32_4 c0_i32_8
  let v21 : BitVec 32 := Scalar.extui v20
  let v22 : BitVec 32 := Scalar.subi v19 v21
  let v23 : BitVec 1 := Scalar.cmpi .ne v17 v22
  let v24 : BitVec 32 := Scalar.remsi arg1 c3_i32_4
  let c0_i32_9 : BitVec 32 := 0#32
  let v25 : BitVec 1 := Scalar.cmpi .ne v24 c0_i32_9
  let v26 : BitVec 1 := Scalar.andi v23 v25
  let c1_i32_10 : BitVec 32 := 1#32
  let v27 : BitVec 32 := Scalar.subi v12 c1_i32_10
  let v28 : BitVec 32 := Scalar.select v26 v27 v12
  let v29 : BitVec 32 := Scalar.addi v11 v28
  let v30 : BitVec 32 := Scalar.select v0 v29 arg1
  let c0_i32_11 : BitVec 32 := 0#32
  ![arg0.toNat, v30.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c9_i32 : BitVec 32 := 9#32
  let v1 : BitVec 1 := Scalar.cmpi .slt arg1 c9_i32
  let c3_i32 : BitVec 32 := 3#32
  let c0_i32_0 : BitVec 32 := 0#32
  let v2 : BitVec 1 := Scalar.cmpi .eq c3_i32 c0_i32_0
  let c1_i32 : BitVec 32 := 1#32
  let v3 : BitVec 32 := Scalar.select v2 c1_i32 c3_i32
  let v4 : BitVec 32 := Scalar.remsi arg1 v3
  let c0_i32_1 : BitVec 32 := 0#32
  let v5 : BitVec 1 := Scalar.cmpi .ne v4 c0_i32_1
  let c0_i32_2 : BitVec 32 := 0#32
  let v6 : BitVec 1 := Scalar.cmpi .slt v4 c0_i32_2
  let c0_i32_3 : BitVec 32 := 0#32
  let v7 : BitVec 1 := Scalar.cmpi .slt v3 c0_i32_3
  let v8 : BitVec 1 := Scalar.xori v6 v7
  let v9 : BitVec 1 := Scalar.andi v8 v5
  let v10 : BitVec 32 := Scalar.addi v4 v3
  let v11 : BitVec 32 := Scalar.select v9 v10 v4
  let c3_i32_4 : BitVec 32 := 3#32
  let v12 : BitVec 32 := Scalar.muli v11 c3_i32_4
  let c3_i32_5 : BitVec 32 := 3#32
  let v13 : BitVec 32 := Scalar.divsi arg1 c3_i32_5
  let c0_i32_6 : BitVec 32 := 0#32
  let v14 : BitVec 1 := Scalar.cmpi .sgt arg1 c0_i32_6
  let v15 : BitVec 32 := Scalar.extui v14
  let c0_i32_7 : BitVec 32 := 0#32
  let v16 : BitVec 1 := Scalar.cmpi .slt arg1 c0_i32_7
  let v17 : BitVec 32 := Scalar.extui v16
  let v18 : BitVec 32 := Scalar.subi v15 v17
  let c0_i32_8 : BitVec 32 := 0#32
  let v19 : BitVec 1 := Scalar.cmpi .sgt c3_i32_5 c0_i32_8
  let v20 : BitVec 32 := Scalar.extui v19
  let c0_i32_9 : BitVec 32 := 0#32
  let v21 : BitVec 1 := Scalar.cmpi .slt c3_i32_5 c0_i32_9
  let v22 : BitVec 32 := Scalar.extui v21
  let v23 : BitVec 32 := Scalar.subi v20 v22
  let v24 : BitVec 1 := Scalar.cmpi .ne v18 v23
  let v25 : BitVec 32 := Scalar.remsi arg1 c3_i32_5
  let c0_i32_10 : BitVec 32 := 0#32
  let v26 : BitVec 1 := Scalar.cmpi .ne v25 c0_i32_10
  let v27 : BitVec 1 := Scalar.andi v24 v26
  let c1_i32_11 : BitVec 32 := 1#32
  let v28 : BitVec 32 := Scalar.subi v13 c1_i32_11
  let v29 : BitVec 32 := Scalar.select v27 v28 v13
  let v30 : BitVec 32 := Scalar.addi v12 v29
  let v31 : BitVec 32 := Scalar.select v1 v30 arg1
  let c14_i32 : BitVec 32 := 14#32
  let v32 : BitVec 32 := Scalar.select v0 v31 c14_i32
  let c0_i32_12 : BitVec 32 := 0#32
  let c0_i32_13 : BitVec 32 := 0#32
  ![v32.toNat, c0_i32_12.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S2048x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference5Ideal.lean ====
abbrev S8192x1024 : Shape := ⟨2, ![8192, 1024]⟩
abbrev S1024x14336 : Shape := ⟨2, ![1024, 14336]⟩
abbrev S8192x14336 : Shape := ⟨2, ![8192, 14336]⟩
abbrev S8192x9216 : Shape := ⟨2, ![8192, 9216]⟩
abbrev S8192x3x3x1024 : Shape := ⟨4, ![8192, 3, 3, 1024]⟩
abbrev S8192x3x1x1024 : Shape := ⟨4, ![8192, 3, 1, 1024]⟩
abbrev S8192x3x1024 : Shape := ⟨3, ![8192, 3, 1024]⟩
abbrev S16x128x4x3x1024 : Shape := ⟨5, ![16, 128, 4, 3, 1024]⟩
abbrev S16x4x128x3x1024 : Shape := ⟨5, ![16, 4, 128, 3, 1024]⟩
abbrev S4x128x16x3x1024 : Shape := ⟨5, ![4, 128, 16, 3, 1024]⟩
abbrev S4x16x128x3x1024 : Shape := ⟨5, ![4, 16, 128, 3, 1024]⟩
abbrev S8192x5120 : Shape := ⟨2, ![8192, 5120]⟩

abbrev nBuf : Space → Nat
  | .hbm => 23
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x14336, .bf16⟩
  | .hbm, ⟨2, _⟩ => ⟨S8192x1024, .f32⟩
  | .hbm, ⟨3, _⟩ => ⟨S1024x14336, .f32⟩
  | .hbm, ⟨4, _⟩ => ⟨S8192x14336, .f32⟩
  | .hbm, ⟨5, _⟩ => ⟨S8192x14336, .bf16⟩
  | .hbm, ⟨6, _⟩ => ⟨S8192x9216, .bf16⟩
  | .hbm, ⟨7, _⟩ => ⟨S8192x3x3x1024, .bf16⟩
  | .hbm, ⟨8, _⟩ => ⟨S8192x3x1x1024, .bf16⟩
  | .hbm, ⟨9, _⟩ => ⟨S8192x3x1024, .bf16⟩
  | .hbm, ⟨10, _⟩ => ⟨S16x128x4x3x1024, .bf16⟩
  | .hbm, ⟨11, _⟩ => ⟨S16x4x128x3x1024, .bf16⟩
  | .hbm, ⟨12, _⟩ => ⟨S8192x3x1x1024, .bf16⟩
  | .hbm, ⟨13, _⟩ => ⟨S8192x3x1x1024, .bf16⟩
  | .hbm, ⟨14, _⟩ => ⟨S8192x3x1024, .bf16⟩
  | .hbm, ⟨15, _⟩ => ⟨S4x128x16x3x1024, .bf16⟩
  | .hbm, ⟨16, _⟩ => ⟨S4x16x128x3x1024, .bf16⟩
  | .hbm, ⟨17, _⟩ => ⟨S8192x3x1x1024, .bf16⟩
  | .hbm, ⟨18, _⟩ => ⟨S8192x3x1x1024, .bf16⟩
  | .hbm, ⟨19, _⟩ => ⟨S8192x3x3x1024, .bf16⟩
  | .hbm, ⟨20, _⟩ => ⟨S8192x9216, .bf16⟩
  | .hbm, ⟨21, _⟩ => ⟨S8192x5120, .bf16⟩
  | .hbm, ⟨22, _⟩ => ⟨S8192x14336, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_v20 : Ref sig .tc := ⟨.hbm, 22, rfl⟩

abbrev nD : Nat := 1
abbrev τ : Topo := Topo.v7x

variable {F : FTy → Type} [FloatOps F]
-- ==== Kernel6.lean ====
abbrev S8192x1024 : Shape := ⟨2, ![8192, 1024]⟩
abbrev S8192x14336 : Shape := ⟨2, ![8192, 14336]⟩
abbrev S1024x8192 : Shape := ⟨2, ![1024, 8192]⟩
abbrev S8192x9216 : Shape := ⟨2, ![8192, 9216]⟩
abbrev S8192x3x3x1024 : Shape := ⟨4, ![8192, 3, 3, 1024]⟩
abbrev S3x3x8192x1024 : Shape := ⟨4, ![3, 3, 8192, 1024]⟩
abbrev S1x3x8192x1024 : Shape := ⟨4, ![1, 3, 8192, 1024]⟩
abbrev S3x8192x1024 : Shape := ⟨3, ![3, 8192, 1024]⟩
abbrev S8192x5120 : Shape := ⟨2, ![8192, 5120]⟩
abbrev S1024x14336 : Shape := ⟨2, ![1024, 14336]⟩
abbrev S1024x1024 : Shape := ⟨2, ![1024, 1024]⟩
abbrev S1x1024x1024 : Shape := ⟨3, ![1, 1024, 1024]⟩

abbrev nBuf : Space → Nat
  | .hbm => 14
  | .vmem => 13
  | .smem => 0
  | _ => 0

abbrev bufTy : (tb : Table) → Fin (tcTables nBuf tb) → BufTy
  | .hbm, ⟨0, _⟩ => ⟨S8192x1024, .bf16⟩
  | .hbm, ⟨1, _⟩ => ⟨S8192x14336, .bf16⟩
  | .hbm, ⟨2, _⟩ => ⟨S1024x8192, .bf16⟩
  | .hbm, ⟨3, _⟩ => ⟨S8192x9216, .bf16⟩
  | .hbm, ⟨4, _⟩ => ⟨S8192x3x3x1024, .bf16⟩
  | .hbm, ⟨5, _⟩ => ⟨S3x3x8192x1024, .bf16⟩
  | .hbm, ⟨6, _⟩ => ⟨S1x3x8192x1024, .bf16⟩
  | .hbm, ⟨7, _⟩ => ⟨S3x8192x1024, .bf16⟩
  | .hbm, ⟨8, _⟩ => ⟨S1x3x8192x1024, .bf16⟩
  | .hbm, ⟨9, _⟩ => ⟨S3x8192x1024, .bf16⟩
  | .hbm, ⟨10, _⟩ => ⟨S1x3x8192x1024, .bf16⟩
  | .hbm, ⟨11, _⟩ => ⟨S3x8192x1024, .bf16⟩
  | .hbm, ⟨12, _⟩ => ⟨S8192x5120, .bf16⟩
  | .hbm, ⟨13, _⟩ => ⟨S1024x14336, .bf16⟩
  | .local _ .vmem, ⟨0, _⟩ => ⟨S1024x1024, .bf16⟩
  | .local _ .vmem, ⟨1, _⟩ => ⟨S1024x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S1x1024x1024, .bf16⟩
  | .local _ .vmem, ⟨7, _⟩ => ⟨S1x1024x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1024x1024, .bf16⟩
  | .local _ .vmem, ⟨11, _⟩ => ⟨S1024x1024, .bf16⟩
  | .local _ .vmem, ⟨12, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![14, 8], ![false, false]⟩

def k0_cond6 (i : grid0.Coords) : BitVec 1 :=
  let arg1 : BitVec 32 := BitVec.ofNat 32 (i 1).val
  let c7_i32 : BitVec 32 := 7#32
  let v53 : BitVec 1 := Scalar.cmpi .eq arg1 c7_i32
  let v54 : BitVec 32 := Scalar.extui v53
  let c0_i32_26 : BitVec 32 := 0#32
  let v55 : BitVec 1 := Scalar.cmpi .ne v54 c0_i32_26
  v55

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c9_i32 : BitVec 32 := 9#32
  let v0 : BitVec 1 := Scalar.cmpi .slt arg0 c9_i32
  let c3_i32 : BitVec 32 := 3#32
  let c0_i32 : BitVec 32 := 0#32
  let v1 : BitVec 1 := Scalar.cmpi .eq c3_i32 c0_i32
  let c1_i32 : BitVec 32 := 1#32
  let v2 : BitVec 32 := Scalar.select v1 c1_i32 c3_i32
  let v3 : BitVec 32 := Scalar.remsi arg0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c0_i32_3 : BitVec 32 := 0#32
  let v11 : BitVec 1 := Scalar.cmpi .eq v10 c0_i32_3
  let v12 : BitVec 1 := Scalar.andi v0 v11
  let c3_i32_4 : BitVec 32 := 3#32
  let v13 : BitVec 32 := Scalar.divsi arg0 c3_i32_4
  let c0_i32_5 : BitVec 32 := 0#32
  let v14 : BitVec 1 := Scalar.cmpi .sgt arg0 c0_i32_5
  let v15 : BitVec 32 := Scalar.extui v14
  let c0_i32_6 : BitVec 32 := 0#32
  let v16 : BitVec 1 := Scalar.cmpi .slt arg0 c0_i32_6
  let v17 : BitVec 32 := Scalar.extui v16
  let v18 : BitVec 32 := Scalar.subi v15 v17
  let c0_i32_7 : BitVec 32 := 0#32
  let v19 : BitVec 1 := Scalar.cmpi .sgt c3_i32_4 c0_i32_7
  let v20 : BitVec 32 := Scalar.extui v19
  let c0_i32_8 : BitVec 32 := 0#32
  let v21 : BitVec 1 := Scalar.cmpi .slt c3_i32_4 c0_i32_8
  let v22 : BitVec 32 := Scalar.extui v21
  let v23 : BitVec 32 := Scalar.subi v20 v22
  let v24 : BitVec 1 := Scalar.cmpi .ne v18 v23
  let v25 : BitVec 32 := Scalar.remsi arg0 c3_i32_4
  let c0_i32_9 : BitVec 32 := 0#32
  let v26 : BitVec 1 := Scalar.cmpi .ne v25 c0_i32_9
  let v27 : BitVec 1 := Scalar.andi v24 v26
  let c1_i32_10 : BitVec 32 := 1#32
  let v28 : BitVec 32 := Scalar.subi v13 c1_i32_10
  let v29 : BitVec 32 := Scalar.select v27 v28 v13
  let c0_i32_11 : BitVec 32 := 0#32
  let c2_i32 : BitVec 32 := 2#32
  let v30 : BitVec 32 := Scalar.maxsi c0_i32_11 v29
  let v31 : BitVec 32 := Scalar.minsi c2_i32 v30
  let c0_i32_12 : BitVec 32 := 0#32
  let v32 : BitVec 32 := Scalar.select v12 arg1 c0_i32_12
  let c0_i32_13 : BitVec 32 := 0#32
  let c0_i32_14 : BitVec 32 := 0#32
  ![v31.toNat, v32.toNat, c0_i32_13.toNat]

def cc0_transform_2 (i : grid0.Coords) : Fin 3 → Nat :=
  let arg0 : BitVec 32 := BitVec.ofNat 32 (i 0).val
  let arg1 : BitVec 32 := BitVec.ofNat 32 (i 1).val
  let c9_i32 : BitVec 32 := 9#32
  let v0 : BitVec 1 := Scalar.cmpi .slt arg0 c9_i32
  let c3_i32 : BitVec 32 := 3#32
  let c0_i32 : BitVec 32 := 0#32
  let v1 : BitVec 1 := Scalar.cmpi .eq c3_i32 c0_i32
  let c1_i32 : BitVec 32 := 1#32
  let v2 : BitVec 32 := Scalar.select v1 c1_i32 c3_i32
  let v3 : BitVec 32 := Scalar.remsi arg0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c1_i32_3 : BitVec 32 := 1#32
  let v11 : BitVec 1 := Scalar.cmpi .eq v10 c1_i32_3
  let v12 : BitVec 1 := Scalar.andi v0 v11
  let c3_i32_4 : BitVec 32 := 3#32
  let v13 : BitVec 32 := Scalar.divsi arg0 c3_i32_4
  let c0_i32_5 : BitVec 32 := 0#32
  let v14 : BitVec 1 := Scalar.cmpi .sgt arg0 c0_i32_5
  let v15 : BitVec 32 := Scalar.extui v14
  let c0_i32_6 : BitVec 32 := 0#32
  let v16 : BitVec 1 := Scalar.cmpi .slt arg0 c0_i32_6
  let v17 : BitVec 32 := Scalar.extui v16
  let v18 : BitVec 32 := Scalar.subi v15 v17
  let c0_i32_7 : BitVec 32 := 0#32
  let v19 : BitVec 1 := Scalar.cmpi .sgt c3_i32_4 c0_i32_7
  let v20 : BitVec 32 := Scalar.extui v19
  let c0_i32_8 : BitVec 32 := 0#32
  let v21 : BitVec 1 := Scalar.cmpi .slt c3_i32_4 c0_i32_8
  let v22 : BitVec 32 := Scalar.extui v21
  let v23 : BitVec 32 := Scalar.subi v20 v22
  let v24 : BitVec 1 := Scalar.cmpi .ne v18 v23
  let v25 : BitVec 32 := Scalar.remsi arg0 c3_i32_4
  let c0_i32_9 : BitVec 32 := 0#32
  let v26 : BitVec 1 := Scalar.cmpi .ne v25 c0_i32_9
  let v27 : BitVec 1 := Scalar.andi v24 v26
  let c1_i32_10 : BitVec 32 := 1#32
  let v28 : BitVec 32 := Scalar.subi v13 c1_i32_10
  let v29 : BitVec 32 := Scalar.select v27 v28 v13
  let c0_i32_11 : BitVec 32 := 0#32
  let c2_i32 : BitVec 32 := 2#32
  let v30 : BitVec 32 := Scalar.maxsi c0_i32_11 v29
  let v31 : BitVec 32 := Scalar.minsi c2_i32 v30
  let c0_i32_12 : BitVec 32 := 0#32
  let v32 : BitVec 32 := Scalar.select v12 arg1 c0_i32_12
  let c0_i32_13 : BitVec 32 := 0#32
  let c0_i32_14 : BitVec 32 := 0#32
  ![v31.toNat, v32.toNat, c0_i32_13.toNat]

def cc0_transform_3 (i : grid0.Coords) : Fin 3 → Nat :=
  let arg0 : BitVec 32 := BitVec.ofNat 32 (i 0).val
  let arg1 : BitVec 32 := BitVec.ofNat 32 (i 1).val
  let c9_i32 : BitVec 32 := 9#32
  let v0 : BitVec 1 := Scalar.cmpi .slt arg0 c9_i32
  let c3_i32 : BitVec 32 := 3#32
  let c0_i32 : BitVec 32 := 0#32
  let v1 : BitVec 1 := Scalar.cmpi .eq c3_i32 c0_i32
  let c1_i32 : BitVec 32 := 1#32
  let v2 : BitVec 32 := Scalar.select v1 c1_i32 c3_i32
  let v3 : BitVec 32 := Scalar.remsi arg0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c2_i32 : BitVec 32 := 2#32
  let v11 : BitVec 1 := Scalar.cmpi .eq v10 c2_i32
  let v12 : BitVec 1 := Scalar.andi v0 v11
  let c3_i32_3 : BitVec 32 := 3#32
  let v13 : BitVec 32 := Scalar.divsi arg0 c3_i32_3
  let c0_i32_4 : BitVec 32 := 0#32
  let v14 : BitVec 1 := Scalar.cmpi .sgt arg0 c0_i32_4
  let v15 : BitVec 32 := Scalar.extui v14
  let c0_i32_5 : BitVec 32 := 0#32
  let v16 : BitVec 1 := Scalar.cmpi .slt arg0 c0_i32_5
  let v17 : BitVec 32 := Scalar.extui v16
  let v18 : BitVec 32 := Scalar.subi v15 v17
  let c0_i32_6 : BitVec 32 := 0#32
  let v19 : BitVec 1 := Scalar.cmpi .sgt c3_i32_3 c0_i32_6
  let v20 : BitVec 32 := Scalar.extui v19
  let c0_i32_7 : BitVec 32 := 0#32
  let v21 : BitVec 1 := Scalar.cmpi .slt c3_i32_3 c0_i32_7
  let v22 : BitVec 32 := Scalar.extui v21
  let v23 : BitVec 32 := Scalar.subi v20 v22
  let v24 : BitVec 1 := Scalar.cmpi .ne v18 v23
  let v25 : BitVec 32 := Scalar.remsi arg0 c3_i32_3
  let c0_i32_8 : BitVec 32 := 0#32
  let v26 : BitVec 1 := Scalar.cmpi .ne v25 c0_i32_8
  let v27 : BitVec 1 := Scalar.andi v24 v26
  let c1_i32_9 : BitVec 32 := 1#32
  let v28 : BitVec 32 := Scalar.subi v13 c1_i32_9
  let v29 : BitVec 32 := Scalar.select v27 v28 v13
  let c0_i32_10 : BitVec 32 := 0#32
  let c2_i32_11 : BitVec 32 := 2#32
  let v30 : BitVec 32 := Scalar.maxsi c0_i32_10 v29
  let v31 : BitVec 32 := Scalar.minsi c2_i32_11 v30
  let c0_i32_12 : BitVec 32 := 0#32
  let v32 : BitVec 32 := Scalar.select v12 arg1 c0_i32_12
  let c0_i32_13 : BitVec 32 := 0#32
  let c0_i32_14 : BitVec 32 := 0#32
  ![v31.toNat, v32.toNat, c0_i32_13.toNat]

def cc0_transform_4 (i : grid0.Coords) : Fin 2 → Nat :=
  let arg0 : BitVec 32 := BitVec.ofNat 32 (i 0).val
  let arg1 : BitVec 32 := BitVec.ofNat 32 (i 1).val
  let c9_i32 : BitVec 32 := 9#32
  let v0 : BitVec 1 := Scalar.cmpi .sge arg0 c9_i32
  let c14_i32 : BitVec 32 := 14#32
  let v1 : BitVec 1 := Scalar.cmpi .slt arg0 c14_i32
  let v2 : BitVec 1 := Scalar.andi v0 v1
  let c9_i32_0 : BitVec 32 := 9#32
  let v3 : BitVec 32 := Scalar.subi arg0 c9_i32_0
  let c0_i32 : BitVec 32 := 0#32
  let c4_i32 : BitVec 32 := 4#32
  let v4 : BitVec 32 := Scalar.maxsi c0_i32 v3
  let v5 : BitVec 32 := Scalar.minsi c4_i32 v4
  let c0_i32_1 : BitVec 32 := 0#32
  let v6 : BitVec 32 := Scalar.select v2 arg1 c0_i32_1
  let c0_i32_2 : BitVec 32 := 0#32
  ![v6.toNat, v5.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== Reference6Ideal.lean ====
abbrev S8192x1024 : Shape := ⟨2, ![8192, 1024]⟩
abbrev S8192x14336 : Shape := ⟨2, ![8192, 14336]⟩
abbrev S_ : Shape := ⟨0, ![]⟩
abbrev S1024x14336 : Shape := ⟨2, ![1024, 14336]⟩
abbrev S14336x1024 : Shape := ⟨2, ![14336, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x14336, .bf16⟩
  | .hbm, ⟨2, _⟩ => ⟨S_, .f32⟩
  | .hbm, ⟨3, _⟩ => ⟨S1024x14336, .f32⟩
  | .hbm, ⟨4, _⟩ => ⟨S8192x1024, .f32⟩
  | .hbm, ⟨5, _⟩ => ⟨S8192x14336, .f32⟩
  | .hbm, ⟨6, _⟩ => ⟨S8192x14336, .f32⟩
  | .hbm, ⟨7, _⟩ => ⟨S14336x1024, .f32⟩
  | .hbm, ⟨8, _⟩ => ⟨S1024x14336, .f32⟩
  | .hbm, ⟨9, _⟩ => ⟨S1024x14336, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel7.lean ====
abbrev S8192x5120 : Shape := ⟨2, ![8192, 5120]⟩
abbrev S6400x1024 : Shape := ⟨2, ![6400, 1024]⟩
abbrev S8192x1024 : Shape := ⟨2, ![8192, 1024]⟩
abbrev S1x1024 : Shape := ⟨2, ![1, 1024]⟩
abbrev S1024x1024 : Shape := ⟨2, ![1024, 1024]⟩
abbrev S2 : Shape := ⟨1, ![2]⟩
abbrev S1 : Shape := ⟨1, ![1]⟩
abbrev S_ : Shape := ⟨0, ![]⟩
abbrev S256x1024 : Shape := ⟨2, ![256, 1024]⟩
abbrev S256 : Shape := ⟨1, ![256]⟩
abbrev S256x1 : Shape := ⟨2, ![256, 1]⟩
abbrev S1024 : Shape := ⟨1, ![1024]⟩

abbrev nBuf : Space → Nat
  | .hbm => 7
  | .vmem => 11
  | .smem => 0
  | _ => 0

abbrev bufTy : (tb : Table) → Fin (tcTables nBuf tb) → BufTy
  | .hbm, ⟨0, _⟩ => ⟨S8192x5120, .bf16⟩
  | .hbm, ⟨1, _⟩ => ⟨S6400x1024, .bf16⟩
  | .hbm, ⟨2, _⟩ => ⟨S8192x1024, .f32⟩
  | .hbm, ⟨3, _⟩ => ⟨S1x1024, .f32⟩
  | .hbm, ⟨4, _⟩ => ⟨S8192x1024, .f32⟩
  | .hbm, ⟨5, _⟩ => ⟨S8192x1024, .f32⟩
  | .hbm, ⟨6, _⟩ => ⟨S1x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1x1024, .f32⟩
  | .local _ .vmem, ⟨5, _⟩ => ⟨S1024x1024, .f32⟩
  | .local _ .vmem, ⟨6, _⟩ => ⟨S1024x1024, .f32⟩
  | .local _ .vmem, ⟨7, _⟩ => ⟨S1x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | _, _ => ⟨S8192x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨2, ![8, 5], ![false, false]⟩

def k0_mult1 (i : grid0.Coords) : BitVec 32 :=
  let arg0 : BitVec 32 := BitVec.ofNat 32 (i 0).val
  let c1024_i32 : BitVec 32 := 1024#32
  let v0 : BitVec 32 := Scalar.muli arg0 c1024_i32
  v0
def k0_cond1 (i : grid0.Coords) : BitVec 1 :=
  let arg1 : BitVec 32 := BitVec.ofNat 32 (i 1).val
  let c0_i32 : BitVec 32 := 0#32
  let v2 : BitVec 1 := Scalar.cmpi .eq arg1 c0_i32
  let v3 : BitVec 32 := Scalar.extui v2
  let c0_i32_1 : BitVec 32 := 0#32
  let v4 : BitVec 1 := Scalar.cmpi .ne v3 c0_i32_1
  v4

def k0_off1 (i : grid0.Coords) : Fin 2 → Nat :=
  let arg0 : BitVec 32 := BitVec.ofNat 32 (i 0).val
  let c1024_i32 : BitVec 32 := 1024#32
  let v0 : BitVec 32 := Scalar.muli arg0 c1024_i32
  let v1 : BitVec 32 := v0
  let c0_i32_8 : BitVec 32 := 0#32
  ![v1.toNat, 0]
def k0_cond3 (i : grid0.Coords) : BitVec 1 :=
  let arg1 : BitVec 32 := BitVec.ofNat 32 (i 1).val
  let c4_i32 : BitVec 32 := 4#32
  let v10 : BitVec 1 := Scalar.cmpi .eq arg1 c4_i32
  let v11 : BitVec 32 := Scalar.extui v10
  let c0_i32_6 : BitVec 32 := 0#32
  let v12 : BitVec 1 := Scalar.cmpi .ne v11 c0_i32_6
  v12

def k0_off2 (i : grid0.Coords) : Fin 2 → Nat :=
  let arg0 : BitVec 32 := BitVec.ofNat 32 (i 0).val
  let c1024_i32 : BitVec 32 := 1024#32
  let v0 : BitVec 32 := Scalar.muli arg0 c1024_i32
  let v1 : BitVec 32 := v0
  let c0_i32_7 : BitVec 32 := 0#32
  ![v1.toNat, 0]
def k0_cond4 (i : grid0.Coords) : BitVec 1 :=
  let arg0 : BitVec 32 := BitVec.ofNat 32 (i 0).val
  let c0_i32_69 : BitVec 32 := 0#32
  let v148 : BitVec 1 := Scalar.cmpi .eq arg0 c0_i32_69
  let v149 : BitVec 32 := Scalar.extui v148
  let c0_i32_70 : BitVec 32 := 0#32
  let v150 : BitVec 1 := Scalar.cmpi .ne v149 c0_i32_70
  v150

def k0_cond5 (i : grid0.Coords) : BitVec 1 :=
  let arg0 : BitVec 32 := BitVec.ofNat 32 (i 0).val
  let c0_i32_71 : BitVec 32 := 0#32
  let v151 : BitVec 1 := Scalar.cmpi .sgt arg0 c0_i32_71
  let v152 : BitVec 32 := Scalar.extui v151
  let c0_i32_72 : BitVec 32 := 0#32
  let v153 : BitVec 1 := Scalar.cmpi .ne v152 c0_i32_72
  v153

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.subi arg1 c0_i32
  let c0_i32_0 : BitVec 32 := 0#32
  let c4_i32 : BitVec 32 := 4#32
  let v1 : BitVec 32 := Scalar.maxsi c0_i32_0 v0
  let v2 : BitVec 32 := Scalar.minsi c4_i32 v1
  let c0_i32_1 : BitVec 32 := 0#32
  ![arg0.toNat, v2.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]
-- ==== Reference7Ideal.lean ====
abbrev S8192x5120 : Shape := ⟨2, ![8192, 5120]⟩
abbrev S6400x1024 : Shape := ⟨2, ![6400, 1024]⟩
abbrev S8192x1024 : Shape := ⟨2, ![8192, 1024]⟩
abbrev S1x1024 : Shape := ⟨2, ![1, 1024]⟩
abbrev S5120x1024 : Shape := ⟨2, ![5120, 1024]⟩
abbrev S1024x5120 : Shape := ⟨2, ![1024, 5120]⟩
abbrev S_ : Shape := ⟨0, ![]⟩
abbrev S8192 : Shape := ⟨1, ![8192]⟩
abbrev S8192x1 : Shape := ⟨2, ![8192, 1]⟩
abbrev S1024 : Shape := ⟨1, ![1024]⟩

abbrev nBuf : Space → Nat
  | .hbm => 54
  | .vmem => 0
  | .smem => 0
  | _ => 0

abbrev bufTy : (tb : Table) → Fin (tcTables nBuf tb) → BufTy
  | .hbm, ⟨0, _⟩ => ⟨S8192x5120, .bf16⟩
  | .hbm, ⟨1, _⟩ => ⟨S6400x1024, .bf16⟩
  | .hbm, ⟨2, _⟩ => ⟨S8192x1024, .f32⟩
  | .hbm, ⟨3, _⟩ => ⟨S1x1024, .f32⟩
  | .hbm, ⟨4, _⟩ => ⟨S8192x1024, .f32⟩
  | .hbm, ⟨5, _⟩ => ⟨S5120x1024, .bf16⟩
  | .hbm, ⟨6, _⟩ => ⟨S1024x5120, .bf16⟩
  | .hbm, ⟨7, _⟩ => ⟨S1024x5120, .f32⟩
  | .hbm, ⟨8, _⟩ => ⟨S8192x1024, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S_, .f32⟩
  | .hbm, ⟨21, _⟩ => ⟨S8192x1, .f32⟩
  | .hbm, ⟨22, _⟩ => ⟨S8192x1, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S8192x5120, .f32⟩
  | .hbm, ⟨28, _⟩ => ⟨S8192x5120, .f32⟩
  | .hbm, ⟨29, _⟩ => ⟨S8192x1024, .f32⟩
  | .hbm, ⟨30, _⟩ => ⟨S8192x1024, .f32⟩
  | .hbm, ⟨31, _⟩ => ⟨S_, .f32⟩
  | .hbm, ⟨32, _⟩ => ⟨S1024, .f32⟩
  | .hbm, ⟨33, _⟩ => ⟨S1x1024, .f32⟩
  | .hbm, ⟨34, _⟩ => ⟨S8192x1024, .f32⟩
  | .hbm, ⟨35, _⟩ => ⟨S8192x1024, .f32⟩
  | .hbm, ⟨36, _⟩ => ⟨S8192x1024, .f32⟩
  | .hbm, ⟨37, _⟩ => ⟨S_, .f32⟩
  | .hbm, ⟨38, _⟩ => ⟨S8192, .f32⟩
  | .hbm, ⟨39, _⟩ => ⟨S8192x1, .f32⟩
  | .hbm, ⟨40, _⟩ => ⟨S8192x1024, .f32⟩
  | .hbm, ⟨41, _⟩ => ⟨S8192x1024, .f32⟩
  | .hbm, ⟨42, _⟩ => ⟨S8192x1024, .f32⟩
  | .hbm, ⟨43, _⟩ => ⟨S8192x1, .f32⟩
  | .hbm, ⟨44, _⟩ => ⟨S_, .f32⟩
  | .hbm, ⟨45, _⟩ => ⟨S8192x1, .f32⟩
  | .hbm, ⟨46, _⟩ => ⟨S8192x1, .f32⟩
  | .hbm, ⟨47, _⟩ => ⟨S_, .f32⟩
  | .hbm, ⟨48, _⟩ => ⟨S8192, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S8192x1024, .f32⟩
  | _, _ => ⟨S8192x5120, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_4 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst_5 : Ref sig .tc := ⟨.hbm, 44, rfl⟩
abbrev main_v33 : Ref sig .tc := ⟨.hbm, 45, rfl⟩
abbrev main_v34 : Ref sig .tc := ⟨.hbm, 46, rfl⟩
abbrev main_cst_6 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩

abbrev nD : Nat := 1
abbrev τ : Topo := Topo.v7x

variable {F : FTy → Type} [FloatOps F]
-- ==== Kernel8.lean ====
abbrev S8192x14336 : Shape := ⟨2, ![8192, 14336]⟩
abbrev S15360x1024 : Shape := ⟨2, ![15360, 1024]⟩
abbrev S8192x1024 : Shape := ⟨2, ![8192, 1024]⟩
abbrev S1x1024 : Shape := ⟨2, ![1, 1024]⟩
abbrev S8192x9216 : Shape := ⟨2, ![8192, 9216]⟩
abbrev S8192x3x3x1024 : Shape := ⟨4, ![8192, 3, 3, 1024]⟩
abbrev S3x3x8192x1024 : Shape := ⟨4, ![3, 3, 8192, 1024]⟩
abbrev S1x3x8192x1024 : Shape := ⟨4, ![1, 3, 8192, 1024]⟩
abbrev S3x8192x1024 : Shape := ⟨3, ![3, 8192, 1024]⟩
abbrev S8192x5120 : Shape := ⟨2, ![8192, 5120]⟩
abbrev S1x1024x1024 : Shape := ⟨3, ![1, 1024, 1024]⟩
abbrev S1024x1024 : Shape := ⟨2, ![1024, 1024]⟩
abbrev S2 : Shape := ⟨1, ![2]⟩
abbrev S1 : Shape := ⟨1, ![1]⟩
abbrev S_ : Shape := ⟨0, ![]⟩
abbrev S256x1024 : Shape := ⟨2, ![256, 1024]⟩
abbrev S256 : Shape := ⟨1, ![256]⟩
abbrev S256x1 : Shape := ⟨2, ![256, 1]⟩
abbrev S1024 : Shape := ⟨1, ![1024]⟩

abbrev nBuf : Space → Nat
  | .hbm => 17
  | .vmem => 17
  | .smem => 0
  | _ => 0

abbrev bufTy : (tb : Table) → Fin (tcTables nBuf tb) → BufTy
  | .hbm, ⟨0, _⟩ => ⟨S8192x14336, .bf16⟩
  | .hbm, ⟨1, _⟩ => ⟨S15360x1024, .bf16⟩
  | .hbm, ⟨2, _⟩ => ⟨S8192x1024, .f32⟩
  | .hbm, ⟨3, _⟩ => ⟨S1x1024, .f32⟩
  | .hbm, ⟨4, _⟩ => ⟨S8192x1024, .f32⟩
  | .hbm, ⟨5, _⟩ => ⟨S8192x9216, .bf16⟩
  | .hbm, ⟨6, _⟩ => ⟨S8192x3x3x1024, .bf16⟩
  | .hbm, ⟨7, _⟩ => ⟨S3x3x8192x1024, .bf16⟩
  | .hbm, ⟨8, _⟩ => ⟨S1x3x8192x1024, .bf16⟩
  | .hbm, ⟨9, _⟩ => ⟨S3x8192x1024, .bf16⟩
  | .hbm, ⟨10, _⟩ => ⟨S1x3x8192x1024, .bf16⟩
  | .hbm, ⟨11, _⟩ => ⟨S3x8192x1024, .bf16⟩
  | .hbm, ⟨12, _⟩ => ⟨S1x3x8192x1024, .bf16⟩
  | .hbm, ⟨13, _⟩ => ⟨S3x8192x1024, .bf16⟩
  | .hbm, ⟨14, _⟩ => ⟨S8192x5120, .bf16⟩
  | .hbm, ⟨15, _⟩ => ⟨S8192x1024, .f32⟩
  | .hbm, ⟨16, _⟩ => ⟨S1x1024, .f32⟩
  | .local _ .vmem, ⟨0, _⟩ => ⟨S1x1024x1024, .bf16⟩
  | .local _ .vmem, ⟨1, _⟩ => ⟨S1x1024x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1x1024, .f32⟩
  | .local _ .vmem, ⟨11, _⟩ => ⟨S1024x1024, .f32⟩
  | .local _ .vmem, ⟨12, _⟩ => ⟨S1024x1024, .f32⟩
  | .local _ .vmem, ⟨13, _⟩ => ⟨S1x1024, .f32⟩
  | .local _ .vmem, ⟨14, _⟩ => ⟨S1024x1024, .f32⟩
  | .local _ .vmem, ⟨15, _⟩ => ⟨S1024x1024, .f32⟩
  | .local _ .vmem, ⟨16, _⟩ => ⟨S1024x1024, .f32⟩
  | _, _ => ⟨S8192x14336, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10_0 : Ref sig .tc := ⟨.hbm, 15, rfl⟩
abbrev main_v10_1 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13

abbrev nD : Nat := 1
abbrev τ : Topo := Topo.v7x

variable {F : FTy → Type} [FloatOps F]

abbrev grid0 : Pipeline.Grid := ⟨2, ![8, 14], ![false, false]⟩

def k0_mult1 (i : grid0.Coords) : BitVec 32 :=
  let arg0 : BitVec 32 := BitVec.ofNat 32 (i 0).val
  let c1024_i32 : BitVec 32 := 1024#32
  let v0 : BitVec 32 := Scalar.muli arg0 c1024_i32
  v0
def k0_cond1 (i : grid0.Coords) : BitVec 1 :=
  let arg1 : BitVec 32 := BitVec.ofNat 32 (i 1).val
  let c0_i32 : BitVec 32 := 0#32
  let v2 : BitVec 1 := Scalar.cmpi .eq arg1 c0_i32
  let v3 : BitVec 32 := Scalar.extui v2
  let c0_i32_1 : BitVec 32 := 0#32
  let v4 : BitVec 1 := Scalar.cmpi .ne v3 c0_i32_1
  v4

def k0_off1 (i : grid0.Coords) : Fin 2 → Nat :=
  let arg0 : BitVec 32 := BitVec.ofNat 32 (i 0).val
  let c1024_i32 : BitVec 32 := 1024#32
  let v0 : BitVec 32 := Scalar.muli arg0 c1024_i32
  let v1 : BitVec 32 := v0
  let c0_i32_32 : BitVec 32 := 0#32
  ![v1.toNat, 0]
def k0_cond6 (i : grid0.Coords) : BitVec 1 :=
  let arg1 : BitVec 32 := BitVec.ofNat 32 (i 1).val
  let c13_i32 : BitVec 32 := 13#32
  let v55 : BitVec 1 := Scalar.cmpi .eq arg1 c13_i32
  let v56 : BitVec 32 := Scalar.extui v55
  let c0_i32_30 : BitVec 32 := 0#32
  let v57 : BitVec 1 := Scalar.cmpi .ne v56 c0_i32_30
  v57

def k0_off2 (i : grid0.Coords) : Fin 2 → Nat :=
  let arg0 : BitVec 32 := BitVec.ofNat 32 (i 0).val
  let c1024_i32 : BitVec 32 := 1024#32
  let v0 : BitVec 32 := Scalar.muli arg0 c1024_i32
  let v1 : BitVec 32 := v0
  let c0_i32_31 : BitVec 32 := 0#32
  ![v1.toNat, 0]
def k0_cond7 (i : grid0.Coords) : BitVec 1 :=
  let arg0 : BitVec 32 := BitVec.ofNat 32 (i 0).val
  let c0_i32_93 : BitVec 32 := 0#32
  let v193 : BitVec 1 := Scalar.cmpi .eq arg0 c0_i32_93
  let v194 : BitVec 32 := Scalar.extui v193
  let c0_i32_94 : BitVec 32 := 0#32
  let v195 : BitVec 1 := Scalar.cmpi .ne v194 c0_i32_94
  v195

def k0_cond8 (i : grid0.Coords) : BitVec 1 :=
  let arg0 : BitVec 32 := BitVec.ofNat 32 (i 0).val
  let c0_i32_95 : BitVec 32 := 0#32
  let v196 : BitVec 1 := Scalar.cmpi .sgt arg0 c0_i32_95
  let v197 : BitVec 32 := Scalar.extui v196
  let c0_i32_96 : BitVec 32 := 0#32
  let v198 : BitVec 1 := Scalar.cmpi .ne v197 c0_i32_96
  v198

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.subi arg1 c0_i32
  let c2_i32 : BitVec 32 := 2#32
  let v1 : BitVec 32 := Scalar.addi v0 c2_i32
  let c3_i32 : BitVec 32 := 3#32
  let v2 : BitVec 32 := Scalar.divsi v1 c3_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c3_i32 c0_i32_2
  let v9 : BitVec 32 := Scalar.extui v8
  let c0_i32_3 : BitVec 32 := 0#32
  let v10 : BitVec 1 := Scalar.cmpi .slt c3_i32 c0_i32_3
  let v11 : BitVec 32 := Scalar.extui v10
  let v12 : BitVec 32 := Scalar.subi v9 v11
  let v13 : BitVec 1 := Scalar.cmpi .ne v7 v12
  let v14 : BitVec 32 := Scalar.remsi v1 c3_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c0_i32_5 : BitVec 32 := 0#32
  let c2_i32_6 : BitVec 32 := 2#32
  let v19 : BitVec 32 := Scalar.maxsi c0_i32_5 v18
  let v20 : BitVec 32 := Scalar.minsi c2_i32_6 v19
  let c0_i32_7 : BitVec 32 := 0#32
  let c0_i32_8 : BitVec 32 := 0#32
  ![v20.toNat, arg0.toNat, c0_i32_7.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c2_i32 : BitVec 32 := 2#32
  let v1 : BitVec 32 := Scalar.addi v0 c2_i32
  let c3_i32 : BitVec 32 := 3#32
  let v2 : BitVec 32 := Scalar.divsi v1 c3_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c3_i32 c0_i32_1
  let v9 : BitVec 32 := Scalar.extui v8
  let c0_i32_2 : BitVec 32 := 0#32
  let v10 : BitVec 1 := Scalar.cmpi .slt c3_i32 c0_i32_2
  let v11 : BitVec 32 := Scalar.extui v10
  let v12 : BitVec 32 := Scalar.subi v9 v11
  let v13 : BitVec 1 := Scalar.cmpi .ne v7 v12
  let v14 : BitVec 32 := Scalar.remsi v1 c3_i32
  let c0_i32_3 : BitVec 32 := 0#32
  let v15 : BitVec 1 := Scalar.cmpi .ne v14 c0_i32_3
  let v16 : BitVec 1 := Scalar.andi v13 v15
  let c1_i32_4 : BitVec 32 := 1#32
  let v17 : BitVec 32 := Scalar.subi v2 c1_i32_4
  let v18 : BitVec 32 := Scalar.select v16 v17 v2
  let c0_i32_5 : BitVec 32 := 0#32
  let c2_i32_6 : BitVec 32 := 2#32
  let v19 : BitVec 32 := Scalar.maxsi c0_i32_5 v18
  let v20 : BitVec 32 := Scalar.minsi c2_i32_6 v19
  let c0_i32_7 : BitVec 32 := 0#32
  let c0_i32_8 : BitVec 32 := 0#32
  ![v20.toNat, arg0.toNat, c0_i32_7.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.subi arg1 c2_i32
  let c2_i32_0 : BitVec 32 := 2#32
  let v1 : BitVec 32 := Scalar.addi v0 c2_i32_0
  let c3_i32 : BitVec 32 := 3#32
  let v2 : BitVec 32 := Scalar.divsi v1 c3_i32
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c3_i32 c0_i32_2
  let v9 : BitVec 32 := Scalar.extui v8
  let c0_i32_3 : BitVec 32 := 0#32
  let v10 : BitVec 1 := Scalar.cmpi .slt c3_i32 c0_i32_3
  let v11 : BitVec 32 := Scalar.extui v10
  let v12 : BitVec 32 := Scalar.subi v9 v11
  let v13 : BitVec 1 := Scalar.cmpi .ne v7 v12
  let v14 : BitVec 32 := Scalar.remsi v1 c3_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c0_i32_5 : BitVec 32 := 0#32
  let c2_i32_6 : BitVec 32 := 2#32
  let v19 : BitVec 32 := Scalar.maxsi c0_i32_5 v18
  let v20 : BitVec 32 := Scalar.minsi c2_i32_6 v19
  let c0_i32_7 : BitVec 32 := 0#32
  let c0_i32_8 : BitVec 32 := 0#32
  ![v20.toNat, arg0.toNat, c0_i32_7.toNat]

def cc0_transform_3 (i : grid0.Coords) : Fin 2 → Nat :=
  let arg0 : BitVec 32 := BitVec.ofNat 32 (i 0).val
  let arg1 : BitVec 32 := BitVec.ofNat 32 (i 1).val
  let c9_i32 : BitVec 32 := 9#32
  let v0 : BitVec 32 := Scalar.subi arg1 c9_i32
  let c0_i32 : BitVec 32 := 0#32
  let c4_i32 : BitVec 32 := 4#32
  let v1 : BitVec 32 := Scalar.maxsi c0_i32 v0
  let v2 : BitVec 32 := Scalar.minsi c4_i32 v1
  let c0_i32_0 : BitVec 32 := 0#32
  ![arg0.toNat, v2.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]
-- ==== Reference8Ideal.lean ====
abbrev S8192x14336 : Shape := ⟨2, ![8192, 14336]⟩
abbrev S15360x1024 : Shape := ⟨2, ![15360, 1024]⟩
abbrev S8192x1024 : Shape := ⟨2, ![8192, 1024]⟩
abbrev S1x1024 : Shape := ⟨2, ![1, 1024]⟩
abbrev S14336x1024 : Shape := ⟨2, ![14336, 1024]⟩
abbrev S1024x14336 : Shape := ⟨2, ![1024, 14336]⟩
abbrev S_ : Shape := ⟨0, ![]⟩
abbrev S8192 : Shape := ⟨1, ![8192]⟩
abbrev S8192x1 : Shape := ⟨2, ![8192, 1]⟩
abbrev S1024 : Shape := ⟨1, ![1024]⟩

abbrev nBuf : Space → Nat
  | .hbm => 54
  | .vmem => 0
  | .smem => 0
  | _ => 0

abbrev bufTy : (tb : Table) → Fin (tcTables nBuf tb) → BufTy
  | .hbm, ⟨0, _⟩ => ⟨S8192x14336, .bf16⟩
  | .hbm, ⟨1, _⟩ => ⟨S15360x1024, .bf16⟩
  | .hbm, ⟨2, _⟩ => ⟨S8192x1024, .f32⟩
  | .hbm, ⟨3, _⟩ => ⟨S1x1024, .f32⟩
  | .hbm, ⟨4, _⟩ => ⟨S8192x1024, .f32⟩
  | .hbm, ⟨5, _⟩ => ⟨S14336x1024, .bf16⟩
  | .hbm, ⟨6, _⟩ => ⟨S1024x14336, .bf16⟩
  | .hbm, ⟨7, _⟩ => ⟨S1024x14336, .f32⟩
  | .hbm, ⟨8, _⟩ => ⟨S8192x1024, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S_, .f32⟩
  | .hbm, ⟨21, _⟩ => ⟨S8192x1, .f32⟩
  | .hbm, ⟨22, _⟩ => ⟨S8192x1, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S8192x14336, .f32⟩
  | .hbm, ⟨28, _⟩ => ⟨S8192x14336, .f32⟩
  | .hbm, ⟨29, _⟩ => ⟨S8192x1024, .f32⟩
  | .hbm, ⟨30, _⟩ => ⟨S8192x1024, .f32⟩
  | .hbm, ⟨31, _⟩ => ⟨S_, .f32⟩
  | .hbm, ⟨32, _⟩ => ⟨S1024, .f32⟩
  | .hbm, ⟨33, _⟩ => ⟨S1x1024, .f32⟩
  | .hbm, ⟨34, _⟩ => ⟨S8192x1024, .f32⟩
  | .hbm, ⟨35, _⟩ => ⟨S8192x1024, .f32⟩
  | .hbm, ⟨36, _⟩ => ⟨S8192x1024, .f32⟩
  | .hbm, ⟨37, _⟩ => ⟨S_, .f32⟩
  | .hbm, ⟨38, _⟩ => ⟨S8192, .f32⟩
  | .hbm, ⟨39, _⟩ => ⟨S8192x1, .f32⟩
  | .hbm, ⟨40, _⟩ => ⟨S8192x1024, .f32⟩
  | .hbm, ⟨41, _⟩ => ⟨S8192x1024, .f32⟩
  | .hbm, ⟨42, _⟩ => ⟨S8192x1024, .f32⟩
  | .hbm, ⟨43, _⟩ => ⟨S8192x1, .f32⟩
  | .hbm, ⟨44, _⟩ => ⟨S_, .f32⟩
  | .hbm, ⟨45, _⟩ => ⟨S8192x1, .f32⟩
  | .hbm, ⟨46, _⟩ => ⟨S8192x1, .f32⟩
  | .hbm, ⟨47, _⟩ => ⟨S_, .f32⟩
  | .hbm, ⟨48, _⟩ => ⟨S8192, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S8192x1024, .f32⟩
  | _, _ => ⟨S8192x14336, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_4 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst_5 : Ref sig .tc := ⟨.hbm, 44, rfl⟩
abbrev main_v33 : Ref sig .tc := ⟨.hbm, 45, rfl⟩
abbrev main_v34 : Ref sig .tc := ⟨.hbm, 46, rfl⟩
abbrev main_cst_6 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩

abbrev nD : Nat := 1
abbrev τ : Topo := Topo.v7x

variable {F : FTy → Type} [FloatOps F]
-- ==== Kernel9.lean ====
abbrev S8x1024x640 : Shape := ⟨3, ![8, 1024, 640]⟩
abbrev S1024x640 : Shape := ⟨2, ![1024, 640]⟩
abbrev S8x128x640 : Shape := ⟨3, ![8, 128, 640]⟩
abbrev S128x640 : Shape := ⟨2, ![128, 640]⟩
abbrev S1x128x640 : Shape := ⟨3, ![1, 128, 640]⟩

abbrev nBuf : Space → Nat
  | .hbm => 8
  | .vmem => 16
  | .smem => 0
  | _ => 0

abbrev bufTy : (tb : Table) → Fin (tcTables nBuf tb) → BufTy
  | .hbm, ⟨0, _⟩ => ⟨S8x1024x640, .bf16⟩
  | .hbm, ⟨1, _⟩ => ⟨S1024x640, .f32⟩
  | .hbm, ⟨2, _⟩ => ⟨S1024x640, .f32⟩
  | .hbm, ⟨3, _⟩ => ⟨S1024x640, .f32⟩
  | .hbm, ⟨4, _⟩ => ⟨S1024x640, .f32⟩
  | .hbm, ⟨5, _⟩ => ⟨S1024x640, .f32⟩
  | .hbm, ⟨6, _⟩ => ⟨S1024x640, .f32⟩
  | .hbm, ⟨7, _⟩ => ⟨S1024x640, .f32⟩
  | .local _ .vmem, ⟨0, _⟩ => ⟨S8x128x640, .bf16⟩
  | .local _ .vmem, ⟨1, _⟩ => ⟨S8x128x640, .bf16⟩
  | .local _ .vmem, ⟨2, _⟩ => ⟨S128x640, .f32⟩
  | .local _ .vmem, ⟨3, _⟩ => ⟨S128x640, .f32⟩
  | .local _ .vmem, ⟨4, _⟩ => ⟨S128x640, .f32⟩
  | .local _ .vmem, ⟨5, _⟩ => ⟨S128x640, .f32⟩
  | .local _ .vmem, ⟨6, _⟩ => ⟨S128x640, .f32⟩
  | .local _ .vmem, ⟨7, _⟩ => ⟨S128x640, .f32⟩
  | .local _ .vmem, ⟨8, _⟩ => ⟨S128x640, .f32⟩
  | .local _ .vmem, ⟨9, _⟩ => ⟨S128x640, .f32⟩
  | .local _ .vmem, ⟨10, _⟩ => ⟨S128x640, .f32⟩
  | .local _ .vmem, ⟨11, _⟩ => ⟨S128x640, .f32⟩
  | .local _ .vmem, ⟨12, _⟩ => ⟨S128x640, .f32⟩
  | .local _ .vmem, ⟨13, _⟩ => ⟨S128x640, .f32⟩
  | .local _ .vmem, ⟨14, _⟩ => ⟨S128x640, .f32⟩
  | .local _ .vmem, ⟨15, _⟩ => ⟨S128x640, .f32⟩
  | _, _ => ⟨S8x1024x640, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x128x640 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x640 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x640 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x640 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x640 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x640 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x640 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x640 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference9Ideal.lean ====
abbrev S8x1024x640 : Shape := ⟨3, ![8, 1024, 640]⟩
abbrev S1024x640 : Shape := ⟨2, ![1024, 640]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x1024x640, .bf16⟩
  | .hbm, ⟨1, _⟩ => ⟨S1024x640, .f32⟩
  | .hbm, ⟨2, _⟩ => ⟨S1024x640, .f32⟩
  | .hbm, ⟨3, _⟩ => ⟨S1024x640, .f32⟩
  | .hbm, ⟨4, _⟩ => ⟨S8x1024x640, .f32⟩
  | .hbm, ⟨5, _⟩ => ⟨S_, .f32⟩
  | .hbm, ⟨6, _⟩ => ⟨S1024x640, .f32⟩
  | .hbm, ⟨7, _⟩ => ⟨S_, .f32⟩
  | .hbm, ⟨8, _⟩ => ⟨S1024x640, .f32⟩
  | .hbm, ⟨9, _⟩ => ⟨S1024x640, .f32⟩
  | .hbm, ⟨10, _⟩ => ⟨S_, .f32⟩
  | .hbm, ⟨11, _⟩ => ⟨S1024x640, .f32⟩
  | .hbm, ⟨12, _⟩ => ⟨S1024x640, .f32⟩
  | .hbm, ⟨13, _⟩ => ⟨S1024x640, .f32⟩
  | .hbm, ⟨14, _⟩ => ⟨S_, .f32⟩
  | .hbm, ⟨15, _⟩ => ⟨S1024x640, .f32⟩
  | .hbm, ⟨16, _⟩ => ⟨S1024x640, .f32⟩
  | .hbm, ⟨17, _⟩ => ⟨S1024x640, .f32⟩
  | .hbm, ⟨18, _⟩ => ⟨S_, .f32⟩
  | .hbm, ⟨19, _⟩ => ⟨S1024x640, .f32⟩
  | .hbm, ⟨20, _⟩ => ⟨S1024x640, .f32⟩
  | .hbm, ⟨21, _⟩ => ⟨S1024x640, .f32⟩
  | .hbm, ⟨22, _⟩ => ⟨S_, .f32⟩
  | .hbm, ⟨23, _⟩ => ⟨S1024x640, .f32⟩
  | .hbm, ⟨24, _⟩ => ⟨S1024x640, .f32⟩
  | .hbm, ⟨25, _⟩ => ⟨S_, .f32⟩
  | .hbm, ⟨26, _⟩ => ⟨S1024x640, .f32⟩
  | .hbm, ⟨27, _⟩ => ⟨S1024x640, .f32⟩
  | .hbm, ⟨28, _⟩ => ⟨S1024x640, .f32⟩
  | .hbm, ⟨29, _⟩ => ⟨S_, .f32⟩
  | .hbm, ⟨30, _⟩ => ⟨S1024x640, .f32⟩
  | .hbm, ⟨31, _⟩ => ⟨S1024x640, .f32⟩
  | .hbm, ⟨32, _⟩ => ⟨S1024x640, .f32⟩
  | .hbm, ⟨33, _⟩ => ⟨S_, .f32⟩
  | .hbm, ⟨34, _⟩ => ⟨S1024x640, .f32⟩
  | .hbm, ⟨35, _⟩ => ⟨S1024x640, .f32⟩
  | .hbm, ⟨36, _⟩ => ⟨S1024x640, .f32⟩
  | .hbm, ⟨37, _⟩ => ⟨S_, .f32⟩
  | .hbm, ⟨38, _⟩ => ⟨S1024x640, .f32⟩
  | .hbm, ⟨39, _⟩ => ⟨S1024x640, .f32⟩
  | _, _ => ⟨S8x1024x640, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel10.lean ====
abbrev S8x128x256 : Shape := ⟨3, ![8, 128, 256]⟩
abbrev S128x256 : Shape := ⟨2, ![128, 256]⟩
abbrev S1x128x256 : Shape := ⟨3, ![1, 128, 256]⟩

abbrev nBuf : Space → Nat
  | .hbm => 8
  | .vmem => 8
  | .smem => 0
  | _ => 0

abbrev bufTy : (tb : Table) → Fin (tcTables nBuf tb) → BufTy
  | .hbm, ⟨0, _⟩ => ⟨S8x128x256, .bf16⟩
  | .hbm, ⟨1, _⟩ => ⟨S128x256, .f32⟩
  | .hbm, ⟨2, _⟩ => ⟨S128x256, .f32⟩
  | .hbm, ⟨3, _⟩ => ⟨S128x256, .f32⟩
  | .hbm, ⟨4, _⟩ => ⟨S128x256, .f32⟩
  | .hbm, ⟨5, _⟩ => ⟨S128x256, .f32⟩
  | .hbm, ⟨6, _⟩ => ⟨S128x256, .f32⟩
  | .hbm, ⟨7, _⟩ => ⟨S128x256, .f32⟩
  | .local _ .vmem, ⟨0, _⟩ => ⟨S8x128x256, .bf16⟩
  | .local _ .vmem, ⟨1, _⟩ => ⟨S128x256, .f32⟩
  | .local _ .vmem, ⟨2, _⟩ => ⟨S128x256, .f32⟩
  | .local _ .vmem, ⟨3, _⟩ => ⟨S128x256, .f32⟩
  | .local _ .vmem, ⟨4, _⟩ => ⟨S128x256, .f32⟩
  | .local _ .vmem, ⟨5, _⟩ => ⟨S128x256, .f32⟩
  | .local _ .vmem, ⟨6, _⟩ => ⟨S128x256, .f32⟩
  | .local _ .vmem, ⟨7, _⟩ => ⟨S128x256, .f32⟩
  | _, _ => ⟨S8x128x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x128x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S128x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S128x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S128x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference10Ideal.lean ====
abbrev S8x128x256 : Shape := ⟨3, ![8, 128, 256]⟩
abbrev S128x256 : Shape := ⟨2, ![128, 256]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x128x256, .bf16⟩
  | .hbm, ⟨1, _⟩ => ⟨S128x256, .f32⟩
  | .hbm, ⟨2, _⟩ => ⟨S128x256, .f32⟩
  | .hbm, ⟨3, _⟩ => ⟨S128x256, .f32⟩
  | .hbm, ⟨4, _⟩ => ⟨S8x128x256, .f32⟩
  | .hbm, ⟨5, _⟩ => ⟨S_, .f32⟩
  | .hbm, ⟨6, _⟩ => ⟨S128x256, .f32⟩
  | .hbm, ⟨7, _⟩ => ⟨S_, .f32⟩
  | .hbm, ⟨8, _⟩ => ⟨S128x256, .f32⟩
  | .hbm, ⟨9, _⟩ => ⟨S128x256, .f32⟩
  | .hbm, ⟨10, _⟩ => ⟨S_, .f32⟩
  | .hbm, ⟨11, _⟩ => ⟨S128x256, .f32⟩
  | .hbm, ⟨12, _⟩ => ⟨S128x256, .f32⟩
  | .hbm, ⟨13, _⟩ => ⟨S128x256, .f32⟩
  | .hbm, ⟨14, _⟩ => ⟨S_, .f32⟩
  | .hbm, ⟨15, _⟩ => ⟨S128x256, .f32⟩
  | .hbm, ⟨16, _⟩ => ⟨S128x256, .f32⟩
  | .hbm, ⟨17, _⟩ => ⟨S128x256, .f32⟩
  | .hbm, ⟨18, _⟩ => ⟨S_, .f32⟩
  | .hbm, ⟨19, _⟩ => ⟨S128x256, .f32⟩
  | .hbm, ⟨20, _⟩ => ⟨S128x256, .f32⟩
  | .hbm, ⟨21, _⟩ => ⟨S128x256, .f32⟩
  | .hbm, ⟨22, _⟩ => ⟨S_, .f32⟩
  | .hbm, ⟨23, _⟩ => ⟨S128x256, .f32⟩
  | .hbm, ⟨24, _⟩ => ⟨S128x256, .f32⟩
  | .hbm, ⟨25, _⟩ => ⟨S_, .f32⟩
  | .hbm, ⟨26, _⟩ => ⟨S128x256, .f32⟩
  | .hbm, ⟨27, _⟩ => ⟨S128x256, .f32⟩
  | .hbm, ⟨28, _⟩ => ⟨S128x256, .f32⟩
  | .hbm, ⟨29, _⟩ => ⟨S_, .f32⟩
  | .hbm, ⟨30, _⟩ => ⟨S128x256, .f32⟩
  | .hbm, ⟨31, _⟩ => ⟨S128x256, .f32⟩
  | .hbm, ⟨32, _⟩ => ⟨S128x256, .f32⟩
  | .hbm, ⟨33, _⟩ => ⟨S_, .f32⟩
  | .hbm, ⟨34, _⟩ => ⟨S128x256, .f32⟩
  | .hbm, ⟨35, _⟩ => ⟨S128x256, .f32⟩
  | .hbm, ⟨36, _⟩ => ⟨S128x256, .f32⟩
  | .hbm, ⟨37, _⟩ => ⟨S_, .f32⟩
  | .hbm, ⟨38, _⟩ => ⟨S128x256, .f32⟩
  | .hbm, ⟨39, _⟩ => ⟨S128x256, .f32⟩
  | _, _ => ⟨S8x128x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel11.lean ====
abbrev S8x256x1024 : Shape := ⟨3, ![8, 256, 1024]⟩
abbrev S256x1024 : Shape := ⟨2, ![256, 1024]⟩
abbrev S8x128x1024 : Shape := ⟨3, ![8, 128, 1024]⟩
abbrev S128x1024 : Shape := ⟨2, ![128, 1024]⟩
abbrev S1x128x1024 : Shape := ⟨3, ![1, 128, 1024]⟩

abbrev nBuf : Space → Nat
  | .hbm => 8
  | .vmem => 16
  | .smem => 0
  | _ => 0

abbrev bufTy : (tb : Table) → Fin (tcTables nBuf tb) → BufTy
  | .hbm, ⟨0, _⟩ => ⟨S8x256x1024, .bf16⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S256x1024, .f32⟩
  | .hbm, ⟨5, _⟩ => ⟨S256x1024, .f32⟩
  | .hbm, ⟨6, _⟩ => ⟨S256x1024, .f32⟩
  | .hbm, ⟨7, _⟩ => ⟨S256x1024, .f32⟩
  | .local _ .vmem, ⟨0, _⟩ => ⟨S8x128x1024, .bf16⟩
  | .local _ .vmem, ⟨1, _⟩ => ⟨S8x128x1024, .bf16⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S128x1024, .f32⟩
  | .local _ .vmem, ⟨9, _⟩ => ⟨S128x1024, .f32⟩
  | .local _ .vmem, ⟨10, _⟩ => ⟨S128x1024, .f32⟩
  | .local _ .vmem, ⟨11, _⟩ => ⟨S128x1024, .f32⟩
  | .local _ .vmem, ⟨12, _⟩ => ⟨S128x1024, .f32⟩
  | .local _ .vmem, ⟨13, _⟩ => ⟨S128x1024, .f32⟩
  | .local _ .vmem, ⟨14, _⟩ => ⟨S128x1024, .f32⟩
  | .local _ .vmem, ⟨15, _⟩ => ⟨S128x1024, .f32⟩
  | _, _ => ⟨S8x256x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference11Ideal.lean ====
abbrev S8x256x1024 : Shape := ⟨3, ![8, 256, 1024]⟩
abbrev S256x1024 : Shape := ⟨2, ![256, 1024]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x256x1024, .bf16⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S8x256x1024, .f32⟩
  | .hbm, ⟨5, _⟩ => ⟨S_, .f32⟩
  | .hbm, ⟨6, _⟩ => ⟨S256x1024, .f32⟩
  | .hbm, ⟨7, _⟩ => ⟨S_, .f32⟩
  | .hbm, ⟨8, _⟩ => ⟨S256x1024, .f32⟩
  | .hbm, ⟨9, _⟩ => ⟨S256x1024, .f32⟩
  | .hbm, ⟨10, _⟩ => ⟨S_, .f32⟩
  | .hbm, ⟨11, _⟩ => ⟨S256x1024, .f32⟩
  | .hbm, ⟨12, _⟩ => ⟨S256x1024, .f32⟩
  | .hbm, ⟨13, _⟩ => ⟨S256x1024, .f32⟩
  | .hbm, ⟨14, _⟩ => ⟨S_, .f32⟩
  | .hbm, ⟨15, _⟩ => ⟨S256x1024, .f32⟩
  | .hbm, ⟨16, _⟩ => ⟨S256x1024, .f32⟩
  | .hbm, ⟨17, _⟩ => ⟨S256x1024, .f32⟩
  | .hbm, ⟨18, _⟩ => ⟨S_, .f32⟩
  | .hbm, ⟨19, _⟩ => ⟨S256x1024, .f32⟩
  | .hbm, ⟨20, _⟩ => ⟨S256x1024, .f32⟩
  | .hbm, ⟨21, _⟩ => ⟨S256x1024, .f32⟩
  | .hbm, ⟨22, _⟩ => ⟨S_, .f32⟩
  | .hbm, ⟨23, _⟩ => ⟨S256x1024, .f32⟩
  | .hbm, ⟨24, _⟩ => ⟨S256x1024, .f32⟩
  | .hbm, ⟨25, _⟩ => ⟨S_, .f32⟩
  | .hbm, ⟨26, _⟩ => ⟨S256x1024, .f32⟩
  | .hbm, ⟨27, _⟩ => ⟨S256x1024, .f32⟩
  | .hbm, ⟨28, _⟩ => ⟨S256x1024, .f32⟩
  | .hbm, ⟨29, _⟩ => ⟨S_, .f32⟩
  | .hbm, ⟨30, _⟩ => ⟨S256x1024, .f32⟩
  | .hbm, ⟨31, _⟩ => ⟨S256x1024, .f32⟩
  | .hbm, ⟨32, _⟩ => ⟨S256x1024, .f32⟩
  | .hbm, ⟨33, _⟩ => ⟨S_, .f32⟩
  | .hbm, ⟨34, _⟩ => ⟨S256x1024, .f32⟩
  | .hbm, ⟨35, _⟩ => ⟨S256x1024, .f32⟩
  | .hbm, ⟨36, _⟩ => ⟨S256x1024, .f32⟩
  | .hbm, ⟨37, _⟩ => ⟨S_, .f32⟩
  | .hbm, ⟨38, _⟩ => ⟨S256x1024, .f32⟩
  | .hbm, ⟨39, _⟩ => ⟨S256x1024, .f32⟩
  | _, _ => ⟨S8x256x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel12.lean ====
abbrev S8x1024x1792 : Shape := ⟨3, ![8, 1024, 1792]⟩
abbrev S1024x1792 : Shape := ⟨2, ![1024, 1792]⟩
abbrev S8x128x1792 : Shape := ⟨3, ![8, 128, 1792]⟩
abbrev S128x1792 : Shape := ⟨2, ![128, 1792]⟩
abbrev S1x128x1792 : Shape := ⟨3, ![1, 128, 1792]⟩

abbrev nBuf : Space → Nat
  | .hbm => 8
  | .vmem => 16
  | .smem => 0
  | _ => 0

abbrev bufTy : (tb : Table) → Fin (tcTables nBuf tb) → BufTy
  | .hbm, ⟨0, _⟩ => ⟨S8x1024x1792, .bf16⟩
  | .hbm, ⟨1, _⟩ => ⟨S1024x1792, .f32⟩
  | .hbm, ⟨2, _⟩ => ⟨S1024x1792, .f32⟩
  | .hbm, ⟨3, _⟩ => ⟨S1024x1792, .f32⟩
  | .hbm, ⟨4, _⟩ => ⟨S1024x1792, .f32⟩
  | .hbm, ⟨5, _⟩ => ⟨S1024x1792, .f32⟩
  | .hbm, ⟨6, _⟩ => ⟨S1024x1792, .f32⟩
  | .hbm, ⟨7, _⟩ => ⟨S1024x1792, .f32⟩
  | .local _ .vmem, ⟨0, _⟩ => ⟨S8x128x1792, .bf16⟩
  | .local _ .vmem, ⟨1, _⟩ => ⟨S8x128x1792, .bf16⟩
  | .local _ .vmem, ⟨2, _⟩ => ⟨S128x1792, .f32⟩
  | .local _ .vmem, ⟨3, _⟩ => ⟨S128x1792, .f32⟩
  | .local _ .vmem, ⟨4, _⟩ => ⟨S128x1792, .f32⟩
  | .local _ .vmem, ⟨5, _⟩ => ⟨S128x1792, .f32⟩
  | .local _ .vmem, ⟨6, _⟩ => ⟨S128x1792, .f32⟩
  | .local _ .vmem, ⟨7, _⟩ => ⟨S128x1792, .f32⟩
  | .local _ .vmem, ⟨8, _⟩ => ⟨S128x1792, .f32⟩
  | .local _ .vmem, ⟨9, _⟩ => ⟨S128x1792, .f32⟩
  | .local _ .vmem, ⟨10, _⟩ => ⟨S128x1792, .f32⟩
  | .local _ .vmem, ⟨11, _⟩ => ⟨S128x1792, .f32⟩
  | .local _ .vmem, ⟨12, _⟩ => ⟨S128x1792, .f32⟩
  | .local _ .vmem, ⟨13, _⟩ => ⟨S128x1792, .f32⟩
  | .local _ .vmem, ⟨14, _⟩ => ⟨S128x1792, .f32⟩
  | .local _ .vmem, ⟨15, _⟩ => ⟨S128x1792, .f32⟩
  | _, _ => ⟨S8x1024x1792, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x128x1792 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1792 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1792 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1792 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1792 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1792 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1792 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1792 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference12Ideal.lean ====
abbrev S8x1024x1792 : Shape := ⟨3, ![8, 1024, 1792]⟩
abbrev S1024x1792 : Shape := ⟨2, ![1024, 1792]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x1024x1792, .bf16⟩
  | .hbm, ⟨1, _⟩ => ⟨S1024x1792, .f32⟩
  | .hbm, ⟨2, _⟩ => ⟨S1024x1792, .f32⟩
  | .hbm, ⟨3, _⟩ => ⟨S1024x1792, .f32⟩
  | .hbm, ⟨4, _⟩ => ⟨S8x1024x1792, .f32⟩
  | .hbm, ⟨5, _⟩ => ⟨S_, .f32⟩
  | .hbm, ⟨6, _⟩ => ⟨S1024x1792, .f32⟩
  | .hbm, ⟨7, _⟩ => ⟨S_, .f32⟩
  | .hbm, ⟨8, _⟩ => ⟨S1024x1792, .f32⟩
  | .hbm, ⟨9, _⟩ => ⟨S1024x1792, .f32⟩
  | .hbm, ⟨10, _⟩ => ⟨S_, .f32⟩
  | .hbm, ⟨11, _⟩ => ⟨S1024x1792, .f32⟩
  | .hbm, ⟨12, _⟩ => ⟨S1024x1792, .f32⟩
  | .hbm, ⟨13, _⟩ => ⟨S1024x1792, .f32⟩
  | .hbm, ⟨14, _⟩ => ⟨S_, .f32⟩
  | .hbm, ⟨15, _⟩ => ⟨S1024x1792, .f32⟩
  | .hbm, ⟨16, _⟩ => ⟨S1024x1792, .f32⟩
  | .hbm, ⟨17, _⟩ => ⟨S1024x1792, .f32⟩
  | .hbm, ⟨18, _⟩ => ⟨S_, .f32⟩
  | .hbm, ⟨19, _⟩ => ⟨S1024x1792, .f32⟩
  | .hbm, ⟨20, _⟩ => ⟨S1024x1792, .f32⟩
  | .hbm, ⟨21, _⟩ => ⟨S1024x1792, .f32⟩
  | .hbm, ⟨22, _⟩ => ⟨S_, .f32⟩
  | .hbm, ⟨23, _⟩ => ⟨S1024x1792, .f32⟩
  | .hbm, ⟨24, _⟩ => ⟨S1024x1792, .f32⟩
  | .hbm, ⟨25, _⟩ => ⟨S_, .f32⟩
  | .hbm, ⟨26, _⟩ => ⟨S1024x1792, .f32⟩
  | .hbm, ⟨27, _⟩ => ⟨S1024x1792, .f32⟩
  | .hbm, ⟨28, _⟩ => ⟨S1024x1792, .f32⟩
  | .hbm, ⟨29, _⟩ => ⟨S_, .f32⟩
  | .hbm, ⟨30, _⟩ => ⟨S1024x1792, .f32⟩
  | .hbm, ⟨31, _⟩ => ⟨S1024x1792, .f32⟩
  | .hbm, ⟨32, _⟩ => ⟨S1024x1792, .f32⟩
  | .hbm, ⟨33, _⟩ => ⟨S_, .f32⟩
  | .hbm, ⟨34, _⟩ => ⟨S1024x1792, .f32⟩
  | .hbm, ⟨35, _⟩ => ⟨S1024x1792, .f32⟩
  | .hbm, ⟨36, _⟩ => ⟨S1024x1792, .f32⟩
  | .hbm, ⟨37, _⟩ => ⟨S_, .f32⟩
  | .hbm, ⟨38, _⟩ => ⟨S1024x1792, .f32⟩
  | .hbm, ⟨39, _⟩ => ⟨S1024x1792, .f32⟩
  | _, _ => ⟨S8x1024x1792, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel13.lean ====
abbrev S1x1024 : Shape := ⟨2, ![1, 1024]⟩

abbrev nBuf : Space → Nat
  | .hbm => 8
  | .vmem => 8
  | .smem => 0
  | _ => 0

abbrev bufTy : (tb : Table) → Fin (tcTables nBuf tb) → BufTy
  | .hbm, ⟨0, _⟩ => ⟨S1x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S1x1024, .f32⟩
  | .local _ .vmem, ⟨0, _⟩ => ⟨S1x1024, .f32⟩
  | .local _ .vmem, ⟨1, _⟩ => ⟨S1x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | _, _ => ⟨S1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference13Ideal.lean ====
abbrev S1x1024 : Shape := ⟨2, ![1, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S_, .f32⟩
  | .hbm, ⟨5, _⟩ => ⟨S1x1024, .f32⟩
  | .hbm, ⟨6, _⟩ => ⟨S1x1024, .f32⟩
  | .hbm, ⟨7, _⟩ => ⟨S_, .f32⟩
  | .hbm, ⟨8, _⟩ => ⟨S1x1024, .f32⟩
  | .hbm, ⟨9, _⟩ => ⟨S1x1024, .f32⟩
  | .hbm, ⟨10, _⟩ => ⟨S1x1024, .f32⟩
  | .hbm, ⟨11, _⟩ => ⟨S_, .f32⟩
  | .hbm, ⟨12, _⟩ => ⟨S1x1024, .f32⟩
  | .hbm, ⟨13, _⟩ => ⟨S1x1024, .f32⟩
  | .hbm, ⟨14, _⟩ => ⟨S1x1024, .f32⟩
  | .hbm, ⟨15, _⟩ => ⟨S_, .f32⟩
  | .hbm, ⟨16, _⟩ => ⟨S1x1024, .f32⟩
  | .hbm, ⟨17, _⟩ => ⟨S1x1024, .f32⟩
  | .hbm, ⟨18, _⟩ => ⟨S1x1024, .f32⟩
  | .hbm, ⟨19, _⟩ => ⟨S_, .f32⟩
  | .hbm, ⟨20, _⟩ => ⟨S1x1024, .f32⟩
  | .hbm, ⟨21, _⟩ => ⟨S1x1024, .f32⟩
  | .hbm, ⟨22, _⟩ => ⟨S_, .f32⟩
  | .hbm, ⟨23, _⟩ => ⟨S1x1024, .f32⟩
  | .hbm, ⟨24, _⟩ => ⟨S1x1024, .f32⟩
  | .hbm, ⟨25, _⟩ => ⟨S1x1024, .f32⟩
  | .hbm, ⟨26, _⟩ => ⟨S_, .f32⟩
  | .hbm, ⟨27, _⟩ => ⟨S1x1024, .f32⟩
  | .hbm, ⟨28, _⟩ => ⟨S1x1024, .f32⟩
  | .hbm, ⟨29, _⟩ => ⟨S1x1024, .f32⟩
  | .hbm, ⟨30, _⟩ => ⟨S_, .f32⟩
  | .hbm, ⟨31, _⟩ => ⟨S1x1024, .f32⟩
  | .hbm, ⟨32, _⟩ => ⟨S1x1024, .f32⟩
  | .hbm, ⟨33, _⟩ => ⟨S1x1024, .f32⟩
  | .hbm, ⟨34, _⟩ => ⟨S_, .f32⟩
  | .hbm, ⟨35, _⟩ => ⟨S1x1024, .f32⟩
  | .hbm, ⟨36, _⟩ => ⟨S1x1024, .f32⟩
  | _, _ => ⟨S1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel14.lean ====
abbrev S512x128 : Shape := ⟨2, ![512, 128]⟩
abbrev S128x128 : Shape := ⟨2, ![128, 128]⟩

abbrev nBuf : Space → Nat
  | .hbm => 8
  | .vmem => 16
  | .smem => 0
  | _ => 0

abbrev bufTy : (tb : Table) → Fin (tcTables nBuf tb) → BufTy
  | .hbm, ⟨0, _⟩ => ⟨S512x128, .f32⟩
  | .hbm, ⟨1, _⟩ => ⟨S512x128, .f32⟩
  | .hbm, ⟨2, _⟩ => ⟨S512x128, .f32⟩
  | .hbm, ⟨3, _⟩ => ⟨S512x128, .f32⟩
  | .hbm, ⟨4, _⟩ => ⟨S512x128, .f32⟩
  | .hbm, ⟨5, _⟩ => ⟨S512x128, .f32⟩
  | .hbm, ⟨6, _⟩ => ⟨S512x128, .f32⟩
  | .hbm, ⟨7, _⟩ => ⟨S512x128, .f32⟩
  | .local _ .vmem, ⟨0, _⟩ => ⟨S128x128, .f32⟩
  | .local _ .vmem, ⟨1, _⟩ => ⟨S128x128, .f32⟩
  | .local _ .vmem, ⟨2, _⟩ => ⟨S128x128, .f32⟩
  | .local _ .vmem, ⟨3, _⟩ => ⟨S128x128, .f32⟩
  | .local _ .vmem, ⟨4, _⟩ => ⟨S128x128, .f32⟩
  | .local _ .vmem, ⟨5, _⟩ => ⟨S128x128, .f32⟩
  | .local _ .vmem, ⟨6, _⟩ => ⟨S128x128, .f32⟩
  | .local _ .vmem, ⟨7, _⟩ => ⟨S128x128, .f32⟩
  | .local _ .vmem, ⟨8, _⟩ => ⟨S128x128, .f32⟩
  | .local _ .vmem, ⟨9, _⟩ => ⟨S128x128, .f32⟩
  | .local _ .vmem, ⟨10, _⟩ => ⟨S128x128, .f32⟩
  | .local _ .vmem, ⟨11, _⟩ => ⟨S128x128, .f32⟩
  | .local _ .vmem, ⟨12, _⟩ => ⟨S128x128, .f32⟩
  | .local _ .vmem, ⟨13, _⟩ => ⟨S128x128, .f32⟩
  | .local _ .vmem, ⟨14, _⟩ => ⟨S128x128, .f32⟩
  | .local _ .vmem, ⟨15, _⟩ => ⟨S128x128, .f32⟩
  | _, _ => ⟨S512x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference14Ideal.lean ====
abbrev S512x128 : Shape := ⟨2, ![512, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S512x128, .f32⟩
  | .hbm, ⟨1, _⟩ => ⟨S512x128, .f32⟩
  | .hbm, ⟨2, _⟩ => ⟨S512x128, .f32⟩
  | .hbm, ⟨3, _⟩ => ⟨S512x128, .f32⟩
  | .hbm, ⟨4, _⟩ => ⟨S_, .f32⟩
  | .hbm, ⟨5, _⟩ => ⟨S512x128, .f32⟩
  | .hbm, ⟨6, _⟩ => ⟨S512x128, .f32⟩
  | .hbm, ⟨7, _⟩ => ⟨S_, .f32⟩
  | .hbm, ⟨8, _⟩ => ⟨S512x128, .f32⟩
  | .hbm, ⟨9, _⟩ => ⟨S512x128, .f32⟩
  | .hbm, ⟨10, _⟩ => ⟨S512x128, .f32⟩
  | .hbm, ⟨11, _⟩ => ⟨S_, .f32⟩
  | .hbm, ⟨12, _⟩ => ⟨S512x128, .f32⟩
  | .hbm, ⟨13, _⟩ => ⟨S512x128, .f32⟩
  | .hbm, ⟨14, _⟩ => ⟨S512x128, .f32⟩
  | .hbm, ⟨15, _⟩ => ⟨S_, .f32⟩
  | .hbm, ⟨16, _⟩ => ⟨S512x128, .f32⟩
  | .hbm, ⟨17, _⟩ => ⟨S512x128, .f32⟩
  | .hbm, ⟨18, _⟩ => ⟨S512x128, .f32⟩
  | .hbm, ⟨19, _⟩ => ⟨S_, .f32⟩
  | .hbm, ⟨20, _⟩ => ⟨S512x128, .f32⟩
  | .hbm, ⟨21, _⟩ => ⟨S512x128, .f32⟩
  | .hbm, ⟨22, _⟩ => ⟨S_, .f32⟩
  | .hbm, ⟨23, _⟩ => ⟨S512x128, .f32⟩
  | .hbm, ⟨24, _⟩ => ⟨S512x128, .f32⟩
  | .hbm, ⟨25, _⟩ => ⟨S512x128, .f32⟩
  | .hbm, ⟨26, _⟩ => ⟨S_, .f32⟩
  | .hbm, ⟨27, _⟩ => ⟨S512x128, .f32⟩
  | .hbm, ⟨28, _⟩ => ⟨S512x128, .f32⟩
  | .hbm, ⟨29, _⟩ => ⟨S512x128, .f32⟩
  | .hbm, ⟨30, _⟩ => ⟨S_, .f32⟩
  | .hbm, ⟨31, _⟩ => ⟨S512x128, .f32⟩
  | .hbm, ⟨32, _⟩ => ⟨S512x128, .f32⟩
  | .hbm, ⟨33, _⟩ => ⟨S512x128, .f32⟩
  | .hbm, ⟨34, _⟩ => ⟨S_, .f32⟩
  | .hbm, ⟨35, _⟩ => ⟨S512x128, .f32⟩
  | .hbm, ⟨36, _⟩ => ⟨S512x128, .f32⟩
  | _, _ => ⟨S512x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel15.lean ====
abbrev S4x128 : Shape := ⟨2, ![4, 128]⟩

abbrev nBuf : Space → Nat
  | .hbm => 8
  | .vmem => 8
  | .smem => 0
  | _ => 0

abbrev bufTy : (tb : Table) → Fin (tcTables nBuf tb) → BufTy
  | .hbm, ⟨0, _⟩ => ⟨S4x128, .f32⟩
  | .hbm, ⟨1, _⟩ => ⟨S4x128, .f32⟩
  | .hbm, ⟨2, _⟩ => ⟨S4x128, .f32⟩
  | .hbm, ⟨3, _⟩ => ⟨S4x128, .f32⟩
  | .hbm, ⟨4, _⟩ => ⟨S4x128, .f32⟩
  | .hbm, ⟨5, _⟩ => ⟨S4x128, .f32⟩
  | .hbm, ⟨6, _⟩ => ⟨S4x128, .f32⟩
  | .hbm, ⟨7, _⟩ => ⟨S4x128, .f32⟩
  | .local _ .vmem, ⟨0, _⟩ => ⟨S4x128, .f32⟩
  | .local _ .vmem, ⟨1, _⟩ => ⟨S4x128, .f32⟩
  | .local _ .vmem, ⟨2, _⟩ => ⟨S4x128, .f32⟩
  | .local _ .vmem, ⟨3, _⟩ => ⟨S4x128, .f32⟩
  | .local _ .vmem, ⟨4, _⟩ => ⟨S4x128, .f32⟩
  | .local _ .vmem, ⟨5, _⟩ => ⟨S4x128, .f32⟩
  | .local _ .vmem, ⟨6, _⟩ => ⟨S4x128, .f32⟩
  | .local _ .vmem, ⟨7, _⟩ => ⟨S4x128, .f32⟩
  | _, _ => ⟨S4x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S4x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference15Ideal.lean ====
abbrev S4x128 : Shape := ⟨2, ![4, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x128, .f32⟩
  | .hbm, ⟨1, _⟩ => ⟨S4x128, .f32⟩
  | .hbm, ⟨2, _⟩ => ⟨S4x128, .f32⟩
  | .hbm, ⟨3, _⟩ => ⟨S4x128, .f32⟩
  | .hbm, ⟨4, _⟩ => ⟨S_, .f32⟩
  | .hbm, ⟨5, _⟩ => ⟨S4x128, .f32⟩
  | .hbm, ⟨6, _⟩ => ⟨S4x128, .f32⟩
  | .hbm, ⟨7, _⟩ => ⟨S_, .f32⟩
  | .hbm, ⟨8, _⟩ => ⟨S4x128, .f32⟩
  | .hbm, ⟨9, _⟩ => ⟨S4x128, .f32⟩
  | .hbm, ⟨10, _⟩ => ⟨S4x128, .f32⟩
  | .hbm, ⟨11, _⟩ => ⟨S_, .f32⟩
  | .hbm, ⟨12, _⟩ => ⟨S4x128, .f32⟩
  | .hbm, ⟨13, _⟩ => ⟨S4x128, .f32⟩
  | .hbm, ⟨14, _⟩ => ⟨S4x128, .f32⟩
  | .hbm, ⟨15, _⟩ => ⟨S_, .f32⟩
  | .hbm, ⟨16, _⟩ => ⟨S4x128, .f32⟩
  | .hbm, ⟨17, _⟩ => ⟨S4x128, .f32⟩
  | .hbm, ⟨18, _⟩ => ⟨S4x128, .f32⟩
  | .hbm, ⟨19, _⟩ => ⟨S_, .f32⟩
  | .hbm, ⟨20, _⟩ => ⟨S4x128, .f32⟩
  | .hbm, ⟨21, _⟩ => ⟨S4x128, .f32⟩
  | .hbm, ⟨22, _⟩ => ⟨S_, .f32⟩
  | .hbm, ⟨23, _⟩ => ⟨S4x128, .f32⟩
  | .hbm, ⟨24, _⟩ => ⟨S4x128, .f32⟩
  | .hbm, ⟨25, _⟩ => ⟨S4x128, .f32⟩
  | .hbm, ⟨26, _⟩ => ⟨S_, .f32⟩
  | .hbm, ⟨27, _⟩ => ⟨S4x128, .f32⟩
  | .hbm, ⟨28, _⟩ => ⟨S4x128, .f32⟩
  | .hbm, ⟨29, _⟩ => ⟨S4x128, .f32⟩
  | .hbm, ⟨30, _⟩ => ⟨S_, .f32⟩
  | .hbm, ⟨31, _⟩ => ⟨S4x128, .f32⟩
  | .hbm, ⟨32, _⟩ => ⟨S4x128, .f32⟩
  | .hbm, ⟨33, _⟩ => ⟨S4x128, .f32⟩
  | .hbm, ⟨34, _⟩ => ⟨S_, .f32⟩
  | .hbm, ⟨35, _⟩ => ⟨S4x128, .f32⟩
  | .hbm, ⟨36, _⟩ => ⟨S4x128, .f32⟩
  | _, _ => ⟨S4x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel16.lean ====
abbrev S1x128 : Shape := ⟨2, ![1, 128]⟩

abbrev nBuf : Space → Nat
  | .hbm => 8
  | .vmem => 8
  | .smem => 0
  | _ => 0

abbrev bufTy : (tb : Table) → Fin (tcTables nBuf tb) → BufTy
  | .hbm, ⟨0, _⟩ => ⟨S1x128, .f32⟩
  | .hbm, ⟨1, _⟩ => ⟨S1x128, .f32⟩
  | .hbm, ⟨2, _⟩ => ⟨S1x128, .f32⟩
  | .hbm, ⟨3, _⟩ => ⟨S1x128, .f32⟩
  | .hbm, ⟨4, _⟩ => ⟨S1x128, .f32⟩
  | .hbm, ⟨5, _⟩ => ⟨S1x128, .f32⟩
  | .hbm, ⟨6, _⟩ => ⟨S1x128, .f32⟩
  | .hbm, ⟨7, _⟩ => ⟨S1x128, .f32⟩
  | .local _ .vmem, ⟨0, _⟩ => ⟨S1x128, .f32⟩
  | .local _ .vmem, ⟨1, _⟩ => ⟨S1x128, .f32⟩
  | .local _ .vmem, ⟨2, _⟩ => ⟨S1x128, .f32⟩
  | .local _ .vmem, ⟨3, _⟩ => ⟨S1x128, .f32⟩
  | .local _ .vmem, ⟨4, _⟩ => ⟨S1x128, .f32⟩
  | .local _ .vmem, ⟨5, _⟩ => ⟨S1x128, .f32⟩
  | .local _ .vmem, ⟨6, _⟩ => ⟨S1x128, .f32⟩
  | .local _ .vmem, ⟨7, _⟩ => ⟨S1x128, .f32⟩
  | _, _ => ⟨S1x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference16Ideal.lean ====
abbrev S1x128 : Shape := ⟨2, ![1, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x128, .f32⟩
  | .hbm, ⟨1, _⟩ => ⟨S1x128, .f32⟩
  | .hbm, ⟨2, _⟩ => ⟨S1x128, .f32⟩
  | .hbm, ⟨3, _⟩ => ⟨S1x128, .f32⟩
  | .hbm, ⟨4, _⟩ => ⟨S_, .f32⟩
  | .hbm, ⟨5, _⟩ => ⟨S1x128, .f32⟩
  | .hbm, ⟨6, _⟩ => ⟨S1x128, .f32⟩
  | .hbm, ⟨7, _⟩ => ⟨S_, .f32⟩
  | .hbm, ⟨8, _⟩ => ⟨S1x128, .f32⟩
  | .hbm, ⟨9, _⟩ => ⟨S1x128, .f32⟩
  | .hbm, ⟨10, _⟩ => ⟨S1x128, .f32⟩
  | .hbm, ⟨11, _⟩ => ⟨S_, .f32⟩
  | .hbm, ⟨12, _⟩ => ⟨S1x128, .f32⟩
  | .hbm, ⟨13, _⟩ => ⟨S1x128, .f32⟩
  | .hbm, ⟨14, _⟩ => ⟨S1x128, .f32⟩
  | .hbm, ⟨15, _⟩ => ⟨S_, .f32⟩
  | .hbm, ⟨16, _⟩ => ⟨S1x128, .f32⟩
  | .hbm, ⟨17, _⟩ => ⟨S1x128, .f32⟩
  | .hbm, ⟨18, _⟩ => ⟨S1x128, .f32⟩
  | .hbm, ⟨19, _⟩ => ⟨S_, .f32⟩
  | .hbm, ⟨20, _⟩ => ⟨S1x128, .f32⟩
  | .hbm, ⟨21, _⟩ => ⟨S1x128, .f32⟩
  | .hbm, ⟨22, _⟩ => ⟨S_, .f32⟩
  | .hbm, ⟨23, _⟩ => ⟨S1x128, .f32⟩
  | .hbm, ⟨24, _⟩ => ⟨S1x128, .f32⟩
  | .hbm, ⟨25, _⟩ => ⟨S1x128, .f32⟩
  | .hbm, ⟨26, _⟩ => ⟨S_, .f32⟩
  | .hbm, ⟨27, _⟩ => ⟨S1x128, .f32⟩
  | .hbm, ⟨28, _⟩ => ⟨S1x128, .f32⟩
  | .hbm, ⟨29, _⟩ => ⟨S1x128, .f32⟩
  | .hbm, ⟨30, _⟩ => ⟨S_, .f32⟩
  | .hbm, ⟨31, _⟩ => ⟨S1x128, .f32⟩
  | .hbm, ⟨32, _⟩ => ⟨S1x128, .f32⟩
  | .hbm, ⟨33, _⟩ => ⟨S1x128, .f32⟩
  | .hbm, ⟨34, _⟩ => ⟨S_, .f32⟩
  | .hbm, ⟨35, _⟩ => ⟨S1x128, .f32⟩
  | .hbm, ⟨36, _⟩ => ⟨S1x128, .f32⟩
  | _, _ => ⟨S1x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel17.lean ====
abbrev S3x128 : Shape := ⟨2, ![3, 128]⟩

abbrev nBuf : Space → Nat
  | .hbm => 8
  | .vmem => 8
  | .smem => 0
  | _ => 0

abbrev bufTy : (tb : Table) → Fin (tcTables nBuf tb) → BufTy
  | .hbm, ⟨0, _⟩ => ⟨S3x128, .f32⟩
  | .hbm, ⟨1, _⟩ => ⟨S3x128, .f32⟩
  | .hbm, ⟨2, _⟩ => ⟨S3x128, .f32⟩
  | .hbm, ⟨3, _⟩ => ⟨S3x128, .f32⟩
  | .hbm, ⟨4, _⟩ => ⟨S3x128, .f32⟩
  | .hbm, ⟨5, _⟩ => ⟨S3x128, .f32⟩
  | .hbm, ⟨6, _⟩ => ⟨S3x128, .f32⟩
  | .hbm, ⟨7, _⟩ => ⟨S3x128, .f32⟩
  | .local _ .vmem, ⟨0, _⟩ => ⟨S3x128, .f32⟩
  | .local _ .vmem, ⟨1, _⟩ => ⟨S3x128, .f32⟩
  | .local _ .vmem, ⟨2, _⟩ => ⟨S3x128, .f32⟩
  | .local _ .vmem, ⟨3, _⟩ => ⟨S3x128, .f32⟩
  | .local _ .vmem, ⟨4, _⟩ => ⟨S3x128, .f32⟩
  | .local _ .vmem, ⟨5, _⟩ => ⟨S3x128, .f32⟩
  | .local _ .vmem, ⟨6, _⟩ => ⟨S3x128, .f32⟩
  | .local _ .vmem, ⟨7, _⟩ => ⟨S3x128, .f32⟩
  | _, _ => ⟨S3x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S3x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S3x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S3x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S3x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S3x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S3x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S3x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S3x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference17Ideal.lean ====
abbrev S3x128 : Shape := ⟨2, ![3, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S3x128, .f32⟩
  | .hbm, ⟨1, _⟩ => ⟨S3x128, .f32⟩
  | .hbm, ⟨2, _⟩ => ⟨S3x128, .f32⟩
  | .hbm, ⟨3, _⟩ => ⟨S3x128, .f32⟩
  | .hbm, ⟨4, _⟩ => ⟨S_, .f32⟩
  | .hbm, ⟨5, _⟩ => ⟨S3x128, .f32⟩
  | .hbm, ⟨6, _⟩ => ⟨S3x128, .f32⟩
  | .hbm, ⟨7, _⟩ => ⟨S_, .f32⟩
  | .hbm, ⟨8, _⟩ => ⟨S3x128, .f32⟩
  | .hbm, ⟨9, _⟩ => ⟨S3x128, .f32⟩
  | .hbm, ⟨10, _⟩ => ⟨S3x128, .f32⟩
  | .hbm, ⟨11, _⟩ => ⟨S_, .f32⟩
  | .hbm, ⟨12, _⟩ => ⟨S3x128, .f32⟩
  | .hbm, ⟨13, _⟩ => ⟨S3x128, .f32⟩
  | .hbm, ⟨14, _⟩ => ⟨S3x128, .f32⟩
  | .hbm, ⟨15, _⟩ => ⟨S_, .f32⟩
  | .hbm, ⟨16, _⟩ => ⟨S3x128, .f32⟩
  | .hbm, ⟨17, _⟩ => ⟨S3x128, .f32⟩
  | .hbm, ⟨18, _⟩ => ⟨S3x128, .f32⟩
  | .hbm, ⟨19, _⟩ => ⟨S_, .f32⟩
  | .hbm, ⟨20, _⟩ => ⟨S3x128, .f32⟩
  | .hbm, ⟨21, _⟩ => ⟨S3x128, .f32⟩
  | .hbm, ⟨22, _⟩ => ⟨S_, .f32⟩
  | .hbm, ⟨23, _⟩ => ⟨S3x128, .f32⟩
  | .hbm, ⟨24, _⟩ => ⟨S3x128, .f32⟩
  | .hbm, ⟨25, _⟩ => ⟨S3x128, .f32⟩
  | .hbm, ⟨26, _⟩ => ⟨S_, .f32⟩
  | .hbm, ⟨27, _⟩ => ⟨S3x128, .f32⟩
  | .hbm, ⟨28, _⟩ => ⟨S3x128, .f32⟩
  | .hbm, ⟨29, _⟩ => ⟨S3x128, .f32⟩
  | .hbm, ⟨30, _⟩ => ⟨S_, .f32⟩
  | .hbm, ⟨31, _⟩ => ⟨S3x128, .f32⟩
  | .hbm, ⟨32, _⟩ => ⟨S3x128, .f32⟩
  | .hbm, ⟨33, _⟩ => ⟨S3x128, .f32⟩
  | .hbm, ⟨34, _⟩ => ⟨S_, .f32⟩
  | .hbm, ⟨35, _⟩ => ⟨S3x128, .f32⟩
  | .hbm, ⟨36, _⟩ => ⟨S3x128, .f32⟩
  | _, _ => ⟨S3x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel18.lean ====
abbrev S8x584x128 : Shape := ⟨3, ![8, 584, 128]⟩
abbrev S584x128 : Shape := ⟨2, ![584, 128]⟩
abbrev S1x584x128 : Shape := ⟨3, ![1, 584, 128]⟩

abbrev nBuf : Space → Nat
  | .hbm => 2
  | .vmem => 2
  | .smem => 0
  | _ => 0

abbrev bufTy : (tb : Table) → Fin (tcTables nBuf tb) → BufTy
  | .hbm, ⟨0, _⟩ => ⟨S8x584x128, .f32⟩
  | .hbm, ⟨1, _⟩ => ⟨S584x128, .f32⟩
  | .local _ .vmem, ⟨0, _⟩ => ⟨S8x584x128, .f32⟩
  | .local _ .vmem, ⟨1, _⟩ => ⟨S584x128, .f32⟩
  | _, _ => ⟨S8x584x128, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S8x584x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S584x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]
-- ==== Reference18Ideal.lean ====
abbrev S8x584x128 : Shape := ⟨3, ![8, 584, 128]⟩
abbrev S_ : Shape := ⟨0, ![]⟩
abbrev S584x128 : Shape := ⟨2, ![584, 128]⟩

abbrev nBuf : Space → Nat
  | .hbm => 3
  | .vmem => 0
  | .smem => 0
  | _ => 0

abbrev bufTy : (tb : Table) → Fin (tcTables nBuf tb) → BufTy
  | .hbm, ⟨0, _⟩ => ⟨S8x584x128, .f32⟩
  | .hbm, ⟨1, _⟩ => ⟨S_, .f32⟩
  | .hbm, ⟨2, _⟩ => ⟨S584x128, .f32⟩
  | _, _ => ⟨S8x584x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel19.lean ====
abbrev S8192x2048 : Shape := ⟨2, ![8192, 2048]⟩
abbrev S2048x1024 : Shape := ⟨2, ![2048, 1024]⟩
abbrev S8192x1024 : Shape := ⟨2, ![8192, 1024]⟩
abbrev S1x1024 : Shape := ⟨2, ![1, 1024]⟩
abbrev S8x128 : Shape := ⟨2, ![8, 128]⟩
abbrev S1024x2048 : Shape := ⟨2, ![1024, 2048]⟩
abbrev S1024x1024 : Shape := ⟨2, ![1024, 1024]⟩
abbrev S1x1 : Shape := ⟨2, ![1, 1]⟩
abbrev S256x1024 : Shape := ⟨2, ![256, 1024]⟩
abbrev S256 : Shape := ⟨1, ![256]⟩
abbrev S256x1 : Shape := ⟨2, ![256, 1]⟩
abbrev S1 : Shape := ⟨1, ![1]⟩
abbrev S1024 : Shape := ⟨1, ![1024]⟩

abbrev nBuf : Space → Nat
  | .hbm => 8
  | .vmem => 12
  | .smem => 0
  | _ => 0

abbrev bufTy : (tb : Table) → Fin (tcTables nBuf tb) → BufTy
  | .hbm, ⟨0, _⟩ => ⟨S8192x2048, .bf16⟩
  | .hbm, ⟨1, _⟩ => ⟨S2048x1024, .bf16⟩
  | .hbm, ⟨2, _⟩ => ⟨S8192x1024, .f32⟩
  | .hbm, ⟨3, _⟩ => ⟨S1x1024, .f32⟩
  | .hbm, ⟨4, _⟩ => ⟨S8192x1024, .f32⟩
  | .hbm, ⟨5, _⟩ => ⟨S8192x1024, .f32⟩
  | .hbm, ⟨6, _⟩ => ⟨S8x128, .f32⟩
  | .hbm, ⟨7, _⟩ => ⟨S1x1024, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S1024x1024, .f32⟩
  | .local _ .vmem, ⟨4, _⟩ => ⟨S1024x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | .local _ .vmem, ⟨10, _⟩ => ⟨S8x128, .f32⟩
  | .local _ .vmem, ⟨11, _⟩ => ⟨S1x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v189 : BitVec 1 := Scalar.cmpi .eq arg0 c0_i32
  let v190 : BitVec 32 := Scalar.extui v189
  let c0_i32_76 : BitVec 32 := 0#32
  let v191 : BitVec 1 := Scalar.cmpi .ne v190 c0_i32_76
  v191

def k0_cond2 (i : grid0.Coords) : BitVec 1 :=
  let arg0 : BitVec 32 := BitVec.ofNat 32 (i 0).val
  let c0_i32_77 : BitVec 32 := 0#32
  let v192 : BitVec 1 := Scalar.cmpi .sgt arg0 c0_i32_77
  let v193 : BitVec 32 := Scalar.extui v192
  let c0_i32_78 : BitVec 32 := 0#32
  let v194 : BitVec 1 := Scalar.cmpi .ne v193 c0_i32_78
  v194

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S8x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== Reference19Ideal.lean ====
abbrev S8192x2048 : Shape := ⟨2, ![8192, 2048]⟩
abbrev S2048x1024 : Shape := ⟨2, ![2048, 1024]⟩
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S1024 : Shape := ⟨1, ![1024]⟩
abbrev S8x128 : Shape := ⟨2, ![8, 128]⟩

abbrev nBuf : Space → Nat
  | .hbm => 75
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x1024, .bf16⟩
  | .hbm, ⟨2, _⟩ => ⟨S8192x1024, .f32⟩
  | .hbm, ⟨3, _⟩ => ⟨S1x1024, .f32⟩
  | .hbm, ⟨4, _⟩ => ⟨S8192x1024, .f32⟩
  | .hbm, ⟨5, _⟩ => ⟨S8192x2048, .f32⟩
  | .hbm, ⟨6, _⟩ => ⟨S2048x1024, .f32⟩
  | .hbm, ⟨7, _⟩ => ⟨S8192x1024, .f32⟩
  | .hbm, ⟨8, _⟩ => ⟨S8192x1024, .f32⟩
  | .hbm, ⟨9, _⟩ => ⟨S8192x1024, .f32⟩
  | .hbm, ⟨10, _⟩ => ⟨S_, .f32⟩
  | .hbm, ⟨11, _⟩ => ⟨S8192, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S8192x1, .f32⟩
  | .hbm, ⟨21, _⟩ => ⟨S_, .f32⟩
  | .hbm, ⟨22, _⟩ => ⟨S8192x1, .f32⟩
  | .hbm, ⟨23, _⟩ => ⟨S8192x1, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S_, .f32⟩
  | .hbm, ⟨31, _⟩ => ⟨S8192x1024, .f32⟩
  | .hbm, ⟨32, _⟩ => ⟨S8192x1024, .f32⟩
  | .hbm, ⟨33, _⟩ => ⟨S_, .f32⟩
  | .hbm, ⟨34, _⟩ => ⟨S8192, .f32⟩
  | .hbm, ⟨35, _⟩ => ⟨S_, .f32⟩
  | .hbm, ⟨36, _⟩ => ⟨S8192, .f32⟩
  | .hbm, ⟨37, _⟩ => ⟨S8192, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S8192, .f32⟩
  | .hbm, ⟨46, _⟩ => ⟨S_, .f32⟩
  | .hbm, ⟨47, _⟩ => ⟨S8192, .f32⟩
  | .hbm, ⟨48, _⟩ => ⟨S8192, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S_, .f32⟩
  | .hbm, ⟨53, _⟩ => ⟨S1024, .f32⟩
  | .hbm, ⟨54, _⟩ => ⟨S1x1024, .f32⟩
  | .hbm, ⟨55, _⟩ => ⟨S8192x1024, .f32⟩
  | .hbm, ⟨56, _⟩ => ⟨S8192x1024, .f32⟩
  | .hbm, ⟨57, _⟩ => ⟨S8192x1024, .f32⟩
  | .hbm, ⟨58, _⟩ => ⟨S_, .f32⟩
  | .hbm, ⟨59, _⟩ => ⟨S8192, .f32⟩
  | .hbm, ⟨60, _⟩ => ⟨S8192x1, .f32⟩
  | .hbm, ⟨61, _⟩ => ⟨S8192x1024, .f32⟩
  | .hbm, ⟨62, _⟩ => ⟨S8192x1024, .f32⟩
  | .hbm, ⟨63, _⟩ => ⟨S8192x1, .f32⟩
  | .hbm, ⟨64, _⟩ => ⟨S_, .f32⟩
  | .hbm, ⟨65, _⟩ => ⟨S8192x1, .f32⟩
  | .hbm, ⟨66, _⟩ => ⟨S8192x1, .f32⟩
  | .hbm, ⟨67, _⟩ => ⟨S_, .f32⟩
  | .hbm, ⟨68, _⟩ => ⟨S8192, .f32⟩
  | .hbm, ⟨69, _⟩ => ⟨S8192x1024, .f32⟩
  | .hbm, ⟨70, _⟩ => ⟨S8192x1024, .f32⟩
  | .hbm, ⟨71, _⟩ => ⟨S8192x1024, .f32⟩
  | .hbm, ⟨72, _⟩ => ⟨S8192x1024, .f32⟩
  | .hbm, ⟨73, _⟩ => ⟨S8192x1024, .f32⟩
  | .hbm, ⟨74, _⟩ => ⟨S8x128, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_cst_5 : Ref sig .tc := ⟨.hbm, 35, rfl⟩
abbrev main_v24 : Ref sig .tc := ⟨.hbm, 36, rfl⟩
abbrev main_v25 : Ref sig .tc := ⟨.hbm, 37, rfl⟩
abbrev main_cst_6 : Ref sig .tc := ⟨.hbm, 38, rfl⟩
abbrev main_v26 : Ref sig .tc := ⟨.hbm, 39, rfl⟩
abbrev main_cst_7 : Ref sig .tc := ⟨.hbm, 40, rfl⟩
abbrev main_v27 : Ref sig .tc := ⟨.hbm, 41, rfl⟩
abbrev main_cst_8 : Ref sig .tc := ⟨.hbm, 42, rfl⟩
abbrev main_cst_9 : Ref sig .tc := ⟨.hbm, 43, rfl⟩
abbrev main_v28 : Ref sig .tc := ⟨.hbm, 44, rfl⟩
abbrev main_v29 : Ref sig .tc := ⟨.hbm, 45, rfl⟩
abbrev main_cst_10 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst_11 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_12 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_cst_13 : Ref sig .tc := ⟨.hbm, 64, rfl⟩
abbrev main_v45 : Ref sig .tc := ⟨.hbm, 65, rfl⟩
abbrev main_v46 : Ref sig .tc := ⟨.hbm, 66, rfl⟩
abbrev main_cst_14 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩

abbrev nD : Nat := 1
abbrev τ : Topo := Topo.v7x

variable {F : FTy → Type} [FloatOps F]
-- ==== Proof.Sums.lean ====
/-
  Helpers shared by the value proofs: a matrix product's entry as a sum over its contracted coordinate.
-/
module

public import Idealize.ShloMosaic.Lib.ValueIdx
public import Idealize.ShloMosaic.Lib.Pipeline.Value
public import Idealize.ShloMosaic.PureOps.Ideal.Laws

@[expose] public section

noncomputable section

namespace Cert.Proof.Sums

open Idealize.ShloMosaic

/-- An entry of a matrix product with one contracted axis of extent `n`: the accumulator's entry plus the sum over the contracted
    coordinate, the operands' indices named by `L` and `R`. -/
theorem matmul_sum {sl sr so : Shape} {φ₁ φ₂ : FTy} (d : DotDims sl sr so) (n : ℕ) (hr : d.contr.rank = 1)
    (hs : d.contr.size ⟨0, by omega⟩ = n) (lhs : FVec Ideal sl φ₁) (rhs : FVec Ideal sr φ₂) (acc : FVec Ideal so .f32) (j : so.Idx)
    (L : Fin n → sl.Idx) (R : Fin n → sr.Idx)
    (hL : ∀ (q : d.contr.Idx) (k : Fin n), (q ⟨0, by omega⟩).val = k.val → ∀ a, (d.lhsIdx j q a).val = (L k a).val)
    (hR : ∀ (q : d.contr.Idx) (k : Fin n), (q ⟨0, by omega⟩).val = k.val → ∀ a, (d.rhsIdx j q a).val = (R k a).val) :
    matmul d none lhs rhs acc j = acc j + ∑ k : Fin n, lhs (L k) * rhs (R k) := by
  show acc j + ∑ q : d.contr.Idx, lhs (d.lhsIdx j q) * rhs (d.rhsIdx j q) = _
  rw [← Equiv.sum_comp (ValueIdx.contrEquiv1 d n hr hs).symm]
  congr 1
  refine Finset.sum_congr rfl fun k _ => ?_
  have hk := ValueIdx.contrEquiv1_symm_val d n hr hs k
  rw [show d.lhsIdx j ((ValueIdx.contrEquiv1 d n hr hs).symm k) = L k from funext fun a => Fin.ext (hL _ k hk a),
    show d.rhsIdx j ((ValueIdx.contrEquiv1 d n hr hs).symm k) = R k from funext fun a => Fin.ext (hR _ k hk a)]

end Cert.Proof.Sums

end
-- ==== Proof.OutProjPay.lean ====
/-
  The output projection's gradient, read at the extended reals: what each payload of the kernel's body holds at an index.
-/
module

public import proofs.«01_k».proof.Defs
public import proofs.«01_k».proof.Proof.Sums
public import proofs.«01_k».proof.Proof.Gen.Kernel2Ideal.Skeleton
public import Idealize.ShloMosaic.Lib.Tactic

@[expose] public section

noncomputable section

namespace Cert.Proof.OutProj

open Idealize.ShloMosaic Idealize.ShloMosaic.TcCoe Idealize.SL.Sem
open Cert.Kernel2Ideal Cert.Kernel2Ideal.Gen Cert.Proof.Sums Idealize.ShloMosaic.ValueIdx

/-- A row block times the weight, at an entry: the sum over the model's channels. -/
theorem pay2_apply (v0 : Vec Ideal S512x1024 .f32) (v2 : Vec Ideal S1024x2048 .bf16) (j : S512x2048.Idx) :
    k0_pay2 (F := Ideal) v0 v2 j = ∑ k : Fin 1024, v0 (ix2 (j 0) k) * v2 (ix2 k (j 1)) := by
  unfold k0_pay2
  rw [truncf_apply, shapeCast_self, matmul_sum dot_S512x1024_S1024x2048_S512x2048_1_0_0_1_n_n 1024 rfl rfl _ _ _ j
    (fun k => ix2 (j 0) k) (fun k => ix2 k (j 1))
    (fun q k hk a => by
      match a with
      | ⟨0, _⟩ => rfl
      | ⟨1, _⟩ => exact (dot_S512x1024_S1024x2048_S512x2048_1_0_0_1_n_n.lhsIdx_val_of_single rfl j q).trans hk)
    (fun q k hk a => by
      match a with
      | ⟨0, _⟩ => exact (dot_S512x1024_S1024x2048_S512x2048_1_0_0_1_n_n.rhsIdx_val_of_single rfl j q).trans hk
      | ⟨1, _⟩ => rfl), constant_apply, Ideal.ofBits_zero_f32, zero_add]
  rfl

/-- The zero block the accumulator starts from. -/
theorem pay3_apply (j : S2048x1024.Idx) : k0_pay3 (F := Ideal) j = 0 := by
  unfold k0_pay3
  rw [shapeCast_self]
  exact Ideal.ofBits_zero_f32

/-- The accumulator's left half with the point's product added: columns `0 … 511` of the row block. -/
theorem pay4_apply (v0 : Vec Ideal S512x1024 .f32) (v10 : Vec Ideal S2048x512 .f32) (v11 : Vec Ideal S512x2048 .bf16) (j : S2048x512.Idx) :
    k0_pay4 (F := Ideal) v0 v10 v11 j
      = v10 j + ∑ k : Fin 512, v11 (ix2 k (j 0)) * v0 (ix2 k (Fin.mk (j 1).val (lt_of_lt_of_le (j 1).isLt (by decide)))) := by
  unfold k0_pay4
  rw [shapeCast_self, addf_apply, matmul_sum dot_S512x2048_S512x512_S2048x512_0_0_1_1_n_n 512 rfl rfl _ _ _ j
    (fun k => ix2 k (j 0)) (fun k => ix2 k (j 1))
    (fun q k hk a => by
      match a with
      | ⟨0, _⟩ => exact (dot_S512x2048_S512x512_S2048x512_0_0_1_1_n_n.lhsIdx_val_of_single rfl j q).trans hk
      | ⟨1, _⟩ => rfl)
    (fun q k hk a => by
      match a with
      | ⟨0, _⟩ => exact (dot_S512x2048_S512x512_S2048x512_0_0_1_1_n_n.rhsIdx_val_of_single rfl j q).trans hk
      | ⟨1, _⟩ => rfl), constant_apply, Ideal.ofBits_zero_f32, zero_add]
  congr 1
  refine Finset.sum_congr rfl fun k _ => ?_
  congr 1
  show v0 _ = v0 _
  congr 1
  funext a
  match a with
  | ⟨0, _⟩ => exact Fin.ext (show 0 + k.val = k.val by omega)
  | ⟨1, _⟩ => exact Fin.ext (show 0 + (j 1).val = (j 1).val by omega)

/-- The accumulator's right half with the point's product added: columns `512 … 1023` of the row block. -/
theorem pay5_apply (v0 : Vec Ideal S512x1024 .f32) (v18 : Vec Ideal S2048x512 .f32) (v19 : Vec Ideal S512x2048 .bf16) (j : S2048x512.Idx) :
    k0_pay5 (F := Ideal) v0 v18 v19 j
      = v18 j + ∑ k : Fin 512, v19 (ix2 k (j 0)) * v0 (ix2 k (Fin.mk (512 + (j 1).val) (Nat.add_lt_add_left (show (j 1).val < 512 from (j 1).isLt) 512))) := by
  unfold k0_pay5
  rw [shapeCast_self, addf_apply, matmul_sum dot_S512x2048_S512x512_S2048x512_0_0_1_1_n_n 512 rfl rfl _ _ _ j
    (fun k => ix2 k (j 0)) (fun k => ix2 k (j 1))
    (fun q k hk a => by
      match a with
      | ⟨0, _⟩ => exact (dot_S512x2048_S512x512_S2048x512_0_0_1_1_n_n.lhsIdx_val_of_single rfl j q).trans hk
      | ⟨1, _⟩ => rfl)
    (fun q k hk a => by
      match a with
      | ⟨0, _⟩ => exact (dot_S512x2048_S512x512_S2048x512_0_0_1_1_n_n.rhsIdx_val_of_single rfl j q).trans hk
      | ⟨1, _⟩ => rfl), constant_apply, Ideal.ofBits_zero_f32, zero_add]
  congr 1
  refine Finset.sum_congr rfl fun k _ => ?_
  congr 1
  show v0 _ = v0 _
  congr 1
  funext a
  match a with
  | ⟨0, _⟩ => exact Fin.ext (show 0 + k.val = k.val by omega)
  | ⟨1, _⟩ => rfl

end Cert.Proof.OutProj

end
-- ==== Proof.OutProjRun.lean ====
/-
  The output projection's gradient, the kernel's run read at the extended reals: what each grid point leaves in the carried
  accumulator and in the two result blocks, and the two result arrays after the run.
-/
module

public import proofs.«01_k».proof.Proof.OutProjPay
public import proofs.«01_k».proof.Proof.Gen.Kernel2Ideal.Value
public import Idealize.ShloMosaic.Lib.Pipeline.ValueKit.Acc
public import Idealize.ShloMosaic.Lib.Pipeline.ValueKit.Tiles
public import Idealize.ShloMosaic.Lib.Pipeline.ValueKit.Geometry
public import Idealize.ShloMosaic.Lib.Pipeline.ReadBack
public import Idealize.ShloMosaic.Lib.Tactic

@[expose] public section

noncomputable section

namespace Cert.Proof.OutProj

open Idealize.ShloMosaic Idealize.ShloMosaic.TcCoe Idealize.SL.Sem
open Cert.Kernel2Ideal Cert.Kernel2Ideal.Gen Cert.Proof.Sums Idealize.ShloMosaic.ValueIdx
open Idealize.ShloMosaic.Pipeline (Dat Cfg Window)

variable (m : (ℓ : Loc nD τ sig) → Buf (Elt Ideal) ℓ) (ρ : Dev nD → PrngReg)

/-- Two stores, the right half over the left half over anything, leave the function both are halves of. -/
theorem halves (G : S2048x1024.Idx → EReal) (w5 w4 : S2048x512.Idx → EReal) (L' : List (View.Piece (Elt Ideal) S2048x1024 .f32))
    (h5 : ∀ x : S2048x512.Idx, w5 x = G (ix2 (x 0) (Fin.mk (512 + (x 1).val) (Nat.add_lt_add_left (show (x 1).val < 512 from (x 1).isLt) 512))))
    (h4 : ∀ x : S2048x512.Idx, w4 x = G (ix2 (x 0) (Fin.mk (x 1).val (lt_of_lt_of_le (x 1).isLt (by decide))))) :
    View.canon (Val := Elt Ideal) (s := S2048x1024) (e := .f32)
      ((⟨Rect.unit ![0, 512] ![2048, 512] inb_S2048x1024_S2048x512_0_512, w5⟩ : View.Piece (Elt Ideal) S2048x1024 .f32)
        :: (⟨Rect.unit ![0, 0] ![2048, 512] inb_S2048x1024_S2048x512_0_0, w4⟩ : View.Piece (Elt Ideal) S2048x1024 .f32) :: L') = G := by
  funext y
  have hy0 : (y 0).val < 2048 := (y 0).isLt
  have hy1 : (y 1).val < 1024 := (y 1).isLt
  refine View.canon_append_of_pieces (Val := Elt Ideal) (e := .f32) G L' [⟨Rect.unit ![0, 512] ![2048, 512] inb_S2048x1024_S2048x512_0_512, w5⟩,
    ⟨Rect.unit ![0, 0] ![2048, 512] inb_S2048x1024_S2048x512_0_0, w4⟩] ?_ y ?_
  · intro p hp x
    rcases List.mem_cons.mp hp with rfl | hp
    · refine (h5 x).trans (congrArg G (funext fun a => Fin.ext ?_))
      match a with
      | ⟨0, _⟩ => show (x 0).val = 0 + 1 * (x 0).val; omega
      | ⟨1, _⟩ => show 512 + (x 1).val = 512 + 1 * (x 1).val; omega
    · obtain rfl := List.mem_singleton.mp hp
      refine (h4 x).trans (congrArg G (funext fun a => Fin.ext ?_))
      match a with
      | ⟨0, _⟩ => show (x 0).val = 0 + 1 * (x 0).val; omega
      | ⟨1, _⟩ => show (x 1).val = 0 + 1 * (x 1).val; omega
  · by_cases h : 512 ≤ (y 1).val
    · refine ⟨_, List.mem_cons_self, ?_⟩
      rw [Rect.mem_set_unit]
      intro a
      match a with
      | ⟨0, _⟩ => exact ⟨Nat.zero_le _, by show (y 0).val < 0 + 2048; omega⟩
      | ⟨1, _⟩ => exact ⟨h, by show (y 1).val < 512 + 512; omega⟩
    · refine ⟨_, List.mem_cons_of_mem _ List.mem_cons_self, ?_⟩
      rw [Rect.mem_set_unit]
      intro a
      match a with
      | ⟨0, _⟩ => exact ⟨Nat.zero_le _, by show (y 0).val < 0 + 2048; omega⟩
      | ⟨1, _⟩ => exact ⟨Nat.zero_le _, by show (y 1).val < 0 + 512; omega⟩

/-- A load of the right half. -/
theorem ld_right (X : S2048x1024.Idx → EReal) (x : S2048x512.Idx) :
    View.ld (Val := Elt Ideal) (e' := .f32) (S := S2048x1024) X (Rect.unit ![0, 512] ![2048, 512] inb_S2048x1024_S2048x512_0_512) x
      = X (ix2 (x 0) (Fin.mk (512 + (x 1).val) (Nat.add_lt_add_left (show (x 1).val < 512 from (x 1).isLt) 512))) := by
  refine congrArg X (funext fun a => Fin.ext ?_)
  match a with
  | ⟨0, _⟩ => show 0 + 1 * (x 0).val = (x 0).val; omega
  | ⟨1, _⟩ => show 512 + 1 * (x 1).val = 512 + (x 1).val; omega

/-- A load of the left half. -/
theorem ld_left (X : S2048x1024.Idx → EReal) (x : S2048x512.Idx) :
    View.ld (Val := Elt Ideal) (e' := .f32) (S := S2048x1024) X (Rect.unit ![0, 0] ![2048, 512] inb_S2048x1024_S2048x512_0_0) x
      = X (ix2 (x 0) (Fin.mk (x 1).val (lt_of_lt_of_le (x 1).isLt (by decide)))) := by
  refine congrArg X (funext fun a => Fin.ext ?_)
  match a with
  | ⟨0, _⟩ => show 0 + 1 * (x 0).val = (x 0).val; omega
  | ⟨1, _⟩ => show 0 + 1 * (x 1).val = (x 1).val; omega

/-- The row block of `dx` that point `t` sees. -/
def dxBlk (c : Dev nD) (t : Fin cfg0.N) : S512x1024.Idx → EReal := iblk m c 0 t

/-- The row block of `y` that point `t` sees. -/
def yBlk (c : Dev nD) (t : Fin cfg0.N) : S512x2048.Idx → EReal := iblk m c 2 t

/-- What point `t` adds to the accumulator: its row block of `y`, transposed, times its row block of `dx`. -/
def part (c : Dev nD) (t : Fin cfg0.N) : S2048x1024.Idx → EReal := fun j =>
  ∑ k : Fin 512, yBlk m c t (ix2 k (j 0)) * dxBlk m c t (ix2 k (j 1))

/-- The first point leaves its own part over zero. -/
theorem acc_A (c : Dev nD) (t : Fin cfg0.N) (h0 : t.val % 16 = 0) (j : S2048x1024.Idx) :
    (outsAt0 m c t.val t.isLt).2.2 j = 0 + part m c t j := by
  rw [outsAt0_A m c t h0 (by omega)]
  frame_out
  refine congrFun (halves (fun j => 0 + part m c t j) _ _ _ (fun x => ?_) (fun x => ?_)) j
  · refine (pay5_apply _ _ _ x).trans (congrArg₂ (· + ·) ?_ rfl)
    rw [View.readCov_skip _ _ _ _ _ (by decide), View.readCov_fill _ _ _ _ _ (by decide)]
    exact (ld_right _ x).trans (pay3_apply _)
  · refine (pay4_apply _ _ _ x).trans (congrArg₂ (· + ·) ?_ rfl)
    rw [View.readCov_fill _ _ _ _ _ (by decide)]
    exact (ld_left _ x).trans (pay3_apply _)

/-- Every later point adds its part to what the point before left. -/
theorem acc_step (c : Dev nD) (t : Fin cfg0.N) (h0 : ¬t.val % 16 = 0) (j : S2048x1024.Idx) :
    (outsAt0 m c t.val t.isLt).2.2 j
      = (outsAt0 m c (t.val - 1) (Nat.lt_of_le_of_lt (Nat.sub_le _ _) t.isLt)).2.2 j + part m c t j := by
  by_cases h1 : t.val % 16 = 15
  · rw [outsAt0_C m c t h0 h1]
    frame_out
    simp only [read_unread_whole]
    refine congrFun (halves (fun j => (outsAt0 m c (t.val - 1) (Nat.lt_of_le_of_lt (Nat.sub_le _ _) t.isLt)).2.2 j + part m c t j) _ _ _
      (fun x => ?_) (fun x => ?_)) j
    · exact (pay5_apply _ _ _ x).trans (congrArg₂ (· + ·) (ld_right _ x) rfl)
    · exact (pay4_apply _ _ _ x).trans (congrArg₂ (· + ·) (ld_left _ x) rfl)
  · rw [outsAt0_B m c t h0 h1]
    frame_out
    simp only [read_unread_whole]
    refine congrFun (halves (fun j => (outsAt0 m c (t.val - 1) (Nat.lt_of_le_of_lt (Nat.sub_le _ _) t.isLt)).2.2 j + part m c t j) _ _ _
      (fun x => ?_) (fun x => ?_)) j
    · exact (pay5_apply _ _ _ x).trans (congrArg₂ (· + ·) (ld_right _ x) rfl)
    · exact (pay4_apply _ _ _ x).trans (congrArg₂ (· + ·) (ld_left _ x) rfl)

/-- The accumulator after the last point: the sum of every point's part. -/
theorem acc_last (c : Dev nD) (j : S2048x1024.Idx) :
    (outsAt0 m c 15 (lt_of_lt_of_eq (by decide) N_0.symm)).2.2 j = ∑ p : Fin cfg0.N, part m c p j :=
  (Pipeline.eq_sum_fin_of_reset_step_apply_last (fun n h => (outsAt0 m c n h).2.2) 16 (fun _ => 0) (part m c)
    (acc_A m c) (acc_step m c) (le_of_eq N_0) ⟨15, lt_of_lt_of_eq (by decide) N_0.symm⟩ N_0.symm j).trans (zero_add _)

/-- The whole accumulator, read back and narrowed, is what its stores leave. -/
theorem pay6_whole (v : View sig .tc .vmem S2048x1024 .f32) (L : List (View.Piece (Elt Ideal) S2048x1024 .f32)) (j : S2048x1024.Idx) :
    k0_pay6 (F := Ideal) (v.readCov L (Rect.unit (s := S2048x1024) ![0, 0] ![2048, 1024] inb_S2048x1024_S2048x1024_0_0).toLoadRect) j
      = View.canon (Val := Elt Ideal) (s := S2048x1024) (e := .f32) L j := by
  unfold k0_pay6
  rw [View.readCov_eq_canon']
  refine congrArg (View.canon (Val := Elt Ideal) (s := S2048x1024) (e := .f32) L) (funext fun a => Fin.ext ?_)
  match a with
  | ⟨0, _⟩ => show 0 + 1 * (j 0).val = (j 0).val; omega
  | ⟨1, _⟩ => show 0 + 1 * (j 1).val = (j 1).val; omega

/-- The last point writes the accumulator back as the weight's gradient. -/
theorem out4_last (c : Dev nD) (t : Fin cfg0.N) (h1 : t.val % 16 = 15) (j : S2048x1024.Idx) :
    (outsAt0 m c t.val t.isLt).2.1 j = (outsAt0 m c t.val t.isLt).2.2 j := by
  rw [outsAt0_C m c t (by omega) h1]
  frame_out
  exact pay6_whole _ _ j

/-- Every point writes its row block of the gradient of `y`. -/
theorem out3 (c : Dev nD) (t : Fin cfg0.N) :
    (outsAt0 m c t.val t.isLt).1 = k0_pay2 (F := Ideal) (iblk m c 0 t) (iblk m c 1 t) := by
  by_cases h0 : t.val % 16 = 0
  · rw [outsAt0_A m c t h0 (by omega)]
    frame_out
  · by_cases h1 : t.val % 16 = 15
    · rw [outsAt0_C m c t h0 h1]
      frame_out
    · rw [outsAt0_B m c t h0 h1]
      frame_out

end Cert.Proof.OutProj

end
-- ==== Proof.OutProj.lean ====
/-
  The output projection's gradient: the kernel's two result arrays are the reference's two products, element by element,
  and the claim that the two runs end at the same arrays.
-/
module

public import proofs.«01_k».proof.Proof.OutProjRun
public import proofs.«01_k».proof.Proof.Gen.Reference2Ideal.Read
public import Idealize.ShloMosaic.Lib.Pipeline.ValueKit.Point
public import Idealize.ShloMosaic.Lib.Claim

@[expose] public section

noncomputable section

namespace Cert.Proof.OutProj

open Idealize.ShloMosaic hiding ix2
open Idealize.ShloMosaic.TcCoe Idealize.SL.Sem
open Cert.Kernel2Ideal Cert.Kernel2Ideal.Gen Cert.Kernel2Ideal.Value Cert.Proof.Sums Idealize.ShloMosaic.ValueIdx
open Idealize.ShloMosaic.Pipeline (Dat Cfg Window)

variable (m : (ℓ : Loc nD τ sig) → Buf (Elt Ideal) ℓ) (ρ : Dev nD → PrngReg)

/-- Where the windows' blocks lie, decided over the grid. -/
theorem idx : ∀ t : Fin cfg0.N, win0_0.index t = ![t.val, 0] ∧ win0_1.index t = ![0, 0] ∧ win0_2.index t = ![t.val, 0] :=
  (by decide +kernel : ∀ t : Fin grid0.N, _)

/-- A row of the block of `dx` is the row of the array. -/
theorem dxBlk_apply (c : Dev nD) (t : Fin cfg0.N) (k : Fin 512) (j : Fin 1024) :
    dxBlk m c t (ix2 k j) = m (((c : Thread nD τ)).loc main_arg0) (ix2 (Fin.mk (t.val * 512 + k.val) (by have := lt_of_lt_of_eq t.isLt N_0; omega)) j) := by
  unfold dxBlk
  blk_ext [iblk, V, idx t]

/-- A row of the block of `y` is the row of the array. -/
theorem yBlk_apply (c : Dev nD) (t : Fin cfg0.N) (k : Fin 512) (j : Fin 2048) :
    yBlk m c t (ix2 k j) = m (((c : Thread nD τ)).loc main_arg2) (ix2 (Fin.mk (t.val * 512 + k.val) (by have := lt_of_lt_of_eq t.isLt N_0; omega)) j) := by
  unfold yBlk
  blk_ext [iblk, V, idx t]

/-- The weight's block, whole and transposed by the host. -/
def wBlk (c : Dev nD) (t : Fin cfg0.N) : S1024x2048.Idx → EReal := iblk m c 1 t

/-- The weight's block at an index is the weight at the swapped index. -/
theorem wBlk_apply (c : Dev nD) (t : Fin cfg0.N) (k : Fin 1024) (j : Fin 2048) :
    wBlk m c t (ix2 k j) = m (((c : Thread nD τ)).loc main_arg1) (ix2 j k) := by
  unfold wBlk iblk
  rw [View.read_apply]
  entry_read
  pointwise
  blk_ext [iblk, V, idx t]

/-- The gradient of `y` the kernel leaves is the reference's. -/
theorem dy_eq (c : Dev nD) :
    G3 m c = (Cert.Reference2Ideal.Read.val_main_v6 (F := Ideal) (m (((c : Thread nD τ)).loc main_arg0)) (m (((c : Thread nD τ)).loc main_arg1))
      : S8192x2048.Idx → EReal) := by
  funext i
  have hi0 : (i 0).val < 8192 := (i 0).isLt
  have hi1 : (i 1).val < 2048 := (i 1).isLt
  have hp : pt3Of i = (i 0).val / 512 := by
    show 1 * ((i 0).val / 512 - 0) + 1 * ((i 1).val / 2048 - 0) = _
    omega
  have hlt : pt3Of i < cfg0.N := lt_of_lt_of_eq (by omega) N_0.symm
  have h := out3 m c ⟨pt3Of i, hlt⟩
  rw [outsAt0_sweep] at h
  unfold G3
  rw [dif_pos hlt, h]
  refine (pay2_apply _ _ (loc3Of i)).trans ?_
  refine Eq.trans ?_ (Cert.Reference2Ideal.Read.val_main_v5_apply _ _ i).symm
  refine Finset.sum_congr rfl fun k _ => ?_
  refine congrArg₂ (· * ·) ((dxBlk_apply m c ⟨pt3Of i, hlt⟩ _ k).trans (congrArg _ (funext fun a => Fin.ext ?_)))
    ((wBlk_apply m c ⟨pt3Of i, hlt⟩ k _).trans (congrArg _ (funext fun a => Fin.ext ?_)))
  · match a with
    | ⟨0, _⟩ => show pt3Of i * 512 + (i 0).val % 512 = (i 0).val; omega
    | ⟨1, _⟩ => rfl
  · match a with
    | ⟨0, _⟩ => show (i 1).val % 2048 = (i 1).val; omega
    | ⟨1, _⟩ => rfl

/-- The gradient of the weight the kernel leaves is the reference's. -/
theorem dw_eq (c : Dev nD) :
    G4 m c = (Cert.Reference2Ideal.Read.val_main_v7 (F := Ideal) (m (((c : Thread nD τ)).loc main_arg0)) (m (((c : Thread nD τ)).loc main_arg2))
      : S2048x1024.Idx → EReal) := by
  rw [G4_last, ← outsAt0_sweep m c 15 (lt_of_lt_of_eq (by decide) N_0.symm)]
  funext i
  refine ((out4_last m c ⟨15, lt_of_lt_of_eq (by decide) N_0.symm⟩ rfl i).trans (acc_last m c i)).trans ?_
  refine Eq.trans ?_ ((Cert.Reference2Ideal.Read.val_main_v4_apply _ _ i).trans (Cert.Reference2Ideal.Read.val_main_v3_apply _ _ _)).symm
  refine Fin.sum_mul_add_congr (fun s k hl => ?_)
  refine (mul_comm _ _).trans (congrArg₂ (· * ·) ((dxBlk_apply m c s k (i 1)).trans (congrArg _ (funext fun a => Fin.ext ?_)))
    ((yBlk_apply m c s k (i 0)).trans (congrArg _ (funext fun a => Fin.ext ?_))))
  · match a with
    | ⟨0, _⟩ => rfl
    | ⟨1, _⟩ => rfl
  · match a with
    | ⟨0, _⟩ => rfl
    | ⟨1, _⟩ => rfl

/-- The output projection's gradient: from the same arguments the kernel and the reference end at the same two arrays. -/
theorem algebraic : Cert.algebraic_Kernel2Ideal_Reference2Ideal (hKernel2Ideal := Cert.Kernel2Ideal.Gen.facts)
    (hReference2Ideal := Cert.Reference2Ideal.Gen.facts) := by
  intro m g m' g' _ hargs
  refine ⟨fun c => G3 m c, fun c => G4 m c, Cert.Kernel2Ideal.Value.run m g, ?_⟩
  refine (θ_run _ _ _).mono (fun r h c => ?_) (Cert.Reference2Ideal.Value.run (F := Ideal) m' g')
  obtain ⟨h6, h7, h0, h1, h2⟩ := h c
  obtain ⟨e0, e1, e2⟩ := hargs c
  exact ⟨h6.trans ((Cert.Reference2Ideal.Read.val_main_v6_eq _ _).trans
      ((congrArg₂ (Cert.Reference2Ideal.Read.val_main_v6 (F := Ideal)) e0 e1).trans (dy_eq m c).symm)),
    h7.trans ((Cert.Reference2Ideal.Read.val_main_v7_eq _ _).trans
      ((congrArg₂ (Cert.Reference2Ideal.Read.val_main_v7 (F := Ideal)) e0 e2).trans (dw_eq m c).symm)), h0, h1, h2⟩

/-- The reference's run leaves its arguments alone; it declares no counter. -/
theorem frame_reference : Cert.quiescent_Reference2Ideal (hReference2Ideal := Cert.Reference2Ideal.Gen.facts) := fun m g _ =>
  (θ_run Cert.Reference2Ideal.defs _ _).mono (fun r h => ⟨fun c => (h c).2.2, sem_eq_zero_of_no_sems (by decide) r.2⟩)
    (Cert.Reference2Ideal.Value.run (F := Ideal) m g)

end Cert.Proof.OutProj

end
-- ==== Proof.EvenDw.lean ====
/-
  The gradient of the even layer's input weight: what the kernel's accumulation over row blocks leaves is the reference's one
  contraction over all rows, element by element, and the claim that the two runs end at the same array.
-/
module

public import proofs.«01_k».proof.Proof.Sums
public import proofs.«01_k».proof.Defs
public import proofs.«01_k».proof.Proof.Gen.Kernel3Ideal.Value
public import proofs.«01_k».proof.Proof.Gen.Reference3Ideal.Run
public import proofs.«01_k».proof.Proof.Gen.Reference3Ideal.Read
public import Idealize.ShloMosaic.Lib.Pipeline.ValueKit.Acc
public import Idealize.ShloMosaic.Lib.Pipeline.ValueKit.Point
public import Idealize.ShloMosaic.Lib.Pipeline.ReadBack
public import Idealize.ShloMosaic.Lib.Claim
public import Idealize.ShloMosaic.Lib.Tactic

@[expose] public section

noncomputable section

namespace Cert.Proof.EvenDw

open Idealize.ShloMosaic hiding ix2
open Idealize.ShloMosaic.TcCoe Idealize.SL.Sem
open Cert.Kernel3Ideal Cert.Kernel3Ideal.Gen Cert.Kernel3Ideal.Value Cert.Proof.Sums Idealize.ShloMosaic.ValueIdx
open Idealize.ShloMosaic.Pipeline (Dat Cfg Window)

variable (m : (ℓ : Loc nD τ sig) → Buf (Elt Ideal) ℓ) (ρ : Dev nD → PrngReg)

/-- The zero block the accumulator starts from. -/
theorem pay1_apply (j : S1024x1024.Idx) : k0_pay1 (F := Ideal) j = 0 := by
  unfold k0_pay1
  rw [shapeCast_self]
  exact Ideal.ofBits_zero_f32

/-- The accumulator with a block product added. -/
theorem pay2_apply (v11 : Vec Ideal S1024x1024 .f32) (v12 : Vec Ideal S1024x2048 .bf16) (v14 : Vec Ideal S2048x1024 .bf16)
    (j : S1024x1024.Idx) :
    k0_pay2 (F := Ideal) v11 v12 v14 j = v11 j + ∑ k : Fin 2048, v12 (ix2 (j 0) k) * v14 (ix2 k (j 1)) := by
  unfold k0_pay2
  rw [shapeCast_self, addf_apply, shapeCast_self, matmul_sum dot_S1024x2048_S2048x1024_S1024x1024_1_0_0_1_n_n 2048 rfl rfl _ _ _ j
    (fun k => ix2 (j 0) k) (fun k => ix2 k (j 1))
    (fun q k hk a => by
      match a with
      | ⟨0, _⟩ => rfl
      | ⟨1, _⟩ => exact (dot_S1024x2048_S2048x1024_S1024x1024_1_0_0_1_n_n.lhsIdx_val_of_single rfl j q).trans hk)
    (fun q k hk a => by
      match a with
      | ⟨0, _⟩ => exact (dot_S1024x2048_S2048x1024_S1024x1024_1_0_0_1_n_n.rhsIdx_val_of_single rfl j q).trans hk
      | ⟨1, _⟩ => rfl), constant_apply, Ideal.ofBits_zero_f32, zero_add]

/-- The block of the transposed activations that point `t` sees. -/
def hBlk (c : Dev nD) (t : Fin cfg0.N) : S1024x2048.Idx → EReal := iblk m c 0 t

/-- The block of the cotangent that point `t` sees. -/
def zBlk (c : Dev nD) (t : Fin cfg0.N) : S2048x1024.Idx → EReal := iblk m c 1 t

/-- What point `t` adds to the accumulator. -/
def part (c : Dev nD) (t : Fin cfg0.N) : S1024x1024.Idx → EReal := fun j =>
  ∑ k : Fin 2048, hBlk m c t (ix2 (j 0) k) * zBlk m c t (ix2 k (j 1))

/-- A point that starts a column block leaves its own part over zero. -/
theorem acc_A (c : Dev nD) (t : Fin cfg0.N) (h0 : t.val % 4 = 0) (j : S1024x1024.Idx) :
    (outsAt0 m c t.val t.isLt).2 j = 0 + part m c t j := by
  rw [outsAt0_A m c t h0 (by omega)]
  frame_out
  exact (pay2_apply _ _ _ j).trans (congrArg₂ (· + ·) (pay1_apply j) rfl)

/-- Every other point adds its part to what the point before left. -/
theorem acc_step (c : Dev nD) (t : Fin cfg0.N) (h0 : ¬t.val % 4 = 0) (j : S1024x1024.Idx) :
    (outsAt0 m c t.val t.isLt).2 j
      = (outsAt0 m c (t.val - 1) (Nat.lt_of_le_of_lt (Nat.sub_le _ _) t.isLt)).2 j + part m c t j := by
  by_cases h2 : t.val % 4 = 3
  · rw [outsAt0_C m c t h0 h2]
    frame_out
    simp only [read_unread_whole]
    exact (pay2_apply _ _ _ j)
  · rw [outsAt0_B m c t h0 h2]
    frame_out
    simp only [read_unread_whole]
    exact (pay2_apply _ _ _ j)

/-- The accumulator at a point that writes back: the four parts of its column block. -/
theorem acc_last (c : Dev nD) (t : Fin cfg0.N) (h2 : t.val % 4 = 3) (j : S1024x1024.Idx) :
    (outsAt0 m c t.val t.isLt).2 j
      = ∑ s : Fin 4, part m c ⟨4 * (t.val / 4) + s.val, Pipeline.run_point_lt_of_flush t h2 s⟩ j :=
  (Pipeline.eq_sum_fin_of_reset_step_apply_of_flush (fun n h => (outsAt0 m c n h).2) 4 (fun _ => 0) (part m c)
    (acc_A m c) (acc_step m c) t h2 j).trans (zero_add _)

/-- A point that writes back leaves the accumulator in the result's block. -/
theorem out_last (c : Dev nD) (t : Fin cfg0.N) (h2 : t.val % 4 = 3) (j : S1024x1024.Idx) :
    (outsAt0 m c t.val t.isLt).1 j = (outsAt0 m c t.val t.isLt).2 j := by
  rw [outsAt0_C m c t (by omega) h2]
  frame_out
  rfl

/-- Where the windows' blocks lie, decided over the grid. -/
theorem idx : ∀ t : Fin cfg0.N, win0_0.index t = ![0, t.val % 4] ∧ win0_1.index t = ![t.val % 4, t.val / 4] :=
  (by decide +kernel : ∀ t : Fin grid0.N, _)

/-- An entry of a block of the transposed activations is the activations' at the swapped index. -/
theorem hBlk_apply (c : Dev nD) (t : Fin cfg0.N) (i : Fin 1024) (k : Fin 2048) :
    hBlk m c t (ix2 i k) = m (((c : Thread nD τ)).loc main_arg0) (ix2 (Fin.mk (t.val % 4 * 2048 + k.val) (by omega)) i) := by
  unfold hBlk iblk
  rw [View.read_apply]
  entry_read
  pointwise
  blk_ext [iblk, V, idx t]

/-- An entry of a block of the cotangent is the array's. -/
theorem zBlk_apply (c : Dev nD) (t : Fin cfg0.N) (k : Fin 2048) (j : Fin 1024) :
    zBlk m c t (ix2 k j) = m (((c : Thread nD τ)).loc main_arg1) (ix2 (Fin.mk (t.val % 4 * 2048 + k.val) (by omega))
      (Fin.mk (t.val / 4 * 1024 + j.val) (by have := lt_of_lt_of_eq t.isLt N_0; omega))) := by
  unfold zBlk
  blk_ext [iblk, V, idx t]

/-- The gradient the kernel leaves is the reference's. -/
theorem dw_eq (c : Dev nD) :
    G2 m c = (Cert.Reference3Ideal.Read.val_main_v6 (F := Ideal) (m (((c : Thread nD τ)).loc main_arg0)) (m (((c : Thread nD τ)).loc main_arg1))
      : S1024x5120.Idx → EReal) := by
  funext i
  have hi0 : (i 0).val < 1024 := (i 0).isLt
  have hi1 : (i 1).val < 5120 := (i 1).isLt
  have hr : run2Of i = (i 1).val / 1024 := by
    show 5 * ((i 0).val / 1024 - 0) + 1 * ((i 1).val / 1024 - 0) = _
    omega
  have hp : pt2Of i = 4 * ((i 1).val / 1024) + 3 := by
    show 4 * run2Of i + 3 = _
    rw [hr]
  have hlt : pt2Of i < cfg0.N := lt_of_lt_of_eq (by omega) N_0.symm
  unfold G2
  rw [dif_pos hlt, ← outsAt0_sweep]
  refine ((out_last m c ⟨pt2Of i, hlt⟩ (by show pt2Of i % 4 = 3; omega) (loc2Of i)).trans
    (acc_last m c ⟨pt2Of i, hlt⟩ (by show pt2Of i % 4 = 3; omega) (loc2Of i))).trans ?_
  refine Eq.trans ?_ ((Cert.Reference3Ideal.Read.val_main_v5_apply _ _ i).trans (Cert.Reference3Ideal.Read.val_main_v4_apply _ _ _)).symm
  refine Fin.sum_mul_add_congr (fun s k hl => ?_)
  have hs : s.val < 4 := s.isLt
  have hk : k.val < 2048 := k.isLt
  refine (mul_comm _ _).trans (congrArg₂ (· * ·)
    ((zBlk_apply m c ⟨4 * (pt2Of i / 4) + s.val, _⟩ k (loc2Of i 1)).trans (congrArg _ (funext fun a => Fin.ext ?_)))
    ((hBlk_apply m c ⟨4 * (pt2Of i / 4) + s.val, _⟩ (loc2Of i 0) k).trans (congrArg _ (funext fun a => Fin.ext ?_))))
  · match a with
    | ⟨0, _⟩ => show (4 * (pt2Of i / 4) + s.val) % 4 * 2048 + k.val = s.val * 2048 + k.val; omega
    | ⟨1, _⟩ => show (4 * (pt2Of i / 4) + s.val) / 4 * 1024 + (i 1).val % 1024 = (i 1).val; omega
  · match a with
    | ⟨0, _⟩ => show (4 * (pt2Of i / 4) + s.val) % 4 * 2048 + k.val = s.val * 2048 + k.val; omega
    | ⟨1, _⟩ => show (i 0).val % 1024 = (i 0).val; omega

/-- The even layer's input weight: from the same arguments the kernel and the reference end at the same gradient. -/
theorem algebraic : Cert.algebraic_Kernel3Ideal_Reference3Ideal (hKernel3Ideal := Cert.Kernel3Ideal.Gen.facts)
    (hReference3Ideal := Cert.Reference3Ideal.Gen.facts) := by
  intro m g m' g' _ hargs
  refine ⟨fun c => G2 m c, Cert.Kernel3Ideal.Value.run m g, ?_⟩
  refine (θ_run _ _ _).mono (fun r h c => ?_) (Cert.Reference3Ideal.Value.run (F := Ideal) m' g')
  obtain ⟨h6, h0, h1⟩ := h c
  obtain ⟨e0, e1⟩ := hargs c
  exact ⟨h6.trans ((Cert.Reference3Ideal.Read.val_main_v6_eq _ _).trans
      ((congrArg₂ (Cert.Reference3Ideal.Read.val_main_v6 (F := Ideal)) e0 e1).trans (dw_eq m c).symm)), h0, h1⟩

/-- The reference's run leaves its arguments alone; it declares no counter. -/
theorem frame_reference : Cert.quiescent_Reference3Ideal (hReference3Ideal := Cert.Reference3Ideal.Gen.facts) := fun m g _ =>
  (θ_run Cert.Reference3Ideal.defs _ _).mono (fun r h => ⟨fun c => (h c).2, sem_eq_zero_of_no_sems (by decide) r.2⟩)
    (Cert.Reference3Ideal.Value.run (F := Ideal) m g)

end Cert.Proof.EvenDw

end
-- ==== Proof.RunKit.lean ====
/- Two small facts about whole-buffer stores and loads that the hand-run kernels share. -/
module

public import Idealize.ShloMosaic.Lib.WritesUnit
public import Idealize.ShloMosaic.Lib.VecWindow
public import Idealize.ShloMosaic.Lib.Pipeline.FrameBody

@[expose] public section

noncomputable section

namespace Cert.Proof.RunKit

open Idealize.ShloMosaic

variable {sig : RefSig} {κ : Kind} {sp : Space} {s : Shape} {e : EltTy} {Val : EltTy → Type}

/-- After a store of the whole buffer the buffer reads the payload, whatever was stored before it. -/
theorem read_store_whole (v : View sig κ sp s e) (f : v.ty.Contents Val) {off : Fin s.rank → ℕ} (inb : ∀ a, off a + s.size a ≤ s.size a)
    (w : s.Idx → Val e) (L : List (View.Piece Val s e)) :
    v.read Val (v.writes Val f ((⟨Rect.unit off s.size inb, w⟩ : View.Piece Val s e) :: L)) = w := by
  funext y
  exact View.read_writes_cons_unit_of_mem (off' := off) v f inb w L y y rfl (fun a => by have := inb a; omega)

/-- A load of the whole of a memref whose contents stand for `x` reads `x`. -/
theorem readAt_unread (M : Memref sig κ sp s e) (h : M.IsWhole) (x : s.Idx → Val e) {off : Fin s.rank → ℕ} (inb : ∀ a, off a + s.size a ≤ s.size a) :
    M.view.readAt Val (Rect.unit off s.size inb).toLoadRect (h.unread x) = x :=
  (View.readAt_full M.view _ inb).trans (h.read_unread x)

end Cert.Proof.RunKit

end
-- ==== Proof.NormMatmulRun.lean ====
/- The even block's norm and input projection (`cc0_even_in`), run over any element type `F`: at the first of the four points of a
   row tile the tile's rows are normalized into the scratch buffer, and every point multiplies what the scratch holds by its column block.
   The two transposed copies (windows 4 and 5) are not named; window 3 (the product) is named exactly, and so is the scratch. -/
module

public import proofs.«01_k».proof.Proof.Gen.Kernel4Ideal.Frame
public import proofs.«01_k».proof.Proof.Gen.Kernel4Ideal.Skeleton
public import proofs.«01_k».proof.Proof.Gen.Kernel4Ideal.Points
public import proofs.«01_k».proof.Proof.RunKit
public import Idealize.ShloMosaic.Lib.Pipeline.FrameBody
public import Idealize.ShloMosaic.Lib.VecWindow
public import Idealize.ShloMosaic.Lib.Pipeline.Value
public import Idealize.ShloMosaic.Lib.WordCmp

@[expose] public section

set_option maxRecDepth 16384

noncomputable section

namespace Cert.Proof.NormMatmulRun

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation RDat cellOf)

variable {F : FTy → Type} [FloatOps F]
variable (m : (ℓ : Loc nD τ sig) → Buf (Elt F) ℓ) (ρ : Dev nD → PrngReg)

/-! ## The scratch -/

/-- A row tile normalized: four pieces of 256 rows. -/
def tileN (x0 : Vec F S1024x1024 .f32) (x1 : Vec F S1x1024 .f32) : Vec F S1024x1024 .bf16 :=
  View.canon [
    ⟨Rect.unit (s := S1024x1024) ![768, 0] S256x1024.size inb_S1024x1024_S256x1024_768_0, k0_pay7 (View.ld x0 (Rect.unit (s := S1024x1024) ![768, 0] S256x1024.size inb_S1024x1024_S256x1024_768_0)) x1⟩,
    ⟨Rect.unit (s := S1024x1024) ![512, 0] S256x1024.size inb_S1024x1024_S256x1024_512_0, k0_pay6 (View.ld x0 (Rect.unit (s := S1024x1024) ![512, 0] S256x1024.size inb_S1024x1024_S256x1024_512_0)) (k0_pay5 (View.ld x0 (Rect.unit (s := S1024x1024) ![512, 0] S256x1024.size inb_S1024x1024_S256x1024_512_0))) x1⟩,
    ⟨Rect.unit (s := S1024x1024) ![256, 0] S256x1024.size inb_S1024x1024_S256x1024_256_0, k0_pay4 (View.ld x0 (Rect.unit (s := S1024x1024) ![256, 0] S256x1024.size inb_S1024x1024_S256x1024_256_0)) x1⟩,
    ⟨Rect.unit (s := S1024x1024) ![0, 0] S256x1024.size inb_S1024x1024_S256x1024_0_0, k0_pay3 (View.ld x0 (Rect.unit (s := S1024x1024) ![0, 0] S256x1024.size inb_S1024x1024_S256x1024_0_0)) x1⟩]

/-- The four pieces cover the tile. -/
theorem cover4 (p0 p1 p2 p3 : Vec F S256x1024 .bf16) (y : S1024x1024.Idx) :
    ∃ p ∈ ([⟨Rect.unit (s := S1024x1024) ![768, 0] S256x1024.size inb_S1024x1024_S256x1024_768_0, p3⟩, ⟨Rect.unit (s := S1024x1024) ![512, 0] S256x1024.size inb_S1024x1024_S256x1024_512_0, p2⟩,
      ⟨Rect.unit (s := S1024x1024) ![256, 0] S256x1024.size inb_S1024x1024_S256x1024_256_0, p1⟩, ⟨Rect.unit (s := S1024x1024) ![0, 0] S256x1024.size inb_S1024x1024_S256x1024_0_0, p0⟩] : List (View.Piece (Elt F) S1024x1024 .bf16)), y ∈ p.1.set := by
  have h0 : (y 0).val < 1024 := (y 0).isLt
  have h1 : (y 1).val < 1024 := (y 1).isLt
  by_cases a3 : 768 ≤ (y 0).val
  · refine ⟨_, List.mem_cons_self, ?_⟩
    rw [Rect.mem_set_unit]
    intro a
    match a with
    | ⟨0, _⟩ => show 768 ≤ (y 0).val ∧ (y 0).val < 768 + 256; omega
    | ⟨1, _⟩ => show 0 ≤ (y 1).val ∧ (y 1).val < 0 + 1024; omega
  · by_cases a2 : 512 ≤ (y 0).val
    · refine ⟨_, List.mem_cons_of_mem _ List.mem_cons_self, ?_⟩
      rw [Rect.mem_set_unit]
      intro a
      match a with
      | ⟨0, _⟩ => show 512 ≤ (y 0).val ∧ (y 0).val < 512 + 256; omega
      | ⟨1, _⟩ => show 0 ≤ (y 1).val ∧ (y 1).val < 0 + 1024; omega
    · by_cases a1 : 256 ≤ (y 0).val
      · refine ⟨_, List.mem_cons_of_mem _ (List.mem_cons_of_mem _ List.mem_cons_self), ?_⟩
        rw [Rect.mem_set_unit]
        intro a
        match a with
        | ⟨0, _⟩ => show 256 ≤ (y 0).val ∧ (y 0).val < 256 + 256; omega
        | ⟨1, _⟩ => show 0 ≤ (y 1).val ∧ (y 1).val < 0 + 1024; omega
      · refine ⟨_, List.mem_cons_of_mem _ (List.mem_cons_of_mem _ (List.mem_cons_of_mem _ List.mem_cons_self)), ?_⟩
        rw [Rect.mem_set_unit]
        intro a
        match a with
        | ⟨0, _⟩ => show 0 ≤ (y 0).val ∧ (y 0).val < 0 + 256; omega
        | ⟨1, _⟩ => show 0 ≤ (y 1).val ∧ (y 1).val < 0 + 1024; omega

/-! ## The body -/

set_option maxHeartbeats 2000000 in
/-- The body at the first point of a row tile. -/
theorem body_A (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S1024x1280 .bf16) (harg4 : arg4.IsWhole) (arg5 : Memref sig .tc .vmem S1024x1280 .bf16) (harg5 : arg5.IsWhole) (arg6 : Memref sig .tc .vmem S1024x1024 .bf16) (harg6 : arg6.IsWhole) (arg7 : Memref sig .tc .vmem S1280x1024 .bf16) (harg7 : arg7.IsWhole) (arg8 : Memref sig .tc .vmem S1024x1024 .bf16) (harg8 : arg8.IsWhole)
    (hc1 : k0_cond1 i = 1#1)
    (x0 : Vec F S1024x1024 .f32) (x1 : Vec F S1x1024 .f32) (x2 : Vec F S1024x1280 .bf16) (E : Set ℕ) (K : PUnit → sProp (MT nD τ sig Unit (Elt F) ℕ (UR sig nD τ) ℕ)) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (k0_pay1 (tileN x0 x1) x2) ∗ (∃ d, owns (c : Thread nD τ) arg6 fullShare d) ∗ (∃ d, owns (c : Thread nD τ) arg7 fullShare d) ∗ owns (c : Thread nD τ) arg8 fullShare (tileN x0 x1)) -∗ K ⟨⟩))
      ⊢ wp frame (wpE (defs₀ (F := F)) Variants.none c none) E (cc0_even_in i arg2 harg2 arg3 harg3 arg4 harg4 arg5 harg5 arg6 harg6 arg7 harg7 arg8 harg8) K := by
  by_cases hc2 : k0_cond2 i = 1#1
  all_goals
    simp only [cc0_even_in_eq_skeleton]; unfold cc0_even_in_skel
    try simp only [k0_part1_eq_skeleton, k0_part2_eq_skeleton]
    try unfold k0_part1_skel k0_part2_skel
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%d6, %f6, -, H6⟩, Hk⟩
    obtain rfl := harg2.eq_unread hf0; obtain rfl := harg3.eq_unread hf1; obtain rfl := harg4.eq_unread hf2
    sl_exec (disch := first | sl_exact hc1 | sl_exact hc2)

    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr
      swap; · iexact H3
      ipureintro
      rw [RunKit.read_store_whole, RunKit.readAt_unread]
      sl_unfold_words
      rw [View.readCov_eq_canon_ld _ _ _ (cover4 _ _ _ _), View.ld_unit_zero (funext fun a => by match a with | ⟨0, _⟩ => rfl | ⟨1, _⟩ => rfl)]
      simp only [View.readAt_eq_ld, harg2.read_unread, harg3.read_unread]
      rw [View.ld_unit_zero (funext fun a => by match a with | ⟨0, _⟩ => rfl | ⟨1, _⟩ => rfl) inb_S1x1024_S1x1024_0_0 x1]
      rfl
    isplitl [H4]
    · iexists _; iexists _; isplitr
      swap; · iexact H4
      ipureintro; rfl
    isplitl [H5]
    · iexists _; iexists _; isplitr
      swap; · iexact H5
      ipureintro; rfl
    iexists _; isplitr
    swap; · iexact H6
    ipureintro
    sl_unfold_words
    rw [View.read_writes_eq_canon _ _ _ (cover4 _ _ _ _)]
    simp only [View.readAt_eq_ld, harg2.read_unread, harg3.read_unread]
    rw [View.ld_unit_zero (funext fun a => by match a with | ⟨0, _⟩ => rfl | ⟨1, _⟩ => rfl) inb_S1x1024_S1x1024_0_0 x1]
    rfl
set_option maxHeartbeats 2000000 in
/-- The body at the other points of a row tile. -/
theorem body_B (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S1024x1280 .bf16) (harg4 : arg4.IsWhole) (arg5 : Memref sig .tc .vmem S1024x1280 .bf16) (harg5 : arg5.IsWhole) (arg6 : Memref sig .tc .vmem S1024x1024 .bf16) (harg6 : arg6.IsWhole) (arg7 : Memref sig .tc .vmem S1280x1024 .bf16) (harg7 : arg7.IsWhole) (arg8 : Memref sig .tc .vmem S1024x1024 .bf16) (harg8 : arg8.IsWhole)
    (hc1 : ¬ k0_cond1 i = 1#1)
    (x0 : Vec F S1024x1024 .f32) (x1 : Vec F S1x1024 .f32) (x2 : Vec F S1024x1280 .bf16) (h : Vec F S1024x1024 .bf16) (E : Set ℕ) (K : PUnit → sProp (MT nD τ sig Unit (Elt F) ℕ (UR sig nD τ) ℕ)) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ (∃ d, owns (c : Thread nD τ) arg6 fullShare d) ∗ (∃ d, owns (c : Thread nD τ) arg7 fullShare d) ∗ owns (c : Thread nD τ) arg8 fullShare h
        ∗ (iprop(owns (c : Thread nD τ) arg2 fullShare x0 ∗ owns (c : Thread nD τ) arg3 fullShare x1 ∗ owns (c : Thread nD τ) arg4 fullShare x2
            ∗ owns (c : Thread nD τ) arg5 fullShare (k0_pay1 h x2) ∗ (∃ d, owns (c : Thread nD τ) arg6 fullShare d) ∗ (∃ d, owns (c : Thread nD τ) arg7 fullShare d) ∗ owns (c : Thread nD τ) arg8 fullShare h) -∗ K ⟨⟩))
      ⊢ wp frame (wpE (defs₀ (F := F)) Variants.none c none) E (cc0_even_in i arg2 harg2 arg3 harg3 arg4 harg4 arg5 harg5 arg6 harg6 arg7 harg7 arg8 harg8) K := by
  by_cases hc2 : k0_cond2 i = 1#1
  all_goals
    simp only [cc0_even_in_eq_skeleton]; unfold cc0_even_in_skel
    try simp only [k0_part1_eq_skeleton, k0_part2_eq_skeleton]
    try unfold k0_part1_skel k0_part2_skel
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%f6, %hf6, H6⟩, Hk⟩
    obtain rfl := harg2.eq_unread hf0; obtain rfl := harg3.eq_unread hf1; obtain rfl := harg4.eq_unread hf2; obtain rfl := harg8.eq_unread hf6
    sl_exec (disch := first | sl_exact hc1 | sl_exact hc2)

    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr
      swap; · iexact H3
      ipureintro
      rw [RunKit.read_store_whole, RunKit.readAt_unread, RunKit.readAt_unread]
    isplitl [H4]
    · iexists _; iexists _; isplitr
      swap; · iexact H4
      ipureintro; rfl
    isplitl [H5]
    · iexists _; iexists _; isplitr
      swap; · iexact H5
      ipureintro; rfl
    iexists _; isplitr
    swap; · iexact H6
    ipureintro
    exact harg8.read_unread _
/-! ## Which point normalizes -/

/-- The first of the four points of a row tile normalizes. -/
theorem cond1_iff : ∀ t : Fin cfg0.N, k0_cond1 (grid0.coords t) = 1#1 ↔ t.val % 4 = 0 :=
  (by decide +kernel : ∀ t : Fin grid0.N, k0_cond1 (grid0.coords t) = 1#1 ↔ t.val % 4 = 0)

/-- What the scratch holds after point `n`: the normalized row tile. -/
def hAt (c : Dev nD) (n : ℕ) (hn : n < cfg0.N) : Vec F S1024x1024 .bf16 :=
  tileN (iblk m c 0 ⟨n / 4 * 4, lt_of_le_of_lt (Nat.div_mul_le_self n 4) hn⟩) (iblk m c 1 ⟨n / 4 * 4, lt_of_le_of_lt (Nat.div_mul_le_self n 4) hn⟩)

/-- At the first point of a row tile it is that point's blocks normalized, -/
theorem hAt_first (c : Dev nD) (t : Fin cfg0.N) (h : t.val % 4 = 0) : hAt m c t.val t.isLt = tileN (iblk m c 0 t) (iblk m c 1 t) := by
  unfold hAt
  have e : (⟨t.val / 4 * 4, lt_of_le_of_lt (Nat.div_mul_le_self t.val 4) t.isLt⟩ : Fin cfg0.N) = t := Fin.ext (by show t.val / 4 * 4 = t.val; omega)
  rw [e]

/-- and at the others what the point before left. -/
theorem hAt_next (c : Dev nD) (t : Fin cfg0.N) (h : ¬ t.val % 4 = 0) : hAt m c t.val t.isLt = hAt m c (t.val - 1) (lt_of_le_of_lt (Nat.sub_le _ _) t.isLt) := by
  unfold hAt
  have e : (⟨t.val / 4 * 4, lt_of_le_of_lt (Nat.div_mul_le_self t.val 4) t.isLt⟩ : Fin cfg0.N)
      = ⟨(t.val - 1) / 4 * 4, lt_of_le_of_lt (Nat.div_mul_le_self (t.val - 1) 4) (lt_of_le_of_lt (Nat.sub_le _ _) t.isLt)⟩ :=
    Fin.ext (by show t.val / 4 * 4 = (t.val - 1) / 4 * 4; omega)
  rw [e]

/-! ## The proof data -/

/-- The scratch buffer as the region holds it. -/
abbrev sc : Memref sig .tc .vmem S1024x1024 .bf16 := Memref.whole cc0_scratch0

/-- The region's invariant before point `n`: the scratch at the tile that the point before left (at anything before the first). -/
def PhiS (c : Dev nD) : (n : ℕ) → n ≤ cfg0.N → sProp (MT nD τ sig Unit (Elt F) ℕ (UR sig nD τ) ℕ)
  | 0, _ => Pipeline.ΦA spec0 c
  | n + 1, hn => iprop(owns (c : Thread nD τ) sc fullShare (hAt m c n hn) ∗ (∃ r, prngReg c r))

/-- Before a point that is not the first. -/
theorem PhiS_pos (c : Dev nD) (n : ℕ) (h : n ≤ cfg0.N) (hz : n ≠ 0) :
    PhiS m c n h = iprop(owns (c : Thread nD τ) sc fullShare (hAt m c (n - 1) (by omega)) ∗ (∃ r, prngReg c r)) := by
  cases n with
  | zero => exact absurd rfl hz
  | succ n => rfl

/-- What the launch hands the region. -/
theorem PhiA_eq (c : Dev nD) : Pipeline.ΦA spec0 c
    = (iprop((∃ d, owns (c : Thread nD τ) sc fullShare d) ∗ (∃ r, prngReg c r)) : sProp (MT nD τ sig Unit (Elt F) ℕ (UR sig nD τ) ℕ)) := by
  unfold Pipeline.ΦA; rw [scopedRest0_eq]; simp only [sc, owns_whole]; try rfl

/-- The proof data: the arrays as launched, each input's buffer at its block, window 3's at the product of the scratch and the column
    block, windows 4 and 5 at anything, the scratch tracked. -/
def dats : (p : Fin 1) → (c : Dev nD) → Dat τ (Elt F) Unit ℕ (UR sig nD τ) ℕ (cfgs p) c
  | ⟨0, _⟩ => fun c => {
      A := fun w => V m c (Pipeline.arrRef spec0 w)
      after := fun w t => match w with
        | ⟨0, _⟩ => iblk m c 0 t
        | ⟨1, _⟩ => iblk m c 1 t
        | ⟨2, _⟩ => iblk m c 2 t
        | ⟨3, _⟩ => k0_pay1 (hAt m c t.val t.isLt) (iblk m c 2 t)
        | ⟨4, _⟩ => Dat.unnamed (cfg := cfg0) 4 t
        | ⟨5, _⟩ => Dat.unnamed (cfg := cfg0) 5 t
        | ⟨_ + 6, h⟩ => absurd h (Nat.not_lt.2 (Nat.le_add_left _ _))
      Φ := fun t => PhiS m c t.val (Nat.le_of_lt_succ t.isLt)
      q := fun _ => fullShare
      owed := fun _ => 0 }
  | ⟨_ + 1, h⟩ => absurd h (Nat.not_lt.2 (Nat.le_add_left _ _))

/-- The windows of which nothing is said: 4 and 5. -/
def fgt (w : Fin cfg0.W) : Bool := 4 ≤ w.val

/-- The data's arrays are the arrays at the region's entry. -/
theorem A_eq (c : Dev nD) (w : Fin cfg0.W) : (dats m 0 c).A w = V m c (Pipeline.arrRef spec0 w) := by dsimp only [dats]
/-- Window 3's buffer after the body. -/
theorem after_3 (c : Dev nD) (t : Fin cfg0.N) : (dats m 0 c).after 3 t = k0_pay1 (hAt m c t.val t.isLt) (iblk m c 2 t) := by dsimp only [dats]

/-- Each input's buffer holds its block at every point. -/
theorem before_0 (c : Dev nD) (t : Fin cfg0.N) (d) : (dats m 0 c).before 0 t d = iblk m c 0 t :=
  before0_0_of m (dats m 0 c) (A_eq m c 0) (fun t => by dsimp only [dats]) t d
/-- The same of window 1. -/
theorem before_1 (c : Dev nD) (t : Fin cfg0.N) (d) : (dats m 0 c).before 1 t d = iblk m c 1 t :=
  before0_1_of m (dats m 0 c) (A_eq m c 1) (fun t => by dsimp only [dats]) t d
/-- The same of window 2. -/
theorem before_2 (c : Dev nD) (t : Fin cfg0.N) (d) : (dats m 0 c).before 2 t d = iblk m c 2 t :=
  before0_2_of m (dats m 0 c) (A_eq m c 2) (fun t => by dsimp only [dats]) t d

/-- Window 3 is stored at every point. -/
theorem live_3 : ∀ t : Fin cfg0.N, cfg0.idle 3 (grid0.coords t) = false := by decide +kernel

/-- The invariant at a point's start. -/
theorem Phi_castSucc (c : Dev nD) (t : Fin cfg0.N) : (dats m 0 c).Φ t.castSucc = PhiS m c t.val (Nat.le_of_lt t.isLt) := by
  dsimp only [dats]; exact Pipeline.Dat.Φ_castSucc (PhiS m c) t

/-- What the body is called with at point `t`, window by window, -/
def bodyPre (c : Dev nD) (t : Fin cfg0.N) : sProp (MT nD τ sig Unit (Elt F) ℕ (UR sig nD τ) ℕ) :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ X, owns (c : Thread nD τ) (st0_4 t) fullShare X)
    ∗ (∃ X, owns (c : Thread nD τ) (st0_5 t) fullShare X))

/-- and what it returns. -/
def bodyPost (c : Dev nD) (t : Fin cfg0.N) : sProp (MT nD τ sig Unit (Elt F) ℕ (UR sig nD τ) ℕ) :=
  iprop((dats m 0 c).Φ t.succ ∗ (dats m 0 c).owesAt () t.succ
    ∗ (dats m 0 c).leavesExact 0 t ∗ (dats m 0 c).leavesExact 1 t ∗ (dats m 0 c).leavesExact 2 t ∗ (dats m 0 c).leavesExact 3 t
    ∗ (∃ X, owns (c : Thread nD τ) (st0_4 t) fullShare X)
    ∗ (∃ X, owns (c : Thread nD τ) (st0_5 t) fullShare X))

set_option maxHeartbeats 1600000 in
/-- The body at any point meets its obligation. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2]
  rw [show (dats m 0 c).owesAt () t.succ = (dats m 0 c).owesAt () t.castSucc from rfl]
  rw [show (dats m 0 c).Φ t.succ = iprop(owns (c : Thread nD τ) sc fullShare (hAt m c t.val t.isLt) ∗ (∃ r, prngReg c r)) from rfl]
  rw [show (dats m 0 c).leavesExact 0 t = owns (c : Thread nD τ) (st0_0 t) fullShare (iblk m c 0 t) from rfl]
  rw [show (dats m 0 c).leavesExact 1 t = owns (c : Thread nD τ) (st0_1 t) fullShare (iblk m c 1 t) from rfl]
  rw [show (dats m 0 c).leavesExact 2 t = owns (c : Thread nD τ) (st0_2 t) fullShare (iblk m c 2 t) from rfl]
  rw [show (dats m 0 c).leavesExact 3 t = owns (c : Thread nD τ) (st0_3 t) fullShare (k0_pay1 (hAt m c t.val t.isLt) (iblk m c 2 t)) from by
    unfold Dat.leavesExact; rw [live_3 t, after_3]]
  by_cases h : t.val % 4 = 0
  · rw [hAt_first m c t h]
    by_cases hz : t.val = 0
    · rw [Phi_castSucc m c t, show PhiS m c t.val (Nat.le_of_lt t.isLt) = Pipeline.ΦA spec0 c from by simp only [hz]; rfl, PhiA_eq]
      iintro ⟨⟨HS, Hg⟩, Ho, ⟨%d0, H0⟩, ⟨%d1, H1⟩, ⟨%d2, H2⟩, ⟨%d3, H3⟩, H4, H5⟩
      iapply (body_A c (grid0.coords t) _ _ _ _ _ _ _ _ _ _ _ _ _ _ ((cond1_iff t).mpr h) (iblk m c 0 t) (iblk m c 1 t) (iblk m c 2 t) Set.univ _)
      isplitl [H0]; · iexact H0
      isplitl [H1]; · iexact H1
      isplitl [H2]; · iexact H2
      isplitl [H3]; · iexists _; iexact H3
      isplitl [H4]; · iexact H4
      isplitl [H5]; · iexact H5
      isplitl [HS]; · iexact HS
      iintro ⟨H0, H1, H2, H3, H4, H5, HS⟩
      isplitl [HS Hg]
      · isplitl [HS]; · iexact HS
        iexact Hg
      isplitl [Ho]; · iexact Ho
      isplitl [H0]; · iexact H0
      isplitl [H1]; · iexact H1
      isplitl [H2]; · iexact H2
      isplitl [H3]; · iexact H3
      isplitl [H4]; · iexact H4
      iexact H5
    · rw [Phi_castSucc m c t, PhiS_pos m c _ _ hz]
      iintro ⟨⟨HS, Hg⟩, Ho, ⟨%d0, H0⟩, ⟨%d1, H1⟩, ⟨%d2, H2⟩, ⟨%d3, H3⟩, H4, H5⟩
      iapply (body_A c (grid0.coords t) _ _ _ _ _ _ _ _ _ _ _ _ _ _ ((cond1_iff t).mpr h) (iblk m c 0 t) (iblk m c 1 t) (iblk m c 2 t) Set.univ _)
      isplitl [H0]; · iexact H0
      isplitl [H1]; · iexact H1
      isplitl [H2]; · iexact H2
      isplitl [H3]; · iexists _; iexact H3
      isplitl [H4]; · iexact H4
      isplitl [H5]; · iexact H5
      isplitl [HS]; · iexists _; iexact HS
      iintro ⟨H0, H1, H2, H3, H4, H5, HS⟩
      isplitl [HS Hg]
      · isplitl [HS]; · iexact HS
        iexact Hg
      isplitl [Ho]; · iexact Ho
      isplitl [H0]; · iexact H0
      isplitl [H1]; · iexact H1
      isplitl [H2]; · iexact H2
      isplitl [H3]; · iexact H3
      isplitl [H4]; · iexact H4
      iexact H5
  · rw [hAt_next m c t h]
    have hz : t.val ≠ 0 := fun e => h (by omega)
    rw [Phi_castSucc m c t, PhiS_pos m c _ _ hz]
    iintro ⟨⟨HS, Hg⟩, Ho, ⟨%d0, H0⟩, ⟨%d1, H1⟩, ⟨%d2, H2⟩, ⟨%d3, H3⟩, H4, H5⟩
    iapply (body_B c (grid0.coords t) _ _ _ _ _ _ _ _ _ _ _ _ _ _ (fun e => h ((cond1_iff t).mp e)) (iblk m c 0 t) (iblk m c 1 t) (iblk m c 2 t) _ Set.univ _)
    isplitl [H0]; · iexact H0
    isplitl [H1]; · iexact H1
    isplitl [H2]; · iexact H2
    isplitl [H3]; · iexists _; iexact H3
    isplitl [H4]; · iexact H4
    isplitl [H5]; · iexact H5
    isplitl [HS]; · iexact HS
    iintro ⟨H0, H1, H2, H3, H4, H5, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    iexact H5

/-- The body table's row at point `t` is the body there. -/
theorem defs₀_row (t : Fin cfg0.N) : defs₀ (F := F) .tc cfg0.body (cfg0.bodyArgs t (cfg0.slots t)) = bodyAt0 t := by
  unfold defs₀; rw [Defs.onTc_tc]

/-- The body obligation, windows 4 and 5 forgotten. -/
theorem body_obligation (c : Dev nD) : BodyObligation (dats (F := F) m 0 c) (defs₀ (F := F)) Variants.none () Set.univ fgt := fun t => by
  rw [bigSep_W0, bigSep_W0, defs₀_row]
  exact triple_restated (sound_body m c t) rfl .rfl fun _ => .rfl

/-- What the launch hands the region is the invariant before the first point, -/
theorem hin (c : Dev nD) : Pipeline.ΦA spec0 c ⊢ (dats m 0 c).Φ 0 := by
  rw [show (dats m 0 c).Φ 0 = Pipeline.ΦA spec0 c from rfl]

/-- and after the last point the invariant gives it back. -/
theorem hout (c : Dev nD) : (dats m 0 c).Φ (Fin.last cfg0.N) ⊢ Pipeline.ΦA spec0 c := by
  rw [show (dats m 0 c).Φ (Fin.last cfg0.N) = PhiS m c cfg0.N (Nat.le_refl _) from rfl,
    PhiS_pos m c _ _ (by have : cfg0.N = 32 := N_0; omega), PhiA_eq]
  iintro ⟨HS0, Hg⟩
  isplitl [HS0]
  · iexists _; iexact HS0
  iexact Hg

/-! ## The run -/

set_option backward.isDefEq.respectTransparency.types false in
/-- Every run ends with the arrays of the windows but 4 and 5 at what the data name, and with every counter at zero. -/
theorem run_main : θ_run defs (onTc (τ := τ) (main (F := F))) (s₀ m ρ)
    (fun r => RDat.FramePost cfg0 (fun c => (dats m 0 c).toRForget fgt) (V m) r ∧ r.2.sem = fun _ => 0) :=
  Pipeline.θ_run_frame_track_forget (Q' := _) cfgs (dats m) (0 : Fin 1) launch0 defs₀ Variants.none fgt m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- What the run leaves: the product's array at what the data name, the arguments as launched, every counter at zero. -/
theorem run_post : θ_run defs (onTc (τ := τ) (main (F := F))) (s₀ m ρ) (fun r => (∀ c : Dev nD,
      r.2.mem ((c.tc : Thread nD τ).loc main_v0_0) = (dats m 0 c).arrAt 3 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0) :=
  (θ_run defs _ _).mono (fun r h => ⟨fun c =>
    ⟨((dats m 0 c).toRForget_arrAt_iff (fgt := fgt) (w := 3) rfl cfg0.N _).mp ((h.1 c).1 3),
      (h.1.arr_in c 0 rfl).trans ((A_eq m c 0).trans (V_main_arg0 m c)),
      (h.1.arr_in c 1 rfl).trans ((A_eq m c 1).trans (V_main_arg1 m c)),
      (h.1.arr_in c 2 rfl).trans ((A_eq m c 2).trans (V_main_arg2 m c))⟩, h.2⟩) (run_main m ρ)

/-- The arguments as launched and every counter at zero. -/
theorem run_frame : θ_run defs (onTc (τ := τ) (main (F := F))) (s₀ m ρ) (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0) :=
  (θ_run defs _ _).mono (fun r h => ⟨fun c => (h.1 c).2, h.2⟩) (run_post m ρ)

end Cert.Proof.NormMatmulRun

end
-- ==== Proof.NormMatmul.lean ====
/-
  The even layer's norm and input projection: the array that the kernel leaves is the reference's product of the normalized rows with
  the weight, element by element, and the claim that the two runs end at the same array.
-/
module

public import proofs.«01_k».proof.Proof.Sums
public import proofs.«01_k».proof.Proof.NormMatmulRun
public import proofs.«01_k».proof.Defs
public import proofs.«01_k».proof.Proof.Gen.Reference4Ideal.Run
public import proofs.«01_k».proof.Proof.Gen.Reference4Ideal.Read
public import proofs.«01_k».proof.Proof.Gen.Kernel4.Launch
public import Idealize.ShloMosaic.Lib.Pipeline.ValueKit.Acc
public import Idealize.ShloMosaic.Lib.Pipeline.ValueKit.Point
public import Idealize.ShloMosaic.Lib.Pipeline.ValueKit.Tiles
public import Idealize.ShloMosaic.Lib.Pipeline.ReadBack
public import Idealize.ShloMosaic.Lib.Pointwise
public import Idealize.ShloMosaic.Lib.Claim
public import Idealize.ShloMosaic.Lib.Tactic

@[expose] public section

noncomputable section

namespace Cert.Proof.NormMatmul

open Idealize.ShloMosaic hiding ix2 ix3 ix4 ix5
open Idealize.ShloMosaic.TcCoe Idealize.SL.Sem
open Cert.Kernel4Ideal Cert.Kernel4Ideal.Gen Cert.Proof.NormMatmulRun Cert.Proof.Sums Idealize.ShloMosaic.ValueIdx
open Idealize.ShloMosaic.Pipeline (Dat Cfg Window)

variable (m : (ℓ : Loc nD τ sig) → Buf (Elt Ideal) ℓ) (ρ : Dev nD → PrngReg)

/-! ## The values -/

/-- The scale of a row: one over the root of its mean square and the small constant. -/
def scl (r : Fin 1024 → EReal) : EReal :=
  Ideal.rsqrt (Ideal.div (∑ k : Fin 1024, r k * r k) (Ideal.ofBits .f32 0x44800000#32) + Ideal.ofBits .f32 0x358637BD#32)

/-- The normalized rows. -/
def N (x : S8192x1024.Idx → EReal) (g : S1x1024.Idx → EReal) (i : Fin 8192) (k : Fin 1024) : EReal :=
  x (ix2 i k) * scl (fun l => x (ix2 i l)) * g (ix2 0 k)

/-- Their product with the weight. -/
def G (x : S8192x1024.Idx → EReal) (g : S1x1024.Idx → EReal) (w : S1024x5120.Idx → EReal) : S8192x5120.Idx → EReal := fun i =>
  ∑ k : Fin 1024, N x g (i 0) k * w (ix2 k (i 1))

/-! ## The kernel's blocks -/

/-- A piece of 256 rows, normalized. -/
theorem pay3_apply (v : Vec Ideal S256x1024 .f32) (g : Vec Ideal S1x1024 .f32) (a : Fin 256) (b : Fin 1024) :
    k0_pay3 (F := Ideal) v g (ix2 a b) = v (ix2 a b) * scl (fun l => v (ix2 a l)) * g (ix2 0 b) := by
  unfold k0_pay3 scl
  pointwise
  rfl

/-- The product's entry. -/
theorem pay1_apply (h : Vec Ideal S1024x1024 .bf16) (w : Vec Ideal S1024x1280 .bf16) (j : S1024x1280.Idx) :
    k0_pay1 (F := Ideal) h w j = ∑ k : Fin 1024, h (ix2 (j 0) k) * w (ix2 k (j 1)) := by
  unfold k0_pay1
  rw [truncf_apply, matmul_sum dot_S1024x1024_S1024x1280_S1024x1280_1_0_0_1_n_n 1024 rfl rfl _ _ _ j
    (fun k => ix2 (j 0) k) (fun k => ix2 k (j 1))
    (fun q k hk a => by
      match a with
      | ⟨0, _⟩ => rfl
      | ⟨1, _⟩ => exact (dot_S1024x1024_S1024x1280_S1024x1280_1_0_0_1_n_n.lhsIdx_val_of_single rfl j q).trans hk)
    (fun q k hk a => by
      match a with
      | ⟨0, _⟩ => exact (dot_S1024x1024_S1024x1280_S1024x1280_1_0_0_1_n_n.rhsIdx_val_of_single rfl j q).trans hk
      | ⟨1, _⟩ => rfl), constant_apply, Ideal.ofBits_zero_f32, zero_add]

/-- The normalized tile, entry by entry, -/
def tileG (x : Vec Ideal S1024x1024 .f32) (g : Vec Ideal S1x1024 .f32) : Vec Ideal S1024x1024 .bf16 := fun y =>
  (x (ix2 (y 0) (y 1)) * scl (fun l => x (ix2 (y 0) l)) * g (ix2 0 (y 1)) : EReal)

/-- and the four pieces that the body stores. -/
def tilePieces (x0 : Vec Ideal S1024x1024 .f32) (x1 : Vec Ideal S1x1024 .f32) : List ((r : Rect S1024x1024) × (r.shape.Idx → Elt Ideal .bf16)) := [
    ⟨Rect.unit (s := S1024x1024) ![768, 0] S256x1024.size inb_S1024x1024_S256x1024_768_0, k0_pay7 (View.ld x0 (Rect.unit (s := S1024x1024) ![768, 0] S256x1024.size inb_S1024x1024_S256x1024_768_0)) x1⟩,
    ⟨Rect.unit (s := S1024x1024) ![512, 0] S256x1024.size inb_S1024x1024_S256x1024_512_0, k0_pay6 (View.ld x0 (Rect.unit (s := S1024x1024) ![512, 0] S256x1024.size inb_S1024x1024_S256x1024_512_0)) (k0_pay5 (View.ld x0 (Rect.unit (s := S1024x1024) ![512, 0] S256x1024.size inb_S1024x1024_S256x1024_512_0))) x1⟩,
    ⟨Rect.unit (s := S1024x1024) ![256, 0] S256x1024.size inb_S1024x1024_S256x1024_256_0, k0_pay4 (View.ld x0 (Rect.unit (s := S1024x1024) ![256, 0] S256x1024.size inb_S1024x1024_S256x1024_256_0)) x1⟩,
    ⟨Rect.unit (s := S1024x1024) ![0, 0] S256x1024.size inb_S1024x1024_S256x1024_0_0, k0_pay3 (View.ld x0 (Rect.unit (s := S1024x1024) ![0, 0] S256x1024.size inb_S1024x1024_S256x1024_0_0)) x1⟩]

/-- The normalized tile's entry. -/
theorem tileN_apply (x : Vec Ideal S1024x1024 .f32) (g : Vec Ideal S1x1024 .f32) (a b : Fin 1024) :
    tileN (F := Ideal) x g (ix2 a b) = x (ix2 a b) * scl (fun l => x (ix2 a l)) * g (ix2 0 b) := by
  have key : ∀ (o : ℕ) (inb) (z : S256x1024.Idx), k0_pay3 (F := Ideal) (View.ld x (Rect.unit (s := S1024x1024) ![o, 0] S256x1024.size inb)) g z
      = x (ix2 ((Rect.unit (s := S1024x1024) ![o, 0] S256x1024.size inb).emb z 0) ((Rect.unit (s := S1024x1024) ![o, 0] S256x1024.size inb).emb z 1))
        * scl (fun l => x (ix2 ((Rect.unit (s := S1024x1024) ![o, 0] S256x1024.size inb).emb z 0) l))
        * g (ix2 0 ((Rect.unit (s := S1024x1024) ![o, 0] S256x1024.size inb).emb z 1)) := by
    intro o inb z
    obtain ⟨p, q, rfl⟩ : ∃ (p : Fin 256) (q : Fin 1024), z = ix2 p q := ⟨z 0, z 1, funext fun a => by match a with | ⟨0, _⟩ => rfl | ⟨1, _⟩ => rfl⟩
    rw [pay3_apply]
    have e : ∀ l : Fin 1024, View.ld x (Rect.unit (s := S1024x1024) ![o, 0] S256x1024.size inb) (ix2 p l)
        = x (ix2 ((Rect.unit (s := S1024x1024) ![o, 0] S256x1024.size inb).emb (ix2 p q) 0) l) := fun l =>
      View.ld_unit_apply_of x _ _ inb _ _ (fun a => by
        match a with
        | ⟨0, _⟩ => show o + 1 * p.val = o + p.val; omega
        | ⟨1, _⟩ => show l.val = 0 + l.val; omega)
    have eq : (Rect.unit (s := S1024x1024) ![o, 0] S256x1024.size inb).emb (ix2 p q) 1 = q := Fin.ext (by show 0 + 1 * q.val = q.val; omega)
    rw [e q]
    simp only [e, eq]
  have H := View.canon_apply_of_pieces (tileG x g) (tilePieces x g) (fun p hp z => by
    unfold tilePieces at hp
    simp only [List.mem_cons, List.not_mem_nil, or_false] at hp
    rcases hp with rfl | rfl | rfl | rfl
    · exact key 768 _ z
    · exact key 512 _ z
    · exact key 256 _ z
    · exact key 0 _ z) (ix2 a b) (cover4 _ _ _ _ _)
  exact H

/-- The row tile, the norm's gain and the weight's block at a point. -/
def xBlk (c : Dev nD) (t : Fin cfg0.N) : S1024x1024.Idx → EReal := iblk m c 0 t
/-- The gain. -/
def gBlk (c : Dev nD) (t : Fin cfg0.N) : S1x1024.Idx → EReal := iblk m c 1 t
/-- The weight. -/
def wBlk (c : Dev nD) (t : Fin cfg0.N) : S1024x1280.Idx → EReal := iblk m c 2 t

/-- Where the windows' blocks lie, decided over the grid. -/
theorem idx : ∀ t : Fin cfg0.N, win0_0.index t = ![t.val / 4, 0] ∧ win0_1.index t = ![0, 0] ∧ win0_2.index t = ![0, t.val % 4]
    ∧ win0_3.index t = ![t.val / 4, t.val % 4] :=
  (by decide +kernel : ∀ t : Fin grid0.N, _)

/-- An entry of a row tile is the input's. -/
theorem xBlk_apply (c : Dev nD) (t : Fin cfg0.N) (i k : Fin 1024) :
    xBlk m c t (ix2 i k) = m (((c : Thread nD τ)).loc main_arg0) (ix2 (Fin.mk (t.val / 4 * 1024 + i.val) (by have := lt_of_lt_of_eq t.isLt N_0; omega)) k) := by
  unfold xBlk
  blk_ext [iblk, V, idx t]

/-- An entry of the gain's block is the gain's. -/
theorem gBlk_apply (c : Dev nD) (t : Fin cfg0.N) (k : Fin 1024) :
    gBlk m c t (ix2 0 k) = m (((c : Thread nD τ)).loc main_arg1) (ix2 0 k) := by
  unfold gBlk
  blk_ext [iblk, V, idx t]

/-- An entry of a block of the weight is the weight's. -/
theorem wBlk_apply (c : Dev nD) (t : Fin cfg0.N) (k : Fin 1024) (j : Fin 1280) :
    wBlk m c t (ix2 k j) = m (((c : Thread nD τ)).loc main_arg2) (ix2 k (Fin.mk (t.val % 4 * 1280 + j.val) (by omega))) := by
  unfold wBlk
  blk_ext [iblk, V, idx t]

/-- The scratch at a point: the row tile's normalized rows. -/
theorem hAt_apply (c : Dev nD) (t : Fin cfg0.N) (i k : Fin 1024) :
    hAt m c t.val t.isLt (ix2 i k) = N (m (((c : Thread nD τ)).loc main_arg0)) (m (((c : Thread nD τ)).loc main_arg1))
      (Fin.mk (t.val / 4 * 1024 + i.val) (by have := lt_of_lt_of_eq t.isLt N_0; omega)) k := by
  unfold hAt
  have hN : cfg0.N = 32 := N_0
  have ht := t.isLt
  rw [tileN_apply]
  have e : ∀ l : Fin 1024, (iblk m c 0 ⟨t.val / 4 * 4, lt_of_le_of_lt (Nat.div_mul_le_self t.val 4) t.isLt⟩ : S1024x1024.Idx → EReal) (ix2 i l)
      = m (((c : Thread nD τ)).loc main_arg0) (ix2 (Fin.mk (t.val / 4 * 1024 + i.val) (by omega)) l) := fun l =>
    (xBlk_apply m c ⟨t.val / 4 * 4, lt_of_le_of_lt (Nat.div_mul_le_self t.val 4) t.isLt⟩ i l).trans (congrArg _ (funext fun a => Fin.ext (by
      match a with
      | ⟨0, _⟩ => show t.val / 4 * 4 / 4 * 1024 + i.val = t.val / 4 * 1024 + i.val; omega
      | ⟨1, _⟩ => rfl)))
  have eg : (iblk m c 1 ⟨t.val / 4 * 4, lt_of_le_of_lt (Nat.div_mul_le_self t.val 4) t.isLt⟩ : S1x1024.Idx → EReal) (ix2 0 k)
      = m (((c : Thread nD τ)).loc main_arg1) (ix2 0 k) := gBlk_apply m c ⟨t.val / 4 * 4, lt_of_le_of_lt (Nat.div_mul_le_self t.val 4) t.isLt⟩ k
  unfold N
  exact congrArg₂ (· * ·) (congrArg₂ (· * ·) (e k) (congrArg scl (funext e))) eg

/-- What a point writes back is its block of the product. -/
theorem flushed_eq (c : Dev nD) (t : Fin cfg0.N) :
    (dats m 0 c).flushed 3 t = ((cfg0.win 3).blk t).view.read (Elt Ideal)
      (G (m (((c : Thread nD τ)).loc main_arg0)) (m (((c : Thread nD τ)).loc main_arg1)) (m (((c : Thread nD τ)).loc main_arg2))) := by
  show (cfg0.win 3).cut (grid0.coords t) ((dats m 0 c).after 3 t) = _
  rw [after_3]
  funext y
  have e0 : win0_3.index t (0 : Fin 2) = t.val / 4 := congrFun (idx t).2.2.2 0
  have e1 : win0_3.index t (1 : Fin 2) = t.val % 4 := congrFun (idx t).2.2.2 1
  have hb0 : (((cfg0.win 3).blk t).view.emb y 0).val = win0_3.index t (0 : Fin 2) * 1024 + 1 * (y 0).val := rfl
  have hb1 : (((cfg0.win 3).blk t).view.emb y 1).val = win0_3.index t (1 : Fin 2) * 1280 + 1 * (y 1).val := rfl
  refine (pay1_apply _ _ ((cfg0.win 3).xinj (grid0.coords t) y)).trans ?_
  show _ = ∑ k : Fin 1024, N (m (((c : Thread nD τ)).loc main_arg0)) (m (((c : Thread nD τ)).loc main_arg1)) (((cfg0.win 3).blk t).view.emb y 0) k
    * m (((c : Thread nD τ)).loc main_arg2) (ix2 k (((cfg0.win 3).blk t).view.emb y 1))
  refine Finset.sum_congr rfl fun k _ => congrArg₂ (· * ·)
    ((hAt_apply m c t (y 0) k).trans ?_) ((wBlk_apply m c t k (y 1)).trans (congrArg _ (funext fun a => Fin.ext ?_)))
  · refine congrArg (fun r => N _ _ r k) (Fin.ext ?_)
    show t.val / 4 * 1024 + (y 0).val = (((cfg0.win 3).blk t).view.emb y 0).val
    rw [hb0, e0, Nat.one_mul]
  · match a with
    | ⟨0, _⟩ => rfl
    | ⟨1, _⟩ => show t.val % 4 * 1280 + (y 1).val = (((cfg0.win 3).blk t).view.emb y 1).val; rw [hb1, e1, Nat.one_mul]

/-- Every block of the array is some point's. -/
theorem onto : ∀ (a : Fin 8) (b : Fin 4), win0_3.index (⟨4 * a.val + b.val, lt_of_lt_of_eq (by omega) N_0.symm⟩ : Fin grid0.N) = ![a.val, b.val] := by decide +kernel

/-- The product's array after the run. -/
theorem final (c : Dev nD) : (dats m 0 c).arrAt 3 cfg0.N
    = G (m (((c : Thread nD τ)).loc main_arg0)) (m (((c : Thread nD τ)).loc main_arg1)) (m (((c : Thread nD τ)).loc main_arg2)) :=
  (dats m 0 c).arrAt_eq_of_cover 3 _ (fun t _ => flushed_eq m c t) (fun i => by
    have hi0 : (i 0).val < 8192 := (i 0).isLt
    have hi1 : (i 1).val < 5120 := (i 1).isLt
    have ht := onto ⟨(i 0).val / 1024, by omega⟩ ⟨(i 1).val / 1280, by omega⟩
    refine ⟨⟨4 * ((i 0).val / 1024) + (i 1).val / 1280, lt_of_lt_of_eq (by omega) N_0.symm⟩, flush0_3 _, ?_⟩
    generalize (⟨4 * ((i 0).val / 1024) + (i 1).val / 1280, lt_of_lt_of_eq (by omega) N_0.symm⟩ : Fin grid0.N) = t at ht ⊢
    have q0 : win0_3.index t (0 : Fin 2) = (i 0).val / 1024 := congrFun ht 0
    have q1 : win0_3.index t (1 : Fin 2) = (i 1).val / 1280 := congrFun ht 1
    show i ∈ ((View.whole main_v0_0).slice (win0_3.rect t)).set
    rw [View.set_slice_whole, Rect.mem_set_unit]
    intro a
    match a with
    | ⟨0, _⟩ => show win0_3.index t (0 : Fin 2) * 1024 ≤ (i 0).val ∧ (i 0).val < win0_3.index t (0 : Fin 2) * 1024 + 1024; omega
    | ⟨1, _⟩ => show win0_3.index t (1 : Fin 2) * 1280 ≤ (i 1).val ∧ (i 1).val < win0_3.index t (1 : Fin 2) * 1280 + 1280; omega)

/-! ## The reference's value -/

/-- The reference's product. -/
theorem ref_eq (x : S8192x1024.Idx → EReal) (g : S1x1024.Idx → EReal) (w : S1024x5120.Idx → EReal) :
    (Cert.Reference4Ideal.Read.val_main_v16 (F := Ideal) x g w : S8192x5120.Idx → EReal) = G x g w := by
  funext i
  rw [Cert.Reference4Ideal.Read.val_main_v16_apply]
  refine (Cert.Reference4Ideal.Read.val_main_v15_apply x g w i).trans (Finset.sum_congr rfl fun k _ => ?_)
  refine congrArg₂ (· * ·) ?_ (congrArg w (funext fun a => Fin.ext (by match a with | ⟨0, _⟩ => rfl | ⟨1, _⟩ => rfl)))
  show Cert.Reference4Ideal.Read.val_main_v11 (F := Ideal) x g (Cert.Reference4Ideal.Read.lidx_main_v15 i k) = _
  simp only [Cert.Reference4Ideal.Read.val_main_v11_apply, Cert.Reference4Ideal.Read.val_main_v9_apply, Cert.Reference4Ideal.Read.val_main_v10_apply,
    Cert.Reference4Ideal.Read.val_main_v8_apply, Cert.Reference4Ideal.Read.val_main_v7_apply, Cert.Reference4Ideal.Read.val_main_v6_apply,
    Cert.Reference4Ideal.Read.val_main_v5_apply, Cert.Reference4Ideal.Read.val_main_v4_apply, Cert.Reference4Ideal.Read.val_main_v3_apply,
    Cert.Reference4Ideal.Read.val_main_v2_apply, Cert.Reference4Ideal.Read.val_main_v1_apply, Cert.Reference4Ideal.Read.val_main_v0_apply]
  have e1 : ∀ l : Fin 1024, Cert.Reference4Ideal.Read.idx_main_v1 (Cert.Reference4Ideal.Read.idx_main_v2
      (Cert.Reference4Ideal.Read.idx_main_v8 (Cert.Reference4Ideal.Read.lidx_main_v15 i k))) l = ix2 (i 0) l := fun l =>
    funext fun a => by match a with | ⟨0, _⟩ => rfl | ⟨1, _⟩ => rfl
  have e2 : Cert.Reference4Ideal.Read.idx_main_v10 (Cert.Reference4Ideal.Read.lidx_main_v15 i k) = ix2 0 k :=
    funext fun a => by match a with | ⟨0, _⟩ => rfl | ⟨1, _⟩ => rfl
  have e3 : Cert.Reference4Ideal.Read.lidx_main_v15 i k = ix2 (i 0) k :=
    funext fun a => by match a with | ⟨0, _⟩ => rfl | ⟨1, _⟩ => rfl
  have e4 : Cert.Reference4Ideal.Read.val_main_cst (F := Ideal) (Shape.Idx.first Cert.Reference4Ideal.Gen.h_S_) = (0 : EReal) :=
    Ideal.ofBits_zero_f32
  simp only [e1, e2]
  rw [e4, zero_add, e3]
  rfl

/-! ## The claims -/

/-- The even layer's norm and input projection: from the same arguments the kernel and the reference end at the same product. -/
theorem algebraic : Cert.algebraic_Kernel4Ideal_Reference4Ideal (hKernel4Ideal := Cert.Kernel4Ideal.Gen.facts)
    (hReference4Ideal := Cert.Reference4Ideal.Gen.facts) := by
  intro m g m' g' _ hargs
  refine ⟨fun c => G (m (((c : Thread nD τ)).loc main_arg0)) (m (((c : Thread nD τ)).loc main_arg1)) (m (((c : Thread nD τ)).loc main_arg2)),
    (θ_run _ _ _).mono (fun r h c => ⟨(h.1 c).1.trans (final m c), (h.1 c).2⟩) (run_post (F := Ideal) m g), ?_⟩
  refine (θ_run _ _ _).mono (fun r h c => ?_) (Cert.Reference4Ideal.Value.run (F := Ideal) m' g')
  obtain ⟨h6, h0, h1, h2⟩ := h c
  obtain ⟨e0, e1, e2⟩ := hargs c
  refine ⟨?_, h0, h1, h2⟩
  rw [e0, e1, e2] at h6
  exact h6.trans ((Cert.Reference4Ideal.Read.val_main_v16_eq _ _ _).trans (ref_eq _ _ _))

/-- The kernel's run leaves its arguments alone and every counter at zero, over the ideal numbers. -/
theorem frame_ideal : Cert.quiescent_Kernel4Ideal (hKernel4Ideal := Cert.Kernel4Ideal.Gen.facts) := fun m g _ =>
  run_frame (F := Ideal) m g

attribute [local instance] Cert.Kernel4.Gen.facts Cert.Kernel4Ideal.Gen.facts in
/-- The program over machine words and the program over the ideal numbers have one body table, -/
theorem defs₀_eq : Cert.Kernel4.defs₀ (F := Bits) = Cert.Kernel4Ideal.defs₀ (F := Bits) := by
  unfold Cert.Kernel4.defs₀ Cert.Kernel4Ideal.defs₀
  refine congrArg Defs.onTc ?_
  funext l a
  match l, a with
  | ⟨0, _⟩, (t, s) => rfl
  | ⟨_ + 1, h⟩, _ => exact absurd h (Nat.not_lt.2 (Nat.le_add_left _ _))

attribute [local instance] Cert.Kernel4.Gen.facts Cert.Kernel4Ideal.Gen.facts in
/-- and so one program. -/
theorem defs_eq : Cert.Kernel4.defs (F := Bits) = Cert.Kernel4Ideal.defs (F := Bits) :=
  congrArg (Pipeline.defs Cert.Kernel4Ideal.pcfgs) defs₀_eq

/-- The same over machine words, of the program as printed. -/
theorem frame_kernel : Cert.quiescent_Kernel4 (hKernel4 := Cert.Kernel4.Gen.facts) := fun m g _ => by
  rw [defs_eq]
  exact run_frame (F := Bits) m g

/-- The reference's run leaves its arguments alone; it declares no counter. -/
theorem frame_reference : Cert.quiescent_Reference4Ideal (hReference4Ideal := Cert.Reference4Ideal.Gen.facts) := fun m g _ =>
  (θ_run Cert.Reference4Ideal.defs _ _).mono (fun r h => ⟨fun c => (h c).2, sem_eq_zero_of_no_sems (by decide) r.2⟩)
    (Cert.Reference4Ideal.Value.run (F := Ideal) m g)

end Cert.Proof.NormMatmul

end
-- ==== Proof.OddInRun.lean ====
/- The odd block's input projection (`cc0_odd_in`), run over any element type `F`: `x @ w` where the rows of `x` stand in
   one of three orders, chosen by the column block of `w`. The output window 5 (`w` transposed) is written back at a point
   whose body stores nothing into it, so the run says nothing of it; what window 4 holds (the product) is named exactly. -/
module

public import proofs.«01_k».proof.Proof.Gen.Kernel5Ideal.Frame
public import proofs.«01_k».proof.Proof.Gen.Kernel5Ideal.Skeleton
public import proofs.«01_k».proof.Proof.Gen.Kernel5Ideal.Points
public import proofs.«01_k».proof.Proof.RunKit
public import Idealize.ShloMosaic.Lib.Pipeline.FrameBody
public import Idealize.ShloMosaic.Lib.VecWindow
public import Idealize.ShloMosaic.Lib.WordCmp

@[expose] public section

set_option maxRecDepth 16384

noncomputable section

namespace Cert.Proof.OddInRun

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation RDat cellOf)

variable {F : FTy → Type} [FloatOps F]
variable (m : (ℓ : Loc nD τ sig) → Buf (Elt F) ℓ) (ρ : Dev nD → PrngReg)

/-! ## Which product a point takes -/

/-- Column blocks 3, 4 and 5 take the rows in the second order, blocks 6, 7 and 8 in the third, the others in the first. -/
theorem cond1_iff : ∀ t : Fin cfg0.N, k0_cond1 (grid0.coords t) = 1#1 ↔ (t.val % 14 < 3 ∨ 9 ≤ t.val % 14) :=
  (by decide +kernel : ∀ t : Fin grid0.N, k0_cond1 (grid0.coords t) = 1#1 ↔ (t.val % 14 < 3 ∨ 9 ≤ t.val % 14))
/-- The second order. -/
theorem cond2_iff : ∀ t : Fin cfg0.N, k0_cond2 (grid0.coords t) = 1#1 ↔ (3 ≤ t.val % 14 ∧ t.val % 14 < 6) :=
  (by decide +kernel : ∀ t : Fin grid0.N, k0_cond2 (grid0.coords t) = 1#1 ↔ (3 ≤ t.val % 14 ∧ t.val % 14 < 6))
/-- The third order. -/
theorem cond3_iff : ∀ t : Fin cfg0.N, k0_cond3 (grid0.coords t) = 1#1 ↔ (6 ≤ t.val % 14 ∧ t.val % 14 < 9) :=
  (by decide +kernel : ∀ t : Fin grid0.N, k0_cond3 (grid0.coords t) = 1#1 ↔ (6 ≤ t.val % 14 ∧ t.val % 14 < 9))

/-- The product block that the body leaves at point `t`. -/
def zAt (c : Dev nD) (t : Fin cfg0.N) : Vec F S2048x1024 .bf16 :=
  if 3 ≤ t.val % 14 ∧ t.val % 14 < 6 then k0_pay2 (iblk m c 1 t) (iblk m c 3 t)
  else if 6 ≤ t.val % 14 ∧ t.val % 14 < 9 then k0_pay3 (iblk m c 2 t) (iblk m c 3 t)
  else k0_pay1 (iblk m c 0 t) (iblk m c 3 t)

/-! ## The body -/

set_option maxHeartbeats 1000000 in
/-- The body where the first order is taken: it leaves the product in window 4's buffer and something in window 5's. -/
theorem body_1 (c : Dev nD) (i : grid0.Coords) (arg2 : Memref sig .tc .vmem S2048x1024 .bf16) (harg2 : arg2.IsWhole) (arg3 : Memref sig .tc .vmem S2048x1024 .bf16) (harg3 : arg3.IsWhole) (arg4 : Memref sig .tc .vmem S2048x1024 .bf16) (harg4 : arg4.IsWhole) (arg5 : Memref sig .tc .vmem S1024x1024 .bf16) (harg5 : arg5.IsWhole) (arg6 : Memref sig .tc .vmem S2048x1024 .bf16) (harg6 : arg6.IsWhole) (arg7 : Memref sig .tc .vmem S1024x1024 .bf16) (harg7 : arg7.IsWhole)
    (hc1 : k0_cond1 i = 1#1) (hc2 : ¬ k0_cond2 i = 1#1) (hc3 : ¬ k0_cond3 i = 1#1)
    (x0 x1 x2 : Vec F S2048x1024 .bf16) (x3 : Vec F S1024x1024 .bf16) (E : Set ℕ) (K : PUnit → sProp (MT nD τ sig Unit (Elt F) ℕ (UR sig nD τ) ℕ)) :
    iprop(owns (c : Thread nD τ) arg2 fullShare x0 ∗ owns (c : Thread nD τ) arg3 fullShare x1 ∗ owns (c : Thread nD τ) arg4 fullShare x2 ∗ owns (c : Thread nD τ) arg5 fullShare x3
        ∗ (∃ d, owns (c : Thread nD τ) arg6 fullShare d) ∗ (∃ d, owns (c : Thread nD τ) arg7 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare (k0_pay1 x0 x3) ∗ (∃ d, owns (c : Thread nD τ) arg7 fullShare d)) -∗ K ⟨⟩))
      ⊢ wp frame (wpE (defs₀ (F := F)) Variants.none c none) E (cc0_odd_in i arg2 harg2 arg3 harg3 arg4 harg4 arg5 harg5 arg6 harg6 arg7 harg7) K := by
  by_cases hc4 : k0_cond4 i = 1#1
  all_goals
    simp only [cc0_odd_in_eq_skeleton]; unfold cc0_odd_in_skel
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
    obtain rfl := harg2.eq_unread hf0; obtain rfl := harg3.eq_unread hf1; obtain rfl := harg4.eq_unread hf2; obtain rfl := harg5.eq_unread hf3
    sl_exec (disch := first | sl_exact hc1 | sl_exact hc2 | sl_exact hc3 | sl_exact hc4)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr
      swap; · iexact H4
      ipureintro
      rw [RunKit.read_store_whole, RunKit.readAt_unread, RunKit.readAt_unread]
    iexists _; iexists _; isplitr
    swap; · iexact H5
    ipureintro; rfl

set_option maxHeartbeats 1000000 in
/-- The body where the second order is taken: it leaves the product in window 4's buffer and something in window 5's. -/
theorem body_2 (c : Dev nD) (i : grid0.Coords) (arg2 : Memref sig .tc .vmem S2048x1024 .bf16) (harg2 : arg2.IsWhole) (arg3 : Memref sig .tc .vmem S2048x1024 .bf16) (harg3 : arg3.IsWhole) (arg4 : Memref sig .tc .vmem S2048x1024 .bf16) (harg4 : arg4.IsWhole) (arg5 : Memref sig .tc .vmem S1024x1024 .bf16) (harg5 : arg5.IsWhole) (arg6 : Memref sig .tc .vmem S2048x1024 .bf16) (harg6 : arg6.IsWhole) (arg7 : Memref sig .tc .vmem S1024x1024 .bf16) (harg7 : arg7.IsWhole)
    (hc1 : ¬ k0_cond1 i = 1#1) (hc2 : k0_cond2 i = 1#1) (hc3 : ¬ k0_cond3 i = 1#1)
    (x0 x1 x2 : Vec F S2048x1024 .bf16) (x3 : Vec F S1024x1024 .bf16) (E : Set ℕ) (K : PUnit → sProp (MT nD τ sig Unit (Elt F) ℕ (UR sig nD τ) ℕ)) :
    iprop(owns (c : Thread nD τ) arg2 fullShare x0 ∗ owns (c : Thread nD τ) arg3 fullShare x1 ∗ owns (c : Thread nD τ) arg4 fullShare x2 ∗ owns (c : Thread nD τ) arg5 fullShare x3
        ∗ (∃ d, owns (c : Thread nD τ) arg6 fullShare d) ∗ (∃ d, owns (c : Thread nD τ) arg7 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare (k0_pay2 x1 x3) ∗ (∃ d, owns (c : Thread nD τ) arg7 fullShare d)) -∗ K ⟨⟩))
      ⊢ wp frame (wpE (defs₀ (F := F)) Variants.none c none) E (cc0_odd_in i arg2 harg2 arg3 harg3 arg4 harg4 arg5 harg5 arg6 harg6 arg7 harg7) K := by
  by_cases hc4 : k0_cond4 i = 1#1
  all_goals
    simp only [cc0_odd_in_eq_skeleton]; unfold cc0_odd_in_skel
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
    obtain rfl := harg2.eq_unread hf0; obtain rfl := harg3.eq_unread hf1; obtain rfl := harg4.eq_unread hf2; obtain rfl := harg5.eq_unread hf3
    sl_exec (disch := first | sl_exact hc1 | sl_exact hc2 | sl_exact hc3 | sl_exact hc4)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr
      swap; · iexact H4
      ipureintro
      rw [RunKit.read_store_whole, RunKit.readAt_unread, RunKit.readAt_unread]
    iexists _; iexists _; isplitr
    swap; · iexact H5
    ipureintro; rfl

set_option maxHeartbeats 1000000 in
/-- The body where the third order is taken: it leaves the product in window 4's buffer and something in window 5's. -/
theorem body_3 (c : Dev nD) (i : grid0.Coords) (arg2 : Memref sig .tc .vmem S2048x1024 .bf16) (harg2 : arg2.IsWhole) (arg3 : Memref sig .tc .vmem S2048x1024 .bf16) (harg3 : arg3.IsWhole) (arg4 : Memref sig .tc .vmem S2048x1024 .bf16) (harg4 : arg4.IsWhole) (arg5 : Memref sig .tc .vmem S1024x1024 .bf16) (harg5 : arg5.IsWhole) (arg6 : Memref sig .tc .vmem S2048x1024 .bf16) (harg6 : arg6.IsWhole) (arg7 : Memref sig .tc .vmem S1024x1024 .bf16) (harg7 : arg7.IsWhole)
    (hc1 : ¬ k0_cond1 i = 1#1) (hc2 : ¬ k0_cond2 i = 1#1) (hc3 : k0_cond3 i = 1#1)
    (x0 x1 x2 : Vec F S2048x1024 .bf16) (x3 : Vec F S1024x1024 .bf16) (E : Set ℕ) (K : PUnit → sProp (MT nD τ sig Unit (Elt F) ℕ (UR sig nD τ) ℕ)) :
    iprop(owns (c : Thread nD τ) arg2 fullShare x0 ∗ owns (c : Thread nD τ) arg3 fullShare x1 ∗ owns (c : Thread nD τ) arg4 fullShare x2 ∗ owns (c : Thread nD τ) arg5 fullShare x3
        ∗ (∃ d, owns (c : Thread nD τ) arg6 fullShare d) ∗ (∃ d, owns (c : Thread nD τ) arg7 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare (k0_pay3 x2 x3) ∗ (∃ d, owns (c : Thread nD τ) arg7 fullShare d)) -∗ K ⟨⟩))
      ⊢ wp frame (wpE (defs₀ (F := F)) Variants.none c none) E (cc0_odd_in i arg2 harg2 arg3 harg3 arg4 harg4 arg5 harg5 arg6 harg6 arg7 harg7) K := by
  by_cases hc4 : k0_cond4 i = 1#1
  all_goals
    simp only [cc0_odd_in_eq_skeleton]; unfold cc0_odd_in_skel
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
    obtain rfl := harg2.eq_unread hf0; obtain rfl := harg3.eq_unread hf1; obtain rfl := harg4.eq_unread hf2; obtain rfl := harg5.eq_unread hf3
    sl_exec (disch := first | sl_exact hc1 | sl_exact hc2 | sl_exact hc3 | sl_exact hc4)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr
      swap; · iexact H4
      ipureintro
      rw [RunKit.read_store_whole, RunKit.readAt_unread, RunKit.readAt_unread]
    iexists _; iexists _; isplitr
    swap; · iexact H5
    ipureintro; rfl

/-! ## The proof data -/

/-- The proof data: the arrays as the host operations leave them, each input's buffer at its block, window 4's at the product, window 5's at
    anything (the run does not read it), nothing carried from point to point. -/
def dats : (p : Fin 1) → (c : Dev nD) → Dat τ (Elt F) Unit ℕ (UR sig nD τ) ℕ (cfgs p) c
  | ⟨0, _⟩ => fun c => {
      A := fun w => V m c (Pipeline.arrRef spec0 w)
      after := fun w t => match w with
        | ⟨0, _⟩ => iblk m c 0 t
        | ⟨1, _⟩ => iblk m c 1 t
        | ⟨2, _⟩ => iblk m c 2 t
        | ⟨3, _⟩ => iblk m c 3 t
        | ⟨4, _⟩ => zAt m c t
        | ⟨5, _⟩ => Dat.unnamed (cfg := cfg0) 5 t
        | ⟨_ + 6, h⟩ => absurd h (Nat.not_lt.2 (Nat.le_add_left _ _))
      Φ := fun _ => Pipeline.ΦA spec0 c
      q := fun _ => fullShare
      owed := fun _ => 0 }
  | ⟨_ + 1, h⟩ => absurd h (Nat.not_lt.2 (Nat.le_add_left _ _))

/-- The windows of which nothing is said: window 5. -/
def fgt (w : Fin cfg0.W) : Bool := w.val == 5

/-- The data's arrays are the arrays at the region's entry. -/
theorem A_eq (c : Dev nD) (w : Fin cfg0.W) : (dats m 0 c).A w = V m c (Pipeline.arrRef spec0 w) := by dsimp only [dats]
/-- Window 4's buffer after the body. -/
theorem after_4 (c : Dev nD) (t : Fin cfg0.N) : (dats m 0 c).after 4 t = zAt m c t := by dsimp only [dats]

/-- Each input's buffer holds its block at every point. -/
theorem before_0 (c : Dev nD) (t : Fin cfg0.N) (d) : (dats m 0 c).before 0 t d = iblk m c 0 t :=
  before0_0_of m (dats m 0 c) (A_eq m c 0) (fun t => by dsimp only [dats]) t d
/-- The same of window 1. -/
theorem before_1 (c : Dev nD) (t : Fin cfg0.N) (d) : (dats m 0 c).before 1 t d = iblk m c 1 t :=
  before0_1_of m (dats m 0 c) (A_eq m c 1) (fun t => by dsimp only [dats]) t d
/-- The same of window 2. -/
theorem before_2 (c : Dev nD) (t : Fin cfg0.N) (d) : (dats m 0 c).before 2 t d = iblk m c 2 t :=
  before0_2_of m (dats m 0 c) (A_eq m c 2) (fun t => by dsimp only [dats]) t d
/-- The same of window 3. -/
theorem before_3 (c : Dev nD) (t : Fin cfg0.N) (d) : (dats m 0 c).before 3 t d = iblk m c 3 t :=
  before0_3_of m (dats m 0 c) (A_eq m c 3) (fun t => by dsimp only [dats]) t d

/-- Window 4 is stored at every point. -/
theorem live_4 : ∀ t : Fin cfg0.N, cfg0.idle 4 (grid0.coords t) = false := by decide +kernel

/-- What the body is called with at point `t`, window by window, -/
def bodyPre (c : Dev nD) (t : Fin cfg0.N) : sProp (MT nD τ sig Unit (Elt F) ℕ (UR sig nD τ) ℕ) :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ X, owns (c : Thread nD τ) (st0_5 t) fullShare X))

/-- and what it returns. -/
def bodyPost (c : Dev nD) (t : Fin cfg0.N) : sProp (MT nD τ sig Unit (Elt F) ℕ (UR sig nD τ) ℕ) :=
  iprop((dats m 0 c).Φ t.succ ∗ (dats m 0 c).owesAt () t.succ
    ∗ (dats m 0 c).leavesExact 0 t ∗ (dats m 0 c).leavesExact 1 t ∗ (dats m 0 c).leavesExact 2 t ∗ (dats m 0 c).leavesExact 3 t
    ∗ (dats m 0 c).leavesExact 4 t
    ∗ (∃ X, owns (c : Thread nD τ) (st0_5 t) fullShare X))

set_option maxHeartbeats 1600000 in
/-- The body at any point meets its obligation. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3]
  rw [show (dats m 0 c).owesAt () t.succ = (dats m 0 c).owesAt () t.castSucc from rfl]
  rw [show (dats m 0 c).Φ t.succ = (dats m 0 c).Φ t.castSucc from rfl]
  rw [show (dats m 0 c).leavesExact 0 t = owns (c : Thread nD τ) (st0_0 t) fullShare (iblk m c 0 t) from rfl]
  rw [show (dats m 0 c).leavesExact 1 t = owns (c : Thread nD τ) (st0_1 t) fullShare (iblk m c 1 t) from rfl]
  rw [show (dats m 0 c).leavesExact 2 t = owns (c : Thread nD τ) (st0_2 t) fullShare (iblk m c 2 t) from rfl]
  rw [show (dats m 0 c).leavesExact 3 t = owns (c : Thread nD τ) (st0_3 t) fullShare (iblk m c 3 t) from rfl]
  rw [show (dats m 0 c).leavesExact 4 t = owns (c : Thread nD τ) (st0_4 t) fullShare (zAt m c t) from by
    unfold Dat.leavesExact; rw [live_4 t, after_4]]
  by_cases h2 : 3 ≤ t.val % 14 ∧ t.val % 14 < 6
  · rw [show zAt m c t = k0_pay2 (iblk m c 1 t) (iblk m c 3 t) from if_pos h2]
    iintro ⟨HΦ, Ho, ⟨%d0, H0⟩, ⟨%d1, H1⟩, ⟨%d2, H2⟩, ⟨%d3, H3⟩, ⟨%d4, H4⟩, ⟨%d5, H5⟩⟩
    iapply (body_2 c (grid0.coords t) _ _ _ _ _ _ _ _ _ _ _ _ (fun h => by have := (cond1_iff t).mp h; omega) ((cond2_iff t).mpr h2) (fun h => by have := (cond3_iff t).mp h; omega) (iblk m c 0 t) (iblk m c 1 t) (iblk m c 2 t) (iblk m c 3 t) Set.univ _)
    isplitl [H0]; · iexact H0
    isplitl [H1]; · iexact H1
    isplitl [H2]; · iexact H2
    isplitl [H3]; · iexact H3
    isplitl [H4]; · iexists _; iexact H4
    isplitl [H5]; · iexists _; iexact H5
    iintro ⟨H0, H1, H2, H3, H4, H5⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    iexact H5
  · by_cases h3 : 6 ≤ t.val % 14 ∧ t.val % 14 < 9
    · rw [show zAt m c t = k0_pay3 (iblk m c 2 t) (iblk m c 3 t) from (if_neg h2).trans (if_pos h3)]
      iintro ⟨HΦ, Ho, ⟨%d0, H0⟩, ⟨%d1, H1⟩, ⟨%d2, H2⟩, ⟨%d3, H3⟩, ⟨%d4, H4⟩, ⟨%d5, H5⟩⟩
      iapply (body_3 c (grid0.coords t) _ _ _ _ _ _ _ _ _ _ _ _ (fun h => by have := (cond1_iff t).mp h; omega) (fun h => h2 ((cond2_iff t).mp h)) ((cond3_iff t).mpr h3) (iblk m c 0 t) (iblk m c 1 t) (iblk m c 2 t) (iblk m c 3 t) Set.univ _)
      isplitl [H0]; · iexact H0
      isplitl [H1]; · iexact H1
      isplitl [H2]; · iexact H2
      isplitl [H3]; · iexact H3
      isplitl [H4]; · iexists _; iexact H4
      isplitl [H5]; · iexists _; iexact H5
      iintro ⟨H0, H1, H2, H3, H4, H5⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      iexact H5
    · rw [show zAt m c t = k0_pay1 (iblk m c 0 t) (iblk m c 3 t) from (if_neg h2).trans (if_neg h3)]
      iintro ⟨HΦ, Ho, ⟨%d0, H0⟩, ⟨%d1, H1⟩, ⟨%d2, H2⟩, ⟨%d3, H3⟩, ⟨%d4, H4⟩, ⟨%d5, H5⟩⟩
      iapply (body_1 c (grid0.coords t) _ _ _ _ _ _ _ _ _ _ _ _ ((cond1_iff t).mpr (by omega)) (fun h => h2 ((cond2_iff t).mp h)) (fun h => h3 ((cond3_iff t).mp h)) (iblk m c 0 t) (iblk m c 1 t) (iblk m c 2 t) (iblk m c 3 t) Set.univ _)
      isplitl [H0]; · iexact H0
      isplitl [H1]; · iexact H1
      isplitl [H2]; · iexact H2
      isplitl [H3]; · iexact H3
      isplitl [H4]; · iexists _; iexact H4
      isplitl [H5]; · iexists _; iexact H5
      iintro ⟨H0, H1, H2, H3, H4, H5⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      iexact H5

/-- The body table's row at point `t` is the body there. -/
theorem defs₀_row (t : Fin cfg0.N) : defs₀ (F := F) .tc cfg0.body (cfg0.bodyArgs t (cfg0.slots t)) = bodyAt0 t := by
  unfold defs₀; rw [Defs.onTc_tc]

/-- The body obligation, window 5 forgotten. -/
theorem body_obligation (c : Dev nD) : BodyObligation (dats (F := F) m 0 c) (defs₀ (F := F)) Variants.none () Set.univ fgt := fun t => by
  rw [bigSep_W0, bigSep_W0, defs₀_row]
  exact triple_restated (sound_body m c t) rfl .rfl fun _ => .rfl

/-! ## The run -/

set_option backward.isDefEq.respectTransparency.types false in
/-- Every run ends with the arrays of the windows but window 5 at what the data name, and with every counter at zero. -/
theorem run_main : θ_run defs (onTc (τ := τ) (main (F := F))) (s₀ m ρ)
    (fun r => RDat.FramePost cfg0 (fun c => (dats m 0 c).toRForget fgt) (V m) r ∧ r.2.sem = fun _ => 0) :=
  Pipeline.θ_run_frame_forget (Q' := _) cfgs (dats m) (0 : Fin 1) launch0 defs₀ Variants.none fgt m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- What the run leaves: the product's array at what the data name, the arguments as launched, every counter at zero. -/
theorem run_post : θ_run defs (onTc (τ := τ) (main (F := F))) (s₀ m ρ) (fun r => (∀ c : Dev nD,
      r.2.mem ((c.tc : Thread nD τ).loc main_v6_0) = (dats m 0 c).arrAt 4 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) :=
  (θ_run defs _ _).mono (fun r h => ⟨fun c =>
    ⟨((dats m 0 c).toRForget_arrAt_iff (fgt := fgt) (w := 4) rfl cfg0.N _).mp ((h.1 c).1 4),
      (h.1.arr_in c 0 rfl).trans ((A_eq m c 0).trans (V_main_arg0 m c)),
      (h.1.arr_in c 3 rfl).trans ((A_eq m c 3).trans (V_main_arg1 m c))⟩, h.2⟩) (run_main m ρ)

end Cert.Proof.OddInRun

end
-- ==== Proof.OddInRef.lean ====
/-
  The reference of the odd layer's input projection, read at an element: its slices, regroupings and joins come to one product
  with the rows of each column group in that group's order.
-/
module

public import proofs.«01_k».proof.Proof.Gen.Reference5Ideal.Run
public import proofs.«01_k».proof.Proof.Gen.Reference5Ideal.Read
public import Idealize.ShloMosaic.Lib.Pipeline.Value
public import Idealize.ShloMosaic.Lib.ValueIdx
public import Idealize.ShloMosaic.PureOps.Ideal.Laws
public import Idealize.ShloMosaic.Lib.Pipeline.ValueKit.Point

@[expose] public section

set_option maxRecDepth 16384

noncomputable section

namespace Cert.Proof.OddInRef

open Idealize.ShloMosaic hiding ix2 ix3 ix4 ix5
open Cert.Reference5Ideal Cert.Reference5Ideal.Gen Cert.Reference5Ideal.Read Idealize.ShloMosaic.ValueIdx

/-! ## The array's contents, said plainly -/

/-- The order that column `n`'s rows stand in: 0 as given, 1 by residue modulo 4, 2 by residue modulo 16. -/
def grp (n : ℕ) : ℕ := if n < 9216 then n / 1024 % 3 else 0

/-- The row of the input that stands at row `r` in order `g`. -/
def src (g r : ℕ) : ℕ :=
  if g = 1 then r / 512 * 512 + r % 128 * 4 + r / 128 % 4
  else if g = 2 then r / 2048 * 2048 + r % 128 * 16 + r / 128 % 16 else r

/-- A source row is a row. -/
theorem src_lt (g : ℕ) {r : ℕ} (h : r < 8192) : src g r < 8192 := by
  unfold src
  split
  · omega
  · split <;> omega

/-- The product, its rows regrouped by column group. -/
def G (x : S8192x1024.Idx → EReal) (w : S1024x14336.Idx → EReal) : S8192x14336.Idx → EReal := fun i =>
  ∑ k : Fin 1024, x (ix2 (⟨src (grp (i 1).val) (i 0).val, src_lt _ (i 0).isLt⟩ : Fin 8192) k) * w (ix2 k (i 1))

variable (x : (⟨S8192x1024, .bf16⟩ : BufTy).Contents (Elt Ideal)) (w : (⟨S1024x14336, .bf16⟩ : BufTy).Contents (Elt Ideal))

/-- The plain product's entry. -/
theorem v3_apply (i : S8192x14336.Idx) :
    (val_main_v3 (F := Ideal) x w i : EReal) = ∑ k : Fin 1024, x (ix2 (i 0) k) * w (ix2 k (i 1)) := by
  refine (val_main_v3_apply (F := Ideal) x w _).trans ((val_main_v2_apply x w _).trans (Finset.sum_congr rfl fun k _ => ?_))
  refine congrArg₂ (· * ·) ((val_main_v0_apply (F := Ideal) x _).trans (congrArg x (funext fun a => Fin.ext ?_)))
    ((val_main_v1_apply (F := Ideal) w _).trans (congrArg w (funext fun a => Fin.ext ?_)))
  · match a with
    | ⟨0, _⟩ => rfl
    | ⟨1, _⟩ => rfl
  · match a with
    | ⟨0, _⟩ => rfl
    | ⟨1, _⟩ => rfl

/-- The first 9216 columns as three parts of three groups. -/
theorem v5_apply (i : S8192x3x3x1024.Idx) (r n : ℕ) (hr : r < 8192) (hn : n < 14336) (e0 : (i 0).val = r)
    (e1 : (i 1).val * 3072 + (i 2).val * 1024 + (i 3).val = n) :
    val_main_v5 (F := Ideal) x w i = val_main_v3 (F := Ideal) x w (ix2 (⟨r, hr⟩ : Fin 8192) (⟨n, hn⟩ : Fin 14336)) := by
  refine (Read.val_main_v5_apply (F := Ideal) x w _).trans ((val_main_v4_apply (F := Ideal) x w _).trans (congrArg _ (funext fun a => Fin.ext ?_)))
  have h1 : (i 1).val < 3 := (i 1).isLt
  have h2 : (i 2).val < 3 := (i 2).isLt
  have h3 : (i 3).val < 1024 := (i 3).isLt
  match a with
  | ⟨0, _⟩ => show ((((i 0).val * 3 + (i 1).val) * 3 + (i 2).val) * 1024 + (i 3).val) / 9216 = r; omega
  | ⟨1, _⟩ => show ((((i 0).val * 3 + (i 1).val) * 3 + (i 2).val) * 1024 + (i 3).val) % 9216 = n; omega

/-- The second group's entry before its rows are regrouped. -/
theorem v7_apply (i : S8192x3x1024.Idx) (r n : ℕ) (hr : r < 8192) (hn : n < 14336) (e0 : (i 0).val = r)
    (e1 : (i 1).val * 3072 + 1024 + (i 2).val = n) :
    val_main_v7 (F := Ideal) x w i = val_main_v3 (F := Ideal) x w (ix2 (⟨r, hr⟩ : Fin 8192) (⟨n, hn⟩ : Fin 14336)) := by
  have h1 : (i 1).val < 3 := (i 1).isLt
  have h2 : (i 2).val < 1024 := (i 2).isLt
  refine (val_main_v7_apply (F := Ideal) x w _).trans ((val_main_v6_apply (F := Ideal) x w _).trans (v5_apply x w _ r n hr hn ?_ ?_))
  · show (((i 0).val * 3 + (i 1).val) * 1024 + (i 2).val) / 3072 = r; omega
  · show (((i 0).val * 3 + (i 1).val) * 1024 + (i 2).val) / 1024 % 3 * 3072 + (1 + 0) * 1024 + (((i 0).val * 3 + (i 1).val) * 1024 + (i 2).val) % 1024 = n; omega

/-- The third group's. -/
theorem v12_apply (i : S8192x3x1024.Idx) (r n : ℕ) (hr : r < 8192) (hn : n < 14336) (e0 : (i 0).val = r)
    (e1 : (i 1).val * 3072 + 2048 + (i 2).val = n) :
    val_main_v12 (F := Ideal) x w i = val_main_v3 (F := Ideal) x w (ix2 (⟨r, hr⟩ : Fin 8192) (⟨n, hn⟩ : Fin 14336)) := by
  have h1 : (i 1).val < 3 := (i 1).isLt
  have h2 : (i 2).val < 1024 := (i 2).isLt
  refine (val_main_v12_apply (F := Ideal) x w _).trans ((val_main_v11_apply (F := Ideal) x w _).trans (v5_apply x w _ r n hr hn ?_ ?_))
  · show (((i 0).val * 3 + (i 1).val) * 1024 + (i 2).val) / 3072 = r; omega
  · show (((i 0).val * 3 + (i 1).val) * 1024 + (i 2).val) / 1024 % 3 * 3072 + (2 + 0) * 1024 + (((i 0).val * 3 + (i 1).val) * 1024 + (i 2).val) % 1024 = n; omega

/-- The second group, its rows by residue modulo 4. -/
theorem v10_apply (i : S8192x3x1x1024.Idx) (n : ℕ) (hn : n < 14336) (e1 : (i 1).val * 3072 + 1024 + (i 3).val = n) :
    val_main_v10 (F := Ideal) x w i
      = val_main_v3 (F := Ideal) x w (ix2 (⟨src 1 (i 0).val, src_lt _ (i 0).isLt⟩ : Fin 8192) (⟨n, hn⟩ : Fin 14336)) := by
  have h0 : (i 0).val < 8192 := (i 0).isLt
  have h1 : (i 1).val < 3 := (i 1).isLt
  have h2 : (i 2).val < 1 := (i 2).isLt
  have h3 : (i 3).val < 1024 := (i 3).isLt
  have q0 : ((((i 0).val * 3 + (i 1).val) * 1 + (i 2).val) * 1024 + (i 3).val) / 1572864 = (i 0).val / 512 := by omega
  have d1 : ((((i 0).val * 3 + (i 1).val) * 1 + (i 2).val) * 1024 + (i 3).val) / 393216 = (i 0).val / 128 := by omega
  have q1 : ((((i 0).val * 3 + (i 1).val) * 1 + (i 2).val) * 1024 + (i 3).val) / 393216 % 4 = (i 0).val / 128 % 4 := by rw [d1]
  have d2 : ((((i 0).val * 3 + (i 1).val) * 1 + (i 2).val) * 1024 + (i 3).val) / 3072 = (i 0).val := by omega
  have q2 : ((((i 0).val * 3 + (i 1).val) * 1 + (i 2).val) * 1024 + (i 3).val) / 3072 % 128 = (i 0).val % 128 := by rw [d2]
  have q3 : ((((i 0).val * 3 + (i 1).val) * 1 + (i 2).val) * 1024 + (i 3).val) / 1024 % 3 = (i 1).val := by omega
  have q4 : ((((i 0).val * 3 + (i 1).val) * 1 + (i 2).val) * 1024 + (i 3).val) % 1024 = (i 3).val := by omega
  refine (val_main_v10_apply (F := Ideal) x w _).trans ((val_main_v9_apply (F := Ideal) x w _).trans ((val_main_v8_apply (F := Ideal) x w _).trans
    (v7_apply x w _ _ n _ hn ?_ ?_)))
  · show ((((((((i 0).val * 3 + (i 1).val) * 1 + (i 2).val) * 1024 + (i 3).val) / 1572864 * 128 + ((((i 0).val * 3 + (i 1).val) * 1 + (i 2).val) * 1024 + (i 3).val) / 3072 % 128) * 4 + ((((i 0).val * 3 + (i 1).val) * 1 + (i 2).val) * 1024 + (i 3).val) / 393216 % 4) * 3 + ((((i 0).val * 3 + (i 1).val) * 1 + (i 2).val) * 1024 + (i 3).val) / 1024 % 3) * 1024 + ((((i 0).val * 3 + (i 1).val) * 1 + (i 2).val) * 1024 + (i 3).val) % 1024) / 3072 = src 1 (i 0).val
    rw [q0, q1, q2, q3, q4]
    unfold src
    rw [if_pos rfl]
    omega
  · show ((((((((i 0).val * 3 + (i 1).val) * 1 + (i 2).val) * 1024 + (i 3).val) / 1572864 * 128 + ((((i 0).val * 3 + (i 1).val) * 1 + (i 2).val) * 1024 + (i 3).val) / 3072 % 128) * 4 + ((((i 0).val * 3 + (i 1).val) * 1 + (i 2).val) * 1024 + (i 3).val) / 393216 % 4) * 3 + ((((i 0).val * 3 + (i 1).val) * 1 + (i 2).val) * 1024 + (i 3).val) / 1024 % 3) * 1024 + ((((i 0).val * 3 + (i 1).val) * 1 + (i 2).val) * 1024 + (i 3).val) % 1024) / 1024 % 3 * 3072 + 1024
      + ((((((((i 0).val * 3 + (i 1).val) * 1 + (i 2).val) * 1024 + (i 3).val) / 1572864 * 128 + ((((i 0).val * 3 + (i 1).val) * 1 + (i 2).val) * 1024 + (i 3).val) / 3072 % 128) * 4 + ((((i 0).val * 3 + (i 1).val) * 1 + (i 2).val) * 1024 + (i 3).val) / 393216 % 4) * 3 + ((((i 0).val * 3 + (i 1).val) * 1 + (i 2).val) * 1024 + (i 3).val) / 1024 % 3) * 1024 + ((((i 0).val * 3 + (i 1).val) * 1 + (i 2).val) * 1024 + (i 3).val) % 1024) % 1024 = n
    rw [q0, q1, q2, q3, q4]
    omega

/-- The third group, its rows by residue modulo 16. -/
theorem v15_apply (i : S8192x3x1x1024.Idx) (n : ℕ) (hn : n < 14336) (e1 : (i 1).val * 3072 + 2048 + (i 3).val = n) :
    val_main_v15 (F := Ideal) x w i
      = val_main_v3 (F := Ideal) x w (ix2 (⟨src 2 (i 0).val, src_lt _ (i 0).isLt⟩ : Fin 8192) (⟨n, hn⟩ : Fin 14336)) := by
  have h0 : (i 0).val < 8192 := (i 0).isLt
  have h1 : (i 1).val < 3 := (i 1).isLt
  have h2 : (i 2).val < 1 := (i 2).isLt
  have h3 : (i 3).val < 1024 := (i 3).isLt
  have q0 : ((((i 0).val * 3 + (i 1).val) * 1 + (i 2).val) * 1024 + (i 3).val) / 6291456 = (i 0).val / 2048 := by omega
  have d1 : ((((i 0).val * 3 + (i 1).val) * 1 + (i 2).val) * 1024 + (i 3).val) / 393216 = (i 0).val / 128 := by omega
  have q1 : ((((i 0).val * 3 + (i 1).val) * 1 + (i 2).val) * 1024 + (i 3).val) / 393216 % 16 = (i 0).val / 128 % 16 := by rw [d1]
  have d2 : ((((i 0).val * 3 + (i 1).val) * 1 + (i 2).val) * 1024 + (i 3).val) / 3072 = (i 0).val := by omega
  have q2 : ((((i 0).val * 3 + (i 1).val) * 1 + (i 2).val) * 1024 + (i 3).val) / 3072 % 128 = (i 0).val % 128 := by rw [d2]
  have q3 : ((((i 0).val * 3 + (i 1).val) * 1 + (i 2).val) * 1024 + (i 3).val) / 1024 % 3 = (i 1).val := by omega
  have q4 : ((((i 0).val * 3 + (i 1).val) * 1 + (i 2).val) * 1024 + (i 3).val) % 1024 = (i 3).val := by omega
  refine (val_main_v15_apply (F := Ideal) x w _).trans ((val_main_v14_apply (F := Ideal) x w _).trans ((val_main_v13_apply (F := Ideal) x w _).trans
    (v12_apply x w _ _ n _ hn ?_ ?_)))
  · show ((((((((i 0).val * 3 + (i 1).val) * 1 + (i 2).val) * 1024 + (i 3).val) / 6291456 * 128 + ((((i 0).val * 3 + (i 1).val) * 1 + (i 2).val) * 1024 + (i 3).val) / 3072 % 128) * 16 + ((((i 0).val * 3 + (i 1).val) * 1 + (i 2).val) * 1024 + (i 3).val) / 393216 % 16) * 3 + ((((i 0).val * 3 + (i 1).val) * 1 + (i 2).val) * 1024 + (i 3).val) / 1024 % 3) * 1024 + ((((i 0).val * 3 + (i 1).val) * 1 + (i 2).val) * 1024 + (i 3).val) % 1024) / 3072 = src 2 (i 0).val
    rw [q0, q1, q2, q3, q4]
    unfold src
    rw [if_neg (by decide), if_pos rfl]
    omega
  · show ((((((((i 0).val * 3 + (i 1).val) * 1 + (i 2).val) * 1024 + (i 3).val) / 6291456 * 128 + ((((i 0).val * 3 + (i 1).val) * 1 + (i 2).val) * 1024 + (i 3).val) / 3072 % 128) * 16 + ((((i 0).val * 3 + (i 1).val) * 1 + (i 2).val) * 1024 + (i 3).val) / 393216 % 16) * 3 + ((((i 0).val * 3 + (i 1).val) * 1 + (i 2).val) * 1024 + (i 3).val) / 1024 % 3) * 1024 + ((((i 0).val * 3 + (i 1).val) * 1 + (i 2).val) * 1024 + (i 3).val) % 1024) / 1024 % 3 * 3072 + 2048
      + ((((((((i 0).val * 3 + (i 1).val) * 1 + (i 2).val) * 1024 + (i 3).val) / 6291456 * 128 + ((((i 0).val * 3 + (i 1).val) * 1 + (i 2).val) * 1024 + (i 3).val) / 3072 % 128) * 16 + ((((i 0).val * 3 + (i 1).val) * 1 + (i 2).val) * 1024 + (i 3).val) / 393216 % 16) * 3 + ((((i 0).val * 3 + (i 1).val) * 1 + (i 2).val) * 1024 + (i 3).val) / 1024 % 3) * 1024 + ((((i 0).val * 3 + (i 1).val) * 1 + (i 2).val) * 1024 + (i 3).val) % 1024) % 1024 = n
    rw [q0, q1, q2, q3, q4]
    omega

/-- The first group, its rows as given. -/
theorem v16_apply (i : S8192x3x1x1024.Idx) (n : ℕ) (hn : n < 14336) (e1 : (i 1).val * 3072 + 0 + (i 3).val = n) :
    val_main_v16 (F := Ideal) x w i
      = val_main_v3 (F := Ideal) x w (ix2 (⟨src 0 (i 0).val, src_lt _ (i 0).isLt⟩ : Fin 8192) (⟨n, hn⟩ : Fin 14336)) := by
  have h2 : (i 2).val < 1 := (i 2).isLt
  refine (val_main_v16_apply (F := Ideal) x w _).trans (v5_apply x w _ _ n _ hn rfl ?_)
  show (i 1).val * 3072 + (i 2).val * 1024 + (i 3).val = n
  omega

/-- The three groups side by side. -/
theorem v17_apply (i : S8192x3x3x1024.Idx) (n : ℕ) (hn : n < 14336) (e1 : (i 1).val * 3072 + (i 2).val * 1024 + (i 3).val = n) :
    val_main_v17 (F := Ideal) x w i
      = val_main_v3 (F := Ideal) x w (ix2 (⟨src (i 2).val (i 0).val, src_lt _ (i 0).isLt⟩ : Fin 8192) (⟨n, hn⟩ : Fin 14336)) := by
  have h2 : (i 2).val < 3 := (i 2).isLt
  let p : S8192x3x1x1024.Idx := ix4 (i 0) (i 1) (0 : Fin 1) (i 3)
  have off : ∀ b : Fin S8192x3x1x1024.rank, b.cast (rfl : S8192x3x1x1024.rank = S8192x3x3x1024.rank) ≠ (2 : Fin S8192x3x3x1024.rank) →
      (p b).val = (i (b.cast rfl)).val := fun b hb =>
    match b, hb with | ⟨0, _⟩, _ => rfl | ⟨1, _⟩, _ => rfl | ⟨2, _⟩, hb => absurd rfl hb | ⟨3, _⟩, _ => rfl
  unfold val_main_v17
  rcases (by omega : (i 2).val = 0 ∨ (i 2).val = 1 ∨ (i 2).val = 2) with h | h | h
  · refine (concatenate_apply_piece (t := S8192x3x3x1024) 2 _ _ i 0 (by show 0 < 3; omega) S8192x3x1x1024 (val_main_v16 (F := Ideal) x w) rfl rfl 0 rfl p off
      (by show 0 + 0 = (i 2).val; omega)).trans ((v16_apply x w p n hn (by show (i 1).val * 3072 + 0 + (i 3).val = n; omega)).trans ?_)
    refine congrArg _ (congrArg₂ ix2 (Fin.ext ?_) rfl)
    show src 0 (i 0).val = src (i 2).val (i 0).val
    rw [h]
  · refine (concatenate_apply_piece (t := S8192x3x3x1024) 2 _ _ i 1 (by show 1 < 3; omega) S8192x3x1x1024 (val_main_v10 (F := Ideal) x w) rfl rfl 1 rfl p off
      (by show 1 + 0 = (i 2).val; omega)).trans ((v10_apply x w p n hn (by show (i 1).val * 3072 + 1024 + (i 3).val = n; omega)).trans ?_)
    refine congrArg _ (congrArg₂ ix2 (Fin.ext ?_) rfl)
    show src 1 (i 0).val = src (i 2).val (i 0).val
    rw [h]
  · refine (concatenate_apply_piece (t := S8192x3x3x1024) 2 _ _ i 2 (by show 2 < 3; omega) S8192x3x1x1024 (val_main_v15 (F := Ideal) x w) rfl rfl 2 rfl p off
      (by show 2 + 0 = (i 2).val; omega)).trans ((v15_apply x w p n hn (by show (i 1).val * 3072 + 2048 + (i 3).val = n; omega)).trans ?_)
    refine congrArg _ (congrArg₂ ix2 (Fin.ext ?_) rfl)
    show src 2 (i 0).val = src (i 2).val (i 0).val
    rw [h]

/-- The whole reference. -/
theorem v20_eq : (val_main_v20 (F := Ideal) x w : S8192x14336.Idx → EReal) = G x w := by
  funext i
  have hi0 : (i 0).val < 8192 := (i 0).isLt
  have hi1 : (i 1).val < 14336 := (i 1).isLt
  unfold val_main_v20
  by_cases h : (i 1).val < 9216
  · refine (concatenate_pair_apply_left (t := S8192x14336) (s₁ := S8192x9216) (s₂ := S8192x5120) 1 _ _ _ i rfl (ix2 (i 0) (⟨(i 1).val, h⟩ : Fin 9216))
      (fun b => match b with | ⟨0, _⟩ => rfl | ⟨1, _⟩ => rfl)).trans ?_
    refine (val_main_v18_apply (F := Ideal) x w _).trans ((v17_apply x w _ (i 1).val hi1 ?_).trans ((v3_apply x w _).trans ?_))
    · show ((i 0).val * 9216 + (i 1).val) / 3072 % 3 * 3072 + ((i 0).val * 9216 + (i 1).val) / 1024 % 3 * 1024 + ((i 0).val * 9216 + (i 1).val) % 1024 = (i 1).val
      omega
    · have e : (⟨src (((i 0).val * 9216 + (i 1).val) / 1024 % 3) (((i 0).val * 9216 + (i 1).val) / 9216), src_lt _ (by omega)⟩ : Fin 8192)
          = ⟨src (grp (i 1).val) (i 0).val, src_lt _ hi0⟩ := Fin.ext (by
        show src _ _ = src _ _
        unfold grp
        rw [if_pos h]
        congr 1 <;> omega)
      exact Finset.sum_congr rfl fun k _ => congrArg₂ (· * ·) (congrArg x (congrArg₂ ix2 e rfl)) rfl
  · refine (concatenate_pair_apply_right (t := S8192x14336) (s₁ := S8192x9216) (s₂ := S8192x5120) 1 _ _ _ i rfl rfl (ix2 (i 0) (⟨(i 1).val - 9216, by omega⟩ : Fin 5120))
      (fun b hb => match b, hb with | ⟨0, _⟩, _ => rfl | ⟨1, _⟩, hb => absurd rfl hb) (by show (i 1).val - 9216 + 9216 = (i 1).val; omega)).trans ?_
    refine (val_main_v19_apply (F := Ideal) x w _).trans ((v3_apply x w _).trans ?_)
    have e0 : grp (i 1).val = 0 := if_neg h
    refine Finset.sum_congr rfl fun k _ => congrArg₂ (· * ·) (congrArg x (congrArg₂ ix2 (Fin.ext ?_) rfl)) (congrArg w (congrArg₂ ix2 rfl (Fin.ext ?_)))
    · show (i 0).val = src (grp (i 1).val) (i 0).val
      rw [e0]; rfl
    · show 9216 + ((i 1).val - 9216) = (i 1).val
      omega

end Cert.Proof.OddInRef

end
-- ==== Proof.OddIn.lean ====
/-
  The odd layer's input projection: the array that the kernel leaves is the reference's product with its column groups' rows
  regrouped, element by element, and the claim that the two runs end at the same array.
-/
module

public import proofs.«01_k».proof.Proof.Sums
public import proofs.«01_k».proof.Proof.OddInRun
public import proofs.«01_k».proof.Defs
public import proofs.«01_k».proof.Proof.Gen.Reference5Ideal.Run
public import proofs.«01_k».proof.Proof.Gen.Reference5Ideal.Read
public import proofs.«01_k».proof.Proof.Gen.Kernel5.Launch
public import proofs.«01_k».proof.Proof.OddInRef
public import Idealize.ShloMosaic.Lib.Pipeline.ValueKit.Acc
public import Idealize.ShloMosaic.Lib.Pipeline.ValueKit.Point
public import Idealize.ShloMosaic.Lib.Pipeline.ReadBack
public import Idealize.ShloMosaic.Lib.Pointwise
public import Idealize.ShloMosaic.Lib.Claim
public import Idealize.ShloMosaic.Lib.Tactic

@[expose] public section

noncomputable section

namespace Cert.Proof.OddIn

open Idealize.ShloMosaic hiding ix2 ix3 ix4 ix5
open Idealize.ShloMosaic.TcCoe Idealize.SL.Sem
open Cert.Kernel5Ideal Cert.Kernel5Ideal.Gen Cert.Proof.OddInRun Cert.Proof.OddInRef Cert.Proof.Sums Idealize.ShloMosaic.ValueIdx
open Idealize.ShloMosaic.Pipeline (Dat Cfg Window)

variable (m : (ℓ : Loc nD τ sig) → Buf (Elt Ideal) ℓ) (ρ : Dev nD → PrngReg)

/-! ## The kernel's blocks -/

/-- The first product's entry. -/
theorem pay1_apply (v31 : Vec Ideal S2048x1024 .bf16) (v32 : Vec Ideal S1024x1024 .bf16) (j : S2048x1024.Idx) :
    k0_pay1 (F := Ideal) v31 v32 j = ∑ k : Fin 1024, v31 (ix2 (j 0) k) * v32 (ix2 k (j 1)) := by
  unfold k0_pay1
  rw [truncf_apply, matmul_sum dot_S2048x1024_S1024x1024_S2048x1024_1_0_0_1_n_n 1024 rfl rfl _ _ _ j
    (fun k => ix2 (j 0) k) (fun k => ix2 k (j 1))
    (fun q k hk a => by
      match a with
      | ⟨0, _⟩ => rfl
      | ⟨1, _⟩ => exact (dot_S2048x1024_S1024x1024_S2048x1024_1_0_0_1_n_n.lhsIdx_val_of_single rfl j q).trans hk)
    (fun q k hk a => by
      match a with
      | ⟨0, _⟩ => exact (dot_S2048x1024_S1024x1024_S2048x1024_1_0_0_1_n_n.rhsIdx_val_of_single rfl j q).trans hk
      | ⟨1, _⟩ => rfl), constant_apply, Ideal.ofBits_zero_f32, zero_add]

/-- The second and third products are the first's function. -/
theorem pay2_apply (v31 : Vec Ideal S2048x1024 .bf16) (v32 : Vec Ideal S1024x1024 .bf16) (j : S2048x1024.Idx) :
    k0_pay2 (F := Ideal) v31 v32 j = ∑ k : Fin 1024, v31 (ix2 (j 0) k) * v32 (ix2 k (j 1)) := by
  have h : k0_pay2 (F := Ideal) v31 v32 = k0_pay1 v31 v32 := by unfold k0_pay2 k0_pay1; rw [shapeCast_self]
  rw [h, pay1_apply]

/-- The same of the third. -/
theorem pay3_apply (v31 : Vec Ideal S2048x1024 .bf16) (v32 : Vec Ideal S1024x1024 .bf16) (j : S2048x1024.Idx) :
    k0_pay3 (F := Ideal) v31 v32 j = ∑ k : Fin 1024, v31 (ix2 (j 0) k) * v32 (ix2 k (j 1)) := by
  have h : k0_pay3 (F := Ideal) v31 v32 = k0_pay1 v31 v32 := by unfold k0_pay3 k0_pay1; rw [shapeCast_self]
  rw [h, pay1_apply]

/-- The block of rows in order 0, 1, 2 at a point, and the block of the weight. -/
def x0Blk (c : Dev nD) (t : Fin cfg0.N) : S2048x1024.Idx → EReal := iblk m c 0 t
/-- Order 1. -/
def x1Blk (c : Dev nD) (t : Fin cfg0.N) : S2048x1024.Idx → EReal := iblk m c 1 t
/-- Order 2. -/
def x2Blk (c : Dev nD) (t : Fin cfg0.N) : S2048x1024.Idx → EReal := iblk m c 2 t
/-- The weight. -/
def wBlk (c : Dev nD) (t : Fin cfg0.N) : S1024x1024.Idx → EReal := iblk m c 3 t

/-- The column block that the points with second coordinate `j` take. -/
def col (j : ℕ) : ℕ := if j < 9 then j % 3 * 3 + j / 3 else j

/-- Where the windows' blocks lie, decided over the grid. -/
theorem idx : ∀ t : Fin cfg0.N, win0_0.index t = ![t.val / 14, 0] ∧ win0_1.index t = ![t.val / 14, 0] ∧ win0_2.index t = ![t.val / 14, 0]
    ∧ win0_3.index t = ![0, col (t.val % 14)] ∧ win0_4.index t = ![t.val / 14, col (t.val % 14)] :=
  (by decide +kernel : ∀ t : Fin grid0.N, _)

/-- A column block is one of the fourteen. -/
theorem col_lt (j : ℕ) (h : j < 14) : col j < 14 := by unfold col; split <;> omega

/-- An entry of a row block in order 0 is the input's. -/
theorem x0Blk_apply (c : Dev nD) (t : Fin cfg0.N) (i : Fin 2048) (k : Fin 1024) :
    x0Blk m c t (ix2 i k) = m (((c : Thread nD τ)).loc main_arg0) (ix2 (Fin.mk (t.val / 14 * 2048 + i.val) (by have := lt_of_lt_of_eq t.isLt N_0; omega)) k) := by
  unfold x0Blk
  blk_ext [iblk, V, idx t]

/-- An entry of a row block in order 1 is the input's at the source row. -/
theorem x1Blk_apply (c : Dev nD) (t : Fin cfg0.N) (i : Fin 2048) (k : Fin 1024) :
    x1Blk m c t (ix2 i k) = m (((c : Thread nD τ)).loc main_arg0) (ix2 (Fin.mk (src 1 (t.val / 14 * 2048 + i.val)) (src_lt _ (by have := lt_of_lt_of_eq t.isLt N_0; omega))) k) := by
  unfold x1Blk iblk
  rw [View.read_apply]
  entry_read
  pointwise
  blk_ext [iblk, V, idx t]
  unfold src
  rw [if_pos rfl]

/-- An entry of a row block in order 2 is the input's at the source row. -/
theorem x2Blk_apply (c : Dev nD) (t : Fin cfg0.N) (i : Fin 2048) (k : Fin 1024) :
    x2Blk m c t (ix2 i k) = m (((c : Thread nD τ)).loc main_arg0) (ix2 (Fin.mk (src 2 (t.val / 14 * 2048 + i.val)) (src_lt _ (by have := lt_of_lt_of_eq t.isLt N_0; omega))) k) := by
  unfold x2Blk iblk
  rw [View.read_apply]
  entry_read
  pointwise
  blk_ext [iblk, V, idx t]
  unfold src
  rw [if_neg (by decide), if_pos rfl]

/-- An entry of a block of the weight is the weight's. -/
theorem wBlk_apply (c : Dev nD) (t : Fin cfg0.N) (k j : Fin 1024) :
    wBlk m c t (ix2 k j) = m (((c : Thread nD τ)).loc main_arg1) (ix2 k (Fin.mk (col (t.val % 14) * 1024 + j.val)
      (by have := col_lt (t.val % 14) (by omega); omega))) := by
  unfold wBlk
  blk_ext [iblk, V, idx t]

/-- The column group of column block `col j` is the order that the points with second coordinate `j` take. -/
theorem grp_col (j y : ℕ) (hj : j < 14) (hy : y < 1024) : grp (col j * 1024 + y) = if j < 9 then j / 3 else 0 := by
  unfold grp col
  by_cases h : j < 9
  · rw [if_pos h, if_pos h, if_pos (by omega)]; omega
  · rw [if_neg h, if_neg h, if_neg (by omega)]

/-- What the body leaves at point `t`, at an entry of the block: the product at that entry of the array. -/
theorem zAt_apply (c : Dev nD) (t : Fin cfg0.N) (y : S2048x1024.Idx) (i : S8192x14336.Idx)
    (h0 : (i 0).val = t.val / 14 * 2048 + (y 0).val) (h1 : (i 1).val = col (t.val % 14) * 1024 + (y 1).val) :
    zAt m c t y = G (m (((c : Thread nD τ)).loc main_arg0)) (m (((c : Thread nD τ)).loc main_arg1)) i := by
  have hy1 : (y 1).val < 1024 := (y 1).isLt
  have hg : grp (i 1).val = if t.val % 14 < 9 then t.val % 14 / 3 else 0 := by
    rw [h1]; exact grp_col _ _ (by omega) hy1
  unfold zAt G
  by_cases h2 : 3 ≤ t.val % 14 ∧ t.val % 14 < 6
  · rw [if_pos h2, pay2_apply]
    have hg' : grp (i 1).val = 1 := by rw [hg, if_pos (by omega)]; omega
    refine Finset.sum_congr rfl fun k _ => congrArg₂ (· * ·)
      ((x1Blk_apply m c t (y 0) k).trans (congrArg _ (funext fun a => Fin.ext ?_)))
      ((wBlk_apply m c t k (y 1)).trans (congrArg _ (funext fun a => Fin.ext ?_)))
    · match a with
      | ⟨0, _⟩ => show src 1 (t.val / 14 * 2048 + (y 0).val) = src (grp (i 1).val) (i 0).val; rw [hg', h0]
      | ⟨1, _⟩ => rfl
    · match a with
      | ⟨0, _⟩ => rfl
      | ⟨1, _⟩ => exact h1.symm
  · rw [if_neg h2]
    by_cases h3 : 6 ≤ t.val % 14 ∧ t.val % 14 < 9
    · rw [if_pos h3, pay3_apply]
      have hg' : grp (i 1).val = 2 := by rw [hg, if_pos (by omega)]; omega
      refine Finset.sum_congr rfl fun k _ => congrArg₂ (· * ·)
        ((x2Blk_apply m c t (y 0) k).trans (congrArg _ (funext fun a => Fin.ext ?_)))
        ((wBlk_apply m c t k (y 1)).trans (congrArg _ (funext fun a => Fin.ext ?_)))
      · match a with
        | ⟨0, _⟩ => show src 2 (t.val / 14 * 2048 + (y 0).val) = src (grp (i 1).val) (i 0).val; rw [hg', h0]
        | ⟨1, _⟩ => rfl
      · match a with
        | ⟨0, _⟩ => rfl
        | ⟨1, _⟩ => exact h1.symm
    · rw [if_neg h3, pay1_apply]
      have hg' : grp (i 1).val = 0 := by
        rw [hg]; split
        · omega
        · rfl
      refine Finset.sum_congr rfl fun k _ => congrArg₂ (· * ·)
        ((x0Blk_apply m c t (y 0) k).trans (congrArg _ (funext fun a => Fin.ext ?_)))
        ((wBlk_apply m c t k (y 1)).trans (congrArg _ (funext fun a => Fin.ext ?_)))
      · match a with
        | ⟨0, _⟩ => show t.val / 14 * 2048 + (y 0).val = src (grp (i 1).val) (i 0).val; rw [hg', h0]; rfl
        | ⟨1, _⟩ => rfl
      · match a with
        | ⟨0, _⟩ => rfl
        | ⟨1, _⟩ => exact h1.symm

/-- What a point writes back is its block of the product. -/
theorem flushed_eq (c : Dev nD) (t : Fin cfg0.N) :
    (dats m 0 c).flushed 4 t = ((cfg0.win 4).blk t).view.read (Elt Ideal)
      (G (m (((c : Thread nD τ)).loc main_arg0)) (m (((c : Thread nD τ)).loc main_arg1))) := by
  show (cfg0.win 4).cut (grid0.coords t) ((dats m 0 c).after 4 t) = _
  rw [after_4]
  funext y
  have e0 : win0_4.index t (0 : Fin 2) = t.val / 14 := congrFun (idx t).2.2.2.2 0
  have e1 : win0_4.index t (1 : Fin 2) = col (t.val % 14) := congrFun (idx t).2.2.2.2 1
  have hb0 : (((cfg0.win 4).blk t).view.emb y 0).val = win0_4.index t (0 : Fin 2) * 2048 + 1 * (y 0).val := rfl
  have hb1 : (((cfg0.win 4).blk t).view.emb y 1).val = win0_4.index t (1 : Fin 2) * 1024 + 1 * (y 1).val := rfl
  exact zAt_apply m c t ((cfg0.win 4).xinj (grid0.coords t) y) (((cfg0.win 4).blk t).view.emb y)
    (by rw [hb0, e0, Nat.one_mul]) (by rw [hb1, e1, Nat.one_mul])

/-- The point that writes block row `a`, block column `b` back. -/
def pt (a : Fin 4) (b : Fin 14) : Fin grid0.N :=
  ⟨14 * a.val + (if b.val < 9 then b.val % 3 * 3 + b.val / 3 else b.val), lt_of_lt_of_eq (by split <;> omega) N_0.symm⟩

/-- Every block of the array is some point's. -/
theorem onto : ∀ (a : Fin 4) (b : Fin 14), win0_4.index (pt a b) = ![a.val, b.val] := by decide +kernel

/-- The product's array after the run. -/
theorem final (c : Dev nD) : (dats m 0 c).arrAt 4 cfg0.N
    = G (m (((c : Thread nD τ)).loc main_arg0)) (m (((c : Thread nD τ)).loc main_arg1)) :=
  (dats m 0 c).arrAt_eq_of_cover 4 _ (fun t _ => flushed_eq m c t) (fun i => by
    have hi0 : (i 0).val < 8192 := (i 0).isLt
    have hi1 : (i 1).val < 14336 := (i 1).isLt
    have ht := onto ⟨(i 0).val / 2048, by omega⟩ ⟨(i 1).val / 1024, by omega⟩
    refine ⟨pt ⟨(i 0).val / 2048, by omega⟩ ⟨(i 1).val / 1024, by omega⟩, flush0_4 _, ?_⟩
    generalize pt ⟨(i 0).val / 2048, by omega⟩ ⟨(i 1).val / 1024, by omega⟩ = t at ht ⊢
    have q0 : win0_4.index t (0 : Fin 2) = (i 0).val / 2048 := congrFun ht 0
    have q1 : win0_4.index t (1 : Fin 2) = (i 1).val / 1024 := congrFun ht 1
    show i ∈ ((View.whole main_v6_0).slice (win0_4.rect t)).set
    rw [View.set_slice_whole, Rect.mem_set_unit]
    intro a
    match a with
    | ⟨0, _⟩ => show win0_4.index t (0 : Fin 2) * 2048 ≤ (i 0).val ∧ (i 0).val < win0_4.index t (0 : Fin 2) * 2048 + 2048; omega
    | ⟨1, _⟩ => show win0_4.index t (1 : Fin 2) * 1024 ≤ (i 1).val ∧ (i 1).val < win0_4.index t (1 : Fin 2) * 1024 + 1024; omega)

/-! ## The claims -/

/-- The odd layer's input projection: from the same arguments the kernel and the reference end at the same product. -/
theorem algebraic : Cert.algebraic_Kernel5Ideal_Reference5Ideal (hKernel5Ideal := Cert.Kernel5Ideal.Gen.facts)
    (hReference5Ideal := Cert.Reference5Ideal.Gen.facts) := by
  intro m g m' g' _ hargs
  refine ⟨fun c => G (m (((c : Thread nD τ)).loc main_arg0)) (m (((c : Thread nD τ)).loc main_arg1)),
    (θ_run _ _ _).mono (fun r h c => ⟨(h.1 c).1.trans (final m c), (h.1 c).2⟩) (run_post (F := Ideal) m g), ?_⟩
  refine (θ_run _ _ _).mono (fun r h c => ?_) (Cert.Reference5Ideal.Value.run (F := Ideal) m' g')
  obtain ⟨h6, h0, h1⟩ := h c
  obtain ⟨e0, e1⟩ := hargs c
  exact ⟨h6.trans ((Cert.Reference5Ideal.Read.val_main_v20_eq _ _).trans
      ((congrArg₂ (Cert.Reference5Ideal.Read.val_main_v20 (F := Ideal)) e0 e1).trans (OddInRef.v20_eq _ _))), h0, h1⟩

/-- The kernel's run leaves its arguments alone and every counter at zero, over any element type. -/
theorem run_frame {F : FTy → Type} [FloatOps F] (m : (ℓ : Loc nD τ sig) → Buf (Elt F) ℓ) (g : Dev nD → PrngReg) :
    θ_run defs (onTc (τ := τ) (main (F := F))) (s₀ m g) (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) :=
  (θ_run defs _ _).mono (fun r h => ⟨fun c => (h.1 c).2, h.2⟩) (run_post (F := F) m g)

/-- The same over the ideal numbers, -/
theorem frame_ideal : Cert.quiescent_Kernel5Ideal (hKernel5Ideal := Cert.Kernel5Ideal.Gen.facts) := fun m g _ =>
  run_frame (F := Ideal) m g

attribute [local instance] Cert.Kernel5.Gen.facts Cert.Kernel5Ideal.Gen.facts in
/-- The two programs have one body table, -/
theorem defs₀_eq : Cert.Kernel5.defs₀ (F := Bits) = Cert.Kernel5Ideal.defs₀ (F := Bits) := by
  unfold Cert.Kernel5.defs₀ Cert.Kernel5Ideal.defs₀
  refine congrArg Defs.onTc ?_
  funext l a
  match l, a with
  | ⟨0, _⟩, (t, s) => rfl
  | ⟨_ + 1, h⟩, _ => exact absurd h (Nat.not_lt.2 (Nat.le_add_left _ _))

attribute [local instance] Cert.Kernel5.Gen.facts Cert.Kernel5Ideal.Gen.facts in
/-- and so one program. -/
theorem defs_eq : Cert.Kernel5.defs (F := Bits) = Cert.Kernel5Ideal.defs (F := Bits) :=
  congrArg (Pipeline.defs Cert.Kernel5Ideal.pcfgs) defs₀_eq

/-- And over machine words, of the program as printed. -/
theorem frame_kernel : Cert.quiescent_Kernel5 (hKernel5 := Cert.Kernel5.Gen.facts) := fun m g _ => by
  rw [defs_eq]
  exact run_frame (F := Bits) m g

/-- The reference's run leaves its arguments alone; it declares no counter. -/
theorem frame_reference : Cert.quiescent_Reference5Ideal (hReference5Ideal := Cert.Reference5Ideal.Gen.facts) := fun m g _ =>
  (θ_run Cert.Reference5Ideal.defs _ _).mono (fun r h => ⟨fun c => (h c).2, sem_eq_zero_of_no_sems (by decide) r.2⟩)
    (Cert.Reference5Ideal.Value.run (F := Ideal) m g)

end Cert.Proof.OddIn

end
-- ==== Proof.OddDwBody.lean ====
/- The gradient of the odd layer's input weight (`cc0_odd_in_dw`), run over any element type `F`: for each of the fourteen column
   blocks the accumulator is zeroed at the first of eight row blocks, every point adds the product of its block of the transposed
   activations and of the one source its column block takes, and the last row block's point writes the accumulator out. -/
module

public import proofs.«01_k».proof.Proof.Gen.Kernel6Ideal.Frame
public import proofs.«01_k».proof.Proof.Gen.Kernel6Ideal.Skeleton
public import proofs.«01_k».proof.Proof.Gen.Kernel6Ideal.Points
public import proofs.«01_k».proof.Proof.RunKit
public import Idealize.ShloMosaic.Lib.Pipeline.FrameBody
public import Idealize.ShloMosaic.Lib.VecWindow
public import Idealize.ShloMosaic.Lib.Pipeline.Value
public import Idealize.ShloMosaic.Lib.WordCmp

@[expose] public section

set_option maxRecDepth 16384

noncomputable section

namespace Cert.Proof.OddDwBody

open Cert.Kernel6Ideal Cert.Kernel6Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation RDat cellOf)

variable {F : FTy → Type} [FloatOps F]
variable (m : (ℓ : Loc nD τ sig) → Buf (Elt F) ℓ) (ρ : Dev nD → PrngReg)

/-! ## The branch conditions -/

/-- The first row block: the accumulator is zeroed. -/
def condZ (i : grid0.Coords) : BitVec 1 :=
  let arg1 : BitVec 32 := BitVec.ofNat 32 (i 1).val
  let v0 : BitVec 1 := Scalar.cmpi .eq arg1 0#32
  let v1 : BitVec 32 := Scalar.extui v0
  Scalar.cmpi .ne v1 0#32

/-- A column block below the ninth of the first residue. -/
def condS0 (i : grid0.Coords) : BitVec 1 :=
  let arg0 : BitVec 32 := BitVec.ofNat 32 (i 0).val
  let v0 : BitVec 1 := Scalar.cmpi .slt arg0 9#32
  let v4 : BitVec 1 := Scalar.cmpi .eq 3#32 0#32
  let v5 : BitVec 32 := Scalar.select v4 1#32 3#32
  let v6 : BitVec 32 := Scalar.remsi arg0 v5
  let v7 : BitVec 1 := Scalar.cmpi .ne v6 0#32
  let v8 : BitVec 1 := Scalar.cmpi .slt v6 0#32
  let v9 : BitVec 1 := Scalar.cmpi .slt v5 0#32
  let v10 : BitVec 1 := Scalar.xori v8 v9
  let v11 : BitVec 1 := Scalar.andi v10 v7
  let v12 : BitVec 32 := Scalar.addi v6 v5
  let v13 : BitVec 32 := Scalar.select v11 v12 v6
  let v14 : BitVec 1 := Scalar.cmpi .eq v13 0#32
  let v15 : BitVec 1 := Scalar.andi v0 v14
  let v16 : BitVec 32 := Scalar.extui v15
  Scalar.cmpi .ne v16 0#32

/-- A column block below the ninth of the second residue. -/
def condS1 (i : grid0.Coords) : BitVec 1 :=
  let arg0 : BitVec 32 := BitVec.ofNat 32 (i 0).val
  let v0 : BitVec 1 := Scalar.cmpi .slt arg0 9#32
  let v4 : BitVec 1 := Scalar.cmpi .eq 3#32 0#32
  let v5 : BitVec 32 := Scalar.select v4 1#32 3#32
  let v6 : BitVec 32 := Scalar.remsi arg0 v5
  let v7 : BitVec 1 := Scalar.cmpi .ne v6 0#32
  let v8 : BitVec 1 := Scalar.cmpi .slt v6 0#32
  let v9 : BitVec 1 := Scalar.cmpi .slt v5 0#32
  let v10 : BitVec 1 := Scalar.xori v8 v9
  let v11 : BitVec 1 := Scalar.andi v10 v7
  let v12 : BitVec 32 := Scalar.addi v6 v5
  let v13 : BitVec 32 := Scalar.select v11 v12 v6
  let v14 : BitVec 1 := Scalar.cmpi .eq v13 1#32
  let v15 : BitVec 1 := Scalar.andi v0 v14
  let v16 : BitVec 32 := Scalar.extui v15
  Scalar.cmpi .ne v16 0#32

/-- A column block below the ninth of the third residue. -/
def condS2 (i : grid0.Coords) : BitVec 1 :=
  let arg0 : BitVec 32 := BitVec.ofNat 32 (i 0).val
  let v0 : BitVec 1 := Scalar.cmpi .slt arg0 9#32
  let v4 : BitVec 1 := Scalar.cmpi .eq 3#32 0#32
  let v5 : BitVec 32 := Scalar.select v4 1#32 3#32
  let v6 : BitVec 32 := Scalar.remsi arg0 v5
  let v7 : BitVec 1 := Scalar.cmpi .ne v6 0#32
  let v8 : BitVec 1 := Scalar.cmpi .slt v6 0#32
  let v9 : BitVec 1 := Scalar.cmpi .slt v5 0#32
  let v10 : BitVec 1 := Scalar.xori v8 v9
  let v11 : BitVec 1 := Scalar.andi v10 v7
  let v12 : BitVec 32 := Scalar.addi v6 v5
  let v13 : BitVec 32 := Scalar.select v11 v12 v6
  let v14 : BitVec 1 := Scalar.cmpi .eq v13 2#32
  let v15 : BitVec 1 := Scalar.andi v0 v14
  let v16 : BitVec 32 := Scalar.extui v15
  Scalar.cmpi .ne v16 0#32

/-- A column block from the ninth on. -/
def condS3 (i : grid0.Coords) : BitVec 1 :=
  let arg0 : BitVec 32 := BitVec.ofNat 32 (i 0).val
  let v48 : BitVec 1 := Scalar.cmpi .sge arg0 9#32
  let v49 : BitVec 1 := Scalar.cmpi .slt arg0 14#32
  let v50 : BitVec 1 := Scalar.andi v48 v49
  let v51 : BitVec 32 := Scalar.extui v50
  Scalar.cmpi .ne v51 0#32

/-- The accumulator is zeroed at the first row block, -/
theorem condZ_iff : ∀ t : Fin cfg0.N, condZ (grid0.coords t) = 1#1 ↔ t.val % 8 = 0 :=
  (by decide +kernel : ∀ t : Fin grid0.N, condZ (grid0.coords t) = 1#1 ↔ t.val % 8 = 0)
/-- the first source is taken by its residue, -/
theorem condS0_iff : ∀ t : Fin cfg0.N, condS0 (grid0.coords t) = 1#1 ↔ (t.val / 8 < 9 ∧ t.val / 8 % 3 = 0) :=
  (by decide +kernel : ∀ t : Fin grid0.N, condS0 (grid0.coords t) = 1#1 ↔ (t.val / 8 < 9 ∧ t.val / 8 % 3 = 0))
/-- the second source is taken by its residue, -/
theorem condS1_iff : ∀ t : Fin cfg0.N, condS1 (grid0.coords t) = 1#1 ↔ (t.val / 8 < 9 ∧ t.val / 8 % 3 = 1) :=
  (by decide +kernel : ∀ t : Fin grid0.N, condS1 (grid0.coords t) = 1#1 ↔ (t.val / 8 < 9 ∧ t.val / 8 % 3 = 1))
/-- the third source is taken by its residue, -/
theorem condS2_iff : ∀ t : Fin cfg0.N, condS2 (grid0.coords t) = 1#1 ↔ (t.val / 8 < 9 ∧ t.val / 8 % 3 = 2) :=
  (by decide +kernel : ∀ t : Fin grid0.N, condS2 (grid0.coords t) = 1#1 ↔ (t.val / 8 < 9 ∧ t.val / 8 % 3 = 2))
/-- the last source from the ninth column block on, -/
theorem condS3_iff : ∀ t : Fin cfg0.N, condS3 (grid0.coords t) = 1#1 ↔ 9 ≤ t.val / 8 :=
  (by decide +kernel : ∀ t : Fin grid0.N, condS3 (grid0.coords t) = 1#1 ↔ 9 ≤ t.val / 8)
/-- and the accumulator is written out at the last row block. -/
theorem cond6_iff : ∀ t : Fin cfg0.N, k0_cond6 (grid0.coords t) = 1#1 ↔ t.val % 8 = 7 :=
  (by decide +kernel : ∀ t : Fin grid0.N, k0_cond6 (grid0.coords t) = 1#1 ↔ t.val % 8 = 7)

/-! ## The body -/

set_option maxHeartbeats 8000000 in
/-- The body at any point: the accumulator starts from `b` (zero at a first row block, else what it held), takes the one product its
    column block asks for to `r`, and the output block is `r` narrowed at a last row block, else untouched. -/
theorem body (c : Dev nD) (i : grid0.Coords) (arg2 : Memref sig .tc .vmem S1024x1024 .bf16) (harg2 : arg2.IsWhole) (arg3 : Memref sig .tc .vmem S1x1024x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1024x1024 .bf16) (harg6 : arg6.IsWhole) (arg7 : Memref sig .tc .vmem S1024x1024 .bf16) (harg7 : arg7.IsWhole) (arg8 : Memref sig .tc .vmem S1024x1024 .f32) (harg8 : arg8.IsWhole)
    (x0 : Vec F S1024x1024 .bf16) (x1 x2 x3 : Vec F S1x1024x1024 .bf16) (x4 : Vec F S1024x1024 .bf16) (d5 o : Vec F S1024x1024 .bf16) (a b r : Vec F S1024x1024 .f32)
    (hb : (condZ i = 1#1 ∧ b = k0_pay4) ∨ (¬ condZ i = 1#1 ∧ b = a))
    (hs : (condS0 i = 1#1 ∧ ¬ condS1 i = 1#1 ∧ ¬ condS2 i = 1#1 ∧ ¬ condS3 i = 1#1 ∧ r = k0_pay5 b x0 x1)
      ∨ (¬ condS0 i = 1#1 ∧ condS1 i = 1#1 ∧ ¬ condS2 i = 1#1 ∧ ¬ condS3 i = 1#1 ∧ r = k0_pay6 b x0 x2)
      ∨ (¬ condS0 i = 1#1 ∧ ¬ condS1 i = 1#1 ∧ condS2 i = 1#1 ∧ ¬ condS3 i = 1#1 ∧ r = k0_pay1 b x0 x3)
      ∨ (¬ condS0 i = 1#1 ∧ ¬ condS1 i = 1#1 ∧ ¬ condS2 i = 1#1 ∧ condS3 i = 1#1 ∧ r = k0_pay2 b x0 x4))
    (ho : (k0_cond6 i = 1#1 ∧ o = k0_pay3 r) ∨ (¬ k0_cond6 i = 1#1 ∧ o = d5))
    (E : Set ℕ) (K : PUnit → sProp (MT nD τ sig Unit (Elt F) ℕ (UR sig nD τ) ℕ)) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare d5 ∗ owns (c : Thread nD τ) arg8 fullShare a
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare o ∗ owns (c : Thread nD τ) arg8 fullShare r) -∗ K ⟨⟩))
      ⊢ wp frame (wpE (defs₀ (F := F)) Variants.none c none) E (cc0_odd_in_dw i arg2 harg2 arg3 harg3 arg4 harg4 arg5 harg5 arg6 harg6 arg7 harg7 arg8 harg8) K := by
  rcases hb with ⟨hcZ, rfl⟩ | ⟨hcZ, rfl⟩ <;> rcases ho with ⟨hc6, rfl⟩ | ⟨hc6, rfl⟩ <;>
    rcases hs with ⟨hc0, hc1, hc2, hc3, rfl⟩ | ⟨hc0, hc1, hc2, hc3, rfl⟩ | ⟨hc0, hc1, hc2, hc3, rfl⟩ | ⟨hc0, hc1, hc2, hc3, rfl⟩
  all_goals
    simp only [cc0_odd_in_dw_eq_skeleton]; unfold cc0_odd_in_dw_skel
    try simp only [k0_part1_eq_skeleton]
    try unfold k0_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, Hk⟩
    obtain rfl := harg2.eq_unread hf0; obtain rfl := harg3.eq_unread hf1; obtain rfl := harg4.eq_unread hf2; obtain rfl := harg5.eq_unread hf3
    obtain rfl := harg6.eq_unread hf4; obtain rfl := harg7.eq_unread hf5; obtain rfl := harg8.eq_unread hf6
    sl_exec (disch := first | sl_exact hcZ | sl_exact hc0 | sl_exact hc1 | sl_exact hc2 | sl_exact hc3 | sl_exact hc6)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr
      swap; · iexact H5
      ipureintro
      sl_unfold_words
      repeat first
        | rw [RunKit.read_store_whole]
        | rw [RunKit.readAt_unread]
        | rw [View.readCov_cons_toLoadRect]
        | rw [View.readAt_writes_full]
        | rw [harg8.read_unread]
        | rw [harg7.read_unread]
    · iexists _; isplitr
      swap; · iexact H6
      ipureintro
      sl_unfold_words
      repeat first
        | rw [RunKit.read_store_whole]
        | rw [RunKit.readAt_unread]
        | rw [View.readCov_cons_toLoadRect]
        | rw [View.readAt_writes_full]
        | rw [harg8.read_unread]
        | rw [harg7.read_unread]

end Cert.Proof.OddDwBody

end
-- ==== Proof.OddDwRun.lean ====
/- The odd layer's input weight gradient, from the body to the whole run: the accumulator tracked point by point, the output window's
   block named at the points that write it, and what the run leaves. -/
module

public import proofs.«01_k».proof.Proof.Gen.Kernel6Ideal.Frame
public import proofs.«01_k».proof.Proof.Gen.Kernel6Ideal.Skeleton
public import proofs.«01_k».proof.Proof.Gen.Kernel6Ideal.Points
public import proofs.«01_k».proof.Proof.RunKit
public import proofs.«01_k».proof.Proof.OddDwBody
public import Idealize.ShloMosaic.Lib.Pipeline.FrameBody
public import Idealize.ShloMosaic.Lib.VecWindow
public import Idealize.ShloMosaic.Lib.Pipeline.Value
public import Idealize.ShloMosaic.Lib.WordCmp

@[expose] public section

set_option maxRecDepth 16384

noncomputable section

namespace Cert.Proof.OddDwRun

open Cert.Kernel6Ideal Cert.Kernel6Ideal.Gen Cert.Proof.OddDwBody
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation RDat cellOf)

variable {F : FTy → Type} [FloatOps F]
variable (m : (ℓ : Loc nD τ sig) → Buf (Elt F) ℓ) (ρ : Dev nD → PrngReg)

/-! ## The accumulator -/

/-- What point `t` makes of the accumulator: the product with the source its column block takes, added. -/
def stepT (c : Dev nD) (t : Fin cfg0.N) (b : Vec F S1024x1024 .f32) : Vec F S1024x1024 .f32 :=
  if t.val / 8 < 9 then
    if t.val / 8 % 3 = 0 then k0_pay5 b (iblk m c 0 t) (iblk m c 1 t)
    else if t.val / 8 % 3 = 1 then k0_pay6 b (iblk m c 0 t) (iblk m c 2 t)
    else k0_pay1 b (iblk m c 0 t) (iblk m c 3 t)
  else k0_pay2 b (iblk m c 0 t) (iblk m c 4 t)

/-- The accumulator after point `n`. -/
def accAt (c : Dev nD) : (n : ℕ) → n < cfg0.N → Vec F S1024x1024 .f32
  | 0, h => stepT m c ⟨0, h⟩ k0_pay4
  | n + 1, h => stepT m c ⟨n + 1, h⟩ (if (n + 1) % 8 = 0 then k0_pay4 else accAt c n (Nat.lt_of_succ_lt h))

/-- At a first row block it starts from zero, -/
theorem accAt_first (c : Dev nD) (t : Fin cfg0.N) (h : t.val % 8 = 0) : accAt m c t.val t.isLt = stepT m c t k0_pay4 := by
  obtain ⟨n, hn⟩ := t
  cases n with
  | zero => rfl
  | succ n => unfold accAt; rw [if_pos h]

/-- and elsewhere from what the point before left. -/
theorem accAt_next (c : Dev nD) (t : Fin cfg0.N) (h : ¬ t.val % 8 = 0) :
    accAt m c t.val t.isLt = stepT m c t (accAt m c (t.val - 1) (lt_of_le_of_lt (Nat.sub_le _ _) t.isLt)) := by
  obtain ⟨n, hn⟩ := t
  cases n with
  | zero => exact absurd rfl h
  | succ n => conv_lhs => unfold accAt
              rw [if_neg h]; rfl

/-- The source a point takes, by its conditions. -/
theorem step_cases (c : Dev nD) (t : Fin cfg0.N) (b : Vec F S1024x1024 .f32) :
    (condS0 (grid0.coords t) = 1#1 ∧ ¬ condS1 (grid0.coords t) = 1#1 ∧ ¬ condS2 (grid0.coords t) = 1#1 ∧ ¬ condS3 (grid0.coords t) = 1#1 ∧ stepT m c t b = k0_pay5 b (iblk m c 0 t) (iblk m c 1 t))
      ∨ (¬ condS0 (grid0.coords t) = 1#1 ∧ condS1 (grid0.coords t) = 1#1 ∧ ¬ condS2 (grid0.coords t) = 1#1 ∧ ¬ condS3 (grid0.coords t) = 1#1 ∧ stepT m c t b = k0_pay6 b (iblk m c 0 t) (iblk m c 2 t))
      ∨ (¬ condS0 (grid0.coords t) = 1#1 ∧ ¬ condS1 (grid0.coords t) = 1#1 ∧ condS2 (grid0.coords t) = 1#1 ∧ ¬ condS3 (grid0.coords t) = 1#1 ∧ stepT m c t b = k0_pay1 b (iblk m c 0 t) (iblk m c 3 t))
      ∨ (¬ condS0 (grid0.coords t) = 1#1 ∧ ¬ condS1 (grid0.coords t) = 1#1 ∧ ¬ condS2 (grid0.coords t) = 1#1 ∧ condS3 (grid0.coords t) = 1#1 ∧ stepT m c t b = k0_pay2 b (iblk m c 0 t) (iblk m c 4 t)) := by
  simp only [condS0_iff, condS1_iff, condS2_iff, condS3_iff]
  unfold stepT
  by_cases h9 : t.val / 8 < 9
  · rw [if_pos h9]
    by_cases h0 : t.val / 8 % 3 = 0
    · rw [if_pos h0]; exact .inl ⟨⟨h9, h0⟩, by omega, by omega, by omega, rfl⟩
    · rw [if_neg h0]
      by_cases h1 : t.val / 8 % 3 = 1
      · rw [if_pos h1]; exact .inr (.inl ⟨by omega, ⟨h9, h1⟩, by omega, by omega, rfl⟩)
      · rw [if_neg h1]; exact .inr (.inr (.inl ⟨by omega, by omega, ⟨h9, by omega⟩, by omega, rfl⟩))
  · rw [if_neg h9]; exact .inr (.inr (.inr ⟨by omega, by omega, by omega, by omega, rfl⟩))

/-! ## The proof data -/

/-- The accumulator's buffer as the region holds it. -/
abbrev sc : Memref sig .tc .vmem S1024x1024 .f32 := Memref.whole cc0_scratch0

/-- The region's invariant before point `n`: the accumulator at what the point before left (at anything before the first). -/
def PhiS (c : Dev nD) : (n : ℕ) → n ≤ cfg0.N → sProp (MT nD τ sig Unit (Elt F) ℕ (UR sig nD τ) ℕ)
  | 0, _ => Pipeline.ΦA spec0 c
  | n + 1, hn => iprop(owns (c : Thread nD τ) sc fullShare (accAt m c n hn) ∗ (∃ r, prngReg c r))

/-- Before a point that is not the first. -/
theorem PhiS_pos (c : Dev nD) (n : ℕ) (h : n ≤ cfg0.N) (hz : n ≠ 0) :
    PhiS m c n h = iprop(owns (c : Thread nD τ) sc fullShare (accAt m c (n - 1) (by omega)) ∗ (∃ r, prngReg c r)) := by
  cases n with
  | zero => exact absurd rfl hz
  | succ n => rfl

/-- What the launch hands the region. -/
theorem PhiA_eq (c : Dev nD) : Pipeline.ΦA spec0 c
    = (iprop((∃ d, owns (c : Thread nD τ) sc fullShare d) ∗ (∃ r, prngReg c r)) : sProp (MT nD τ sig Unit (Elt F) ℕ (UR sig nD τ) ℕ)) := by
  unfold Pipeline.ΦA; rw [scopedRest0_eq]; simp only [sc, owns_whole]; try rfl

/-- The proof data: the arrays as launched, each input's buffer at its block, window 5's at the accumulator narrowed, the accumulator
    tracked. -/
def dats : (p : Fin 1) → (c : Dev nD) → Dat τ (Elt F) Unit ℕ (UR sig nD τ) ℕ (cfgs p) c
  | ⟨0, _⟩ => fun c => {
      A := fun w => V m c (Pipeline.arrRef spec0 w)
      after := fun w t => match w with
        | ⟨0, _⟩ => iblk m c 0 t
        | ⟨1, _⟩ => iblk m c 1 t
        | ⟨2, _⟩ => iblk m c 2 t
        | ⟨3, _⟩ => iblk m c 3 t
        | ⟨4, _⟩ => iblk m c 4 t
        | ⟨5, _⟩ => k0_pay3 (accAt m c t.val t.isLt)
        | ⟨_ + 6, h⟩ => absurd h (Nat.not_lt.2 (Nat.le_add_left _ _))
      Φ := fun t => PhiS m c t.val (Nat.le_of_lt_succ t.isLt)
      q := fun _ => fullShare
      owed := fun _ => 0 }
  | ⟨_ + 1, h⟩ => absurd h (Nat.not_lt.2 (Nat.le_add_left _ _))

/-- The data's arrays are the arrays at the region's entry. -/
theorem A_eq (c : Dev nD) (w : Fin cfg0.W) : (dats m 0 c).A w = V m c (Pipeline.arrRef spec0 w) := by dsimp only [dats]
/-- Window 5's buffer after a body that writes it. -/
theorem after_5 (c : Dev nD) (t : Fin cfg0.N) : (dats m 0 c).after 5 t = k0_pay3 (accAt m c t.val t.isLt) := by dsimp only [dats]

/-- Each input's buffer holds its block at every point. -/
theorem before_0 (c : Dev nD) (t : Fin cfg0.N) (d) : (dats m 0 c).before 0 t d = iblk m c 0 t :=
  before0_0_of m (dats m 0 c) (A_eq m c 0) (fun t => by dsimp only [dats]) t d
/-- The same of window 1. -/
theorem before_1 (c : Dev nD) (t : Fin cfg0.N) (d) : (dats m 0 c).before 1 t d = iblk m c 1 t :=
  before0_1_of m (dats m 0 c) (A_eq m c 1) (fun t => by dsimp only [dats]) t d
/-- The same of window 2. -/
theorem before_2 (c : Dev nD) (t : Fin cfg0.N) (d) : (dats m 0 c).before 2 t d = iblk m c 2 t :=
  before0_2_of m (dats m 0 c) (A_eq m c 2) (fun t => by dsimp only [dats]) t d
/-- The same of window 3. -/
theorem before_3 (c : Dev nD) (t : Fin cfg0.N) (d) : (dats m 0 c).before 3 t d = iblk m c 3 t :=
  before0_3_of m (dats m 0 c) (A_eq m c 3) (fun t => by dsimp only [dats]) t d
/-- The same of window 4. -/
theorem before_4 (c : Dev nD) (t : Fin cfg0.N) (d) : (dats m 0 c).before 4 t d = iblk m c 4 t :=
  before0_4_of m (dats m 0 c) (A_eq m c 4) (fun t => by dsimp only [dats]) t d

/-- Window 5 is written at the last row blocks only, -/
theorem idle_5 (t : Fin cfg0.N) : cfg0.idle 5 (grid0.coords t) = false ↔ t.val % 8 = 7 := by
  rw [← cond6_iff t]
  show (!(k0_cond6 (grid0.coords t) == 1#1)) = false ↔ _
  simp

/-- and written back there only. -/
theorem flush_5 (t : Fin cfg0.N) (h : ¬ t.val % 8 = 7) : (cfg0.win 5).flush t = false := by
  have := mt (flush0_5 t).mp h
  revert this
  cases (cfg0.win 5).flush t <;> simp

/-- The invariant at a point's start. -/
theorem Phi_castSucc (c : Dev nD) (t : Fin cfg0.N) : (dats m 0 c).Φ t.castSucc = PhiS m c t.val (Nat.le_of_lt t.isLt) := by
  dsimp only [dats]; exact Pipeline.Dat.Φ_castSucc (PhiS m c) t

/-- What the body is called with at point `t`, window by window, -/
def bodyPre (c : Dev nD) (t : Fin cfg0.N) : sProp (MT nD τ sig Unit (Elt F) ℕ (UR sig nD τ) ℕ) :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns. -/
def bodyPost (c : Dev nD) (t : Fin cfg0.N) : sProp (MT nD τ sig Unit (Elt F) ℕ (UR sig nD τ) ℕ) :=
  iprop((dats m 0 c).Φ t.succ ∗ (dats m 0 c).owesAt () t.succ
    ∗ (dats m 0 c).leavesExact 0 t ∗ (dats m 0 c).leavesExact 1 t ∗ (dats m 0 c).leavesExact 2 t ∗ (dats m 0 c).leavesExact 3 t ∗ (dats m 0 c).leavesExact 4 t ∗ (dats m 0 c).leavesExact 5 t)

set_option maxHeartbeats 1600000 in
/-- The body at any point meets its obligation. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4]
  rw [show (dats m 0 c).owesAt () t.succ = (dats m 0 c).owesAt () t.castSucc from rfl]
  rw [show (dats m 0 c).Φ t.succ = iprop(owns (c : Thread nD τ) sc fullShare (accAt m c t.val t.isLt) ∗ (∃ r, prngReg c r)) from rfl]
  rw [show (dats m 0 c).leavesExact 0 t = owns (c : Thread nD τ) (st0_0 t) fullShare (iblk m c 0 t) from rfl]
  rw [show (dats m 0 c).leavesExact 1 t = owns (c : Thread nD τ) (st0_1 t) fullShare (iblk m c 1 t) from rfl]
  rw [show (dats m 0 c).leavesExact 2 t = owns (c : Thread nD τ) (st0_2 t) fullShare (iblk m c 2 t) from rfl]
  rw [show (dats m 0 c).leavesExact 3 t = owns (c : Thread nD τ) (st0_3 t) fullShare (iblk m c 3 t) from rfl]
  rw [show (dats m 0 c).leavesExact 4 t = owns (c : Thread nD τ) (st0_4 t) fullShare (iblk m c 4 t) from rfl]
  by_cases h : t.val % 8 = 0
  · have h7 : ¬ t.val % 8 = 7 := by omega
    rw [Dat.leavesExact_idle (dats m 0 c) 5 t (by
        cases hi : cfg0.idle 5 (grid0.coords t)
        · exact absurd ((idle_5 t).mp hi) h7
        · rfl) (flush_5 t h7), accAt_first m c t h]
    by_cases hz : t.val = 0
    · rw [Phi_castSucc m c t, show PhiS m c t.val (Nat.le_of_lt t.isLt) = Pipeline.ΦA spec0 c from by simp only [hz]; rfl, PhiA_eq]
      iintro ⟨⟨⟨%dS, HS⟩, Hg⟩, Ho, ⟨%d0, H0⟩, ⟨%d1, H1⟩, ⟨%d2, H2⟩, ⟨%d3, H3⟩, ⟨%d4, H4⟩, ⟨%d5, H5⟩⟩
      iapply (body c (grid0.coords t) _ _ _ _ _ _ _ _ _ _ _ _ _ _ (iblk m c 0 t) (iblk m c 1 t) (iblk m c 2 t) (iblk m c 3 t) (iblk m c 4 t) _ _ _ k0_pay4 _ (.inl ⟨(condZ_iff t).mpr h, rfl⟩) (step_cases m c t _) (.inr ⟨fun e => h7 ((cond6_iff t).mp e), rfl⟩) Set.univ _)
      isplitl [H0]; · iexact H0
      isplitl [H1]; · iexact H1
      isplitl [H2]; · iexact H2
      isplitl [H3]; · iexact H3
      isplitl [H4]; · iexact H4
      isplitl [H5]; · iexact H5
      isplitl [HS]; · iexact HS
      iintro ⟨H0, H1, H2, H3, H4, H5, HS⟩
      isplitl [HS Hg]
      · isplitl [HS]; · iexact HS
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
    · rw [Phi_castSucc m c t, PhiS_pos m c _ _ hz]
      iintro ⟨⟨HS, Hg⟩, Ho, ⟨%d0, H0⟩, ⟨%d1, H1⟩, ⟨%d2, H2⟩, ⟨%d3, H3⟩, ⟨%d4, H4⟩, ⟨%d5, H5⟩⟩
      iapply (body c (grid0.coords t) _ _ _ _ _ _ _ _ _ _ _ _ _ _ (iblk m c 0 t) (iblk m c 1 t) (iblk m c 2 t) (iblk m c 3 t) (iblk m c 4 t) _ _ _ k0_pay4 _ (.inl ⟨(condZ_iff t).mpr h, rfl⟩) (step_cases m c t _) (.inr ⟨fun e => h7 ((cond6_iff t).mp e), rfl⟩) Set.univ _)
      isplitl [H0]; · iexact H0
      isplitl [H1]; · iexact H1
      isplitl [H2]; · iexact H2
      isplitl [H3]; · iexact H3
      isplitl [H4]; · iexact H4
      isplitl [H5]; · iexact H5
      isplitl [HS]; · iexact HS
      iintro ⟨H0, H1, H2, H3, H4, H5, HS⟩
      isplitl [HS Hg]
      · isplitl [HS]; · iexact HS
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
  · have hz : t.val ≠ 0 := fun e => h (by omega)
    by_cases h7 : t.val % 8 = 7
    · rw [show (dats m 0 c).leavesExact 5 t = owns (c : Thread nD τ) (st0_5 t) fullShare (k0_pay3 (accAt m c t.val t.isLt)) from by
        unfold Dat.leavesExact; rw [(idle_5 t).mpr h7, after_5]]
      rw [accAt_next m c t h]
      rw [Phi_castSucc m c t, PhiS_pos m c _ _ hz]
      iintro ⟨⟨HS, Hg⟩, Ho, ⟨%d0, H0⟩, ⟨%d1, H1⟩, ⟨%d2, H2⟩, ⟨%d3, H3⟩, ⟨%d4, H4⟩, ⟨%d5, H5⟩⟩
      iapply (body c (grid0.coords t) _ _ _ _ _ _ _ _ _ _ _ _ _ _ (iblk m c 0 t) (iblk m c 1 t) (iblk m c 2 t) (iblk m c 3 t) (iblk m c 4 t) _ _ _ _ _ (.inr ⟨fun e => h ((condZ_iff t).mp e), rfl⟩) (step_cases m c t _) (.inl ⟨(cond6_iff t).mpr h7, rfl⟩) Set.univ _)
      isplitl [H0]; · iexact H0
      isplitl [H1]; · iexact H1
      isplitl [H2]; · iexact H2
      isplitl [H3]; · iexact H3
      isplitl [H4]; · iexact H4
      isplitl [H5]; · iexact H5
      isplitl [HS]; · iexact HS
      iintro ⟨H0, H1, H2, H3, H4, H5, HS⟩
      isplitl [HS Hg]
      · isplitl [HS]; · iexact HS
        iexact Hg
      isplitl [Ho]; · iexact Ho
      isplitl [H0]; · iexact H0
      isplitl [H1]; · iexact H1
      isplitl [H2]; · iexact H2
      isplitl [H3]; · iexact H3
      isplitl [H4]; · iexact H4
      iexact H5
    · rw [Dat.leavesExact_idle (dats m 0 c) 5 t (by
        cases hi : cfg0.idle 5 (grid0.coords t)
        · exact absurd ((idle_5 t).mp hi) h7
        · rfl) (flush_5 t h7)]
      rw [accAt_next m c t h]
      rw [Phi_castSucc m c t, PhiS_pos m c _ _ hz]
      iintro ⟨⟨HS, Hg⟩, Ho, ⟨%d0, H0⟩, ⟨%d1, H1⟩, ⟨%d2, H2⟩, ⟨%d3, H3⟩, ⟨%d4, H4⟩, ⟨%d5, H5⟩⟩
      iapply (body c (grid0.coords t) _ _ _ _ _ _ _ _ _ _ _ _ _ _ (iblk m c 0 t) (iblk m c 1 t) (iblk m c 2 t) (iblk m c 3 t) (iblk m c 4 t) _ _ _ _ _ (.inr ⟨fun e => h ((condZ_iff t).mp e), rfl⟩) (step_cases m c t _) (.inr ⟨fun e => h7 ((cond6_iff t).mp e), rfl⟩) Set.univ _)
      isplitl [H0]; · iexact H0
      isplitl [H1]; · iexact H1
      isplitl [H2]; · iexact H2
      isplitl [H3]; · iexact H3
      isplitl [H4]; · iexact H4
      isplitl [H5]; · iexact H5
      isplitl [HS]; · iexact HS
      iintro ⟨H0, H1, H2, H3, H4, H5, HS⟩
      isplitl [HS Hg]
      · isplitl [HS]; · iexact HS
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

/-- The body table's row at point `t` is the body there. -/
theorem defs₀_row (t : Fin cfg0.N) : defs₀ (F := F) .tc cfg0.body (cfg0.bodyArgs t (cfg0.slots t)) = bodyAt0 t := by
  unfold defs₀; rw [Defs.onTc_tc]

/-- The body obligation, at every window exactly. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region is the invariant before the first point, -/
theorem hin (c : Dev nD) : Pipeline.ΦA spec0 c ⊢ (dats m 0 c).Φ 0 := by
  rw [show (dats m 0 c).Φ 0 = Pipeline.ΦA spec0 c from rfl]

/-- and after the last point the invariant gives it back. -/
theorem hout (c : Dev nD) : (dats m 0 c).Φ (Fin.last cfg0.N) ⊢ Pipeline.ΦA spec0 c := by
  rw [show (dats m 0 c).Φ (Fin.last cfg0.N) = PhiS m c cfg0.N (Nat.le_refl _) from rfl,
    PhiS_pos m c _ _ (by have : cfg0.N = 112 := N_0; omega), PhiA_eq]
  iintro ⟨HS0, Hg⟩
  isplitl [HS0]
  · iexists _; iexact HS0
  iexact Hg

/-! ## The run -/

set_option backward.isDefEq.respectTransparency.types false in
/-- Every run ends with the windows' arrays at what the data name, and with every counter at zero. -/
theorem run_main : θ_run defs (onTc (τ := τ) (main (F := F))) (s₀ m ρ)
    (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- What the run leaves: the gradient's array at what the data name, the arguments as launched, every counter at zero. -/
theorem run_post : θ_run defs (onTc (τ := τ) (main (F := F))) (s₀ m ρ) (fun r => (∀ c : Dev nD,
      r.2.mem ((c.tc : Thread nD τ).loc main_v11) = (dats m 0 c).arrAt 5 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) :=
  (θ_run defs _ _).mono (fun r h => ⟨fun c => ⟨(h.1 c).1 5,
      ((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c)⟩, h.2⟩) (run_main m ρ)

/-- The arguments as launched and every counter at zero. -/
theorem run_frame : θ_run defs (onTc (τ := τ) (main (F := F))) (s₀ m ρ) (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) :=
  (θ_run defs _ _).mono (fun r h => ⟨fun c => (h.1 c).2, h.2⟩) (run_post m ρ)

end Cert.Proof.OddDwRun

end
-- ==== Proof.OddDw.lean ====
/-
  The gradient of the odd layer's input weight: what the kernel's accumulation over row blocks leaves, whichever of the four sources a
  column block takes, is the reference's one contraction over all rows, element by element, and the claim that the two runs end at the
  same array.
-/
module

public import proofs.«01_k».proof.Proof.Sums
public import proofs.«01_k».proof.Proof.OddDwRun
public import proofs.«01_k».proof.Defs
public import proofs.«01_k».proof.Proof.Gen.Reference6Ideal.Run
public import proofs.«01_k».proof.Proof.Gen.Reference6Ideal.Read
public import proofs.«01_k».proof.Proof.Gen.Kernel6.Launch
public import Idealize.ShloMosaic.Lib.Pipeline.ValueKit.Acc
public import Idealize.ShloMosaic.Lib.Pipeline.ValueKit.Point
public import Idealize.ShloMosaic.Lib.Pipeline.ReadBack
public import Idealize.ShloMosaic.Lib.Pointwise
public import Idealize.ShloMosaic.Lib.Claim
public import Idealize.ShloMosaic.Lib.Tactic

@[expose] public section

set_option maxRecDepth 4096

noncomputable section

namespace Cert.Proof.OddDw

open Idealize.ShloMosaic hiding ix2 ix3 ix4 ix5
open Idealize.ShloMosaic.TcCoe Idealize.SL.Sem
open Cert.Kernel6Ideal Cert.Kernel6Ideal.Gen Cert.Proof.OddDwRun Cert.Proof.Sums Idealize.ShloMosaic.ValueIdx
open Idealize.ShloMosaic.Pipeline (Dat Cfg Window)

variable (m : (ℓ : Loc nD τ sig) → Buf (Elt Ideal) ℓ) (ρ : Dev nD → PrngReg)

/-! ## The payloads -/

/-- The zero block the accumulator starts from. -/
theorem pay4_apply (j : S1024x1024.Idx) : k0_pay4 (F := Ideal) j = 0 := by
  unfold k0_pay4
  rw [shapeCast_self]
  exact Ideal.ofBits_zero_f32

/-- The accumulator with a block product added, the second factor a matrix. -/
theorem pay2_apply (b : Vec Ideal S1024x1024 .f32) (x : Vec Ideal S1024x1024 .bf16) (y : Vec Ideal S1024x1024 .bf16) (j : S1024x1024.Idx) :
    k0_pay2 (F := Ideal) b x y j = b j + ∑ k : Fin 1024, x (ix2 (j 0) k) * y (ix2 k (j 1)) := by
  unfold k0_pay2
  rw [shapeCast_self, addf_apply, shapeCast_self, shapeCast_self, matmul_sum dot_S1024x1024_S1024x1024_S1024x1024_1_0_0_1_n_n 1024 rfl rfl _ _ _ j
    (fun k => ix2 (j 0) k) (fun k => ix2 k (j 1))
    (fun q k hk a => by
      match a with
      | ⟨0, _⟩ => rfl
      | ⟨1, _⟩ => exact (dot_S1024x1024_S1024x1024_S1024x1024_1_0_0_1_n_n.lhsIdx_val_of_single rfl j q).trans hk)
    (fun q k hk a => by
      match a with
      | ⟨0, _⟩ => exact (dot_S1024x1024_S1024x1024_S1024x1024_1_0_0_1_n_n.rhsIdx_val_of_single rfl j q).trans hk
      | ⟨1, _⟩ => rfl), constant_apply, Ideal.ofBits_zero_f32, zero_add]

/-- A matrix read out of a stack of one. -/
theorem cast_apply (y : Vec Ideal S1x1024x1024 .bf16) (a b : Fin 1024) :
    shapeCast S1024x1024 y shapeCasts_S1x1024x1024_S1024x1024 (ix2 a b) = y (ix3 0 a b) := by
  pointwise
  rfl

/-- The accumulator with a block product added, the second factor a stack of one matrix. -/
theorem pay5_apply (b : Vec Ideal S1024x1024 .f32) (x : Vec Ideal S1024x1024 .bf16) (y : Vec Ideal S1x1024x1024 .bf16) (j : S1024x1024.Idx) :
    k0_pay5 (F := Ideal) b x y j = b j + ∑ k : Fin 1024, x (ix2 (j 0) k) * y (ix3 0 k (j 1)) := by
  have e : k0_pay5 (F := Ideal) b x y = k0_pay2 (F := Ideal) b x (shapeCast S1024x1024 y shapeCasts_S1x1024x1024_S1024x1024) := by
    unfold k0_pay5 k0_pay2
    simp only [shapeCast_self]
  rw [e, pay2_apply]
  exact congrArg _ (Finset.sum_congr rfl fun k _ => congrArg _ (cast_apply y k (j 1)))

/-! ## The blocks -/

/-- The block of the transposed activations that point `t` sees. -/
def hBlk (c : Dev nD) (t : Fin cfg0.N) : S1024x1024.Idx → EReal := iblk m c 0 t
/-- The first source's block. -/
def s1Blk (c : Dev nD) (t : Fin cfg0.N) : S1x1024x1024.Idx → EReal := iblk m c 1 t
/-- The second source's. -/
def s2Blk (c : Dev nD) (t : Fin cfg0.N) : S1x1024x1024.Idx → EReal := iblk m c 2 t
/-- The third source's. -/
def s3Blk (c : Dev nD) (t : Fin cfg0.N) : S1x1024x1024.Idx → EReal := iblk m c 3 t
/-- The last source's. -/
def s4Blk (c : Dev nD) (t : Fin cfg0.N) : S1024x1024.Idx → EReal := iblk m c 4 t

/-- Where the windows' blocks lie, decided over the grid. -/
theorem idx : ∀ t : Fin cfg0.N, win0_0.index t = ![0, t.val % 8] ∧ win0_5.index t = ![0, t.val / 8] :=
  (by decide +kernel : ∀ t : Fin grid0.N, _)
/-- Where the sources' blocks lie at the points that take them. -/
theorem idxS : ∀ t : Fin cfg0.N, (t.val / 8 < 9 → t.val / 8 % 3 = 0 → win0_1.index t = ![t.val / 8 / 3, t.val % 8, 0])
    ∧ (t.val / 8 < 9 → t.val / 8 % 3 = 1 → win0_2.index t = ![t.val / 8 / 3, t.val % 8, 0])
    ∧ (t.val / 8 < 9 → t.val / 8 % 3 = 2 → win0_3.index t = ![t.val / 8 / 3, t.val % 8, 0])
    ∧ (9 ≤ t.val / 8 → win0_4.index t = ![t.val % 8, t.val / 8 - 9]) :=
  (by decide +kernel : ∀ t : Fin grid0.N, _)

/-- The activations and the cotangent. -/
abbrev hA (c : Dev nD) : S8192x1024.Idx → EReal := m (((c : Thread nD τ)).loc main_arg0)
/-- The cotangent. -/
abbrev zA (c : Dev nD) : S8192x14336.Idx → EReal := m (((c : Thread nD τ)).loc main_arg1)

/-- An entry of a block of the transposed activations is the activations' at the swapped index. -/
theorem hBlk_apply (c : Dev nD) (t : Fin cfg0.N) (i : Fin 1024) (k : Fin 1024) :
    hBlk m c t (ix2 i k) = hA m c (ix2 (Fin.mk (t.val % 8 * 1024 + k.val) (by omega)) i) := by
  unfold hBlk iblk
  rw [View.read_apply]
  entry_read
  pointwise
  blk_ext [iblk, V, idx t]

/-- The last source's entries are the cotangent's, -/
theorem s4Blk_apply (c : Dev nD) (t : Fin cfg0.N) (h : 9 ≤ t.val / 8) (k j : Fin 1024) :
    s4Blk m c t (ix2 k j) = zA m c (ix2 (Fin.mk (t.val % 8 * 1024 + k.val) (by omega))
      (Fin.mk (t.val / 8 * 1024 + j.val) (by have := lt_of_lt_of_eq t.isLt N_0; omega))) := by
  unfold s4Blk iblk
  rw [View.read_apply]
  entry_read
  pointwise
  have := lt_of_lt_of_eq t.isLt N_0
  blk_ext [iblk, V, (idxS t).2.2.2 h]
  show 9216 + ((t.val / 8 - 9) * 1024 + j.val) = t.val / 8 * 1024 + j.val
  omega

/-- and so are the first source's where its column blocks take it, -/
theorem s1Blk_apply (c : Dev nD) (t : Fin cfg0.N) (h : t.val / 8 < 9) (h' : t.val / 8 % 3 = 0) (k j : Fin 1024) :
    s1Blk m c t (ix3 0 k j) = zA m c (ix2 (Fin.mk (t.val % 8 * 1024 + k.val) (by omega))
      (Fin.mk (t.val / 8 * 1024 + j.val) (by have := lt_of_lt_of_eq t.isLt N_0; omega))) := by
  unfold s1Blk iblk
  rw [View.read_apply]
  entry_read
  pointwise
  blk_ext [iblk, V, (idxS t).1 h h']
  show t.val / 8 / 3 * 3072 + j.val = t.val / 8 * 1024 + j.val
  omega

/-- and so are the second's, -/
theorem s2Blk_apply (c : Dev nD) (t : Fin cfg0.N) (h : t.val / 8 < 9) (h' : t.val / 8 % 3 = 1) (k j : Fin 1024) :
    s2Blk m c t (ix3 0 k j) = zA m c (ix2 (Fin.mk (t.val % 8 * 1024 + k.val) (by omega))
      (Fin.mk (t.val / 8 * 1024 + j.val) (by have := lt_of_lt_of_eq t.isLt N_0; omega))) := by
  unfold s2Blk iblk
  rw [View.read_apply]
  entry_read
  pointwise
  blk_ext [iblk, V, (idxS t).2.1 h h']
  show t.val / 8 / 3 * 3072 + 1024 + j.val = t.val / 8 * 1024 + j.val
  omega

/-- and the third's. -/
theorem s3Blk_apply (c : Dev nD) (t : Fin cfg0.N) (h : t.val / 8 < 9) (h' : t.val / 8 % 3 = 2) (k j : Fin 1024) :
    s3Blk m c t (ix3 0 k j) = zA m c (ix2 (Fin.mk (t.val % 8 * 1024 + k.val) (by omega))
      (Fin.mk (t.val / 8 * 1024 + j.val) (by have := lt_of_lt_of_eq t.isLt N_0; omega))) := by
  unfold s3Blk iblk
  rw [View.read_apply]
  entry_read
  pointwise
  blk_ext [iblk, V, (idxS t).2.2.1 h h']
  show t.val / 8 / 3 * 3072 + 2048 + j.val = t.val / 8 * 1024 + j.val
  omega

/-! ## The accumulation -/

/-- The row and the column of the arrays that a point's block entry stands at. -/
def row (t : Fin cfg0.N) (k : Fin 1024) : Fin 8192 := Fin.mk (t.val % 8 * 1024 + k.val) (by omega)
/-- The column. -/
def col (t : Fin cfg0.N) (j : Fin 1024) : Fin 14336 := Fin.mk (t.val / 8 * 1024 + j.val) (by have := lt_of_lt_of_eq t.isLt N_0; omega)

/-- What point `t` adds to the accumulator. -/
def part (c : Dev nD) (t : Fin cfg0.N) : S1024x1024.Idx → EReal := fun j =>
  ∑ k : Fin 1024, hA m c (ix2 (row t k) (j 0)) * zA m c (ix2 (row t k) (col t (j 1)))

/-- Whichever source it takes, a point adds its part. -/
theorem stepT_apply (c : Dev nD) (t : Fin cfg0.N) (b : Vec Ideal S1024x1024 .f32) (j : S1024x1024.Idx) :
    stepT m c t b j = b j + part m c t j := by
  unfold stepT part
  by_cases h9 : t.val / 8 < 9
  · rw [if_pos h9]
    by_cases h0 : t.val / 8 % 3 = 0
    · rw [if_pos h0]
      exact (pay5_apply _ _ _ j).trans (congrArg _ (Finset.sum_congr rfl fun k _ => congrArg₂ (· * ·) (hBlk_apply m c t (j 0) k) (s1Blk_apply m c t h9 h0 k (j 1))))
    · rw [if_neg h0]
      by_cases h1 : t.val / 8 % 3 = 1
      · rw [if_pos h1]
        exact (pay5_apply _ _ _ j).trans (congrArg _ (Finset.sum_congr rfl fun k _ => congrArg₂ (· * ·) (hBlk_apply m c t (j 0) k) (s2Blk_apply m c t h9 h1 k (j 1))))
      · rw [if_neg h1]
        exact (pay5_apply _ _ _ j).trans (congrArg _ (Finset.sum_congr rfl fun k _ => congrArg₂ (· * ·) (hBlk_apply m c t (j 0) k) (s3Blk_apply m c t h9 (by omega) k (j 1))))
  · rw [if_neg h9]
    exact (pay2_apply _ _ _ j).trans (congrArg _ (Finset.sum_congr rfl fun k _ => congrArg₂ (· * ·) (hBlk_apply m c t (j 0) k) (s4Blk_apply m c t (by omega) k (j 1))))

/-- A point that starts a column block leaves its own part over zero. -/
theorem acc_A (c : Dev nD) (t : Fin cfg0.N) (h0 : t.val % 8 = 0) (j : S1024x1024.Idx) : accAt m c t.val t.isLt j = 0 + part m c t j := by
  rw [accAt_first m c t h0, stepT_apply, pay4_apply]

/-- Every other point adds its part to what the point before left. -/
theorem acc_step (c : Dev nD) (t : Fin cfg0.N) (h0 : ¬t.val % 8 = 0) (j : S1024x1024.Idx) :
    accAt m c t.val t.isLt j = accAt m c (t.val - 1) (Nat.lt_of_le_of_lt (Nat.sub_le _ _) t.isLt) j + part m c t j := by
  rw [accAt_next m c t h0, stepT_apply]

/-- The accumulator at a point that writes back: the eight parts of its column block. -/
theorem acc_last (c : Dev nD) (t : Fin cfg0.N) (h2 : t.val % 8 = 7) (j : S1024x1024.Idx) :
    accAt m c t.val t.isLt j = ∑ s : Fin 8, part m c ⟨8 * (t.val / 8) + s.val, Pipeline.run_point_lt_of_flush t h2 s⟩ j :=
  (Pipeline.eq_sum_fin_of_reset_step_apply_of_flush (fun n h => accAt m c n h) 8 (fun _ => 0) (part m c)
    (acc_A m c) (acc_step m c) t h2 j).trans (zero_add _)

/-- The gradient: one contraction over all rows. -/
def G (h : S8192x1024.Idx → EReal) (z : S8192x14336.Idx → EReal) : S1024x14336.Idx → EReal := fun i =>
  ∑ k : Fin 8192, h (ix2 k (i 0)) * z (ix2 k (i 1))

/-- The eight parts are it. -/
theorem acc_eq (c : Dev nD) (t : Fin cfg0.N) (h2 : t.val % 8 = 7) (j : S1024x1024.Idx) (i : S1024x14336.Idx)
    (hi0 : (i 0).val = (j 0).val) (hi1 : (i 1).val = t.val / 8 * 1024 + (j 1).val) :
    accAt m c t.val t.isLt j = G (hA m c) (zA m c) i := by
  rw [acc_last m c t h2 j]
  unfold G part
  refine Fin.sum_mul_add_congr (fun s k hl => ?_)
  have hs : s.val < 8 := s.isLt
  refine congrArg₂ (· * ·) (congrArg _ (funext fun a => Fin.ext ?_)) (congrArg _ (funext fun a => Fin.ext ?_))
  · match a with
    | ⟨0, _⟩ => show (8 * (t.val / 8) + s.val) % 8 * 1024 + k.val = s.val * 1024 + k.val; omega
    | ⟨1, _⟩ => exact hi0.symm
  · match a with
    | ⟨0, _⟩ => show (8 * (t.val / 8) + s.val) % 8 * 1024 + k.val = s.val * 1024 + k.val; omega
    | ⟨1, _⟩ => show (8 * (t.val / 8) + s.val) / 8 * 1024 + (j 1).val = (i 1).val; rw [hi1]; omega

/-- The written block's entry: the accumulator's. -/
theorem pay3_apply (b : Vec Ideal S1024x1024 .f32) (j : S1024x1024.Idx) : k0_pay3 (F := Ideal) b j = b j := by
  unfold k0_pay3
  rw [truncf_apply]

/-- What a point writes back is its block of the gradient. -/
theorem flushed_eq (c : Dev nD) (t : Fin cfg0.N) (h2 : t.val % 8 = 7) :
    (dats m 0 c).flushed 5 t = ((cfg0.win 5).blk t).view.read (Elt Ideal) (G (hA m c) (zA m c)) := by
  show (cfg0.win 5).cut (grid0.coords t) ((dats m 0 c).after 5 t) = _
  rw [after_5]
  funext y
  have e0 : win0_5.index t (0 : Fin 2) = 0 := congrFun (idx t).2 0
  have e1 : win0_5.index t (1 : Fin 2) = t.val / 8 := congrFun (idx t).2 1
  have hb0 : (((cfg0.win 5).blk t).view.emb y 0).val = win0_5.index t (0 : Fin 2) * 1024 + 1 * (y 0).val := rfl
  have hb1 : (((cfg0.win 5).blk t).view.emb y 1).val = win0_5.index t (1 : Fin 2) * 1024 + 1 * (y 1).val := rfl
  have ha := acc_eq m c t h2 ((cfg0.win 5).xinj (grid0.coords t) y) (((cfg0.win 5).blk t).view.emb y)
    (by show (((cfg0.win 5).blk t).view.emb y 0).val = (y 0).val; rw [hb0, e0]; omega)
    (by show (((cfg0.win 5).blk t).view.emb y 1).val = t.val / 8 * 1024 + (y 1).val; rw [hb1, e1]; omega)
  have hr : ∀ g : S1024x14336.Idx → EReal, (((cfg0.win 5).blk t).view.read (Elt Ideal) g y : EReal) = g (((cfg0.win 5).blk t).view.emb y) := fun g => rfl
  exact ((pay3_apply _ ((cfg0.win 5).xinj (grid0.coords t) y)).trans ha).trans (hr _).symm

/-- The gradient's array after the run. -/
theorem final (c : Dev nD) : (dats m 0 c).arrAt 5 cfg0.N = G (hA m c) (zA m c) :=
  (dats m 0 c).arrAt_eq_of_cover 5 _ (fun t ht => flushed_eq m c t ((flush0_5 t).mp ht)) (fun i => by
    have hi0 : (i 0).val < 1024 := (i 0).isLt
    have hi1 : (i 1).val < 14336 := (i 1).isLt
    have hlt : 8 * ((i 1).val / 1024) + 7 < grid0.N := lt_of_lt_of_eq (by omega) N_0.symm
    have ht := (idx ⟨8 * ((i 1).val / 1024) + 7, hlt⟩).2
    refine ⟨⟨8 * ((i 1).val / 1024) + 7, hlt⟩, (flush0_5 _).mpr (by show (8 * ((i 1).val / 1024) + 7) % 8 = 7; omega), ?_⟩
    have q0 : win0_5.index (⟨8 * ((i 1).val / 1024) + 7, hlt⟩ : Fin grid0.N) (0 : Fin 2) = 0 := congrFun ht 0
    have q1 : win0_5.index (⟨8 * ((i 1).val / 1024) + 7, hlt⟩ : Fin grid0.N) (1 : Fin 2) = (i 1).val / 1024 :=
      (congrFun ht 1).trans (by show (8 * ((i 1).val / 1024) + 7) / 8 = (i 1).val / 1024; omega)
    generalize (⟨8 * ((i 1).val / 1024) + 7, hlt⟩ : Fin grid0.N) = t at q0 q1 ⊢
    show i ∈ ((View.whole main_v11).slice (win0_5.rect t)).set
    rw [View.set_slice_whole, Rect.mem_set_unit]
    intro a
    match a with
    | ⟨0, _⟩ => show win0_5.index t (0 : Fin 2) * 1024 ≤ (i 0).val ∧ (i 0).val < win0_5.index t (0 : Fin 2) * 1024 + 1024; omega
    | ⟨1, _⟩ => show win0_5.index t (1 : Fin 2) * 1024 ≤ (i 1).val ∧ (i 1).val < win0_5.index t (1 : Fin 2) * 1024 + 1024; omega)

/-- The reference's gradient. -/
theorem ref_eq (h : S8192x1024.Idx → EReal) (z : S8192x14336.Idx → EReal) :
    (Cert.Reference6Ideal.Read.val_main_v6 (F := Ideal) h z : S1024x14336.Idx → EReal) = G h z := by
  funext i
  show Cert.Reference6Ideal.Read.val_main_v5 (F := Ideal) h z i = G h z i
  rw [Cert.Reference6Ideal.Read.val_main_v5_apply, Cert.Reference6Ideal.Read.val_main_v4_apply]
  unfold G
  refine Finset.sum_congr rfl fun k _ => (mul_comm _ _).trans (congrArg₂ (· * ·) (congrArg h (funext fun a => Fin.ext ?_)) (congrArg z (funext fun a => Fin.ext ?_)))
  · match a with
    | ⟨0, _⟩ => rfl
    | ⟨1, _⟩ => rfl
  · match a with
    | ⟨0, _⟩ => rfl
    | ⟨1, _⟩ => rfl

/-! ## The claims -/

/-- The odd layer's input weight: from the same arguments the kernel and the reference end at the same gradient. -/
theorem algebraic : Cert.algebraic_Kernel6Ideal_Reference6Ideal (hKernel6Ideal := Cert.Kernel6Ideal.Gen.facts)
    (hReference6Ideal := Cert.Reference6Ideal.Gen.facts) := by
  intro m g m' g' _ hargs
  refine ⟨fun c => G (hA m c) (zA m c),
    (θ_run _ _ _).mono (fun r h c => ⟨(h.1 c).1.trans (final m c), (h.1 c).2⟩) (run_post (F := Ideal) m g), ?_⟩
  refine (θ_run _ _ _).mono (fun r h c => ?_) (Cert.Reference6Ideal.Value.run (F := Ideal) m' g')
  obtain ⟨h6, h0, h1⟩ := h c
  obtain ⟨e0, e1⟩ := hargs c
  refine ⟨?_, h0, h1⟩
  rw [e0, e1] at h6
  exact h6.trans ((Cert.Reference6Ideal.Read.val_main_v6_eq _ _).trans (ref_eq _ _))

/-- The kernel's run leaves its arguments alone and every counter at zero, over the ideal numbers. -/
theorem frame_ideal : Cert.quiescent_Kernel6Ideal (hKernel6Ideal := Cert.Kernel6Ideal.Gen.facts) := fun m g _ =>
  run_frame (F := Ideal) m g

attribute [local instance] Cert.Kernel6.Gen.facts Cert.Kernel6Ideal.Gen.facts in
/-- The program over machine words and the program over the ideal numbers have one body table, -/
theorem defs₀_eq : Cert.Kernel6.defs₀ (F := Bits) = Cert.Kernel6Ideal.defs₀ (F := Bits) := by
  unfold Cert.Kernel6.defs₀ Cert.Kernel6Ideal.defs₀
  refine congrArg Defs.onTc ?_
  funext l a
  match l, a with
  | ⟨0, _⟩, (t, s) => rfl
  | ⟨_ + 1, h⟩, _ => exact absurd h (Nat.not_lt.2 (Nat.le_add_left _ _))

attribute [local instance] Cert.Kernel6.Gen.facts Cert.Kernel6Ideal.Gen.facts in
/-- and so one program. -/
theorem defs_eq : Cert.Kernel6.defs (F := Bits) = Cert.Kernel6Ideal.defs (F := Bits) :=
  congrArg (Pipeline.defs Cert.Kernel6Ideal.pcfgs) defs₀_eq

/-- The same over machine words, of the program as printed. -/
theorem frame_kernel : Cert.quiescent_Kernel6 (hKernel6 := Cert.Kernel6.Gen.facts) := fun m g _ => by
  rw [defs_eq]
  exact run_frame (F := Bits) m g

/-- The reference's run leaves its arguments alone; it declares no counter. -/
theorem frame_reference : Cert.quiescent_Reference6Ideal (hReference6Ideal := Cert.Reference6Ideal.Gen.facts) := fun m g _ =>
  (θ_run Cert.Reference6Ideal.defs _ _).mono (fun r h => ⟨fun c => (h c).2, sem_eq_zero_of_no_sems (by decide) r.2⟩)
    (Cert.Reference6Ideal.Value.run (F := Ideal) m g)

end Cert.Proof.OddDw

end
-- ==== Proof.DxMath.lean ====
/-
  The gradient of the root-mean-square norm of one row, on the extended reals: the kernel's form, which takes the mean of the gradient
  against the normalized row, and the form that differentiating the norm's own lines gives. They agree on every row, an infinite one
  included: where the mean square is infinite the scale is zero and both are the residual gradient alone.
-/
module

public import Idealize.ShloMosaic.PureOps.Ideal.Laws

@[expose] public section

noncomputable section

namespace Cert.Proof.DxMath

open Idealize.ShloMosaic

/-- The mean square of a row and the small constant. -/
def msq (x : Fin 1024 → EReal) : EReal :=
  Ideal.div (∑ k : Fin 1024, x k * x k) (Ideal.ofBits .f32 0x44800000#32) + Ideal.ofBits .f32 0x358637BD#32

/-- The scale of a row: one over the root of the mean square. -/
def scl (x : Fin 1024 → EReal) : EReal := Ideal.rsqrt (msq x)

/-- The gradient of a row's entry as the kernel computes it, from the row `x`, the gradient `h` of the row times the gain, and the residual
    gradient's entry `d`. -/
def rowDx (x h : Fin 1024 → EReal) (d : EReal) (j : Fin 1024) : EReal :=
  d + scl x * (h j - (x j * scl x) * Ideal.div (∑ k : Fin 1024, h k * (x k * scl x)) (Ideal.ofBits .f32 0x44800000#32))

/-- It depends on its arguments alone. -/
theorem rowDx_congr {x x' h h' : Fin 1024 → EReal} {d d' : EReal} {j j' : Fin 1024} (hx : x = x') (hh : h = h') (hd : d = d') (hj : j = j') :
    rowDx x h d j = rowDx x' h' d' j' := by
  subst hx hh hd hj; rfl

/-- What the mean square contributes, as differentiating the norm's lines gives it. -/
def rowP (x h : Fin 1024 → EReal) : EReal :=
  Ideal.div ((∑ k : Fin 1024, x k * h k) * (Ideal.ofBits .f32 0xBF000000#32 * Ideal.div (scl x) (msq x))) (Ideal.ofBits .f32 0x44800000#32)

/-- The row's length as a real. -/
theorem c1024 : Ideal.ofBits .f32 0x44800000#32 = ((1024 : ℝ) : EReal) := by
  simp [Ideal.ofBits, Ideal.ieee, -EReal.coe_mul]; norm_num
/-- Minus one half as a real. -/
theorem chalf : Ideal.ofBits .f32 0xBF000000#32 = ((-(1 / 2) : ℝ) : EReal) := by
  simp [Ideal.ofBits, Ideal.ieee, -EReal.coe_mul, -EReal.coe_neg]; norm_num
/-- The small constant is a positive real. -/
theorem ceps : ∃ e : ℝ, 0 < e ∧ Ideal.ofBits .f32 0x358637BD#32 = (e : EReal) := by
  refine ⟨8796093 * (2 : ℝ) ^ (-43 : ℤ), by positivity, ?_⟩
  simp [Ideal.ofBits, Ideal.ieee]

/-- A sum times a nonnegative real. -/
theorem sum_mul_coe (f : Fin 1024 → EReal) (r : ℝ) (hr : 0 ≤ r) : ∑ k : Fin 1024, f k * (r : EReal) = (∑ k : Fin 1024, f k) * (r : EReal) := by
  have : ∀ s : Finset (Fin 1024), ∑ k ∈ s, f k * (r : EReal) = (∑ k ∈ s, f k) * (r : EReal) := by
    intro s
    induction s using Finset.induction_on with
    | empty => simp
    | insert a s ha ih =>
      rw [Finset.sum_insert ha, Finset.sum_insert ha, ih, EReal.right_distrib_of_nonneg_of_ne_top (by exact_mod_cast hr) (EReal.coe_ne_top r)]
  exact this Finset.univ

/-- A number added to itself. -/
theorem add_self (y : EReal) : y + y = y * ((2 : ℝ) : EReal) := by
  induction y with
  | bot => rw [EReal.bot_add, EReal.bot_mul_coe_of_pos (by norm_num)]
  | coe r => norm_cast; ring
  | top => rw [EReal.top_add_top, EReal.top_mul_coe_of_pos (by norm_num)]

/-- The mean square of a row is a positive real or infinite. -/
theorem msq_cases (x : Fin 1024 → EReal) : (∃ s : ℝ, 0 < s ∧ msq x = (s : EReal)) ∨ msq x = ⊤ := by
  obtain ⟨e, he, hE⟩ := ceps
  have h0 : 0 ≤ ∑ k : Fin 1024, x k * x k := Finset.sum_nonneg fun k _ => by
    rcases le_total 0 (x k) with h | h
    · exact EReal.mul_nonneg h h
    · exact EReal.mul_nonneg_iff.mpr (.inr ⟨h, h⟩)
  unfold msq
  rw [c1024, hE, Ideal.div_coe (by norm_num)]
  revert h0
  generalize (∑ k : Fin 1024, x k * x k) = q
  intro h0
  induction q with
  | bot => exact absurd h0 (by simp)
  | coe q =>
    left
    have hq : 0 ≤ q := by exact_mod_cast h0
    exact ⟨q * (1 / 1024) + e, by positivity, by norm_cast⟩
  | top =>
    right
    rw [EReal.top_mul_coe_of_pos (by norm_num), EReal.top_add_coe]

/-- The two forms agree. -/
theorem rowDx_eq (x h : Fin 1024 → EReal) (d : EReal) (j : Fin 1024) :
    d + h j * scl x + x j * rowP x h + rowP x h * x j = rowDx x h d j := by
  unfold rowDx rowP
  rw [c1024, chalf, Ideal.div_coe (by norm_num), Ideal.div_coe (by norm_num)]
  rcases msq_cases x with ⟨s, hs, e⟩ | e
  · have hr : scl x = (((Real.sqrt s)⁻¹ : ℝ) : EReal) := by
      unfold scl
      rw [e, Ideal.rsqrt_coe, if_neg (by linarith), if_neg (by linarith)]
    have hp : 0 ≤ (Real.sqrt s)⁻¹ := by positivity
    have hsq : Real.sqrt s * Real.sqrt s = s := Real.mul_self_sqrt hs.le
    have hne : Real.sqrt s ≠ 0 := (Real.sqrt_pos.mpr hs).ne'
    rw [e, hr, Ideal.div_coe hs.ne']
    have hs3 : (Real.sqrt s)⁻¹ * (1 / s) = (Real.sqrt s)⁻¹ * (Real.sqrt s)⁻¹ * (Real.sqrt s)⁻¹ := by
      have h1 : 1 / s = (Real.sqrt s)⁻¹ * (Real.sqrt s)⁻¹ := by rw [← mul_inv, hsq, one_div]
      rw [h1, mul_assoc]
    generalize (Real.sqrt s)⁻¹ = r at *
    have hsum : ∑ k : Fin 1024, h k * (x k * (r : EReal)) = (∑ k : Fin 1024, x k * h k) * (r : EReal) := by
      rw [← sum_mul_coe _ r hp]
      exact Finset.sum_congr rfl fun k _ => by rw [← mul_assoc, mul_comm (h k)]
    rw [hsum]
    generalize (∑ k : Fin 1024, x k * h k) = T
    generalize x j = a
    generalize h j = b
    have hl : a * (T * (((-(1 / 2) : ℝ) : EReal) * ((r : EReal) * ((1 / s : ℝ) : EReal))) * ((1 / 1024 : ℝ) : EReal))
        = a * T * ((-(1 / 2) * (r * (1 / s)) * (1 / 1024) : ℝ) : EReal) := by
      simp only [EReal.coe_mul]; ac_rfl
    have hk : (r : EReal) * (a * (r : EReal) * (T * (r : EReal) * ((1 / 1024 : ℝ) : EReal))) = a * T * ((r * r * r * (1 / 1024) : ℝ) : EReal) := by
      simp only [EReal.coe_mul]; ac_rfl
    rw [mul_comm (T * _ * _) a, hl, add_assoc, add_self, mul_assoc, ← EReal.coe_mul, hs3,
      sub_eq_add_neg, EReal.left_distrib_of_nonneg_of_ne_top (by exact_mod_cast hp) (EReal.coe_ne_top r), mul_neg, hk,
      ← mul_neg, ← EReal.coe_neg, ← add_assoc, mul_comm b]
    congr 3
    ring
  · have hr : scl x = 0 := by
      unfold scl
      rw [e, Ideal.rsqrt_top]
    have hd : Ideal.div 0 ⊤ = 0 := by unfold Ideal.div; rw [if_neg (by simp), zero_mul]
    rw [e, hr, hd]
    simp

end Cert.Proof.DxMath

end
-- ==== Proof.DxKit.lean ====
/- Facts about loads of buffers wholly written by one store, and four-piece covers, that the two input-projection gradients share. -/
module

public import proofs.«01_k».proof.Proof.RunKit
public import Idealize.ShloMosaic.Lib.Pipeline.Value

@[expose] public section

noncomputable section

namespace Cert.Proof.DxKit

open Idealize.ShloMosaic

variable {sig : RefSig} {κ : Kind} {sp : Space} {s : Shape} {e : EltTy} {Val : EltTy → Type}

/-- A load of a buffer of which one store wrote the whole reads the payload under the load's rectangle, -/
theorem readCov_unit_whole [∀ e, Nonempty (Val e)] (v : View sig κ sp s e) {off : Fin s.rank → ℕ} (inb : ∀ a, off a + s.size a ≤ s.size a)
    (w : s.Idx → Val e) (L : List (View.Piece Val s e)) (r : Rect s) :
    v.readCov ((⟨Rect.unit off (no_index s.size) inb, w⟩ : View.Piece Val s e) :: L) r.toLoadRect = View.ld w r := by
  have h0 : off = fun _ => 0 := funext fun a => by have := inb a; omega
  have hc : ∀ y : s.Idx, ∃ p ∈ ((⟨Rect.unit off s.size inb, w⟩ : View.Piece Val s e) :: L), y ∈ p.1.set := fun y => by
    refine ⟨(⟨Rect.unit off s.size inb, w⟩ : View.Piece Val s e), List.mem_cons_self, ?_⟩
    show y ∈ (Rect.unit off s.size inb).set
    rw [Rect.mem_set_unit]
    intro a
    have := inb a; have := (y a).isLt
    constructor <;> omega
  exact (View.readCov_eq_canon_ld _ _ _ hc).trans (by rw [View.canon_cons_unit_zero h0])

/-- and so of one whole-rectangle piece. -/
theorem readCov_rect_whole [∀ e, Nonempty (Val e)] (v : View sig κ sp s e) (w : s.Idx → Val e) (r : Rect s) :
    v.readCov [(⟨Rect.whole s, w⟩ : View.Piece Val s e)] r.toLoadRect = View.ld w r :=
  readCov_unit_whole v (fun a => by show 0 + s.size a ≤ s.size a; omega) w [] r

/-- A load of the whole shape reads the contents. -/
theorem ld_whole (w : s.Idx → Val e) {off : Fin s.rank → ℕ} (inb : ∀ a, off a + s.size a ≤ s.size a) :
    View.ld w (Rect.unit off (no_index s.size) inb) = w :=
  View.ld_unit_zero (funext fun a => by have := inb a; show off a = 0; omega) inb w

end Cert.Proof.DxKit

end
-- ==== Proof.EvenDxBody.lean ====
/- The gradient of the even layer's input projection (`cc0_even_in_dx`), one point of its grid, run over any element type `F`: for each
   of eight row tiles the accumulator is zeroed at the first of five source blocks while two copies out of the arrays left in HBM start,
   every point adds the product of its source block and its weight block, and the last block's point waits for the copies and writes the
   row tile of the result and what the tile adds to the gain's gradient. -/
module

public import proofs.«01_k».proof.Proof.Gen.Kernel7Ideal.Frame
public import proofs.«01_k».proof.Proof.Gen.Kernel7Ideal.Skeleton
public import proofs.«01_k».proof.Proof.Gen.Kernel7Ideal.Points
public import proofs.«01_k».proof.Proof.DxKit
public import Idealize.ShloMosaic.Lib.Pipeline.FrameBody
public import Idealize.ShloMosaic.Lib.VecWindow
public import Idealize.ShloMosaic.Lib.Pipeline.Value
public import Idealize.ShloMosaic.Lib.Transfers
public import Idealize.ShloMosaic.Lib.WordCmp

@[expose] public section

set_option maxRecDepth 16384

noncomputable section

namespace Cert.Proof.EvenDxBody

open Cert.Kernel7Ideal Cert.Kernel7Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation RDat cellOf UD)

variable {F : FTy → Type} [FloatOps F]

/-! ## The branch conditions -/

/-- A source block in range: always. -/
def condB (i : grid0.Coords) : BitVec 1 :=
  let arg1 : BitVec 32 := BitVec.ofNat 32 (i 1).val
  let v5 : BitVec 1 := Scalar.cmpi .sge arg1 0#32
  let v6 : BitVec 1 := Scalar.cmpi .slt arg1 5#32
  let v7 : BitVec 1 := Scalar.andi v5 v6
  let v8 : BitVec 32 := Scalar.extui v7
  Scalar.cmpi .ne v8 0#32

/-- The accumulator is zeroed and the copies start at the first source block, -/
theorem cond1_iff : ∀ t : Fin cfg0.N, k0_cond1 (grid0.coords t) = 1#1 ↔ t.val % 5 = 0 :=
  (by decide +kernel : ∀ t : Fin grid0.N, k0_cond1 (grid0.coords t) = 1#1 ↔ t.val % 5 = 0)
/-- every source block is taken, -/
theorem condB_all : ∀ t : Fin cfg0.N, condB (grid0.coords t) = 1#1 :=
  (by decide +kernel : ∀ t : Fin grid0.N, condB (grid0.coords t) = 1#1)
/-- the tile is finished at the last source block, -/
theorem cond3_iff : ∀ t : Fin cfg0.N, k0_cond3 (grid0.coords t) = 1#1 ↔ t.val % 5 = 4 :=
  (by decide +kernel : ∀ t : Fin grid0.N, k0_cond3 (grid0.coords t) = 1#1 ↔ t.val % 5 = 4)
/-- the first row tile sets the gain's gradient -/
theorem cond4_iff : ∀ t : Fin cfg0.N, k0_cond4 (grid0.coords t) = 1#1 ↔ t.val / 5 = 0 :=
  (by decide +kernel : ∀ t : Fin grid0.N, k0_cond4 (grid0.coords t) = 1#1 ↔ t.val / 5 = 0)
/-- and the others add to it. -/
theorem cond5_iff : ∀ t : Fin cfg0.N, k0_cond5 (grid0.coords t) = 1#1 ↔ ¬ t.val / 5 = 0 :=
  (by decide +kernel : ∀ t : Fin grid0.N, k0_cond5 (grid0.coords t) = 1#1 ↔ ¬ t.val / 5 = 0)

/-! ## The copies -/

/-- The row tile of an array left in HBM that a first point copies. -/
abbrev rows (M : Memref sig .tc .hbm S8192x1024 .f32) (i : grid0.Coords) (h : k0_cond1 i = 1#1) : Memref sig .tc .hbm S1024x1024 .f32 :=
  M.slice (Rect.unit (s := S8192x1024) (k0_off1 i) S1024x1024.size (k0_off1_inb i h)) (fun _ => rfl)

/-- The two copies' semaphores. -/
abbrev sem0 (a : DmaSems sig S2) : DmaSem sig := ((a.slice (Rect.unit (s := S2) ![0] S1.size inb_S2_S1_0)).squeeze S_ squeezes_S1_S_).sem
/-- The second. -/
abbrev sem1 (a : DmaSems sig S2) : DmaSem sig := ((a.slice (Rect.unit (s := S2) ![1] S1.size inb_S2_S1_1)).squeeze S_ squeezes_S1_S_).sem

/-- A memref's own elements, held whole. -/
abbrev held (c : Dev nD) {sp : Space} {S : Shape} (M : Memref sig .tc sp S .f32) (f : Buf (Elt F) (M.view.loc (c : Thread nD τ))) :
    sProp (MT nD τ sig Unit (Elt F) ℕ (UD sig nD τ) ℕ) :=
  M.view.loc (c : Thread nD τ) ↦[M.view.set]{fullShare} f

/-- What a copy's destination holds once it has landed. -/
abbrev landed (c : Dev nD) (A : Memref sig .tc .hbm S1024x1024 .f32) (B : Memref sig .tc .vmem S1024x1024 .f32)
    (f : Buf (Elt F) (A.view.loc (c : Thread nD τ))) (d : Buf (Elt F) (B.view.loc (c : Thread nD τ))) : Buf (Elt F) (B.view.loc (c : Thread nD τ)) :=
  B.view.writes (Elt F) d [⟨Rect.whole S1024x1024, ReadAs.same.apply (A.view.read (Elt F) f)⟩]

/-- A copy under way: once it is done the destination holds the source's block, and the source is back. -/
abbrev inflight (c : Dev nD) (A : Memref sig .tc .hbm S1024x1024 .f32) (B : Memref sig .tc .vmem S1024x1024 .f32) (s : DmaSem sig)
    (f : Buf (Elt F) (A.view.loc (c : Thread nD τ))) (d : Buf (Elt F) (B.view.loc (c : Thread nD τ))) :
    sProp (MT nD τ sig Unit (Elt F) ℕ (UD sig nD τ) ℕ) :=
  Transfers.Flight (countersEmb (U := UD sig nD τ)) (c : Thread nD τ) (.dma s) () (B.view.amount (SemLoc.dma (sig := sig) s))
    iprop(held c B (landed c A B f d) ∗ held c A f)

/-! ## The body -/

set_option maxHeartbeats 4000000 in
/-- The body at a first source block: the accumulator is the block's product, the two copies are under way. -/
theorem body_first (c : Dev nD) (i : grid0.Coords) (arg2 : Memref sig .tc .vmem S1024x1024 .bf16) (harg2 : arg2.IsWhole) (arg3 : Memref sig .tc .vmem S1024x1024 .bf16) (harg3 : arg3.IsWhole) (arg4 : Memref sig .tc .hbm S8192x1024 .f32) (harg4 : arg4.IsWhole) (arg5 : Memref sig .tc .vmem S1x1024 .f32) (harg5 : arg5.IsWhole) (arg6 : Memref sig .tc .hbm S8192x1024 .f32) (harg6 : arg6.IsWhole) (arg7 : Memref sig .tc .vmem S1024x1024 .f32) (harg7 : arg7.IsWhole) (arg8 : Memref sig .tc .vmem S1x1024 .f32) (harg8 : arg8.IsWhole) (arg9 : Memref sig .tc .vmem S1024x1024 .f32) (harg9 : arg9.IsWhole) (arg10 : Memref sig .tc .vmem S1024x1024 .f32) (harg10 : arg10.IsWhole) (arg11 : Memref sig .tc .vmem S1024x1024 .f32) (harg11 : arg11.IsWhole) (arg12 : DmaSems sig S2)
    (hc1 : k0_cond1 i = 1#1) (hcB : condB i = 1#1) (hc3 : ¬ k0_cond3 i = 1#1)
    (x0 x1 : Vec F S1024x1024 .bf16) (f4 : Buf (Elt F) ((rows arg4 i hc1).view.loc (c : Thread nD τ))) (f6 : Buf (Elt F) ((rows arg6 i hc1).view.loc (c : Thread nD τ)))
    (d10 : Buf (Elt F) (arg10.view.loc (c : Thread nD τ))) (d11 : Buf (Elt F) (arg11.view.loc (c : Thread nD τ)))
    (K : PUnit → sProp (MT nD τ sig Unit (Elt F) ℕ (UD sig nD τ) ℕ)) :
    iprop(owns (c : Thread nD τ) arg2 fullShare x0 ∗ owns (c : Thread nD τ) arg3 fullShare x1 ∗ (∃ d, owns (c : Thread nD τ) arg9 fullShare d)
        ∗ held c (rows arg4 i hc1) f4 ∗ held c (rows arg6 i hc1) f6 ∗ held c arg10 d10 ∗ held c arg11 d11
        ∗ semVal ((c : Thread nD τ), SemLoc.dma (sem0 arg12)) 0 ∗ semVal ((c : Thread nD τ), SemLoc.dma (sem1 arg12)) 0
        ∗ (iprop(owns (c : Thread nD τ) arg2 fullShare x0 ∗ owns (c : Thread nD τ) arg3 fullShare x1 ∗ owns (c : Thread nD τ) arg9 fullShare (k0_pay2 k0_pay1 x0 x1)
            ∗ inflight c (rows arg4 i hc1) arg10 (sem0 arg12) f4 d10 ∗ inflight c (rows arg6 i hc1) arg11 (sem1 arg12) f6 d11) -∗ K ⟨⟩))
      ⊢ wp frame (wpE (defs₀ (F := F)) Variants.none c none) Set.univ (cc0_even_in_dx i arg2 harg2 arg3 harg3 arg4 harg4 arg5 harg5 arg6 harg6 arg7 harg7 arg8 harg8 arg9 harg9 arg10 harg10 arg11 harg11 arg12) K := by
  simp only [cc0_even_in_dx_eq_skeleton]; unfold cc0_even_in_dx_skel
  unfold owns
  iintro ⟨⟨%f0, %hf0, H0⟩, ⟨%f1, %hf1, H1⟩, ⟨%d9, %f9, -, H9⟩, H4, H6, H10, H11, Hs0, Hs1, Hk⟩
  obtain rfl := harg2.eq_unread hf0; obtain rfl := harg3.eq_unread hf1
  sl_exec (disch := first | sl_exact hc1 | sl_exact hcB | sl_exact hc3)
  sl_step
  iapply Hk
  isplitl [H0]
  · iexists _; isplitr; · ipureintro; exact harg2.read_unread _
    iexact H0
  isplitl [H1]
  · iexists _; isplitr; · ipureintro; exact harg3.read_unread _
    iexact H1
  isplitl [H9]
  · iexists _; isplitr
    swap; · iexact H9
    ipureintro
    sl_unfold_words
    repeat first | rw [RunKit.read_store_whole] | rw [RunKit.readAt_unread] | rw [View.readCov_cons_toLoadRect] | rw [View.readAt_writes_full]
  isplitl [Hs0]; · iexact Hs0
  iexact Hs1

set_option maxHeartbeats 4000000 in
/-- The body at a source block that is neither the first nor the last: one more product. -/
theorem body_mid (c : Dev nD) (i : grid0.Coords) (arg2 : Memref sig .tc .vmem S1024x1024 .bf16) (harg2 : arg2.IsWhole) (arg3 : Memref sig .tc .vmem S1024x1024 .bf16) (harg3 : arg3.IsWhole) (arg4 : Memref sig .tc .hbm S8192x1024 .f32) (harg4 : arg4.IsWhole) (arg5 : Memref sig .tc .vmem S1x1024 .f32) (harg5 : arg5.IsWhole) (arg6 : Memref sig .tc .hbm S8192x1024 .f32) (harg6 : arg6.IsWhole) (arg7 : Memref sig .tc .vmem S1024x1024 .f32) (harg7 : arg7.IsWhole) (arg8 : Memref sig .tc .vmem S1x1024 .f32) (harg8 : arg8.IsWhole) (arg9 : Memref sig .tc .vmem S1024x1024 .f32) (harg9 : arg9.IsWhole) (arg10 : Memref sig .tc .vmem S1024x1024 .f32) (harg10 : arg10.IsWhole) (arg11 : Memref sig .tc .vmem S1024x1024 .f32) (harg11 : arg11.IsWhole) (arg12 : DmaSems sig S2)
    (hc1 : ¬ k0_cond1 i = 1#1) (hcB : condB i = 1#1) (hc3 : ¬ k0_cond3 i = 1#1)
    (x0 x1 : Vec F S1024x1024 .bf16) (a : Vec F S1024x1024 .f32) (K : PUnit → sProp (MT nD τ sig Unit (Elt F) ℕ (UD sig nD τ) ℕ)) :
    iprop(owns (c : Thread nD τ) arg2 fullShare x0 ∗ owns (c : Thread nD τ) arg3 fullShare x1 ∗ owns (c : Thread nD τ) arg9 fullShare a
        ∗ (iprop(owns (c : Thread nD τ) arg2 fullShare x0 ∗ owns (c : Thread nD τ) arg3 fullShare x1 ∗ owns (c : Thread nD τ) arg9 fullShare (k0_pay2 a x0 x1)) -∗ K ⟨⟩))
      ⊢ wp frame (wpE (defs₀ (F := F)) Variants.none c none) Set.univ (cc0_even_in_dx i arg2 harg2 arg3 harg3 arg4 harg4 arg5 harg5 arg6 harg6 arg7 harg7 arg8 harg8 arg9 harg9 arg10 harg10 arg11 harg11 arg12) K := by
  simp only [cc0_even_in_dx_eq_skeleton]; unfold cc0_even_in_dx_skel
  unfold owns
  iintro ⟨⟨%f0, %hf0, H0⟩, ⟨%f1, %hf1, H1⟩, ⟨%f9, %hf9, H9⟩, Hk⟩
  obtain rfl := harg2.eq_unread hf0; obtain rfl := harg3.eq_unread hf1; obtain rfl := harg9.eq_unread hf9
  sl_exec (disch := first | sl_exact hc1 | sl_exact hcB | sl_exact hc3)
  sl_step
  iapply Hk
  isplitl [H0]
  · iexists _; isplitr; · ipureintro; exact harg2.read_unread _
    iexact H0
  isplitl [H1]
  · iexists _; isplitr; · ipureintro; exact harg3.read_unread _
    iexact H1
  iexists _; isplitr
  swap; · iexact H9
  ipureintro
  sl_unfold_words
  repeat first | rw [RunKit.read_store_whole] | rw [RunKit.readAt_unread] | rw [View.readCov_cons_toLoadRect] | rw [View.readAt_writes_full]

/-- The pieces of the result's row tile that a last point stores, from the row tiles `x` of the norm's input and `dr` of the residual
    gradient, the accumulator `a` and the gain `g`. -/
def dxPieces (x dr a : Vec F S1024x1024 .f32) (g : Vec F S1x1024 .f32) : List (View.Piece (Elt F) S1024x1024 .f32) := [
    ⟨(Rect.unit (s := S1024x1024) ![768, 0] S256x1024.size inb_S1024x1024_S256x1024_768_0), k0_pay3 (k0_pay20 (View.ld x (Rect.unit (s := S1024x1024) ![768, 0] S256x1024.size inb_S1024x1024_S256x1024_768_0))) (k0_pay21 (View.ld x (Rect.unit (s := S1024x1024) ![768, 0] S256x1024.size inb_S1024x1024_S256x1024_768_0))) (View.ld a (Rect.unit (s := S1024x1024) ![768, 0] S256x1024.size inb_S1024x1024_S256x1024_768_0)) g (View.ld dr (Rect.unit (s := S1024x1024) ![768, 0] S256x1024.size inb_S1024x1024_S256x1024_768_0))⟩,
    ⟨(Rect.unit (s := S1024x1024) ![512, 0] S256x1024.size inb_S1024x1024_S256x1024_512_0), k0_pay18 (View.ld x (Rect.unit (s := S1024x1024) ![512, 0] S256x1024.size inb_S1024x1024_S256x1024_512_0)) (k0_pay15 (View.ld x (Rect.unit (s := S1024x1024) ![512, 0] S256x1024.size inb_S1024x1024_S256x1024_512_0))) (View.ld a (Rect.unit (s := S1024x1024) ![512, 0] S256x1024.size inb_S1024x1024_S256x1024_512_0)) g (View.ld dr (Rect.unit (s := S1024x1024) ![512, 0] S256x1024.size inb_S1024x1024_S256x1024_512_0))⟩,
    ⟨(Rect.unit (s := S1024x1024) ![256, 0] S256x1024.size inb_S1024x1024_S256x1024_256_0), k0_pay13 (View.ld x (Rect.unit (s := S1024x1024) ![256, 0] S256x1024.size inb_S1024x1024_S256x1024_256_0)) (View.ld a (Rect.unit (s := S1024x1024) ![256, 0] S256x1024.size inb_S1024x1024_S256x1024_256_0)) g (View.ld dr (Rect.unit (s := S1024x1024) ![256, 0] S256x1024.size inb_S1024x1024_S256x1024_256_0))⟩,
    ⟨(Rect.unit (s := S1024x1024) ![0, 0] S256x1024.size inb_S1024x1024_S256x1024_0_0), k0_pay9 (View.ld x (Rect.unit (s := S1024x1024) ![0, 0] S256x1024.size inb_S1024x1024_S256x1024_0_0)) (View.ld a (Rect.unit (s := S1024x1024) ![0, 0] S256x1024.size inb_S1024x1024_S256x1024_0_0)) g (View.ld dr (Rect.unit (s := S1024x1024) ![0, 0] S256x1024.size inb_S1024x1024_S256x1024_0_0))⟩]

/-- The tile. -/
def dxTile (x dr a : Vec F S1024x1024 .f32) (g : Vec F S1x1024 .f32) : Vec F S1024x1024 .f32 := View.canon (dxPieces x dr a g)

/-- What the first three row chunks add to the gain's gradient. -/
def dgHead (x a : Vec F S1024x1024 .f32) : FVec F S1x1024 .f32 :=
  k0_pay19 (k0_pay14 (k0_pay6 (F := F)) (k0_pay10 (View.ld x (Rect.unit (s := S1024x1024) ![0, 0] S256x1024.size inb_S1024x1024_S256x1024_0_0)) (View.ld a (Rect.unit (s := S1024x1024) ![0, 0] S256x1024.size inb_S1024x1024_S256x1024_0_0))) (View.ld x (Rect.unit (s := S1024x1024) ![256, 0] S256x1024.size inb_S1024x1024_S256x1024_256_0)) (View.ld a (Rect.unit (s := S1024x1024) ![256, 0] S256x1024.size inb_S1024x1024_S256x1024_256_0))) (View.ld x (Rect.unit (s := S1024x1024) ![512, 0] S256x1024.size inb_S1024x1024_S256x1024_512_0)) (k0_pay15 (View.ld x (Rect.unit (s := S1024x1024) ![512, 0] S256x1024.size inb_S1024x1024_S256x1024_512_0))) (View.ld a (Rect.unit (s := S1024x1024) ![512, 0] S256x1024.size inb_S1024x1024_S256x1024_512_0))

/-- The gain's gradient after the first row tile, -/
def dgFirst (x a : Vec F S1024x1024 .f32) : Vec F S1x1024 .f32 := k0_pay4 (dgHead x a) (k0_pay21 (View.ld x (Rect.unit (s := S1024x1024) ![768, 0] S256x1024.size inb_S1024x1024_S256x1024_768_0))) (View.ld a (Rect.unit (s := S1024x1024) ![768, 0] S256x1024.size inb_S1024x1024_S256x1024_768_0))
/-- and after another, from what the tiles before left. -/
def dgNext (x a : Vec F S1024x1024 .f32) (p : Vec F S1x1024 .f32) : Vec F S1x1024 .f32 := k0_pay5 (dgHead x a) (k0_pay21 (View.ld x (Rect.unit (s := S1024x1024) ![768, 0] S256x1024.size inb_S1024x1024_S256x1024_768_0))) (View.ld a (Rect.unit (s := S1024x1024) ![768, 0] S256x1024.size inb_S1024x1024_S256x1024_768_0)) p

/-- The four pieces cover the tile. -/
theorem cover4 (p0 p1 p2 p3 : Vec F S256x1024 .f32) (y : S1024x1024.Idx) :
    ∃ p ∈ ([⟨(Rect.unit (s := S1024x1024) ![768, 0] S256x1024.size inb_S1024x1024_S256x1024_768_0), p3⟩, ⟨(Rect.unit (s := S1024x1024) ![512, 0] S256x1024.size inb_S1024x1024_S256x1024_512_0), p2⟩, ⟨(Rect.unit (s := S1024x1024) ![256, 0] S256x1024.size inb_S1024x1024_S256x1024_256_0), p1⟩, ⟨(Rect.unit (s := S1024x1024) ![0, 0] S256x1024.size inb_S1024x1024_S256x1024_0_0), p0⟩] : List (View.Piece (Elt F) S1024x1024 .f32)), y ∈ p.1.set := by
  have h0 : (y 0).val < 1024 := (y 0).isLt
  have h1 : (y 1).val < 1024 := (y 1).isLt
  have fits : ∀ (o : ℕ) (inb : ∀ a, (![o, 0] : Fin 2 → ℕ) a + S256x1024.size a ≤ S1024x1024.size a), o ≤ (y 0).val → (y 0).val < o + 256 →
      y ∈ (Rect.unit (s := S1024x1024) ![o, 0] S256x1024.size inb).set := by
    intro o inb l u
    rw [Rect.mem_set_unit]
    intro a
    match a with
    | ⟨0, _⟩ => show o ≤ (y 0).val ∧ (y 0).val < o + 256; omega
    | ⟨1, _⟩ => show 0 ≤ (y 1).val ∧ (y 1).val < 0 + 1024; omega
  by_cases a3 : 768 ≤ (y 0).val
  · exact ⟨_, List.mem_cons_self, fits 768 inb_S1024x1024_S256x1024_768_0 a3 (by omega)⟩
  · by_cases a2 : 512 ≤ (y 0).val
    · exact ⟨_, List.mem_cons_of_mem _ List.mem_cons_self, fits 512 inb_S1024x1024_S256x1024_512_0 a2 (by omega)⟩
    · by_cases a1 : 256 ≤ (y 0).val
      · exact ⟨_, List.mem_cons_of_mem _ (List.mem_cons_of_mem _ List.mem_cons_self), fits 256 inb_S1024x1024_S256x1024_256_0 a1 (by omega)⟩
      · exact ⟨_, List.mem_cons_of_mem _ (List.mem_cons_of_mem _ (List.mem_cons_of_mem _ List.mem_cons_self)), fits 0 inb_S1024x1024_S256x1024_0_0 (Nat.zero_le _) (by omega)⟩

set_option maxHeartbeats 8000000 in
/-- The body at a last source block: the last product, the copies' blocks taken in, the row tile and the gain's gradient written. -/
theorem body_last [∀ e, Nonempty (Elt F e)] (c : Dev nD) (i : grid0.Coords) (arg2 : Memref sig .tc .vmem S1024x1024 .bf16) (harg2 : arg2.IsWhole) (arg3 : Memref sig .tc .vmem S1024x1024 .bf16) (harg3 : arg3.IsWhole) (arg4 : Memref sig .tc .hbm S8192x1024 .f32) (harg4 : arg4.IsWhole) (arg5 : Memref sig .tc .vmem S1x1024 .f32) (harg5 : arg5.IsWhole) (arg6 : Memref sig .tc .hbm S8192x1024 .f32) (harg6 : arg6.IsWhole) (arg7 : Memref sig .tc .vmem S1024x1024 .f32) (harg7 : arg7.IsWhole) (arg8 : Memref sig .tc .vmem S1x1024 .f32) (harg8 : arg8.IsWhole) (arg9 : Memref sig .tc .vmem S1024x1024 .f32) (harg9 : arg9.IsWhole) (arg10 : Memref sig .tc .vmem S1024x1024 .f32) (harg10 : arg10.IsWhole) (arg11 : Memref sig .tc .vmem S1024x1024 .f32) (harg11 : arg11.IsWhole) (arg12 : DmaSems sig S2)
    (i₀ : grid0.Coords) (h₀ : k0_cond1 i₀ = 1#1)
    (hc1 : ¬ k0_cond1 i = 1#1) (hcB : condB i = 1#1) (hc3 : k0_cond3 i = 1#1)
    (x0 x1 : Vec F S1024x1024 .bf16) (g : Vec F S1x1024 .f32) (f4 : Buf (Elt F) ((rows arg4 i₀ h₀).view.loc (c : Thread nD τ))) (f6 : Buf (Elt F) ((rows arg6 i₀ h₀).view.loc (c : Thread nD τ)))
    (d10 : Buf (Elt F) (arg10.view.loc (c : Thread nD τ))) (d11 : Buf (Elt F) (arg11.view.loc (c : Thread nD τ)))
    (a : Vec F S1024x1024 .f32) (p o : Vec F S1x1024 .f32)
    (ho : (k0_cond4 i = 1#1 ∧ ¬ k0_cond5 i = 1#1 ∧ o = dgFirst ((rows arg4 i₀ h₀).view.read (Elt F) f4) (k0_pay2 a x0 x1))
      ∨ (¬ k0_cond4 i = 1#1 ∧ k0_cond5 i = 1#1 ∧ o = dgNext ((rows arg4 i₀ h₀).view.read (Elt F) f4) (k0_pay2 a x0 x1) p))
    (W : Waits sig Unit) (K : PUnit → sProp (MT nD τ sig Unit (Elt F) ℕ (UD sig nD τ) ℕ)) :
    iprop(owns (c : Thread nD τ) arg2 fullShare x0 ∗ owns (c : Thread nD τ) arg3 fullShare x1 ∗ owns (c : Thread nD τ) arg5 fullShare g
        ∗ (∃ d, owns (c : Thread nD τ) arg7 fullShare d) ∗ owns (c : Thread nD τ) arg8 fullShare p ∗ owns (c : Thread nD τ) arg9 fullShare a
        ∗ inflight c (rows arg4 i₀ h₀) arg10 (sem0 arg12) f4 d10 ∗ inflight c (rows arg6 i₀ h₀) arg11 (sem1 arg12) f6 d11
        ∗ owes (c : Thread nD τ) 0 W
        ∗ (iprop(owns (c : Thread nD τ) arg2 fullShare x0 ∗ owns (c : Thread nD τ) arg3 fullShare x1 ∗ owns (c : Thread nD τ) arg5 fullShare g
            ∗ owns (c : Thread nD τ) arg7 fullShare (dxTile ((rows arg4 i₀ h₀).view.read (Elt F) f4) ((rows arg6 i₀ h₀).view.read (Elt F) f6) (k0_pay2 a x0 x1) g)
            ∗ owns (c : Thread nD τ) arg8 fullShare o ∗ owns (c : Thread nD τ) arg9 fullShare (k0_pay2 a x0 x1)
            ∗ held c (rows arg4 i₀ h₀) f4 ∗ held c (rows arg6 i₀ h₀) f6 ∗ (∃ f, held c arg10 f) ∗ (∃ f, held c arg11 f)
            ∗ semVal ((c : Thread nD τ), SemLoc.dma (sem0 arg12)) 0 ∗ semVal ((c : Thread nD τ), SemLoc.dma (sem1 arg12)) 0
            ∗ (∃ W, owes (c : Thread nD τ) 0 W)) -∗ K ⟨⟩))
      ⊢ wp frame (wpE (defs₀ (F := F)) Variants.none c none) Set.univ (cc0_even_in_dx i arg2 harg2 arg3 harg3 arg4 harg4 arg5 harg5 arg6 harg6 arg7 harg7 arg8 harg8 arg9 harg9 arg10 harg10 arg11 harg11 arg12) K := by
  rcases ho with ⟨hc4, hc5, rfl⟩ | ⟨hc4, hc5, rfl⟩
  all_goals
    simp only [cc0_even_in_dx_eq_skeleton]; unfold cc0_even_in_dx_skel
    simp only [k0_part1_eq_skeleton, k0_part2_eq_skeleton, k0_part3_eq_skeleton]
    unfold k0_part1_skel k0_part2_skel k0_part3_skel
    unfold owns
    iintro ⟨⟨%f0, %hf0, H0⟩, ⟨%f1, %hf1, H1⟩, ⟨%f5, %hf5, H5⟩, ⟨%d7, %f7, -, H7⟩, ⟨%f8, %hf8, H8⟩, ⟨%f9, %hf9, H9⟩, HA, HB, HO, Hk⟩
    obtain rfl := harg2.eq_unread hf0; obtain rfl := harg3.eq_unread hf1; obtain rfl := harg5.eq_unread hf5; obtain rfl := harg8.eq_unread hf8; obtain rfl := harg9.eq_unread hf9
    sl_exec (disch := first | sl_exact hc1 | sl_exact hcB | sl_exact hc3 | sl_exact hc4 | sl_exact hc5)
    sl_step
    iapply Hk
    isplitl [H0]
    · iexists _; isplitr; · ipureintro; exact harg2.read_unread _
      iexact H0
    isplitl [H1]
    · iexists _; isplitr; · ipureintro; exact harg3.read_unread _
      iexact H1
    isplitl [H5]
    · iexists _; isplitr; · ipureintro; exact harg5.read_unread _
      iexact H5
    isplitl [H7]
    · iexists _; isplitr
      swap; · iexact H7
      ipureintro
      sl_unfold_words
      refine (View.read_writes_eq_canon _ _ _ (cover4 _ _ _ _)).trans ?_
      simp only [DxKit.readCov_unit_whole, DxKit.readCov_rect_whole, View.readAt_eq_ld, Memref.IsWhole.read_unread, DxKit.ld_whole]
      rfl
    isplitl [H8]
    · iexists _; isplitr
      swap; · iexact H8
      ipureintro
      sl_unfold_words
      refine (RunKit.read_store_whole _ _ _ _ _).trans ?_
      simp only [DxKit.readCov_unit_whole, DxKit.readCov_rect_whole, View.readAt_eq_ld, Memref.IsWhole.read_unread, DxKit.ld_whole]
      rfl
    isplitl [H9]
    · iexists _; isplitr
      swap; · iexact H9
      ipureintro
      sl_unfold_words
      repeat first | rw [RunKit.read_store_whole] | rw [RunKit.readAt_unread] | rw [View.readCov_cons_toLoadRect] | rw [View.readAt_writes_full]
    isplitl [HA_src]; · iexact HA_src
    isplitl [HB_src]; · iexact HB_src
    isplitl [HA_dst]; · iexists _; iexact HA_dst
    isplitl [HB_dst]; · iexists _; iexact HB_dst
    isplitl [HA]; · iexact HA
    isplitl [HB]; · iexact HB
    iexists _; iexact HO

end Cert.Proof.EvenDxBody

end
-- ==== Proof.EvenDxRun.lean ====
/- The gradient of the even layer's input projection, from one grid point to the whole run: between a tile's first and last source
   blocks the accumulator is tracked and the two copies are under way, and between tiles every buffer is at rest. -/
module

public import proofs.«01_k».proof.Proof.EvenDxBody
public import Idealize.ShloMosaic.Lib.Pipeline.TableIdle

@[expose] public section

set_option maxRecDepth 16384

noncomputable section

namespace Cert.Proof.EvenDxRun

open Cert.Kernel7Ideal Cert.Kernel7Ideal.Gen Cert.Proof.EvenDxBody
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation RDat cellOf UD)

variable {F : FTy → Type} [FloatOps F]
variable (m : (ℓ : Loc nD τ sig) → Buf (Elt F) ℓ) (ρ : Dev nD → PrngReg)

/-! ## What the run computes -/

/-- The grid point of a number, the numbers taken round the grid. -/
def pt (n : ℕ) : Fin cfg0.N := ⟨n % 40, lt_of_lt_of_eq (Nat.mod_lt _ (by decide)) (N_0 : cfg0.N = 40).symm⟩

/-- A point is the point of its own number. -/
theorem pt_val (t : Fin cfg0.N) : pt t.val = t :=
  Fin.ext (Nat.mod_eq_of_lt (lt_of_lt_of_eq t.isLt (N_0 : cfg0.N = 40)))

/-- A row tile's copies start at its first point. -/
theorem start_cond (r : ℕ) : k0_cond1 (grid0.coords (pt (5 * r))) = 1#1 := (cond1_iff _).mpr (by show 5 * r % 40 % 5 = 0; omega)

/-- The accumulator of row tile `r` after its source block `j`. -/
def accP (c : Dev nD) (r : ℕ) : ℕ → Vec F S1024x1024 .f32
  | 0 => k0_pay2 k0_pay1 (iblk m c 0 (pt (5 * r))) (X0_1 m c (pt (5 * r)))
  | j + 1 => k0_pay2 (accP c r j) (iblk m c 0 (pt (5 * r + (j + 1)))) (X0_1 m c (pt (5 * r + (j + 1))))

/-- Row tile `r` of the norm's input, -/
def xRows (c : Dev nD) (r : ℕ) : Vec F S1024x1024 .f32 :=
  (rows (Memref.whole main_arg2) (grid0.coords (pt (5 * r))) (start_cond r)).view.read (Elt F) (V m c main_arg2)
/-- and of the residual gradient. -/
def drRows (c : Dev nD) (r : ℕ) : Vec F S1024x1024 .f32 :=
  (rows (Memref.whole main_arg4) (grid0.coords (pt (5 * r))) (start_cond r)).view.read (Elt F) (V m c main_arg4)

/-- The gain's gradient after the first `k` row tiles. -/
def dgK (c : Dev nD) : ℕ → Vec F S1x1024 .f32
  | 0 => k0_pay6
  | 1 => dgFirst (xRows m c 0) (accP m c 0 4)
  | k + 2 => dgNext (xRows m c (k + 1)) (accP m c (k + 1) 4) (dgK c (k + 1))

/-! ## The invariant -/

/-- The accumulator's buffer and the two copies' destinations. -/
abbrev sc0 : Memref sig .tc .vmem S1024x1024 .f32 := Memref.whole cc0_scratch0
/-- The first copy's destination, -/
abbrev sc1 : Memref sig .tc .vmem S1024x1024 .f32 := Memref.whole cc0_scratch1
/-- the second's. -/
abbrev sc2 : Memref sig .tc .vmem S1024x1024 .f32 := Memref.whole cc0_scratch2
/-- The two arrays left in HBM: the norm's input -/
abbrev hb2 : Memref sig .tc .hbm S8192x1024 .f32 := Memref.whole main_arg2
/-- and the residual gradient. -/
abbrev hb4 : Memref sig .tc .hbm S8192x1024 .f32 := Memref.whole main_arg4
/-- The rows of an array a tile's copies do not take. -/
abbrev others (c : Dev nD) (M : Memref sig .tc .hbm S8192x1024 .f32) (i : grid0.Coords) (h : k0_cond1 i = 1#1)
    (f : Buf (Elt F) (M.view.loc (c : Thread nD τ))) : sProp (MT nD τ sig Unit (Elt F) ℕ (UD sig nD τ) ℕ) :=
  M.view.loc (c : Thread nD τ) ↦[Finset.univ \ (rows M i h).view.set]{fullShare} f

/-- Between tiles: every buffer at rest, the copies' counters at zero, the arrays as launched. -/
def Rest (c : Dev nD) : sProp (MT nD τ sig Unit (Elt F) ℕ (UD sig nD τ) ℕ) :=
  iprop((∃ d, owns (c : Thread nD τ) sc0 fullShare d)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f)
    ∗ semVal ((c : Thread nD τ), SemLoc.dma (sem0 cc0_scratch3)) 0 ∗ semVal ((c : Thread nD τ), SemLoc.dma (sem1 cc0_scratch3)) 0
    ∗ (((c : Thread nD τ).loc main_arg2) ↦{fullShare} V m c main_arg2) ∗ (((c : Thread nD τ).loc main_arg4) ↦{fullShare} V m c main_arg4)
    ∗ (∃ r, prngReg c r))

/-- With the copies that start at grid point `i` under way and the accumulator at `a`. -/
def BusyAt (c : Dev nD) (i : grid0.Coords) (h : k0_cond1 i = 1#1) (a : Vec F S1024x1024 .f32) : sProp (MT nD τ sig Unit (Elt F) ℕ (UD sig nD τ) ℕ) :=
  iprop(owns (c : Thread nD τ) sc0 fullShare a
    ∗ (∃ d, inflight c (rows hb2 i h) sc1 (sem0 cc0_scratch3) (V m c main_arg2) d)
    ∗ (∃ d, inflight c (rows hb4 i h) sc2 (sem1 cc0_scratch3) (V m c main_arg4) d)
    ∗ others c hb2 i h (V m c main_arg2) ∗ others c hb4 i h (V m c main_arg4)
    ∗ (∃ r, prngReg c r))

/-- The grid point may be named otherwise. -/
theorem BusyAt_congr (c : Dev nD) {s t : Fin cfg0.N} (e : s = t) (hs : k0_cond1 (grid0.coords s) = 1#1) (ht : k0_cond1 (grid0.coords t) = 1#1)
    (a : Vec F S1024x1024 .f32) : BusyAt m c (grid0.coords s) hs a = BusyAt m c (grid0.coords t) ht a := by
  subst e; rfl

/-- Within tile `r`, after its source block `j`. -/
def Busy (c : Dev nD) (r j : ℕ) : sProp (MT nD τ sig Unit (Elt F) ℕ (UD sig nD τ) ℕ) :=
  BusyAt m c (grid0.coords (pt (5 * r))) (start_cond r) (accP m c r j)

/-- The invariant before point `n`. -/
def PhiS (c : Dev nD) (n : ℕ) : sProp (MT nD τ sig Unit (Elt F) ℕ (UD sig nD τ) ℕ) :=
  if n % 5 = 0 then Rest m c else Busy m c (n / 5) (n % 5 - 1)

/-- The proof data. -/
def dats : (p : Fin 1) → (c : Dev nD) → Dat τ (Elt F) Unit ℕ (UD sig nD τ) ℕ (cfgs p) c
  | ⟨0, _⟩ => fun c => {
      A := fun w => V m c (Pipeline.arrRef spec0 w)
      after := fun w t => match w with
        | ⟨0, _⟩ => iblk m c 0 t
        | ⟨1, _⟩ => X0_1 m c t
        | ⟨2, _⟩ => iblk m c 2 t
        | ⟨3, _⟩ => dxTile (xRows m c (t.val / 5)) (drRows m c (t.val / 5)) (accP m c (t.val / 5) 4) (iblk m c 2 t)
        | ⟨4, _⟩ => dgK m c ((t.val + 1) / 5)
        | ⟨_ + 5, h⟩ => absurd h (Nat.not_lt.2 (Nat.le_add_left _ _))
      Φ := fun t => PhiS m c t.val
      q := fun _ => fullShare
      owed := fun _ => 0 }
  | ⟨_ + 1, h⟩ => absurd h (Nat.not_lt.2 (Nat.le_add_left _ _))

/-- The data's arrays are the arrays at the region's entry. -/
theorem A_eq (c : Dev nD) (w : Fin cfg0.W) : (dats m 0 c).A w = V m c (Pipeline.arrRef spec0 w) := by dsimp only [dats]
/-- The first result's buffer after a body that writes it. -/
theorem after_3 (c : Dev nD) (t : Fin cfg0.N) : (dats m 0 c).after 3 t
    = dxTile (xRows m c (t.val / 5)) (drRows m c (t.val / 5)) (accP m c (t.val / 5) 4) (iblk m c 2 t) := by dsimp only [dats]
/-- The second's. -/
theorem after_4 (c : Dev nD) (t : Fin cfg0.N) : (dats m 0 c).after 4 t = dgK m c ((t.val + 1) / 5) := by dsimp only [dats]

/-- The source's buffer holds its block at every point, -/
theorem before_0 (c : Dev nD) (t : Fin cfg0.N) (d) : (dats m 0 c).before 0 t d = iblk m c 0 t :=
  ((dats m 0 c).before_in_eq_fetched 0 rfl (fun _ => rfl) (fun _ _ _ => rfl)
      (fun t => by rw [show (dats m 0 c).after 0 t = iblk m c 0 t from by dsimp only [dats]]; unfold Dat.blockOf iblk; rw [A_eq]; try rfl) t d).trans
    (by unfold Dat.fetched Dat.blockOf iblk; rw [A_eq]; try rfl)
/-- the weights' too, -/
theorem before_1 (c : Dev nD) (t : Fin cfg0.N) (d) : (dats m 0 c).before 1 t d = X0_1 m c t :=
  ((dats m 0 c).before_in_eq_fetched 1 rfl (fun _ => rfl)
      (fun t t' h => funext fun a => congrArg (fun n => Pipeline.Clip.of n ((cfg0.win 1).size a) (S6400x1024.size a)) (congrFun h a))
      (fun t => by rw [show (dats m 0 c).after 1 t = X0_1 m c t from by dsimp only [dats]]; unfold X0_1; rw [Pipeline.Window.cut_fill]; unfold Dat.blockOf iblk; rw [A_eq]; try rfl) t d).trans
    (by unfold Dat.fetched X0_1; rw [fill0_1 t d dflt0_1]; unfold Dat.blockOf iblk; rw [A_eq]; try rfl)
/-- and the gain's. -/
theorem before_2 (c : Dev nD) (t : Fin cfg0.N) (d) : (dats m 0 c).before 2 t d = iblk m c 2 t :=
  ((dats m 0 c).before_in_eq_fetched 2 rfl (fun _ => rfl) (fun _ _ _ => rfl)
      (fun t => by rw [show (dats m 0 c).after 2 t = iblk m c 2 t from by dsimp only [dats]]; unfold Dat.blockOf iblk; rw [A_eq]; try rfl) t d).trans
    (by unfold Dat.fetched Dat.blockOf iblk; rw [A_eq]; try rfl)

/-- The results are written at the last source blocks only, the first -/
theorem idle_3 (t : Fin cfg0.N) : cfg0.idle 3 (grid0.coords t) = false ↔ t.val % 5 = 4 := by
  rw [← cond3_iff t]
  show (!(k0_cond3 (grid0.coords t) == 1#1)) = false ↔ _
  simp
/-- and the second. -/
theorem idle_4 : ∀ t : Fin cfg0.N, cfg0.idle 4 (grid0.coords t) = false ↔ t.val % 5 = 4 :=
  (by decide +kernel : ∀ t : Fin grid0.N, idle0 4 (grid0.coords t) = false ↔ t.val % 5 = 4)
/-- No other point writes the first back, -/
theorem flush_3 (t : Fin cfg0.N) (h : ¬ t.val % 5 = 4) : (cfg0.win 3).flush t = false := by
  have := mt (flush0_3 t).mp h
  revert this
  cases (cfg0.win 3).flush t <;> simp
/-- nor the second. -/
theorem flush_4 (t : Fin cfg0.N) (h : ¬ t.val % 5 = 4) : (cfg0.win 4).flush t = false := by
  have hN : cfg0.N = 40 := N_0
  have := mt (flush0_4 t).mp (by have := t.isLt; omega)
  revert this
  cases (cfg0.win 4).flush t <;> simp

/-- The second result's buffer holds nothing stored through the first tile. -/
theorem fresh_4 (n : ℕ) (h : n ≤ cfg0.N) : cfg0.fresh 4 n = (decide (n < 5) || decide (n = 40)) :=
  cfg0.fresh_tab 4 (fun n => decide (n < 5) || decide (n = 40)) rfl
    (by decide +kernel : ∀ t : Fin grid0.N, (fun n => decide (n < 5) || decide (n = 40)) (t.val + 1)
      = ((cfg0.win 4).flush t || (cfg0.idle 4 (cfg0.grid.coords t) && (fun n => decide (n < 5) || decide (n = 40)) t.val))) n h

/-- After the first tile it holds what the tiles before left. -/
theorem before_4 (c : Dev nD) (t : Fin cfg0.N) (h : 5 ≤ t.val) (d) : (dats m 0 c).before 4 t d = dgK m c (t.val / 5) := by
  have hN : cfg0.N = 40 := N_0
  have ht := t.isLt
  rw [(dats m 0 c).before_out_traj 4 rfl (fun _ _ => rfl) (fun t h0 hi hf => by
      have h4 : ¬ t.val % 5 = 4 := fun e => by rw [(idle_4 t).mpr e] at hi; exact Bool.false_ne_true hi
      rw [after_4, after_4]
      congr 1
      show (t.val + 1) / 5 = (t.val - 1 + 1) / 5
      omega) t.val t rfl d, fresh_4 t.val (le_of_lt ht)]
  rw [if_neg (by simp; omega), after_4]
  congr 1
  show (t.val - 1 + 1) / 5 = t.val / 5
  omega

/-- The invariant at a point's start. -/
theorem Phi_castSucc (c : Dev nD) (t : Fin cfg0.N) : (dats m 0 c).Φ t.castSucc = PhiS m c t.val := by
  dsimp only [dats]; rfl
/-- The invariant at its end. -/
theorem Phi_succ (c : Dev nD) (t : Fin cfg0.N) : (dats m 0 c).Φ t.succ = PhiS m c (t.val + 1) := by
  dsimp only [dats]; rfl

/-- What the body is called with at point `t`, window by window, -/
def bodyPre (c : Dev nD) (t : Fin cfg0.N) : sProp (MT nD τ sig Unit (Elt F) ℕ (UD sig nD τ) ℕ) :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- and what it returns. -/
def bodyPost (c : Dev nD) (t : Fin cfg0.N) : sProp (MT nD τ sig Unit (Elt F) ℕ (UD sig nD τ) ℕ) :=
  iprop((dats m 0 c).Φ t.succ ∗ (dats m 0 c).owesAt () t.succ
    ∗ (dats m 0 c).leavesExact 0 t ∗ (dats m 0 c).leavesExact 1 t ∗ (dats m 0 c).leavesExact 2 t ∗ (dats m 0 c).leavesExact 3 t ∗ (dats m 0 c).leavesExact 4 t)

/-- The next source block's product is added. -/
theorem acc_step (c : Dev nD) (t : Fin cfg0.N) (h : ¬ t.val % 5 = 0) :
    accP m c (t.val / 5) (t.val % 5) = k0_pay2 (accP m c (t.val / 5) (t.val % 5 - 1)) (iblk m c 0 t) (X0_1 m c t) := by
  obtain ⟨j, hj⟩ : ∃ j, t.val % 5 = j + 1 := ⟨t.val % 5 - 1, by omega⟩
  rw [hj, Nat.add_sub_cancel]
  have e : pt (5 * (t.val / 5) + (j + 1)) = t := by
    rw [show 5 * (t.val / 5) + (j + 1) = t.val from by omega]; exact pt_val t
  conv_lhs => unfold accP
  rw [e]

/-- The first source block's product starts it. -/
theorem acc_start (c : Dev nD) (t : Fin cfg0.N) (h : t.val % 5 = 0) :
    accP m c (t.val / 5) 0 = k0_pay2 k0_pay1 (iblk m c 0 t) (X0_1 m c t) := by
  have e : pt (5 * (t.val / 5)) = t := by
    rw [show 5 * (t.val / 5) = t.val from by omega]; exact pt_val t
  conv_lhs => unfold accP
  rw [e]

set_option maxHeartbeats 1600000 in
/-- The body at a tile's first source block meets its obligation. -/
theorem sound_first (c : Dev nD) (t : Fin cfg0.N) (h : t.val % 5 = 0) :
    bodyPre m c t ⊢ wp frame (wpE (defs₀ (F := F)) Variants.none c none) Set.univ (bodyAt0 t) (fun _ => bodyPost m c t) := by
  have e : pt (5 * (t.val / 5)) = t := by
    rw [show 5 * (t.val / 5) = t.val from by omega]; exact pt_val t
  have h4 : ¬ t.val % 5 = 4 := by omega
  unfold bodyPre bodyPost bodyAt0
  simp only [before_0, before_1, before_2]
  rw [show (dats m 0 c).owesAt () t.succ = (dats m 0 c).owesAt () t.castSucc from rfl]
  rw [show (dats m 0 c).leavesExact 0 t = owns (c : Thread nD τ) (st0_0 t) fullShare (iblk m c 0 t) from rfl]
  rw [show (dats m 0 c).leavesExact 1 t = owns (c : Thread nD τ) (st0_1 t) fullShare (X0_1 m c t) from rfl]
  rw [show (dats m 0 c).leavesExact 2 t = owns (c : Thread nD τ) (st0_2 t) fullShare (iblk m c 2 t) from rfl]
  rw [Dat.leavesExact_idle (dats m 0 c) 3 t (by
        cases hi : cfg0.idle 3 (grid0.coords t)
        · exact absurd ((idle_3 t).mp hi) h4
        · rfl) (flush_3 t h4),
      Dat.leavesExact_idle (dats m 0 c) 4 t (by
        cases hi : cfg0.idle 4 (grid0.coords t)
        · exact absurd ((idle_4 t).mp hi) h4
        · rfl) (flush_4 t h4)]
  rw [Phi_castSucc, Phi_succ, show PhiS m c t.val = Rest m c from if_pos h,
    show PhiS m c (t.val + 1) = Busy m c (t.val / 5) 0 from by
      unfold PhiS; rw [if_neg (by omega), show (t.val + 1) / 5 = t.val / 5 from by omega, show (t.val + 1) % 5 - 1 = 0 from by omega]]
  unfold Busy
  rw [acc_start m c t h, BusyAt_congr m c e (start_cond (t.val / 5)) ((cond1_iff t).mpr h)]
  unfold Rest BusyAt
  iintro ⟨⟨HS, ⟨%d1, H10⟩, ⟨%d2, H11⟩, Hs0, Hs1, H2, H4, Hg⟩, Ho, ⟨%e0, W0⟩, ⟨%e1, W1⟩, ⟨%e2, W2⟩, ⟨%e3, W3⟩, ⟨%e4, W4⟩⟩
  ihave HX := (pointsTo_split_subset (Finset.subset_univ (rows hb2 (grid0.coords t) ((cond1_iff t).mpr h)).view.set)).1 $$ H2
  icases HX with ⟨H2a, H2b⟩
  ihave HY := (pointsTo_split_subset (Finset.subset_univ (rows hb4 (grid0.coords t) ((cond1_iff t).mpr h)).view.set)).1 $$ H4
  icases HY with ⟨H4a, H4b⟩
  iapply (body_first c (grid0.coords t) _ _ _ _ hb2 _ _ _ hb4 _ _ _ _ _ sc0 _ sc1 _ sc2 _ cc0_scratch3 ((cond1_iff t).mpr h) (condB_all t)
    (fun e => h4 ((cond3_iff t).mp e)) (iblk m c 0 t) (X0_1 m c t) (V m c main_arg2) (V m c main_arg4) d1 d2 _)
  isplitl [W0]; · iexact W0
  isplitl [W1]; · iexact W1
  isplitl [HS]; · iexact HS
  isplitl [H2a]; · iexact H2a
  isplitl [H4a]; · iexact H4a
  isplitl [H10]
  · rw [show held c sc1 d1 = (((c : Thread nD τ).loc cc0_scratch1) ↦{fullShare} d1) from by unfold held; rw [View.set_whole]]
    iexact H10
  isplitl [H11]
  · rw [show held c sc2 d2 = (((c : Thread nD τ).loc cc0_scratch2) ↦{fullShare} d2) from by unfold held; rw [View.set_whole]]
    iexact H11
  isplitl [Hs0]; · iexact Hs0
  isplitl [Hs1]; · iexact Hs1
  iintro ⟨W0, W1, HS, HA, HB⟩
  isplitl [HS HA HB H2b H4b Hg]
  · isplitl [HS]; · iexact HS
    isplitl [HA]; · iexists _; iexact HA
    isplitl [HB]; · iexists _; iexact HB
    isplitl [H2b]; · iexact H2b
    isplitl [H4b]; · iexact H4b
    iexact Hg
  isplitl [Ho]; · iexact Ho
  isplitl [W0]; · iexact W0
  isplitl [W1]; · iexact W1
  isplitl [W2]; · iexact W2
  isplitl [W3]; · iexists _; iexact W3
  iexists _; iexact W4

set_option maxHeartbeats 1600000 in
/-- The body at a source block in a tile's middle meets its obligation. -/
theorem sound_mid (c : Dev nD) (t : Fin cfg0.N) (h : ¬ t.val % 5 = 0) (h4 : ¬ t.val % 5 = 4) :
    bodyPre m c t ⊢ wp frame (wpE (defs₀ (F := F)) Variants.none c none) Set.univ (bodyAt0 t) (fun _ => bodyPost m c t) := by
  unfold bodyPre bodyPost bodyAt0
  simp only [before_0, before_1, before_2]
  rw [show (dats m 0 c).owesAt () t.succ = (dats m 0 c).owesAt () t.castSucc from rfl]
  rw [show (dats m 0 c).leavesExact 0 t = owns (c : Thread nD τ) (st0_0 t) fullShare (iblk m c 0 t) from rfl]
  rw [show (dats m 0 c).leavesExact 1 t = owns (c : Thread nD τ) (st0_1 t) fullShare (X0_1 m c t) from rfl]
  rw [show (dats m 0 c).leavesExact 2 t = owns (c : Thread nD τ) (st0_2 t) fullShare (iblk m c 2 t) from rfl]
  rw [Dat.leavesExact_idle (dats m 0 c) 3 t (by
        cases hi : cfg0.idle 3 (grid0.coords t)
        · exact absurd ((idle_3 t).mp hi) h4
        · rfl) (flush_3 t h4),
      Dat.leavesExact_idle (dats m 0 c) 4 t (by
        cases hi : cfg0.idle 4 (grid0.coords t)
        · exact absurd ((idle_4 t).mp hi) h4
        · rfl) (flush_4 t h4)]
  rw [Phi_castSucc, Phi_succ, show PhiS m c t.val = Busy m c (t.val / 5) (t.val % 5 - 1) from if_neg h,
    show PhiS m c (t.val + 1) = Busy m c (t.val / 5) (t.val % 5) from by
      unfold PhiS; rw [if_neg (by omega), show (t.val + 1) / 5 = t.val / 5 from by omega, show (t.val + 1) % 5 - 1 = t.val % 5 from by omega]]
  unfold Busy
  rw [acc_step m c t h]
  unfold BusyAt
  iintro ⟨⟨HS, HA, HB, H2, H4, Hg⟩, Ho, ⟨%e0, W0⟩, ⟨%e1, W1⟩, ⟨%e2, W2⟩, ⟨%e3, W3⟩, ⟨%e4, W4⟩⟩
  iapply (body_mid c (grid0.coords t) _ _ _ _ hb2 _ _ _ hb4 _ _ _ _ _ sc0 _ sc1 _ sc2 _ cc0_scratch3 (fun e => h ((cond1_iff t).mp e)) (condB_all t)
    (fun e => h4 ((cond3_iff t).mp e)) (iblk m c 0 t) (X0_1 m c t) _ _)
  isplitl [W0]; · iexact W0
  isplitl [W1]; · iexact W1
  isplitl [HS]; · iexact HS
  iintro ⟨W0, W1, HS⟩
  isplitl [HS HA HB H2 H4 Hg]
  · isplitl [HS]; · iexact HS
    isplitl [HA]; · iexact HA
    isplitl [HB]; · iexact HB
    isplitl [H2]; · iexact H2
    isplitl [H4]; · iexact H4
    iexact Hg
  isplitl [Ho]; · iexact Ho
  isplitl [W0]; · iexact W0
  isplitl [W1]; · iexact W1
  isplitl [W2]; · iexact W2
  isplitl [W3]; · iexists _; iexact W3
  iexists _; iexact W4

set_option maxHeartbeats 1600000 in
/-- The body at a tile's last source block meets its obligation. -/
theorem sound_last [∀ e, Nonempty (Elt F e)] (c : Dev nD) (t : Fin cfg0.N) (h4 : t.val % 5 = 4) :
    bodyPre m c t ⊢ wp frame (wpE (defs₀ (F := F)) Variants.none c none) Set.univ (bodyAt0 t) (fun _ => bodyPost m c t) := by
  have h : ¬ t.val % 5 = 0 := by omega
  unfold bodyPre bodyPost bodyAt0
  simp only [before_0, before_1, before_2]
  rw [show (dats m 0 c).leavesExact 0 t = owns (c : Thread nD τ) (st0_0 t) fullShare (iblk m c 0 t) from rfl]
  rw [show (dats m 0 c).leavesExact 1 t = owns (c : Thread nD τ) (st0_1 t) fullShare (X0_1 m c t) from rfl]
  rw [show (dats m 0 c).leavesExact 2 t = owns (c : Thread nD τ) (st0_2 t) fullShare (iblk m c 2 t) from rfl]
  rw [show (dats m 0 c).leavesExact 3 t = owns (c : Thread nD τ) (st0_3 t) fullShare (dxTile (xRows m c (t.val / 5)) (drRows m c (t.val / 5)) (accP m c (t.val / 5) 4) (iblk m c 2 t)) from by
        unfold Dat.leavesExact; rw [(idle_3 t).mpr h4, after_3],
      show (dats m 0 c).leavesExact 4 t = owns (c : Thread nD τ) (st0_4 t) fullShare (dgK m c (t.val / 5 + 1)) from by
        unfold Dat.leavesExact; rw [(idle_4 t).mpr h4, after_4, show (t.val + 1) / 5 = t.val / 5 + 1 from by omega]]
  rw [Phi_castSucc, Phi_succ, show PhiS m c t.val = Busy m c (t.val / 5) 3 from by
      unfold PhiS; rw [if_neg h, h4],
    show PhiS m c (t.val + 1) = Rest m c from by unfold PhiS; rw [if_pos (by omega)]]
  have hacc : accP m c (t.val / 5) 4 = k0_pay2 (accP m c (t.val / 5) 3) (iblk m c 0 t) (X0_1 m c t) := by
    have := acc_step m c t h; rwa [h4] at this
  have ho : ∀ d, (k0_cond4 (grid0.coords t) = 1#1 ∧ ¬ k0_cond5 (grid0.coords t) = 1#1 ∧ dgK m c (t.val / 5 + 1) = dgFirst (xRows m c (t.val / 5)) (k0_pay2 (accP m c (t.val / 5) 3) (iblk m c 0 t) (X0_1 m c t)))
      ∨ (¬ k0_cond4 (grid0.coords t) = 1#1 ∧ k0_cond5 (grid0.coords t) = 1#1 ∧ dgK m c (t.val / 5 + 1) = dgNext (xRows m c (t.val / 5)) (k0_pay2 (accP m c (t.val / 5) 3) (iblk m c 0 t) (X0_1 m c t)) ((dats m 0 c).before 4 t d)) := by
    intro d
    rw [← hacc]
    by_cases hr : t.val / 5 = 0
    · refine .inl ⟨(cond4_iff t).mpr hr, fun e => (cond5_iff t).mp e hr, ?_⟩
      rw [hr]; rfl
    · refine .inr ⟨fun e => hr ((cond4_iff t).mp e), (cond5_iff t).mpr hr, ?_⟩
      rw [before_4 m c t (by omega)]
      obtain ⟨k, hk⟩ : ∃ k, t.val / 5 = k + 1 := ⟨t.val / 5 - 1, by omega⟩
      rw [hk]; rfl
  rw [hacc]
  unfold Busy BusyAt Rest Dat.owesAt Pipeline.owesWithin
  rw [show (dats m 0 c).owed t.castSucc = 0 from rfl, show (dats m 0 c).owed t.succ = 0 from rfl]
  iintro ⟨⟨HS, ⟨%d1, HA⟩, ⟨%d2, HB⟩, H2b, H4b, Hg⟩, ⟨%Wt, -, Ho⟩, ⟨%e0, W0⟩, ⟨%e1, W1⟩, ⟨%e2, W2⟩, ⟨%e3, W3⟩, ⟨%e4, W4⟩⟩
  iapply (body_last c (grid0.coords t) _ _ _ _ hb2 _ _ _ hb4 _ _ _ _ _ sc0 _ sc1 _ sc2 _ cc0_scratch3 (grid0.coords (pt (5 * (t.val / 5)))) (start_cond (t.val / 5))
    (fun e => h ((cond1_iff t).mp e)) (condB_all t) ((cond3_iff t).mpr h4) (iblk m c 0 t) (X0_1 m c t) (iblk m c 2 t) (V m c main_arg2) (V m c main_arg4) d1 d2
    (accP m c (t.val / 5) 3) ((dats m 0 c).before 4 t e4) (dgK m c (t.val / 5 + 1)) (ho e4) Wt _)
  isplitl [W0]; · iexact W0
  isplitl [W1]; · iexact W1
  isplitl [W2]; · iexact W2
  isplitl [W3]; · iexists _; iexact W3
  isplitl [W4]; · iexact W4
  isplitl [HS]; · iexact HS
  isplitl [HA]; · iexact HA
  isplitl [HB]; · iexact HB
  isplitl [Ho]; · iexact Ho
  iintro ⟨W0, W1, W2, W3, W4, HS, H2a, H4a, ⟨%f1, H10⟩, ⟨%f2, H11⟩, Hs0, Hs1, ⟨%Wt', Ho⟩⟩
  isplitl [HS H2a H2b H4a H4b H10 H11 Hs0 Hs1 Hg]
  · isplitl [HS]; · iexists _; iexact HS
    isplitl [H10]
    · iexists f1
      rw [show (((c : Thread nD τ).loc cc0_scratch1) ↦{fullShare} f1) = held c sc1 f1 from by unfold held; rw [View.set_whole]]
      iexact H10
    isplitl [H11]
    · iexists f2
      rw [show (((c : Thread nD τ).loc cc0_scratch2) ↦{fullShare} f2) = held c sc2 f2 from by unfold held; rw [View.set_whole]]
      iexact H11
    isplitl [Hs0]; · iexact Hs0
    isplitl [Hs1]; · iexact Hs1
    isplitl [H2a H2b]
    · iapply (pointsTo_split_subset (Finset.subset_univ (rows hb2 (grid0.coords (pt (5 * (t.val / 5)))) (start_cond (t.val / 5))).view.set)).2
      isplitl [H2a]; · iexact H2a
      iexact H2b
    isplitl [H4a H4b]
    · iapply (pointsTo_split_subset (Finset.subset_univ (rows hb4 (grid0.coords (pt (5 * (t.val / 5)))) (start_cond (t.val / 5))).view.set)).2
      isplitl [H4a]; · iexact H4a
      iexact H4b
    iexact Hg
  isplitl [Ho]
  · iexists Wt'; isplitr; · ipureintro; exact fun _ _ => Or.inl trivial
    iexact Ho
  isplitl [W0]; · iexact W0
  isplitl [W1]; · iexact W1
  isplitl [W2]; · iexact W2
  isplitl [W3]; · iexact W3
  iexact W4

/-- The body at any point meets its obligation. -/
theorem sound_body [∀ e, Nonempty (Elt F e)] (c : Dev nD) (t : Fin cfg0.N) :
    bodyPre m c t ⊢ wp frame (wpE (defs₀ (F := F)) Variants.none c none) Set.univ (bodyAt0 t) (fun _ => bodyPost m c t) := by
  by_cases h : t.val % 5 = 0
  · exact sound_first m c t h
  · by_cases h4 : t.val % 5 = 4
    · exact sound_last m c t h4
    · exact sound_mid m c t h h4

/-- The body table's row at point `t` is the body there. -/
theorem defs₀_row (t : Fin cfg0.N) : defs₀ (F := F) .tc cfg0.body (cfg0.bodyArgs t (cfg0.slots t)) = bodyAt0 t := by
  unfold defs₀; rw [Defs.onTc_tc]

/-- The body obligation, at every window exactly. -/
theorem body_obligation [∀ e, Nonempty (Elt F e)] (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

/-- The kernel's own semaphores: one for each copy. -/
abbrev osem : Fin 2 → SemLoc sig := fun j => (![SemLoc.dma (sem0 cc0_scratch3), SemLoc.dma (sem1 cc0_scratch3)] : Fin 2 → SemLoc sig) j
/-- They are scoped, distinct and no window's. -/
theorem ownSemFacts : Pipeline.OwnSemFacts spec0 osem := by decide
/-- The arrays the kernel reads itself. -/
def H0 : Finset (Ref sig .tc) := {main_arg2, main_arg4}
/-- No window's array is among them. -/
theorem H0_sub : H0 ⊆ Pipeline.restRefs sig spec0 := by decide

/-- What the launch hands the region is every buffer at rest. -/
theorem PhiD_eq (c : Dev nD) : (Pipeline.ΦD osem spec0 H0 (V m) c : sProp (MT nD τ sig Unit (Elt F) ℕ (UD sig nD τ) ℕ)) ⊣⊢ Rest m c := by
  rw [Pipeline.ΦD_eq, scopedRest0_eq, Pipeline.ownSems0_eq_of_list c osem [0, 1] (by decide) (by decide),
    show (bigSep H0 (fun b => ((c : Thread nD τ).loc b) ↦{fullShare} V m c b) : sProp (MT nD τ sig Unit (Elt F) ℕ (UD sig nD τ) ℕ))
      = iprop((((c : Thread nD τ).loc main_arg2) ↦{fullShare} V m c main_arg2) ∗ (((c : Thread nD τ).loc main_arg4) ↦{fullShare} V m c main_arg4)) from by
        rw [BI.bigSep_eq_bigSepL_of_eq [main_arg2, main_arg4] (by decide) (by decide)]; rfl,
    show (bigSepL [0, 1] (fun k : Fin 2 => semVal ((c : Thread nD τ), osem k) 0) : sProp (MT nD τ sig Unit (Elt F) ℕ (UD sig nD τ) ℕ))
      = iprop(semVal ((c : Thread nD τ), SemLoc.dma (sem0 cc0_scratch3)) 0 ∗ semVal ((c : Thread nD τ), SemLoc.dma (sem1 cc0_scratch3)) 0) from rfl]
  unfold Rest
  simp only [sc0, owns_whole]
  constructor
  · iintro ⟨⟨HS, H1, H2⟩, Hg, ⟨Hs0, Hs1⟩, Ha, Hb⟩
    isplitl [HS]; · iexact HS
    isplitl [H1]; · iexact H1
    isplitl [H2]; · iexact H2
    isplitl [Hs0]; · iexact Hs0
    isplitl [Hs1]; · iexact Hs1
    isplitl [Ha]; · iexact Ha
    isplitl [Hb]; · iexact Hb
    iexact Hg
  · iintro ⟨HS, H1, H2, Hs0, Hs1, Ha, Hb, Hg⟩
    isplitl [HS H1 H2]
    · isplitl [HS]; · iexact HS
      isplitl [H1]; · iexact H1
      iexact H2
    isplitl [Hg]; · iexact Hg
    isplitl [Hs0 Hs1]
    · isplitl [Hs0]; · iexact Hs0
      iexact Hs1
    isplitl [Ha]; · iexact Ha
    iexact Hb

/-- What the launch hands the region is the invariant before the first point, -/
theorem hin (c : Dev nD) : Pipeline.ΦD osem spec0 H0 (V m) c ⊢ (dats m 0 c).Φ 0 := by
  rw [show (dats m 0 c).Φ 0 = Rest m c from rfl]
  exact (PhiD_eq m c).1

/-- and after the last point the invariant gives it back. -/
theorem hout (c : Dev nD) : (dats m 0 c).Φ (Fin.last cfg0.N) ⊢ Pipeline.ΦD osem spec0 H0 (V m) c := by
  rw [show (dats m 0 c).Φ (Fin.last cfg0.N) = PhiS m c cfg0.N from rfl, show PhiS m c cfg0.N = Rest m c from by
    unfold PhiS; exact if_pos (by have : cfg0.N = 40 := N_0; omega)]
  exact (PhiD_eq m c).2

/-- The main program is the region alone. -/
theorem hmainD : Pipeline.HMain (Ix := Unit) (Name := ℕ) (U := UD sig nD τ) (Lvl := ℕ) cfgs 0 defs₀ Variants.none m (main (F := F)) (V m) :=
  Pipeline.hmain_region cfgs 0 defs₀ Variants.none m main fun c => (main_chain c).trans rfl

set_option backward.isDefEq.respectTransparency.types false in
/-- Every run ends with the windows' arrays at what the data name, and with every counter at zero. -/
theorem run_main [∀ e, Nonempty (Elt F e)] : θ_run defs (onTc (τ := τ) (main (F := F))) (s₀ m ρ)
    (fun r => Pipeline.FramePost cfgs (dats m) 0 (V m) r ∧ r.2.sem = fun _ => 0) :=
  Pipeline.θ_run_frame_dma (Q' := _) cfgs (dats m) (0 : Fin 1) launch0 osem defs₀ Variants.none ownSemFacts H0 H0_sub m ρ main
    (hbody := fun c => (body_obligation m c).loose) (hshare := fun c => (dats m 0 c).share_full fun _ => rfl)
    (howed := fun _ _ => rfl) (V := V m) (hmain := hmainD m) (hA := A_eq m) (hin := hin m) (hout := hout m)

/-- What the run leaves: the two results at what the data name, the arguments as launched, every counter at zero. -/
theorem run_post [∀ e, Nonempty (Elt F e)] : θ_run defs (onTc (τ := τ) (main (F := F))) (s₀ m ρ) (fun r => (∀ c : Dev nD,
      (r.2.mem ((c.tc : Thread nD τ).loc main_v0_0) = (dats m 0 c).arrAt 3 cfg0.N
        ∧ r.2.mem ((c.tc : Thread nD τ).loc main_v0_1) = (dats m 0 c).arrAt 4 cfg0.N)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0) :=
  (θ_run defs _ _).mono (fun r h => ⟨fun c => ⟨⟨(h.1 c).1 3, (h.1 c).1 4⟩,
      ((h.1 c).1 0).trans (((dats m 0 c).arrAt_in 0 rfl _).trans ((A_eq m c 0).trans (V_main_arg0 m c))),
      ((h.1 c).1 1).trans (((dats m 0 c).arrAt_in 1 rfl _).trans ((A_eq m c 1).trans (V_main_arg1 m c))),
      ((h.1 c).2 main_arg2 (Pipeline.mem_restRefs_of main_arg2 (by decide) (by decide))).trans (V_main_arg2 m c),
      ((h.1 c).1 2).trans (((dats m 0 c).arrAt_in 2 rfl _).trans ((A_eq m c 2).trans (V_main_arg3 m c))),
      ((h.1 c).2 main_arg4 (Pipeline.mem_restRefs_of main_arg4 (by decide) (by decide))).trans (V_main_arg4 m c)⟩, h.2⟩) (run_main m ρ)

/-- The arguments as launched and every counter at zero. -/
theorem run_frame [∀ e, Nonempty (Elt F e)] : θ_run defs (onTc (τ := τ) (main (F := F))) (s₀ m ρ) (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0) :=
  (θ_run defs _ _).mono (fun r h => ⟨fun c => (h.1 c).2, h.2⟩) (run_post m ρ)

end Cert.Proof.EvenDxRun

end
-- ==== Proof.EvenDx.lean ====
/-
  The gradient of the even layer's input projection: what the kernel leaves, the input's gradient tile by tile and the gain's gradient
  added up over the tiles, is what differentiating the norm and the product gives, element by element, and the claim that the two runs
  end at the same arrays.
-/
module

public import proofs.«01_k».proof.Proof.Sums
public import proofs.«01_k».proof.Proof.DxMath
public import proofs.«01_k».proof.Proof.EvenDxRun
public import proofs.«01_k».proof.Defs
public import proofs.«01_k».proof.Proof.Gen.Reference7Ideal.Run
public import proofs.«01_k».proof.Proof.Gen.Reference7Ideal.Read
public import proofs.«01_k».proof.Proof.Gen.Kernel7.Launch
public import Idealize.ShloMosaic.Lib.Pipeline.ValueKit.Acc
public import Idealize.ShloMosaic.Lib.Pipeline.ValueKit.Point
public import Idealize.ShloMosaic.Lib.Pipeline.ValueKit.Tiles
public import Idealize.ShloMosaic.Lib.Pipeline.ReadBack
public import Idealize.ShloMosaic.Lib.Pointwise
public import Idealize.ShloMosaic.Lib.Claim
public import Idealize.ShloMosaic.Lib.Tactic

@[expose] public section

set_option maxRecDepth 4096

noncomputable section

namespace Cert.Proof.EvenDx

open Idealize.ShloMosaic hiding ix2 ix3 ix4 ix5
open Idealize.ShloMosaic.TcCoe Idealize.SL.Sem
open Cert.Kernel7Ideal Cert.Kernel7Ideal.Gen Cert.Proof.EvenDxBody Cert.Proof.EvenDxRun Cert.Proof.Sums Cert.Proof.DxMath Idealize.ShloMosaic.ValueIdx
open Idealize.ShloMosaic.Pipeline (Dat Cfg Window)

variable (m : (ℓ : Loc nD τ sig) → Buf (Elt Ideal) ℓ) (ρ : Dev nD → PrngReg)

/-! ## The values -/

/-- The gradient of the normalized rows: the projection's gradient against the weight's rows. -/
def dh (z : S8192x5120.Idx → EReal) (w : S6400x1024.Idx → EReal) (i : Fin 8192) (j : Fin 1024) : EReal :=
  ∑ k : Fin 5120, z (ix2 i k) * w (ix2 (Fin.mk k.val (by omega)) j)

/-- The input's gradient, the residual gradient added. -/
def Gdx (z : S8192x5120.Idx → EReal) (w : S6400x1024.Idx → EReal) (x : S8192x1024.Idx → EReal) (g : S1x1024.Idx → EReal)
    (d : S8192x1024.Idx → EReal) : S8192x1024.Idx → EReal := fun i =>
  rowDx (fun l => x (ix2 (i 0) l)) (fun l => dh z w (i 0) l * g (ix2 0 l)) (d (ix2 (i 0) (i 1))) (i 1)

/-- The gain's gradient. -/
def Gdg (z : S8192x5120.Idx → EReal) (w : S6400x1024.Idx → EReal) (x : S8192x1024.Idx → EReal) : S1x1024.Idx → EReal := fun j =>
  ∑ i : Fin 8192, dh z w i (j 1) * (x (ix2 i (j 1)) * scl (fun l => x (ix2 i l)))

/-- The projection's gradient, -/
abbrev zA (c : Dev nD) : S8192x5120.Idx → EReal := m (((c : Thread nD τ)).loc main_arg0)
/-- the weight's rows, -/
abbrev wA (c : Dev nD) : S6400x1024.Idx → EReal := m (((c : Thread nD τ)).loc main_arg1)
/-- the norm's input, -/
abbrev xA (c : Dev nD) : S8192x1024.Idx → EReal := m (((c : Thread nD τ)).loc main_arg2)
/-- its gain -/
abbrev gA (c : Dev nD) : S1x1024.Idx → EReal := m (((c : Thread nD τ)).loc main_arg3)
/-- and the residual gradient. -/
abbrev dA (c : Dev nD) : S8192x1024.Idx → EReal := m (((c : Thread nD τ)).loc main_arg4)

/-! ## The payloads -/

/-- The zero block the accumulator starts from. -/
theorem zero_apply (j : S1024x1024.Idx) : k0_pay1 (F := Ideal) j = 0 := by
  unfold k0_pay1
  exact Ideal.ofBits_zero_f32

/-- The accumulator with a block product added. -/
theorem acc_apply (b : Vec Ideal S1024x1024 .f32) (x : Vec Ideal S1024x1024 .bf16) (y : Vec Ideal S1024x1024 .bf16) (j : S1024x1024.Idx) :
    k0_pay2 (F := Ideal) b x y j = b j + ∑ k : Fin 1024, x (ix2 (j 0) k) * y (ix2 k (j 1)) := by
  unfold k0_pay2
  simp only [shapeCast_self]
  rw [addf_apply, matmul_sum dot_S1024x1024_S1024x1024_S1024x1024_1_0_0_1_n_n 1024 rfl rfl _ _ _ j
    (fun k => ix2 (j 0) k) (fun k => ix2 k (j 1))
    (fun q k hk a => by
      match a with
      | ⟨0, _⟩ => rfl
      | ⟨1, _⟩ => exact (dot_S1024x1024_S1024x1024_S1024x1024_1_0_0_1_n_n.lhsIdx_val_of_single rfl j q).trans hk)
    (fun q k hk a => by
      match a with
      | ⟨0, _⟩ => exact (dot_S1024x1024_S1024x1024_S1024x1024_1_0_0_1_n_n.rhsIdx_val_of_single rfl j q).trans hk
      | ⟨1, _⟩ => rfl), constant_apply, Ideal.ofBits_zero_f32, zero_add]

/-- A chunk of 256 rows of the input's gradient, -/
theorem dx_apply (v a : Vec Ideal S256x1024 .f32) (g : Vec Ideal S1x1024 .f32) (d : Vec Ideal S256x1024 .f32) (p : Fin 256) (q : Fin 1024) :
    k0_pay9 (F := Ideal) v a g d (ix2 p q)
      = rowDx (fun l => v (ix2 p l)) (fun l => a (ix2 p l) * g (ix2 0 l)) (d (ix2 p q)) q := by
  unfold k0_pay9 k0_pay8 k0_pay7 rowDx scl msq
  pointwise
  rfl

/-- and what it adds to the gain's gradient. -/
theorem dg_apply (v a : Vec Ideal S256x1024 .f32) (q : Fin 1024) :
    k0_pay10 (F := Ideal) v a (ix2 0 q) = ∑ p : Fin 256, a (ix2 p q) * (v (ix2 p q) * scl (fun l => v (ix2 p l))) := by
  unfold k0_pay10 k0_pay8 k0_pay7 scl msq
  pointwise
  rfl

/-! ## A row tile -/

/-- The rows a chunk takes of a tile. -/
theorem ld_apply (u : Vec Ideal S1024x1024 .f32) (o : ℕ) (inb : ∀ a, (![o, 0] : Fin 2 → ℕ) a + S256x1024.size a ≤ S1024x1024.size a)
    (p : Fin 256) (l : Fin 1024) (i : Fin 1024) (hi : i.val = o + p.val) :
    View.ld u (Rect.unit (s := S1024x1024) ![o, 0] S256x1024.size inb) (ix2 p l) = u (ix2 i l) :=
  View.ld_unit_apply_of u _ _ inb _ _ (fun a => by
    match a with
    | ⟨0, _⟩ => exact hi
    | ⟨1, _⟩ => show l.val = 0 + l.val; omega)

/-- The input's gradient over a tile, entry by entry. -/
def tileG (x dr a : Vec Ideal S1024x1024 .f32) (g : Vec Ideal S1x1024 .f32) : Vec Ideal S1024x1024 .f32 := fun y =>
  (rowDx (fun l => x (ix2 (y 0) l)) (fun l => a (ix2 (y 0) l) * g (ix2 0 l)) (dr (ix2 (y 0) (y 1))) (y 1) : EReal)

/-- A tile's entry. -/
theorem dxTile_apply (x dr a : Vec Ideal S1024x1024 .f32) (g : Vec Ideal S1x1024 .f32) (y : S1024x1024.Idx) :
    dxTile (F := Ideal) x dr a g y = tileG x dr a g y := by
  have key : ∀ (o : ℕ) (inb) (z : S256x1024.Idx), k0_pay9 (F := Ideal) (View.ld x (Rect.unit (s := S1024x1024) ![o, 0] S256x1024.size inb))
      (View.ld a (Rect.unit (s := S1024x1024) ![o, 0] S256x1024.size inb)) g (View.ld dr (Rect.unit (s := S1024x1024) ![o, 0] S256x1024.size inb)) z
      = tileG x dr a g ((Rect.unit (s := S1024x1024) ![o, 0] S256x1024.size inb).emb z) := by
    intro o inb z
    obtain ⟨p, q, rfl⟩ : ∃ (p : Fin 256) (q : Fin 1024), z = ix2 p q := ⟨z 0, z 1, funext fun a => by match a with | ⟨0, _⟩ => rfl | ⟨1, _⟩ => rfl⟩
    have e : ∀ (u : Vec Ideal S1024x1024 .f32) (l : Fin 1024), View.ld u (Rect.unit (s := S1024x1024) ![o, 0] S256x1024.size inb) (ix2 p l)
        = u (ix2 ((Rect.unit (s := S1024x1024) ![o, 0] S256x1024.size inb).emb (ix2 p q) 0) l) := fun u l =>
      ld_apply u o inb p l _ (by show o + 1 * p.val = o + p.val; omega)
    have eq : (Rect.unit (s := S1024x1024) ![o, 0] S256x1024.size inb).emb (ix2 p q) 1 = q := Fin.ext (by show 0 + 1 * q.val = q.val; omega)
    exact (dx_apply _ _ _ _ p q).trans (rowDx_congr (funext fun l => e x l) (funext fun l => congrArg (· * g (ix2 0 l)) (e a l))
      ((e dr q).trans (congrArg (fun b => dr (ix2 _ b)) eq.symm)) eq.symm)
  have H := View.canon_apply_of_pieces (tileG x dr a g) (dxPieces (F := Ideal) x dr a g) (fun p hp z => by
    unfold dxPieces at hp
    simp only [List.mem_cons, List.not_mem_nil, or_false] at hp
    rcases hp with rfl | rfl | rfl | rfl
    · exact key 768 _ z
    · exact key 512 _ z
    · exact key 256 _ z
    · exact key 0 _ z) y (cover4 _ _ _ _ _)
  exact H

/-- What a tile adds to the gain's gradient. -/
def tileS (x a : Vec Ideal S1024x1024 .f32) (q : Fin 1024) : EReal :=
  ∑ i : Fin 1024, a (ix2 i q) * (x (ix2 i q) * scl (fun l => x (ix2 i l)))

/-- The first tile's gradient is four chunks' added up, -/
theorem dgFirst_eq (x a : Vec Ideal S1024x1024 .f32) (j : S1x1024.Idx) : dgFirst (F := Ideal) x a j
    = k0_pay6 (F := Ideal) j
      + k0_pay10 (F := Ideal) (View.ld x (Rect.unit (s := S1024x1024) ![0, 0] S256x1024.size inb_S1024x1024_S256x1024_0_0)) (View.ld a (Rect.unit (s := S1024x1024) ![0, 0] S256x1024.size inb_S1024x1024_S256x1024_0_0)) j
      + k0_pay10 (F := Ideal) (View.ld x (Rect.unit (s := S1024x1024) ![256, 0] S256x1024.size inb_S1024x1024_S256x1024_256_0)) (View.ld a (Rect.unit (s := S1024x1024) ![256, 0] S256x1024.size inb_S1024x1024_S256x1024_256_0)) j
      + k0_pay10 (F := Ideal) (View.ld x (Rect.unit (s := S1024x1024) ![512, 0] S256x1024.size inb_S1024x1024_S256x1024_512_0)) (View.ld a (Rect.unit (s := S1024x1024) ![512, 0] S256x1024.size inb_S1024x1024_S256x1024_512_0)) j
      + k0_pay10 (F := Ideal) (View.ld x (Rect.unit (s := S1024x1024) ![768, 0] S256x1024.size inb_S1024x1024_S256x1024_768_0)) (View.ld a (Rect.unit (s := S1024x1024) ![768, 0] S256x1024.size inb_S1024x1024_S256x1024_768_0)) j := rfl

/-- every other tile adds the same to what it finds, -/
theorem dgNext_eq (x a : Vec Ideal S1024x1024 .f32) (p : Vec Ideal S1x1024 .f32) (j : S1x1024.Idx) :
    dgNext (F := Ideal) x a p j = p j + dgFirst (F := Ideal) x a j := by
  unfold dgNext k0_pay5
  rw [shapeCast_self]
  rfl

/-- and the four chunks are the tile's rows. -/
theorem dgFirst_apply (x a : Vec Ideal S1024x1024 .f32) (q : Fin 1024) : dgFirst (F := Ideal) x a (ix2 0 q) = tileS x a q := by
  have key : ∀ (o : ℕ) (inb) (s : ℕ) (hs : o = s * 256) (h4 : s < 4), k0_pay10 (F := Ideal) (View.ld x (Rect.unit (s := S1024x1024) ![o, 0] S256x1024.size inb))
      (View.ld a (Rect.unit (s := S1024x1024) ![o, 0] S256x1024.size inb)) (ix2 0 q)
      = ∑ p : Fin 256, a (ix2 (Fin.mk (s * 256 + p.val) (by omega)) q) * (x (ix2 (Fin.mk (s * 256 + p.val) (by omega)) q)
        * scl (fun l => x (ix2 (Fin.mk (s * 256 + p.val) (by omega)) l))) := by
    intro o inb s hs h4
    rw [dg_apply]
    refine Finset.sum_congr rfl fun p _ => ?_
    have e : ∀ (u : Vec Ideal S1024x1024 .f32) (l : Fin 1024), View.ld u (Rect.unit (s := S1024x1024) ![o, 0] S256x1024.size inb) (ix2 p l)
        = u (ix2 (Fin.mk (s * 256 + p.val) (by omega)) l) := fun u l => ld_apply u o inb p l _ (by show s * 256 + p.val = o + p.val; omega)
    exact congrArg₂ (· * ·) (e a q) (congrArg₂ (· * ·) (e x q) (congrArg scl (funext fun l => e x l)))
  have z0 : k0_pay6 (F := Ideal) (ix2 0 q) = 0 := Ideal.ofBits_zero_f32
  rw [dgFirst_eq, z0, key 0 _ 0 rfl (by omega), key 256 _ 1 rfl (by omega), key 512 _ 2 rfl (by omega), key 768 _ 3 rfl (by omega), zero_add]
  unfold tileS
  refine Eq.trans ?_ (Fin.sum_mul_add_congr (S := 4) (n := 256) (F := fun s p => a (ix2 (Fin.mk (s.val * 256 + p.val) (by omega)) q)
    * (x (ix2 (Fin.mk (s.val * 256 + p.val) (by omega)) q) * scl (fun l => x (ix2 (Fin.mk (s.val * 256 + p.val) (by omega)) l))))
    (fun s k hl => rfl))
  rw [Fin.sum_univ_four]
  rfl

/-! ## The blocks -/

/-- The block of the projection's gradient that point `t` sees, -/
def zBlk (c : Dev nD) (t : Fin cfg0.N) : S1024x1024.Idx → EReal := iblk m c 0 t
/-- the weight's -/
def wBlk (c : Dev nD) (t : Fin cfg0.N) : S1024x1024.Idx → EReal := X0_1 m c t
/-- and the gain's. -/
def gBlk (c : Dev nD) (t : Fin cfg0.N) : S1x1024.Idx → EReal := iblk m c 2 t

/-- Where the sources' blocks lie, decided over the grid, -/
theorem idx : ∀ t : Fin cfg0.N, win0_0.index t = ![t.val / 5, t.val % 5] ∧ win0_1.index t = ![t.val % 5, 0] ∧ win0_2.index t = ![0, 0] :=
  (by decide +kernel : ∀ t : Fin grid0.N, _)
/-- and the results'. -/
theorem idxR : ∀ t : Fin cfg0.N, win0_3.index t = ![t.val / 5, 0] ∧ win0_4.index t = ![0, 0] :=
  (by decide +kernel : ∀ t : Fin grid0.N, _)

/-- An entry of a source block is the projection's gradient's. -/
theorem zBlk_apply (c : Dev nD) (t : Fin cfg0.N) (i k : Fin 1024) :
    zBlk m c t (ix2 i k) = zA m c (ix2 (Fin.mk (t.val / 5 * 1024 + i.val) (by have := lt_of_lt_of_eq t.isLt N_0; omega)) (Fin.mk (t.val % 5 * 1024 + k.val) (by omega))) := by
  unfold zBlk
  blk_ext [iblk, V, idx t]

/-- An entry of a weight block is the weight's. -/
theorem wBlk_apply (c : Dev nD) (t : Fin cfg0.N) (k j : Fin 1024) :
    wBlk m c t (ix2 k j) = wA m c (ix2 (Fin.mk (t.val % 5 * 1024 + k.val) (by omega)) j) := by
  unfold wBlk X0_1 Pipeline.Window.fill
  rw [dif_pos (moved0_1 t _)]
  blk_ext [iblk, V, idx t]

/-- An entry of the gain's block is the gain's. -/
theorem gBlk_apply (c : Dev nD) (t : Fin cfg0.N) (l : Fin 1024) : gBlk m c t (ix2 0 l) = gA m c (ix2 0 l) := by
  unfold gBlk
  blk_ext [iblk, V, idx t]

/-- Where a tile's copies start. -/
theorem off : ∀ t : Fin cfg0.N, k0_off1 (grid0.coords t) = ![t.val / 5 * 1024, 0] := (by decide +kernel : ∀ t : Fin grid0.N, _)

/-- A tile's rows of the norm's input, -/
theorem xRows_apply (c : Dev nD) (r : ℕ) (hr : r < 8) (i l : Fin 1024) :
    xRows m c r (ix2 i l) = xA m c (ix2 (Fin.mk (r * 1024 + i.val) (by omega)) l) := by
  unfold xRows
  rw [V_main_arg2, View.read_apply]
  have o : k0_off1 (grid0.coords (pt (5 * r))) = ![5 * r % 40 / 5 * 1024, 0] := off (pt (5 * r))
  refine congrArg (xA m c) (funext fun a => Fin.ext ?_)
  match a with
  | ⟨0, _⟩ => show k0_off1 (grid0.coords (pt (5 * r))) 0 + 1 * i.val = r * 1024 + i.val; rw [o]; show 5 * r % 40 / 5 * 1024 + 1 * i.val = _; omega
  | ⟨1, _⟩ => show k0_off1 (grid0.coords (pt (5 * r))) 1 + 1 * l.val = l.val; rw [o]; show 0 + 1 * l.val = _; omega

/-- and of the residual gradient. -/
theorem drRows_apply (c : Dev nD) (r : ℕ) (hr : r < 8) (i l : Fin 1024) :
    drRows m c r (ix2 i l) = dA m c (ix2 (Fin.mk (r * 1024 + i.val) (by omega)) l) := by
  unfold drRows
  rw [V_main_arg4, View.read_apply]
  have o : k0_off1 (grid0.coords (pt (5 * r))) = ![5 * r % 40 / 5 * 1024, 0] := off (pt (5 * r))
  refine congrArg (dA m c) (funext fun a => Fin.ext ?_)
  match a with
  | ⟨0, _⟩ => show k0_off1 (grid0.coords (pt (5 * r))) 0 + 1 * i.val = r * 1024 + i.val; rw [o]; show 5 * r % 40 / 5 * 1024 + 1 * i.val = _; omega
  | ⟨1, _⟩ => show k0_off1 (grid0.coords (pt (5 * r))) 1 + 1 * l.val = l.val; rw [o]; show 0 + 1 * l.val = _; omega

/-! ## The accumulation -/

/-- A tile's accumulator after its source blocks is the whole product's entry. -/
theorem acc_eq (c : Dev nD) (r : ℕ) (hr : r < 8) (i j : Fin 1024) :
    accP m c r 4 (ix2 i j) = dh (zA m c) (wA m c) (Fin.mk (r * 1024 + i.val) (by omega)) j := by
  have h : ∀ n, accP m c r n (ix2 i j) = ∑ s ∈ Finset.range (n + 1), ∑ k : Fin 1024, zBlk m c (pt (5 * r + s)) (ix2 i k) * wBlk m c (pt (5 * r + s)) (ix2 k j) := by
    intro n
    induction n with
    | zero =>
      rw [Finset.sum_range_one]
      refine (acc_apply _ _ _ _).trans ?_
      rw [zero_apply, zero_add]
      rfl
    | succ n ih =>
      rw [Finset.sum_range_succ, ← ih]
      exact acc_apply _ _ _ _
  rw [h, Finset.sum_range]
  unfold dh
  refine Fin.sum_mul_add_congr (S := 4 + 1) (n := 1024) (fun s k hl => ?_)
  have hs : s.val < 5 := s.isLt
  rw [zBlk_apply, wBlk_apply]
  refine congrArg₂ (· * ·) (congrArg (zA m c) (funext fun a => Fin.ext ?_)) (congrArg (wA m c) (funext fun a => Fin.ext ?_))
  · match a with
    | ⟨0, _⟩ => show (5 * r + s.val) % 40 / 5 * 1024 + i.val = r * 1024 + i.val; omega
    | ⟨1, _⟩ => show (5 * r + s.val) % 40 % 5 * 1024 + k.val = s.val * 1024 + k.val; omega
  · match a with
    | ⟨0, _⟩ => show (5 * r + s.val) % 40 % 5 * 1024 + k.val = s.val * 1024 + k.val; omega
    | ⟨1, _⟩ => rfl

/-! ## The results -/

/-- A tile of the input's gradient is the gradient's. -/
theorem tile_eq (c : Dev nD) (r : ℕ) (hr : r < 8) (g : Vec Ideal S1x1024 .f32) (hg : ∀ l : Fin 1024, g (ix2 0 l) = gA m c (ix2 0 l)) (y : S1024x1024.Idx)
    (i : S8192x1024.Idx) (h0 : (i 0).val = r * 1024 + (y 0).val) (h1 : (i 1).val = (y 1).val) :
    dxTile (xRows m c r) (drRows m c r) (accP m c r 4) g y = Gdx (zA m c) (wA m c) (xA m c) (gA m c) (dA m c) i := by
  obtain ⟨p, q, rfl⟩ : ∃ (p : Fin 1024) (q : Fin 1024), y = ix2 p q := ⟨y 0, y 1, funext fun a => by match a with | ⟨0, _⟩ => rfl | ⟨1, _⟩ => rfl⟩
  have e0 : i 0 = (Fin.mk (r * 1024 + p.val) (by omega) : Fin 8192) := Fin.ext h0
  have e1 : i 1 = q := Fin.ext h1
  refine (dxTile_apply _ _ _ _ _).trans ?_
  show rowDx (fun l => xRows m c r (ix2 p l)) (fun l => accP m c r 4 (ix2 p l) * g (ix2 0 l)) (drRows m c r (ix2 p q)) q
    = rowDx (fun l => xA m c (ix2 (i 0) l)) (fun l => dh (zA m c) (wA m c) (i 0) l * gA m c (ix2 0 l)) (dA m c (ix2 (i 0) (i 1))) (i 1)
  rw [e0, e1]
  simp only [xRows_apply m c r hr, drRows_apply m c r hr, acc_eq m c r hr, hg]

/-- What a point writes back of the input's gradient is its block. -/
theorem flushed_dx (c : Dev nD) (t : Fin cfg0.N) : (dats m 0 c).flushed 3 t
    = ((cfg0.win 3).blk t).view.read (Elt Ideal) (Gdx (zA m c) (wA m c) (xA m c) (gA m c) (dA m c)) := by
  show (cfg0.win 3).cut (grid0.coords t) ((dats m 0 c).after 3 t) = _
  rw [after_3]
  funext y
  have hN := lt_of_lt_of_eq t.isLt (N_0 : cfg0.N = 40)
  have e0 : win0_3.index t (0 : Fin 2) = t.val / 5 := congrFun (idxR t).1 0
  have e1 : win0_3.index t (1 : Fin 2) = 0 := congrFun (idxR t).1 1
  have hb0 : (((cfg0.win 3).blk t).view.emb y 0).val = win0_3.index t (0 : Fin 2) * 1024 + 1 * (y 0).val := rfl
  have hb1 : (((cfg0.win 3).blk t).view.emb y 1).val = win0_3.index t (1 : Fin 2) * 1024 + 1 * (y 1).val := rfl
  have hr : ∀ g : S8192x1024.Idx → EReal, (((cfg0.win 3).blk t).view.read (Elt Ideal) g y : EReal) = g (((cfg0.win 3).blk t).view.emb y) := fun g => rfl
  have ha := tile_eq m c (t.val / 5) (by omega) (iblk m c 2 t) (fun l => gBlk_apply m c t l) ((cfg0.win 3).xinj (grid0.coords t) y)
    (((cfg0.win 3).blk t).view.emb y)
    (by show (((cfg0.win 3).blk t).view.emb y 0).val = t.val / 5 * 1024 + (y 0).val; rw [hb0, e0]; omega)
    (by show (((cfg0.win 3).blk t).view.emb y 1).val = (y 1).val; rw [hb1, e1]; omega)
  exact ha.trans (hr _).symm

/-- The input's gradient after the run. -/
theorem final_dx (c : Dev nD) : (dats m 0 c).arrAt 3 cfg0.N = Gdx (zA m c) (wA m c) (xA m c) (gA m c) (dA m c) :=
  (dats m 0 c).arrAt_eq_of_cover 3 _ (fun t _ => flushed_dx m c t) (fun i => by
    have hi0 : (i 0).val < 8192 := (i 0).isLt
    have hi1 : (i 1).val < 1024 := (i 1).isLt
    have hlt : 5 * ((i 0).val / 1024) + 4 < grid0.N := lt_of_lt_of_eq (by omega) N_0.symm
    have ht := (idxR ⟨5 * ((i 0).val / 1024) + 4, hlt⟩).1
    refine ⟨⟨5 * ((i 0).val / 1024) + 4, hlt⟩, (flush0_3 _).mpr (by show (5 * ((i 0).val / 1024) + 4) % 5 = 4; omega), ?_⟩
    have q0 : win0_3.index (⟨5 * ((i 0).val / 1024) + 4, hlt⟩ : Fin grid0.N) (0 : Fin 2) = (i 0).val / 1024 :=
      (congrFun ht 0).trans (by show (5 * ((i 0).val / 1024) + 4) / 5 = (i 0).val / 1024; omega)
    have q1 : win0_3.index (⟨5 * ((i 0).val / 1024) + 4, hlt⟩ : Fin grid0.N) (1 : Fin 2) = 0 := congrFun ht 1
    generalize (⟨5 * ((i 0).val / 1024) + 4, hlt⟩ : Fin grid0.N) = t at q0 q1 ⊢
    show i ∈ ((View.whole main_v0_0).slice (win0_3.rect t)).set
    rw [View.set_slice_whole, Rect.mem_set_unit]
    intro a
    match a with
    | ⟨0, _⟩ => show win0_3.index t (0 : Fin 2) * 1024 ≤ (i 0).val ∧ (i 0).val < win0_3.index t (0 : Fin 2) * 1024 + 1024; omega
    | ⟨1, _⟩ => show win0_3.index t (1 : Fin 2) * 1024 ≤ (i 1).val ∧ (i 1).val < win0_3.index t (1 : Fin 2) * 1024 + 1024; omega)

/-- The gain's gradient after some tiles is their sum, -/
theorem dgK_apply (c : Dev nD) (q : Fin 1024) : ∀ k : ℕ, dgK m c (k + 1) (ix2 0 q) = ∑ s ∈ Finset.range (k + 1), tileS (xRows m c s) (accP m c s 4) q
  | 0 => by
    rw [Finset.sum_range_one]
    exact dgFirst_apply _ _ q
  | k + 1 => by
    rw [Finset.sum_range_succ, ← dgK_apply c q k]
    exact (dgNext_eq _ _ _ _).trans (congrArg _ (dgFirst_apply _ _ q))

/-- and after the last the whole sum over rows. -/
theorem dg_eq (c : Dev nD) (j : S1x1024.Idx) : dgK m c 8 j = Gdg (zA m c) (wA m c) (xA m c) j := by
  obtain ⟨q, rfl⟩ : ∃ q : Fin 1024, j = ix2 0 q := ⟨j 1, funext fun a => by
    match a with
    | ⟨0, _⟩ => exact Fin.ext (by have : (j 0).val < 1 := (j 0).isLt; show (j 0).val = 0; omega)
    | ⟨1, _⟩ => rfl⟩
  rw [dgK_apply m c q 7, Finset.sum_range]
  unfold Gdg tileS
  refine Fin.sum_mul_add_congr (S := 7 + 1) (n := 1024) (fun s i hl => ?_)
  have hs : s.val < 8 := s.isLt
  simp only [acc_eq m c s.val hs, xRows_apply m c s.val hs]

/-- What the last point writes back of the gain's gradient. -/
theorem flushed_dg (c : Dev nD) (t : Fin cfg0.N) (h : t.val % 40 = 39) : (dats m 0 c).flushed 4 t
    = ((cfg0.win 4).blk t).view.read (Elt Ideal) (Gdg (zA m c) (wA m c) (xA m c)) := by
  show (cfg0.win 4).cut (grid0.coords t) ((dats m 0 c).after 4 t) = _
  rw [after_4]
  funext y
  have hN := lt_of_lt_of_eq t.isLt (N_0 : cfg0.N = 40)
  have e0 : win0_4.index t (0 : Fin 2) = 0 := congrFun (idxR t).2 0
  have e1 : win0_4.index t (1 : Fin 2) = 0 := congrFun (idxR t).2 1
  have hb0 : (((cfg0.win 4).blk t).view.emb y 0).val = win0_4.index t (0 : Fin 2) * 1 + 1 * (y 0).val := rfl
  have hb1 : (((cfg0.win 4).blk t).view.emb y 1).val = win0_4.index t (1 : Fin 2) * 1024 + 1 * (y 1).val := rfl
  have hr : ∀ g : S1x1024.Idx → EReal, (((cfg0.win 4).blk t).view.read (Elt Ideal) g y : EReal) = g (((cfg0.win 4).blk t).view.emb y) := fun g => rfl
  have hk : (t.val + 1) / 5 = 8 := by omega
  have ha := dg_eq m c (((cfg0.win 4).xinj (grid0.coords t) y))
  rw [hk]
  refine ha.trans ((congrArg (Gdg (zA m c) (wA m c) (xA m c)) (funext fun a => Fin.ext ?_)).trans (hr _).symm)
  match a with
  | ⟨0, _⟩ => show (y 0).val = (((cfg0.win 4).blk t).view.emb y 0).val; rw [hb0, e0]; omega
  | ⟨1, _⟩ => show (y 1).val = (((cfg0.win 4).blk t).view.emb y 1).val; rw [hb1, e1]; omega

/-- The gain's gradient after the run. -/
theorem final_dg (c : Dev nD) : (dats m 0 c).arrAt 4 cfg0.N = Gdg (zA m c) (wA m c) (xA m c) :=
  (dats m 0 c).arrAt_eq_of_cover 4 _ (fun t ht => flushed_dg m c t ((flush0_4 t).mp ht)) (fun i => by
    have hi0 : (i 0).val < 1 := (i 0).isLt
    have hi1 : (i 1).val < 1024 := (i 1).isLt
    have hlt : 39 < grid0.N := lt_of_lt_of_eq (by omega) N_0.symm
    have ht := (idxR ⟨39, hlt⟩).2
    refine ⟨⟨39, hlt⟩, (flush0_4 _).mpr (by show 39 % 40 = 39; omega), ?_⟩
    have q0 : win0_4.index (⟨39, hlt⟩ : Fin grid0.N) (0 : Fin 2) = 0 := congrFun ht 0
    have q1 : win0_4.index (⟨39, hlt⟩ : Fin grid0.N) (1 : Fin 2) = 0 := congrFun ht 1
    generalize (⟨39, hlt⟩ : Fin grid0.N) = t at q0 q1 ⊢
    show i ∈ ((View.whole main_v0_1).slice (win0_4.rect t)).set
    rw [View.set_slice_whole, Rect.mem_set_unit]
    intro a
    match a with
    | ⟨0, _⟩ => show win0_4.index t (0 : Fin 2) * 1 ≤ (i 0).val ∧ (i 0).val < win0_4.index t (0 : Fin 2) * 1 + 1; omega
    | ⟨1, _⟩ => show win0_4.index t (1 : Fin 2) * 1024 ≤ (i 1).val ∧ (i 1).val < win0_4.index t (1 : Fin 2) * 1024 + 1024; omega)

/-! ## The reference's values -/

open Cert.Reference7Ideal.Read in
/-- The reference's product. -/
theorem ref_dh (z : S8192x5120.Idx → EReal) (w : S6400x1024.Idx → EReal) (i : Fin 8192) (j : Fin 1024) :
    (val_main_v20 (F := Ideal) z w (ix2 i j) : EReal) = dh z w i j := by
  refine (val_main_v20_apply z w (ix2 i j)).trans (Finset.sum_congr rfl fun k _ => congrArg₂ (· * ·) ?_ ?_)
  · exact congrArg z (funext fun a => Fin.ext (by match a with | ⟨0, _⟩ => rfl | ⟨1, _⟩ => rfl))
  · show val_main_v1 (F := Ideal) w (ridx_main_v20 (ix2 i j) k) = _
    rw [val_main_v1_apply, val_main_v0_apply]
    exact congrArg w (funext fun a => Fin.ext (by match a with | ⟨0, _⟩ => rfl | ⟨1, _⟩ => rfl))

open Cert.Reference7Ideal.Read in
/-- Its mean square, -/
theorem ref_msq (x : S8192x1024.Idx → EReal) (i : Fin 8192) : (val_main_v9 (F := Ideal) x (ix2 i 0) : EReal) = msq (fun l => x (ix2 i l)) := by
  rw [val_main_v9_apply, val_main_v7_apply, val_main_v5_apply, val_main_v4_apply, val_main_v6_apply, val_main_v8_apply]
  have e1 : ∀ l : Fin 1024, idx_main_v4 (idx_main_v5 (ix2 i 0)) l = ix2 i l := fun l =>
    funext fun a => by match a with | ⟨0, _⟩ => rfl | ⟨1, _⟩ => rfl
  have e4 : val_main_cst (F := Ideal) (Shape.Idx.first Cert.Reference7Ideal.Gen.h_S_) = (0 : EReal) := Ideal.ofBits_zero_f32
  simp only [e1, val_main_v3_apply]
  rw [e4, zero_add]
  rfl

open Cert.Reference7Ideal.Read in
/-- its scale -/
theorem ref_scl (x : S8192x1024.Idx → EReal) (i : Fin 8192) : (val_main_v10 (F := Ideal) x (ix2 i 0) : EReal) = scl (fun l => x (ix2 i l)) := by
  rw [val_main_v10_apply, ref_msq]
  rfl

open Cert.Reference7Ideal.Read in
/-- and the product's gradient times the gain. -/
theorem ref_h (z : S8192x5120.Idx → EReal) (w : S6400x1024.Idx → EReal) (g : S1x1024.Idx → EReal) (i : Fin 8192) (j : Fin 1024) :
    (val_main_v25 (F := Ideal) z w g (ix2 i j) : EReal) = dh z w i j * g (ix2 0 j) := by
  rw [val_main_v25_apply, ref_dh, val_main_v24_apply]
  exact congrArg (fun t => dh z w i j * g t) (funext fun a => by match a with | ⟨0, _⟩ => rfl | ⟨1, _⟩ => rfl)

open Cert.Reference7Ideal.Read in
/-- What the mean square contributes. -/
theorem ref_P (z : S8192x5120.Idx → EReal) (w : S6400x1024.Idx → EReal) (x : S8192x1024.Idx → EReal) (g : S1x1024.Idx → EReal) (i : Fin 8192) (j : Fin 1024) :
    (val_main_v36 (F := Ideal) z w x g (ix2 i j) : EReal) = rowP (fun l => x (ix2 i l)) (fun l => dh z w i l * g (ix2 0 l)) := by
  rw [val_main_v36_apply, val_main_v35_apply]
  have e4 : val_main_cst_6 (F := Ideal) (Shape.Idx.first Cert.Reference7Ideal.Gen.h_S_) = (0 : EReal) := Ideal.ofBits_zero_f32
  have e5 : val_main_cst_4 (F := Ideal) (Shape.Idx.first Cert.Reference7Ideal.Gen.h_S_) = (0 : EReal) := Ideal.ofBits_zero_f32
  have e1 : idx_main_v35 (idx_main_v36 (ix2 i j)) (0 : Fin 1) = ix2 i 0 := funext fun a => by match a with | ⟨0, _⟩ => rfl | ⟨1, _⟩ => rfl
  have e2 : ∀ l : Fin 1024, idx_main_v27 (idx_main_v28 (ix2 i 0)) l = ix2 i l := fun l =>
    funext fun a => by
      match a with
      | ⟨0, _⟩ => exact Fin.ext (by show i.val * 1 + 0 = i.val; omega)
      | ⟨1, _⟩ => rfl
  rw [e4, zero_add, Fin.sum_univ_one, e1, val_main_v34_apply, val_main_v32_apply, val_main_v28_apply, val_main_v27_apply, e5, zero_add,
    val_main_v13_apply, val_main_v11_apply, ref_scl, ref_msq, val_main_v12_apply, val_main_v33_apply]
  simp only [e2, val_main_v26_apply, ref_h]
  rfl

open Cert.Reference7Ideal.Read in
/-- The reference's gradient of the input. -/
theorem ref_dx (z : S8192x5120.Idx → EReal) (w : S6400x1024.Idx → EReal) (x : S8192x1024.Idx → EReal) (g : S1x1024.Idx → EReal) (d : S8192x1024.Idx → EReal) :
    (val_main_v40 (F := Ideal) z w x g d : S8192x1024.Idx → EReal) = Gdx z w x g d := by
  funext i
  obtain ⟨p, q, rfl⟩ : ∃ (p : Fin 8192) (q : Fin 1024), i = ix2 p q := ⟨i 0, i 1, funext fun a => by match a with | ⟨0, _⟩ => rfl | ⟨1, _⟩ => rfl⟩
  rw [val_main_v40_apply, val_main_v39_apply, val_main_v38_apply, val_main_v37_apply, val_main_v31_apply, val_main_v30_apply, val_main_v29_apply, ref_h, ref_P]
  have e : idx_main_v29 (ix2 p q) = ix2 p 0 := funext fun a => by match a with | ⟨0, _⟩ => rfl | ⟨1, _⟩ => rfl
  rw [e, ref_scl]
  exact rowDx_eq (fun l => x (ix2 p l)) (fun l => dh z w p l * g (ix2 0 l)) (d (ix2 p q)) q

open Cert.Reference7Ideal.Read in
/-- The reference's gradient of the gain. -/
theorem ref_dg (z : S8192x5120.Idx → EReal) (w : S6400x1024.Idx → EReal) (x : S8192x1024.Idx → EReal) :
    (val_main_v23 (F := Ideal) z w x : S1x1024.Idx → EReal) = Gdg z w x := by
  funext j
  obtain ⟨q, rfl⟩ : ∃ q : Fin 1024, j = ix2 0 q := ⟨j 1, funext fun a => by
    match a with
    | ⟨0, _⟩ => exact Fin.ext (by have : (j 0).val < 1 := (j 0).isLt; show (j 0).val = 0; omega)
    | ⟨1, _⟩ => rfl⟩
  rw [val_main_v23_apply, val_main_v22_apply]
  have e4 : val_main_cst_3 (F := Ideal) (Shape.Idx.first Cert.Reference7Ideal.Gen.h_S_) = (0 : EReal) := Ideal.ofBits_zero_f32
  rw [e4, zero_add]
  unfold Gdg
  refine Finset.sum_congr rfl fun k _ => ?_
  have e1 : idx_main_v22 (idx_main_v23 (ix2 0 q)) k = ix2 k q := funext fun a => by
    match a with
    | ⟨0, _⟩ => rfl
    | ⟨1, _⟩ => exact Fin.ext (by show 0 * 1024 + q.val = q.val; omega)
  have e2 : idx_main_v14 (ix2 k q) = ix2 k 0 := funext fun a => by match a with | ⟨0, _⟩ => rfl | ⟨1, _⟩ => rfl
  rw [e1, val_main_v21_apply, ref_dh, val_main_v15_apply, val_main_v14_apply, e2, ref_scl]
  exact mul_comm _ _

/-! ## The claims -/

/-- The even layer's input projection, backward: from the same arguments the kernel and the reference end at the same two gradients. -/
theorem algebraic : Cert.algebraic_Kernel7Ideal_Reference7Ideal (hKernel7Ideal := Cert.Kernel7Ideal.Gen.facts)
    (hReference7Ideal := Cert.Reference7Ideal.Gen.facts) := by
  intro m g m' g' _ hargs
  refine ⟨fun c => Gdx (zA m c) (wA m c) (xA m c) (gA m c) (dA m c), fun c => Gdg (zA m c) (wA m c) (xA m c),
    (θ_run _ _ _).mono (fun r h c => ⟨(h.1 c).1.1.trans (final_dx m c), (h.1 c).1.2.trans (final_dg m c), (h.1 c).2⟩) (run_post (F := Ideal) m g), ?_⟩
  refine (θ_run _ _ _).mono (fun r h c => ?_) (Cert.Reference7Ideal.Value.run (F := Ideal) m' g')
  obtain ⟨h6, h7, h0, h1, h2, h3, h4⟩ := h c
  obtain ⟨e0, e1, e2, e3, e4⟩ := hargs c
  refine ⟨?_, ?_, h0, h1, h2, h3, h4⟩
  · rw [Cert.Reference7Ideal.Read.val_main_v40_eq, e0, e1, e2, e3, e4] at h6
    exact h6.trans (ref_dx _ _ _ _ _)
  · rw [e0, e1, e2] at h7
    exact h7.trans ((Cert.Reference7Ideal.Read.val_main_v23_eq _ _ _).trans (ref_dg _ _ _))

/-- The kernel's run leaves its arguments alone and every counter at zero, over the ideal numbers. -/
theorem frame_ideal : Cert.quiescent_Kernel7Ideal (hKernel7Ideal := Cert.Kernel7Ideal.Gen.facts) := fun m g _ =>
  run_frame (F := Ideal) m g

attribute [local instance] Cert.Kernel7.Gen.facts Cert.Kernel7Ideal.Gen.facts in
/-- The program over machine words and the program over the ideal numbers have one body table, -/
theorem defs₀_eq : Cert.Kernel7.defs₀ (F := Bits) = Cert.Kernel7Ideal.defs₀ (F := Bits) := by
  unfold Cert.Kernel7.defs₀ Cert.Kernel7Ideal.defs₀
  refine congrArg Defs.onTc ?_
  funext l a
  match l, a with
  | ⟨0, _⟩, (t, s) => rfl
  | ⟨_ + 1, h⟩, _ => exact absurd h (Nat.not_lt.2 (Nat.le_add_left _ _))

attribute [local instance] Cert.Kernel7.Gen.facts Cert.Kernel7Ideal.Gen.facts in
/-- and so one program. -/
theorem defs_eq : Cert.Kernel7.defs (F := Bits) = Cert.Kernel7Ideal.defs (F := Bits) :=
  congrArg (Pipeline.defs Cert.Kernel7Ideal.pcfgs) defs₀_eq

/-- The same over machine words, of the program as printed. -/
theorem frame_kernel : Cert.quiescent_Kernel7 (hKernel7 := Cert.Kernel7.Gen.facts) := fun m g _ => by
  rw [defs_eq]
  exact run_frame (F := Bits) m g

/-- The reference's run leaves its arguments alone; it declares no counter. -/
theorem frame_reference : Cert.quiescent_Reference7Ideal (hReference7Ideal := Cert.Reference7Ideal.Gen.facts) := fun m g _ =>
  (θ_run Cert.Reference7Ideal.defs _ _).mono (fun r h => ⟨fun c => (h c).2.2, sem_eq_zero_of_no_sems (by decide) r.2⟩)
    (Cert.Reference7Ideal.Value.run (F := Ideal) m g)

end Cert.Proof.EvenDx

end
-- ==== Proof.OddDxBody.lean ====
/- The gradient of the odd layer's input projection (`cc0_odd_in_dx`), one point of its grid, run over any element type `F`: for each
   of eight row tiles the accumulator is zeroed at the first of fourteen source blocks while two copies out of the arrays left in HBM start,
   every point adds the product of the source block its index asks for (three slabs in turn, then the columns) and its weight block, and the last block's point waits for the copies and writes the
   row tile of the result and what the tile adds to the gain's gradient. -/
module

public import proofs.«01_k».proof.Proof.Gen.Kernel8Ideal.Frame
public import proofs.«01_k».proof.Proof.Gen.Kernel8Ideal.Skeleton
public import proofs.«01_k».proof.Proof.Gen.Kernel8Ideal.Points
public import proofs.«01_k».proof.Proof.DxKit
public import Idealize.ShloMosaic.Lib.Pipeline.FrameBody
public import Idealize.ShloMosaic.Lib.VecWindow
public import Idealize.ShloMosaic.Lib.Pipeline.Value
public import Idealize.ShloMosaic.Lib.Transfers
public import Idealize.ShloMosaic.Lib.WordCmp

@[expose] public section

set_option maxRecDepth 16384

noncomputable section

namespace Cert.Proof.OddDxBody

open Cert.Kernel8Ideal Cert.Kernel8Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation RDat cellOf UD)

variable {F : FTy → Type} [FloatOps F]

/-! ## The branch conditions -/

/-- A source block below the ninth of the first residue. -/
def condS0 (i : grid0.Coords) : BitVec 1 :=
  let arg1 : BitVec 32 := BitVec.ofNat 32 (i 1).val
  let v0 : BitVec 1 := Scalar.cmpi .slt arg1 9#32
  let v4 : BitVec 1 := Scalar.cmpi .eq 3#32 0#32
  let v5 : BitVec 32 := Scalar.select v4 1#32 3#32
  let v6 : BitVec 32 := Scalar.remsi arg1 v5
  let v7 : BitVec 1 := Scalar.cmpi .ne v6 0#32
  let v8 : BitVec 1 := Scalar.cmpi .slt v6 0#32
  let v9 : BitVec 1 := Scalar.cmpi .slt v5 0#32
  let v10 : BitVec 1 := Scalar.xori v8 v9
  let v11 : BitVec 1 := Scalar.andi v10 v7
  let v12 : BitVec 32 := Scalar.addi v6 v5
  let v13 : BitVec 32 := Scalar.select v11 v12 v6
  let v14 : BitVec 1 := Scalar.cmpi .eq v13 0#32
  let v15 : BitVec 1 := Scalar.andi v0 v14
  let v16 : BitVec 32 := Scalar.extui v15
  Scalar.cmpi .ne v16 0#32

/-- A source block below the ninth of the second residue. -/
def condS1 (i : grid0.Coords) : BitVec 1 :=
  let arg1 : BitVec 32 := BitVec.ofNat 32 (i 1).val
  let v0 : BitVec 1 := Scalar.cmpi .slt arg1 9#32
  let v4 : BitVec 1 := Scalar.cmpi .eq 3#32 0#32
  let v5 : BitVec 32 := Scalar.select v4 1#32 3#32
  let v6 : BitVec 32 := Scalar.remsi arg1 v5
  let v7 : BitVec 1 := Scalar.cmpi .ne v6 0#32
  let v8 : BitVec 1 := Scalar.cmpi .slt v6 0#32
  let v9 : BitVec 1 := Scalar.cmpi .slt v5 0#32
  let v10 : BitVec 1 := Scalar.xori v8 v9
  let v11 : BitVec 1 := Scalar.andi v10 v7
  let v12 : BitVec 32 := Scalar.addi v6 v5
  let v13 : BitVec 32 := Scalar.select v11 v12 v6
  let v14 : BitVec 1 := Scalar.cmpi .eq v13 1#32
  let v15 : BitVec 1 := Scalar.andi v0 v14
  let v16 : BitVec 32 := Scalar.extui v15
  Scalar.cmpi .ne v16 0#32

/-- A source block below the ninth of the third residue. -/
def condS2 (i : grid0.Coords) : BitVec 1 :=
  let arg1 : BitVec 32 := BitVec.ofNat 32 (i 1).val
  let v0 : BitVec 1 := Scalar.cmpi .slt arg1 9#32
  let v4 : BitVec 1 := Scalar.cmpi .eq 3#32 0#32
  let v5 : BitVec 32 := Scalar.select v4 1#32 3#32
  let v6 : BitVec 32 := Scalar.remsi arg1 v5
  let v7 : BitVec 1 := Scalar.cmpi .ne v6 0#32
  let v8 : BitVec 1 := Scalar.cmpi .slt v6 0#32
  let v9 : BitVec 1 := Scalar.cmpi .slt v5 0#32
  let v10 : BitVec 1 := Scalar.xori v8 v9
  let v11 : BitVec 1 := Scalar.andi v10 v7
  let v12 : BitVec 32 := Scalar.addi v6 v5
  let v13 : BitVec 32 := Scalar.select v11 v12 v6
  let v14 : BitVec 1 := Scalar.cmpi .eq v13 2#32
  let v15 : BitVec 1 := Scalar.andi v0 v14
  let v16 : BitVec 32 := Scalar.extui v15
  Scalar.cmpi .ne v16 0#32

/-- A source block from the ninth on. -/
def condS3 (i : grid0.Coords) : BitVec 1 :=
  let arg1 : BitVec 32 := BitVec.ofNat 32 (i 1).val
  let v48 : BitVec 1 := Scalar.cmpi .sge arg1 9#32
  let v49 : BitVec 1 := Scalar.cmpi .slt arg1 14#32
  let v50 : BitVec 1 := Scalar.andi v48 v49
  let v51 : BitVec 32 := Scalar.extui v50
  Scalar.cmpi .ne v51 0#32

/-- The accumulator is zeroed and the copies start at the first source block, -/
theorem cond1_iff : ∀ t : Fin cfg0.N, k0_cond1 (grid0.coords t) = 1#1 ↔ t.val % 14 = 0 :=
  (by decide +kernel : ∀ t : Fin grid0.N, k0_cond1 (grid0.coords t) = 1#1 ↔ t.val % 14 = 0)
/-- the first source is taken by its residue, -/
theorem condS0_iff : ∀ t : Fin cfg0.N, condS0 (grid0.coords t) = 1#1 ↔ (t.val % 14 < 9 ∧ t.val % 14 % 3 = 0) :=
  (by decide +kernel : ∀ t : Fin grid0.N, condS0 (grid0.coords t) = 1#1 ↔ (t.val % 14 < 9 ∧ t.val % 14 % 3 = 0))
/-- the second source is taken by its residue, -/
theorem condS1_iff : ∀ t : Fin cfg0.N, condS1 (grid0.coords t) = 1#1 ↔ (t.val % 14 < 9 ∧ t.val % 14 % 3 = 1) :=
  (by decide +kernel : ∀ t : Fin grid0.N, condS1 (grid0.coords t) = 1#1 ↔ (t.val % 14 < 9 ∧ t.val % 14 % 3 = 1))
/-- the third source is taken by its residue, -/
theorem condS2_iff : ∀ t : Fin cfg0.N, condS2 (grid0.coords t) = 1#1 ↔ (t.val % 14 < 9 ∧ t.val % 14 % 3 = 2) :=
  (by decide +kernel : ∀ t : Fin grid0.N, condS2 (grid0.coords t) = 1#1 ↔ (t.val % 14 < 9 ∧ t.val % 14 % 3 = 2))
/-- the last source from the ninth column block on, -/
theorem condS3_iff : ∀ t : Fin cfg0.N, condS3 (grid0.coords t) = 1#1 ↔ 9 ≤ t.val % 14 :=
  (by decide +kernel : ∀ t : Fin grid0.N, condS3 (grid0.coords t) = 1#1 ↔ 9 ≤ t.val % 14)
/-- the tile is finished at the last source block, -/
theorem cond6_iff : ∀ t : Fin cfg0.N, k0_cond6 (grid0.coords t) = 1#1 ↔ t.val % 14 = 13 :=
  (by decide +kernel : ∀ t : Fin grid0.N, k0_cond6 (grid0.coords t) = 1#1 ↔ t.val % 14 = 13)
/-- the first row tile sets the gain's gradient -/
theorem cond7_iff : ∀ t : Fin cfg0.N, k0_cond7 (grid0.coords t) = 1#1 ↔ t.val / 14 = 0 :=
  (by decide +kernel : ∀ t : Fin grid0.N, k0_cond7 (grid0.coords t) = 1#1 ↔ t.val / 14 = 0)
/-- and the others add to it. -/
theorem cond8_iff : ∀ t : Fin cfg0.N, k0_cond8 (grid0.coords t) = 1#1 ↔ ¬ t.val / 14 = 0 :=
  (by decide +kernel : ∀ t : Fin grid0.N, k0_cond8 (grid0.coords t) = 1#1 ↔ ¬ t.val / 14 = 0)

/-! ## The copies -/

/-- The row tile of an array left in HBM that a first point copies. -/
abbrev rows (M : Memref sig .tc .hbm S8192x1024 .f32) (i : grid0.Coords) (h : k0_cond1 i = 1#1) : Memref sig .tc .hbm S1024x1024 .f32 :=
  M.slice (Rect.unit (s := S8192x1024) (k0_off1 i) S1024x1024.size (k0_off1_inb i h)) (fun _ => rfl)

/-- The two copies' semaphores. -/
abbrev sem0 (a : DmaSems sig S2) : DmaSem sig := ((a.slice (Rect.unit (s := S2) ![0] S1.size inb_S2_S1_0)).squeeze S_ squeezes_S1_S_).sem
/-- The second. -/
abbrev sem1 (a : DmaSems sig S2) : DmaSem sig := ((a.slice (Rect.unit (s := S2) ![1] S1.size inb_S2_S1_1)).squeeze S_ squeezes_S1_S_).sem

/-- A memref's own elements, held whole. -/
abbrev held (c : Dev nD) {sp : Space} {S : Shape} (M : Memref sig .tc sp S .f32) (f : Buf (Elt F) (M.view.loc (c : Thread nD τ))) :
    sProp (MT nD τ sig Unit (Elt F) ℕ (UD sig nD τ) ℕ) :=
  M.view.loc (c : Thread nD τ) ↦[M.view.set]{fullShare} f

/-- What a copy's destination holds once it has landed. -/
abbrev landed (c : Dev nD) (A : Memref sig .tc .hbm S1024x1024 .f32) (B : Memref sig .tc .vmem S1024x1024 .f32)
    (f : Buf (Elt F) (A.view.loc (c : Thread nD τ))) (d : Buf (Elt F) (B.view.loc (c : Thread nD τ))) : Buf (Elt F) (B.view.loc (c : Thread nD τ)) :=
  B.view.writes (Elt F) d [⟨Rect.whole S1024x1024, ReadAs.same.apply (A.view.read (Elt F) f)⟩]

/-- A copy under way: once it is done the destination holds the source's block, and the source is back. -/
abbrev inflight (c : Dev nD) (A : Memref sig .tc .hbm S1024x1024 .f32) (B : Memref sig .tc .vmem S1024x1024 .f32) (s : DmaSem sig)
    (f : Buf (Elt F) (A.view.loc (c : Thread nD τ))) (d : Buf (Elt F) (B.view.loc (c : Thread nD τ))) :
    sProp (MT nD τ sig Unit (Elt F) ℕ (UD sig nD τ) ℕ) :=
  Transfers.Flight (countersEmb (U := UD sig nD τ)) (c : Thread nD τ) (.dma s) () (B.view.amount (SemLoc.dma (sig := sig) s))
    iprop(held c B (landed c A B f d) ∗ held c A f)

/-! ## The body -/

set_option maxHeartbeats 4000000 in
/-- The body at a first source block: the accumulator is the block's product, the two copies are under way. -/
theorem body_first (c : Dev nD) (i : grid0.Coords) (arg2 : Memref sig .tc .vmem S1x1024x1024 .bf16) (harg2 : arg2.IsWhole) (arg3 : Memref sig .tc .vmem S1x1024x1024 .bf16) (harg3 : arg3.IsWhole) (arg4 : Memref sig .tc .vmem S1x1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .hbm S8192x1024 .f32) (harg7 : arg7.IsWhole) (arg8 : Memref sig .tc .vmem S1x1024 .f32) (harg8 : arg8.IsWhole) (arg9 : Memref sig .tc .hbm S8192x1024 .f32) (harg9 : arg9.IsWhole) (arg10 : Memref sig .tc .vmem S1024x1024 .f32) (harg10 : arg10.IsWhole) (arg11 : Memref sig .tc .vmem S1x1024 .f32) (harg11 : arg11.IsWhole) (arg12 : Memref sig .tc .vmem S1024x1024 .f32) (harg12 : arg12.IsWhole) (arg13 : Memref sig .tc .vmem S1024x1024 .f32) (harg13 : arg13.IsWhole) (arg14 : Memref sig .tc .vmem S1024x1024 .f32) (harg14 : arg14.IsWhole) (arg15 : DmaSems sig S2)
    (hc1 : k0_cond1 i = 1#1) (hc0s : condS0 i = 1#1) (hc1s : ¬ condS1 i = 1#1) (hc2s : ¬ condS2 i = 1#1) (hc3s : ¬ condS3 i = 1#1) (hc3 : ¬ k0_cond6 i = 1#1)
    (x0 : Vec F S1x1024x1024 .bf16) (x1 : Vec F S1024x1024 .bf16) (f4 : Buf (Elt F) ((rows arg7 i hc1).view.loc (c : Thread nD τ))) (f6 : Buf (Elt F) ((rows arg9 i hc1).view.loc (c : Thread nD τ)))
    (d10 : Buf (Elt F) (arg13.view.loc (c : Thread nD τ))) (d11 : Buf (Elt F) (arg14.view.loc (c : Thread nD τ)))
    (K : PUnit → sProp (MT nD τ sig Unit (Elt F) ℕ (UD sig nD τ) ℕ)) :
    iprop(owns (c : Thread nD τ) arg2 fullShare x0 ∗ owns (c : Thread nD τ) arg6 fullShare x1 ∗ (∃ d, owns (c : Thread nD τ) arg12 fullShare d)
        ∗ held c (rows arg7 i hc1) f4 ∗ held c (rows arg9 i hc1) f6 ∗ held c arg13 d10 ∗ held c arg14 d11
        ∗ semVal ((c : Thread nD τ), SemLoc.dma (sem0 arg15)) 0 ∗ semVal ((c : Thread nD τ), SemLoc.dma (sem1 arg15)) 0
        ∗ (iprop(owns (c : Thread nD τ) arg2 fullShare x0 ∗ owns (c : Thread nD τ) arg6 fullShare x1 ∗ owns (c : Thread nD τ) arg12 fullShare (k0_pay24 k0_pay23 x0 x1)
            ∗ inflight c (rows arg7 i hc1) arg13 (sem0 arg15) f4 d10 ∗ inflight c (rows arg9 i hc1) arg14 (sem1 arg15) f6 d11) -∗ K ⟨⟩))
      ⊢ wp frame (wpE (defs₀ (F := F)) Variants.none c none) Set.univ (cc0_odd_in_dx i arg2 harg2 arg3 harg3 arg4 harg4 arg5 harg5 arg6 harg6 arg7 harg7 arg8 harg8 arg9 harg9 arg10 harg10 arg11 harg11 arg12 harg12 arg13 harg13 arg14 harg14 arg15) K := by
  simp only [cc0_odd_in_dx_eq_skeleton]; unfold cc0_odd_in_dx_skel
  simp only [k0_part4_eq_skeleton]
  unfold k0_part4_skel
  unfold owns
  iintro ⟨⟨%f0, %hf0, H0⟩, ⟨%f1, %hf1, H1⟩, ⟨%d9, %f9, -, H9⟩, H4, H6, H10, H11, Hs0, Hs1, Hk⟩
  obtain rfl := harg2.eq_unread hf0; obtain rfl := harg6.eq_unread hf1
  sl_exec (disch := first | sl_exact hc1 | sl_exact hc0s | sl_exact hc1s | sl_exact hc2s | sl_exact hc3s | sl_exact hc3)
  sl_step
  iapply Hk
  isplitl [H0]
  · iexists _; isplitr; · ipureintro; exact harg2.read_unread _
    iexact H0
  isplitl [H1]
  · iexists _; isplitr; · ipureintro; exact harg6.read_unread _
    iexact H1
  isplitl [H9]
  · iexists _; isplitr
    swap; · iexact H9
    ipureintro
    sl_unfold_words
    repeat first | rw [RunKit.read_store_whole] | rw [RunKit.readAt_unread] | rw [View.readCov_cons_toLoadRect] | rw [View.readAt_writes_full]
  isplitl [Hs0]; · iexact Hs0
  iexact Hs1

set_option maxHeartbeats 4000000 in
/-- The body at a source block that is neither the first nor the last: one more product, with the source its index asks for. -/
theorem body_mid (c : Dev nD) (i : grid0.Coords) (arg2 : Memref sig .tc .vmem S1x1024x1024 .bf16) (harg2 : arg2.IsWhole) (arg3 : Memref sig .tc .vmem S1x1024x1024 .bf16) (harg3 : arg3.IsWhole) (arg4 : Memref sig .tc .vmem S1x1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .hbm S8192x1024 .f32) (harg7 : arg7.IsWhole) (arg8 : Memref sig .tc .vmem S1x1024 .f32) (harg8 : arg8.IsWhole) (arg9 : Memref sig .tc .hbm S8192x1024 .f32) (harg9 : arg9.IsWhole) (arg10 : Memref sig .tc .vmem S1024x1024 .f32) (harg10 : arg10.IsWhole) (arg11 : Memref sig .tc .vmem S1x1024 .f32) (harg11 : arg11.IsWhole) (arg12 : Memref sig .tc .vmem S1024x1024 .f32) (harg12 : arg12.IsWhole) (arg13 : Memref sig .tc .vmem S1024x1024 .f32) (harg13 : arg13.IsWhole) (arg14 : Memref sig .tc .vmem S1024x1024 .f32) (harg14 : arg14.IsWhole) (arg15 : DmaSems sig S2)
    (hc1 : ¬ k0_cond1 i = 1#1) (hc6 : ¬ k0_cond6 i = 1#1)
    (x0 x1 x2 : Vec F S1x1024x1024 .bf16) (x3 x4 : Vec F S1024x1024 .bf16) (a r : Vec F S1024x1024 .f32)
    (hs : (condS0 i = 1#1 ∧ ¬ condS1 i = 1#1 ∧ ¬ condS2 i = 1#1 ∧ ¬ condS3 i = 1#1 ∧ r = k0_pay24 a x0 x4)
      ∨ (¬ condS0 i = 1#1 ∧ condS1 i = 1#1 ∧ ¬ condS2 i = 1#1 ∧ ¬ condS3 i = 1#1 ∧ r = k0_pay1 a x1 x4)
      ∨ (¬ condS0 i = 1#1 ∧ ¬ condS1 i = 1#1 ∧ condS2 i = 1#1 ∧ ¬ condS3 i = 1#1 ∧ r = k0_pay2 a x2 x4)
      ∨ (¬ condS0 i = 1#1 ∧ ¬ condS1 i = 1#1 ∧ ¬ condS2 i = 1#1 ∧ condS3 i = 1#1 ∧ r = k0_pay3 a x3 x4))
    (K : PUnit → sProp (MT nD τ sig Unit (Elt F) ℕ (UD sig nD τ) ℕ)) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg12 fullShare a
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg12 fullShare r) -∗ K ⟨⟩))
      ⊢ wp frame (wpE (defs₀ (F := F)) Variants.none c none) Set.univ (cc0_odd_in_dx i arg2 harg2 arg3 harg3 arg4 harg4 arg5 harg5 arg6 harg6 arg7 harg7 arg8 harg8 arg9 harg9 arg10 harg10 arg11 harg11 arg12 harg12 arg13 harg13 arg14 harg14 arg15) K := by
  rcases hs with ⟨hc0s, hc1s, hc2s, hc3s, rfl⟩ | ⟨hc0s, hc1s, hc2s, hc3s, rfl⟩ | ⟨hc0s, hc1s, hc2s, hc3s, rfl⟩ | ⟨hc0s, hc1s, hc2s, hc3s, rfl⟩
  all_goals
    simp only [cc0_odd_in_dx_eq_skeleton]; unfold cc0_odd_in_dx_skel
    simp only [k0_part4_eq_skeleton]
    unfold k0_part4_skel
    unfold owns
    iintro ⟨⟨%f0, %hf0, H0⟩, ⟨%f1, %hf1, H1⟩, ⟨%f2, %hf2, H2⟩, ⟨%f3, %hf3, H3⟩, ⟨%f4, %hf4, H4⟩, ⟨%f9, %hf9, H9⟩, Hk⟩
    obtain rfl := harg2.eq_unread hf0; obtain rfl := harg3.eq_unread hf1; obtain rfl := harg4.eq_unread hf2; obtain rfl := harg5.eq_unread hf3; obtain rfl := harg6.eq_unread hf4; obtain rfl := harg12.eq_unread hf9
    sl_exec (disch := first | sl_exact hc1 | sl_exact hc0s | sl_exact hc1s | sl_exact hc2s | sl_exact hc3s | sl_exact hc6)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; isplitr
    swap; · iexact H9
    ipureintro
    sl_unfold_words
    repeat first | rw [RunKit.read_store_whole] | rw [RunKit.readAt_unread] | rw [View.readCov_cons_toLoadRect] | rw [View.readAt_writes_full]

/-- The pieces of the result's row tile that a last point stores, from the row tiles `x` of the norm's input and `dr` of the residual
    gradient, the accumulator `a` and the gain `g`. -/
def dxPieces (x dr a : Vec F S1024x1024 .f32) (g : Vec F S1x1024 .f32) : List (View.Piece (Elt F) S1024x1024 .f32) := [
    ⟨(Rect.unit (s := S1024x1024) ![768, 0] S256x1024.size inb_S1024x1024_S256x1024_768_0), k0_pay4 (k0_pay21 (View.ld x (Rect.unit (s := S1024x1024) ![768, 0] S256x1024.size inb_S1024x1024_S256x1024_768_0))) (k0_pay22 (View.ld x (Rect.unit (s := S1024x1024) ![768, 0] S256x1024.size inb_S1024x1024_S256x1024_768_0))) (View.ld a (Rect.unit (s := S1024x1024) ![768, 0] S256x1024.size inb_S1024x1024_S256x1024_768_0)) g (View.ld dr (Rect.unit (s := S1024x1024) ![768, 0] S256x1024.size inb_S1024x1024_S256x1024_768_0))⟩,
    ⟨(Rect.unit (s := S1024x1024) ![512, 0] S256x1024.size inb_S1024x1024_S256x1024_512_0), k0_pay19 (View.ld x (Rect.unit (s := S1024x1024) ![512, 0] S256x1024.size inb_S1024x1024_S256x1024_512_0)) (k0_pay16 (View.ld x (Rect.unit (s := S1024x1024) ![512, 0] S256x1024.size inb_S1024x1024_S256x1024_512_0))) (View.ld a (Rect.unit (s := S1024x1024) ![512, 0] S256x1024.size inb_S1024x1024_S256x1024_512_0)) g (View.ld dr (Rect.unit (s := S1024x1024) ![512, 0] S256x1024.size inb_S1024x1024_S256x1024_512_0))⟩,
    ⟨(Rect.unit (s := S1024x1024) ![256, 0] S256x1024.size inb_S1024x1024_S256x1024_256_0), k0_pay14 (View.ld x (Rect.unit (s := S1024x1024) ![256, 0] S256x1024.size inb_S1024x1024_S256x1024_256_0)) (View.ld a (Rect.unit (s := S1024x1024) ![256, 0] S256x1024.size inb_S1024x1024_S256x1024_256_0)) g (View.ld dr (Rect.unit (s := S1024x1024) ![256, 0] S256x1024.size inb_S1024x1024_S256x1024_256_0))⟩,
    ⟨(Rect.unit (s := S1024x1024) ![0, 0] S256x1024.size inb_S1024x1024_S256x1024_0_0), k0_pay10 (View.ld x (Rect.unit (s := S1024x1024) ![0, 0] S256x1024.size inb_S1024x1024_S256x1024_0_0)) (View.ld a (Rect.unit (s := S1024x1024) ![0, 0] S256x1024.size inb_S1024x1024_S256x1024_0_0)) g (View.ld dr (Rect.unit (s := S1024x1024) ![0, 0] S256x1024.size inb_S1024x1024_S256x1024_0_0))⟩]

/-- The tile. -/
def dxTile (x dr a : Vec F S1024x1024 .f32) (g : Vec F S1x1024 .f32) : Vec F S1024x1024 .f32 := View.canon (dxPieces x dr a g)

/-- What the first three row chunks add to the gain's gradient. -/
def dgHead (x a : Vec F S1024x1024 .f32) : FVec F S1x1024 .f32 :=
  k0_pay20 (k0_pay15 (k0_pay7 (F := F)) (k0_pay11 (View.ld x (Rect.unit (s := S1024x1024) ![0, 0] S256x1024.size inb_S1024x1024_S256x1024_0_0)) (View.ld a (Rect.unit (s := S1024x1024) ![0, 0] S256x1024.size inb_S1024x1024_S256x1024_0_0))) (View.ld x (Rect.unit (s := S1024x1024) ![256, 0] S256x1024.size inb_S1024x1024_S256x1024_256_0)) (View.ld a (Rect.unit (s := S1024x1024) ![256, 0] S256x1024.size inb_S1024x1024_S256x1024_256_0))) (View.ld x (Rect.unit (s := S1024x1024) ![512, 0] S256x1024.size inb_S1024x1024_S256x1024_512_0)) (k0_pay16 (View.ld x (Rect.unit (s := S1024x1024) ![512, 0] S256x1024.size inb_S1024x1024_S256x1024_512_0))) (View.ld a (Rect.unit (s := S1024x1024) ![512, 0] S256x1024.size inb_S1024x1024_S256x1024_512_0))

/-- The gain's gradient after the first row tile, -/
def dgFirst (x a : Vec F S1024x1024 .f32) : Vec F S1x1024 .f32 := k0_pay5 (dgHead x a) (k0_pay22 (View.ld x (Rect.unit (s := S1024x1024) ![768, 0] S256x1024.size inb_S1024x1024_S256x1024_768_0))) (View.ld a (Rect.unit (s := S1024x1024) ![768, 0] S256x1024.size inb_S1024x1024_S256x1024_768_0))
/-- and after another, from what the tiles before left. -/
def dgNext (x a : Vec F S1024x1024 .f32) (p : Vec F S1x1024 .f32) : Vec F S1x1024 .f32 := k0_pay6 (dgHead x a) (k0_pay22 (View.ld x (Rect.unit (s := S1024x1024) ![768, 0] S256x1024.size inb_S1024x1024_S256x1024_768_0))) (View.ld a (Rect.unit (s := S1024x1024) ![768, 0] S256x1024.size inb_S1024x1024_S256x1024_768_0)) p

/-- The four pieces cover the tile. -/
theorem cover4 (p0 p1 p2 p3 : Vec F S256x1024 .f32) (y : S1024x1024.Idx) :
    ∃ p ∈ ([⟨(Rect.unit (s := S1024x1024) ![768, 0] S256x1024.size inb_S1024x1024_S256x1024_768_0), p3⟩, ⟨(Rect.unit (s := S1024x1024) ![512, 0] S256x1024.size inb_S1024x1024_S256x1024_512_0), p2⟩, ⟨(Rect.unit (s := S1024x1024) ![256, 0] S256x1024.size inb_S1024x1024_S256x1024_256_0), p1⟩, ⟨(Rect.unit (s := S1024x1024) ![0, 0] S256x1024.size inb_S1024x1024_S256x1024_0_0), p0⟩] : List (View.Piece (Elt F) S1024x1024 .f32)), y ∈ p.1.set := by
  have h0 : (y 0).val < 1024 := (y 0).isLt
  have h1 : (y 1).val < 1024 := (y 1).isLt
  have fits : ∀ (o : ℕ) (inb : ∀ a, (![o, 0] : Fin 2 → ℕ) a + S256x1024.size a ≤ S1024x1024.size a), o ≤ (y 0).val → (y 0).val < o + 256 →
      y ∈ (Rect.unit (s := S1024x1024) ![o, 0] S256x1024.size inb).set := by
    intro o inb l u
    rw [Rect.mem_set_unit]
    intro a
    match a with
    | ⟨0, _⟩ => show o ≤ (y 0).val ∧ (y 0).val < o + 256; omega
    | ⟨1, _⟩ => show 0 ≤ (y 1).val ∧ (y 1).val < 0 + 1024; omega
  by_cases a3 : 768 ≤ (y 0).val
  · exact ⟨_, List.mem_cons_self, fits 768 inb_S1024x1024_S256x1024_768_0 a3 (by omega)⟩
  · by_cases a2 : 512 ≤ (y 0).val
    · exact ⟨_, List.mem_cons_of_mem _ List.mem_cons_self, fits 512 inb_S1024x1024_S256x1024_512_0 a2 (by omega)⟩
    · by_cases a1 : 256 ≤ (y 0).val
      · exact ⟨_, List.mem_cons_of_mem _ (List.mem_cons_of_mem _ List.mem_cons_self), fits 256 inb_S1024x1024_S256x1024_256_0 a1 (by omega)⟩
      · exact ⟨_, List.mem_cons_of_mem _ (List.mem_cons_of_mem _ (List.mem_cons_of_mem _ List.mem_cons_self)), fits 0 inb_S1024x1024_S256x1024_0_0 (Nat.zero_le _) (by omega)⟩

set_option maxHeartbeats 8000000 in
/-- The body at a last source block: the last product, the copies' blocks taken in, the row tile and the gain's gradient written. -/
theorem body_last [∀ e, Nonempty (Elt F e)] (c : Dev nD) (i : grid0.Coords) (arg2 : Memref sig .tc .vmem S1x1024x1024 .bf16) (harg2 : arg2.IsWhole) (arg3 : Memref sig .tc .vmem S1x1024x1024 .bf16) (harg3 : arg3.IsWhole) (arg4 : Memref sig .tc .vmem S1x1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .hbm S8192x1024 .f32) (harg7 : arg7.IsWhole) (arg8 : Memref sig .tc .vmem S1x1024 .f32) (harg8 : arg8.IsWhole) (arg9 : Memref sig .tc .hbm S8192x1024 .f32) (harg9 : arg9.IsWhole) (arg10 : Memref sig .tc .vmem S1024x1024 .f32) (harg10 : arg10.IsWhole) (arg11 : Memref sig .tc .vmem S1x1024 .f32) (harg11 : arg11.IsWhole) (arg12 : Memref sig .tc .vmem S1024x1024 .f32) (harg12 : arg12.IsWhole) (arg13 : Memref sig .tc .vmem S1024x1024 .f32) (harg13 : arg13.IsWhole) (arg14 : Memref sig .tc .vmem S1024x1024 .f32) (harg14 : arg14.IsWhole) (arg15 : DmaSems sig S2)
    (i₀ : grid0.Coords) (h₀ : k0_cond1 i₀ = 1#1)
    (hc1 : ¬ k0_cond1 i = 1#1) (hc0s : ¬ condS0 i = 1#1) (hc1s : ¬ condS1 i = 1#1) (hc2s : ¬ condS2 i = 1#1) (hc3s : condS3 i = 1#1) (hc3 : k0_cond6 i = 1#1)
    (x0 x1 : Vec F S1024x1024 .bf16) (g : Vec F S1x1024 .f32) (f4 : Buf (Elt F) ((rows arg7 i₀ h₀).view.loc (c : Thread nD τ))) (f6 : Buf (Elt F) ((rows arg9 i₀ h₀).view.loc (c : Thread nD τ)))
    (d10 : Buf (Elt F) (arg13.view.loc (c : Thread nD τ))) (d11 : Buf (Elt F) (arg14.view.loc (c : Thread nD τ)))
    (a : Vec F S1024x1024 .f32) (p o : Vec F S1x1024 .f32)
    (ho : (k0_cond7 i = 1#1 ∧ ¬ k0_cond8 i = 1#1 ∧ o = dgFirst ((rows arg7 i₀ h₀).view.read (Elt F) f4) (k0_pay3 a x0 x1))
      ∨ (¬ k0_cond7 i = 1#1 ∧ k0_cond8 i = 1#1 ∧ o = dgNext ((rows arg7 i₀ h₀).view.read (Elt F) f4) (k0_pay3 a x0 x1) p))
    (W : Waits sig Unit) (K : PUnit → sProp (MT nD τ sig Unit (Elt F) ℕ (UD sig nD τ) ℕ)) :
    iprop(owns (c : Thread nD τ) arg5 fullShare x0 ∗ owns (c : Thread nD τ) arg6 fullShare x1 ∗ owns (c : Thread nD τ) arg8 fullShare g
        ∗ (∃ d, owns (c : Thread nD τ) arg10 fullShare d) ∗ owns (c : Thread nD τ) arg11 fullShare p ∗ owns (c : Thread nD τ) arg12 fullShare a
        ∗ inflight c (rows arg7 i₀ h₀) arg13 (sem0 arg15) f4 d10 ∗ inflight c (rows arg9 i₀ h₀) arg14 (sem1 arg15) f6 d11
        ∗ owes (c : Thread nD τ) 0 W
        ∗ (iprop(owns (c : Thread nD τ) arg5 fullShare x0 ∗ owns (c : Thread nD τ) arg6 fullShare x1 ∗ owns (c : Thread nD τ) arg8 fullShare g
            ∗ owns (c : Thread nD τ) arg10 fullShare (dxTile ((rows arg7 i₀ h₀).view.read (Elt F) f4) ((rows arg9 i₀ h₀).view.read (Elt F) f6) (k0_pay3 a x0 x1) g)
            ∗ owns (c : Thread nD τ) arg11 fullShare o ∗ owns (c : Thread nD τ) arg12 fullShare (k0_pay3 a x0 x1)
            ∗ held c (rows arg7 i₀ h₀) f4 ∗ held c (rows arg9 i₀ h₀) f6 ∗ (∃ f, held c arg13 f) ∗ (∃ f, held c arg14 f)
            ∗ semVal ((c : Thread nD τ), SemLoc.dma (sem0 arg15)) 0 ∗ semVal ((c : Thread nD τ), SemLoc.dma (sem1 arg15)) 0
            ∗ (∃ W, owes (c : Thread nD τ) 0 W)) -∗ K ⟨⟩))
      ⊢ wp frame (wpE (defs₀ (F := F)) Variants.none c none) Set.univ (cc0_odd_in_dx i arg2 harg2 arg3 harg3 arg4 harg4 arg5 harg5 arg6 harg6 arg7 harg7 arg8 harg8 arg9 harg9 arg10 harg10 arg11 harg11 arg12 harg12 arg13 harg13 arg14 harg14 arg15) K := by
  rcases ho with ⟨hc4, hc5, rfl⟩ | ⟨hc4, hc5, rfl⟩
  all_goals
    simp only [cc0_odd_in_dx_eq_skeleton]; unfold cc0_odd_in_dx_skel
    simp only [k0_part1_eq_skeleton, k0_part2_eq_skeleton, k0_part3_eq_skeleton, k0_part4_eq_skeleton]
    unfold k0_part1_skel k0_part2_skel k0_part3_skel k0_part4_skel
    unfold owns
    iintro ⟨⟨%f0, %hf0, H0⟩, ⟨%f1, %hf1, H1⟩, ⟨%f5, %hf5, H5⟩, ⟨%d7, %f7, -, H7⟩, ⟨%f8, %hf8, H8⟩, ⟨%f9, %hf9, H9⟩, HA, HB, HO, Hk⟩
    obtain rfl := harg5.eq_unread hf0; obtain rfl := harg6.eq_unread hf1; obtain rfl := harg8.eq_unread hf5; obtain rfl := harg11.eq_unread hf8; obtain rfl := harg12.eq_unread hf9
    sl_exec (disch := first | sl_exact hc1 | sl_exact hc0s | sl_exact hc1s | sl_exact hc2s | sl_exact hc3s | sl_exact hc3 | sl_exact hc4 | sl_exact hc5)
    sl_step
    iapply Hk
    isplitl [H0]
    · iexists _; isplitr; · ipureintro; exact harg5.read_unread _
      iexact H0
    isplitl [H1]
    · iexists _; isplitr; · ipureintro; exact harg6.read_unread _
      iexact H1
    isplitl [H5]
    · iexists _; isplitr; · ipureintro; exact harg8.read_unread _
      iexact H5
    isplitl [H7]
    · iexists _; isplitr
      swap; · iexact H7
      ipureintro
      sl_unfold_words
      refine (View.read_writes_eq_canon _ _ _ (cover4 _ _ _ _)).trans ?_
      simp only [DxKit.readCov_unit_whole, DxKit.readCov_rect_whole, View.readAt_eq_ld, Memref.IsWhole.read_unread, DxKit.ld_whole]
      rfl
    isplitl [H8]
    · iexists _; isplitr
      swap; · iexact H8
      ipureintro
      sl_unfold_words
      refine (RunKit.read_store_whole _ _ _ _ _).trans ?_
      simp only [DxKit.readCov_unit_whole, DxKit.readCov_rect_whole, View.readAt_eq_ld, Memref.IsWhole.read_unread, DxKit.ld_whole]
      rfl
    isplitl [H9]
    · iexists _; isplitr
      swap; · iexact H9
      ipureintro
      sl_unfold_words
      repeat first | rw [RunKit.read_store_whole] | rw [RunKit.readAt_unread] | rw [View.readCov_cons_toLoadRect] | rw [View.readAt_writes_full]
    isplitl [HA_src]; · iexact HA_src
    isplitl [HB_src]; · iexact HB_src
    isplitl [HA_dst]; · iexists _; iexact HA_dst
    isplitl [HB_dst]; · iexists _; iexact HB_dst
    isplitl [HA]; · iexact HA
    isplitl [HB]; · iexact HB
    iexists _; iexact HO

end Cert.Proof.OddDxBody

end
-- ==== Proof.OddDxRun.lean ====
/- The gradient of the odd layer's input projection, from one grid point to the whole run: between a tile's first and last source
   blocks the accumulator is tracked and the two copies are under way, and between tiles every buffer is at rest. -/
module

public import proofs.«01_k».proof.Proof.OddDxBody
public import Idealize.ShloMosaic.Lib.Pipeline.TableIdle

@[expose] public section

set_option maxRecDepth 16384

noncomputable section

namespace Cert.Proof.OddDxRun

open Cert.Kernel8Ideal Cert.Kernel8Ideal.Gen Cert.Proof.OddDxBody
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation RDat cellOf UD)

variable {F : FTy → Type} [FloatOps F]
variable (m : (ℓ : Loc nD τ sig) → Buf (Elt F) ℓ) (ρ : Dev nD → PrngReg)

/-! ## What the run computes -/

/-- The grid point of a number, the numbers taken round the grid. -/
def pt (n : ℕ) : Fin cfg0.N := ⟨n % 112, lt_of_lt_of_eq (Nat.mod_lt _ (by decide)) (N_0 : cfg0.N = 112).symm⟩

/-- A point is the point of its own number. -/
theorem pt_val (t : Fin cfg0.N) : pt t.val = t :=
  Fin.ext (Nat.mod_eq_of_lt (lt_of_lt_of_eq t.isLt (N_0 : cfg0.N = 112)))

/-- A row tile's copies start at its first point. -/
theorem start_cond (r : ℕ) : k0_cond1 (grid0.coords (pt (14 * r))) = 1#1 := (cond1_iff _).mpr (by show 14 * r % 112 % 14 = 0; omega)

/-- What point `t` makes of the accumulator: the product with the source its source block takes, added. -/
def stepT (c : Dev nD) (t : Fin cfg0.N) (b : Vec F S1024x1024 .f32) : Vec F S1024x1024 .f32 :=
  if t.val % 14 < 9 then
    if t.val % 14 % 3 = 0 then k0_pay24 b (iblk m c 0 t) (iblk m c 4 t)
    else if t.val % 14 % 3 = 1 then k0_pay1 b (iblk m c 1 t) (iblk m c 4 t)
    else k0_pay2 b (iblk m c 2 t) (iblk m c 4 t)
  else k0_pay3 b (iblk m c 3 t) (iblk m c 4 t)

/-- The accumulator of row tile `r` after its source block `j`. -/
def accP (c : Dev nD) (r : ℕ) : ℕ → Vec F S1024x1024 .f32
  | 0 => stepT m c (pt (14 * r)) k0_pay23
  | j + 1 => stepT m c (pt (14 * r + (j + 1))) (accP c r j)

/-- The source a point takes, by its conditions. -/
theorem step_cases (c : Dev nD) (t : Fin cfg0.N) (b : Vec F S1024x1024 .f32) :
    (condS0 (grid0.coords t) = 1#1 ∧ ¬ condS1 (grid0.coords t) = 1#1 ∧ ¬ condS2 (grid0.coords t) = 1#1 ∧ ¬ condS3 (grid0.coords t) = 1#1 ∧ stepT m c t b = k0_pay24 b (iblk m c 0 t) (iblk m c 4 t))
      ∨ (¬ condS0 (grid0.coords t) = 1#1 ∧ condS1 (grid0.coords t) = 1#1 ∧ ¬ condS2 (grid0.coords t) = 1#1 ∧ ¬ condS3 (grid0.coords t) = 1#1 ∧ stepT m c t b = k0_pay1 b (iblk m c 1 t) (iblk m c 4 t))
      ∨ (¬ condS0 (grid0.coords t) = 1#1 ∧ ¬ condS1 (grid0.coords t) = 1#1 ∧ condS2 (grid0.coords t) = 1#1 ∧ ¬ condS3 (grid0.coords t) = 1#1 ∧ stepT m c t b = k0_pay2 b (iblk m c 2 t) (iblk m c 4 t))
      ∨ (¬ condS0 (grid0.coords t) = 1#1 ∧ ¬ condS1 (grid0.coords t) = 1#1 ∧ ¬ condS2 (grid0.coords t) = 1#1 ∧ condS3 (grid0.coords t) = 1#1 ∧ stepT m c t b = k0_pay3 b (iblk m c 3 t) (iblk m c 4 t)) := by
  simp only [condS0_iff, condS1_iff, condS2_iff, condS3_iff]
  unfold stepT
  by_cases h9 : t.val % 14 < 9
  · rw [if_pos h9]
    by_cases h0 : t.val % 14 % 3 = 0
    · rw [if_pos h0]; exact .inl ⟨⟨h9, h0⟩, by omega, by omega, by omega, rfl⟩
    · rw [if_neg h0]
      by_cases h1 : t.val % 14 % 3 = 1
      · rw [if_pos h1]; exact .inr (.inl ⟨by omega, ⟨h9, h1⟩, by omega, by omega, rfl⟩)
      · rw [if_neg h1]; exact .inr (.inr (.inl ⟨by omega, by omega, ⟨h9, by omega⟩, by omega, rfl⟩))
  · rw [if_neg h9]; exact .inr (.inr (.inr ⟨by omega, by omega, by omega, by omega, rfl⟩))

/-- Row tile `r` of the norm's input, -/
def xRows (c : Dev nD) (r : ℕ) : Vec F S1024x1024 .f32 :=
  (rows (Memref.whole main_arg2) (grid0.coords (pt (14 * r))) (start_cond r)).view.read (Elt F) (V m c main_arg2)
/-- and of the residual gradient. -/
def drRows (c : Dev nD) (r : ℕ) : Vec F S1024x1024 .f32 :=
  (rows (Memref.whole main_arg4) (grid0.coords (pt (14 * r))) (start_cond r)).view.read (Elt F) (V m c main_arg4)

/-- The gain's gradient after the first `k` row tiles. -/
def dgK (c : Dev nD) : ℕ → Vec F S1x1024 .f32
  | 0 => k0_pay7
  | 1 => dgFirst (xRows m c 0) (accP m c 0 13)
  | k + 2 => dgNext (xRows m c (k + 1)) (accP m c (k + 1) 13) (dgK c (k + 1))

/-! ## The invariant -/

/-- The accumulator's buffer and the two copies' destinations. -/
abbrev sc0 : Memref sig .tc .vmem S1024x1024 .f32 := Memref.whole cc0_scratch0
/-- The first copy's destination, -/
abbrev sc1 : Memref sig .tc .vmem S1024x1024 .f32 := Memref.whole cc0_scratch1
/-- the second's. -/
abbrev sc2 : Memref sig .tc .vmem S1024x1024 .f32 := Memref.whole cc0_scratch2
/-- The two arrays left in HBM: the norm's input -/
abbrev hb2 : Memref sig .tc .hbm S8192x1024 .f32 := Memref.whole main_arg2
/-- and the residual gradient. -/
abbrev hb4 : Memref sig .tc .hbm S8192x1024 .f32 := Memref.whole main_arg4
/-- The rows of an array a tile's copies do not take. -/
abbrev others (c : Dev nD) (M : Memref sig .tc .hbm S8192x1024 .f32) (i : grid0.Coords) (h : k0_cond1 i = 1#1)
    (f : Buf (Elt F) (M.view.loc (c : Thread nD τ))) : sProp (MT nD τ sig Unit (Elt F) ℕ (UD sig nD τ) ℕ) :=
  M.view.loc (c : Thread nD τ) ↦[Finset.univ \ (rows M i h).view.set]{fullShare} f

/-- Between tiles: every buffer at rest, the copies' counters at zero, the arrays as launched. -/
def Rest (c : Dev nD) : sProp (MT nD τ sig Unit (Elt F) ℕ (UD sig nD τ) ℕ) :=
  iprop((∃ d, owns (c : Thread nD τ) sc0 fullShare d)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f)
    ∗ semVal ((c : Thread nD τ), SemLoc.dma (sem0 cc0_scratch3)) 0 ∗ semVal ((c : Thread nD τ), SemLoc.dma (sem1 cc0_scratch3)) 0
    ∗ (((c : Thread nD τ).loc main_arg2) ↦{fullShare} V m c main_arg2) ∗ (((c : Thread nD τ).loc main_arg4) ↦{fullShare} V m c main_arg4)
    ∗ (∃ r, prngReg c r))

/-- With the copies that start at grid point `i` under way and the accumulator at `a`. -/
def BusyAt (c : Dev nD) (i : grid0.Coords) (h : k0_cond1 i = 1#1) (a : Vec F S1024x1024 .f32) : sProp (MT nD τ sig Unit (Elt F) ℕ (UD sig nD τ) ℕ) :=
  iprop(owns (c : Thread nD τ) sc0 fullShare a
    ∗ (∃ d, inflight c (rows hb2 i h) sc1 (sem0 cc0_scratch3) (V m c main_arg2) d)
    ∗ (∃ d, inflight c (rows hb4 i h) sc2 (sem1 cc0_scratch3) (V m c main_arg4) d)
    ∗ others c hb2 i h (V m c main_arg2) ∗ others c hb4 i h (V m c main_arg4)
    ∗ (∃ r, prngReg c r))

/-- The grid point may be named otherwise. -/
theorem BusyAt_congr (c : Dev nD) {s t : Fin cfg0.N} (e : s = t) (hs : k0_cond1 (grid0.coords s) = 1#1) (ht : k0_cond1 (grid0.coords t) = 1#1)
    (a : Vec F S1024x1024 .f32) : BusyAt m c (grid0.coords s) hs a = BusyAt m c (grid0.coords t) ht a := by
  subst e; rfl

/-- Within tile `r`, after its source block `j`. -/
def Busy (c : Dev nD) (r j : ℕ) : sProp (MT nD τ sig Unit (Elt F) ℕ (UD sig nD τ) ℕ) :=
  BusyAt m c (grid0.coords (pt (14 * r))) (start_cond r) (accP m c r j)

/-- The invariant before point `n`. -/
def PhiS (c : Dev nD) (n : ℕ) : sProp (MT nD τ sig Unit (Elt F) ℕ (UD sig nD τ) ℕ) :=
  if n % 14 = 0 then Rest m c else Busy m c (n / 14) (n % 14 - 1)

/-- The proof data. -/
def dats : (p : Fin 1) → (c : Dev nD) → Dat τ (Elt F) Unit ℕ (UD sig nD τ) ℕ (cfgs p) c
  | ⟨0, _⟩ => fun c => {
      A := fun w => V m c (Pipeline.arrRef spec0 w)
      after := fun w t => match w with
        | ⟨0, _⟩ => iblk m c 0 t
        | ⟨1, _⟩ => iblk m c 1 t
        | ⟨2, _⟩ => iblk m c 2 t
        | ⟨3, _⟩ => iblk m c 3 t
        | ⟨4, _⟩ => iblk m c 4 t
        | ⟨5, _⟩ => iblk m c 5 t
        | ⟨6, _⟩ => dxTile (xRows m c (t.val / 14)) (drRows m c (t.val / 14)) (accP m c (t.val / 14) 13) (iblk m c 5 t)
        | ⟨7, _⟩ => dgK m c ((t.val + 1) / 14)
        | ⟨_ + 8, h⟩ => absurd h (Nat.not_lt.2 (Nat.le_add_left _ _))
      Φ := fun t => PhiS m c t.val
      q := fun _ => fullShare
      owed := fun _ => 0 }
  | ⟨_ + 1, h⟩ => absurd h (Nat.not_lt.2 (Nat.le_add_left _ _))

/-- The data's arrays are the arrays at the region's entry. -/
theorem A_eq (c : Dev nD) (w : Fin cfg0.W) : (dats m 0 c).A w = V m c (Pipeline.arrRef spec0 w) := by dsimp only [dats]
/-- The first result's buffer after a body that writes it. -/
theorem after_6 (c : Dev nD) (t : Fin cfg0.N) : (dats m 0 c).after 6 t
    = dxTile (xRows m c (t.val / 14)) (drRows m c (t.val / 14)) (accP m c (t.val / 14) 13) (iblk m c 5 t) := by dsimp only [dats]
/-- The second's. -/
theorem after_7 (c : Dev nD) (t : Fin cfg0.N) : (dats m 0 c).after 7 t = dgK m c ((t.val + 1) / 14) := by dsimp only [dats]

/-- The first source's buffer holds its block at every point, -/
theorem before_0 (c : Dev nD) (t : Fin cfg0.N) (d) : (dats m 0 c).before 0 t d = iblk m c 0 t :=
  ((dats m 0 c).before_in_eq_fetched 0 rfl (fun _ => rfl) (fun _ _ _ => rfl)
      (fun t => by rw [show (dats m 0 c).after 0 t = iblk m c 0 t from by dsimp only [dats]]; unfold Dat.blockOf iblk; rw [A_eq]; try rfl) t d).trans
    (by unfold Dat.fetched Dat.blockOf iblk; rw [A_eq]; try rfl)
/-- the second's too, -/
theorem before_1 (c : Dev nD) (t : Fin cfg0.N) (d) : (dats m 0 c).before 1 t d = iblk m c 1 t :=
  ((dats m 0 c).before_in_eq_fetched 1 rfl (fun _ => rfl) (fun _ _ _ => rfl)
      (fun t => by rw [show (dats m 0 c).after 1 t = iblk m c 1 t from by dsimp only [dats]]; unfold Dat.blockOf iblk; rw [A_eq]; try rfl) t d).trans
    (by unfold Dat.fetched Dat.blockOf iblk; rw [A_eq]; try rfl)
/-- the third's, -/
theorem before_2 (c : Dev nD) (t : Fin cfg0.N) (d) : (dats m 0 c).before 2 t d = iblk m c 2 t :=
  ((dats m 0 c).before_in_eq_fetched 2 rfl (fun _ => rfl) (fun _ _ _ => rfl)
      (fun t => by rw [show (dats m 0 c).after 2 t = iblk m c 2 t from by dsimp only [dats]]; unfold Dat.blockOf iblk; rw [A_eq]; try rfl) t d).trans
    (by unfold Dat.fetched Dat.blockOf iblk; rw [A_eq]; try rfl)
/-- the fourth's, -/
theorem before_3 (c : Dev nD) (t : Fin cfg0.N) (d) : (dats m 0 c).before 3 t d = iblk m c 3 t :=
  ((dats m 0 c).before_in_eq_fetched 3 rfl (fun _ => rfl) (fun _ _ _ => rfl)
      (fun t => by rw [show (dats m 0 c).after 3 t = iblk m c 3 t from by dsimp only [dats]]; unfold Dat.blockOf iblk; rw [A_eq]; try rfl) t d).trans
    (by unfold Dat.fetched Dat.blockOf iblk; rw [A_eq]; try rfl)
/-- the weights' -/
theorem before_4 (c : Dev nD) (t : Fin cfg0.N) (d) : (dats m 0 c).before 4 t d = iblk m c 4 t :=
  ((dats m 0 c).before_in_eq_fetched 4 rfl (fun _ => rfl) (fun _ _ _ => rfl)
      (fun t => by rw [show (dats m 0 c).after 4 t = iblk m c 4 t from by dsimp only [dats]]; unfold Dat.blockOf iblk; rw [A_eq]; try rfl) t d).trans
    (by unfold Dat.fetched Dat.blockOf iblk; rw [A_eq]; try rfl)
/-- and the gain's. -/
theorem before_5 (c : Dev nD) (t : Fin cfg0.N) (d) : (dats m 0 c).before 5 t d = iblk m c 5 t :=
  ((dats m 0 c).before_in_eq_fetched 5 rfl (fun _ => rfl) (fun _ _ _ => rfl)
      (fun t => by rw [show (dats m 0 c).after 5 t = iblk m c 5 t from by dsimp only [dats]]; unfold Dat.blockOf iblk; rw [A_eq]; try rfl) t d).trans
    (by unfold Dat.fetched Dat.blockOf iblk; rw [A_eq]; try rfl)

/-- The results are written at the last source blocks only, the first -/
theorem idle_6 (t : Fin cfg0.N) : cfg0.idle 6 (grid0.coords t) = false ↔ t.val % 14 = 13 := by
  rw [← cond6_iff t]
  show (!(k0_cond6 (grid0.coords t) == 1#1)) = false ↔ _
  simp
/-- and the second. -/
theorem idle_7 : ∀ t : Fin cfg0.N, cfg0.idle 7 (grid0.coords t) = false ↔ t.val % 14 = 13 :=
  (by decide +kernel : ∀ t : Fin grid0.N, idle0 7 (grid0.coords t) = false ↔ t.val % 14 = 13)
/-- No other point writes the first back, -/
theorem flush_6 (t : Fin cfg0.N) (h : ¬ t.val % 14 = 13) : (cfg0.win 6).flush t = false := by
  have := mt (flush0_6 t).mp h
  revert this
  cases (cfg0.win 6).flush t <;> simp
/-- nor the second. -/
theorem flush_7 (t : Fin cfg0.N) (h : ¬ t.val % 14 = 13) : (cfg0.win 7).flush t = false := by
  have hN : cfg0.N = 112 := N_0
  have := mt (flush0_7 t).mp (by have := t.isLt; omega)
  revert this
  cases (cfg0.win 7).flush t <;> simp

/-- The second result's buffer holds nothing stored through the first tile. -/
theorem fresh_7 (n : ℕ) (h : n ≤ cfg0.N) : cfg0.fresh 7 n = (decide (n < 14) || decide (n = 112)) :=
  cfg0.fresh_tab 7 (fun n => decide (n < 14) || decide (n = 112)) rfl
    (by decide +kernel : ∀ t : Fin grid0.N, (fun n => decide (n < 14) || decide (n = 112)) (t.val + 1)
      = ((cfg0.win 7).flush t || (cfg0.idle 7 (cfg0.grid.coords t) && (fun n => decide (n < 14) || decide (n = 112)) t.val))) n h

/-- After the first tile it holds what the tiles before left. -/
theorem before_7 (c : Dev nD) (t : Fin cfg0.N) (h : 14 ≤ t.val) (d) : (dats m 0 c).before 7 t d = dgK m c (t.val / 14) := by
  have hN : cfg0.N = 112 := N_0
  have ht := t.isLt
  rw [(dats m 0 c).before_out_traj 7 rfl (fun _ _ => rfl) (fun t h0 hi hf => by
      have h4 : ¬ t.val % 14 = 13 := fun e => by rw [(idle_7 t).mpr e] at hi; exact Bool.false_ne_true hi
      rw [after_7, after_7]
      congr 1
      show (t.val + 1) / 14 = (t.val - 1 + 1) / 14
      omega) t.val t rfl d, fresh_7 t.val (le_of_lt ht)]
  rw [if_neg (by simp; omega), after_7]
  congr 1
  show (t.val - 1 + 1) / 14 = t.val / 14
  omega

/-- The invariant at a point's start. -/
theorem Phi_castSucc (c : Dev nD) (t : Fin cfg0.N) : (dats m 0 c).Φ t.castSucc = PhiS m c t.val := by
  dsimp only [dats]; rfl
/-- The invariant at its end. -/
theorem Phi_succ (c : Dev nD) (t : Fin cfg0.N) : (dats m 0 c).Φ t.succ = PhiS m c (t.val + 1) := by
  dsimp only [dats]; rfl

/-- What the body is called with at point `t`, window by window, -/
def bodyPre (c : Dev nD) (t : Fin cfg0.N) : sProp (MT nD τ sig Unit (Elt F) ℕ (UD sig nD τ) ℕ) :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- and what it returns. -/
def bodyPost (c : Dev nD) (t : Fin cfg0.N) : sProp (MT nD τ sig Unit (Elt F) ℕ (UD sig nD τ) ℕ) :=
  iprop((dats m 0 c).Φ t.succ ∗ (dats m 0 c).owesAt () t.succ
    ∗ (dats m 0 c).leavesExact 0 t ∗ (dats m 0 c).leavesExact 1 t ∗ (dats m 0 c).leavesExact 2 t ∗ (dats m 0 c).leavesExact 3 t ∗ (dats m 0 c).leavesExact 4 t ∗ (dats m 0 c).leavesExact 5 t ∗ (dats m 0 c).leavesExact 6 t ∗ (dats m 0 c).leavesExact 7 t)

/-- The next source block's product is added. -/
theorem acc_step (c : Dev nD) (t : Fin cfg0.N) (h : ¬ t.val % 14 = 0) :
    accP m c (t.val / 14) (t.val % 14) = stepT m c t (accP m c (t.val / 14) (t.val % 14 - 1)) := by
  obtain ⟨j, hj⟩ : ∃ j, t.val % 14 = j + 1 := ⟨t.val % 14 - 1, by omega⟩
  rw [hj, Nat.add_sub_cancel]
  have e : pt (14 * (t.val / 14) + (j + 1)) = t := by
    rw [show 14 * (t.val / 14) + (j + 1) = t.val from by omega]; exact pt_val t
  conv_lhs => unfold accP
  rw [e]

/-- The first source block's product starts it. -/
theorem acc_start (c : Dev nD) (t : Fin cfg0.N) (h : t.val % 14 = 0) :
    accP m c (t.val / 14) 0 = k0_pay24 k0_pay23 (iblk m c 0 t) (iblk m c 4 t) := by
  have e : pt (14 * (t.val / 14)) = t := by
    rw [show 14 * (t.val / 14) = t.val from by omega]; exact pt_val t
  conv_lhs => unfold accP
  rw [e]
  unfold stepT
  rw [if_pos (by omega), if_pos (by omega)]

/-- The last source block is a block of the columns. -/
theorem step_last (c : Dev nD) (t : Fin cfg0.N) (h : t.val % 14 = 13) (b : Vec F S1024x1024 .f32) :
    stepT m c t b = k0_pay3 b (iblk m c 3 t) (iblk m c 4 t) := by
  unfold stepT
  rw [if_neg (by omega)]

set_option maxHeartbeats 1600000 in
/-- The body at a tile's first source block meets its obligation. -/
theorem sound_first (c : Dev nD) (t : Fin cfg0.N) (h : t.val % 14 = 0) :
    bodyPre m c t ⊢ wp frame (wpE (defs₀ (F := F)) Variants.none c none) Set.univ (bodyAt0 t) (fun _ => bodyPost m c t) := by
  have e : pt (14 * (t.val / 14)) = t := by
    rw [show 14 * (t.val / 14) = t.val from by omega]; exact pt_val t
  have h4 : ¬ t.val % 14 = 13 := by omega
  unfold bodyPre bodyPost bodyAt0
  simp only [before_0, before_1, before_2, before_3, before_4, before_5]
  rw [show (dats m 0 c).owesAt () t.succ = (dats m 0 c).owesAt () t.castSucc from rfl]
  rw [show (dats m 0 c).leavesExact 0 t = owns (c : Thread nD τ) (st0_0 t) fullShare (iblk m c 0 t) from rfl]
  rw [show (dats m 0 c).leavesExact 1 t = owns (c : Thread nD τ) (st0_1 t) fullShare (iblk m c 1 t) from rfl]
  rw [show (dats m 0 c).leavesExact 2 t = owns (c : Thread nD τ) (st0_2 t) fullShare (iblk m c 2 t) from rfl]
  rw [show (dats m 0 c).leavesExact 3 t = owns (c : Thread nD τ) (st0_3 t) fullShare (iblk m c 3 t) from rfl]
  rw [show (dats m 0 c).leavesExact 4 t = owns (c : Thread nD τ) (st0_4 t) fullShare (iblk m c 4 t) from rfl]
  rw [show (dats m 0 c).leavesExact 5 t = owns (c : Thread nD τ) (st0_5 t) fullShare (iblk m c 5 t) from rfl]
  rw [Dat.leavesExact_idle (dats m 0 c) 6 t (by
        cases hi : cfg0.idle 6 (grid0.coords t)
        · exact absurd ((idle_6 t).mp hi) h4
        · rfl) (flush_6 t h4),
      Dat.leavesExact_idle (dats m 0 c) 7 t (by
        cases hi : cfg0.idle 7 (grid0.coords t)
        · exact absurd ((idle_7 t).mp hi) h4
        · rfl) (flush_7 t h4)]
  rw [Phi_castSucc, Phi_succ, show PhiS m c t.val = Rest m c from if_pos h,
    show PhiS m c (t.val + 1) = Busy m c (t.val / 14) 0 from by
      unfold PhiS; rw [if_neg (by omega), show (t.val + 1) / 14 = t.val / 14 from by omega, show (t.val + 1) % 14 - 1 = 0 from by omega]]
  unfold Busy
  rw [acc_start m c t h, BusyAt_congr m c e (start_cond (t.val / 14)) ((cond1_iff t).mpr h)]
  unfold Rest BusyAt
  iintro ⟨⟨HS, ⟨%d1, H10⟩, ⟨%d2, H11⟩, Hs0, Hs1, H2, H4, Hg⟩, Ho, ⟨%e0, W0⟩, ⟨%e1, W1⟩, ⟨%e2, W2⟩, ⟨%e3, W3⟩, ⟨%e4, W4⟩, ⟨%e5, W5⟩, ⟨%e6, W6⟩, ⟨%e7, W7⟩⟩
  ihave HX := (pointsTo_split_subset (Finset.subset_univ (rows hb2 (grid0.coords t) ((cond1_iff t).mpr h)).view.set)).1 $$ H2
  icases HX with ⟨H2a, H2b⟩
  ihave HY := (pointsTo_split_subset (Finset.subset_univ (rows hb4 (grid0.coords t) ((cond1_iff t).mpr h)).view.set)).1 $$ H4
  icases HY with ⟨H4a, H4b⟩
  iapply (body_first c (grid0.coords t) _ _ _ _ _ _ _ _ _ _ hb2 _ _ _ hb4 _ _ _ _ _ sc0 _ sc1 _ sc2 _ cc0_scratch3 ((cond1_iff t).mpr h) ((condS0_iff t).mpr ⟨by omega, by omega⟩) (fun e => by have := (condS1_iff t).mp e; omega) (fun e => by have := (condS2_iff t).mp e; omega) (fun e => by have := (condS3_iff t).mp e; omega)
    (fun e => h4 ((cond6_iff t).mp e)) (iblk m c 0 t) (iblk m c 4 t) (V m c main_arg2) (V m c main_arg4) d1 d2 _)
  isplitl [W0]; · iexact W0
  isplitl [W4]; · iexact W4
  isplitl [HS]; · iexact HS
  isplitl [H2a]; · iexact H2a
  isplitl [H4a]; · iexact H4a
  isplitl [H10]
  · rw [show held c sc1 d1 = (((c : Thread nD τ).loc cc0_scratch1) ↦{fullShare} d1) from by unfold held; rw [View.set_whole]]
    iexact H10
  isplitl [H11]
  · rw [show held c sc2 d2 = (((c : Thread nD τ).loc cc0_scratch2) ↦{fullShare} d2) from by unfold held; rw [View.set_whole]]
    iexact H11
  isplitl [Hs0]; · iexact Hs0
  isplitl [Hs1]; · iexact Hs1
  iintro ⟨W0, W4, HS, HA, HB⟩
  isplitl [HS HA HB H2b H4b Hg]
  · isplitl [HS]; · iexact HS
    isplitl [HA]; · iexists _; iexact HA
    isplitl [HB]; · iexists _; iexact HB
    isplitl [H2b]; · iexact H2b
    isplitl [H4b]; · iexact H4b
    iexact Hg
  isplitl [Ho]; · iexact Ho
  isplitl [W0]; · iexact W0
  isplitl [W1]; · iexact W1
  isplitl [W2]; · iexact W2
  isplitl [W3]; · iexact W3
  isplitl [W4]; · iexact W4
  isplitl [W5]; · iexact W5
  isplitl [W6]; · iexists _; iexact W6
  iexists _; iexact W7

set_option maxHeartbeats 1600000 in
/-- The body at a source block in a tile's middle meets its obligation. -/
theorem sound_mid (c : Dev nD) (t : Fin cfg0.N) (h : ¬ t.val % 14 = 0) (h4 : ¬ t.val % 14 = 13) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5]
  rw [show (dats m 0 c).owesAt () t.succ = (dats m 0 c).owesAt () t.castSucc from rfl]
  rw [show (dats m 0 c).leavesExact 0 t = owns (c : Thread nD τ) (st0_0 t) fullShare (iblk m c 0 t) from rfl]
  rw [show (dats m 0 c).leavesExact 1 t = owns (c : Thread nD τ) (st0_1 t) fullShare (iblk m c 1 t) from rfl]
  rw [show (dats m 0 c).leavesExact 2 t = owns (c : Thread nD τ) (st0_2 t) fullShare (iblk m c 2 t) from rfl]
  rw [show (dats m 0 c).leavesExact 3 t = owns (c : Thread nD τ) (st0_3 t) fullShare (iblk m c 3 t) from rfl]
  rw [show (dats m 0 c).leavesExact 4 t = owns (c : Thread nD τ) (st0_4 t) fullShare (iblk m c 4 t) from rfl]
  rw [show (dats m 0 c).leavesExact 5 t = owns (c : Thread nD τ) (st0_5 t) fullShare (iblk m c 5 t) from rfl]
  rw [Dat.leavesExact_idle (dats m 0 c) 6 t (by
        cases hi : cfg0.idle 6 (grid0.coords t)
        · exact absurd ((idle_6 t).mp hi) h4
        · rfl) (flush_6 t h4),
      Dat.leavesExact_idle (dats m 0 c) 7 t (by
        cases hi : cfg0.idle 7 (grid0.coords t)
        · exact absurd ((idle_7 t).mp hi) h4
        · rfl) (flush_7 t h4)]
  rw [Phi_castSucc, Phi_succ, show PhiS m c t.val = Busy m c (t.val / 14) (t.val % 14 - 1) from if_neg h,
    show PhiS m c (t.val + 1) = Busy m c (t.val / 14) (t.val % 14) from by
      unfold PhiS; rw [if_neg (by omega), show (t.val + 1) / 14 = t.val / 14 from by omega, show (t.val + 1) % 14 - 1 = t.val % 14 from by omega]]
  unfold Busy
  rw [acc_step m c t h]
  unfold BusyAt
  iintro ⟨⟨HS, HA, HB, H2, H4, Hg⟩, Ho, ⟨%e0, W0⟩, ⟨%e1, W1⟩, ⟨%e2, W2⟩, ⟨%e3, W3⟩, ⟨%e4, W4⟩, ⟨%e5, W5⟩, ⟨%e6, W6⟩, ⟨%e7, W7⟩⟩
  iapply (body_mid c (grid0.coords t) _ _ _ _ _ _ _ _ _ _ hb2 _ _ _ hb4 _ _ _ _ _ sc0 _ sc1 _ sc2 _ cc0_scratch3 (fun e => h ((cond1_iff t).mp e))
    (fun e => h4 ((cond6_iff t).mp e)) (iblk m c 0 t) (iblk m c 1 t) (iblk m c 2 t) (iblk m c 3 t) (iblk m c 4 t) _ _ (step_cases m c t _) _)
  isplitl [W0]; · iexact W0
  isplitl [W1]; · iexact W1
  isplitl [W2]; · iexact W2
  isplitl [W3]; · iexact W3
  isplitl [W4]; · iexact W4
  isplitl [HS]; · iexact HS
  iintro ⟨W0, W1, W2, W3, W4, HS⟩
  isplitl [HS HA HB H2 H4 Hg]
  · isplitl [HS]; · iexact HS
    isplitl [HA]; · iexact HA
    isplitl [HB]; · iexact HB
    isplitl [H2]; · iexact H2
    isplitl [H4]; · iexact H4
    iexact Hg
  isplitl [Ho]; · iexact Ho
  isplitl [W0]; · iexact W0
  isplitl [W1]; · iexact W1
  isplitl [W2]; · iexact W2
  isplitl [W3]; · iexact W3
  isplitl [W4]; · iexact W4
  isplitl [W5]; · iexact W5
  isplitl [W6]; · iexists _; iexact W6
  iexists _; iexact W7

set_option maxHeartbeats 1600000 in
/-- The body at a tile's last source block meets its obligation. -/
theorem sound_last [∀ e, Nonempty (Elt F e)] (c : Dev nD) (t : Fin cfg0.N) (h4 : t.val % 14 = 13) :
    bodyPre m c t ⊢ wp frame (wpE (defs₀ (F := F)) Variants.none c none) Set.univ (bodyAt0 t) (fun _ => bodyPost m c t) := by
  have h : ¬ t.val % 14 = 0 := by omega
  unfold bodyPre bodyPost bodyAt0
  simp only [before_0, before_1, before_2, before_3, before_4, before_5]
  rw [show (dats m 0 c).leavesExact 0 t = owns (c : Thread nD τ) (st0_0 t) fullShare (iblk m c 0 t) from rfl]
  rw [show (dats m 0 c).leavesExact 1 t = owns (c : Thread nD τ) (st0_1 t) fullShare (iblk m c 1 t) from rfl]
  rw [show (dats m 0 c).leavesExact 2 t = owns (c : Thread nD τ) (st0_2 t) fullShare (iblk m c 2 t) from rfl]
  rw [show (dats m 0 c).leavesExact 3 t = owns (c : Thread nD τ) (st0_3 t) fullShare (iblk m c 3 t) from rfl]
  rw [show (dats m 0 c).leavesExact 4 t = owns (c : Thread nD τ) (st0_4 t) fullShare (iblk m c 4 t) from rfl]
  rw [show (dats m 0 c).leavesExact 5 t = owns (c : Thread nD τ) (st0_5 t) fullShare (iblk m c 5 t) from rfl]
  rw [show (dats m 0 c).leavesExact 6 t = owns (c : Thread nD τ) (st0_6 t) fullShare (dxTile (xRows m c (t.val / 14)) (drRows m c (t.val / 14)) (accP m c (t.val / 14) 13) (iblk m c 5 t)) from by
        unfold Dat.leavesExact; rw [(idle_6 t).mpr h4, after_6],
      show (dats m 0 c).leavesExact 7 t = owns (c : Thread nD τ) (st0_7 t) fullShare (dgK m c (t.val / 14 + 1)) from by
        unfold Dat.leavesExact; rw [(idle_7 t).mpr h4, after_7, show (t.val + 1) / 14 = t.val / 14 + 1 from by omega]]
  rw [Phi_castSucc, Phi_succ, show PhiS m c t.val = Busy m c (t.val / 14) 12 from by
      unfold PhiS; rw [if_neg h, h4],
    show PhiS m c (t.val + 1) = Rest m c from by unfold PhiS; rw [if_pos (by omega)]]
  have hacc : accP m c (t.val / 14) 13 = k0_pay3 (accP m c (t.val / 14) 12) (iblk m c 3 t) (iblk m c 4 t) := by
    have := acc_step m c t h; rwa [h4, step_last m c t h4] at this
  have ho : ∀ d, (k0_cond7 (grid0.coords t) = 1#1 ∧ ¬ k0_cond8 (grid0.coords t) = 1#1 ∧ dgK m c (t.val / 14 + 1) = dgFirst (xRows m c (t.val / 14)) (k0_pay3 (accP m c (t.val / 14) 12) (iblk m c 3 t) (iblk m c 4 t)))
      ∨ (¬ k0_cond7 (grid0.coords t) = 1#1 ∧ k0_cond8 (grid0.coords t) = 1#1 ∧ dgK m c (t.val / 14 + 1) = dgNext (xRows m c (t.val / 14)) (k0_pay3 (accP m c (t.val / 14) 12) (iblk m c 3 t) (iblk m c 4 t)) ((dats m 0 c).before 7 t d)) := by
    intro d
    rw [← hacc]
    by_cases hr : t.val / 14 = 0
    · refine .inl ⟨(cond7_iff t).mpr hr, fun e => (cond8_iff t).mp e hr, ?_⟩
      rw [hr]; rfl
    · refine .inr ⟨fun e => hr ((cond7_iff t).mp e), (cond8_iff t).mpr hr, ?_⟩
      rw [before_7 m c t (by omega)]
      obtain ⟨k, hk⟩ : ∃ k, t.val / 14 = k + 1 := ⟨t.val / 14 - 1, by omega⟩
      rw [hk]; rfl
  rw [hacc]
  unfold Busy BusyAt Rest Dat.owesAt Pipeline.owesWithin
  rw [show (dats m 0 c).owed t.castSucc = 0 from rfl, show (dats m 0 c).owed t.succ = 0 from rfl]
  iintro ⟨⟨HS, ⟨%d1, HA⟩, ⟨%d2, HB⟩, H2b, H4b, Hg⟩, ⟨%Wt, -, Ho⟩, ⟨%e0, W0⟩, ⟨%e1, W1⟩, ⟨%e2, W2⟩, ⟨%e3, W3⟩, ⟨%e4, W4⟩, ⟨%e5, W5⟩, ⟨%e6, W6⟩, ⟨%e7, W7⟩⟩
  iapply (body_last c (grid0.coords t) _ _ _ _ _ _ _ _ _ _ hb2 _ _ _ hb4 _ _ _ _ _ sc0 _ sc1 _ sc2 _ cc0_scratch3 (grid0.coords (pt (14 * (t.val / 14)))) (start_cond (t.val / 14))
    (fun e => h ((cond1_iff t).mp e)) (fun e => by have := (condS0_iff t).mp e; omega) (fun e => by have := (condS1_iff t).mp e; omega) (fun e => by have := (condS2_iff t).mp e; omega) ((condS3_iff t).mpr (by omega)) ((cond6_iff t).mpr h4) (iblk m c 3 t) (iblk m c 4 t) (iblk m c 5 t) (V m c main_arg2) (V m c main_arg4) d1 d2
    (accP m c (t.val / 14) 12) ((dats m 0 c).before 7 t e7) (dgK m c (t.val / 14 + 1)) (ho e7) Wt _)
  isplitl [W3]; · iexact W3
  isplitl [W4]; · iexact W4
  isplitl [W5]; · iexact W5
  isplitl [W6]; · iexists _; iexact W6
  isplitl [W7]; · iexact W7
  isplitl [HS]; · iexact HS
  isplitl [HA]; · iexact HA
  isplitl [HB]; · iexact HB
  isplitl [Ho]; · iexact Ho
  iintro ⟨W3, W4, W5, W6, W7, HS, H2a, H4a, ⟨%f1, H10⟩, ⟨%f2, H11⟩, Hs0, Hs1, ⟨%Wt', Ho⟩⟩
  isplitl [HS H2a H2b H4a H4b H10 H11 Hs0 Hs1 Hg]
  · isplitl [HS]; · iexists _; iexact HS
    isplitl [H10]
    · iexists f1
      rw [show (((c : Thread nD τ).loc cc0_scratch1) ↦{fullShare} f1) = held c sc1 f1 from by unfold held; rw [View.set_whole]]
      iexact H10
    isplitl [H11]
    · iexists f2
      rw [show (((c : Thread nD τ).loc cc0_scratch2) ↦{fullShare} f2) = held c sc2 f2 from by unfold held; rw [View.set_whole]]
      iexact H11
    isplitl [Hs0]; · iexact Hs0
    isplitl [Hs1]; · iexact Hs1
    isplitl [H2a H2b]
    · iapply (pointsTo_split_subset (Finset.subset_univ (rows hb2 (grid0.coords (pt (14 * (t.val / 14)))) (start_cond (t.val / 14))).view.set)).2
      isplitl [H2a]; · iexact H2a
      iexact H2b
    isplitl [H4a H4b]
    · iapply (pointsTo_split_subset (Finset.subset_univ (rows hb4 (grid0.coords (pt (14 * (t.val / 14)))) (start_cond (t.val / 14))).view.set)).2
      isplitl [H4a]; · iexact H4a
      iexact H4b
    iexact Hg
  isplitl [Ho]
  · iexists Wt'; isplitr; · ipureintro; exact fun _ _ => Or.inl trivial
    iexact Ho
  isplitl [W0]; · iexact W0
  isplitl [W1]; · iexact W1
  isplitl [W2]; · iexact W2
  isplitl [W3]; · iexact W3
  isplitl [W4]; · iexact W4
  isplitl [W5]; · iexact W5
  isplitl [W6]; · iexact W6
  iexact W7

/-- The body at any point meets its obligation. -/
theorem sound_body [∀ e, Nonempty (Elt F e)] (c : Dev nD) (t : Fin cfg0.N) :
    bodyPre m c t ⊢ wp frame (wpE (defs₀ (F := F)) Variants.none c none) Set.univ (bodyAt0 t) (fun _ => bodyPost m c t) := by
  by_cases h : t.val % 14 = 0
  · exact sound_first m c t h
  · by_cases h4 : t.val % 14 = 13
    · exact sound_last m c t h4
    · exact sound_mid m c t h h4

/-- The body table's row at point `t` is the body there. -/
theorem defs₀_row (t : Fin cfg0.N) : defs₀ (F := F) .tc cfg0.body (cfg0.bodyArgs t (cfg0.slots t)) = bodyAt0 t := by
  unfold defs₀; rw [Defs.onTc_tc]

/-- The body obligation, at every window exactly. -/
theorem body_obligation [∀ e, Nonempty (Elt F e)] (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

/-- The kernel's own semaphores: one for each copy. -/
abbrev osem : Fin 2 → SemLoc sig := fun j => (![SemLoc.dma (sem0 cc0_scratch3), SemLoc.dma (sem1 cc0_scratch3)] : Fin 2 → SemLoc sig) j
/-- They are scoped, distinct and no window's. -/
theorem ownSemFacts : Pipeline.OwnSemFacts spec0 osem := by decide
/-- The arrays the kernel reads itself. -/
def H0 : Finset (Ref sig .tc) := {main_arg2, main_arg4}
/-- No window's array is among them. -/
theorem H0_sub : H0 ⊆ Pipeline.restRefs sig spec0 := by decide

/-- What the launch hands the region is every buffer at rest. -/
theorem PhiD_eq (c : Dev nD) : (Pipeline.ΦD osem spec0 H0 (V m) c : sProp (MT nD τ sig Unit (Elt F) ℕ (UD sig nD τ) ℕ)) ⊣⊢ Rest m c := by
  rw [Pipeline.ΦD_eq, scopedRest0_eq, Pipeline.ownSems0_eq_of_list c osem [0, 1] (by decide) (by decide),
    show (bigSep H0 (fun b => ((c : Thread nD τ).loc b) ↦{fullShare} V m c b) : sProp (MT nD τ sig Unit (Elt F) ℕ (UD sig nD τ) ℕ))
      = iprop((((c : Thread nD τ).loc main_arg2) ↦{fullShare} V m c main_arg2) ∗ (((c : Thread nD τ).loc main_arg4) ↦{fullShare} V m c main_arg4)) from by
        rw [BI.bigSep_eq_bigSepL_of_eq [main_arg2, main_arg4] (by decide) (by decide)]; rfl,
    show (bigSepL [0, 1] (fun k : Fin 2 => semVal ((c : Thread nD τ), osem k) 0) : sProp (MT nD τ sig Unit (Elt F) ℕ (UD sig nD τ) ℕ))
      = iprop(semVal ((c : Thread nD τ), SemLoc.dma (sem0 cc0_scratch3)) 0 ∗ semVal ((c : Thread nD τ), SemLoc.dma (sem1 cc0_scratch3)) 0) from rfl]
  unfold Rest
  simp only [sc0, owns_whole]
  constructor
  · iintro ⟨⟨HS, H1, H2⟩, Hg, ⟨Hs0, Hs1⟩, Ha, Hb⟩
    isplitl [HS]; · iexact HS
    isplitl [H1]; · iexact H1
    isplitl [H2]; · iexact H2
    isplitl [Hs0]; · iexact Hs0
    isplitl [Hs1]; · iexact Hs1
    isplitl [Ha]; · iexact Ha
    isplitl [Hb]; · iexact Hb
    iexact Hg
  · iintro ⟨HS, H1, H2, Hs0, Hs1, Ha, Hb, Hg⟩
    isplitl [HS H1 H2]
    · isplitl [HS]; · iexact HS
      isplitl [H1]; · iexact H1
      iexact H2
    isplitl [Hg]; · iexact Hg
    isplitl [Hs0 Hs1]
    · isplitl [Hs0]; · iexact Hs0
      iexact Hs1
    isplitl [Ha]; · iexact Ha
    iexact Hb

/-- What the launch hands the region is the invariant before the first point, -/
theorem hin (c : Dev nD) : Pipeline.ΦD osem spec0 H0 (V m) c ⊢ (dats m 0 c).Φ 0 := by
  rw [show (dats m 0 c).Φ 0 = Rest m c from rfl]
  exact (PhiD_eq m c).1

/-- and after the last point the invariant gives it back. -/
theorem hout (c : Dev nD) : (dats m 0 c).Φ (Fin.last cfg0.N) ⊢ Pipeline.ΦD osem spec0 H0 (V m) c := by
  rw [show (dats m 0 c).Φ (Fin.last cfg0.N) = PhiS m c cfg0.N from rfl, show PhiS m c cfg0.N = Rest m c from by
    unfold PhiS; exact if_pos (by have : cfg0.N = 112 := N_0; omega)]
  exact (PhiD_eq m c).2

/-- The main program is the host's operations and then the region. -/
theorem hmainD : Pipeline.HMain (Ix := Unit) (Name := ℕ) (U := UD sig nD τ) (Lvl := ℕ) cfgs 0 defs₀ Variants.none m (main (F := F)) (V m) :=
  Pipeline.hmain_prefix cfgs 0 defs₀ Variants.none m main hostOps0 hostOps0_sub hostOps0_fresh main_chain

set_option backward.isDefEq.respectTransparency.types false in
/-- Every run ends with the windows' arrays at what the data name, and with every counter at zero. -/
theorem run_main [∀ e, Nonempty (Elt F e)] : θ_run defs (onTc (τ := τ) (main (F := F))) (s₀ m ρ)
    (fun r => Pipeline.FramePost cfgs (dats m) 0 (V m) r ∧ r.2.sem = fun _ => 0) :=
  Pipeline.θ_run_frame_dma (Q' := _) cfgs (dats m) (0 : Fin 1) launch0 osem defs₀ Variants.none ownSemFacts H0 H0_sub m ρ main
    (hbody := fun c => (body_obligation m c).loose) (hshare := fun c => (dats m 0 c).share_full fun _ => rfl)
    (howed := fun _ _ => rfl) (V := V m) (hmain := hmainD m) (hA := A_eq m) (hin := hin m) (hout := hout m)

/-- What the run leaves: the two results at what the data name, the arguments as launched, every counter at zero. -/
theorem run_post [∀ e, Nonempty (Elt F e)] : θ_run defs (onTc (τ := τ) (main (F := F))) (s₀ m ρ) (fun r => (∀ c : Dev nD,
      (r.2.mem ((c.tc : Thread nD τ).loc main_v10_0) = (dats m 0 c).arrAt 6 cfg0.N
        ∧ r.2.mem ((c.tc : Thread nD τ).loc main_v10_1) = (dats m 0 c).arrAt 7 cfg0.N)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0) :=
  (θ_run defs _ _).mono (fun r h => ⟨fun c => ⟨⟨(h.1 c).1 6, (h.1 c).1 7⟩,
      ((h.1 c).2 main_arg0 (Pipeline.mem_restRefs_of main_arg0 (by decide) (by decide))).trans (V_main_arg0 m c),
      ((h.1 c).1 4).trans (((dats m 0 c).arrAt_in 4 rfl _).trans ((A_eq m c 4).trans (V_main_arg1 m c))),
      ((h.1 c).2 main_arg2 (Pipeline.mem_restRefs_of main_arg2 (by decide) (by decide))).trans (V_main_arg2 m c),
      ((h.1 c).1 5).trans (((dats m 0 c).arrAt_in 5 rfl _).trans ((A_eq m c 5).trans (V_main_arg3 m c))),
      ((h.1 c).2 main_arg4 (Pipeline.mem_restRefs_of main_arg4 (by decide) (by decide))).trans (V_main_arg4 m c)⟩, h.2⟩) (run_main m ρ)

/-- The arguments as launched and every counter at zero. -/
theorem run_frame [∀ e, Nonempty (Elt F e)] : θ_run defs (onTc (τ := τ) (main (F := F))) (s₀ m ρ) (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0) :=
  (θ_run defs _ _).mono (fun r h => ⟨fun c => (h.1 c).2, h.2⟩) (run_post m ρ)

end Cert.Proof.OddDxRun

end
-- ==== Proof.OddDx.lean ====
/-
  The gradient of the odd layer's input projection: what the kernel leaves, the input's gradient tile by tile and the gain's gradient
  added up over the tiles, is what differentiating the norm and the product gives, element by element, and the claim that the two runs
  end at the same arrays.
-/
module

public import proofs.«01_k».proof.Proof.Sums
public import proofs.«01_k».proof.Proof.DxMath
public import proofs.«01_k».proof.Proof.OddDxRun
public import proofs.«01_k».proof.Defs
public import proofs.«01_k».proof.Proof.Gen.Reference8Ideal.Run
public import proofs.«01_k».proof.Proof.Gen.Reference8Ideal.Read
public import proofs.«01_k».proof.Proof.Gen.Kernel8.Launch
public import Idealize.ShloMosaic.Lib.Pipeline.ValueKit.Acc
public import Idealize.ShloMosaic.Lib.Pipeline.ValueKit.Point
public import Idealize.ShloMosaic.Lib.Pipeline.ValueKit.Tiles
public import Idealize.ShloMosaic.Lib.Pipeline.ReadBack
public import Idealize.ShloMosaic.Lib.Pointwise
public import Idealize.ShloMosaic.Lib.Claim
public import Idealize.ShloMosaic.Lib.Tactic

@[expose] public section

set_option maxRecDepth 4096

noncomputable section

namespace Cert.Proof.OddDx

open Idealize.ShloMosaic hiding ix2 ix3 ix4 ix5
open Idealize.ShloMosaic.TcCoe Idealize.SL.Sem
open Cert.Kernel8Ideal Cert.Kernel8Ideal.Gen Cert.Proof.OddDxBody Cert.Proof.OddDxRun Cert.Proof.Sums Cert.Proof.DxMath Idealize.ShloMosaic.ValueIdx
open Idealize.ShloMosaic.Pipeline (Dat Cfg Window)

variable (m : (ℓ : Loc nD τ sig) → Buf (Elt Ideal) ℓ) (ρ : Dev nD → PrngReg)

/-! ## The values -/

/-- The gradient of the normalized rows: the projection's gradient against the weight's rows. -/
def dh (z : S8192x14336.Idx → EReal) (w : S15360x1024.Idx → EReal) (i : Fin 8192) (j : Fin 1024) : EReal :=
  ∑ k : Fin 14336, z (ix2 i k) * w (ix2 (Fin.mk k.val (by omega)) j)

/-- The input's gradient, the residual gradient added. -/
def Gdx (z : S8192x14336.Idx → EReal) (w : S15360x1024.Idx → EReal) (x : S8192x1024.Idx → EReal) (g : S1x1024.Idx → EReal)
    (d : S8192x1024.Idx → EReal) : S8192x1024.Idx → EReal := fun i =>
  rowDx (fun l => x (ix2 (i 0) l)) (fun l => dh z w (i 0) l * g (ix2 0 l)) (d (ix2 (i 0) (i 1))) (i 1)

/-- The gain's gradient. -/
def Gdg (z : S8192x14336.Idx → EReal) (w : S15360x1024.Idx → EReal) (x : S8192x1024.Idx → EReal) : S1x1024.Idx → EReal := fun j =>
  ∑ i : Fin 8192, dh z w i (j 1) * (x (ix2 i (j 1)) * scl (fun l => x (ix2 i l)))

/-- The projection's gradient, -/
abbrev zA (c : Dev nD) : S8192x14336.Idx → EReal := m (((c : Thread nD τ)).loc main_arg0)
/-- the weight's rows, -/
abbrev wA (c : Dev nD) : S15360x1024.Idx → EReal := m (((c : Thread nD τ)).loc main_arg1)
/-- the norm's input, -/
abbrev xA (c : Dev nD) : S8192x1024.Idx → EReal := m (((c : Thread nD τ)).loc main_arg2)
/-- its gain -/
abbrev gA (c : Dev nD) : S1x1024.Idx → EReal := m (((c : Thread nD τ)).loc main_arg3)
/-- and the residual gradient. -/
abbrev dA (c : Dev nD) : S8192x1024.Idx → EReal := m (((c : Thread nD τ)).loc main_arg4)

/-! ## The payloads -/

/-- The zero block the accumulator starts from. -/
theorem zero_apply (j : S1024x1024.Idx) : k0_pay23 (F := Ideal) j = 0 := by
  unfold k0_pay23
  rw [shapeCast_self]
  exact Ideal.ofBits_zero_f32

/-- The accumulator with a block product added. -/
theorem acc_apply (b : Vec Ideal S1024x1024 .f32) (x : Vec Ideal S1024x1024 .bf16) (y : Vec Ideal S1024x1024 .bf16) (j : S1024x1024.Idx) :
    k0_pay3 (F := Ideal) b x y j = b j + ∑ k : Fin 1024, x (ix2 (j 0) k) * y (ix2 k (j 1)) := by
  unfold k0_pay3
  simp only [shapeCast_self]
  rw [addf_apply, matmul_sum dot_S1024x1024_S1024x1024_S1024x1024_1_0_0_1_n_n 1024 rfl rfl _ _ _ j
    (fun k => ix2 (j 0) k) (fun k => ix2 k (j 1))
    (fun q k hk a => by
      match a with
      | ⟨0, _⟩ => rfl
      | ⟨1, _⟩ => exact (dot_S1024x1024_S1024x1024_S1024x1024_1_0_0_1_n_n.lhsIdx_val_of_single rfl j q).trans hk)
    (fun q k hk a => by
      match a with
      | ⟨0, _⟩ => exact (dot_S1024x1024_S1024x1024_S1024x1024_1_0_0_1_n_n.rhsIdx_val_of_single rfl j q).trans hk
      | ⟨1, _⟩ => rfl), constant_apply, Ideal.ofBits_zero_f32, zero_add]

/-- A chunk of 256 rows of the input's gradient, -/
theorem dx_apply (v a : Vec Ideal S256x1024 .f32) (g : Vec Ideal S1x1024 .f32) (d : Vec Ideal S256x1024 .f32) (p : Fin 256) (q : Fin 1024) :
    k0_pay10 (F := Ideal) v a g d (ix2 p q)
      = rowDx (fun l => v (ix2 p l)) (fun l => a (ix2 p l) * g (ix2 0 l)) (d (ix2 p q)) q := by
  unfold k0_pay10 k0_pay9 k0_pay8 rowDx scl msq
  pointwise
  rfl

/-- and what it adds to the gain's gradient. -/
theorem dg_apply (v a : Vec Ideal S256x1024 .f32) (q : Fin 1024) :
    k0_pay11 (F := Ideal) v a (ix2 0 q) = ∑ p : Fin 256, a (ix2 p q) * (v (ix2 p q) * scl (fun l => v (ix2 p l))) := by
  unfold k0_pay11 k0_pay9 k0_pay8 scl msq
  pointwise
  rfl

/-! ## A row tile -/

/-- The rows a chunk takes of a tile. -/
theorem ld_apply (u : Vec Ideal S1024x1024 .f32) (o : ℕ) (inb : ∀ a, (![o, 0] : Fin 2 → ℕ) a + S256x1024.size a ≤ S1024x1024.size a)
    (p : Fin 256) (l : Fin 1024) (i : Fin 1024) (hi : i.val = o + p.val) :
    View.ld u (Rect.unit (s := S1024x1024) ![o, 0] S256x1024.size inb) (ix2 p l) = u (ix2 i l) :=
  View.ld_unit_apply_of u _ _ inb _ _ (fun a => by
    match a with
    | ⟨0, _⟩ => exact hi
    | ⟨1, _⟩ => show l.val = 0 + l.val; omega)

/-- The input's gradient over a tile, entry by entry. -/
def tileG (x dr a : Vec Ideal S1024x1024 .f32) (g : Vec Ideal S1x1024 .f32) : Vec Ideal S1024x1024 .f32 := fun y =>
  (rowDx (fun l => x (ix2 (y 0) l)) (fun l => a (ix2 (y 0) l) * g (ix2 0 l)) (dr (ix2 (y 0) (y 1))) (y 1) : EReal)

/-- A tile's entry. -/
theorem dxTile_apply (x dr a : Vec Ideal S1024x1024 .f32) (g : Vec Ideal S1x1024 .f32) (y : S1024x1024.Idx) :
    dxTile (F := Ideal) x dr a g y = tileG x dr a g y := by
  have key : ∀ (o : ℕ) (inb) (z : S256x1024.Idx), k0_pay10 (F := Ideal) (View.ld x (Rect.unit (s := S1024x1024) ![o, 0] S256x1024.size inb))
      (View.ld a (Rect.unit (s := S1024x1024) ![o, 0] S256x1024.size inb)) g (View.ld dr (Rect.unit (s := S1024x1024) ![o, 0] S256x1024.size inb)) z
      = tileG x dr a g ((Rect.unit (s := S1024x1024) ![o, 0] S256x1024.size inb).emb z) := by
    intro o inb z
    obtain ⟨p, q, rfl⟩ : ∃ (p : Fin 256) (q : Fin 1024), z = ix2 p q := ⟨z 0, z 1, funext fun a => by match a with | ⟨0, _⟩ => rfl | ⟨1, _⟩ => rfl⟩
    have e : ∀ (u : Vec Ideal S1024x1024 .f32) (l : Fin 1024), View.ld u (Rect.unit (s := S1024x1024) ![o, 0] S256x1024.size inb) (ix2 p l)
        = u (ix2 ((Rect.unit (s := S1024x1024) ![o, 0] S256x1024.size inb).emb (ix2 p q) 0) l) := fun u l =>
      ld_apply u o inb p l _ (by show o + 1 * p.val = o + p.val; omega)
    have eq : (Rect.unit (s := S1024x1024) ![o, 0] S256x1024.size inb).emb (ix2 p q) 1 = q := Fin.ext (by show 0 + 1 * q.val = q.val; omega)
    exact (dx_apply _ _ _ _ p q).trans (rowDx_congr (funext fun l => e x l) (funext fun l => congrArg (· * g (ix2 0 l)) (e a l))
      ((e dr q).trans (congrArg (fun b => dr (ix2 _ b)) eq.symm)) eq.symm)
  have H := View.canon_apply_of_pieces (tileG x dr a g) (dxPieces (F := Ideal) x dr a g) (fun p hp z => by
    unfold dxPieces at hp
    simp only [List.mem_cons, List.not_mem_nil, or_false] at hp
    rcases hp with rfl | rfl | rfl | rfl
    · exact key 768 _ z
    · exact key 512 _ z
    · exact key 256 _ z
    · exact key 0 _ z) y (cover4 _ _ _ _ _)
  exact H

/-- What a tile adds to the gain's gradient. -/
def tileS (x a : Vec Ideal S1024x1024 .f32) (q : Fin 1024) : EReal :=
  ∑ i : Fin 1024, a (ix2 i q) * (x (ix2 i q) * scl (fun l => x (ix2 i l)))

/-- The first tile's gradient is four chunks' added up, -/
theorem dgFirst_eq (x a : Vec Ideal S1024x1024 .f32) (j : S1x1024.Idx) : dgFirst (F := Ideal) x a j
    = k0_pay7 (F := Ideal) j
      + k0_pay11 (F := Ideal) (View.ld x (Rect.unit (s := S1024x1024) ![0, 0] S256x1024.size inb_S1024x1024_S256x1024_0_0)) (View.ld a (Rect.unit (s := S1024x1024) ![0, 0] S256x1024.size inb_S1024x1024_S256x1024_0_0)) j
      + k0_pay11 (F := Ideal) (View.ld x (Rect.unit (s := S1024x1024) ![256, 0] S256x1024.size inb_S1024x1024_S256x1024_256_0)) (View.ld a (Rect.unit (s := S1024x1024) ![256, 0] S256x1024.size inb_S1024x1024_S256x1024_256_0)) j
      + k0_pay11 (F := Ideal) (View.ld x (Rect.unit (s := S1024x1024) ![512, 0] S256x1024.size inb_S1024x1024_S256x1024_512_0)) (View.ld a (Rect.unit (s := S1024x1024) ![512, 0] S256x1024.size inb_S1024x1024_S256x1024_512_0)) j
      + k0_pay11 (F := Ideal) (View.ld x (Rect.unit (s := S1024x1024) ![768, 0] S256x1024.size inb_S1024x1024_S256x1024_768_0)) (View.ld a (Rect.unit (s := S1024x1024) ![768, 0] S256x1024.size inb_S1024x1024_S256x1024_768_0)) j := rfl

/-- every other tile adds the same to what it finds, -/
theorem dgNext_eq (x a : Vec Ideal S1024x1024 .f32) (p : Vec Ideal S1x1024 .f32) (j : S1x1024.Idx) :
    dgNext (F := Ideal) x a p j = p j + dgFirst (F := Ideal) x a j := by
  unfold dgNext k0_pay6
  rw [shapeCast_self]
  rfl

/-- and the four chunks are the tile's rows. -/
theorem dgFirst_apply (x a : Vec Ideal S1024x1024 .f32) (q : Fin 1024) : dgFirst (F := Ideal) x a (ix2 0 q) = tileS x a q := by
  have key : ∀ (o : ℕ) (inb) (s : ℕ) (hs : o = s * 256) (h4 : s < 4), k0_pay11 (F := Ideal) (View.ld x (Rect.unit (s := S1024x1024) ![o, 0] S256x1024.size inb))
      (View.ld a (Rect.unit (s := S1024x1024) ![o, 0] S256x1024.size inb)) (ix2 0 q)
      = ∑ p : Fin 256, a (ix2 (Fin.mk (s * 256 + p.val) (by omega)) q) * (x (ix2 (Fin.mk (s * 256 + p.val) (by omega)) q)
        * scl (fun l => x (ix2 (Fin.mk (s * 256 + p.val) (by omega)) l))) := by
    intro o inb s hs h4
    rw [dg_apply]
    refine Finset.sum_congr rfl fun p _ => ?_
    have e : ∀ (u : Vec Ideal S1024x1024 .f32) (l : Fin 1024), View.ld u (Rect.unit (s := S1024x1024) ![o, 0] S256x1024.size inb) (ix2 p l)
        = u (ix2 (Fin.mk (s * 256 + p.val) (by omega)) l) := fun u l => ld_apply u o inb p l _ (by show s * 256 + p.val = o + p.val; omega)
    exact congrArg₂ (· * ·) (e a q) (congrArg₂ (· * ·) (e x q) (congrArg scl (funext fun l => e x l)))
  have z0 : k0_pay7 (F := Ideal) (ix2 0 q) = 0 := Ideal.ofBits_zero_f32
  rw [dgFirst_eq, z0, key 0 _ 0 rfl (by omega), key 256 _ 1 rfl (by omega), key 512 _ 2 rfl (by omega), key 768 _ 3 rfl (by omega), zero_add]
  unfold tileS
  refine Eq.trans ?_ (Fin.sum_mul_add_congr (S := 4) (n := 256) (F := fun s p => a (ix2 (Fin.mk (s.val * 256 + p.val) (by omega)) q)
    * (x (ix2 (Fin.mk (s.val * 256 + p.val) (by omega)) q) * scl (fun l => x (ix2 (Fin.mk (s.val * 256 + p.val) (by omega)) l))))
    (fun s k hl => rfl))
  rw [Fin.sum_univ_four]
  rfl

/-! ## The blocks -/

/-- The first source's block at point `t`, -/
def s1Blk (c : Dev nD) (t : Fin cfg0.N) : S1x1024x1024.Idx → EReal := iblk m c 0 t
/-- the second source's, -/
def s2Blk (c : Dev nD) (t : Fin cfg0.N) : S1x1024x1024.Idx → EReal := iblk m c 1 t
/-- the third source's, -/
def s3Blk (c : Dev nD) (t : Fin cfg0.N) : S1x1024x1024.Idx → EReal := iblk m c 2 t
/-- the last source's, -/
def s4Blk (c : Dev nD) (t : Fin cfg0.N) : S1024x1024.Idx → EReal := iblk m c 3 t
/-- the weight's -/
def wBlk (c : Dev nD) (t : Fin cfg0.N) : S1024x1024.Idx → EReal := iblk m c 4 t
/-- and the gain's. -/
def gBlk (c : Dev nD) (t : Fin cfg0.N) : S1x1024.Idx → EReal := iblk m c 5 t

/-- Where the weight's and the gain's blocks lie, decided over the grid, -/
theorem idx : ∀ t : Fin cfg0.N, win0_4.index t = ![t.val % 14, 0] ∧ win0_5.index t = ![0, 0] :=
  (by decide +kernel : ∀ t : Fin grid0.N, _)
/-- the results' -/
theorem idxR : ∀ t : Fin cfg0.N, win0_6.index t = ![t.val / 14, 0] ∧ win0_7.index t = ![0, 0] :=
  (by decide +kernel : ∀ t : Fin grid0.N, _)
/-- and the sources' at the points that take them. -/
theorem idxS : ∀ t : Fin cfg0.N, (t.val % 14 < 9 → t.val % 14 % 3 = 0 → win0_0.index t = ![t.val % 14 / 3, t.val / 14, 0])
    ∧ (t.val % 14 < 9 → t.val % 14 % 3 = 1 → win0_1.index t = ![t.val % 14 / 3, t.val / 14, 0])
    ∧ (t.val % 14 < 9 → t.val % 14 % 3 = 2 → win0_2.index t = ![t.val % 14 / 3, t.val / 14, 0])
    ∧ (9 ≤ t.val % 14 → win0_3.index t = ![t.val / 14, t.val % 14 - 9]) :=
  (by decide +kernel : ∀ t : Fin grid0.N, _)

/-- The row of the arrays that a point's block entry stands at, -/
def row (t : Fin cfg0.N) (i : Fin 1024) : Fin 8192 := Fin.mk (t.val / 14 * 1024 + i.val) (by have := lt_of_lt_of_eq t.isLt N_0; omega)
/-- and the column. -/
def col (t : Fin cfg0.N) (k : Fin 1024) : Fin 14336 := Fin.mk (t.val % 14 * 1024 + k.val) (by omega)

/-- The last source's entries are the projection's gradient's, -/
theorem s4Blk_apply (c : Dev nD) (t : Fin cfg0.N) (h : 9 ≤ t.val % 14) (i k : Fin 1024) :
    s4Blk m c t (ix2 i k) = zA m c (ix2 (row t i) (col t k)) := by
  unfold s4Blk iblk
  rw [View.read_apply]
  entry_read
  pointwise
  have := lt_of_lt_of_eq t.isLt N_0
  unfold row col
  blk_ext [iblk, V, (idxS t).2.2.2 h]
  show 9216 + ((t.val % 14 - 9) * 1024 + k.val) = t.val % 14 * 1024 + k.val
  omega

/-- and so are the first source's where its column blocks take it, -/
theorem s1Blk_apply (c : Dev nD) (t : Fin cfg0.N) (h : t.val % 14 < 9) (h' : t.val % 14 % 3 = 0) (i k : Fin 1024) :
    s1Blk m c t (ix3 0 i k) = zA m c (ix2 (row t i) (col t k)) := by
  unfold s1Blk iblk
  rw [View.read_apply]
  entry_read
  pointwise
  have := lt_of_lt_of_eq t.isLt N_0
  unfold row col
  blk_ext [iblk, V, (idxS t).1 h h']
  show t.val % 14 / 3 * 3072 + k.val = t.val % 14 * 1024 + k.val
  omega

/-- and so are the second's, -/
theorem s2Blk_apply (c : Dev nD) (t : Fin cfg0.N) (h : t.val % 14 < 9) (h' : t.val % 14 % 3 = 1) (i k : Fin 1024) :
    s2Blk m c t (ix3 0 i k) = zA m c (ix2 (row t i) (col t k)) := by
  unfold s2Blk iblk
  rw [View.read_apply]
  entry_read
  pointwise
  have := lt_of_lt_of_eq t.isLt N_0
  unfold row col
  blk_ext [iblk, V, (idxS t).2.1 h h']
  show t.val % 14 / 3 * 3072 + 1024 + k.val = t.val % 14 * 1024 + k.val
  omega

/-- and the third's. -/
theorem s3Blk_apply (c : Dev nD) (t : Fin cfg0.N) (h : t.val % 14 < 9) (h' : t.val % 14 % 3 = 2) (i k : Fin 1024) :
    s3Blk m c t (ix3 0 i k) = zA m c (ix2 (row t i) (col t k)) := by
  unfold s3Blk iblk
  rw [View.read_apply]
  entry_read
  pointwise
  have := lt_of_lt_of_eq t.isLt N_0
  unfold row col
  blk_ext [iblk, V, (idxS t).2.2.1 h h']
  show t.val % 14 / 3 * 3072 + 2048 + k.val = t.val % 14 * 1024 + k.val
  omega

/-- An entry of a weight block is the weight's. -/
theorem wBlk_apply (c : Dev nD) (t : Fin cfg0.N) (k j : Fin 1024) :
    wBlk m c t (ix2 k j) = wA m c (ix2 (Fin.mk (t.val % 14 * 1024 + k.val) (by omega)) j) := by
  unfold wBlk iblk
  rw [View.read_apply]
  entry_read
  blk_ext [iblk, V, idx t]

/-- An entry of the gain's block is the gain's. -/
theorem gBlk_apply (c : Dev nD) (t : Fin cfg0.N) (l : Fin 1024) : gBlk m c t (ix2 0 l) = gA m c (ix2 0 l) := by
  unfold gBlk iblk
  rw [View.read_apply]
  entry_read
  blk_ext [iblk, V, idx t]

/-- Where a tile's copies start. -/
theorem off : ∀ t : Fin cfg0.N, k0_off1 (grid0.coords t) = ![t.val / 14 * 1024, 0] := (by decide +kernel : ∀ t : Fin grid0.N, _)

/-- A tile's rows of the norm's input, -/
theorem xRows_apply (c : Dev nD) (r : ℕ) (hr : r < 8) (i l : Fin 1024) :
    xRows m c r (ix2 i l) = xA m c (ix2 (Fin.mk (r * 1024 + i.val) (by omega)) l) := by
  unfold xRows
  rw [V_main_arg2, View.read_apply]
  have o : k0_off1 (grid0.coords (pt (14 * r))) = ![14 * r % 112 / 14 * 1024, 0] := off (pt (14 * r))
  refine congrArg (xA m c) (funext fun a => Fin.ext ?_)
  match a with
  | ⟨0, _⟩ => show k0_off1 (grid0.coords (pt (14 * r))) 0 + 1 * i.val = r * 1024 + i.val; rw [o]; show 14 * r % 112 / 14 * 1024 + 1 * i.val = _; omega
  | ⟨1, _⟩ => show k0_off1 (grid0.coords (pt (14 * r))) 1 + 1 * l.val = l.val; rw [o]; show 0 + 1 * l.val = _; omega

/-- and of the residual gradient. -/
theorem drRows_apply (c : Dev nD) (r : ℕ) (hr : r < 8) (i l : Fin 1024) :
    drRows m c r (ix2 i l) = dA m c (ix2 (Fin.mk (r * 1024 + i.val) (by omega)) l) := by
  unfold drRows
  rw [V_main_arg4, View.read_apply]
  have o : k0_off1 (grid0.coords (pt (14 * r))) = ![14 * r % 112 / 14 * 1024, 0] := off (pt (14 * r))
  refine congrArg (dA m c) (funext fun a => Fin.ext ?_)
  match a with
  | ⟨0, _⟩ => show k0_off1 (grid0.coords (pt (14 * r))) 0 + 1 * i.val = r * 1024 + i.val; rw [o]; show 14 * r % 112 / 14 * 1024 + 1 * i.val = _; omega
  | ⟨1, _⟩ => show k0_off1 (grid0.coords (pt (14 * r))) 1 + 1 * l.val = l.val; rw [o]; show 0 + 1 * l.val = _; omega

/-! ## The accumulation -/

/-- A matrix read out of a stack of one. -/
theorem cast_apply (y : Vec Ideal S1x1024x1024 .bf16) (a b : Fin 1024) :
    shapeCast S1024x1024 y shapeCasts_S1x1024x1024_S1024x1024 (ix2 a b) = y (ix3 0 a b) := by
  pointwise
  rfl

/-- The accumulator with a block product added, the first factor a stack of one matrix. -/
theorem accS_apply (b : Vec Ideal S1024x1024 .f32) (x : Vec Ideal S1x1024x1024 .bf16) (y : Vec Ideal S1024x1024 .bf16) (j : S1024x1024.Idx) :
    k0_pay1 (F := Ideal) b x y j = b j + ∑ k : Fin 1024, x (ix3 0 (j 0) k) * y (ix2 k (j 1)) := by
  have e : k0_pay1 (F := Ideal) b x y = k0_pay3 (F := Ideal) b (shapeCast S1024x1024 x shapeCasts_S1x1024x1024_S1024x1024) y := by
    unfold k0_pay1 k0_pay3
    simp only [shapeCast_self]
  rw [e, acc_apply]
  exact congrArg _ (Finset.sum_congr rfl fun k _ => congrArg (· * _) (cast_apply x (j 0) k))

/-- What point `t` adds to the accumulator. -/
def part (c : Dev nD) (t : Fin cfg0.N) (i j : Fin 1024) : EReal :=
  ∑ k : Fin 1024, zA m c (ix2 (row t i) (col t k)) * wA m c (ix2 (Fin.mk (t.val % 14 * 1024 + k.val) (by omega)) j)

/-- Whichever source it takes, a point adds its part. -/
theorem stepT_apply (c : Dev nD) (t : Fin cfg0.N) (b : Vec Ideal S1024x1024 .f32) (i j : Fin 1024) :
    stepT m c t b (ix2 i j) = b (ix2 i j) + part m c t i j := by
  unfold stepT part
  by_cases h9 : t.val % 14 < 9
  · rw [if_pos h9]
    by_cases h0 : t.val % 14 % 3 = 0
    · rw [if_pos h0]
      exact (accS_apply _ _ _ (ix2 i j)).trans (congrArg _ (Finset.sum_congr rfl fun k _ => congrArg₂ (· * ·) (s1Blk_apply m c t h9 h0 i k) (wBlk_apply m c t k j)))
    · rw [if_neg h0]
      by_cases h1 : t.val % 14 % 3 = 1
      · rw [if_pos h1]
        exact (accS_apply _ _ _ (ix2 i j)).trans (congrArg _ (Finset.sum_congr rfl fun k _ => congrArg₂ (· * ·) (s2Blk_apply m c t h9 h1 i k) (wBlk_apply m c t k j)))
      · rw [if_neg h1]
        exact (accS_apply _ _ _ (ix2 i j)).trans (congrArg _ (Finset.sum_congr rfl fun k _ => congrArg₂ (· * ·) (s3Blk_apply m c t h9 (by omega) i k) (wBlk_apply m c t k j)))
  · rw [if_neg h9]
    exact (acc_apply _ _ _ (ix2 i j)).trans (congrArg _ (Finset.sum_congr rfl fun k _ => congrArg₂ (· * ·) (s4Blk_apply m c t (by omega) i k) (wBlk_apply m c t k j)))

/-- A tile's accumulator after its source blocks is the whole product's entry. -/
theorem acc_eq (c : Dev nD) (r : ℕ) (hr : r < 8) (i j : Fin 1024) :
    accP m c r 13 (ix2 i j) = dh (zA m c) (wA m c) (Fin.mk (r * 1024 + i.val) (by omega)) j := by
  have h : ∀ n, accP m c r n (ix2 i j) = ∑ s ∈ Finset.range (n + 1), part m c (pt (14 * r + s)) i j := by
    intro n
    induction n with
    | zero =>
      rw [Finset.sum_range_one]
      refine (stepT_apply m c _ _ i j).trans ?_
      rw [zero_apply, zero_add]
      rfl
    | succ n ih =>
      rw [Finset.sum_range_succ, ← ih]
      exact stepT_apply m c _ _ i j
  rw [h, Finset.sum_range]
  unfold dh part
  refine Fin.sum_mul_add_congr (S := 13 + 1) (n := 1024) (fun s k hl => ?_)
  have hs : s.val < 14 := s.isLt
  refine congrArg₂ (· * ·) (congrArg (zA m c) (funext fun a => Fin.ext ?_)) (congrArg (wA m c) (funext fun a => Fin.ext ?_))
  · match a with
    | ⟨0, _⟩ => show (14 * r + s.val) % 112 / 14 * 1024 + i.val = r * 1024 + i.val; omega
    | ⟨1, _⟩ => show (14 * r + s.val) % 112 % 14 * 1024 + k.val = s.val * 1024 + k.val; omega
  · match a with
    | ⟨0, _⟩ => show (14 * r + s.val) % 112 % 14 * 1024 + k.val = s.val * 1024 + k.val; omega
    | ⟨1, _⟩ => rfl

/-! ## The results -/

/-- A tile of the input's gradient is the gradient's. -/
theorem tile_eq (c : Dev nD) (r : ℕ) (hr : r < 8) (g : Vec Ideal S1x1024 .f32) (hg : ∀ l : Fin 1024, g (ix2 0 l) = gA m c (ix2 0 l)) (y : S1024x1024.Idx)
    (i : S8192x1024.Idx) (h0 : (i 0).val = r * 1024 + (y 0).val) (h1 : (i 1).val = (y 1).val) :
    dxTile (xRows m c r) (drRows m c r) (accP m c r 13) g y = Gdx (zA m c) (wA m c) (xA m c) (gA m c) (dA m c) i := by
  obtain ⟨p, q, rfl⟩ : ∃ (p : Fin 1024) (q : Fin 1024), y = ix2 p q := ⟨y 0, y 1, funext fun a => by match a with | ⟨0, _⟩ => rfl | ⟨1, _⟩ => rfl⟩
  have e0 : i 0 = (Fin.mk (r * 1024 + p.val) (by omega) : Fin 8192) := Fin.ext h0
  have e1 : i 1 = q := Fin.ext h1
  refine (dxTile_apply _ _ _ _ _).trans ?_
  show rowDx (fun l => xRows m c r (ix2 p l)) (fun l => accP m c r 13 (ix2 p l) * g (ix2 0 l)) (drRows m c r (ix2 p q)) q
    = rowDx (fun l => xA m c (ix2 (i 0) l)) (fun l => dh (zA m c) (wA m c) (i 0) l * gA m c (ix2 0 l)) (dA m c (ix2 (i 0) (i 1))) (i 1)
  rw [e0, e1]
  simp only [xRows_apply m c r hr, drRows_apply m c r hr, acc_eq m c r hr, hg]

/-- What a point writes back of the input's gradient is its block. -/
theorem flushed_dx (c : Dev nD) (t : Fin cfg0.N) : (dats m 0 c).flushed 6 t
    = ((cfg0.win 6).blk t).view.read (Elt Ideal) (Gdx (zA m c) (wA m c) (xA m c) (gA m c) (dA m c)) := by
  show (cfg0.win 6).cut (grid0.coords t) ((dats m 0 c).after 6 t) = _
  rw [after_6]
  funext y
  have hN := lt_of_lt_of_eq t.isLt (N_0 : cfg0.N = 112)
  have e0 : win0_6.index t (0 : Fin 2) = t.val / 14 := congrFun (idxR t).1 0
  have e1 : win0_6.index t (1 : Fin 2) = 0 := congrFun (idxR t).1 1
  have hb0 : (((cfg0.win 6).blk t).view.emb y 0).val = win0_6.index t (0 : Fin 2) * 1024 + 1 * (y 0).val := rfl
  have hb1 : (((cfg0.win 6).blk t).view.emb y 1).val = win0_6.index t (1 : Fin 2) * 1024 + 1 * (y 1).val := rfl
  have hr : ∀ g : S8192x1024.Idx → EReal, (((cfg0.win 6).blk t).view.read (Elt Ideal) g y : EReal) = g (((cfg0.win 6).blk t).view.emb y) := fun g => rfl
  have ha := tile_eq m c (t.val / 14) (by omega) (iblk m c 5 t) (fun l => gBlk_apply m c t l) ((cfg0.win 6).xinj (grid0.coords t) y)
    (((cfg0.win 6).blk t).view.emb y)
    (by show (((cfg0.win 6).blk t).view.emb y 0).val = t.val / 14 * 1024 + (y 0).val; rw [hb0, e0]; omega)
    (by show (((cfg0.win 6).blk t).view.emb y 1).val = (y 1).val; rw [hb1, e1]; omega)
  exact ha.trans (hr _).symm

/-- The input's gradient after the run. -/
theorem final_dx (c : Dev nD) : (dats m 0 c).arrAt 6 cfg0.N = Gdx (zA m c) (wA m c) (xA m c) (gA m c) (dA m c) :=
  (dats m 0 c).arrAt_eq_of_cover 6 _ (fun t _ => flushed_dx m c t) (fun i => by
    have hi0 : (i 0).val < 8192 := (i 0).isLt
    have hi1 : (i 1).val < 1024 := (i 1).isLt
    have hlt : 14 * ((i 0).val / 1024) + 13 < grid0.N := lt_of_lt_of_eq (by omega) N_0.symm
    have ht := (idxR ⟨14 * ((i 0).val / 1024) + 13, hlt⟩).1
    refine ⟨⟨14 * ((i 0).val / 1024) + 13, hlt⟩, (flush0_6 _).mpr (by show (14 * ((i 0).val / 1024) + 13) % 14 = 13; omega), ?_⟩
    have q0 : win0_6.index (⟨14 * ((i 0).val / 1024) + 13, hlt⟩ : Fin grid0.N) (0 : Fin 2) = (i 0).val / 1024 :=
      (congrFun ht 0).trans (by show (14 * ((i 0).val / 1024) + 13) / 14 = (i 0).val / 1024; omega)
    have q1 : win0_6.index (⟨14 * ((i 0).val / 1024) + 13, hlt⟩ : Fin grid0.N) (1 : Fin 2) = 0 := congrFun ht 1
    generalize (⟨14 * ((i 0).val / 1024) + 13, hlt⟩ : Fin grid0.N) = t at q0 q1 ⊢
    show i ∈ ((View.whole main_v10_0).slice (win0_6.rect t)).set
    rw [View.set_slice_whole, Rect.mem_set_unit]
    intro a
    match a with
    | ⟨0, _⟩ => show win0_6.index t (0 : Fin 2) * 1024 ≤ (i 0).val ∧ (i 0).val < win0_6.index t (0 : Fin 2) * 1024 + 1024; omega
    | ⟨1, _⟩ => show win0_6.index t (1 : Fin 2) * 1024 ≤ (i 1).val ∧ (i 1).val < win0_6.index t (1 : Fin 2) * 1024 + 1024; omega)

/-- The gain's gradient after some tiles is their sum, -/
theorem dgK_apply (c : Dev nD) (q : Fin 1024) : ∀ k : ℕ, dgK m c (k + 1) (ix2 0 q) = ∑ s ∈ Finset.range (k + 1), tileS (xRows m c s) (accP m c s 13) q
  | 0 => by
    rw [Finset.sum_range_one]
    exact dgFirst_apply _ _ q
  | k + 1 => by
    rw [Finset.sum_range_succ, ← dgK_apply c q k]
    exact (dgNext_eq _ _ _ _).trans (congrArg _ (dgFirst_apply _ _ q))

/-- and after the last the whole sum over rows. -/
theorem dg_eq (c : Dev nD) (j : S1x1024.Idx) : dgK m c 8 j = Gdg (zA m c) (wA m c) (xA m c) j := by
  obtain ⟨q, rfl⟩ : ∃ q : Fin 1024, j = ix2 0 q := ⟨j 1, funext fun a => by
    match a with
    | ⟨0, _⟩ => exact Fin.ext (by have : (j 0).val < 1 := (j 0).isLt; show (j 0).val = 0; omega)
    | ⟨1, _⟩ => rfl⟩
  rw [dgK_apply m c q 7, Finset.sum_range]
  unfold Gdg tileS
  refine Fin.sum_mul_add_congr (S := 7 + 1) (n := 1024) (fun s i hl => ?_)
  have hs : s.val < 8 := s.isLt
  simp only [acc_eq m c s.val hs, xRows_apply m c s.val hs]

/-- What the last point writes back of the gain's gradient. -/
theorem flushed_dg (c : Dev nD) (t : Fin cfg0.N) (h : t.val % 112 = 111) : (dats m 0 c).flushed 7 t
    = ((cfg0.win 7).blk t).view.read (Elt Ideal) (Gdg (zA m c) (wA m c) (xA m c)) := by
  show (cfg0.win 7).cut (grid0.coords t) ((dats m 0 c).after 7 t) = _
  rw [after_7]
  funext y
  have hN := lt_of_lt_of_eq t.isLt (N_0 : cfg0.N = 112)
  have e0 : win0_7.index t (0 : Fin 2) = 0 := congrFun (idxR t).2 0
  have e1 : win0_7.index t (1 : Fin 2) = 0 := congrFun (idxR t).2 1
  have hb0 : (((cfg0.win 7).blk t).view.emb y 0).val = win0_7.index t (0 : Fin 2) * 1 + 1 * (y 0).val := rfl
  have hb1 : (((cfg0.win 7).blk t).view.emb y 1).val = win0_7.index t (1 : Fin 2) * 1024 + 1 * (y 1).val := rfl
  have hr : ∀ g : S1x1024.Idx → EReal, (((cfg0.win 7).blk t).view.read (Elt Ideal) g y : EReal) = g (((cfg0.win 7).blk t).view.emb y) := fun g => rfl
  have hk : (t.val + 1) / 14 = 8 := by omega
  have ha := dg_eq m c (((cfg0.win 7).xinj (grid0.coords t) y))
  rw [hk]
  refine ha.trans ((congrArg (Gdg (zA m c) (wA m c) (xA m c)) (funext fun a => Fin.ext ?_)).trans (hr _).symm)
  match a with
  | ⟨0, _⟩ => show (y 0).val = (((cfg0.win 7).blk t).view.emb y 0).val; rw [hb0, e0]; omega
  | ⟨1, _⟩ => show (y 1).val = (((cfg0.win 7).blk t).view.emb y 1).val; rw [hb1, e1]; omega

/-- The gain's gradient after the run. -/
theorem final_dg (c : Dev nD) : (dats m 0 c).arrAt 7 cfg0.N = Gdg (zA m c) (wA m c) (xA m c) :=
  (dats m 0 c).arrAt_eq_of_cover 7 _ (fun t ht => flushed_dg m c t ((flush0_7 t).mp ht)) (fun i => by
    have hi0 : (i 0).val < 1 := (i 0).isLt
    have hi1 : (i 1).val < 1024 := (i 1).isLt
    have hlt : 111 < grid0.N := lt_of_lt_of_eq (by omega) N_0.symm
    have ht := (idxR ⟨111, hlt⟩).2
    refine ⟨⟨111, hlt⟩, (flush0_7 _).mpr (by show 111 % 112 = 111; omega), ?_⟩
    have q0 : win0_7.index (⟨111, hlt⟩ : Fin grid0.N) (0 : Fin 2) = 0 := congrFun ht 0
    have q1 : win0_7.index (⟨111, hlt⟩ : Fin grid0.N) (1 : Fin 2) = 0 := congrFun ht 1
    generalize (⟨111, hlt⟩ : Fin grid0.N) = t at q0 q1 ⊢
    show i ∈ ((View.whole main_v10_1).slice (win0_7.rect t)).set
    rw [View.set_slice_whole, Rect.mem_set_unit]
    intro a
    match a with
    | ⟨0, _⟩ => show win0_7.index t (0 : Fin 2) * 1 ≤ (i 0).val ∧ (i 0).val < win0_7.index t (0 : Fin 2) * 1 + 1; omega
    | ⟨1, _⟩ => show win0_7.index t (1 : Fin 2) * 1024 ≤ (i 1).val ∧ (i 1).val < win0_7.index t (1 : Fin 2) * 1024 + 1024; omega)

/-! ## The reference's values -/

open Cert.Reference8Ideal.Read in
/-- The reference's product. -/
theorem ref_dh (z : S8192x14336.Idx → EReal) (w : S15360x1024.Idx → EReal) (i : Fin 8192) (j : Fin 1024) :
    (val_main_v20 (F := Ideal) z w (ix2 i j) : EReal) = dh z w i j := by
  refine (val_main_v20_apply z w (ix2 i j)).trans (Finset.sum_congr rfl fun k _ => congrArg₂ (· * ·) ?_ ?_)
  · exact congrArg z (funext fun a => Fin.ext (by match a with | ⟨0, _⟩ => rfl | ⟨1, _⟩ => rfl))
  · show val_main_v1 (F := Ideal) w (ridx_main_v20 (ix2 i j) k) = _
    rw [val_main_v1_apply, val_main_v0_apply]
    exact congrArg w (funext fun a => Fin.ext (by match a with | ⟨0, _⟩ => rfl | ⟨1, _⟩ => rfl))

open Cert.Reference8Ideal.Read in
/-- Its mean square, -/
theorem ref_msq (x : S8192x1024.Idx → EReal) (i : Fin 8192) : (val_main_v9 (F := Ideal) x (ix2 i 0) : EReal) = msq (fun l => x (ix2 i l)) := by
  rw [val_main_v9_apply, val_main_v7_apply, val_main_v5_apply, val_main_v4_apply, val_main_v6_apply, val_main_v8_apply]
  have e1 : ∀ l : Fin 1024, idx_main_v4 (idx_main_v5 (ix2 i 0)) l = ix2 i l := fun l =>
    funext fun a => by match a with | ⟨0, _⟩ => rfl | ⟨1, _⟩ => rfl
  have e4 : val_main_cst (F := Ideal) (Shape.Idx.first Cert.Reference8Ideal.Gen.h_S_) = (0 : EReal) := Ideal.ofBits_zero_f32
  simp only [e1, val_main_v3_apply]
  rw [e4, zero_add]
  rfl

open Cert.Reference8Ideal.Read in
/-- its scale -/
theorem ref_scl (x : S8192x1024.Idx → EReal) (i : Fin 8192) : (val_main_v10 (F := Ideal) x (ix2 i 0) : EReal) = scl (fun l => x (ix2 i l)) := by
  rw [val_main_v10_apply, ref_msq]
  rfl

open Cert.Reference8Ideal.Read in
/-- and the product's gradient times the gain. -/
theorem ref_h (z : S8192x14336.Idx → EReal) (w : S15360x1024.Idx → EReal) (g : S1x1024.Idx → EReal) (i : Fin 8192) (j : Fin 1024) :
    (val_main_v25 (F := Ideal) z w g (ix2 i j) : EReal) = dh z w i j * g (ix2 0 j) := by
  rw [val_main_v25_apply, ref_dh, val_main_v24_apply]
  exact congrArg (fun t => dh z w i j * g t) (funext fun a => by match a with | ⟨0, _⟩ => rfl | ⟨1, _⟩ => rfl)

open Cert.Reference8Ideal.Read in
/-- What the mean square contributes. -/
theorem ref_P (z : S8192x14336.Idx → EReal) (w : S15360x1024.Idx → EReal) (x : S8192x1024.Idx → EReal) (g : S1x1024.Idx → EReal) (i : Fin 8192) (j : Fin 1024) :
    (val_main_v36 (F := Ideal) z w x g (ix2 i j) : EReal) = rowP (fun l => x (ix2 i l)) (fun l => dh z w i l * g (ix2 0 l)) := by
  rw [val_main_v36_apply, val_main_v35_apply]
  have e4 : val_main_cst_6 (F := Ideal) (Shape.Idx.first Cert.Reference8Ideal.Gen.h_S_) = (0 : EReal) := Ideal.ofBits_zero_f32
  have e5 : val_main_cst_4 (F := Ideal) (Shape.Idx.first Cert.Reference8Ideal.Gen.h_S_) = (0 : EReal) := Ideal.ofBits_zero_f32
  have e1 : idx_main_v35 (idx_main_v36 (ix2 i j)) (0 : Fin 1) = ix2 i 0 := funext fun a => by match a with | ⟨0, _⟩ => rfl | ⟨1, _⟩ => rfl
  have e2 : ∀ l : Fin 1024, idx_main_v27 (idx_main_v28 (ix2 i 0)) l = ix2 i l := fun l =>
    funext fun a => by
      match a with
      | ⟨0, _⟩ => exact Fin.ext (by show i.val * 1 + 0 = i.val; omega)
      | ⟨1, _⟩ => rfl
  rw [e4, zero_add, Fin.sum_univ_one, e1, val_main_v34_apply, val_main_v32_apply, val_main_v28_apply, val_main_v27_apply, e5, zero_add,
    val_main_v13_apply, val_main_v11_apply, ref_scl, ref_msq, val_main_v12_apply, val_main_v33_apply]
  simp only [e2, val_main_v26_apply, ref_h]
  rfl

open Cert.Reference8Ideal.Read in
/-- The reference's gradient of the input. -/
theorem ref_dx (z : S8192x14336.Idx → EReal) (w : S15360x1024.Idx → EReal) (x : S8192x1024.Idx → EReal) (g : S1x1024.Idx → EReal) (d : S8192x1024.Idx → EReal) :
    (val_main_v40 (F := Ideal) z w x g d : S8192x1024.Idx → EReal) = Gdx z w x g d := by
  funext i
  obtain ⟨p, q, rfl⟩ : ∃ (p : Fin 8192) (q : Fin 1024), i = ix2 p q := ⟨i 0, i 1, funext fun a => by match a with | ⟨0, _⟩ => rfl | ⟨1, _⟩ => rfl⟩
  rw [val_main_v40_apply, val_main_v39_apply, val_main_v38_apply, val_main_v37_apply, val_main_v31_apply, val_main_v30_apply, val_main_v29_apply, ref_h, ref_P]
  have e : idx_main_v29 (ix2 p q) = ix2 p 0 := funext fun a => by match a with | ⟨0, _⟩ => rfl | ⟨1, _⟩ => rfl
  rw [e, ref_scl]
  exact rowDx_eq (fun l => x (ix2 p l)) (fun l => dh z w p l * g (ix2 0 l)) (d (ix2 p q)) q

open Cert.Reference8Ideal.Read in
/-- The reference's gradient of the gain. -/
theorem ref_dg (z : S8192x14336.Idx → EReal) (w : S15360x1024.Idx → EReal) (x : S8192x1024.Idx → EReal) :
    (val_main_v23 (F := Ideal) z w x : S1x1024.Idx → EReal) = Gdg z w x := by
  funext j
  obtain ⟨q, rfl⟩ : ∃ q : Fin 1024, j = ix2 0 q := ⟨j 1, funext fun a => by
    match a with
    | ⟨0, _⟩ => exact Fin.ext (by have : (j 0).val < 1 := (j 0).isLt; show (j 0).val = 0; omega)
    | ⟨1, _⟩ => rfl⟩
  rw [val_main_v23_apply, val_main_v22_apply]
  have e4 : val_main_cst_3 (F := Ideal) (Shape.Idx.first Cert.Reference8Ideal.Gen.h_S_) = (0 : EReal) := Ideal.ofBits_zero_f32
  rw [e4, zero_add]
  unfold Gdg
  refine Finset.sum_congr rfl fun k _ => ?_
  have e1 : idx_main_v22 (idx_main_v23 (ix2 0 q)) k = ix2 k q := funext fun a => by
    match a with
    | ⟨0, _⟩ => rfl
    | ⟨1, _⟩ => exact Fin.ext (by show 0 * 1024 + q.val = q.val; omega)
  have e2 : idx_main_v14 (ix2 k q) = ix2 k 0 := funext fun a => by match a with | ⟨0, _⟩ => rfl | ⟨1, _⟩ => rfl
  rw [e1, val_main_v21_apply, ref_dh, val_main_v15_apply, val_main_v14_apply, e2, ref_scl]
  exact mul_comm _ _

/-! ## The claims -/

/-- The odd layer's input projection, backward: from the same arguments the kernel and the reference end at the same two gradients. -/
theorem algebraic : Cert.algebraic_Kernel8Ideal_Reference8Ideal (hKernel8Ideal := Cert.Kernel8Ideal.Gen.facts)
    (hReference8Ideal := Cert.Reference8Ideal.Gen.facts) := by
  intro m g m' g' _ hargs
  refine ⟨fun c => Gdx (zA m c) (wA m c) (xA m c) (gA m c) (dA m c), fun c => Gdg (zA m c) (wA m c) (xA m c),
    (θ_run _ _ _).mono (fun r h c => ⟨(h.1 c).1.1.trans (final_dx m c), (h.1 c).1.2.trans (final_dg m c), (h.1 c).2⟩) (run_post (F := Ideal) m g), ?_⟩
  refine (θ_run _ _ _).mono (fun r h c => ?_) (Cert.Reference8Ideal.Value.run (F := Ideal) m' g')
  obtain ⟨h6, h7, h0, h1, h2, h3, h4⟩ := h c
  obtain ⟨e0, e1, e2, e3, e4⟩ := hargs c
  refine ⟨?_, ?_, h0, h1, h2, h3, h4⟩
  · rw [Cert.Reference8Ideal.Read.val_main_v40_eq, e0, e1, e2, e3, e4] at h6
    exact h6.trans (ref_dx _ _ _ _ _)
  · rw [e0, e1, e2] at h7
    exact h7.trans ((Cert.Reference8Ideal.Read.val_main_v23_eq _ _ _).trans (ref_dg _ _ _))

/-- The kernel's run leaves its arguments alone and every counter at zero, over the ideal numbers. -/
theorem frame_ideal : Cert.quiescent_Kernel8Ideal (hKernel8Ideal := Cert.Kernel8Ideal.Gen.facts) := fun m g _ =>
  run_frame (F := Ideal) m g

attribute [local instance] Cert.Kernel8.Gen.facts Cert.Kernel8Ideal.Gen.facts in
/-- The program over machine words and the program over the ideal numbers have one body table, -/
theorem defs₀_eq : Cert.Kernel8.defs₀ (F := Bits) = Cert.Kernel8Ideal.defs₀ (F := Bits) := by
  unfold Cert.Kernel8.defs₀ Cert.Kernel8Ideal.defs₀
  refine congrArg Defs.onTc ?_
  funext l a
  match l, a with
  | ⟨0, _⟩, (t, s) => rfl
  | ⟨_ + 1, h⟩, _ => exact absurd h (Nat.not_lt.2 (Nat.le_add_left _ _))

attribute [local instance] Cert.Kernel8.Gen.facts Cert.Kernel8Ideal.Gen.facts in
/-- and so one program. -/
theorem defs_eq : Cert.Kernel8.defs (F := Bits) = Cert.Kernel8Ideal.defs (F := Bits) :=
  congrArg (Pipeline.defs Cert.Kernel8Ideal.pcfgs) defs₀_eq

/-- The same over machine words, of the program as printed. -/
theorem frame_kernel : Cert.quiescent_Kernel8 (hKernel8 := Cert.Kernel8.Gen.facts) := fun m g _ => by
  rw [defs_eq]
  exact run_frame (F := Bits) m g

/-- The reference's run leaves its arguments alone; it declares no counter. -/
theorem frame_reference : Cert.quiescent_Reference8Ideal (hReference8Ideal := Cert.Reference8Ideal.Gen.facts) := fun m g _ =>
  (θ_run Cert.Reference8Ideal.defs _ _).mono (fun r h => ⟨fun c => (h c).2.2, sem_eq_zero_of_no_sems (by decide) r.2⟩)
    (Cert.Reference8Ideal.Value.run (F := Ideal) m g)

end Cert.Proof.OddDx

end
-- ==== Proof.AdamStep.lean ====
/-
  One step of the optimiser on one entry: the two moments and the change of the weight, as functions of the gradient, the weight and the
  moments before. The kernels and the reference apply these same functions at every entry.
-/
module

public import Idealize.ShloMosaic.PureOps.Ideal.Laws

@[expose] public section

noncomputable section

namespace Cert.Proof.AdamStep

open Idealize.ShloMosaic

/-- The first moment after the step, from the gradient and the moment before. -/
def mom (g x : EReal) : EReal :=
  FloatOps.addf (F := Ideal) (φ := .f32) (FloatOps.mulf (F := Ideal) (φ := .f32) (FloatOps.ofBits .f32 0x3F666666#32) x)
    (FloatOps.mulf (F := Ideal) (φ := .f32) (FloatOps.ofBits .f32 0x3DCCCCCD#32) g)

/-- The second moment after the step. -/
def sqm (g x : EReal) : EReal :=
  FloatOps.addf (F := Ideal) (φ := .f32) (FloatOps.mulf (F := Ideal) (φ := .f32) (FloatOps.ofBits .f32 0x3F7FBE77#32) x)
    (FloatOps.mulf (F := Ideal) (φ := .f32) (FloatOps.ofBits .f32 0x3A83126F#32) (FloatOps.mulf (F := Ideal) (φ := .f32) g g))

/-- The change of the weight. -/
def delta (g w x y : EReal) : EReal :=
  FloatOps.mulf (F := Ideal) (φ := .f32) (FloatOps.ofBits .f32 0xBA83126F#32)
    (FloatOps.addf (F := Ideal) (φ := .f32)
      (FloatOps.divf (F := Ideal) (φ := .f32) (FloatOps.divf (F := Ideal) (φ := .f32) (mom g x) (FloatOps.ofBits .f32 0x3F26BD02#32))
        (FloatOps.addf (F := Ideal) (φ := .f32)
          (FloatOps.sqrt (F := Ideal) (φ := .f32) (FloatOps.divf (F := Ideal) (φ := .f32) (sqm g y) (FloatOps.ofBits .f32 0x3C231ACC#32)))
          (FloatOps.ofBits .f32 0x322BCC77#32)))
      (FloatOps.mulf (F := Ideal) (φ := .f32) (FloatOps.ofBits .f32 0x3C23D70A#32) w))

end Cert.Proof.AdamStep

end
-- ==== Proof.Adam9.lean ====
/-
  The optimiser step of the even input weight: every entry of the four results is the step's own function of the entry's gradient (summed over the devices),
  weight and moments, in the kernel as in the reference.
-/
module

public import proofs.«01_k».proof.Proof.AdamStep
public import proofs.«01_k».proof.Defs
public import proofs.«01_k».proof.Proof.Gen.Kernel9Ideal.Value
public import proofs.«01_k».proof.Proof.Gen.Reference9Ideal.Run
public import proofs.«01_k».proof.Proof.Gen.Reference9Ideal.Read
public import Idealize.ShloMosaic.Lib.Pipeline.ValueKit.Acc
public import Idealize.ShloMosaic.Lib.Pipeline.ValueKit.Point
public import Idealize.ShloMosaic.Lib.Claim
public import Idealize.ShloMosaic.Lib.Tactic

@[expose] public section

noncomputable section

namespace Cert.Proof.Adam9

open Idealize.ShloMosaic hiding ix2 ix3 addf_apply
open Idealize.ShloMosaic.TcCoe Idealize.SL.Sem
open Cert.Kernel9Ideal Cert.Kernel9Ideal.Gen Cert.Proof.AdamStep Idealize.ShloMosaic.ValueIdx
open Idealize.ShloMosaic.Pipeline (Dat Cfg Window)

variable (m : (ℓ : Loc nD τ sig) → Buf (Elt Ideal) ℓ) (ρ : Dev nD → PrngReg)

/-- The gradients of the devices at launch, -/
def gA (c : Dev nD) : S8x1024x640.Idx → EReal := m ((c : Thread nD τ).loc main_arg0)
/-- the weight, -/
def wA (c : Dev nD) : S1024x640.Idx → EReal := m ((c : Thread nD τ).loc main_arg1)
/-- the first moment -/
def mA (c : Dev nD) : S1024x640.Idx → EReal := m ((c : Thread nD τ).loc main_arg2)
/-- and the second. -/
def vA (c : Dev nD) : S1024x640.Idx → EReal := m ((c : Thread nD τ).loc main_arg3)

/-- The gradient summed over the devices, -/
def G4 (g : S8x1024x640.Idx → EReal) : S1024x640.Idx → EReal := fun i => ∑ k : Fin 8, g (ix3 k (i 0) (i 1))
/-- the change of the weight, -/
def G5 (g : S8x1024x640.Idx → EReal) (w x y : S1024x640.Idx → EReal) : S1024x640.Idx → EReal := fun i => delta (G4 g i) (w i) (x i) (y i)
/-- the first moment after the step -/
def G6 (g : S8x1024x640.Idx → EReal) (x : S1024x640.Idx → EReal) : S1024x640.Idx → EReal := fun i => mom (G4 g i) (x i)
/-- and the second. -/
def G7 (g : S8x1024x640.Idx → EReal) (y : S1024x640.Idx → EReal) : S1024x640.Idx → EReal := fun i => sqm (G4 g i) (y i)

/-! ## The body -/

/-- The first moment's payload, -/
theorem mom_apply (g x : Vec Ideal S128x640 .f32) (j : S128x640.Idx) : k0_pay1 (F := Ideal) g x j = mom (g j) (x j) := rfl
/-- the second's -/
theorem sqm_apply (g x : Vec Ideal S128x640 .f32) (j : S128x640.Idx) : k0_pay2 (F := Ideal) g x j = sqm (g j) (x j) := rfl
/-- and the change's, entry by entry. -/
theorem delta_apply (g w x y : Vec Ideal S128x640 .f32) (j : S128x640.Idx) : k0_pay3 (F := Ideal) g w x y j = delta (g j) (w j) (x j) (y j) := rfl

/-- The offset of a whole block. -/
theorem hz : (![0, 0] : Fin 2 → Nat) = fun _ => 0 := funext fun a => by fin_cases a <;> rfl

/-- One device's slice as a matrix. -/
theorem cast_apply (y : Vec Ideal S1x128x640 .bf16) (j : S128x640.Idx) :
    extf (F := Ideal) .f32 (shapeCast S128x640 y shapeCasts_S1x128x640_S128x640) bitsLt_bf16_f32 j = y (ix3 0 (j 0) (j 1)) := by
  obtain ⟨p, q, rfl⟩ : ∃ (p : Fin 128) (q : Fin 640), j = ix2 p q := ⟨j 0, j 1, funext fun a => by match a with | ⟨0, _⟩ => rfl | ⟨1, _⟩ => rfl⟩
  show shapeCast S128x640 y shapeCasts_S1x128x640_S128x640 (ix2 p q) = y (ix3 0 p q)
  pointwise
  rfl

/-- The block of the gradient that the body sums over the devices. -/
def gS (g : Vec Ideal S8x128x640 .bf16) : Vec Ideal S128x640 .f32 :=
  k0_pay4 (F := Ideal) (View.ld g r0_0) (View.ld g r0_1) (View.ld g r0_2) (View.ld g r0_3) (View.ld g r0_4) (View.ld g r0_5) (View.ld g r0_6) (View.ld g r0_7)

/-- It is the sum of the devices' entries. -/
theorem gS_apply (g : Vec Ideal S8x128x640 .bf16) (j : S128x640.Idx) : gS g j = ∑ k : Fin 8, (g (ix3 k (j 0) (j 1)) : EReal) := by
  unfold gS k0_pay4
  simp only [addf_apply, cast_apply]
  rw [Fin.sum_univ_eight]
  refine congrArg₂ (· + ·) (congrArg₂ (· + ·) (congrArg₂ (· + ·) (congrArg₂ (· + ·) (congrArg₂ (· + ·) (congrArg₂ (· + ·) (congrArg₂ (· + ·) ?_ ?_) ?_) ?_) ?_) ?_) ?_) ?_
  all_goals
    refine congrArg g (funext fun a => Fin.ext ?_)
    match a with
    | ⟨0, _⟩ => rfl
    | ⟨1, _⟩ => show 0 + 1 * (j 0).val = (j 0).val; omega
    | ⟨2, _⟩ => show 0 + 1 * (j 1).val = (j 1).val; omega

/-- What the body leaves in the four results' blocks. -/
theorem out4_eq (g : Vec Ideal S8x128x640 .bf16) (w x y : Vec Ideal S128x640 .f32) : out0_4 (F := Ideal) g w x y = gS g := by
  unfold out0_4 gS
  rw [View.canon_unit_zero hz]
theorem out5_eq (g : Vec Ideal S8x128x640 .bf16) (w x y : Vec Ideal S128x640 .f32) : out0_5 (F := Ideal) g w x y = k0_pay3 (F := Ideal) (gS g) w x y := by
  unfold out0_5 k0_pay5 gS
  rw [View.canon_unit_zero hz, View.ld_unit_zero (S := S128x640) hz _ w, View.ld_unit_zero (S := S128x640) hz _ x, View.ld_unit_zero (S := S128x640) hz _ y]
theorem out6_eq (g : Vec Ideal S8x128x640 .bf16) (w x y : Vec Ideal S128x640 .f32) : out0_6 (F := Ideal) g w x y = k0_pay1 (F := Ideal) (gS g) x := by
  unfold out0_6 k0_pay5 gS
  rw [View.canon_unit_zero hz, View.ld_unit_zero (S := S128x640) hz _ x]
theorem out7_eq (g : Vec Ideal S8x128x640 .bf16) (w x y : Vec Ideal S128x640 .f32) : out0_7 (F := Ideal) g w x y = k0_pay2 (F := Ideal) (gS g) y := by
  unfold out0_7 k0_pay5 gS
  rw [View.canon_unit_zero hz, View.ld_unit_zero (S := S128x640) hz _ y]

/-! ## The blocks -/

/-- Where the windows' blocks lie, decided over the grid. -/
theorem idx : ∀ t : Fin cfg0.N, win0_0.index t = ![0, t.val, 0] ∧ win0_1.index t = ![t.val, 0] ∧ win0_2.index t = ![t.val, 0] ∧ win0_3.index t = ![t.val, 0] :=
  (by decide +kernel : ∀ t : Fin grid0.N, _)
theorem idxR : ∀ t : Fin cfg0.N, win0_4.index t = ![t.val, 0] ∧ win0_5.index t = ![t.val, 0] ∧ win0_6.index t = ![t.val, 0] ∧ win0_7.index t = ![t.val, 0] :=
  (by decide +kernel : ∀ t : Fin grid0.N, _)

/-- The input blocks at point `t`. -/
def gB (c : Dev nD) (t : Fin cfg0.N) : S8x128x640.Idx → EReal := iblk m c 0 t
def wB (c : Dev nD) (t : Fin cfg0.N) : S128x640.Idx → EReal := iblk m c 1 t
def mB (c : Dev nD) (t : Fin cfg0.N) : S128x640.Idx → EReal := iblk m c 2 t
def vB (c : Dev nD) (t : Fin cfg0.N) : S128x640.Idx → EReal := iblk m c 3 t

/-- An entry of a block is the array's entry. -/
theorem gB_apply (c : Dev nD) (t : Fin cfg0.N) (y : S128x640.Idx) (i : S1024x640.Idx) (h0 : (i 0).val = t.val * 128 + (y 0).val) (h1 : (i 1).val = (y 1).val) :
    (gS (gB m c t) y : EReal) = G4 (gA m c) i := by
  refine (gS_apply _ y).trans (Finset.sum_congr rfl fun k _ => ?_)
  have e : win0_0.index t = ![0, t.val, 0] := (idx t).1
  show V m c main_arg0 (((cfg0.win 0).blk t).view.emb (ix3 k (y 0) (y 1))) = gA m c (ix3 k (i 0) (i 1))
  rw [V_main_arg0]
  refine congrArg (gA m c) (funext fun a => Fin.ext ?_)
  match a with
  | ⟨0, _⟩ => show win0_0.index t (0 : Fin 3) * 8 + 1 * k.val = k.val; rw [e]; show 0 * 8 + 1 * k.val = _; omega
  | ⟨1, _⟩ => show win0_0.index t (1 : Fin 3) * 128 + 1 * (y 0).val = (i 0).val; rw [e]; show t.val * 128 + 1 * (y 0).val = _; omega
  | ⟨2, _⟩ => show win0_0.index t (2 : Fin 3) * 640 + 1 * (y 1).val = (i 1).val; rw [e]; show 0 * 640 + 1 * (y 1).val = _; omega
theorem wB_apply (c : Dev nD) (t : Fin cfg0.N) (y : S128x640.Idx) (i : S1024x640.Idx) (h0 : (i 0).val = t.val * 128 + (y 0).val) (h1 : (i 1).val = (y 1).val) :
    (wB m c t y : EReal) = wA m c i := by
  have e : win0_1.index t = ![t.val, 0] := (idx t).2.1
  show V m c main_arg1 (((cfg0.win 1).blk t).view.emb y) = wA m c i
  rw [V_main_arg1]
  refine congrArg (wA m c) (funext fun a => Fin.ext ?_)
  match a with
  | ⟨0, _⟩ => show win0_1.index t (0 : Fin 2) * 128 + 1 * (y 0).val = (i 0).val; rw [e]; show t.val * 128 + 1 * (y 0).val = _; omega
  | ⟨1, _⟩ => show win0_1.index t (1 : Fin 2) * 640 + 1 * (y 1).val = (i 1).val; rw [e]; show 0 * 640 + 1 * (y 1).val = _; omega
theorem mB_apply (c : Dev nD) (t : Fin cfg0.N) (y : S128x640.Idx) (i : S1024x640.Idx) (h0 : (i 0).val = t.val * 128 + (y 0).val) (h1 : (i 1).val = (y 1).val) :
    (mB m c t y : EReal) = mA m c i := by
  have e : win0_2.index t = ![t.val, 0] := (idx t).2.2.1
  show V m c main_arg2 (((cfg0.win 2).blk t).view.emb y) = mA m c i
  rw [V_main_arg2]
  refine congrArg (mA m c) (funext fun a => Fin.ext ?_)
  match a with
  | ⟨0, _⟩ => show win0_2.index t (0 : Fin 2) * 128 + 1 * (y 0).val = (i 0).val; rw [e]; show t.val * 128 + 1 * (y 0).val = _; omega
  | ⟨1, _⟩ => show win0_2.index t (1 : Fin 2) * 640 + 1 * (y 1).val = (i 1).val; rw [e]; show 0 * 640 + 1 * (y 1).val = _; omega
theorem vB_apply (c : Dev nD) (t : Fin cfg0.N) (y : S128x640.Idx) (i : S1024x640.Idx) (h0 : (i 0).val = t.val * 128 + (y 0).val) (h1 : (i 1).val = (y 1).val) :
    (vB m c t y : EReal) = vA m c i := by
  have e : win0_3.index t = ![t.val, 0] := (idx t).2.2.2
  show V m c main_arg3 (((cfg0.win 3).blk t).view.emb y) = vA m c i
  rw [V_main_arg3]
  refine congrArg (vA m c) (funext fun a => Fin.ext ?_)
  match a with
  | ⟨0, _⟩ => show win0_3.index t (0 : Fin 2) * 128 + 1 * (y 0).val = (i 0).val; rw [e]; show t.val * 128 + 1 * (y 0).val = _; omega
  | ⟨1, _⟩ => show win0_3.index t (1 : Fin 2) * 640 + 1 * (y 1).val = (i 1).val; rw [e]; show 0 * 640 + 1 * (y 1).val = _; omega

/-! ## The results -/

/-- What a point writes back of the gradient is its block, -/
theorem flushed4 (c : Dev nD) (t : Fin cfg0.N) : (dats m 0 c).flushed 4 t = ((cfg0.win 4).blk t).view.read (Elt Ideal) (G4 (gA m c)) := by
  show (cfg0.win 4).cut (grid0.coords t) ((dats m 0 c).after 4 t) = _
  rw [after0_4, out4_eq]
  funext y
  have e0 : win0_4.index t (0 : Fin 2) = t.val := congrFun (idxR t).1 0
  have e1 : win0_4.index t (1 : Fin 2) = 0 := congrFun (idxR t).1 1
  have hb0 : (((cfg0.win 4).blk t).view.emb y 0).val = win0_4.index t (0 : Fin 2) * 128 + 1 * (y 0).val := rfl
  have hb1 : (((cfg0.win 4).blk t).view.emb y 1).val = win0_4.index t (1 : Fin 2) * 640 + 1 * (y 1).val := rfl
  have h0 : (((cfg0.win 4).blk t).view.emb y 0).val = t.val * 128 + (((cfg0.win 4).xinj (grid0.coords t) y) 0).val := by
    show _ = t.val * 128 + (y 0).val
    rw [hb0, e0]; omega
  have h1 : (((cfg0.win 4).blk t).view.emb y 1).val = (((cfg0.win 4).xinj (grid0.coords t) y) 1).val := by
    show _ = (y 1).val
    rw [hb1, e1]; omega
  exact gB_apply m c t _ _ h0 h1

/-- and the array after the run. -/
theorem final4 (c : Dev nD) : (dats m 0 c).arrAt 4 cfg0.N = G4 (gA m c) :=
  (dats m 0 c).arrAt_eq_of_cover 4 _ (fun t _ => flushed4 m c t) (fun i => by
    have hi0 : (i 0).val < 1024 := (i 0).isLt
    have hi1 : (i 1).val < 640 := (i 1).isLt
    have hlt : (i 0).val / 128 < grid0.N := lt_of_lt_of_eq (by omega : _ < 8) N_0.symm
    have ht := (idxR ⟨(i 0).val / 128, hlt⟩).1
    refine ⟨⟨(i 0).val / 128, hlt⟩, flush0_4 _, ?_⟩
    have q0 : win0_4.index (⟨(i 0).val / 128, hlt⟩ : Fin grid0.N) (0 : Fin 2) = (i 0).val / 128 := congrFun ht 0
    have q1 : win0_4.index (⟨(i 0).val / 128, hlt⟩ : Fin grid0.N) (1 : Fin 2) = 0 := congrFun ht 1
    generalize (⟨(i 0).val / 128, hlt⟩ : Fin grid0.N) = t at q0 q1 ⊢
    show i ∈ ((View.whole main_v0_0).slice (win0_4.rect t)).set
    rw [View.set_slice_whole, Rect.mem_set_unit]
    intro a
    match a with
    | ⟨0, _⟩ => show win0_4.index t (0 : Fin 2) * 128 ≤ (i 0).val ∧ (i 0).val < win0_4.index t (0 : Fin 2) * 128 + 128; omega
    | ⟨1, _⟩ => show win0_4.index t (1 : Fin 2) * 640 ≤ (i 1).val ∧ (i 1).val < win0_4.index t (1 : Fin 2) * 640 + 640; omega)

/-- What a point writes back of the weight's change is its block, -/
theorem flushed5 (c : Dev nD) (t : Fin cfg0.N) : (dats m 0 c).flushed 5 t = ((cfg0.win 5).blk t).view.read (Elt Ideal) (G5 (gA m c) (wA m c) (mA m c) (vA m c)) := by
  show (cfg0.win 5).cut (grid0.coords t) ((dats m 0 c).after 5 t) = _
  rw [after0_5, out5_eq]
  funext y
  have e0 : win0_5.index t (0 : Fin 2) = t.val := congrFun (idxR t).2.1 0
  have e1 : win0_5.index t (1 : Fin 2) = 0 := congrFun (idxR t).2.1 1
  have hb0 : (((cfg0.win 5).blk t).view.emb y 0).val = win0_5.index t (0 : Fin 2) * 128 + 1 * (y 0).val := rfl
  have hb1 : (((cfg0.win 5).blk t).view.emb y 1).val = win0_5.index t (1 : Fin 2) * 640 + 1 * (y 1).val := rfl
  have h0 : (((cfg0.win 5).blk t).view.emb y 0).val = t.val * 128 + (((cfg0.win 5).xinj (grid0.coords t) y) 0).val := by
    show _ = t.val * 128 + (y 0).val
    rw [hb0, e0]; omega
  have h1 : (((cfg0.win 5).blk t).view.emb y 1).val = (((cfg0.win 5).xinj (grid0.coords t) y) 1).val := by
    show _ = (y 1).val
    rw [hb1, e1]; omega
  exact (delta_apply _ _ _ _ _).trans (by show delta (gS (gB m c t) _) (wB m c t _) (mB m c t _) (vB m c t _) = delta (G4 (gA m c) _) (wA m c _) (mA m c _) (vA m c _); rw [gB_apply m c t _ _ h0 h1, wB_apply m c t _ _ h0 h1, mB_apply m c t _ _ h0 h1, vB_apply m c t _ _ h0 h1])

/-- and the array after the run. -/
theorem final5 (c : Dev nD) : (dats m 0 c).arrAt 5 cfg0.N = G5 (gA m c) (wA m c) (mA m c) (vA m c) :=
  (dats m 0 c).arrAt_eq_of_cover 5 _ (fun t _ => flushed5 m c t) (fun i => by
    have hi0 : (i 0).val < 1024 := (i 0).isLt
    have hi1 : (i 1).val < 640 := (i 1).isLt
    have hlt : (i 0).val / 128 < grid0.N := lt_of_lt_of_eq (by omega : _ < 8) N_0.symm
    have ht := (idxR ⟨(i 0).val / 128, hlt⟩).2.1
    refine ⟨⟨(i 0).val / 128, hlt⟩, flush0_5 _, ?_⟩
    have q0 : win0_5.index (⟨(i 0).val / 128, hlt⟩ : Fin grid0.N) (0 : Fin 2) = (i 0).val / 128 := congrFun ht 0
    have q1 : win0_5.index (⟨(i 0).val / 128, hlt⟩ : Fin grid0.N) (1 : Fin 2) = 0 := congrFun ht 1
    generalize (⟨(i 0).val / 128, hlt⟩ : Fin grid0.N) = t at q0 q1 ⊢
    show i ∈ ((View.whole main_v0_1).slice (win0_5.rect t)).set
    rw [View.set_slice_whole, Rect.mem_set_unit]
    intro a
    match a with
    | ⟨0, _⟩ => show win0_5.index t (0 : Fin 2) * 128 ≤ (i 0).val ∧ (i 0).val < win0_5.index t (0 : Fin 2) * 128 + 128; omega
    | ⟨1, _⟩ => show win0_5.index t (1 : Fin 2) * 640 ≤ (i 1).val ∧ (i 1).val < win0_5.index t (1 : Fin 2) * 640 + 640; omega)

/-- What a point writes back of the first moment is its block, -/
theorem flushed6 (c : Dev nD) (t : Fin cfg0.N) : (dats m 0 c).flushed 6 t = ((cfg0.win 6).blk t).view.read (Elt Ideal) (G6 (gA m c) (mA m c)) := by
  show (cfg0.win 6).cut (grid0.coords t) ((dats m 0 c).after 6 t) = _
  rw [after0_6, out6_eq]
  funext y
  have e0 : win0_6.index t (0 : Fin 2) = t.val := congrFun (idxR t).2.2.1 0
  have e1 : win0_6.index t (1 : Fin 2) = 0 := congrFun (idxR t).2.2.1 1
  have hb0 : (((cfg0.win 6).blk t).view.emb y 0).val = win0_6.index t (0 : Fin 2) * 128 + 1 * (y 0).val := rfl
  have hb1 : (((cfg0.win 6).blk t).view.emb y 1).val = win0_6.index t (1 : Fin 2) * 640 + 1 * (y 1).val := rfl
  have h0 : (((cfg0.win 6).blk t).view.emb y 0).val = t.val * 128 + (((cfg0.win 6).xinj (grid0.coords t) y) 0).val := by
    show _ = t.val * 128 + (y 0).val
    rw [hb0, e0]; omega
  have h1 : (((cfg0.win 6).blk t).view.emb y 1).val = (((cfg0.win 6).xinj (grid0.coords t) y) 1).val := by
    show _ = (y 1).val
    rw [hb1, e1]; omega
  exact (mom_apply _ _ _).trans (by show mom (gS (gB m c t) _) (mB m c t _) = mom (G4 (gA m c) _) (mA m c _); rw [gB_apply m c t _ _ h0 h1, mB_apply m c t _ _ h0 h1])

/-- and the array after the run. -/
theorem final6 (c : Dev nD) : (dats m 0 c).arrAt 6 cfg0.N = G6 (gA m c) (mA m c) :=
  (dats m 0 c).arrAt_eq_of_cover 6 _ (fun t _ => flushed6 m c t) (fun i => by
    have hi0 : (i 0).val < 1024 := (i 0).isLt
    have hi1 : (i 1).val < 640 := (i 1).isLt
    have hlt : (i 0).val / 128 < grid0.N := lt_of_lt_of_eq (by omega : _ < 8) N_0.symm
    have ht := (idxR ⟨(i 0).val / 128, hlt⟩).2.2.1
    refine ⟨⟨(i 0).val / 128, hlt⟩, flush0_6 _, ?_⟩
    have q0 : win0_6.index (⟨(i 0).val / 128, hlt⟩ : Fin grid0.N) (0 : Fin 2) = (i 0).val / 128 := congrFun ht 0
    have q1 : win0_6.index (⟨(i 0).val / 128, hlt⟩ : Fin grid0.N) (1 : Fin 2) = 0 := congrFun ht 1
    generalize (⟨(i 0).val / 128, hlt⟩ : Fin grid0.N) = t at q0 q1 ⊢
    show i ∈ ((View.whole main_v0_2).slice (win0_6.rect t)).set
    rw [View.set_slice_whole, Rect.mem_set_unit]
    intro a
    match a with
    | ⟨0, _⟩ => show win0_6.index t (0 : Fin 2) * 128 ≤ (i 0).val ∧ (i 0).val < win0_6.index t (0 : Fin 2) * 128 + 128; omega
    | ⟨1, _⟩ => show win0_6.index t (1 : Fin 2) * 640 ≤ (i 1).val ∧ (i 1).val < win0_6.index t (1 : Fin 2) * 640 + 640; omega)

/-- What a point writes back of the second moment is its block, -/
theorem flushed7 (c : Dev nD) (t : Fin cfg0.N) : (dats m 0 c).flushed 7 t = ((cfg0.win 7).blk t).view.read (Elt Ideal) (G7 (gA m c) (vA m c)) := by
  show (cfg0.win 7).cut (grid0.coords t) ((dats m 0 c).after 7 t) = _
  rw [after0_7, out7_eq]
  funext y
  have e0 : win0_7.index t (0 : Fin 2) = t.val := congrFun (idxR t).2.2.2 0
  have e1 : win0_7.index t (1 : Fin 2) = 0 := congrFun (idxR t).2.2.2 1
  have hb0 : (((cfg0.win 7).blk t).view.emb y 0).val = win0_7.index t (0 : Fin 2) * 128 + 1 * (y 0).val := rfl
  have hb1 : (((cfg0.win 7).blk t).view.emb y 1).val = win0_7.index t (1 : Fin 2) * 640 + 1 * (y 1).val := rfl
  have h0 : (((cfg0.win 7).blk t).view.emb y 0).val = t.val * 128 + (((cfg0.win 7).xinj (grid0.coords t) y) 0).val := by
    show _ = t.val * 128 + (y 0).val
    rw [hb0, e0]; omega
  have h1 : (((cfg0.win 7).blk t).view.emb y 1).val = (((cfg0.win 7).xinj (grid0.coords t) y) 1).val := by
    show _ = (y 1).val
    rw [hb1, e1]; omega
  exact (sqm_apply _ _ _).trans (by show sqm (gS (gB m c t) _) (vB m c t _) = sqm (G4 (gA m c) _) (vA m c _); rw [gB_apply m c t _ _ h0 h1, vB_apply m c t _ _ h0 h1])

/-- and the array after the run. -/
theorem final7 (c : Dev nD) : (dats m 0 c).arrAt 7 cfg0.N = G7 (gA m c) (vA m c) :=
  (dats m 0 c).arrAt_eq_of_cover 7 _ (fun t _ => flushed7 m c t) (fun i => by
    have hi0 : (i 0).val < 1024 := (i 0).isLt
    have hi1 : (i 1).val < 640 := (i 1).isLt
    have hlt : (i 0).val / 128 < grid0.N := lt_of_lt_of_eq (by omega : _ < 8) N_0.symm
    have ht := (idxR ⟨(i 0).val / 128, hlt⟩).2.2.2
    refine ⟨⟨(i 0).val / 128, hlt⟩, flush0_7 _, ?_⟩
    have q0 : win0_7.index (⟨(i 0).val / 128, hlt⟩ : Fin grid0.N) (0 : Fin 2) = (i 0).val / 128 := congrFun ht 0
    have q1 : win0_7.index (⟨(i 0).val / 128, hlt⟩ : Fin grid0.N) (1 : Fin 2) = 0 := congrFun ht 1
    generalize (⟨(i 0).val / 128, hlt⟩ : Fin grid0.N) = t at q0 q1 ⊢
    show i ∈ ((View.whole main_v0_3).slice (win0_7.rect t)).set
    rw [View.set_slice_whole, Rect.mem_set_unit]
    intro a
    match a with
    | ⟨0, _⟩ => show win0_7.index t (0 : Fin 2) * 128 ≤ (i 0).val ∧ (i 0).val < win0_7.index t (0 : Fin 2) * 128 + 128; omega
    | ⟨1, _⟩ => show win0_7.index t (1 : Fin 2) * 640 ≤ (i 1).val ∧ (i 1).val < win0_7.index t (1 : Fin 2) * 640 + 640; omega)

/-! ## The reference -/

/-- The reference's sum over the devices, -/
theorem ref4 (g : S8x1024x640.Idx → EReal) : (Cert.Reference9Ideal.Read.val_main_v1 (F := Ideal) g : S1024x640.Idx → EReal) = G4 g := by
  funext i
  refine (Cert.Reference9Ideal.Read.val_main_v1_apply g i).trans ?_
  refine (congrArg (· + _) (Ideal.ofBits_zero_f32 : _ = (0 : EReal))).trans ?_
  rw [zero_add]
  refine Finset.sum_congr rfl fun k _ => congrArg g (funext fun a => Fin.ext ?_)
  match a with
  | ⟨0, _⟩ => rfl
  | ⟨1, _⟩ => rfl
  | ⟨2, _⟩ => rfl

/-- the change of the weight, -/
theorem ref5 (g : S8x1024x640.Idx → EReal) (w x y : S1024x640.Idx → EReal) : (Cert.Reference9Ideal.Read.val_main_v25 (F := Ideal) g w x y : S1024x640.Idx → EReal) = G5 g w x y := by
  unfold G5
  rw [← ref4 g]
  funext i
  simp only [Cert.Reference9Ideal.Read.val_main_cst_0_apply, Cert.Reference9Ideal.Read.val_main_cst_1_apply, Cert.Reference9Ideal.Read.val_main_cst_2_apply, Cert.Reference9Ideal.Read.val_main_cst_3_apply, Cert.Reference9Ideal.Read.val_main_cst_4_apply, Cert.Reference9Ideal.Read.val_main_cst_5_apply, Cert.Reference9Ideal.Read.val_main_cst_6_apply, Cert.Reference9Ideal.Read.val_main_cst_7_apply, Cert.Reference9Ideal.Read.val_main_cst_8_apply, Cert.Reference9Ideal.Read.val_main_cst_apply, Cert.Reference9Ideal.Read.val_main_v10_apply, Cert.Reference9Ideal.Read.val_main_v11_apply, Cert.Reference9Ideal.Read.val_main_v12_apply, Cert.Reference9Ideal.Read.val_main_v13_apply, Cert.Reference9Ideal.Read.val_main_v14_apply, Cert.Reference9Ideal.Read.val_main_v15_apply, Cert.Reference9Ideal.Read.val_main_v16_apply, Cert.Reference9Ideal.Read.val_main_v17_apply, Cert.Reference9Ideal.Read.val_main_v18_apply, Cert.Reference9Ideal.Read.val_main_v19_apply, Cert.Reference9Ideal.Read.val_main_v20_apply, Cert.Reference9Ideal.Read.val_main_v21_apply, Cert.Reference9Ideal.Read.val_main_v22_apply, Cert.Reference9Ideal.Read.val_main_v23_apply, Cert.Reference9Ideal.Read.val_main_v24_apply, Cert.Reference9Ideal.Read.val_main_v25_apply, Cert.Reference9Ideal.Read.val_main_v2_apply, Cert.Reference9Ideal.Read.val_main_v3_apply, Cert.Reference9Ideal.Read.val_main_v4_apply, Cert.Reference9Ideal.Read.val_main_v5_apply, Cert.Reference9Ideal.Read.val_main_v6_apply, Cert.Reference9Ideal.Read.val_main_v7_apply, Cert.Reference9Ideal.Read.val_main_v8_apply, Cert.Reference9Ideal.Read.val_main_v9_apply]
  rfl
/-- the first moment -/
theorem ref6 (g : S8x1024x640.Idx → EReal) (x : S1024x640.Idx → EReal) : (Cert.Reference9Ideal.Read.val_main_v6 (F := Ideal) g x : S1024x640.Idx → EReal) = G6 g x := by
  unfold G6
  rw [← ref4 g]
  funext i
  simp only [Cert.Reference9Ideal.Read.val_main_cst_0_apply, Cert.Reference9Ideal.Read.val_main_cst_1_apply, Cert.Reference9Ideal.Read.val_main_cst_2_apply, Cert.Reference9Ideal.Read.val_main_cst_3_apply, Cert.Reference9Ideal.Read.val_main_cst_4_apply, Cert.Reference9Ideal.Read.val_main_cst_5_apply, Cert.Reference9Ideal.Read.val_main_cst_6_apply, Cert.Reference9Ideal.Read.val_main_cst_7_apply, Cert.Reference9Ideal.Read.val_main_cst_8_apply, Cert.Reference9Ideal.Read.val_main_cst_apply, Cert.Reference9Ideal.Read.val_main_v10_apply, Cert.Reference9Ideal.Read.val_main_v11_apply, Cert.Reference9Ideal.Read.val_main_v12_apply, Cert.Reference9Ideal.Read.val_main_v13_apply, Cert.Reference9Ideal.Read.val_main_v14_apply, Cert.Reference9Ideal.Read.val_main_v15_apply, Cert.Reference9Ideal.Read.val_main_v16_apply, Cert.Reference9Ideal.Read.val_main_v17_apply, Cert.Reference9Ideal.Read.val_main_v18_apply, Cert.Reference9Ideal.Read.val_main_v19_apply, Cert.Reference9Ideal.Read.val_main_v20_apply, Cert.Reference9Ideal.Read.val_main_v21_apply, Cert.Reference9Ideal.Read.val_main_v22_apply, Cert.Reference9Ideal.Read.val_main_v23_apply, Cert.Reference9Ideal.Read.val_main_v24_apply, Cert.Reference9Ideal.Read.val_main_v25_apply, Cert.Reference9Ideal.Read.val_main_v2_apply, Cert.Reference9Ideal.Read.val_main_v3_apply, Cert.Reference9Ideal.Read.val_main_v4_apply, Cert.Reference9Ideal.Read.val_main_v5_apply, Cert.Reference9Ideal.Read.val_main_v6_apply, Cert.Reference9Ideal.Read.val_main_v7_apply, Cert.Reference9Ideal.Read.val_main_v8_apply, Cert.Reference9Ideal.Read.val_main_v9_apply]
  rfl
/-- and the second. -/
theorem ref7 (g : S8x1024x640.Idx → EReal) (y : S1024x640.Idx → EReal) : (Cert.Reference9Ideal.Read.val_main_v12 (F := Ideal) g y : S1024x640.Idx → EReal) = G7 g y := by
  unfold G7
  rw [← ref4 g]
  funext i
  simp only [Cert.Reference9Ideal.Read.val_main_cst_0_apply, Cert.Reference9Ideal.Read.val_main_cst_1_apply, Cert.Reference9Ideal.Read.val_main_cst_2_apply, Cert.Reference9Ideal.Read.val_main_cst_3_apply, Cert.Reference9Ideal.Read.val_main_cst_4_apply, Cert.Reference9Ideal.Read.val_main_cst_5_apply, Cert.Reference9Ideal.Read.val_main_cst_6_apply, Cert.Reference9Ideal.Read.val_main_cst_7_apply, Cert.Reference9Ideal.Read.val_main_cst_8_apply, Cert.Reference9Ideal.Read.val_main_cst_apply, Cert.Reference9Ideal.Read.val_main_v10_apply, Cert.Reference9Ideal.Read.val_main_v11_apply, Cert.Reference9Ideal.Read.val_main_v12_apply, Cert.Reference9Ideal.Read.val_main_v13_apply, Cert.Reference9Ideal.Read.val_main_v14_apply, Cert.Reference9Ideal.Read.val_main_v15_apply, Cert.Reference9Ideal.Read.val_main_v16_apply, Cert.Reference9Ideal.Read.val_main_v17_apply, Cert.Reference9Ideal.Read.val_main_v18_apply, Cert.Reference9Ideal.Read.val_main_v19_apply, Cert.Reference9Ideal.Read.val_main_v20_apply, Cert.Reference9Ideal.Read.val_main_v21_apply, Cert.Reference9Ideal.Read.val_main_v22_apply, Cert.Reference9Ideal.Read.val_main_v23_apply, Cert.Reference9Ideal.Read.val_main_v24_apply, Cert.Reference9Ideal.Read.val_main_v25_apply, Cert.Reference9Ideal.Read.val_main_v2_apply, Cert.Reference9Ideal.Read.val_main_v3_apply, Cert.Reference9Ideal.Read.val_main_v4_apply, Cert.Reference9Ideal.Read.val_main_v5_apply, Cert.Reference9Ideal.Read.val_main_v6_apply, Cert.Reference9Ideal.Read.val_main_v7_apply, Cert.Reference9Ideal.Read.val_main_v8_apply, Cert.Reference9Ideal.Read.val_main_v9_apply]
  rfl

/-- The optimiser step: from the same arguments the kernel and the reference end at the same four arrays. -/
theorem algebraic : Cert.algebraic_Kernel9Ideal_Reference9Ideal (hKernel9Ideal := Cert.Kernel9Ideal.Gen.facts)
    (hReference9Ideal := Cert.Reference9Ideal.Gen.facts) := by
  intro m g m' g' _ hargs
  refine ⟨fun c => G4 (gA m c), fun c => G5 (gA m c) (wA m c) (mA m c) (vA m c), fun c => G6 (gA m c) (mA m c), fun c => G7 (gA m c) (vA m c), ?_, ?_⟩
  · refine (θ_run _ _ _).mono (fun r h c => ?_) (Cert.Kernel9Ideal.Value.run_blocks (F := Ideal) m g)
    obtain ⟨h4, h5, h6, h7, hr⟩ := h c
    exact ⟨h4.trans (final4 m c), h5.trans (final5 m c), h6.trans (final6 m c), h7.trans (final7 m c), hr⟩
  · refine (θ_run _ _ _).mono (fun r h c => ?_) (Cert.Reference9Ideal.Value.run (F := Ideal) m' g')
    obtain ⟨h4, h5, h6, h7, hr⟩ := h c
    obtain ⟨e0, e1, e2, e3⟩ := hargs c
    refine ⟨h4.trans ((Cert.Reference9Ideal.Read.val_main_v1_eq _).trans ?_), h5.trans ((Cert.Reference9Ideal.Read.val_main_v25_eq _ _ _ _).trans ?_), h6.trans ((Cert.Reference9Ideal.Read.val_main_v6_eq _ _).trans ?_), h7.trans ((Cert.Reference9Ideal.Read.val_main_v12_eq _ _).trans ?_), hr⟩
    · rw [e0]; exact ref4 _
    · rw [e0, e1, e2, e3]; exact ref5 _ _ _ _
    · rw [e0, e2]; exact ref6 _ _
    · rw [e0, e3]; exact ref7 _ _

/-- The reference's run leaves its arguments alone; it declares no counter. -/
theorem frame_reference : Cert.quiescent_Reference9Ideal (hReference9Ideal := Cert.Reference9Ideal.Gen.facts) := fun m g _ =>
  (θ_run Cert.Reference9Ideal.defs _ _).mono (fun r h => ⟨fun c => (h c).2.2.2.2, sem_eq_zero_of_no_sems (by decide) r.2⟩)
    (Cert.Reference9Ideal.Value.run (F := Ideal) m g)

end Cert.Proof.Adam9

end
-- ==== Proof.Adam10.lean ====
/-
  The optimiser step of the pooling's group maps: every entry of the four results is the step's own function of the entry's gradient (summed over the devices),
  weight and moments, in the kernel as in the reference.
-/
module

public import proofs.«01_k».proof.Proof.AdamStep
public import proofs.«01_k».proof.Defs
public import proofs.«01_k».proof.Proof.Gen.Kernel10Ideal.Value
public import proofs.«01_k».proof.Proof.Gen.Reference10Ideal.Run
public import proofs.«01_k».proof.Proof.Gen.Reference10Ideal.Read
public import Idealize.ShloMosaic.Lib.Pipeline.ValueKit.Acc
public import Idealize.ShloMosaic.Lib.Pipeline.ValueKit.Point
public import Idealize.ShloMosaic.Lib.Claim
public import Idealize.ShloMosaic.Lib.Tactic

@[expose] public section

noncomputable section

namespace Cert.Proof.Adam10

open Idealize.ShloMosaic hiding ix2 ix3 addf_apply
open Idealize.ShloMosaic.TcCoe Idealize.SL.Sem
open Cert.Kernel10Ideal Cert.Kernel10Ideal.Gen Cert.Proof.AdamStep Idealize.ShloMosaic.ValueIdx
open Idealize.ShloMosaic.Pipeline (Dat Cfg Window)

variable (m : (ℓ : Loc nD τ sig) → Buf (Elt Ideal) ℓ) (ρ : Dev nD → PrngReg)

/-- The gradients of the devices at launch, -/
def gA (c : Dev nD) : S8x128x256.Idx → EReal := m ((c : Thread nD τ).loc main_arg0)
/-- the weight, -/
def wA (c : Dev nD) : S128x256.Idx → EReal := m ((c : Thread nD τ).loc main_arg1)
/-- the first moment -/
def mA (c : Dev nD) : S128x256.Idx → EReal := m ((c : Thread nD τ).loc main_arg2)
/-- and the second. -/
def vA (c : Dev nD) : S128x256.Idx → EReal := m ((c : Thread nD τ).loc main_arg3)

/-- The gradient summed over the devices, -/
def G4 (g : S8x128x256.Idx → EReal) : S128x256.Idx → EReal := fun i => ∑ k : Fin 8, g (ix3 k (i 0) (i 1))
/-- the change of the weight, -/
def G5 (g : S8x128x256.Idx → EReal) (w x y : S128x256.Idx → EReal) : S128x256.Idx → EReal := fun i => delta (G4 g i) (w i) (x i) (y i)
/-- the first moment after the step -/
def G6 (g : S8x128x256.Idx → EReal) (x : S128x256.Idx → EReal) : S128x256.Idx → EReal := fun i => mom (G4 g i) (x i)
/-- and the second. -/
def G7 (g : S8x128x256.Idx → EReal) (y : S128x256.Idx → EReal) : S128x256.Idx → EReal := fun i => sqm (G4 g i) (y i)

/-! ## The body -/

/-- The first moment's payload, -/
theorem mom_apply (g x : Vec Ideal S128x256 .f32) (j : S128x256.Idx) : k0_pay1 (F := Ideal) g x j = mom (g j) (x j) := rfl
/-- the second's -/
theorem sqm_apply (g x : Vec Ideal S128x256 .f32) (j : S128x256.Idx) : k0_pay2 (F := Ideal) g x j = sqm (g j) (x j) := rfl
/-- and the change's, entry by entry. -/
theorem delta_apply (g w x y : Vec Ideal S128x256 .f32) (j : S128x256.Idx) : k0_pay3 (F := Ideal) g w x y j = delta (g j) (w j) (x j) (y j) := rfl

/-- The offset of a whole block. -/
theorem hz : (![0, 0] : Fin 2 → Nat) = fun _ => 0 := funext fun a => by fin_cases a <;> rfl

/-- One device's slice as a matrix. -/
theorem cast_apply (y : Vec Ideal S1x128x256 .bf16) (j : S128x256.Idx) :
    extf (F := Ideal) .f32 (shapeCast S128x256 y shapeCasts_S1x128x256_S128x256) bitsLt_bf16_f32 j = y (ix3 0 (j 0) (j 1)) := by
  obtain ⟨p, q, rfl⟩ : ∃ (p : Fin 128) (q : Fin 256), j = ix2 p q := ⟨j 0, j 1, funext fun a => by match a with | ⟨0, _⟩ => rfl | ⟨1, _⟩ => rfl⟩
  show shapeCast S128x256 y shapeCasts_S1x128x256_S128x256 (ix2 p q) = y (ix3 0 p q)
  pointwise
  rfl

/-- The block of the gradient that the body sums over the devices. -/
def gS (g : Vec Ideal S8x128x256 .bf16) : Vec Ideal S128x256 .f32 :=
  k0_pay4 (F := Ideal) (View.ld g r0_0) (View.ld g r0_1) (View.ld g r0_2) (View.ld g r0_3) (View.ld g r0_4) (View.ld g r0_5) (View.ld g r0_6) (View.ld g r0_7)

/-- It is the sum of the devices' entries. -/
theorem gS_apply (g : Vec Ideal S8x128x256 .bf16) (j : S128x256.Idx) : gS g j = ∑ k : Fin 8, (g (ix3 k (j 0) (j 1)) : EReal) := by
  unfold gS k0_pay4
  simp only [addf_apply, cast_apply]
  rw [Fin.sum_univ_eight]
  refine congrArg₂ (· + ·) (congrArg₂ (· + ·) (congrArg₂ (· + ·) (congrArg₂ (· + ·) (congrArg₂ (· + ·) (congrArg₂ (· + ·) (congrArg₂ (· + ·) ?_ ?_) ?_) ?_) ?_) ?_) ?_) ?_
  all_goals
    refine congrArg g (funext fun a => Fin.ext ?_)
    match a with
    | ⟨0, _⟩ => rfl
    | ⟨1, _⟩ => show 0 + 1 * (j 0).val = (j 0).val; omega
    | ⟨2, _⟩ => show 0 + 1 * (j 1).val = (j 1).val; omega

/-- What the body leaves in the four results' blocks. -/
theorem out4_eq (g : Vec Ideal S8x128x256 .bf16) (w x y : Vec Ideal S128x256 .f32) : out0_4 (F := Ideal) g w x y = gS g := by
  unfold out0_4 gS
  rw [View.canon_unit_zero hz]
theorem out5_eq (g : Vec Ideal S8x128x256 .bf16) (w x y : Vec Ideal S128x256 .f32) : out0_5 (F := Ideal) g w x y = k0_pay3 (F := Ideal) (gS g) w x y := by
  unfold out0_5 k0_pay5 gS
  rw [View.canon_unit_zero hz, View.ld_unit_zero (S := S128x256) hz _ w, View.ld_unit_zero (S := S128x256) hz _ x, View.ld_unit_zero (S := S128x256) hz _ y]
theorem out6_eq (g : Vec Ideal S8x128x256 .bf16) (w x y : Vec Ideal S128x256 .f32) : out0_6 (F := Ideal) g w x y = k0_pay1 (F := Ideal) (gS g) x := by
  unfold out0_6 k0_pay5 gS
  rw [View.canon_unit_zero hz, View.ld_unit_zero (S := S128x256) hz _ x]
theorem out7_eq (g : Vec Ideal S8x128x256 .bf16) (w x y : Vec Ideal S128x256 .f32) : out0_7 (F := Ideal) g w x y = k0_pay2 (F := Ideal) (gS g) y := by
  unfold out0_7 k0_pay5 gS
  rw [View.canon_unit_zero hz, View.ld_unit_zero (S := S128x256) hz _ y]

/-! ## The blocks -/

/-- Where the windows' blocks lie, decided over the grid. -/
theorem idx : ∀ t : Fin cfg0.N, win0_0.index t = ![0, t.val, 0] ∧ win0_1.index t = ![t.val, 0] ∧ win0_2.index t = ![t.val, 0] ∧ win0_3.index t = ![t.val, 0] :=
  (by decide +kernel : ∀ t : Fin grid0.N, _)
theorem idxR : ∀ t : Fin cfg0.N, win0_4.index t = ![t.val, 0] ∧ win0_5.index t = ![t.val, 0] ∧ win0_6.index t = ![t.val, 0] ∧ win0_7.index t = ![t.val, 0] :=
  (by decide +kernel : ∀ t : Fin grid0.N, _)

/-- The input blocks at point `t`. -/
def gB (c : Dev nD) (t : Fin cfg0.N) : S8x128x256.Idx → EReal := iblk m c 0 t
def wB (c : Dev nD) (t : Fin cfg0.N) : S128x256.Idx → EReal := iblk m c 1 t
def mB (c : Dev nD) (t : Fin cfg0.N) : S128x256.Idx → EReal := iblk m c 2 t
def vB (c : Dev nD) (t : Fin cfg0.N) : S128x256.Idx → EReal := iblk m c 3 t

/-- An entry of a block is the array's entry. -/
theorem gB_apply (c : Dev nD) (t : Fin cfg0.N) (y : S128x256.Idx) (i : S128x256.Idx) (h0 : (i 0).val = t.val * 128 + (y 0).val) (h1 : (i 1).val = (y 1).val) :
    (gS (gB m c t) y : EReal) = G4 (gA m c) i := by
  refine (gS_apply _ y).trans (Finset.sum_congr rfl fun k _ => ?_)
  have e : win0_0.index t = ![0, t.val, 0] := (idx t).1
  show V m c main_arg0 (((cfg0.win 0).blk t).view.emb (ix3 k (y 0) (y 1))) = gA m c (ix3 k (i 0) (i 1))
  rw [V_main_arg0]
  refine congrArg (gA m c) (funext fun a => Fin.ext ?_)
  match a with
  | ⟨0, _⟩ => show win0_0.index t (0 : Fin 3) * 8 + 1 * k.val = k.val; rw [e]; show 0 * 8 + 1 * k.val = _; omega
  | ⟨1, _⟩ => show win0_0.index t (1 : Fin 3) * 128 + 1 * (y 0).val = (i 0).val; rw [e]; show t.val * 128 + 1 * (y 0).val = _; omega
  | ⟨2, _⟩ => show win0_0.index t (2 : Fin 3) * 256 + 1 * (y 1).val = (i 1).val; rw [e]; show 0 * 256 + 1 * (y 1).val = _; omega
theorem wB_apply (c : Dev nD) (t : Fin cfg0.N) (y : S128x256.Idx) (i : S128x256.Idx) (h0 : (i 0).val = t.val * 128 + (y 0).val) (h1 : (i 1).val = (y 1).val) :
    (wB m c t y : EReal) = wA m c i := by
  have e : win0_1.index t = ![t.val, 0] := (idx t).2.1
  show V m c main_arg1 (((cfg0.win 1).blk t).view.emb y) = wA m c i
  rw [V_main_arg1]
  refine congrArg (wA m c) (funext fun a => Fin.ext ?_)
  match a with
  | ⟨0, _⟩ => show win0_1.index t (0 : Fin 2) * 128 + 1 * (y 0).val = (i 0).val; rw [e]; show t.val * 128 + 1 * (y 0).val = _; omega
  | ⟨1, _⟩ => show win0_1.index t (1 : Fin 2) * 256 + 1 * (y 1).val = (i 1).val; rw [e]; show 0 * 256 + 1 * (y 1).val = _; omega
theorem mB_apply (c : Dev nD) (t : Fin cfg0.N) (y : S128x256.Idx) (i : S128x256.Idx) (h0 : (i 0).val = t.val * 128 + (y 0).val) (h1 : (i 1).val = (y 1).val) :
    (mB m c t y : EReal) = mA m c i := by
  have e : win0_2.index t = ![t.val, 0] := (idx t).2.2.1
  show V m c main_arg2 (((cfg0.win 2).blk t).view.emb y) = mA m c i
  rw [V_main_arg2]
  refine congrArg (mA m c) (funext fun a => Fin.ext ?_)
  match a with
  | ⟨0, _⟩ => show win0_2.index t (0 : Fin 2) * 128 + 1 * (y 0).val = (i 0).val; rw [e]; show t.val * 128 + 1 * (y 0).val = _; omega
  | ⟨1, _⟩ => show win0_2.index t (1 : Fin 2) * 256 + 1 * (y 1).val = (i 1).val; rw [e]; show 0 * 256 + 1 * (y 1).val = _; omega
theorem vB_apply (c : Dev nD) (t : Fin cfg0.N) (y : S128x256.Idx) (i : S128x256.Idx) (h0 : (i 0).val = t.val * 128 + (y 0).val) (h1 : (i 1).val = (y 1).val) :
    (vB m c t y : EReal) = vA m c i := by
  have e : win0_3.index t = ![t.val, 0] := (idx t).2.2.2
  show V m c main_arg3 (((cfg0.win 3).blk t).view.emb y) = vA m c i
  rw [V_main_arg3]
  refine congrArg (vA m c) (funext fun a => Fin.ext ?_)
  match a with
  | ⟨0, _⟩ => show win0_3.index t (0 : Fin 2) * 128 + 1 * (y 0).val = (i 0).val; rw [e]; show t.val * 128 + 1 * (y 0).val = _; omega
  | ⟨1, _⟩ => show win0_3.index t (1 : Fin 2) * 256 + 1 * (y 1).val = (i 1).val; rw [e]; show 0 * 256 + 1 * (y 1).val = _; omega

/-! ## The results -/

/-- What a point writes back of the gradient is its block, -/
theorem flushed4 (c : Dev nD) (t : Fin cfg0.N) : (dats m 0 c).flushed 4 t = ((cfg0.win 4).blk t).view.read (Elt Ideal) (G4 (gA m c)) := by
  show (cfg0.win 4).cut (grid0.coords t) ((dats m 0 c).after 4 t) = _
  rw [after0_4, out4_eq]
  funext y
  have e0 : win0_4.index t (0 : Fin 2) = t.val := congrFun (idxR t).1 0
  have e1 : win0_4.index t (1 : Fin 2) = 0 := congrFun (idxR t).1 1
  have hb0 : (((cfg0.win 4).blk t).view.emb y 0).val = win0_4.index t (0 : Fin 2) * 128 + 1 * (y 0).val := rfl
  have hb1 : (((cfg0.win 4).blk t).view.emb y 1).val = win0_4.index t (1 : Fin 2) * 256 + 1 * (y 1).val := rfl
  have h0 : (((cfg0.win 4).blk t).view.emb y 0).val = t.val * 128 + (((cfg0.win 4).xinj (grid0.coords t) y) 0).val := by
    show _ = t.val * 128 + (y 0).val
    rw [hb0, e0]; omega
  have h1 : (((cfg0.win 4).blk t).view.emb y 1).val = (((cfg0.win 4).xinj (grid0.coords t) y) 1).val := by
    show _ = (y 1).val
    rw [hb1, e1]; omega
  exact gB_apply m c t _ _ h0 h1

/-- and the array after the run. -/
theorem final4 (c : Dev nD) : (dats m 0 c).arrAt 4 cfg0.N = G4 (gA m c) :=
  (dats m 0 c).arrAt_eq_of_cover 4 _ (fun t _ => flushed4 m c t) (fun i => by
    have hi0 : (i 0).val < 128 := (i 0).isLt
    have hi1 : (i 1).val < 256 := (i 1).isLt
    have hlt : (i 0).val / 128 < grid0.N := lt_of_lt_of_eq (by omega : _ < 1) N_0.symm
    have ht := (idxR ⟨(i 0).val / 128, hlt⟩).1
    refine ⟨⟨(i 0).val / 128, hlt⟩, flush0_4 _, ?_⟩
    have q0 : win0_4.index (⟨(i 0).val / 128, hlt⟩ : Fin grid0.N) (0 : Fin 2) = (i 0).val / 128 := congrFun ht 0
    have q1 : win0_4.index (⟨(i 0).val / 128, hlt⟩ : Fin grid0.N) (1 : Fin 2) = 0 := congrFun ht 1
    generalize (⟨(i 0).val / 128, hlt⟩ : Fin grid0.N) = t at q0 q1 ⊢
    show i ∈ ((View.whole main_v0_0).slice (win0_4.rect t)).set
    rw [View.set_slice_whole, Rect.mem_set_unit]
    intro a
    match a with
    | ⟨0, _⟩ => show win0_4.index t (0 : Fin 2) * 128 ≤ (i 0).val ∧ (i 0).val < win0_4.index t (0 : Fin 2) * 128 + 128; omega
    | ⟨1, _⟩ => show win0_4.index t (1 : Fin 2) * 256 ≤ (i 1).val ∧ (i 1).val < win0_4.index t (1 : Fin 2) * 256 + 256; omega)

/-- What a point writes back of the weight's change is its block, -/
theorem flushed5 (c : Dev nD) (t : Fin cfg0.N) : (dats m 0 c).flushed 5 t = ((cfg0.win 5).blk t).view.read (Elt Ideal) (G5 (gA m c) (wA m c) (mA m c) (vA m c)) := by
  show (cfg0.win 5).cut (grid0.coords t) ((dats m 0 c).after 5 t) = _
  rw [after0_5, out5_eq]
  funext y
  have e0 : win0_5.index t (0 : Fin 2) = t.val := congrFun (idxR t).2.1 0
  have e1 : win0_5.index t (1 : Fin 2) = 0 := congrFun (idxR t).2.1 1
  have hb0 : (((cfg0.win 5).blk t).view.emb y 0).val = win0_5.index t (0 : Fin 2) * 128 + 1 * (y 0).val := rfl
  have hb1 : (((cfg0.win 5).blk t).view.emb y 1).val = win0_5.index t (1 : Fin 2) * 256 + 1 * (y 1).val := rfl
  have h0 : (((cfg0.win 5).blk t).view.emb y 0).val = t.val * 128 + (((cfg0.win 5).xinj (grid0.coords t) y) 0).val := by
    show _ = t.val * 128 + (y 0).val
    rw [hb0, e0]; omega
  have h1 : (((cfg0.win 5).blk t).view.emb y 1).val = (((cfg0.win 5).xinj (grid0.coords t) y) 1).val := by
    show _ = (y 1).val
    rw [hb1, e1]; omega
  exact (delta_apply _ _ _ _ _).trans (by show delta (gS (gB m c t) _) (wB m c t _) (mB m c t _) (vB m c t _) = delta (G4 (gA m c) _) (wA m c _) (mA m c _) (vA m c _); rw [gB_apply m c t _ _ h0 h1, wB_apply m c t _ _ h0 h1, mB_apply m c t _ _ h0 h1, vB_apply m c t _ _ h0 h1])

/-- and the array after the run. -/
theorem final5 (c : Dev nD) : (dats m 0 c).arrAt 5 cfg0.N = G5 (gA m c) (wA m c) (mA m c) (vA m c) :=
  (dats m 0 c).arrAt_eq_of_cover 5 _ (fun t _ => flushed5 m c t) (fun i => by
    have hi0 : (i 0).val < 128 := (i 0).isLt
    have hi1 : (i 1).val < 256 := (i 1).isLt
    have hlt : (i 0).val / 128 < grid0.N := lt_of_lt_of_eq (by omega : _ < 1) N_0.symm
    have ht := (idxR ⟨(i 0).val / 128, hlt⟩).2.1
    refine ⟨⟨(i 0).val / 128, hlt⟩, flush0_5 _, ?_⟩
    have q0 : win0_5.index (⟨(i 0).val / 128, hlt⟩ : Fin grid0.N) (0 : Fin 2) = (i 0).val / 128 := congrFun ht 0
    have q1 : win0_5.index (⟨(i 0).val / 128, hlt⟩ : Fin grid0.N) (1 : Fin 2) = 0 := congrFun ht 1
    generalize (⟨(i 0).val / 128, hlt⟩ : Fin grid0.N) = t at q0 q1 ⊢
    show i ∈ ((View.whole main_v0_1).slice (win0_5.rect t)).set
    rw [View.set_slice_whole, Rect.mem_set_unit]
    intro a
    match a with
    | ⟨0, _⟩ => show win0_5.index t (0 : Fin 2) * 128 ≤ (i 0).val ∧ (i 0).val < win0_5.index t (0 : Fin 2) * 128 + 128; omega
    | ⟨1, _⟩ => show win0_5.index t (1 : Fin 2) * 256 ≤ (i 1).val ∧ (i 1).val < win0_5.index t (1 : Fin 2) * 256 + 256; omega)

/-- What a point writes back of the first moment is its block, -/
theorem flushed6 (c : Dev nD) (t : Fin cfg0.N) : (dats m 0 c).flushed 6 t = ((cfg0.win 6).blk t).view.read (Elt Ideal) (G6 (gA m c) (mA m c)) := by
  show (cfg0.win 6).cut (grid0.coords t) ((dats m 0 c).after 6 t) = _
  rw [after0_6, out6_eq]
  funext y
  have e0 : win0_6.index t (0 : Fin 2) = t.val := congrFun (idxR t).2.2.1 0
  have e1 : win0_6.index t (1 : Fin 2) = 0 := congrFun (idxR t).2.2.1 1
  have hb0 : (((cfg0.win 6).blk t).view.emb y 0).val = win0_6.index t (0 : Fin 2) * 128 + 1 * (y 0).val := rfl
  have hb1 : (((cfg0.win 6).blk t).view.emb y 1).val = win0_6.index t (1 : Fin 2) * 256 + 1 * (y 1).val := rfl
  have h0 : (((cfg0.win 6).blk t).view.emb y 0).val = t.val * 128 + (((cfg0.win 6).xinj (grid0.coords t) y) 0).val := by
    show _ = t.val * 128 + (y 0).val
    rw [hb0, e0]; omega
  have h1 : (((cfg0.win 6).blk t).view.emb y 1).val = (((cfg0.win 6).xinj (grid0.coords t) y) 1).val := by
    show _ = (y 1).val
    rw [hb1, e1]; omega
  exact (mom_apply _ _ _).trans (by show mom (gS (gB m c t) _) (mB m c t _) = mom (G4 (gA m c) _) (mA m c _); rw [gB_apply m c t _ _ h0 h1, mB_apply m c t _ _ h0 h1])

/-- and the array after the run. -/
theorem final6 (c : Dev nD) : (dats m 0 c).arrAt 6 cfg0.N = G6 (gA m c) (mA m c) :=
  (dats m 0 c).arrAt_eq_of_cover 6 _ (fun t _ => flushed6 m c t) (fun i => by
    have hi0 : (i 0).val < 128 := (i 0).isLt
    have hi1 : (i 1).val < 256 := (i 1).isLt
    have hlt : (i 0).val / 128 < grid0.N := lt_of_lt_of_eq (by omega : _ < 1) N_0.symm
    have ht := (idxR ⟨(i 0).val / 128, hlt⟩).2.2.1
    refine ⟨⟨(i 0).val / 128, hlt⟩, flush0_6 _, ?_⟩
    have q0 : win0_6.index (⟨(i 0).val / 128, hlt⟩ : Fin grid0.N) (0 : Fin 2) = (i 0).val / 128 := congrFun ht 0
    have q1 : win0_6.index (⟨(i 0).val / 128, hlt⟩ : Fin grid0.N) (1 : Fin 2) = 0 := congrFun ht 1
    generalize (⟨(i 0).val / 128, hlt⟩ : Fin grid0.N) = t at q0 q1 ⊢
    show i ∈ ((View.whole main_v0_2).slice (win0_6.rect t)).set
    rw [View.set_slice_whole, Rect.mem_set_unit]
    intro a
    match a with
    | ⟨0, _⟩ => show win0_6.index t (0 : Fin 2) * 128 ≤ (i 0).val ∧ (i 0).val < win0_6.index t (0 : Fin 2) * 128 + 128; omega
    | ⟨1, _⟩ => show win0_6.index t (1 : Fin 2) * 256 ≤ (i 1).val ∧ (i 1).val < win0_6.index t (1 : Fin 2) * 256 + 256; omega)

/-- What a point writes back of the second moment is its block, -/
theorem flushed7 (c : Dev nD) (t : Fin cfg0.N) : (dats m 0 c).flushed 7 t = ((cfg0.win 7).blk t).view.read (Elt Ideal) (G7 (gA m c) (vA m c)) := by
  show (cfg0.win 7).cut (grid0.coords t) ((dats m 0 c).after 7 t) = _
  rw [after0_7, out7_eq]
  funext y
  have e0 : win0_7.index t (0 : Fin 2) = t.val := congrFun (idxR t).2.2.2 0
  have e1 : win0_7.index t (1 : Fin 2) = 0 := congrFun (idxR t).2.2.2 1
  have hb0 : (((cfg0.win 7).blk t).view.emb y 0).val = win0_7.index t (0 : Fin 2) * 128 + 1 * (y 0).val := rfl
  have hb1 : (((cfg0.win 7).blk t).view.emb y 1).val = win0_7.index t (1 : Fin 2) * 256 + 1 * (y 1).val := rfl
  have h0 : (((cfg0.win 7).blk t).view.emb y 0).val = t.val * 128 + (((cfg0.win 7).xinj (grid0.coords t) y) 0).val := by
    show _ = t.val * 128 + (y 0).val
    rw [hb0, e0]; omega
  have h1 : (((cfg0.win 7).blk t).view.emb y 1).val = (((cfg0.win 7).xinj (grid0.coords t) y) 1).val := by
    show _ = (y 1).val
    rw [hb1, e1]; omega
  exact (sqm_apply _ _ _).trans (by show sqm (gS (gB m c t) _) (vB m c t _) = sqm (G4 (gA m c) _) (vA m c _); rw [gB_apply m c t _ _ h0 h1, vB_apply m c t _ _ h0 h1])

/-- and the array after the run. -/
theorem final7 (c : Dev nD) : (dats m 0 c).arrAt 7 cfg0.N = G7 (gA m c) (vA m c) :=
  (dats m 0 c).arrAt_eq_of_cover 7 _ (fun t _ => flushed7 m c t) (fun i => by
    have hi0 : (i 0).val < 128 := (i 0).isLt
    have hi1 : (i 1).val < 256 := (i 1).isLt
    have hlt : (i 0).val / 128 < grid0.N := lt_of_lt_of_eq (by omega : _ < 1) N_0.symm
    have ht := (idxR ⟨(i 0).val / 128, hlt⟩).2.2.2
    refine ⟨⟨(i 0).val / 128, hlt⟩, flush0_7 _, ?_⟩
    have q0 : win0_7.index (⟨(i 0).val / 128, hlt⟩ : Fin grid0.N) (0 : Fin 2) = (i 0).val / 128 := congrFun ht 0
    have q1 : win0_7.index (⟨(i 0).val / 128, hlt⟩ : Fin grid0.N) (1 : Fin 2) = 0 := congrFun ht 1
    generalize (⟨(i 0).val / 128, hlt⟩ : Fin grid0.N) = t at q0 q1 ⊢
    show i ∈ ((View.whole main_v0_3).slice (win0_7.rect t)).set
    rw [View.set_slice_whole, Rect.mem_set_unit]
    intro a
    match a with
    | ⟨0, _⟩ => show win0_7.index t (0 : Fin 2) * 128 ≤ (i 0).val ∧ (i 0).val < win0_7.index t (0 : Fin 2) * 128 + 128; omega
    | ⟨1, _⟩ => show win0_7.index t (1 : Fin 2) * 256 ≤ (i 1).val ∧ (i 1).val < win0_7.index t (1 : Fin 2) * 256 + 256; omega)

/-! ## The reference -/

/-- The reference's sum over the devices, -/
theorem ref4 (g : S8x128x256.Idx → EReal) : (Cert.Reference10Ideal.Read.val_main_v1 (F := Ideal) g : S128x256.Idx → EReal) = G4 g := by
  funext i
  refine (Cert.Reference10Ideal.Read.val_main_v1_apply g i).trans ?_
  refine (congrArg (· + _) (Ideal.ofBits_zero_f32 : _ = (0 : EReal))).trans ?_
  rw [zero_add]
  refine Finset.sum_congr rfl fun k _ => congrArg g (funext fun a => Fin.ext ?_)
  match a with
  | ⟨0, _⟩ => rfl
  | ⟨1, _⟩ => rfl
  | ⟨2, _⟩ => rfl

/-- the change of the weight, -/
theorem ref5 (g : S8x128x256.Idx → EReal) (w x y : S128x256.Idx → EReal) : (Cert.Reference10Ideal.Read.val_main_v25 (F := Ideal) g w x y : S128x256.Idx → EReal) = G5 g w x y := by
  unfold G5
  rw [← ref4 g]
  funext i
  simp only [Cert.Reference10Ideal.Read.val_main_cst_0_apply, Cert.Reference10Ideal.Read.val_main_cst_1_apply, Cert.Reference10Ideal.Read.val_main_cst_2_apply, Cert.Reference10Ideal.Read.val_main_cst_3_apply, Cert.Reference10Ideal.Read.val_main_cst_4_apply, Cert.Reference10Ideal.Read.val_main_cst_5_apply, Cert.Reference10Ideal.Read.val_main_cst_6_apply, Cert.Reference10Ideal.Read.val_main_cst_7_apply, Cert.Reference10Ideal.Read.val_main_cst_8_apply, Cert.Reference10Ideal.Read.val_main_cst_apply, Cert.Reference10Ideal.Read.val_main_v10_apply, Cert.Reference10Ideal.Read.val_main_v11_apply, Cert.Reference10Ideal.Read.val_main_v12_apply, Cert.Reference10Ideal.Read.val_main_v13_apply, Cert.Reference10Ideal.Read.val_main_v14_apply, Cert.Reference10Ideal.Read.val_main_v15_apply, Cert.Reference10Ideal.Read.val_main_v16_apply, Cert.Reference10Ideal.Read.val_main_v17_apply, Cert.Reference10Ideal.Read.val_main_v18_apply, Cert.Reference10Ideal.Read.val_main_v19_apply, Cert.Reference10Ideal.Read.val_main_v20_apply, Cert.Reference10Ideal.Read.val_main_v21_apply, Cert.Reference10Ideal.Read.val_main_v22_apply, Cert.Reference10Ideal.Read.val_main_v23_apply, Cert.Reference10Ideal.Read.val_main_v24_apply, Cert.Reference10Ideal.Read.val_main_v25_apply, Cert.Reference10Ideal.Read.val_main_v2_apply, Cert.Reference10Ideal.Read.val_main_v3_apply, Cert.Reference10Ideal.Read.val_main_v4_apply, Cert.Reference10Ideal.Read.val_main_v5_apply, Cert.Reference10Ideal.Read.val_main_v6_apply, Cert.Reference10Ideal.Read.val_main_v7_apply, Cert.Reference10Ideal.Read.val_main_v8_apply, Cert.Reference10Ideal.Read.val_main_v9_apply]
  rfl
/-- the first moment -/
theorem ref6 (g : S8x128x256.Idx → EReal) (x : S128x256.Idx → EReal) : (Cert.Reference10Ideal.Read.val_main_v6 (F := Ideal) g x : S128x256.Idx → EReal) = G6 g x := by
  unfold G6
  rw [← ref4 g]
  funext i
  simp only [Cert.Reference10Ideal.Read.val_main_cst_0_apply, Cert.Reference10Ideal.Read.val_main_cst_1_apply, Cert.Reference10Ideal.Read.val_main_cst_2_apply, Cert.Reference10Ideal.Read.val_main_cst_3_apply, Cert.Reference10Ideal.Read.val_main_cst_4_apply, Cert.Reference10Ideal.Read.val_main_cst_5_apply, Cert.Reference10Ideal.Read.val_main_cst_6_apply, Cert.Reference10Ideal.Read.val_main_cst_7_apply, Cert.Reference10Ideal.Read.val_main_cst_8_apply, Cert.Reference10Ideal.Read.val_main_cst_apply, Cert.Reference10Ideal.Read.val_main_v10_apply, Cert.Reference10Ideal.Read.val_main_v11_apply, Cert.Reference10Ideal.Read.val_main_v12_apply, Cert.Reference10Ideal.Read.val_main_v13_apply, Cert.Reference10Ideal.Read.val_main_v14_apply, Cert.Reference10Ideal.Read.val_main_v15_apply, Cert.Reference10Ideal.Read.val_main_v16_apply, Cert.Reference10Ideal.Read.val_main_v17_apply, Cert.Reference10Ideal.Read.val_main_v18_apply, Cert.Reference10Ideal.Read.val_main_v19_apply, Cert.Reference10Ideal.Read.val_main_v20_apply, Cert.Reference10Ideal.Read.val_main_v21_apply, Cert.Reference10Ideal.Read.val_main_v22_apply, Cert.Reference10Ideal.Read.val_main_v23_apply, Cert.Reference10Ideal.Read.val_main_v24_apply, Cert.Reference10Ideal.Read.val_main_v25_apply, Cert.Reference10Ideal.Read.val_main_v2_apply, Cert.Reference10Ideal.Read.val_main_v3_apply, Cert.Reference10Ideal.Read.val_main_v4_apply, Cert.Reference10Ideal.Read.val_main_v5_apply, Cert.Reference10Ideal.Read.val_main_v6_apply, Cert.Reference10Ideal.Read.val_main_v7_apply, Cert.Reference10Ideal.Read.val_main_v8_apply, Cert.Reference10Ideal.Read.val_main_v9_apply]
  rfl
/-- and the second. -/
theorem ref7 (g : S8x128x256.Idx → EReal) (y : S128x256.Idx → EReal) : (Cert.Reference10Ideal.Read.val_main_v12 (F := Ideal) g y : S128x256.Idx → EReal) = G7 g y := by
  unfold G7
  rw [← ref4 g]
  funext i
  simp only [Cert.Reference10Ideal.Read.val_main_cst_0_apply, Cert.Reference10Ideal.Read.val_main_cst_1_apply, Cert.Reference10Ideal.Read.val_main_cst_2_apply, Cert.Reference10Ideal.Read.val_main_cst_3_apply, Cert.Reference10Ideal.Read.val_main_cst_4_apply, Cert.Reference10Ideal.Read.val_main_cst_5_apply, Cert.Reference10Ideal.Read.val_main_cst_6_apply, Cert.Reference10Ideal.Read.val_main_cst_7_apply, Cert.Reference10Ideal.Read.val_main_cst_8_apply, Cert.Reference10Ideal.Read.val_main_cst_apply, Cert.Reference10Ideal.Read.val_main_v10_apply, Cert.Reference10Ideal.Read.val_main_v11_apply, Cert.Reference10Ideal.Read.val_main_v12_apply, Cert.Reference10Ideal.Read.val_main_v13_apply, Cert.Reference10Ideal.Read.val_main_v14_apply, Cert.Reference10Ideal.Read.val_main_v15_apply, Cert.Reference10Ideal.Read.val_main_v16_apply, Cert.Reference10Ideal.Read.val_main_v17_apply, Cert.Reference10Ideal.Read.val_main_v18_apply, Cert.Reference10Ideal.Read.val_main_v19_apply, Cert.Reference10Ideal.Read.val_main_v20_apply, Cert.Reference10Ideal.Read.val_main_v21_apply, Cert.Reference10Ideal.Read.val_main_v22_apply, Cert.Reference10Ideal.Read.val_main_v23_apply, Cert.Reference10Ideal.Read.val_main_v24_apply, Cert.Reference10Ideal.Read.val_main_v25_apply, Cert.Reference10Ideal.Read.val_main_v2_apply, Cert.Reference10Ideal.Read.val_main_v3_apply, Cert.Reference10Ideal.Read.val_main_v4_apply, Cert.Reference10Ideal.Read.val_main_v5_apply, Cert.Reference10Ideal.Read.val_main_v6_apply, Cert.Reference10Ideal.Read.val_main_v7_apply, Cert.Reference10Ideal.Read.val_main_v8_apply, Cert.Reference10Ideal.Read.val_main_v9_apply]
  rfl

/-- The optimiser step: from the same arguments the kernel and the reference end at the same four arrays. -/
theorem algebraic : Cert.algebraic_Kernel10Ideal_Reference10Ideal (hKernel10Ideal := Cert.Kernel10Ideal.Gen.facts)
    (hReference10Ideal := Cert.Reference10Ideal.Gen.facts) := by
  intro m g m' g' _ hargs
  refine ⟨fun c => G4 (gA m c), fun c => G5 (gA m c) (wA m c) (mA m c) (vA m c), fun c => G6 (gA m c) (mA m c), fun c => G7 (gA m c) (vA m c), ?_, ?_⟩
  · refine (θ_run _ _ _).mono (fun r h c => ?_) (Cert.Kernel10Ideal.Value.run_blocks (F := Ideal) m g)
    obtain ⟨h4, h5, h6, h7, hr⟩ := h c
    exact ⟨h4.trans (final4 m c), h5.trans (final5 m c), h6.trans (final6 m c), h7.trans (final7 m c), hr⟩
  · refine (θ_run _ _ _).mono (fun r h c => ?_) (Cert.Reference10Ideal.Value.run (F := Ideal) m' g')
    obtain ⟨h4, h5, h6, h7, hr⟩ := h c
    obtain ⟨e0, e1, e2, e3⟩ := hargs c
    refine ⟨h4.trans ((Cert.Reference10Ideal.Read.val_main_v1_eq _).trans ?_), h5.trans ((Cert.Reference10Ideal.Read.val_main_v25_eq _ _ _ _).trans ?_), h6.trans ((Cert.Reference10Ideal.Read.val_main_v6_eq _ _).trans ?_), h7.trans ((Cert.Reference10Ideal.Read.val_main_v12_eq _ _).trans ?_), hr⟩
    · rw [e0]; exact ref4 _
    · rw [e0, e1, e2, e3]; exact ref5 _ _ _ _
    · rw [e0, e2]; exact ref6 _ _
    · rw [e0, e3]; exact ref7 _ _

/-- The reference's run leaves its arguments alone; it declares no counter. -/
theorem frame_reference : Cert.quiescent_Reference10Ideal (hReference10Ideal := Cert.Reference10Ideal.Gen.facts) := fun m g _ =>
  (θ_run Cert.Reference10Ideal.defs _ _).mono (fun r h => ⟨fun c => (h c).2.2.2.2, sem_eq_zero_of_no_sems (by decide) r.2⟩)
    (Cert.Reference10Ideal.Value.run (F := Ideal) m g)

end Cert.Proof.Adam10

end
-- ==== Proof.Adam11.lean ====
/-
  The optimiser step of an output weight: every entry of the four results is the step's own function of the entry's gradient (summed over the devices),
  weight and moments, in the kernel as in the reference.
-/
module

public import proofs.«01_k».proof.Proof.AdamStep
public import proofs.«01_k».proof.Defs
public import proofs.«01_k».proof.Proof.Gen.Kernel11Ideal.Value
public import proofs.«01_k».proof.Proof.Gen.Reference11Ideal.Run
public import proofs.«01_k».proof.Proof.Gen.Reference11Ideal.Read
public import Idealize.ShloMosaic.Lib.Pipeline.ValueKit.Acc
public import Idealize.ShloMosaic.Lib.Pipeline.ValueKit.Point
public import Idealize.ShloMosaic.Lib.Claim
public import Idealize.ShloMosaic.Lib.Tactic

@[expose] public section

noncomputable section

namespace Cert.Proof.Adam11

open Idealize.ShloMosaic hiding ix2 ix3 addf_apply
open Idealize.ShloMosaic.TcCoe Idealize.SL.Sem
open Cert.Kernel11Ideal Cert.Kernel11Ideal.Gen Cert.Proof.AdamStep Idealize.ShloMosaic.ValueIdx
open Idealize.ShloMosaic.Pipeline (Dat Cfg Window)

variable (m : (ℓ : Loc nD τ sig) → Buf (Elt Ideal) ℓ) (ρ : Dev nD → PrngReg)

/-- The gradients of the devices at launch, -/
def gA (c : Dev nD) : S8x256x1024.Idx → EReal := m ((c : Thread nD τ).loc main_arg0)
/-- the weight, -/
def wA (c : Dev nD) : S256x1024.Idx → EReal := m ((c : Thread nD τ).loc main_arg1)
/-- the first moment -/
def mA (c : Dev nD) : S256x1024.Idx → EReal := m ((c : Thread nD τ).loc main_arg2)
/-- and the second. -/
def vA (c : Dev nD) : S256x1024.Idx → EReal := m ((c : Thread nD τ).loc main_arg3)

/-- The gradient summed over the devices, -/
def G4 (g : S8x256x1024.Idx → EReal) : S256x1024.Idx → EReal := fun i => ∑ k : Fin 8, g (ix3 k (i 0) (i 1))
/-- the change of the weight, -/
def G5 (g : S8x256x1024.Idx → EReal) (w x y : S256x1024.Idx → EReal) : S256x1024.Idx → EReal := fun i => delta (G4 g i) (w i) (x i) (y i)
/-- the first moment after the step -/
def G6 (g : S8x256x1024.Idx → EReal) (x : S256x1024.Idx → EReal) : S256x1024.Idx → EReal := fun i => mom (G4 g i) (x i)
/-- and the second. -/
def G7 (g : S8x256x1024.Idx → EReal) (y : S256x1024.Idx → EReal) : S256x1024.Idx → EReal := fun i => sqm (G4 g i) (y i)

/-! ## The body -/

/-- The first moment's payload, -/
theorem mom_apply (g x : Vec Ideal S128x1024 .f32) (j : S128x1024.Idx) : k0_pay1 (F := Ideal) g x j = mom (g j) (x j) := rfl
/-- the second's -/
theorem sqm_apply (g x : Vec Ideal S128x1024 .f32) (j : S128x1024.Idx) : k0_pay2 (F := Ideal) g x j = sqm (g j) (x j) := rfl
/-- and the change's, entry by entry. -/
theorem delta_apply (g w x y : Vec Ideal S128x1024 .f32) (j : S128x1024.Idx) : k0_pay3 (F := Ideal) g w x y j = delta (g j) (w j) (x j) (y j) := rfl

/-- The offset of a whole block. -/
theorem hz : (![0, 0] : Fin 2 → Nat) = fun _ => 0 := funext fun a => by fin_cases a <;> rfl

/-- One device's slice as a matrix. -/
theorem cast_apply (y : Vec Ideal S1x128x1024 .bf16) (j : S128x1024.Idx) :
    extf (F := Ideal) .f32 (shapeCast S128x1024 y shapeCasts_S1x128x1024_S128x1024) bitsLt_bf16_f32 j = y (ix3 0 (j 0) (j 1)) := by
  obtain ⟨p, q, rfl⟩ : ∃ (p : Fin 128) (q : Fin 1024), j = ix2 p q := ⟨j 0, j 1, funext fun a => by match a with | ⟨0, _⟩ => rfl | ⟨1, _⟩ => rfl⟩
  show shapeCast S128x1024 y shapeCasts_S1x128x1024_S128x1024 (ix2 p q) = y (ix3 0 p q)
  pointwise
  rfl

/-- The block of the gradient that the body sums over the devices. -/
def gS (g : Vec Ideal S8x128x1024 .bf16) : Vec Ideal S128x1024 .f32 :=
  k0_pay4 (F := Ideal) (View.ld g r0_0) (View.ld g r0_1) (View.ld g r0_2) (View.ld g r0_3) (View.ld g r0_4) (View.ld g r0_5) (View.ld g r0_6) (View.ld g r0_7)

/-- It is the sum of the devices' entries. -/
theorem gS_apply (g : Vec Ideal S8x128x1024 .bf16) (j : S128x1024.Idx) : gS g j = ∑ k : Fin 8, (g (ix3 k (j 0) (j 1)) : EReal) := by
  unfold gS k0_pay4
  simp only [addf_apply, cast_apply]
  rw [Fin.sum_univ_eight]
  refine congrArg₂ (· + ·) (congrArg₂ (· + ·) (congrArg₂ (· + ·) (congrArg₂ (· + ·) (congrArg₂ (· + ·) (congrArg₂ (· + ·) (congrArg₂ (· + ·) ?_ ?_) ?_) ?_) ?_) ?_) ?_) ?_
  all_goals
    refine congrArg g (funext fun a => Fin.ext ?_)
    match a with
    | ⟨0, _⟩ => rfl
    | ⟨1, _⟩ => show 0 + 1 * (j 0).val = (j 0).val; omega
    | ⟨2, _⟩ => show 0 + 1 * (j 1).val = (j 1).val; omega

/-- What the body leaves in the four results' blocks. -/
theorem out4_eq (g : Vec Ideal S8x128x1024 .bf16) (w x y : Vec Ideal S128x1024 .f32) : out0_4 (F := Ideal) g w x y = gS g := by
  unfold out0_4 gS
  rw [View.canon_unit_zero hz]
theorem out5_eq (g : Vec Ideal S8x128x1024 .bf16) (w x y : Vec Ideal S128x1024 .f32) : out0_5 (F := Ideal) g w x y = k0_pay3 (F := Ideal) (gS g) w x y := by
  unfold out0_5 k0_pay5 gS
  rw [View.canon_unit_zero hz, View.ld_unit_zero (S := S128x1024) hz _ w, View.ld_unit_zero (S := S128x1024) hz _ x, View.ld_unit_zero (S := S128x1024) hz _ y]
theorem out6_eq (g : Vec Ideal S8x128x1024 .bf16) (w x y : Vec Ideal S128x1024 .f32) : out0_6 (F := Ideal) g w x y = k0_pay1 (F := Ideal) (gS g) x := by
  unfold out0_6 k0_pay5 gS
  rw [View.canon_unit_zero hz, View.ld_unit_zero (S := S128x1024) hz _ x]
theorem out7_eq (g : Vec Ideal S8x128x1024 .bf16) (w x y : Vec Ideal S128x1024 .f32) : out0_7 (F := Ideal) g w x y = k0_pay2 (F := Ideal) (gS g) y := by
  unfold out0_7 k0_pay5 gS
  rw [View.canon_unit_zero hz, View.ld_unit_zero (S := S128x1024) hz _ y]

/-! ## The blocks -/

/-- Where the windows' blocks lie, decided over the grid. -/
theorem idx : ∀ t : Fin cfg0.N, win0_0.index t = ![0, t.val, 0] ∧ win0_1.index t = ![t.val, 0] ∧ win0_2.index t = ![t.val, 0] ∧ win0_3.index t = ![t.val, 0] :=
  (by decide +kernel : ∀ t : Fin grid0.N, _)
theorem idxR : ∀ t : Fin cfg0.N, win0_4.index t = ![t.val, 0] ∧ win0_5.index t = ![t.val, 0] ∧ win0_6.index t = ![t.val, 0] ∧ win0_7.index t = ![t.val, 0] :=
  (by decide +kernel : ∀ t : Fin grid0.N, _)

/-- The input blocks at point `t`. -/
def gB (c : Dev nD) (t : Fin cfg0.N) : S8x128x1024.Idx → EReal := iblk m c 0 t
def wB (c : Dev nD) (t : Fin cfg0.N) : S128x1024.Idx → EReal := iblk m c 1 t
def mB (c : Dev nD) (t : Fin cfg0.N) : S128x1024.Idx → EReal := iblk m c 2 t
def vB (c : Dev nD) (t : Fin cfg0.N) : S128x1024.Idx → EReal := iblk m c 3 t

/-- An entry of a block is the array's entry. -/
theorem gB_apply (c : Dev nD) (t : Fin cfg0.N) (y : S128x1024.Idx) (i : S256x1024.Idx) (h0 : (i 0).val = t.val * 128 + (y 0).val) (h1 : (i 1).val = (y 1).val) :
    (gS (gB m c t) y : EReal) = G4 (gA m c) i := by
  refine (gS_apply _ y).trans (Finset.sum_congr rfl fun k _ => ?_)
  have e : win0_0.index t = ![0, t.val, 0] := (idx t).1
  show V m c main_arg0 (((cfg0.win 0).blk t).view.emb (ix3 k (y 0) (y 1))) = gA m c (ix3 k (i 0) (i 1))
  rw [V_main_arg0]
  refine congrArg (gA m c) (funext fun a => Fin.ext ?_)
  match a with
  | ⟨0, _⟩ => show win0_0.index t (0 : Fin 3) * 8 + 1 * k.val = k.val; rw [e]; show 0 * 8 + 1 * k.val = _; omega
  | ⟨1, _⟩ => show win0_0.index t (1 : Fin 3) * 128 + 1 * (y 0).val = (i 0).val; rw [e]; show t.val * 128 + 1 * (y 0).val = _; omega
  | ⟨2, _⟩ => show win0_0.index t (2 : Fin 3) * 1024 + 1 * (y 1).val = (i 1).val; rw [e]; show 0 * 1024 + 1 * (y 1).val = _; omega
theorem wB_apply (c : Dev nD) (t : Fin cfg0.N) (y : S128x1024.Idx) (i : S256x1024.Idx) (h0 : (i 0).val = t.val * 128 + (y 0).val) (h1 : (i 1).val = (y 1).val) :
    (wB m c t y : EReal) = wA m c i := by
  have e : win0_1.index t = ![t.val, 0] := (idx t).2.1
  show V m c main_arg1 (((cfg0.win 1).blk t).view.emb y) = wA m c i
  rw [V_main_arg1]
  refine congrArg (wA m c) (funext fun a => Fin.ext ?_)
  match a with
  | ⟨0, _⟩ => show win0_1.index t (0 : Fin 2) * 128 + 1 * (y 0).val = (i 0).val; rw [e]; show t.val * 128 + 1 * (y 0).val = _; omega
  | ⟨1, _⟩ => show win0_1.index t (1 : Fin 2) * 1024 + 1 * (y 1).val = (i 1).val; rw [e]; show 0 * 1024 + 1 * (y 1).val = _; omega
theorem mB_apply (c : Dev nD) (t : Fin cfg0.N) (y : S128x1024.Idx) (i : S256x1024.Idx) (h0 : (i 0).val = t.val * 128 + (y 0).val) (h1 : (i 1).val = (y 1).val) :
    (mB m c t y : EReal) = mA m c i := by
  have e : win0_2.index t = ![t.val, 0] := (idx t).2.2.1
  show V m c main_arg2 (((cfg0.win 2).blk t).view.emb y) = mA m c i
  rw [V_main_arg2]
  refine congrArg (mA m c) (funext fun a => Fin.ext ?_)
  match a with
  | ⟨0, _⟩ => show win0_2.index t (0 : Fin 2) * 128 + 1 * (y 0).val = (i 0).val; rw [e]; show t.val * 128 + 1 * (y 0).val = _; omega
  | ⟨1, _⟩ => show win0_2.index t (1 : Fin 2) * 1024 + 1 * (y 1).val = (i 1).val; rw [e]; show 0 * 1024 + 1 * (y 1).val = _; omega
theorem vB_apply (c : Dev nD) (t : Fin cfg0.N) (y : S128x1024.Idx) (i : S256x1024.Idx) (h0 : (i 0).val = t.val * 128 + (y 0).val) (h1 : (i 1).val = (y 1).val) :
    (vB m c t y : EReal) = vA m c i := by
  have e : win0_3.index t = ![t.val, 0] := (idx t).2.2.2
  show V m c main_arg3 (((cfg0.win 3).blk t).view.emb y) = vA m c i
  rw [V_main_arg3]
  refine congrArg (vA m c) (funext fun a => Fin.ext ?_)
  match a with
  | ⟨0, _⟩ => show win0_3.index t (0 : Fin 2) * 128 + 1 * (y 0).val = (i 0).val; rw [e]; show t.val * 128 + 1 * (y 0).val = _; omega
  | ⟨1, _⟩ => show win0_3.index t (1 : Fin 2) * 1024 + 1 * (y 1).val = (i 1).val; rw [e]; show 0 * 1024 + 1 * (y 1).val = _; omega

/-! ## The results -/

/-- What a point writes back of the gradient is its block, -/
theorem flushed4 (c : Dev nD) (t : Fin cfg0.N) : (dats m 0 c).flushed 4 t = ((cfg0.win 4).blk t).view.read (Elt Ideal) (G4 (gA m c)) := by
  show (cfg0.win 4).cut (grid0.coords t) ((dats m 0 c).after 4 t) = _
  rw [after0_4, out4_eq]
  funext y
  have e0 : win0_4.index t (0 : Fin 2) = t.val := congrFun (idxR t).1 0
  have e1 : win0_4.index t (1 : Fin 2) = 0 := congrFun (idxR t).1 1
  have hb0 : (((cfg0.win 4).blk t).view.emb y 0).val = win0_4.index t (0 : Fin 2) * 128 + 1 * (y 0).val := rfl
  have hb1 : (((cfg0.win 4).blk t).view.emb y 1).val = win0_4.index t (1 : Fin 2) * 1024 + 1 * (y 1).val := rfl
  have h0 : (((cfg0.win 4).blk t).view.emb y 0).val = t.val * 128 + (((cfg0.win 4).xinj (grid0.coords t) y) 0).val := by
    show _ = t.val * 128 + (y 0).val
    rw [hb0, e0]; omega
  have h1 : (((cfg0.win 4).blk t).view.emb y 1).val = (((cfg0.win 4).xinj (grid0.coords t) y) 1).val := by
    show _ = (y 1).val
    rw [hb1, e1]; omega
  exact gB_apply m c t _ _ h0 h1

/-- and the array after the run. -/
theorem final4 (c : Dev nD) : (dats m 0 c).arrAt 4 cfg0.N = G4 (gA m c) :=
  (dats m 0 c).arrAt_eq_of_cover 4 _ (fun t _ => flushed4 m c t) (fun i => by
    have hi0 : (i 0).val < 256 := (i 0).isLt
    have hi1 : (i 1).val < 1024 := (i 1).isLt
    have hlt : (i 0).val / 128 < grid0.N := lt_of_lt_of_eq (by omega : _ < 2) N_0.symm
    have ht := (idxR ⟨(i 0).val / 128, hlt⟩).1
    refine ⟨⟨(i 0).val / 128, hlt⟩, flush0_4 _, ?_⟩
    have q0 : win0_4.index (⟨(i 0).val / 128, hlt⟩ : Fin grid0.N) (0 : Fin 2) = (i 0).val / 128 := congrFun ht 0
    have q1 : win0_4.index (⟨(i 0).val / 128, hlt⟩ : Fin grid0.N) (1 : Fin 2) = 0 := congrFun ht 1
    generalize (⟨(i 0).val / 128, hlt⟩ : Fin grid0.N) = t at q0 q1 ⊢
    show i ∈ ((View.whole main_v0_0).slice (win0_4.rect t)).set
    rw [View.set_slice_whole, Rect.mem_set_unit]
    intro a
    match a with
    | ⟨0, _⟩ => show win0_4.index t (0 : Fin 2) * 128 ≤ (i 0).val ∧ (i 0).val < win0_4.index t (0 : Fin 2) * 128 + 128; omega
    | ⟨1, _⟩ => show win0_4.index t (1 : Fin 2) * 1024 ≤ (i 1).val ∧ (i 1).val < win0_4.index t (1 : Fin 2) * 1024 + 1024; omega)

/-- What a point writes back of the weight's change is its block, -/
theorem flushed5 (c : Dev nD) (t : Fin cfg0.N) : (dats m 0 c).flushed 5 t = ((cfg0.win 5).blk t).view.read (Elt Ideal) (G5 (gA m c) (wA m c) (mA m c) (vA m c)) := by
  show (cfg0.win 5).cut (grid0.coords t) ((dats m 0 c).after 5 t) = _
  rw [after0_5, out5_eq]
  funext y
  have e0 : win0_5.index t (0 : Fin 2) = t.val := congrFun (idxR t).2.1 0
  have e1 : win0_5.index t (1 : Fin 2) = 0 := congrFun (idxR t).2.1 1
  have hb0 : (((cfg0.win 5).blk t).view.emb y 0).val = win0_5.index t (0 : Fin 2) * 128 + 1 * (y 0).val := rfl
  have hb1 : (((cfg0.win 5).blk t).view.emb y 1).val = win0_5.index t (1 : Fin 2) * 1024 + 1 * (y 1).val := rfl
  have h0 : (((cfg0.win 5).blk t).view.emb y 0).val = t.val * 128 + (((cfg0.win 5).xinj (grid0.coords t) y) 0).val := by
    show _ = t.val * 128 + (y 0).val
    rw [hb0, e0]; omega
  have h1 : (((cfg0.win 5).blk t).view.emb y 1).val = (((cfg0.win 5).xinj (grid0.coords t) y) 1).val := by
    show _ = (y 1).val
    rw [hb1, e1]; omega
  exact (delta_apply _ _ _ _ _).trans (by show delta (gS (gB m c t) _) (wB m c t _) (mB m c t _) (vB m c t _) = delta (G4 (gA m c) _) (wA m c _) (mA m c _) (vA m c _); rw [gB_apply m c t _ _ h0 h1, wB_apply m c t _ _ h0 h1, mB_apply m c t _ _ h0 h1, vB_apply m c t _ _ h0 h1])

/-- and the array after the run. -/
theorem final5 (c : Dev nD) : (dats m 0 c).arrAt 5 cfg0.N = G5 (gA m c) (wA m c) (mA m c) (vA m c) :=
  (dats m 0 c).arrAt_eq_of_cover 5 _ (fun t _ => flushed5 m c t) (fun i => by
    have hi0 : (i 0).val < 256 := (i 0).isLt
    have hi1 : (i 1).val < 1024 := (i 1).isLt
    have hlt : (i 0).val / 128 < grid0.N := lt_of_lt_of_eq (by omega : _ < 2) N_0.symm
    have ht := (idxR ⟨(i 0).val / 128, hlt⟩).2.1
    refine ⟨⟨(i 0).val / 128, hlt⟩, flush0_5 _, ?_⟩
    have q0 : win0_5.index (⟨(i 0).val / 128, hlt⟩ : Fin grid0.N) (0 : Fin 2) = (i 0).val / 128 := congrFun ht 0
    have q1 : win0_5.index (⟨(i 0).val / 128, hlt⟩ : Fin grid0.N) (1 : Fin 2) = 0 := congrFun ht 1
    generalize (⟨(i 0).val / 128, hlt⟩ : Fin grid0.N) = t at q0 q1 ⊢
    show i ∈ ((View.whole main_v0_1).slice (win0_5.rect t)).set
    rw [View.set_slice_whole, Rect.mem_set_unit]
    intro a
    match a with
    | ⟨0, _⟩ => show win0_5.index t (0 : Fin 2) * 128 ≤ (i 0).val ∧ (i 0).val < win0_5.index t (0 : Fin 2) * 128 + 128; omega
    | ⟨1, _⟩ => show win0_5.index t (1 : Fin 2) * 1024 ≤ (i 1).val ∧ (i 1).val < win0_5.index t (1 : Fin 2) * 1024 + 1024; omega)

/-- What a point writes back of the first moment is its block, -/
theorem flushed6 (c : Dev nD) (t : Fin cfg0.N) : (dats m 0 c).flushed 6 t = ((cfg0.win 6).blk t).view.read (Elt Ideal) (G6 (gA m c) (mA m c)) := by
  show (cfg0.win 6).cut (grid0.coords t) ((dats m 0 c).after 6 t) = _
  rw [after0_6, out6_eq]
  funext y
  have e0 : win0_6.index t (0 : Fin 2) = t.val := congrFun (idxR t).2.2.1 0
  have e1 : win0_6.index t (1 : Fin 2) = 0 := congrFun (idxR t).2.2.1 1
  have hb0 : (((cfg0.win 6).blk t).view.emb y 0).val = win0_6.index t (0 : Fin 2) * 128 + 1 * (y 0).val := rfl
  have hb1 : (((cfg0.win 6).blk t).view.emb y 1).val = win0_6.index t (1 : Fin 2) * 1024 + 1 * (y 1).val := rfl
  have h0 : (((cfg0.win 6).blk t).view.emb y 0).val = t.val * 128 + (((cfg0.win 6).xinj (grid0.coords t) y) 0).val := by
    show _ = t.val * 128 + (y 0).val
    rw [hb0, e0]; omega
  have h1 : (((cfg0.win 6).blk t).view.emb y 1).val = (((cfg0.win 6).xinj (grid0.coords t) y) 1).val := by
    show _ = (y 1).val
    rw [hb1, e1]; omega
  exact (mom_apply _ _ _).trans (by show mom (gS (gB m c t) _) (mB m c t _) = mom (G4 (gA m c) _) (mA m c _); rw [gB_apply m c t _ _ h0 h1, mB_apply m c t _ _ h0 h1])

/-- and the array after the run. -/
theorem final6 (c : Dev nD) : (dats m 0 c).arrAt 6 cfg0.N = G6 (gA m c) (mA m c) :=
  (dats m 0 c).arrAt_eq_of_cover 6 _ (fun t _ => flushed6 m c t) (fun i => by
    have hi0 : (i 0).val < 256 := (i 0).isLt
    have hi1 : (i 1).val < 1024 := (i 1).isLt
    have hlt : (i 0).val / 128 < grid0.N := lt_of_lt_of_eq (by omega : _ < 2) N_0.symm
    have ht := (idxR ⟨(i 0).val / 128, hlt⟩).2.2.1
    refine ⟨⟨(i 0).val / 128, hlt⟩, flush0_6 _, ?_⟩
    have q0 : win0_6.index (⟨(i 0).val / 128, hlt⟩ : Fin grid0.N) (0 : Fin 2) = (i 0).val / 128 := congrFun ht 0
    have q1 : win0_6.index (⟨(i 0).val / 128, hlt⟩ : Fin grid0.N) (1 : Fin 2) = 0 := congrFun ht 1
    generalize (⟨(i 0).val / 128, hlt⟩ : Fin grid0.N) = t at q0 q1 ⊢
    show i ∈ ((View.whole main_v0_2).slice (win0_6.rect t)).set
    rw [View.set_slice_whole, Rect.mem_set_unit]
    intro a
    match a with
    | ⟨0, _⟩ => show win0_6.index t (0 : Fin 2) * 128 ≤ (i 0).val ∧ (i 0).val < win0_6.index t (0 : Fin 2) * 128 + 128; omega
    | ⟨1, _⟩ => show win0_6.index t (1 : Fin 2) * 1024 ≤ (i 1).val ∧ (i 1).val < win0_6.index t (1 : Fin 2) * 1024 + 1024; omega)

/-- What a point writes back of the second moment is its block, -/
theorem flushed7 (c : Dev nD) (t : Fin cfg0.N) : (dats m 0 c).flushed 7 t = ((cfg0.win 7).blk t).view.read (Elt Ideal) (G7 (gA m c) (vA m c)) := by
  show (cfg0.win 7).cut (grid0.coords t) ((dats m 0 c).after 7 t) = _
  rw [after0_7, out7_eq]
  funext y
  have e0 : win0_7.index t (0 : Fin 2) = t.val := congrFun (idxR t).2.2.2 0
  have e1 : win0_7.index t (1 : Fin 2) = 0 := congrFun (idxR t).2.2.2 1
  have hb0 : (((cfg0.win 7).blk t).view.emb y 0).val = win0_7.index t (0 : Fin 2) * 128 + 1 * (y 0).val := rfl
  have hb1 : (((cfg0.win 7).blk t).view.emb y 1).val = win0_7.index t (1 : Fin 2) * 1024 + 1 * (y 1).val := rfl
  have h0 : (((cfg0.win 7).blk t).view.emb y 0).val = t.val * 128 + (((cfg0.win 7).xinj (grid0.coords t) y) 0).val := by
    show _ = t.val * 128 + (y 0).val
    rw [hb0, e0]; omega
  have h1 : (((cfg0.win 7).blk t).view.emb y 1).val = (((cfg0.win 7).xinj (grid0.coords t) y) 1).val := by
    show _ = (y 1).val
    rw [hb1, e1]; omega
  exact (sqm_apply _ _ _).trans (by show sqm (gS (gB m c t) _) (vB m c t _) = sqm (G4 (gA m c) _) (vA m c _); rw [gB_apply m c t _ _ h0 h1, vB_apply m c t _ _ h0 h1])

/-- and the array after the run. -/
theorem final7 (c : Dev nD) : (dats m 0 c).arrAt 7 cfg0.N = G7 (gA m c) (vA m c) :=
  (dats m 0 c).arrAt_eq_of_cover 7 _ (fun t _ => flushed7 m c t) (fun i => by
    have hi0 : (i 0).val < 256 := (i 0).isLt
    have hi1 : (i 1).val < 1024 := (i 1).isLt
    have hlt : (i 0).val / 128 < grid0.N := lt_of_lt_of_eq (by omega : _ < 2) N_0.symm
    have ht := (idxR ⟨(i 0).val / 128, hlt⟩).2.2.2
    refine ⟨⟨(i 0).val / 128, hlt⟩, flush0_7 _, ?_⟩
    have q0 : win0_7.index (⟨(i 0).val / 128, hlt⟩ : Fin grid0.N) (0 : Fin 2) = (i 0).val / 128 := congrFun ht 0
    have q1 : win0_7.index (⟨(i 0).val / 128, hlt⟩ : Fin grid0.N) (1 : Fin 2) = 0 := congrFun ht 1
    generalize (⟨(i 0).val / 128, hlt⟩ : Fin grid0.N) = t at q0 q1 ⊢
    show i ∈ ((View.whole main_v0_3).slice (win0_7.rect t)).set
    rw [View.set_slice_whole, Rect.mem_set_unit]
    intro a
    match a with
    | ⟨0, _⟩ => show win0_7.index t (0 : Fin 2) * 128 ≤ (i 0).val ∧ (i 0).val < win0_7.index t (0 : Fin 2) * 128 + 128; omega
    | ⟨1, _⟩ => show win0_7.index t (1 : Fin 2) * 1024 ≤ (i 1).val ∧ (i 1).val < win0_7.index t (1 : Fin 2) * 1024 + 1024; omega)

/-! ## The reference -/

/-- The reference's sum over the devices, -/
theorem ref4 (g : S8x256x1024.Idx → EReal) : (Cert.Reference11Ideal.Read.val_main_v1 (F := Ideal) g : S256x1024.Idx → EReal) = G4 g := by
  funext i
  refine (Cert.Reference11Ideal.Read.val_main_v1_apply g i).trans ?_
  refine (congrArg (· + _) (Ideal.ofBits_zero_f32 : _ = (0 : EReal))).trans ?_
  rw [zero_add]
  refine Finset.sum_congr rfl fun k _ => congrArg g (funext fun a => Fin.ext ?_)
  match a with
  | ⟨0, _⟩ => rfl
  | ⟨1, _⟩ => rfl
  | ⟨2, _⟩ => rfl

/-- the change of the weight, -/
theorem ref5 (g : S8x256x1024.Idx → EReal) (w x y : S256x1024.Idx → EReal) : (Cert.Reference11Ideal.Read.val_main_v25 (F := Ideal) g w x y : S256x1024.Idx → EReal) = G5 g w x y := by
  unfold G5
  rw [← ref4 g]
  funext i
  simp only [Cert.Reference11Ideal.Read.val_main_cst_0_apply, Cert.Reference11Ideal.Read.val_main_cst_1_apply, Cert.Reference11Ideal.Read.val_main_cst_2_apply, Cert.Reference11Ideal.Read.val_main_cst_3_apply, Cert.Reference11Ideal.Read.val_main_cst_4_apply, Cert.Reference11Ideal.Read.val_main_cst_5_apply, Cert.Reference11Ideal.Read.val_main_cst_6_apply, Cert.Reference11Ideal.Read.val_main_cst_7_apply, Cert.Reference11Ideal.Read.val_main_cst_8_apply, Cert.Reference11Ideal.Read.val_main_cst_apply, Cert.Reference11Ideal.Read.val_main_v10_apply, Cert.Reference11Ideal.Read.val_main_v11_apply, Cert.Reference11Ideal.Read.val_main_v12_apply, Cert.Reference11Ideal.Read.val_main_v13_apply, Cert.Reference11Ideal.Read.val_main_v14_apply, Cert.Reference11Ideal.Read.val_main_v15_apply, Cert.Reference11Ideal.Read.val_main_v16_apply, Cert.Reference11Ideal.Read.val_main_v17_apply, Cert.Reference11Ideal.Read.val_main_v18_apply, Cert.Reference11Ideal.Read.val_main_v19_apply, Cert.Reference11Ideal.Read.val_main_v20_apply, Cert.Reference11Ideal.Read.val_main_v21_apply, Cert.Reference11Ideal.Read.val_main_v22_apply, Cert.Reference11Ideal.Read.val_main_v23_apply, Cert.Reference11Ideal.Read.val_main_v24_apply, Cert.Reference11Ideal.Read.val_main_v25_apply, Cert.Reference11Ideal.Read.val_main_v2_apply, Cert.Reference11Ideal.Read.val_main_v3_apply, Cert.Reference11Ideal.Read.val_main_v4_apply, Cert.Reference11Ideal.Read.val_main_v5_apply, Cert.Reference11Ideal.Read.val_main_v6_apply, Cert.Reference11Ideal.Read.val_main_v7_apply, Cert.Reference11Ideal.Read.val_main_v8_apply, Cert.Reference11Ideal.Read.val_main_v9_apply]
  rfl
/-- the first moment -/
theorem ref6 (g : S8x256x1024.Idx → EReal) (x : S256x1024.Idx → EReal) : (Cert.Reference11Ideal.Read.val_main_v6 (F := Ideal) g x : S256x1024.Idx → EReal) = G6 g x := by
  unfold G6
  rw [← ref4 g]
  funext i
  simp only [Cert.Reference11Ideal.Read.val_main_cst_0_apply, Cert.Reference11Ideal.Read.val_main_cst_1_apply, Cert.Reference11Ideal.Read.val_main_cst_2_apply, Cert.Reference11Ideal.Read.val_main_cst_3_apply, Cert.Reference11Ideal.Read.val_main_cst_4_apply, Cert.Reference11Ideal.Read.val_main_cst_5_apply, Cert.Reference11Ideal.Read.val_main_cst_6_apply, Cert.Reference11Ideal.Read.val_main_cst_7_apply, Cert.Reference11Ideal.Read.val_main_cst_8_apply, Cert.Reference11Ideal.Read.val_main_cst_apply, Cert.Reference11Ideal.Read.val_main_v10_apply, Cert.Reference11Ideal.Read.val_main_v11_apply, Cert.Reference11Ideal.Read.val_main_v12_apply, Cert.Reference11Ideal.Read.val_main_v13_apply, Cert.Reference11Ideal.Read.val_main_v14_apply, Cert.Reference11Ideal.Read.val_main_v15_apply, Cert.Reference11Ideal.Read.val_main_v16_apply, Cert.Reference11Ideal.Read.val_main_v17_apply, Cert.Reference11Ideal.Read.val_main_v18_apply, Cert.Reference11Ideal.Read.val_main_v19_apply, Cert.Reference11Ideal.Read.val_main_v20_apply, Cert.Reference11Ideal.Read.val_main_v21_apply, Cert.Reference11Ideal.Read.val_main_v22_apply, Cert.Reference11Ideal.Read.val_main_v23_apply, Cert.Reference11Ideal.Read.val_main_v24_apply, Cert.Reference11Ideal.Read.val_main_v25_apply, Cert.Reference11Ideal.Read.val_main_v2_apply, Cert.Reference11Ideal.Read.val_main_v3_apply, Cert.Reference11Ideal.Read.val_main_v4_apply, Cert.Reference11Ideal.Read.val_main_v5_apply, Cert.Reference11Ideal.Read.val_main_v6_apply, Cert.Reference11Ideal.Read.val_main_v7_apply, Cert.Reference11Ideal.Read.val_main_v8_apply, Cert.Reference11Ideal.Read.val_main_v9_apply]
  rfl
/-- and the second. -/
theorem ref7 (g : S8x256x1024.Idx → EReal) (y : S256x1024.Idx → EReal) : (Cert.Reference11Ideal.Read.val_main_v12 (F := Ideal) g y : S256x1024.Idx → EReal) = G7 g y := by
  unfold G7
  rw [← ref4 g]
  funext i
  simp only [Cert.Reference11Ideal.Read.val_main_cst_0_apply, Cert.Reference11Ideal.Read.val_main_cst_1_apply, Cert.Reference11Ideal.Read.val_main_cst_2_apply, Cert.Reference11Ideal.Read.val_main_cst_3_apply, Cert.Reference11Ideal.Read.val_main_cst_4_apply, Cert.Reference11Ideal.Read.val_main_cst_5_apply, Cert.Reference11Ideal.Read.val_main_cst_6_apply, Cert.Reference11Ideal.Read.val_main_cst_7_apply, Cert.Reference11Ideal.Read.val_main_cst_8_apply, Cert.Reference11Ideal.Read.val_main_cst_apply, Cert.Reference11Ideal.Read.val_main_v10_apply, Cert.Reference11Ideal.Read.val_main_v11_apply, Cert.Reference11Ideal.Read.val_main_v12_apply, Cert.Reference11Ideal.Read.val_main_v13_apply, Cert.Reference11Ideal.Read.val_main_v14_apply, Cert.Reference11Ideal.Read.val_main_v15_apply, Cert.Reference11Ideal.Read.val_main_v16_apply, Cert.Reference11Ideal.Read.val_main_v17_apply, Cert.Reference11Ideal.Read.val_main_v18_apply, Cert.Reference11Ideal.Read.val_main_v19_apply, Cert.Reference11Ideal.Read.val_main_v20_apply, Cert.Reference11Ideal.Read.val_main_v21_apply, Cert.Reference11Ideal.Read.val_main_v22_apply, Cert.Reference11Ideal.Read.val_main_v23_apply, Cert.Reference11Ideal.Read.val_main_v24_apply, Cert.Reference11Ideal.Read.val_main_v25_apply, Cert.Reference11Ideal.Read.val_main_v2_apply, Cert.Reference11Ideal.Read.val_main_v3_apply, Cert.Reference11Ideal.Read.val_main_v4_apply, Cert.Reference11Ideal.Read.val_main_v5_apply, Cert.Reference11Ideal.Read.val_main_v6_apply, Cert.Reference11Ideal.Read.val_main_v7_apply, Cert.Reference11Ideal.Read.val_main_v8_apply, Cert.Reference11Ideal.Read.val_main_v9_apply]
  rfl

/-- The optimiser step: from the same arguments the kernel and the reference end at the same four arrays. -/
theorem algebraic : Cert.algebraic_Kernel11Ideal_Reference11Ideal (hKernel11Ideal := Cert.Kernel11Ideal.Gen.facts)
    (hReference11Ideal := Cert.Reference11Ideal.Gen.facts) := by
  intro m g m' g' _ hargs
  refine ⟨fun c => G4 (gA m c), fun c => G5 (gA m c) (wA m c) (mA m c) (vA m c), fun c => G6 (gA m c) (mA m c), fun c => G7 (gA m c) (vA m c), ?_, ?_⟩
  · refine (θ_run _ _ _).mono (fun r h c => ?_) (Cert.Kernel11Ideal.Value.run_blocks (F := Ideal) m g)
    obtain ⟨h4, h5, h6, h7, hr⟩ := h c
    exact ⟨h4.trans (final4 m c), h5.trans (final5 m c), h6.trans (final6 m c), h7.trans (final7 m c), hr⟩
  · refine (θ_run _ _ _).mono (fun r h c => ?_) (Cert.Reference11Ideal.Value.run (F := Ideal) m' g')
    obtain ⟨h4, h5, h6, h7, hr⟩ := h c
    obtain ⟨e0, e1, e2, e3⟩ := hargs c
    refine ⟨h4.trans ((Cert.Reference11Ideal.Read.val_main_v1_eq _).trans ?_), h5.trans ((Cert.Reference11Ideal.Read.val_main_v25_eq _ _ _ _).trans ?_), h6.trans ((Cert.Reference11Ideal.Read.val_main_v6_eq _ _).trans ?_), h7.trans ((Cert.Reference11Ideal.Read.val_main_v12_eq _ _).trans ?_), hr⟩
    · rw [e0]; exact ref4 _
    · rw [e0, e1, e2, e3]; exact ref5 _ _ _ _
    · rw [e0, e2]; exact ref6 _ _
    · rw [e0, e3]; exact ref7 _ _

/-- The reference's run leaves its arguments alone; it declares no counter. -/
theorem frame_reference : Cert.quiescent_Reference11Ideal (hReference11Ideal := Cert.Reference11Ideal.Gen.facts) := fun m g _ =>
  (θ_run Cert.Reference11Ideal.defs _ _).mono (fun r h => ⟨fun c => (h c).2.2.2.2, sem_eq_zero_of_no_sems (by decide) r.2⟩)
    (Cert.Reference11Ideal.Value.run (F := Ideal) m g)

end Cert.Proof.Adam11

end
-- ==== Proof.Adam12.lean ====
/-
  The optimiser step of the odd input weight: every entry of the four results is the step's own function of the entry's gradient (summed over the devices),
  weight and moments, in the kernel as in the reference.
-/
module

public import proofs.«01_k».proof.Proof.AdamStep
public import proofs.«01_k».proof.Defs
public import proofs.«01_k».proof.Proof.Gen.Kernel12Ideal.Value
public import proofs.«01_k».proof.Proof.Gen.Reference12Ideal.Run
public import proofs.«01_k».proof.Proof.Gen.Reference12Ideal.Read
public import Idealize.ShloMosaic.Lib.Pipeline.ValueKit.Acc
public import Idealize.ShloMosaic.Lib.Pipeline.ValueKit.Point
public import Idealize.ShloMosaic.Lib.Claim
public import Idealize.ShloMosaic.Lib.Tactic

@[expose] public section

noncomputable section

namespace Cert.Proof.Adam12

open Idealize.ShloMosaic hiding ix2 ix3 addf_apply
open Idealize.ShloMosaic.TcCoe Idealize.SL.Sem
open Cert.Kernel12Ideal Cert.Kernel12Ideal.Gen Cert.Proof.AdamStep Idealize.ShloMosaic.ValueIdx
open Idealize.ShloMosaic.Pipeline (Dat Cfg Window)

variable (m : (ℓ : Loc nD τ sig) → Buf (Elt Ideal) ℓ) (ρ : Dev nD → PrngReg)

/-- The gradients of the devices at launch, -/
def gA (c : Dev nD) : S8x1024x1792.Idx → EReal := m ((c : Thread nD τ).loc main_arg0)
/-- the weight, -/
def wA (c : Dev nD) : S1024x1792.Idx → EReal := m ((c : Thread nD τ).loc main_arg1)
/-- the first moment -/
def mA (c : Dev nD) : S1024x1792.Idx → EReal := m ((c : Thread nD τ).loc main_arg2)
/-- and the second. -/
def vA (c : Dev nD) : S1024x1792.Idx → EReal := m ((c : Thread nD τ).loc main_arg3)

/-- The gradient summed over the devices, -/
def G4 (g : S8x1024x1792.Idx → EReal) : S1024x1792.Idx → EReal := fun i => ∑ k : Fin 8, g (ix3 k (i 0) (i 1))
/-- the change of the weight, -/
def G5 (g : S8x1024x1792.Idx → EReal) (w x y : S1024x1792.Idx → EReal) : S1024x1792.Idx → EReal := fun i => delta (G4 g i) (w i) (x i) (y i)
/-- the first moment after the step -/
def G6 (g : S8x1024x1792.Idx → EReal) (x : S1024x1792.Idx → EReal) : S1024x1792.Idx → EReal := fun i => mom (G4 g i) (x i)
/-- and the second. -/
def G7 (g : S8x1024x1792.Idx → EReal) (y : S1024x1792.Idx → EReal) : S1024x1792.Idx → EReal := fun i => sqm (G4 g i) (y i)

/-! ## The body -/

/-- The first moment's payload, -/
theorem mom_apply (g x : Vec Ideal S128x1792 .f32) (j : S128x1792.Idx) : k0_pay1 (F := Ideal) g x j = mom (g j) (x j) := rfl
/-- the second's -/
theorem sqm_apply (g x : Vec Ideal S128x1792 .f32) (j : S128x1792.Idx) : k0_pay2 (F := Ideal) g x j = sqm (g j) (x j) := rfl
/-- and the change's, entry by entry. -/
theorem delta_apply (g w x y : Vec Ideal S128x1792 .f32) (j : S128x1792.Idx) : k0_pay3 (F := Ideal) g w x y j = delta (g j) (w j) (x j) (y j) := rfl

/-- The offset of a whole block. -/
theorem hz : (![0, 0] : Fin 2 → Nat) = fun _ => 0 := funext fun a => by fin_cases a <;> rfl

/-- One device's slice as a matrix. -/
theorem cast_apply (y : Vec Ideal S1x128x1792 .bf16) (j : S128x1792.Idx) :
    extf (F := Ideal) .f32 (shapeCast S128x1792 y shapeCasts_S1x128x1792_S128x1792) bitsLt_bf16_f32 j = y (ix3 0 (j 0) (j 1)) := by
  obtain ⟨p, q, rfl⟩ : ∃ (p : Fin 128) (q : Fin 1792), j = ix2 p q := ⟨j 0, j 1, funext fun a => by match a with | ⟨0, _⟩ => rfl | ⟨1, _⟩ => rfl⟩
  show shapeCast S128x1792 y shapeCasts_S1x128x1792_S128x1792 (ix2 p q) = y (ix3 0 p q)
  pointwise
  rfl

/-- The block of the gradient that the body sums over the devices. -/
def gS (g : Vec Ideal S8x128x1792 .bf16) : Vec Ideal S128x1792 .f32 :=
  k0_pay4 (F := Ideal) (View.ld g r0_0) (View.ld g r0_1) (View.ld g r0_2) (View.ld g r0_3) (View.ld g r0_4) (View.ld g r0_5) (View.ld g r0_6) (View.ld g r0_7)

/-- It is the sum of the devices' entries. -/
theorem gS_apply (g : Vec Ideal S8x128x1792 .bf16) (j : S128x1792.Idx) : gS g j = ∑ k : Fin 8, (g (ix3 k (j 0) (j 1)) : EReal) := by
  unfold gS k0_pay4
  simp only [addf_apply, cast_apply]
  rw [Fin.sum_univ_eight]
  refine congrArg₂ (· + ·) (congrArg₂ (· + ·) (congrArg₂ (· + ·) (congrArg₂ (· + ·) (congrArg₂ (· + ·) (congrArg₂ (· + ·) (congrArg₂ (· + ·) ?_ ?_) ?_) ?_) ?_) ?_) ?_) ?_
  all_goals
    refine congrArg g (funext fun a => Fin.ext ?_)
    match a with
    | ⟨0, _⟩ => rfl
    | ⟨1, _⟩ => show 0 + 1 * (j 0).val = (j 0).val; omega
    | ⟨2, _⟩ => show 0 + 1 * (j 1).val = (j 1).val; omega

/-- What the body leaves in the four results' blocks. -/
theorem out4_eq (g : Vec Ideal S8x128x1792 .bf16) (w x y : Vec Ideal S128x1792 .f32) : out0_4 (F := Ideal) g w x y = gS g := by
  unfold out0_4 gS
  rw [View.canon_unit_zero hz]
theorem out5_eq (g : Vec Ideal S8x128x1792 .bf16) (w x y : Vec Ideal S128x1792 .f32) : out0_5 (F := Ideal) g w x y = k0_pay3 (F := Ideal) (gS g) w x y := by
  unfold out0_5 k0_pay5 gS
  rw [View.canon_unit_zero hz, View.ld_unit_zero (S := S128x1792) hz _ w, View.ld_unit_zero (S := S128x1792) hz _ x, View.ld_unit_zero (S := S128x1792) hz _ y]
theorem out6_eq (g : Vec Ideal S8x128x1792 .bf16) (w x y : Vec Ideal S128x1792 .f32) : out0_6 (F := Ideal) g w x y = k0_pay1 (F := Ideal) (gS g) x := by
  unfold out0_6 k0_pay5 gS
  rw [View.canon_unit_zero hz, View.ld_unit_zero (S := S128x1792) hz _ x]
theorem out7_eq (g : Vec Ideal S8x128x1792 .bf16) (w x y : Vec Ideal S128x1792 .f32) : out0_7 (F := Ideal) g w x y = k0_pay2 (F := Ideal) (gS g) y := by
  unfold out0_7 k0_pay5 gS
  rw [View.canon_unit_zero hz, View.ld_unit_zero (S := S128x1792) hz _ y]

/-! ## The blocks -/

/-- Where the windows' blocks lie, decided over the grid. -/
theorem idx : ∀ t : Fin cfg0.N, win0_0.index t = ![0, t.val, 0] ∧ win0_1.index t = ![t.val, 0] ∧ win0_2.index t = ![t.val, 0] ∧ win0_3.index t = ![t.val, 0] :=
  (by decide +kernel : ∀ t : Fin grid0.N, _)
theorem idxR : ∀ t : Fin cfg0.N, win0_4.index t = ![t.val, 0] ∧ win0_5.index t = ![t.val, 0] ∧ win0_6.index t = ![t.val, 0] ∧ win0_7.index t = ![t.val, 0] :=
  (by decide +kernel : ∀ t : Fin grid0.N, _)

/-- The input blocks at point `t`. -/
def gB (c : Dev nD) (t : Fin cfg0.N) : S8x128x1792.Idx → EReal := iblk m c 0 t
def wB (c : Dev nD) (t : Fin cfg0.N) : S128x1792.Idx → EReal := iblk m c 1 t
def mB (c : Dev nD) (t : Fin cfg0.N) : S128x1792.Idx → EReal := iblk m c 2 t
def vB (c : Dev nD) (t : Fin cfg0.N) : S128x1792.Idx → EReal := iblk m c 3 t

/-- An entry of a block is the array's entry. -/
theorem gB_apply (c : Dev nD) (t : Fin cfg0.N) (y : S128x1792.Idx) (i : S1024x1792.Idx) (h0 : (i 0).val = t.val * 128 + (y 0).val) (h1 : (i 1).val = (y 1).val) :
    (gS (gB m c t) y : EReal) = G4 (gA m c) i := by
  refine (gS_apply _ y).trans (Finset.sum_congr rfl fun k _ => ?_)
  have e : win0_0.index t = ![0, t.val, 0] := (idx t).1
  show V m c main_arg0 (((cfg0.win 0).blk t).view.emb (ix3 k (y 0) (y 1))) = gA m c (ix3 k (i 0) (i 1))
  rw [V_main_arg0]
  refine congrArg (gA m c) (funext fun a => Fin.ext ?_)
  match a with
  | ⟨0, _⟩ => show win0_0.index t (0 : Fin 3) * 8 + 1 * k.val = k.val; rw [e]; show 0 * 8 + 1 * k.val = _; omega
  | ⟨1, _⟩ => show win0_0.index t (1 : Fin 3) * 128 + 1 * (y 0).val = (i 0).val; rw [e]; show t.val * 128 + 1 * (y 0).val = _; omega
  | ⟨2, _⟩ => show win0_0.index t (2 : Fin 3) * 1792 + 1 * (y 1).val = (i 1).val; rw [e]; show 0 * 1792 + 1 * (y 1).val = _; omega
theorem wB_apply (c : Dev nD) (t : Fin cfg0.N) (y : S128x1792.Idx) (i : S1024x1792.Idx) (h0 : (i 0).val = t.val * 128 + (y 0).val) (h1 : (i 1).val = (y 1).val) :
    (wB m c t y : EReal) = wA m c i := by
  have e : win0_1.index t = ![t.val, 0] := (idx t).2.1
  show V m c main_arg1 (((cfg0.win 1).blk t).view.emb y) = wA m c i
  rw [V_main_arg1]
  refine congrArg (wA m c) (funext fun a => Fin.ext ?_)
  match a with
  | ⟨0, _⟩ => show win0_1.index t (0 : Fin 2) * 128 + 1 * (y 0).val = (i 0).val; rw [e]; show t.val * 128 + 1 * (y 0).val = _; omega
  | ⟨1, _⟩ => show win0_1.index t (1 : Fin 2) * 1792 + 1 * (y 1).val = (i 1).val; rw [e]; show 0 * 1792 + 1 * (y 1).val = _; omega
theorem mB_apply (c : Dev nD) (t : Fin cfg0.N) (y : S128x1792.Idx) (i : S1024x1792.Idx) (h0 : (i 0).val = t.val * 128 + (y 0).val) (h1 : (i 1).val = (y 1).val) :
    (mB m c t y : EReal) = mA m c i := by
  have e : win0_2.index t = ![t.val, 0] := (idx t).2.2.1
  show V m c main_arg2 (((cfg0.win 2).blk t).view.emb y) = mA m c i
  rw [V_main_arg2]
  refine congrArg (mA m c) (funext fun a => Fin.ext ?_)
  match a with
  | ⟨0, _⟩ => show win0_2.index t (0 : Fin 2) * 128 + 1 * (y 0).val = (i 0).val; rw [e]; show t.val * 128 + 1 * (y 0).val = _; omega
  | ⟨1, _⟩ => show win0_2.index t (1 : Fin 2) * 1792 + 1 * (y 1).val = (i 1).val; rw [e]; show 0 * 1792 + 1 * (y 1).val = _; omega
theorem vB_apply (c : Dev nD) (t : Fin cfg0.N) (y : S128x1792.Idx) (i : S1024x1792.Idx) (h0 : (i 0).val = t.val * 128 + (y 0).val) (h1 : (i 1).val = (y 1).val) :
    (vB m c t y : EReal) = vA m c i := by
  have e : win0_3.index t = ![t.val, 0] := (idx t).2.2.2
  show V m c main_arg3 (((cfg0.win 3).blk t).view.emb y) = vA m c i
  rw [V_main_arg3]
  refine congrArg (vA m c) (funext fun a => Fin.ext ?_)
  match a with
  | ⟨0, _⟩ => show win0_3.index t (0 : Fin 2) * 128 + 1 * (y 0).val = (i 0).val; rw [e]; show t.val * 128 + 1 * (y 0).val = _; omega
  | ⟨1, _⟩ => show win0_3.index t (1 : Fin 2) * 1792 + 1 * (y 1).val = (i 1).val; rw [e]; show 0 * 1792 + 1 * (y 1).val = _; omega

/-! ## The results -/

/-- What a point writes back of the gradient is its block, -/
theorem flushed4 (c : Dev nD) (t : Fin cfg0.N) : (dats m 0 c).flushed 4 t = ((cfg0.win 4).blk t).view.read (Elt Ideal) (G4 (gA m c)) := by
  show (cfg0.win 4).cut (grid0.coords t) ((dats m 0 c).after 4 t) = _
  rw [after0_4, out4_eq]
  funext y
  have e0 : win0_4.index t (0 : Fin 2) = t.val := congrFun (idxR t).1 0
  have e1 : win0_4.index t (1 : Fin 2) = 0 := congrFun (idxR t).1 1
  have hb0 : (((cfg0.win 4).blk t).view.emb y 0).val = win0_4.index t (0 : Fin 2) * 128 + 1 * (y 0).val := rfl
  have hb1 : (((cfg0.win 4).blk t).view.emb y 1).val = win0_4.index t (1 : Fin 2) * 1792 + 1 * (y 1).val := rfl
  have h0 : (((cfg0.win 4).blk t).view.emb y 0).val = t.val * 128 + (((cfg0.win 4).xinj (grid0.coords t) y) 0).val := by
    show _ = t.val * 128 + (y 0).val
    rw [hb0, e0]; omega
  have h1 : (((cfg0.win 4).blk t).view.emb y 1).val = (((cfg0.win 4).xinj (grid0.coords t) y) 1).val := by
    show _ = (y 1).val
    rw [hb1, e1]; omega
  exact gB_apply m c t _ _ h0 h1

/-- and the array after the run. -/
theorem final4 (c : Dev nD) : (dats m 0 c).arrAt 4 cfg0.N = G4 (gA m c) :=
  (dats m 0 c).arrAt_eq_of_cover 4 _ (fun t _ => flushed4 m c t) (fun i => by
    have hi0 : (i 0).val < 1024 := (i 0).isLt
    have hi1 : (i 1).val < 1792 := (i 1).isLt
    have hlt : (i 0).val / 128 < grid0.N := lt_of_lt_of_eq (by omega : _ < 8) N_0.symm
    have ht := (idxR ⟨(i 0).val / 128, hlt⟩).1
    refine ⟨⟨(i 0).val / 128, hlt⟩, flush0_4 _, ?_⟩
    have q0 : win0_4.index (⟨(i 0).val / 128, hlt⟩ : Fin grid0.N) (0 : Fin 2) = (i 0).val / 128 := congrFun ht 0
    have q1 : win0_4.index (⟨(i 0).val / 128, hlt⟩ : Fin grid0.N) (1 : Fin 2) = 0 := congrFun ht 1
    generalize (⟨(i 0).val / 128, hlt⟩ : Fin grid0.N) = t at q0 q1 ⊢
    show i ∈ ((View.whole main_v0_0).slice (win0_4.rect t)).set
    rw [View.set_slice_whole, Rect.mem_set_unit]
    intro a
    match a with
    | ⟨0, _⟩ => show win0_4.index t (0 : Fin 2) * 128 ≤ (i 0).val ∧ (i 0).val < win0_4.index t (0 : Fin 2) * 128 + 128; omega
    | ⟨1, _⟩ => show win0_4.index t (1 : Fin 2) * 1792 ≤ (i 1).val ∧ (i 1).val < win0_4.index t (1 : Fin 2) * 1792 + 1792; omega)

/-- What a point writes back of the weight's change is its block, -/
theorem flushed5 (c : Dev nD) (t : Fin cfg0.N) : (dats m 0 c).flushed 5 t = ((cfg0.win 5).blk t).view.read (Elt Ideal) (G5 (gA m c) (wA m c) (mA m c) (vA m c)) := by
  show (cfg0.win 5).cut (grid0.coords t) ((dats m 0 c).after 5 t) = _
  rw [after0_5, out5_eq]
  funext y
  have e0 : win0_5.index t (0 : Fin 2) = t.val := congrFun (idxR t).2.1 0
  have e1 : win0_5.index t (1 : Fin 2) = 0 := congrFun (idxR t).2.1 1
  have hb0 : (((cfg0.win 5).blk t).view.emb y 0).val = win0_5.index t (0 : Fin 2) * 128 + 1 * (y 0).val := rfl
  have hb1 : (((cfg0.win 5).blk t).view.emb y 1).val = win0_5.index t (1 : Fin 2) * 1792 + 1 * (y 1).val := rfl
  have h0 : (((cfg0.win 5).blk t).view.emb y 0).val = t.val * 128 + (((cfg0.win 5).xinj (grid0.coords t) y) 0).val := by
    show _ = t.val * 128 + (y 0).val
    rw [hb0, e0]; omega
  have h1 : (((cfg0.win 5).blk t).view.emb y 1).val = (((cfg0.win 5).xinj (grid0.coords t) y) 1).val := by
    show _ = (y 1).val
    rw [hb1, e1]; omega
  exact (delta_apply _ _ _ _ _).trans (by show delta (gS (gB m c t) _) (wB m c t _) (mB m c t _) (vB m c t _) = delta (G4 (gA m c) _) (wA m c _) (mA m c _) (vA m c _); rw [gB_apply m c t _ _ h0 h1, wB_apply m c t _ _ h0 h1, mB_apply m c t _ _ h0 h1, vB_apply m c t _ _ h0 h1])

/-- and the array after the run. -/
theorem final5 (c : Dev nD) : (dats m 0 c).arrAt 5 cfg0.N = G5 (gA m c) (wA m c) (mA m c) (vA m c) :=
  (dats m 0 c).arrAt_eq_of_cover 5 _ (fun t _ => flushed5 m c t) (fun i => by
    have hi0 : (i 0).val < 1024 := (i 0).isLt
    have hi1 : (i 1).val < 1792 := (i 1).isLt
    have hlt : (i 0).val / 128 < grid0.N := lt_of_lt_of_eq (by omega : _ < 8) N_0.symm
    have ht := (idxR ⟨(i 0).val / 128, hlt⟩).2.1
    refine ⟨⟨(i 0).val / 128, hlt⟩, flush0_5 _, ?_⟩
    have q0 : win0_5.index (⟨(i 0).val / 128, hlt⟩ : Fin grid0.N) (0 : Fin 2) = (i 0).val / 128 := congrFun ht 0
    have q1 : win0_5.index (⟨(i 0).val / 128, hlt⟩ : Fin grid0.N) (1 : Fin 2) = 0 := congrFun ht 1
    generalize (⟨(i 0).val / 128, hlt⟩ : Fin grid0.N) = t at q0 q1 ⊢
    show i ∈ ((View.whole main_v0_1).slice (win0_5.rect t)).set
    rw [View.set_slice_whole, Rect.mem_set_unit]
    intro a
    match a with
    | ⟨0, _⟩ => show win0_5.index t (0 : Fin 2) * 128 ≤ (i 0).val ∧ (i 0).val < win0_5.index t (0 : Fin 2) * 128 + 128; omega
    | ⟨1, _⟩ => show win0_5.index t (1 : Fin 2) * 1792 ≤ (i 1).val ∧ (i 1).val < win0_5.index t (1 : Fin 2) * 1792 + 1792; omega)

/-- What a point writes back of the first moment is its block, -/
theorem flushed6 (c : Dev nD) (t : Fin cfg0.N) : (dats m 0 c).flushed 6 t = ((cfg0.win 6).blk t).view.read (Elt Ideal) (G6 (gA m c) (mA m c)) := by
  show (cfg0.win 6).cut (grid0.coords t) ((dats m 0 c).after 6 t) = _
  rw [after0_6, out6_eq]
  funext y
  have e0 : win0_6.index t (0 : Fin 2) = t.val := congrFun (idxR t).2.2.1 0
  have e1 : win0_6.index t (1 : Fin 2) = 0 := congrFun (idxR t).2.2.1 1
  have hb0 : (((cfg0.win 6).blk t).view.emb y 0).val = win0_6.index t (0 : Fin 2) * 128 + 1 * (y 0).val := rfl
  have hb1 : (((cfg0.win 6).blk t).view.emb y 1).val = win0_6.index t (1 : Fin 2) * 1792 + 1 * (y 1).val := rfl
  have h0 : (((cfg0.win 6).blk t).view.emb y 0).val = t.val * 128 + (((cfg0.win 6).xinj (grid0.coords t) y) 0).val := by
    show _ = t.val * 128 + (y 0).val
    rw [hb0, e0]; omega
  have h1 : (((cfg0.win 6).blk t).view.emb y 1).val = (((cfg0.win 6).xinj (grid0.coords t) y) 1).val := by
    show _ = (y 1).val
    rw [hb1, e1]; omega
  exact (mom_apply _ _ _).trans (by show mom (gS (gB m c t) _) (mB m c t _) = mom (G4 (gA m c) _) (mA m c _); rw [gB_apply m c t _ _ h0 h1, mB_apply m c t _ _ h0 h1])

/-- and the array after the run. -/
theorem final6 (c : Dev nD) : (dats m 0 c).arrAt 6 cfg0.N = G6 (gA m c) (mA m c) :=
  (dats m 0 c).arrAt_eq_of_cover 6 _ (fun t _ => flushed6 m c t) (fun i => by
    have hi0 : (i 0).val < 1024 := (i 0).isLt
    have hi1 : (i 1).val < 1792 := (i 1).isLt
    have hlt : (i 0).val / 128 < grid0.N := lt_of_lt_of_eq (by omega : _ < 8) N_0.symm
    have ht := (idxR ⟨(i 0).val / 128, hlt⟩).2.2.1
    refine ⟨⟨(i 0).val / 128, hlt⟩, flush0_6 _, ?_⟩
    have q0 : win0_6.index (⟨(i 0).val / 128, hlt⟩ : Fin grid0.N) (0 : Fin 2) = (i 0).val / 128 := congrFun ht 0
    have q1 : win0_6.index (⟨(i 0).val / 128, hlt⟩ : Fin grid0.N) (1 : Fin 2) = 0 := congrFun ht 1
    generalize (⟨(i 0).val / 128, hlt⟩ : Fin grid0.N) = t at q0 q1 ⊢
    show i ∈ ((View.whole main_v0_2).slice (win0_6.rect t)).set
    rw [View.set_slice_whole, Rect.mem_set_unit]
    intro a
    match a with
    | ⟨0, _⟩ => show win0_6.index t (0 : Fin 2) * 128 ≤ (i 0).val ∧ (i 0).val < win0_6.index t (0 : Fin 2) * 128 + 128; omega
    | ⟨1, _⟩ => show win0_6.index t (1 : Fin 2) * 1792 ≤ (i 1).val ∧ (i 1).val < win0_6.index t (1 : Fin 2) * 1792 + 1792; omega)

/-- What a point writes back of the second moment is its block, -/
theorem flushed7 (c : Dev nD) (t : Fin cfg0.N) : (dats m 0 c).flushed 7 t = ((cfg0.win 7).blk t).view.read (Elt Ideal) (G7 (gA m c) (vA m c)) := by
  show (cfg0.win 7).cut (grid0.coords t) ((dats m 0 c).after 7 t) = _
  rw [after0_7, out7_eq]
  funext y
  have e0 : win0_7.index t (0 : Fin 2) = t.val := congrFun (idxR t).2.2.2 0
  have e1 : win0_7.index t (1 : Fin 2) = 0 := congrFun (idxR t).2.2.2 1
  have hb0 : (((cfg0.win 7).blk t).view.emb y 0).val = win0_7.index t (0 : Fin 2) * 128 + 1 * (y 0).val := rfl
  have hb1 : (((cfg0.win 7).blk t).view.emb y 1).val = win0_7.index t (1 : Fin 2) * 1792 + 1 * (y 1).val := rfl
  have h0 : (((cfg0.win 7).blk t).view.emb y 0).val = t.val * 128 + (((cfg0.win 7).xinj (grid0.coords t) y) 0).val := by
    show _ = t.val * 128 + (y 0).val
    rw [hb0, e0]; omega
  have h1 : (((cfg0.win 7).blk t).view.emb y 1).val = (((cfg0.win 7).xinj (grid0.coords t) y) 1).val := by
    show _ = (y 1).val
    rw [hb1, e1]; omega
  exact (sqm_apply _ _ _).trans (by show sqm (gS (gB m c t) _) (vB m c t _) = sqm (G4 (gA m c) _) (vA m c _); rw [gB_apply m c t _ _ h0 h1, vB_apply m c t _ _ h0 h1])

/-- and the array after the run. -/
theorem final7 (c : Dev nD) : (dats m 0 c).arrAt 7 cfg0.N = G7 (gA m c) (vA m c) :=
  (dats m 0 c).arrAt_eq_of_cover 7 _ (fun t _ => flushed7 m c t) (fun i => by
    have hi0 : (i 0).val < 1024 := (i 0).isLt
    have hi1 : (i 1).val < 1792 := (i 1).isLt
    have hlt : (i 0).val / 128 < grid0.N := lt_of_lt_of_eq (by omega : _ < 8) N_0.symm
    have ht := (idxR ⟨(i 0).val / 128, hlt⟩).2.2.2
    refine ⟨⟨(i 0).val / 128, hlt⟩, flush0_7 _, ?_⟩
    have q0 : win0_7.index (⟨(i 0).val / 128, hlt⟩ : Fin grid0.N) (0 : Fin 2) = (i 0).val / 128 := congrFun ht 0
    have q1 : win0_7.index (⟨(i 0).val / 128, hlt⟩ : Fin grid0.N) (1 : Fin 2) = 0 := congrFun ht 1
    generalize (⟨(i 0).val / 128, hlt⟩ : Fin grid0.N) = t at q0 q1 ⊢
    show i ∈ ((View.whole main_v0_3).slice (win0_7.rect t)).set
    rw [View.set_slice_whole, Rect.mem_set_unit]
    intro a
    match a with
    | ⟨0, _⟩ => show win0_7.index t (0 : Fin 2) * 128 ≤ (i 0).val ∧ (i 0).val < win0_7.index t (0 : Fin 2) * 128 + 128; omega
    | ⟨1, _⟩ => show win0_7.index t (1 : Fin 2) * 1792 ≤ (i 1).val ∧ (i 1).val < win0_7.index t (1 : Fin 2) * 1792 + 1792; omega)

/-! ## The reference -/

/-- The reference's sum over the devices, -/
theorem ref4 (g : S8x1024x1792.Idx → EReal) : (Cert.Reference12Ideal.Read.val_main_v1 (F := Ideal) g : S1024x1792.Idx → EReal) = G4 g := by
  funext i
  refine (Cert.Reference12Ideal.Read.val_main_v1_apply g i).trans ?_
  refine (congrArg (· + _) (Ideal.ofBits_zero_f32 : _ = (0 : EReal))).trans ?_
  rw [zero_add]
  refine Finset.sum_congr rfl fun k _ => congrArg g (funext fun a => Fin.ext ?_)
  match a with
  | ⟨0, _⟩ => rfl
  | ⟨1, _⟩ => rfl
  | ⟨2, _⟩ => rfl

/-- the change of the weight, -/
theorem ref5 (g : S8x1024x1792.Idx → EReal) (w x y : S1024x1792.Idx → EReal) : (Cert.Reference12Ideal.Read.val_main_v25 (F := Ideal) g w x y : S1024x1792.Idx → EReal) = G5 g w x y := by
  unfold G5
  rw [← ref4 g]
  funext i
  simp only [Cert.Reference12Ideal.Read.val_main_cst_0_apply, Cert.Reference12Ideal.Read.val_main_cst_1_apply, Cert.Reference12Ideal.Read.val_main_cst_2_apply, Cert.Reference12Ideal.Read.val_main_cst_3_apply, Cert.Reference12Ideal.Read.val_main_cst_4_apply, Cert.Reference12Ideal.Read.val_main_cst_5_apply, Cert.Reference12Ideal.Read.val_main_cst_6_apply, Cert.Reference12Ideal.Read.val_main_cst_7_apply, Cert.Reference12Ideal.Read.val_main_cst_8_apply, Cert.Reference12Ideal.Read.val_main_cst_apply, Cert.Reference12Ideal.Read.val_main_v10_apply, Cert.Reference12Ideal.Read.val_main_v11_apply, Cert.Reference12Ideal.Read.val_main_v12_apply, Cert.Reference12Ideal.Read.val_main_v13_apply, Cert.Reference12Ideal.Read.val_main_v14_apply, Cert.Reference12Ideal.Read.val_main_v15_apply, Cert.Reference12Ideal.Read.val_main_v16_apply, Cert.Reference12Ideal.Read.val_main_v17_apply, Cert.Reference12Ideal.Read.val_main_v18_apply, Cert.Reference12Ideal.Read.val_main_v19_apply, Cert.Reference12Ideal.Read.val_main_v20_apply, Cert.Reference12Ideal.Read.val_main_v21_apply, Cert.Reference12Ideal.Read.val_main_v22_apply, Cert.Reference12Ideal.Read.val_main_v23_apply, Cert.Reference12Ideal.Read.val_main_v24_apply, Cert.Reference12Ideal.Read.val_main_v25_apply, Cert.Reference12Ideal.Read.val_main_v2_apply, Cert.Reference12Ideal.Read.val_main_v3_apply, Cert.Reference12Ideal.Read.val_main_v4_apply, Cert.Reference12Ideal.Read.val_main_v5_apply, Cert.Reference12Ideal.Read.val_main_v6_apply, Cert.Reference12Ideal.Read.val_main_v7_apply, Cert.Reference12Ideal.Read.val_main_v8_apply, Cert.Reference12Ideal.Read.val_main_v9_apply]
  rfl
/-- the first moment -/
theorem ref6 (g : S8x1024x1792.Idx → EReal) (x : S1024x1792.Idx → EReal) : (Cert.Reference12Ideal.Read.val_main_v6 (F := Ideal) g x : S1024x1792.Idx → EReal) = G6 g x := by
  unfold G6
  rw [← ref4 g]
  funext i
  simp only [Cert.Reference12Ideal.Read.val_main_cst_0_apply, Cert.Reference12Ideal.Read.val_main_cst_1_apply, Cert.Reference12Ideal.Read.val_main_cst_2_apply, Cert.Reference12Ideal.Read.val_main_cst_3_apply, Cert.Reference12Ideal.Read.val_main_cst_4_apply, Cert.Reference12Ideal.Read.val_main_cst_5_apply, Cert.Reference12Ideal.Read.val_main_cst_6_apply, Cert.Reference12Ideal.Read.val_main_cst_7_apply, Cert.Reference12Ideal.Read.val_main_cst_8_apply, Cert.Reference12Ideal.Read.val_main_cst_apply, Cert.Reference12Ideal.Read.val_main_v10_apply, Cert.Reference12Ideal.Read.val_main_v11_apply, Cert.Reference12Ideal.Read.val_main_v12_apply, Cert.Reference12Ideal.Read.val_main_v13_apply, Cert.Reference12Ideal.Read.val_main_v14_apply, Cert.Reference12Ideal.Read.val_main_v15_apply, Cert.Reference12Ideal.Read.val_main_v16_apply, Cert.Reference12Ideal.Read.val_main_v17_apply, Cert.Reference12Ideal.Read.val_main_v18_apply, Cert.Reference12Ideal.Read.val_main_v19_apply, Cert.Reference12Ideal.Read.val_main_v20_apply, Cert.Reference12Ideal.Read.val_main_v21_apply, Cert.Reference12Ideal.Read.val_main_v22_apply, Cert.Reference12Ideal.Read.val_main_v23_apply, Cert.Reference12Ideal.Read.val_main_v24_apply, Cert.Reference12Ideal.Read.val_main_v25_apply, Cert.Reference12Ideal.Read.val_main_v2_apply, Cert.Reference12Ideal.Read.val_main_v3_apply, Cert.Reference12Ideal.Read.val_main_v4_apply, Cert.Reference12Ideal.Read.val_main_v5_apply, Cert.Reference12Ideal.Read.val_main_v6_apply, Cert.Reference12Ideal.Read.val_main_v7_apply, Cert.Reference12Ideal.Read.val_main_v8_apply, Cert.Reference12Ideal.Read.val_main_v9_apply]
  rfl
/-- and the second. -/
theorem ref7 (g : S8x1024x1792.Idx → EReal) (y : S1024x1792.Idx → EReal) : (Cert.Reference12Ideal.Read.val_main_v12 (F := Ideal) g y : S1024x1792.Idx → EReal) = G7 g y := by
  unfold G7
  rw [← ref4 g]
  funext i
  simp only [Cert.Reference12Ideal.Read.val_main_cst_0_apply, Cert.Reference12Ideal.Read.val_main_cst_1_apply, Cert.Reference12Ideal.Read.val_main_cst_2_apply, Cert.Reference12Ideal.Read.val_main_cst_3_apply, Cert.Reference12Ideal.Read.val_main_cst_4_apply, Cert.Reference12Ideal.Read.val_main_cst_5_apply, Cert.Reference12Ideal.Read.val_main_cst_6_apply, Cert.Reference12Ideal.Read.val_main_cst_7_apply, Cert.Reference12Ideal.Read.val_main_cst_8_apply, Cert.Reference12Ideal.Read.val_main_cst_apply, Cert.Reference12Ideal.Read.val_main_v10_apply, Cert.Reference12Ideal.Read.val_main_v11_apply, Cert.Reference12Ideal.Read.val_main_v12_apply, Cert.Reference12Ideal.Read.val_main_v13_apply, Cert.Reference12Ideal.Read.val_main_v14_apply, Cert.Reference12Ideal.Read.val_main_v15_apply, Cert.Reference12Ideal.Read.val_main_v16_apply, Cert.Reference12Ideal.Read.val_main_v17_apply, Cert.Reference12Ideal.Read.val_main_v18_apply, Cert.Reference12Ideal.Read.val_main_v19_apply, Cert.Reference12Ideal.Read.val_main_v20_apply, Cert.Reference12Ideal.Read.val_main_v21_apply, Cert.Reference12Ideal.Read.val_main_v22_apply, Cert.Reference12Ideal.Read.val_main_v23_apply, Cert.Reference12Ideal.Read.val_main_v24_apply, Cert.Reference12Ideal.Read.val_main_v25_apply, Cert.Reference12Ideal.Read.val_main_v2_apply, Cert.Reference12Ideal.Read.val_main_v3_apply, Cert.Reference12Ideal.Read.val_main_v4_apply, Cert.Reference12Ideal.Read.val_main_v5_apply, Cert.Reference12Ideal.Read.val_main_v6_apply, Cert.Reference12Ideal.Read.val_main_v7_apply, Cert.Reference12Ideal.Read.val_main_v8_apply, Cert.Reference12Ideal.Read.val_main_v9_apply]
  rfl

/-- The optimiser step: from the same arguments the kernel and the reference end at the same four arrays. -/
theorem algebraic : Cert.algebraic_Kernel12Ideal_Reference12Ideal (hKernel12Ideal := Cert.Kernel12Ideal.Gen.facts)
    (hReference12Ideal := Cert.Reference12Ideal.Gen.facts) := by
  intro m g m' g' _ hargs
  refine ⟨fun c => G4 (gA m c), fun c => G5 (gA m c) (wA m c) (mA m c) (vA m c), fun c => G6 (gA m c) (mA m c), fun c => G7 (gA m c) (vA m c), ?_, ?_⟩
  · refine (θ_run _ _ _).mono (fun r h c => ?_) (Cert.Kernel12Ideal.Value.run_blocks (F := Ideal) m g)
    obtain ⟨h4, h5, h6, h7, hr⟩ := h c
    exact ⟨h4.trans (final4 m c), h5.trans (final5 m c), h6.trans (final6 m c), h7.trans (final7 m c), hr⟩
  · refine (θ_run _ _ _).mono (fun r h c => ?_) (Cert.Reference12Ideal.Value.run (F := Ideal) m' g')
    obtain ⟨h4, h5, h6, h7, hr⟩ := h c
    obtain ⟨e0, e1, e2, e3⟩ := hargs c
    refine ⟨h4.trans ((Cert.Reference12Ideal.Read.val_main_v1_eq _).trans ?_), h5.trans ((Cert.Reference12Ideal.Read.val_main_v25_eq _ _ _ _).trans ?_), h6.trans ((Cert.Reference12Ideal.Read.val_main_v6_eq _ _).trans ?_), h7.trans ((Cert.Reference12Ideal.Read.val_main_v12_eq _ _).trans ?_), hr⟩
    · rw [e0]; exact ref4 _
    · rw [e0, e1, e2, e3]; exact ref5 _ _ _ _
    · rw [e0, e2]; exact ref6 _ _
    · rw [e0, e3]; exact ref7 _ _

/-- The reference's run leaves its arguments alone; it declares no counter. -/
theorem frame_reference : Cert.quiescent_Reference12Ideal (hReference12Ideal := Cert.Reference12Ideal.Gen.facts) := fun m g _ =>
  (θ_run Cert.Reference12Ideal.defs _ _).mono (fun r h => ⟨fun c => (h c).2.2.2.2, sem_eq_zero_of_no_sems (by decide) r.2⟩)
    (Cert.Reference12Ideal.Value.run (F := Ideal) m g)

end Cert.Proof.Adam12

end
-- ==== Proof.Adam13.lean ====
/-
  The optimiser step of a vector of 1024: every entry of the four results is the step's own function of the entry's gradient,
  weight and moments, in the kernel as in the reference.
-/
module

public import proofs.«01_k».proof.Proof.AdamStep
public import proofs.«01_k».proof.Defs
public import proofs.«01_k».proof.Proof.Gen.Kernel13Ideal.Value
public import proofs.«01_k».proof.Proof.Gen.Reference13Ideal.Run
public import proofs.«01_k».proof.Proof.Gen.Reference13Ideal.Read
public import Idealize.ShloMosaic.Lib.Pipeline.ValueKit.Acc
public import Idealize.ShloMosaic.Lib.Pipeline.ValueKit.Point
public import Idealize.ShloMosaic.Lib.Claim
public import Idealize.ShloMosaic.Lib.Tactic

@[expose] public section

noncomputable section

namespace Cert.Proof.Adam13

open Idealize.ShloMosaic hiding ix2 ix3 addf_apply
open Idealize.ShloMosaic.TcCoe Idealize.SL.Sem
open Cert.Kernel13Ideal Cert.Kernel13Ideal.Gen Cert.Proof.AdamStep Idealize.ShloMosaic.ValueIdx
open Idealize.ShloMosaic.Pipeline (Dat Cfg Window)

variable (m : (ℓ : Loc nD τ sig) → Buf (Elt Ideal) ℓ) (ρ : Dev nD → PrngReg)

/-- The gradient at launch, -/
def gA (c : Dev nD) : S1x1024.Idx → EReal := m ((c : Thread nD τ).loc main_arg0)
/-- the weight, -/
def wA (c : Dev nD) : S1x1024.Idx → EReal := m ((c : Thread nD τ).loc main_arg1)
/-- the first moment -/
def mA (c : Dev nD) : S1x1024.Idx → EReal := m ((c : Thread nD τ).loc main_arg2)
/-- and the second. -/
def vA (c : Dev nD) : S1x1024.Idx → EReal := m ((c : Thread nD τ).loc main_arg3)

/-- The gradient, -/
def G4 (g : S1x1024.Idx → EReal) : S1x1024.Idx → EReal := g
/-- the change of the weight, -/
def G5 (g : S1x1024.Idx → EReal) (w x y : S1x1024.Idx → EReal) : S1x1024.Idx → EReal := fun i => delta (G4 g i) (w i) (x i) (y i)
/-- the first moment after the step -/
def G6 (g : S1x1024.Idx → EReal) (x : S1x1024.Idx → EReal) : S1x1024.Idx → EReal := fun i => mom (G4 g i) (x i)
/-- and the second. -/
def G7 (g : S1x1024.Idx → EReal) (y : S1x1024.Idx → EReal) : S1x1024.Idx → EReal := fun i => sqm (G4 g i) (y i)

/-! ## The body -/

/-- The first moment's payload, -/
theorem mom_apply (g x : Vec Ideal S1x1024 .f32) (j : S1x1024.Idx) : k0_pay1 (F := Ideal) g x j = mom (g j) (x j) := rfl
/-- the second's -/
theorem sqm_apply (g x : Vec Ideal S1x1024 .f32) (j : S1x1024.Idx) : k0_pay2 (F := Ideal) g x j = sqm (g j) (x j) := rfl
/-- and the change's, entry by entry. -/
theorem delta_apply (g w x y : Vec Ideal S1x1024 .f32) (j : S1x1024.Idx) : k0_pay3 (F := Ideal) g w x y j = delta (g j) (w j) (x j) (y j) := rfl

/-- The offset of a whole block. -/
theorem hz : (![0, 0] : Fin 2 → Nat) = fun _ => 0 := funext fun a => by fin_cases a <;> rfl

/-- The block of the gradient that the body steps with. -/
def gS (g : Vec Ideal S1x1024 .f32) : Vec Ideal S1x1024 .f32 := g

/-- What the body leaves in the four results' blocks. -/
theorem out4_eq (g : Vec Ideal S1x1024 .f32) (w x y : Vec Ideal S1x1024 .f32) : out0_4 (F := Ideal) g w x y = gS g := by
  unfold out0_4 gS
  rw [View.canon_unit_zero hz, View.ld_unit_zero (S := S1x1024) hz _ g]
theorem out5_eq (g : Vec Ideal S1x1024 .f32) (w x y : Vec Ideal S1x1024 .f32) : out0_5 (F := Ideal) g w x y = k0_pay3 (F := Ideal) (gS g) w x y := by
  unfold out0_5 gS
  rw [View.canon_unit_zero hz, View.ld_unit_zero (S := S1x1024) hz _ g, View.ld_unit_zero (S := S1x1024) hz _ w, View.ld_unit_zero (S := S1x1024) hz _ x, View.ld_unit_zero (S := S1x1024) hz _ y]
theorem out6_eq (g : Vec Ideal S1x1024 .f32) (w x y : Vec Ideal S1x1024 .f32) : out0_6 (F := Ideal) g w x y = k0_pay1 (F := Ideal) (gS g) x := by
  unfold out0_6 gS
  rw [View.canon_unit_zero hz, View.ld_unit_zero (S := S1x1024) hz _ g, View.ld_unit_zero (S := S1x1024) hz _ x]
theorem out7_eq (g : Vec Ideal S1x1024 .f32) (w x y : Vec Ideal S1x1024 .f32) : out0_7 (F := Ideal) g w x y = k0_pay2 (F := Ideal) (gS g) y := by
  unfold out0_7 gS
  rw [View.canon_unit_zero hz, View.ld_unit_zero (S := S1x1024) hz _ g, View.ld_unit_zero (S := S1x1024) hz _ y]

/-! ## The blocks -/

/-- Where the windows' blocks lie, decided over the grid. -/
theorem idx : ∀ t : Fin cfg0.N, win0_0.index t = ![t.val, 0] ∧ win0_1.index t = ![t.val, 0] ∧ win0_2.index t = ![t.val, 0] ∧ win0_3.index t = ![t.val, 0] :=
  (by decide +kernel : ∀ t : Fin grid0.N, _)
theorem idxR : ∀ t : Fin cfg0.N, win0_4.index t = ![t.val, 0] ∧ win0_5.index t = ![t.val, 0] ∧ win0_6.index t = ![t.val, 0] ∧ win0_7.index t = ![t.val, 0] :=
  (by decide +kernel : ∀ t : Fin grid0.N, _)

/-- The input blocks at point `t`. -/
def gB (c : Dev nD) (t : Fin cfg0.N) : S1x1024.Idx → EReal := iblk m c 0 t
def wB (c : Dev nD) (t : Fin cfg0.N) : S1x1024.Idx → EReal := iblk m c 1 t
def mB (c : Dev nD) (t : Fin cfg0.N) : S1x1024.Idx → EReal := iblk m c 2 t
def vB (c : Dev nD) (t : Fin cfg0.N) : S1x1024.Idx → EReal := iblk m c 3 t

/-- An entry of a block is the array's entry. -/
theorem gB_apply (c : Dev nD) (t : Fin cfg0.N) (y : S1x1024.Idx) (i : S1x1024.Idx) (h0 : (i 0).val = t.val * 1 + (y 0).val) (h1 : (i 1).val = (y 1).val) :
    (gS (gB m c t) y : EReal) = G4 (gA m c) i := by
  have e : win0_0.index t = ![t.val, 0] := (idx t).1
  show V m c main_arg0 (((cfg0.win 0).blk t).view.emb y) = gA m c i
  rw [V_main_arg0]
  refine congrArg (gA m c) (funext fun a => Fin.ext ?_)
  match a with
  | ⟨0, _⟩ => show win0_0.index t (0 : Fin 2) * 1 + 1 * (y 0).val = (i 0).val; rw [e]; show t.val * 1 + 1 * (y 0).val = _; omega
  | ⟨1, _⟩ => show win0_0.index t (1 : Fin 2) * 1024 + 1 * (y 1).val = (i 1).val; rw [e]; show 0 * 1024 + 1 * (y 1).val = _; omega
theorem wB_apply (c : Dev nD) (t : Fin cfg0.N) (y : S1x1024.Idx) (i : S1x1024.Idx) (h0 : (i 0).val = t.val * 1 + (y 0).val) (h1 : (i 1).val = (y 1).val) :
    (wB m c t y : EReal) = wA m c i := by
  have e : win0_1.index t = ![t.val, 0] := (idx t).2.1
  show V m c main_arg1 (((cfg0.win 1).blk t).view.emb y) = wA m c i
  rw [V_main_arg1]
  refine congrArg (wA m c) (funext fun a => Fin.ext ?_)
  match a with
  | ⟨0, _⟩ => show win0_1.index t (0 : Fin 2) * 1 + 1 * (y 0).val = (i 0).val; rw [e]; show t.val * 1 + 1 * (y 0).val = _; omega
  | ⟨1, _⟩ => show win0_1.index t (1 : Fin 2) * 1024 + 1 * (y 1).val = (i 1).val; rw [e]; show 0 * 1024 + 1 * (y 1).val = _; omega
theorem mB_apply (c : Dev nD) (t : Fin cfg0.N) (y : S1x1024.Idx) (i : S1x1024.Idx) (h0 : (i 0).val = t.val * 1 + (y 0).val) (h1 : (i 1).val = (y 1).val) :
    (mB m c t y : EReal) = mA m c i := by
  have e : win0_2.index t = ![t.val, 0] := (idx t).2.2.1
  show V m c main_arg2 (((cfg0.win 2).blk t).view.emb y) = mA m c i
  rw [V_main_arg2]
  refine congrArg (mA m c) (funext fun a => Fin.ext ?_)
  match a with
  | ⟨0, _⟩ => show win0_2.index t (0 : Fin 2) * 1 + 1 * (y 0).val = (i 0).val; rw [e]; show t.val * 1 + 1 * (y 0).val = _; omega
  | ⟨1, _⟩ => show win0_2.index t (1 : Fin 2) * 1024 + 1 * (y 1).val = (i 1).val; rw [e]; show 0 * 1024 + 1 * (y 1).val = _; omega
theorem vB_apply (c : Dev nD) (t : Fin cfg0.N) (y : S1x1024.Idx) (i : S1x1024.Idx) (h0 : (i 0).val = t.val * 1 + (y 0).val) (h1 : (i 1).val = (y 1).val) :
    (vB m c t y : EReal) = vA m c i := by
  have e : win0_3.index t = ![t.val, 0] := (idx t).2.2.2
  show V m c main_arg3 (((cfg0.win 3).blk t).view.emb y) = vA m c i
  rw [V_main_arg3]
  refine congrArg (vA m c) (funext fun a => Fin.ext ?_)
  match a with
  | ⟨0, _⟩ => show win0_3.index t (0 : Fin 2) * 1 + 1 * (y 0).val = (i 0).val; rw [e]; show t.val * 1 + 1 * (y 0).val = _; omega
  | ⟨1, _⟩ => show win0_3.index t (1 : Fin 2) * 1024 + 1 * (y 1).val = (i 1).val; rw [e]; show 0 * 1024 + 1 * (y 1).val = _; omega

/-! ## The results -/

/-- What a point writes back of the gradient is its block, -/
theorem flushed4 (c : Dev nD) (t : Fin cfg0.N) : (dats m 0 c).flushed 4 t = ((cfg0.win 4).blk t).view.read (Elt Ideal) (G4 (gA m c)) := by
  show (cfg0.win 4).cut (grid0.coords t) ((dats m 0 c).after 4 t) = _
  rw [after0_4, out4_eq]
  funext y
  have e0 : win0_4.index t (0 : Fin 2) = t.val := congrFun (idxR t).1 0
  have e1 : win0_4.index t (1 : Fin 2) = 0 := congrFun (idxR t).1 1
  have hb0 : (((cfg0.win 4).blk t).view.emb y 0).val = win0_4.index t (0 : Fin 2) * 1 + 1 * (y 0).val := rfl
  have hb1 : (((cfg0.win 4).blk t).view.emb y 1).val = win0_4.index t (1 : Fin 2) * 1024 + 1 * (y 1).val := rfl
  have h0 : (((cfg0.win 4).blk t).view.emb y 0).val = t.val * 1 + (((cfg0.win 4).xinj (grid0.coords t) y) 0).val := by
    show _ = t.val * 1 + (y 0).val
    rw [hb0, e0]; omega
  have h1 : (((cfg0.win 4).blk t).view.emb y 1).val = (((cfg0.win 4).xinj (grid0.coords t) y) 1).val := by
    show _ = (y 1).val
    rw [hb1, e1]; omega
  exact gB_apply m c t _ _ h0 h1

/-- and the array after the run. -/
theorem final4 (c : Dev nD) : (dats m 0 c).arrAt 4 cfg0.N = G4 (gA m c) :=
  (dats m 0 c).arrAt_eq_of_cover 4 _ (fun t _ => flushed4 m c t) (fun i => by
    have hi0 : (i 0).val < 1 := (i 0).isLt
    have hi1 : (i 1).val < 1024 := (i 1).isLt
    have hlt : (i 0).val / 1 < grid0.N := lt_of_lt_of_eq (by omega : _ < 1) N_0.symm
    have ht := (idxR ⟨(i 0).val / 1, hlt⟩).1
    refine ⟨⟨(i 0).val / 1, hlt⟩, flush0_4 _, ?_⟩
    have q0 : win0_4.index (⟨(i 0).val / 1, hlt⟩ : Fin grid0.N) (0 : Fin 2) = (i 0).val / 1 := congrFun ht 0
    have q1 : win0_4.index (⟨(i 0).val / 1, hlt⟩ : Fin grid0.N) (1 : Fin 2) = 0 := congrFun ht 1
    generalize (⟨(i 0).val / 1, hlt⟩ : Fin grid0.N) = t at q0 q1 ⊢
    show i ∈ ((View.whole main_v0_0).slice (win0_4.rect t)).set
    rw [View.set_slice_whole, Rect.mem_set_unit]
    intro a
    match a with
    | ⟨0, _⟩ => show win0_4.index t (0 : Fin 2) * 1 ≤ (i 0).val ∧ (i 0).val < win0_4.index t (0 : Fin 2) * 1 + 1; omega
    | ⟨1, _⟩ => show win0_4.index t (1 : Fin 2) * 1024 ≤ (i 1).val ∧ (i 1).val < win0_4.index t (1 : Fin 2) * 1024 + 1024; omega)

/-- What a point writes back of the weight's change is its block, -/
theorem flushed5 (c : Dev nD) (t : Fin cfg0.N) : (dats m 0 c).flushed 5 t = ((cfg0.win 5).blk t).view.read (Elt Ideal) (G5 (gA m c) (wA m c) (mA m c) (vA m c)) := by
  show (cfg0.win 5).cut (grid0.coords t) ((dats m 0 c).after 5 t) = _
  rw [after0_5, out5_eq]
  funext y
  have e0 : win0_5.index t (0 : Fin 2) = t.val := congrFun (idxR t).2.1 0
  have e1 : win0_5.index t (1 : Fin 2) = 0 := congrFun (idxR t).2.1 1
  have hb0 : (((cfg0.win 5).blk t).view.emb y 0).val = win0_5.index t (0 : Fin 2) * 1 + 1 * (y 0).val := rfl
  have hb1 : (((cfg0.win 5).blk t).view.emb y 1).val = win0_5.index t (1 : Fin 2) * 1024 + 1 * (y 1).val := rfl
  have h0 : (((cfg0.win 5).blk t).view.emb y 0).val = t.val * 1 + (((cfg0.win 5).xinj (grid0.coords t) y) 0).val := by
    show _ = t.val * 1 + (y 0).val
    rw [hb0, e0]; omega
  have h1 : (((cfg0.win 5).blk t).view.emb y 1).val = (((cfg0.win 5).xinj (grid0.coords t) y) 1).val := by
    show _ = (y 1).val
    rw [hb1, e1]; omega
  exact (delta_apply _ _ _ _ _).trans (by show delta (gS (gB m c t) _) (wB m c t _) (mB m c t _) (vB m c t _) = delta (G4 (gA m c) _) (wA m c _) (mA m c _) (vA m c _); rw [gB_apply m c t _ _ h0 h1, wB_apply m c t _ _ h0 h1, mB_apply m c t _ _ h0 h1, vB_apply m c t _ _ h0 h1])

/-- and the array after the run. -/
theorem final5 (c : Dev nD) : (dats m 0 c).arrAt 5 cfg0.N = G5 (gA m c) (wA m c) (mA m c) (vA m c) :=
  (dats m 0 c).arrAt_eq_of_cover 5 _ (fun t _ => flushed5 m c t) (fun i => by
    have hi0 : (i 0).val < 1 := (i 0).isLt
    have hi1 : (i 1).val < 1024 := (i 1).isLt
    have hlt : (i 0).val / 1 < grid0.N := lt_of_lt_of_eq (by omega : _ < 1) N_0.symm
    have ht := (idxR ⟨(i 0).val / 1, hlt⟩).2.1
    refine ⟨⟨(i 0).val / 1, hlt⟩, flush0_5 _, ?_⟩
    have q0 : win0_5.index (⟨(i 0).val / 1, hlt⟩ : Fin grid0.N) (0 : Fin 2) = (i 0).val / 1 := congrFun ht 0
    have q1 : win0_5.index (⟨(i 0).val / 1, hlt⟩ : Fin grid0.N) (1 : Fin 2) = 0 := congrFun ht 1
    generalize (⟨(i 0).val / 1, hlt⟩ : Fin grid0.N) = t at q0 q1 ⊢
    show i ∈ ((View.whole main_v0_1).slice (win0_5.rect t)).set
    rw [View.set_slice_whole, Rect.mem_set_unit]
    intro a
    match a with
    | ⟨0, _⟩ => show win0_5.index t (0 : Fin 2) * 1 ≤ (i 0).val ∧ (i 0).val < win0_5.index t (0 : Fin 2) * 1 + 1; omega
    | ⟨1, _⟩ => show win0_5.index t (1 : Fin 2) * 1024 ≤ (i 1).val ∧ (i 1).val < win0_5.index t (1 : Fin 2) * 1024 + 1024; omega)

/-- What a point writes back of the first moment is its block, -/
theorem flushed6 (c : Dev nD) (t : Fin cfg0.N) : (dats m 0 c).flushed 6 t = ((cfg0.win 6).blk t).view.read (Elt Ideal) (G6 (gA m c) (mA m c)) := by
  show (cfg0.win 6).cut (grid0.coords t) ((dats m 0 c).after 6 t) = _
  rw [after0_6, out6_eq]
  funext y
  have e0 : win0_6.index t (0 : Fin 2) = t.val := congrFun (idxR t).2.2.1 0
  have e1 : win0_6.index t (1 : Fin 2) = 0 := congrFun (idxR t).2.2.1 1
  have hb0 : (((cfg0.win 6).blk t).view.emb y 0).val = win0_6.index t (0 : Fin 2) * 1 + 1 * (y 0).val := rfl
  have hb1 : (((cfg0.win 6).blk t).view.emb y 1).val = win0_6.index t (1 : Fin 2) * 1024 + 1 * (y 1).val := rfl
  have h0 : (((cfg0.win 6).blk t).view.emb y 0).val = t.val * 1 + (((cfg0.win 6).xinj (grid0.coords t) y) 0).val := by
    show _ = t.val * 1 + (y 0).val
    rw [hb0, e0]; omega
  have h1 : (((cfg0.win 6).blk t).view.emb y 1).val = (((cfg0.win 6).xinj (grid0.coords t) y) 1).val := by
    show _ = (y 1).val
    rw [hb1, e1]; omega
  exact (mom_apply _ _ _).trans (by show mom (gS (gB m c t) _) (mB m c t _) = mom (G4 (gA m c) _) (mA m c _); rw [gB_apply m c t _ _ h0 h1, mB_apply m c t _ _ h0 h1])

/-- and the array after the run. -/
theorem final6 (c : Dev nD) : (dats m 0 c).arrAt 6 cfg0.N = G6 (gA m c) (mA m c) :=
  (dats m 0 c).arrAt_eq_of_cover 6 _ (fun t _ => flushed6 m c t) (fun i => by
    have hi0 : (i 0).val < 1 := (i 0).isLt
    have hi1 : (i 1).val < 1024 := (i 1).isLt
    have hlt : (i 0).val / 1 < grid0.N := lt_of_lt_of_eq (by omega : _ < 1) N_0.symm
    have ht := (idxR ⟨(i 0).val / 1, hlt⟩).2.2.1
    refine ⟨⟨(i 0).val / 1, hlt⟩, flush0_6 _, ?_⟩
    have q0 : win0_6.index (⟨(i 0).val / 1, hlt⟩ : Fin grid0.N) (0 : Fin 2) = (i 0).val / 1 := congrFun ht 0
    have q1 : win0_6.index (⟨(i 0).val / 1, hlt⟩ : Fin grid0.N) (1 : Fin 2) = 0 := congrFun ht 1
    generalize (⟨(i 0).val / 1, hlt⟩ : Fin grid0.N) = t at q0 q1 ⊢
    show i ∈ ((View.whole main_v0_2).slice (win0_6.rect t)).set
    rw [View.set_slice_whole, Rect.mem_set_unit]
    intro a
    match a with
    | ⟨0, _⟩ => show win0_6.index t (0 : Fin 2) * 1 ≤ (i 0).val ∧ (i 0).val < win0_6.index t (0 : Fin 2) * 1 + 1; omega
    | ⟨1, _⟩ => show win0_6.index t (1 : Fin 2) * 1024 ≤ (i 1).val ∧ (i 1).val < win0_6.index t (1 : Fin 2) * 1024 + 1024; omega)

/-- What a point writes back of the second moment is its block, -/
theorem flushed7 (c : Dev nD) (t : Fin cfg0.N) : (dats m 0 c).flushed 7 t = ((cfg0.win 7).blk t).view.read (Elt Ideal) (G7 (gA m c) (vA m c)) := by
  show (cfg0.win 7).cut (grid0.coords t) ((dats m 0 c).after 7 t) = _
  rw [after0_7, out7_eq]
  funext y
  have e0 : win0_7.index t (0 : Fin 2) = t.val := congrFun (idxR t).2.2.2 0
  have e1 : win0_7.index t (1 : Fin 2) = 0 := congrFun (idxR t).2.2.2 1
  have hb0 : (((cfg0.win 7).blk t).view.emb y 0).val = win0_7.index t (0 : Fin 2) * 1 + 1 * (y 0).val := rfl
  have hb1 : (((cfg0.win 7).blk t).view.emb y 1).val = win0_7.index t (1 : Fin 2) * 1024 + 1 * (y 1).val := rfl
  have h0 : (((cfg0.win 7).blk t).view.emb y 0).val = t.val * 1 + (((cfg0.win 7).xinj (grid0.coords t) y) 0).val := by
    show _ = t.val * 1 + (y 0).val
    rw [hb0, e0]; omega
  have h1 : (((cfg0.win 7).blk t).view.emb y 1).val = (((cfg0.win 7).xinj (grid0.coords t) y) 1).val := by
    show _ = (y 1).val
    rw [hb1, e1]; omega
  exact (sqm_apply _ _ _).trans (by show sqm (gS (gB m c t) _) (vB m c t _) = sqm (G4 (gA m c) _) (vA m c _); rw [gB_apply m c t _ _ h0 h1, vB_apply m c t _ _ h0 h1])

/-- and the array after the run. -/
theorem final7 (c : Dev nD) : (dats m 0 c).arrAt 7 cfg0.N = G7 (gA m c) (vA m c) :=
  (dats m 0 c).arrAt_eq_of_cover 7 _ (fun t _ => flushed7 m c t) (fun i => by
    have hi0 : (i 0).val < 1 := (i 0).isLt
    have hi1 : (i 1).val < 1024 := (i 1).isLt
    have hlt : (i 0).val / 1 < grid0.N := lt_of_lt_of_eq (by omega : _ < 1) N_0.symm
    have ht := (idxR ⟨(i 0).val / 1, hlt⟩).2.2.2
    refine ⟨⟨(i 0).val / 1, hlt⟩, flush0_7 _, ?_⟩
    have q0 : win0_7.index (⟨(i 0).val / 1, hlt⟩ : Fin grid0.N) (0 : Fin 2) = (i 0).val / 1 := congrFun ht 0
    have q1 : win0_7.index (⟨(i 0).val / 1, hlt⟩ : Fin grid0.N) (1 : Fin 2) = 0 := congrFun ht 1
    generalize (⟨(i 0).val / 1, hlt⟩ : Fin grid0.N) = t at q0 q1 ⊢
    show i ∈ ((View.whole main_v0_3).slice (win0_7.rect t)).set
    rw [View.set_slice_whole, Rect.mem_set_unit]
    intro a
    match a with
    | ⟨0, _⟩ => show win0_7.index t (0 : Fin 2) * 1 ≤ (i 0).val ∧ (i 0).val < win0_7.index t (0 : Fin 2) * 1 + 1; omega
    | ⟨1, _⟩ => show win0_7.index t (1 : Fin 2) * 1024 ≤ (i 1).val ∧ (i 1).val < win0_7.index t (1 : Fin 2) * 1024 + 1024; omega)

/-! ## The reference -/

/-- the change of the weight, -/
theorem ref5 (g : S1x1024.Idx → EReal) (w x y : S1x1024.Idx → EReal) : (Cert.Reference13Ideal.Read.val_main_v23 (F := Ideal) g w x y : S1x1024.Idx → EReal) = G5 g w x y := by
  unfold G5
  funext i
  simp only [Cert.Reference13Ideal.Read.val_main_cst_0_apply, Cert.Reference13Ideal.Read.val_main_cst_1_apply, Cert.Reference13Ideal.Read.val_main_cst_2_apply, Cert.Reference13Ideal.Read.val_main_cst_3_apply, Cert.Reference13Ideal.Read.val_main_cst_4_apply, Cert.Reference13Ideal.Read.val_main_cst_5_apply, Cert.Reference13Ideal.Read.val_main_cst_6_apply, Cert.Reference13Ideal.Read.val_main_cst_7_apply, Cert.Reference13Ideal.Read.val_main_cst_apply, Cert.Reference13Ideal.Read.val_main_v0_apply, Cert.Reference13Ideal.Read.val_main_v10_apply, Cert.Reference13Ideal.Read.val_main_v11_apply, Cert.Reference13Ideal.Read.val_main_v12_apply, Cert.Reference13Ideal.Read.val_main_v13_apply, Cert.Reference13Ideal.Read.val_main_v14_apply, Cert.Reference13Ideal.Read.val_main_v15_apply, Cert.Reference13Ideal.Read.val_main_v16_apply, Cert.Reference13Ideal.Read.val_main_v17_apply, Cert.Reference13Ideal.Read.val_main_v18_apply, Cert.Reference13Ideal.Read.val_main_v19_apply, Cert.Reference13Ideal.Read.val_main_v1_apply, Cert.Reference13Ideal.Read.val_main_v20_apply, Cert.Reference13Ideal.Read.val_main_v21_apply, Cert.Reference13Ideal.Read.val_main_v22_apply, Cert.Reference13Ideal.Read.val_main_v23_apply, Cert.Reference13Ideal.Read.val_main_v2_apply, Cert.Reference13Ideal.Read.val_main_v3_apply, Cert.Reference13Ideal.Read.val_main_v4_apply, Cert.Reference13Ideal.Read.val_main_v5_apply, Cert.Reference13Ideal.Read.val_main_v6_apply, Cert.Reference13Ideal.Read.val_main_v7_apply, Cert.Reference13Ideal.Read.val_main_v8_apply, Cert.Reference13Ideal.Read.val_main_v9_apply]
  rfl
/-- the first moment -/
theorem ref6 (g : S1x1024.Idx → EReal) (x : S1x1024.Idx → EReal) : (Cert.Reference13Ideal.Read.val_main_v4 (F := Ideal) g x : S1x1024.Idx → EReal) = G6 g x := by
  unfold G6
  funext i
  simp only [Cert.Reference13Ideal.Read.val_main_cst_0_apply, Cert.Reference13Ideal.Read.val_main_cst_1_apply, Cert.Reference13Ideal.Read.val_main_cst_2_apply, Cert.Reference13Ideal.Read.val_main_cst_3_apply, Cert.Reference13Ideal.Read.val_main_cst_4_apply, Cert.Reference13Ideal.Read.val_main_cst_5_apply, Cert.Reference13Ideal.Read.val_main_cst_6_apply, Cert.Reference13Ideal.Read.val_main_cst_7_apply, Cert.Reference13Ideal.Read.val_main_cst_apply, Cert.Reference13Ideal.Read.val_main_v0_apply, Cert.Reference13Ideal.Read.val_main_v10_apply, Cert.Reference13Ideal.Read.val_main_v11_apply, Cert.Reference13Ideal.Read.val_main_v12_apply, Cert.Reference13Ideal.Read.val_main_v13_apply, Cert.Reference13Ideal.Read.val_main_v14_apply, Cert.Reference13Ideal.Read.val_main_v15_apply, Cert.Reference13Ideal.Read.val_main_v16_apply, Cert.Reference13Ideal.Read.val_main_v17_apply, Cert.Reference13Ideal.Read.val_main_v18_apply, Cert.Reference13Ideal.Read.val_main_v19_apply, Cert.Reference13Ideal.Read.val_main_v1_apply, Cert.Reference13Ideal.Read.val_main_v20_apply, Cert.Reference13Ideal.Read.val_main_v21_apply, Cert.Reference13Ideal.Read.val_main_v22_apply, Cert.Reference13Ideal.Read.val_main_v23_apply, Cert.Reference13Ideal.Read.val_main_v2_apply, Cert.Reference13Ideal.Read.val_main_v3_apply, Cert.Reference13Ideal.Read.val_main_v4_apply, Cert.Reference13Ideal.Read.val_main_v5_apply, Cert.Reference13Ideal.Read.val_main_v6_apply, Cert.Reference13Ideal.Read.val_main_v7_apply, Cert.Reference13Ideal.Read.val_main_v8_apply, Cert.Reference13Ideal.Read.val_main_v9_apply]
  rfl
/-- and the second. -/
theorem ref7 (g : S1x1024.Idx → EReal) (y : S1x1024.Idx → EReal) : (Cert.Reference13Ideal.Read.val_main_v10 (F := Ideal) g y : S1x1024.Idx → EReal) = G7 g y := by
  unfold G7
  funext i
  simp only [Cert.Reference13Ideal.Read.val_main_cst_0_apply, Cert.Reference13Ideal.Read.val_main_cst_1_apply, Cert.Reference13Ideal.Read.val_main_cst_2_apply, Cert.Reference13Ideal.Read.val_main_cst_3_apply, Cert.Reference13Ideal.Read.val_main_cst_4_apply, Cert.Reference13Ideal.Read.val_main_cst_5_apply, Cert.Reference13Ideal.Read.val_main_cst_6_apply, Cert.Reference13Ideal.Read.val_main_cst_7_apply, Cert.Reference13Ideal.Read.val_main_cst_apply, Cert.Reference13Ideal.Read.val_main_v0_apply, Cert.Reference13Ideal.Read.val_main_v10_apply, Cert.Reference13Ideal.Read.val_main_v11_apply, Cert.Reference13Ideal.Read.val_main_v12_apply, Cert.Reference13Ideal.Read.val_main_v13_apply, Cert.Reference13Ideal.Read.val_main_v14_apply, Cert.Reference13Ideal.Read.val_main_v15_apply, Cert.Reference13Ideal.Read.val_main_v16_apply, Cert.Reference13Ideal.Read.val_main_v17_apply, Cert.Reference13Ideal.Read.val_main_v18_apply, Cert.Reference13Ideal.Read.val_main_v19_apply, Cert.Reference13Ideal.Read.val_main_v1_apply, Cert.Reference13Ideal.Read.val_main_v20_apply, Cert.Reference13Ideal.Read.val_main_v21_apply, Cert.Reference13Ideal.Read.val_main_v22_apply, Cert.Reference13Ideal.Read.val_main_v23_apply, Cert.Reference13Ideal.Read.val_main_v2_apply, Cert.Reference13Ideal.Read.val_main_v3_apply, Cert.Reference13Ideal.Read.val_main_v4_apply, Cert.Reference13Ideal.Read.val_main_v5_apply, Cert.Reference13Ideal.Read.val_main_v6_apply, Cert.Reference13Ideal.Read.val_main_v7_apply, Cert.Reference13Ideal.Read.val_main_v8_apply, Cert.Reference13Ideal.Read.val_main_v9_apply]
  rfl

/-- The optimiser step: from the same arguments the kernel and the reference end at the same four arrays. -/
theorem algebraic : Cert.algebraic_Kernel13Ideal_Reference13Ideal (hKernel13Ideal := Cert.Kernel13Ideal.Gen.facts)
    (hReference13Ideal := Cert.Reference13Ideal.Gen.facts) := by
  intro m g m' g' _ hargs
  refine ⟨fun c => G4 (gA m c), fun c => G5 (gA m c) (wA m c) (mA m c) (vA m c), fun c => G6 (gA m c) (mA m c), fun c => G7 (gA m c) (vA m c), ?_, ?_⟩
  · refine (θ_run _ _ _).mono (fun r h c => ?_) (Cert.Kernel13Ideal.Value.run_blocks (F := Ideal) m g)
    obtain ⟨h4, h5, h6, h7, hr⟩ := h c
    exact ⟨h4.trans (final4 m c), h5.trans (final5 m c), h6.trans (final6 m c), h7.trans (final7 m c), hr⟩
  · refine (θ_run _ _ _).mono (fun r h c => ?_) (Cert.Reference13Ideal.Value.run (F := Ideal) m' g')
    obtain ⟨h4, h5, h6, h7, hr⟩ := h c
    obtain ⟨e0, e1, e2, e3⟩ := hargs c
    refine ⟨h4.trans e0, h5.trans ((Cert.Reference13Ideal.Read.val_main_v23_eq _ _ _ _).trans ?_), h6.trans ((Cert.Reference13Ideal.Read.val_main_v4_eq _ _).trans ?_), h7.trans ((Cert.Reference13Ideal.Read.val_main_v10_eq _ _).trans ?_), hr⟩
    · rw [e0, e1, e2, e3]; exact ref5 _ _ _ _
    · rw [e0, e2]; exact ref6 _ _
    · rw [e0, e3]; exact ref7 _ _

/-- The reference's run leaves its arguments alone; it declares no counter. -/
theorem frame_reference : Cert.quiescent_Reference13Ideal (hReference13Ideal := Cert.Reference13Ideal.Gen.facts) := fun m g _ =>
  (θ_run Cert.Reference13Ideal.defs _ _).mono (fun r h => ⟨fun c => (h c).2.2.2.2, sem_eq_zero_of_no_sems (by decide) r.2⟩)
    (Cert.Reference13Ideal.Value.run (F := Ideal) m g)

end Cert.Proof.Adam13

end
-- ==== Proof.Adam14.lean ====
/-
  The optimiser step of the spatial gate's weights: every entry of the four results is the step's own function of the entry's gradient,
  weight and moments, in the kernel as in the reference.
-/
module

public import proofs.«01_k».proof.Proof.AdamStep
public import proofs.«01_k».proof.Defs
public import proofs.«01_k».proof.Proof.Gen.Kernel14Ideal.Value
public import proofs.«01_k».proof.Proof.Gen.Reference14Ideal.Run
public import proofs.«01_k».proof.Proof.Gen.Reference14Ideal.Read
public import Idealize.ShloMosaic.Lib.Pipeline.ValueKit.Acc
public import Idealize.ShloMosaic.Lib.Pipeline.ValueKit.Point
public import Idealize.ShloMosaic.Lib.Claim
public import Idealize.ShloMosaic.Lib.Tactic

@[expose] public section

noncomputable section

namespace Cert.Proof.Adam14

open Idealize.ShloMosaic hiding ix2 ix3 addf_apply
open Idealize.ShloMosaic.TcCoe Idealize.SL.Sem
open Cert.Kernel14Ideal Cert.Kernel14Ideal.Gen Cert.Proof.AdamStep Idealize.ShloMosaic.ValueIdx
open Idealize.ShloMosaic.Pipeline (Dat Cfg Window)

variable (m : (ℓ : Loc nD τ sig) → Buf (Elt Ideal) ℓ) (ρ : Dev nD → PrngReg)

/-- The gradient at launch, -/
def gA (c : Dev nD) : S512x128.Idx → EReal := m ((c : Thread nD τ).loc main_arg0)
/-- the weight, -/
def wA (c : Dev nD) : S512x128.Idx → EReal := m ((c : Thread nD τ).loc main_arg1)
/-- the first moment -/
def mA (c : Dev nD) : S512x128.Idx → EReal := m ((c : Thread nD τ).loc main_arg2)
/-- and the second. -/
def vA (c : Dev nD) : S512x128.Idx → EReal := m ((c : Thread nD τ).loc main_arg3)

/-- The gradient, -/
def G4 (g : S512x128.Idx → EReal) : S512x128.Idx → EReal := g
/-- the change of the weight, -/
def G5 (g : S512x128.Idx → EReal) (w x y : S512x128.Idx → EReal) : S512x128.Idx → EReal := fun i => delta (G4 g i) (w i) (x i) (y i)
/-- the first moment after the step -/
def G6 (g : S512x128.Idx → EReal) (x : S512x128.Idx → EReal) : S512x128.Idx → EReal := fun i => mom (G4 g i) (x i)
/-- and the second. -/
def G7 (g : S512x128.Idx → EReal) (y : S512x128.Idx → EReal) : S512x128.Idx → EReal := fun i => sqm (G4 g i) (y i)

/-! ## The body -/

/-- The first moment's payload, -/
theorem mom_apply (g x : Vec Ideal S128x128 .f32) (j : S128x128.Idx) : k0_pay1 (F := Ideal) g x j = mom (g j) (x j) := rfl
/-- the second's -/
theorem sqm_apply (g x : Vec Ideal S128x128 .f32) (j : S128x128.Idx) : k0_pay2 (F := Ideal) g x j = sqm (g j) (x j) := rfl
/-- and the change's, entry by entry. -/
theorem delta_apply (g w x y : Vec Ideal S128x128 .f32) (j : S128x128.Idx) : k0_pay3 (F := Ideal) g w x y j = delta (g j) (w j) (x j) (y j) := rfl

/-- The offset of a whole block. -/
theorem hz : (![0, 0] : Fin 2 → Nat) = fun _ => 0 := funext fun a => by fin_cases a <;> rfl

/-- The block of the gradient that the body steps with. -/
def gS (g : Vec Ideal S128x128 .f32) : Vec Ideal S128x128 .f32 := g

/-- What the body leaves in the four results' blocks. -/
theorem out4_eq (g : Vec Ideal S128x128 .f32) (w x y : Vec Ideal S128x128 .f32) : out0_4 (F := Ideal) g w x y = gS g := by
  unfold out0_4 gS
  rw [View.canon_unit_zero hz, View.ld_unit_zero (S := S128x128) hz _ g]
theorem out5_eq (g : Vec Ideal S128x128 .f32) (w x y : Vec Ideal S128x128 .f32) : out0_5 (F := Ideal) g w x y = k0_pay3 (F := Ideal) (gS g) w x y := by
  unfold out0_5 gS
  rw [View.canon_unit_zero hz, View.ld_unit_zero (S := S128x128) hz _ g, View.ld_unit_zero (S := S128x128) hz _ w, View.ld_unit_zero (S := S128x128) hz _ x, View.ld_unit_zero (S := S128x128) hz _ y]
theorem out6_eq (g : Vec Ideal S128x128 .f32) (w x y : Vec Ideal S128x128 .f32) : out0_6 (F := Ideal) g w x y = k0_pay1 (F := Ideal) (gS g) x := by
  unfold out0_6 gS
  rw [View.canon_unit_zero hz, View.ld_unit_zero (S := S128x128) hz _ g, View.ld_unit_zero (S := S128x128) hz _ x]
theorem out7_eq (g : Vec Ideal S128x128 .f32) (w x y : Vec Ideal S128x128 .f32) : out0_7 (F := Ideal) g w x y = k0_pay2 (F := Ideal) (gS g) y := by
  unfold out0_7 gS
  rw [View.canon_unit_zero hz, View.ld_unit_zero (S := S128x128) hz _ g, View.ld_unit_zero (S := S128x128) hz _ y]

/-! ## The blocks -/

/-- Where the windows' blocks lie, decided over the grid. -/
theorem idx : ∀ t : Fin cfg0.N, win0_0.index t = ![t.val, 0] ∧ win0_1.index t = ![t.val, 0] ∧ win0_2.index t = ![t.val, 0] ∧ win0_3.index t = ![t.val, 0] :=
  (by decide +kernel : ∀ t : Fin grid0.N, _)
theorem idxR : ∀ t : Fin cfg0.N, win0_4.index t = ![t.val, 0] ∧ win0_5.index t = ![t.val, 0] ∧ win0_6.index t = ![t.val, 0] ∧ win0_7.index t = ![t.val, 0] :=
  (by decide +kernel : ∀ t : Fin grid0.N, _)

/-- The input blocks at point `t`. -/
def gB (c : Dev nD) (t : Fin cfg0.N) : S128x128.Idx → EReal := iblk m c 0 t
def wB (c : Dev nD) (t : Fin cfg0.N) : S128x128.Idx → EReal := iblk m c 1 t
def mB (c : Dev nD) (t : Fin cfg0.N) : S128x128.Idx → EReal := iblk m c 2 t
def vB (c : Dev nD) (t : Fin cfg0.N) : S128x128.Idx → EReal := iblk m c 3 t

/-- An entry of a block is the array's entry. -/
theorem gB_apply (c : Dev nD) (t : Fin cfg0.N) (y : S128x128.Idx) (i : S512x128.Idx) (h0 : (i 0).val = t.val * 128 + (y 0).val) (h1 : (i 1).val = (y 1).val) :
    (gS (gB m c t) y : EReal) = G4 (gA m c) i := by
  have e : win0_0.index t = ![t.val, 0] := (idx t).1
  show V m c main_arg0 (((cfg0.win 0).blk t).view.emb y) = gA m c i
  rw [V_main_arg0]
  refine congrArg (gA m c) (funext fun a => Fin.ext ?_)
  match a with
  | ⟨0, _⟩ => show win0_0.index t (0 : Fin 2) * 128 + 1 * (y 0).val = (i 0).val; rw [e]; show t.val * 128 + 1 * (y 0).val = _; omega
  | ⟨1, _⟩ => show win0_0.index t (1 : Fin 2) * 128 + 1 * (y 1).val = (i 1).val; rw [e]; show 0 * 128 + 1 * (y 1).val = _; omega
theorem wB_apply (c : Dev nD) (t : Fin cfg0.N) (y : S128x128.Idx) (i : S512x128.Idx) (h0 : (i 0).val = t.val * 128 + (y 0).val) (h1 : (i 1).val = (y 1).val) :
    (wB m c t y : EReal) = wA m c i := by
  have e : win0_1.index t = ![t.val, 0] := (idx t).2.1
  show V m c main_arg1 (((cfg0.win 1).blk t).view.emb y) = wA m c i
  rw [V_main_arg1]
  refine congrArg (wA m c) (funext fun a => Fin.ext ?_)
  match a with
  | ⟨0, _⟩ => show win0_1.index t (0 : Fin 2) * 128 + 1 * (y 0).val = (i 0).val; rw [e]; show t.val * 128 + 1 * (y 0).val = _; omega
  | ⟨1, _⟩ => show win0_1.index t (1 : Fin 2) * 128 + 1 * (y 1).val = (i 1).val; rw [e]; show 0 * 128 + 1 * (y 1).val = _; omega
theorem mB_apply (c : Dev nD) (t : Fin cfg0.N) (y : S128x128.Idx) (i : S512x128.Idx) (h0 : (i 0).val = t.val * 128 + (y 0).val) (h1 : (i 1).val = (y 1).val) :
    (mB m c t y : EReal) = mA m c i := by
  have e : win0_2.index t = ![t.val, 0] := (idx t).2.2.1
  show V m c main_arg2 (((cfg0.win 2).blk t).view.emb y) = mA m c i
  rw [V_main_arg2]
  refine congrArg (mA m c) (funext fun a => Fin.ext ?_)
  match a with
  | ⟨0, _⟩ => show win0_2.index t (0 : Fin 2) * 128 + 1 * (y 0).val = (i 0).val; rw [e]; show t.val * 128 + 1 * (y 0).val = _; omega
  | ⟨1, _⟩ => show win0_2.index t (1 : Fin 2) * 128 + 1 * (y 1).val = (i 1).val; rw [e]; show 0 * 128 + 1 * (y 1).val = _; omega
theorem vB_apply (c : Dev nD) (t : Fin cfg0.N) (y : S128x128.Idx) (i : S512x128.Idx) (h0 : (i 0).val = t.val * 128 + (y 0).val) (h1 : (i 1).val = (y 1).val) :
    (vB m c t y : EReal) = vA m c i := by
  have e : win0_3.index t = ![t.val, 0] := (idx t).2.2.2
  show V m c main_arg3 (((cfg0.win 3).blk t).view.emb y) = vA m c i
  rw [V_main_arg3]
  refine congrArg (vA m c) (funext fun a => Fin.ext ?_)
  match a with
  | ⟨0, _⟩ => show win0_3.index t (0 : Fin 2) * 128 + 1 * (y 0).val = (i 0).val; rw [e]; show t.val * 128 + 1 * (y 0).val = _; omega
  | ⟨1, _⟩ => show win0_3.index t (1 : Fin 2) * 128 + 1 * (y 1).val = (i 1).val; rw [e]; show 0 * 128 + 1 * (y 1).val = _; omega

/-! ## The results -/

/-- What a point writes back of the gradient is its block, -/
theorem flushed4 (c : Dev nD) (t : Fin cfg0.N) : (dats m 0 c).flushed 4 t = ((cfg0.win 4).blk t).view.read (Elt Ideal) (G4 (gA m c)) := by
  show (cfg0.win 4).cut (grid0.coords t) ((dats m 0 c).after 4 t) = _
  rw [after0_4, out4_eq]
  funext y
  have e0 : win0_4.index t (0 : Fin 2) = t.val := congrFun (idxR t).1 0
  have e1 : win0_4.index t (1 : Fin 2) = 0 := congrFun (idxR t).1 1
  have hb0 : (((cfg0.win 4).blk t).view.emb y 0).val = win0_4.index t (0 : Fin 2) * 128 + 1 * (y 0).val := rfl
  have hb1 : (((cfg0.win 4).blk t).view.emb y 1).val = win0_4.index t (1 : Fin 2) * 128 + 1 * (y 1).val := rfl
  have h0 : (((cfg0.win 4).blk t).view.emb y 0).val = t.val * 128 + (((cfg0.win 4).xinj (grid0.coords t) y) 0).val := by
    show _ = t.val * 128 + (y 0).val
    rw [hb0, e0]; omega
  have h1 : (((cfg0.win 4).blk t).view.emb y 1).val = (((cfg0.win 4).xinj (grid0.coords t) y) 1).val := by
    show _ = (y 1).val
    rw [hb1, e1]; omega
  exact gB_apply m c t _ _ h0 h1

/-- and the array after the run. -/
theorem final4 (c : Dev nD) : (dats m 0 c).arrAt 4 cfg0.N = G4 (gA m c) :=
  (dats m 0 c).arrAt_eq_of_cover 4 _ (fun t _ => flushed4 m c t) (fun i => by
    have hi0 : (i 0).val < 512 := (i 0).isLt
    have hi1 : (i 1).val < 128 := (i 1).isLt
    have hlt : (i 0).val / 128 < grid0.N := lt_of_lt_of_eq (by omega : _ < 4) N_0.symm
    have ht := (idxR ⟨(i 0).val / 128, hlt⟩).1
    refine ⟨⟨(i 0).val / 128, hlt⟩, flush0_4 _, ?_⟩
    have q0 : win0_4.index (⟨(i 0).val / 128, hlt⟩ : Fin grid0.N) (0 : Fin 2) = (i 0).val / 128 := congrFun ht 0
    have q1 : win0_4.index (⟨(i 0).val / 128, hlt⟩ : Fin grid0.N) (1 : Fin 2) = 0 := congrFun ht 1
    generalize (⟨(i 0).val / 128, hlt⟩ : Fin grid0.N) = t at q0 q1 ⊢
    show i ∈ ((View.whole main_v0_0).slice (win0_4.rect t)).set
    rw [View.set_slice_whole, Rect.mem_set_unit]
    intro a
    match a with
    | ⟨0, _⟩ => show win0_4.index t (0 : Fin 2) * 128 ≤ (i 0).val ∧ (i 0).val < win0_4.index t (0 : Fin 2) * 128 + 128; omega
    | ⟨1, _⟩ => show win0_4.index t (1 : Fin 2) * 128 ≤ (i 1).val ∧ (i 1).val < win0_4.index t (1 : Fin 2) * 128 + 128; omega)

/-- What a point writes back of the weight's change is its block, -/
theorem flushed5 (c : Dev nD) (t : Fin cfg0.N) : (dats m 0 c).flushed 5 t = ((cfg0.win 5).blk t).view.read (Elt Ideal) (G5 (gA m c) (wA m c) (mA m c) (vA m c)) := by
  show (cfg0.win 5).cut (grid0.coords t) ((dats m 0 c).after 5 t) = _
  rw [after0_5, out5_eq]
  funext y
  have e0 : win0_5.index t (0 : Fin 2) = t.val := congrFun (idxR t).2.1 0
  have e1 : win0_5.index t (1 : Fin 2) = 0 := congrFun (idxR t).2.1 1
  have hb0 : (((cfg0.win 5).blk t).view.emb y 0).val = win0_5.index t (0 : Fin 2) * 128 + 1 * (y 0).val := rfl
  have hb1 : (((cfg0.win 5).blk t).view.emb y 1).val = win0_5.index t (1 : Fin 2) * 128 + 1 * (y 1).val := rfl
  have h0 : (((cfg0.win 5).blk t).view.emb y 0).val = t.val * 128 + (((cfg0.win 5).xinj (grid0.coords t) y) 0).val := by
    show _ = t.val * 128 + (y 0).val
    rw [hb0, e0]; omega
  have h1 : (((cfg0.win 5).blk t).view.emb y 1).val = (((cfg0.win 5).xinj (grid0.coords t) y) 1).val := by
    show _ = (y 1).val
    rw [hb1, e1]; omega
  exact (delta_apply _ _ _ _ _).trans (by show delta (gS (gB m c t) _) (wB m c t _) (mB m c t _) (vB m c t _) = delta (G4 (gA m c) _) (wA m c _) (mA m c _) (vA m c _); rw [gB_apply m c t _ _ h0 h1, wB_apply m c t _ _ h0 h1, mB_apply m c t _ _ h0 h1, vB_apply m c t _ _ h0 h1])

/-- and the array after the run. -/
theorem final5 (c : Dev nD) : (dats m 0 c).arrAt 5 cfg0.N = G5 (gA m c) (wA m c) (mA m c) (vA m c) :=
  (dats m 0 c).arrAt_eq_of_cover 5 _ (fun t _ => flushed5 m c t) (fun i => by
    have hi0 : (i 0).val < 512 := (i 0).isLt
    have hi1 : (i 1).val < 128 := (i 1).isLt
    have hlt : (i 0).val / 128 < grid0.N := lt_of_lt_of_eq (by omega : _ < 4) N_0.symm
    have ht := (idxR ⟨(i 0).val / 128, hlt⟩).2.1
    refine ⟨⟨(i 0).val / 128, hlt⟩, flush0_5 _, ?_⟩
    have q0 : win0_5.index (⟨(i 0).val / 128, hlt⟩ : Fin grid0.N) (0 : Fin 2) = (i 0).val / 128 := congrFun ht 0
    have q1 : win0_5.index (⟨(i 0).val / 128, hlt⟩ : Fin grid0.N) (1 : Fin 2) = 0 := congrFun ht 1
    generalize (⟨(i 0).val / 128, hlt⟩ : Fin grid0.N) = t at q0 q1 ⊢
    show i ∈ ((View.whole main_v0_1).slice (win0_5.rect t)).set
    rw [View.set_slice_whole, Rect.mem_set_unit]
    intro a
    match a with
    | ⟨0, _⟩ => show win0_5.index t (0 : Fin 2) * 128 ≤ (i 0).val ∧ (i 0).val < win0_5.index t (0 : Fin 2) * 128 + 128; omega
    | ⟨1, _⟩ => show win0_5.index t (1 : Fin 2) * 128 ≤ (i 1).val ∧ (i 1).val < win0_5.index t (1 : Fin 2) * 128 + 128; omega)

/-- What a point writes back of the first moment is its block, -/
theorem flushed6 (c : Dev nD) (t : Fin cfg0.N) : (dats m 0 c).flushed 6 t = ((cfg0.win 6).blk t).view.read (Elt Ideal) (G6 (gA m c) (mA m c)) := by
  show (cfg0.win 6).cut (grid0.coords t) ((dats m 0 c).after 6 t) = _
  rw [after0_6, out6_eq]
  funext y
  have e0 : win0_6.index t (0 : Fin 2) = t.val := congrFun (idxR t).2.2.1 0
  have e1 : win0_6.index t (1 : Fin 2) = 0 := congrFun (idxR t).2.2.1 1
  have hb0 : (((cfg0.win 6).blk t).view.emb y 0).val = win0_6.index t (0 : Fin 2) * 128 + 1 * (y 0).val := rfl
  have hb1 : (((cfg0.win 6).blk t).view.emb y 1).val = win0_6.index t (1 : Fin 2) * 128 + 1 * (y 1).val := rfl
  have h0 : (((cfg0.win 6).blk t).view.emb y 0).val = t.val * 128 + (((cfg0.win 6).xinj (grid0.coords t) y) 0).val := by
    show _ = t.val * 128 + (y 0).val
    rw [hb0, e0]; omega
  have h1 : (((cfg0.win 6).blk t).view.emb y 1).val = (((cfg0.win 6).xinj (grid0.coords t) y) 1).val := by
    show _ = (y 1).val
    rw [hb1, e1]; omega
  exact (mom_apply _ _ _).trans (by show mom (gS (gB m c t) _) (mB m c t _) = mom (G4 (gA m c) _) (mA m c _); rw [gB_apply m c t _ _ h0 h1, mB_apply m c t _ _ h0 h1])

/-- and the array after the run. -/
theorem final6 (c : Dev nD) : (dats m 0 c).arrAt 6 cfg0.N = G6 (gA m c) (mA m c) :=
  (dats m 0 c).arrAt_eq_of_cover 6 _ (fun t _ => flushed6 m c t) (fun i => by
    have hi0 : (i 0).val < 512 := (i 0).isLt
    have hi1 : (i 1).val < 128 := (i 1).isLt
    have hlt : (i 0).val / 128 < grid0.N := lt_of_lt_of_eq (by omega : _ < 4) N_0.symm
    have ht := (idxR ⟨(i 0).val / 128, hlt⟩).2.2.1
    refine ⟨⟨(i 0).val / 128, hlt⟩, flush0_6 _, ?_⟩
    have q0 : win0_6.index (⟨(i 0).val / 128, hlt⟩ : Fin grid0.N) (0 : Fin 2) = (i 0).val / 128 := congrFun ht 0
    have q1 : win0_6.index (⟨(i 0).val / 128, hlt⟩ : Fin grid0.N) (1 : Fin 2) = 0 := congrFun ht 1
    generalize (⟨(i 0).val / 128, hlt⟩ : Fin grid0.N) = t at q0 q1 ⊢
    show i ∈ ((View.whole main_v0_2).slice (win0_6.rect t)).set
    rw [View.set_slice_whole, Rect.mem_set_unit]
    intro a
    match a with
    | ⟨0, _⟩ => show win0_6.index t (0 : Fin 2) * 128 ≤ (i 0).val ∧ (i 0).val < win0_6.index t (0 : Fin 2) * 128 + 128; omega
    | ⟨1, _⟩ => show win0_6.index t (1 : Fin 2) * 128 ≤ (i 1).val ∧ (i 1).val < win0_6.index t (1 : Fin 2) * 128 + 128; omega)

/-- What a point writes back of the second moment is its block, -/
theorem flushed7 (c : Dev nD) (t : Fin cfg0.N) : (dats m 0 c).flushed 7 t = ((cfg0.win 7).blk t).view.read (Elt Ideal) (G7 (gA m c) (vA m c)) := by
  show (cfg0.win 7).cut (grid0.coords t) ((dats m 0 c).after 7 t) = _
  rw [after0_7, out7_eq]
  funext y
  have e0 : win0_7.index t (0 : Fin 2) = t.val := congrFun (idxR t).2.2.2 0
  have e1 : win0_7.index t (1 : Fin 2) = 0 := congrFun (idxR t).2.2.2 1
  have hb0 : (((cfg0.win 7).blk t).view.emb y 0).val = win0_7.index t (0 : Fin 2) * 128 + 1 * (y 0).val := rfl
  have hb1 : (((cfg0.win 7).blk t).view.emb y 1).val = win0_7.index t (1 : Fin 2) * 128 + 1 * (y 1).val := rfl
  have h0 : (((cfg0.win 7).blk t).view.emb y 0).val = t.val * 128 + (((cfg0.win 7).xinj (grid0.coords t) y) 0).val := by
    show _ = t.val * 128 + (y 0).val
    rw [hb0, e0]; omega
  have h1 : (((cfg0.win 7).blk t).view.emb y 1).val = (((cfg0.win 7).xinj (grid0.coords t) y) 1).val := by
    show _ = (y 1).val
    rw [hb1, e1]; omega
  exact (sqm_apply _ _ _).trans (by show sqm (gS (gB m c t) _) (vB m c t _) = sqm (G4 (gA m c) _) (vA m c _); rw [gB_apply m c t _ _ h0 h1, vB_apply m c t _ _ h0 h1])

/-- and the array after the run. -/
theorem final7 (c : Dev nD) : (dats m 0 c).arrAt 7 cfg0.N = G7 (gA m c) (vA m c) :=
  (dats m 0 c).arrAt_eq_of_cover 7 _ (fun t _ => flushed7 m c t) (fun i => by
    have hi0 : (i 0).val < 512 := (i 0).isLt
    have hi1 : (i 1).val < 128 := (i 1).isLt
    have hlt : (i 0).val / 128 < grid0.N := lt_of_lt_of_eq (by omega : _ < 4) N_0.symm
    have ht := (idxR ⟨(i 0).val / 128, hlt⟩).2.2.2
    refine ⟨⟨(i 0).val / 128, hlt⟩, flush0_7 _, ?_⟩
    have q0 : win0_7.index (⟨(i 0).val / 128, hlt⟩ : Fin grid0.N) (0 : Fin 2) = (i 0).val / 128 := congrFun ht 0
    have q1 : win0_7.index (⟨(i 0).val / 128, hlt⟩ : Fin grid0.N) (1 : Fin 2) = 0 := congrFun ht 1
    generalize (⟨(i 0).val / 128, hlt⟩ : Fin grid0.N) = t at q0 q1 ⊢
    show i ∈ ((View.whole main_v0_3).slice (win0_7.rect t)).set
    rw [View.set_slice_whole, Rect.mem_set_unit]
    intro a
    match a with
    | ⟨0, _⟩ => show win0_7.index t (0 : Fin 2) * 128 ≤ (i 0).val ∧ (i 0).val < win0_7.index t (0 : Fin 2) * 128 + 128; omega
    | ⟨1, _⟩ => show win0_7.index t (1 : Fin 2) * 128 ≤ (i 1).val ∧ (i 1).val < win0_7.index t (1 : Fin 2) * 128 + 128; omega)

/-! ## The reference -/

/-- the change of the weight, -/
theorem ref5 (g : S512x128.Idx → EReal) (w x y : S512x128.Idx → EReal) : (Cert.Reference14Ideal.Read.val_main_v23 (F := Ideal) g w x y : S512x128.Idx → EReal) = G5 g w x y := by
  unfold G5
  funext i
  simp only [Cert.Reference14Ideal.Read.val_main_cst_0_apply, Cert.Reference14Ideal.Read.val_main_cst_1_apply, Cert.Reference14Ideal.Read.val_main_cst_2_apply, Cert.Reference14Ideal.Read.val_main_cst_3_apply, Cert.Reference14Ideal.Read.val_main_cst_4_apply, Cert.Reference14Ideal.Read.val_main_cst_5_apply, Cert.Reference14Ideal.Read.val_main_cst_6_apply, Cert.Reference14Ideal.Read.val_main_cst_7_apply, Cert.Reference14Ideal.Read.val_main_cst_apply, Cert.Reference14Ideal.Read.val_main_v0_apply, Cert.Reference14Ideal.Read.val_main_v10_apply, Cert.Reference14Ideal.Read.val_main_v11_apply, Cert.Reference14Ideal.Read.val_main_v12_apply, Cert.Reference14Ideal.Read.val_main_v13_apply, Cert.Reference14Ideal.Read.val_main_v14_apply, Cert.Reference14Ideal.Read.val_main_v15_apply, Cert.Reference14Ideal.Read.val_main_v16_apply, Cert.Reference14Ideal.Read.val_main_v17_apply, Cert.Reference14Ideal.Read.val_main_v18_apply, Cert.Reference14Ideal.Read.val_main_v19_apply, Cert.Reference14Ideal.Read.val_main_v1_apply, Cert.Reference14Ideal.Read.val_main_v20_apply, Cert.Reference14Ideal.Read.val_main_v21_apply, Cert.Reference14Ideal.Read.val_main_v22_apply, Cert.Reference14Ideal.Read.val_main_v23_apply, Cert.Reference14Ideal.Read.val_main_v2_apply, Cert.Reference14Ideal.Read.val_main_v3_apply, Cert.Reference14Ideal.Read.val_main_v4_apply, Cert.Reference14Ideal.Read.val_main_v5_apply, Cert.Reference14Ideal.Read.val_main_v6_apply, Cert.Reference14Ideal.Read.val_main_v7_apply, Cert.Reference14Ideal.Read.val_main_v8_apply, Cert.Reference14Ideal.Read.val_main_v9_apply]
  rfl
/-- the first moment -/
theorem ref6 (g : S512x128.Idx → EReal) (x : S512x128.Idx → EReal) : (Cert.Reference14Ideal.Read.val_main_v4 (F := Ideal) g x : S512x128.Idx → EReal) = G6 g x := by
  unfold G6
  funext i
  simp only [Cert.Reference14Ideal.Read.val_main_cst_0_apply, Cert.Reference14Ideal.Read.val_main_cst_1_apply, Cert.Reference14Ideal.Read.val_main_cst_2_apply, Cert.Reference14Ideal.Read.val_main_cst_3_apply, Cert.Reference14Ideal.Read.val_main_cst_4_apply, Cert.Reference14Ideal.Read.val_main_cst_5_apply, Cert.Reference14Ideal.Read.val_main_cst_6_apply, Cert.Reference14Ideal.Read.val_main_cst_7_apply, Cert.Reference14Ideal.Read.val_main_cst_apply, Cert.Reference14Ideal.Read.val_main_v0_apply, Cert.Reference14Ideal.Read.val_main_v10_apply, Cert.Reference14Ideal.Read.val_main_v11_apply, Cert.Reference14Ideal.Read.val_main_v12_apply, Cert.Reference14Ideal.Read.val_main_v13_apply, Cert.Reference14Ideal.Read.val_main_v14_apply, Cert.Reference14Ideal.Read.val_main_v15_apply, Cert.Reference14Ideal.Read.val_main_v16_apply, Cert.Reference14Ideal.Read.val_main_v17_apply, Cert.Reference14Ideal.Read.val_main_v18_apply, Cert.Reference14Ideal.Read.val_main_v19_apply, Cert.Reference14Ideal.Read.val_main_v1_apply, Cert.Reference14Ideal.Read.val_main_v20_apply, Cert.Reference14Ideal.Read.val_main_v21_apply, Cert.Reference14Ideal.Read.val_main_v22_apply, Cert.Reference14Ideal.Read.val_main_v23_apply, Cert.Reference14Ideal.Read.val_main_v2_apply, Cert.Reference14Ideal.Read.val_main_v3_apply, Cert.Reference14Ideal.Read.val_main_v4_apply, Cert.Reference14Ideal.Read.val_main_v5_apply, Cert.Reference14Ideal.Read.val_main_v6_apply, Cert.Reference14Ideal.Read.val_main_v7_apply, Cert.Reference14Ideal.Read.val_main_v8_apply, Cert.Reference14Ideal.Read.val_main_v9_apply]
  rfl
/-- and the second. -/
theorem ref7 (g : S512x128.Idx → EReal) (y : S512x128.Idx → EReal) : (Cert.Reference14Ideal.Read.val_main_v10 (F := Ideal) g y : S512x128.Idx → EReal) = G7 g y := by
  unfold G7
  funext i
  simp only [Cert.Reference14Ideal.Read.val_main_cst_0_apply, Cert.Reference14Ideal.Read.val_main_cst_1_apply, Cert.Reference14Ideal.Read.val_main_cst_2_apply, Cert.Reference14Ideal.Read.val_main_cst_3_apply, Cert.Reference14Ideal.Read.val_main_cst_4_apply, Cert.Reference14Ideal.Read.val_main_cst_5_apply, Cert.Reference14Ideal.Read.val_main_cst_6_apply, Cert.Reference14Ideal.Read.val_main_cst_7_apply, Cert.Reference14Ideal.Read.val_main_cst_apply, Cert.Reference14Ideal.Read.val_main_v0_apply, Cert.Reference14Ideal.Read.val_main_v10_apply, Cert.Reference14Ideal.Read.val_main_v11_apply, Cert.Reference14Ideal.Read.val_main_v12_apply, Cert.Reference14Ideal.Read.val_main_v13_apply, Cert.Reference14Ideal.Read.val_main_v14_apply, Cert.Reference14Ideal.Read.val_main_v15_apply, Cert.Reference14Ideal.Read.val_main_v16_apply, Cert.Reference14Ideal.Read.val_main_v17_apply, Cert.Reference14Ideal.Read.val_main_v18_apply, Cert.Reference14Ideal.Read.val_main_v19_apply, Cert.Reference14Ideal.Read.val_main_v1_apply, Cert.Reference14Ideal.Read.val_main_v20_apply, Cert.Reference14Ideal.Read.val_main_v21_apply, Cert.Reference14Ideal.Read.val_main_v22_apply, Cert.Reference14Ideal.Read.val_main_v23_apply, Cert.Reference14Ideal.Read.val_main_v2_apply, Cert.Reference14Ideal.Read.val_main_v3_apply, Cert.Reference14Ideal.Read.val_main_v4_apply, Cert.Reference14Ideal.Read.val_main_v5_apply, Cert.Reference14Ideal.Read.val_main_v6_apply, Cert.Reference14Ideal.Read.val_main_v7_apply, Cert.Reference14Ideal.Read.val_main_v8_apply, Cert.Reference14Ideal.Read.val_main_v9_apply]
  rfl

/-- The optimiser step: from the same arguments the kernel and the reference end at the same four arrays. -/
theorem algebraic : Cert.algebraic_Kernel14Ideal_Reference14Ideal (hKernel14Ideal := Cert.Kernel14Ideal.Gen.facts)
    (hReference14Ideal := Cert.Reference14Ideal.Gen.facts) := by
  intro m g m' g' _ hargs
  refine ⟨fun c => G4 (gA m c), fun c => G5 (gA m c) (wA m c) (mA m c) (vA m c), fun c => G6 (gA m c) (mA m c), fun c => G7 (gA m c) (vA m c), ?_, ?_⟩
  · refine (θ_run _ _ _).mono (fun r h c => ?_) (Cert.Kernel14Ideal.Value.run_blocks (F := Ideal) m g)
    obtain ⟨h4, h5, h6, h7, hr⟩ := h c
    exact ⟨h4.trans (final4 m c), h5.trans (final5 m c), h6.trans (final6 m c), h7.trans (final7 m c), hr⟩
  · refine (θ_run _ _ _).mono (fun r h c => ?_) (Cert.Reference14Ideal.Value.run (F := Ideal) m' g')
    obtain ⟨h4, h5, h6, h7, hr⟩ := h c
    obtain ⟨e0, e1, e2, e3⟩ := hargs c
    refine ⟨h4.trans e0, h5.trans ((Cert.Reference14Ideal.Read.val_main_v23_eq _ _ _ _).trans ?_), h6.trans ((Cert.Reference14Ideal.Read.val_main_v4_eq _ _).trans ?_), h7.trans ((Cert.Reference14Ideal.Read.val_main_v10_eq _ _).trans ?_), hr⟩
    · rw [e0, e1, e2, e3]; exact ref5 _ _ _ _
    · rw [e0, e2]; exact ref6 _ _
    · rw [e0, e3]; exact ref7 _ _

/-- The reference's run leaves its arguments alone; it declares no counter. -/
theorem frame_reference : Cert.quiescent_Reference14Ideal (hReference14Ideal := Cert.Reference14Ideal.Gen.facts) := fun m g _ =>
  (θ_run Cert.Reference14Ideal.defs _ _).mono (fun r h => ⟨fun c => (h c).2.2.2.2, sem_eq_zero_of_no_sems (by decide) r.2⟩)
    (Cert.Reference14Ideal.Value.run (F := Ideal) m g)

end Cert.Proof.Adam14

end
-- ==== Proof.Adam15.lean ====
/-
  The optimiser step of the spatial gate's biases: every entry of the four results is the step's own function of the entry's gradient,
  weight and moments, in the kernel as in the reference.
-/
module

public import proofs.«01_k».proof.Proof.AdamStep
public import proofs.«01_k».proof.Defs
public import proofs.«01_k».proof.Proof.Gen.Kernel15Ideal.Value
public import proofs.«01_k».proof.Proof.Gen.Reference15Ideal.Run
public import proofs.«01_k».proof.Proof.Gen.Reference15Ideal.Read
public import Idealize.ShloMosaic.Lib.Pipeline.ValueKit.Acc
public import Idealize.ShloMosaic.Lib.Pipeline.ValueKit.Point
public import Idealize.ShloMosaic.Lib.Claim
public import Idealize.ShloMosaic.Lib.Tactic

@[expose] public section

noncomputable section

namespace Cert.Proof.Adam15

open Idealize.ShloMosaic hiding ix2 ix3 addf_apply
open Idealize.ShloMosaic.TcCoe Idealize.SL.Sem
open Cert.Kernel15Ideal Cert.Kernel15Ideal.Gen Cert.Proof.AdamStep Idealize.ShloMosaic.ValueIdx
open Idealize.ShloMosaic.Pipeline (Dat Cfg Window)

variable (m : (ℓ : Loc nD τ sig) → Buf (Elt Ideal) ℓ) (ρ : Dev nD → PrngReg)

/-- The gradient at launch, -/
def gA (c : Dev nD) : S4x128.Idx → EReal := m ((c : Thread nD τ).loc main_arg0)
/-- the weight, -/
def wA (c : Dev nD) : S4x128.Idx → EReal := m ((c : Thread nD τ).loc main_arg1)
/-- the first moment -/
def mA (c : Dev nD) : S4x128.Idx → EReal := m ((c : Thread nD τ).loc main_arg2)
/-- and the second. -/
def vA (c : Dev nD) : S4x128.Idx → EReal := m ((c : Thread nD τ).loc main_arg3)

/-- The gradient, -/
def G4 (g : S4x128.Idx → EReal) : S4x128.Idx → EReal := g
/-- the change of the weight, -/
def G5 (g : S4x128.Idx → EReal) (w x y : S4x128.Idx → EReal) : S4x128.Idx → EReal := fun i => delta (G4 g i) (w i) (x i) (y i)
/-- the first moment after the step -/
def G6 (g : S4x128.Idx → EReal) (x : S4x128.Idx → EReal) : S4x128.Idx → EReal := fun i => mom (G4 g i) (x i)
/-- and the second. -/
def G7 (g : S4x128.Idx → EReal) (y : S4x128.Idx → EReal) : S4x128.Idx → EReal := fun i => sqm (G4 g i) (y i)

/-! ## The body -/

/-- The first moment's payload, -/
theorem mom_apply (g x : Vec Ideal S4x128 .f32) (j : S4x128.Idx) : k0_pay1 (F := Ideal) g x j = mom (g j) (x j) := rfl
/-- the second's -/
theorem sqm_apply (g x : Vec Ideal S4x128 .f32) (j : S4x128.Idx) : k0_pay2 (F := Ideal) g x j = sqm (g j) (x j) := rfl
/-- and the change's, entry by entry. -/
theorem delta_apply (g w x y : Vec Ideal S4x128 .f32) (j : S4x128.Idx) : k0_pay3 (F := Ideal) g w x y j = delta (g j) (w j) (x j) (y j) := rfl

/-- The offset of a whole block. -/
theorem hz : (![0, 0] : Fin 2 → Nat) = fun _ => 0 := funext fun a => by fin_cases a <;> rfl

/-- The block of the gradient that the body steps with. -/
def gS (g : Vec Ideal S4x128 .f32) : Vec Ideal S4x128 .f32 := g

/-- What the body leaves in the four results' blocks. -/
theorem out4_eq (g : Vec Ideal S4x128 .f32) (w x y : Vec Ideal S4x128 .f32) : out0_4 (F := Ideal) g w x y = gS g := by
  unfold out0_4 gS
  rw [View.canon_unit_zero hz, View.ld_unit_zero (S := S4x128) hz _ g]
theorem out5_eq (g : Vec Ideal S4x128 .f32) (w x y : Vec Ideal S4x128 .f32) : out0_5 (F := Ideal) g w x y = k0_pay3 (F := Ideal) (gS g) w x y := by
  unfold out0_5 gS
  rw [View.canon_unit_zero hz, View.ld_unit_zero (S := S4x128) hz _ g, View.ld_unit_zero (S := S4x128) hz _ w, View.ld_unit_zero (S := S4x128) hz _ x, View.ld_unit_zero (S := S4x128) hz _ y]
theorem out6_eq (g : Vec Ideal S4x128 .f32) (w x y : Vec Ideal S4x128 .f32) : out0_6 (F := Ideal) g w x y = k0_pay1 (F := Ideal) (gS g) x := by
  unfold out0_6 gS
  rw [View.canon_unit_zero hz, View.ld_unit_zero (S := S4x128) hz _ g, View.ld_unit_zero (S := S4x128) hz _ x]
theorem out7_eq (g : Vec Ideal S4x128 .f32) (w x y : Vec Ideal S4x128 .f32) : out0_7 (F := Ideal) g w x y = k0_pay2 (F := Ideal) (gS g) y := by
  unfold out0_7 gS
  rw [View.canon_unit_zero hz, View.ld_unit_zero (S := S4x128) hz _ g, View.ld_unit_zero (S := S4x128) hz _ y]

/-! ## The blocks -/

/-- Where the windows' blocks lie, decided over the grid. -/
theorem idx : ∀ t : Fin cfg0.N, win0_0.index t = ![t.val, 0] ∧ win0_1.index t = ![t.val, 0] ∧ win0_2.index t = ![t.val, 0] ∧ win0_3.index t = ![t.val, 0] :=
  (by decide +kernel : ∀ t : Fin grid0.N, _)
theorem idxR : ∀ t : Fin cfg0.N, win0_4.index t = ![t.val, 0] ∧ win0_5.index t = ![t.val, 0] ∧ win0_6.index t = ![t.val, 0] ∧ win0_7.index t = ![t.val, 0] :=
  (by decide +kernel : ∀ t : Fin grid0.N, _)

/-- The input blocks at point `t`. -/
def gB (c : Dev nD) (t : Fin cfg0.N) : S4x128.Idx → EReal := iblk m c 0 t
def wB (c : Dev nD) (t : Fin cfg0.N) : S4x128.Idx → EReal := iblk m c 1 t
def mB (c : Dev nD) (t : Fin cfg0.N) : S4x128.Idx → EReal := iblk m c 2 t
def vB (c : Dev nD) (t : Fin cfg0.N) : S4x128.Idx → EReal := iblk m c 3 t

/-- An entry of a block is the array's entry. -/
theorem gB_apply (c : Dev nD) (t : Fin cfg0.N) (y : S4x128.Idx) (i : S4x128.Idx) (h0 : (i 0).val = t.val * 4 + (y 0).val) (h1 : (i 1).val = (y 1).val) :
    (gS (gB m c t) y : EReal) = G4 (gA m c) i := by
  have e : win0_0.index t = ![t.val, 0] := (idx t).1
  show V m c main_arg0 (((cfg0.win 0).blk t).view.emb y) = gA m c i
  rw [V_main_arg0]
  refine congrArg (gA m c) (funext fun a => Fin.ext ?_)
  match a with
  | ⟨0, _⟩ => show win0_0.index t (0 : Fin 2) * 4 + 1 * (y 0).val = (i 0).val; rw [e]; show t.val * 4 + 1 * (y 0).val = _; omega
  | ⟨1, _⟩ => show win0_0.index t (1 : Fin 2) * 128 + 1 * (y 1).val = (i 1).val; rw [e]; show 0 * 128 + 1 * (y 1).val = _; omega
theorem wB_apply (c : Dev nD) (t : Fin cfg0.N) (y : S4x128.Idx) (i : S4x128.Idx) (h0 : (i 0).val = t.val * 4 + (y 0).val) (h1 : (i 1).val = (y 1).val) :
    (wB m c t y : EReal) = wA m c i := by
  have e : win0_1.index t = ![t.val, 0] := (idx t).2.1
  show V m c main_arg1 (((cfg0.win 1).blk t).view.emb y) = wA m c i
  rw [V_main_arg1]
  refine congrArg (wA m c) (funext fun a => Fin.ext ?_)
  match a with
  | ⟨0, _⟩ => show win0_1.index t (0 : Fin 2) * 4 + 1 * (y 0).val = (i 0).val; rw [e]; show t.val * 4 + 1 * (y 0).val = _; omega
  | ⟨1, _⟩ => show win0_1.index t (1 : Fin 2) * 128 + 1 * (y 1).val = (i 1).val; rw [e]; show 0 * 128 + 1 * (y 1).val = _; omega
theorem mB_apply (c : Dev nD) (t : Fin cfg0.N) (y : S4x128.Idx) (i : S4x128.Idx) (h0 : (i 0).val = t.val * 4 + (y 0).val) (h1 : (i 1).val = (y 1).val) :
    (mB m c t y : EReal) = mA m c i := by
  have e : win0_2.index t = ![t.val, 0] := (idx t).2.2.1
  show V m c main_arg2 (((cfg0.win 2).blk t).view.emb y) = mA m c i
  rw [V_main_arg2]
  refine congrArg (mA m c) (funext fun a => Fin.ext ?_)
  match a with
  | ⟨0, _⟩ => show win0_2.index t (0 : Fin 2) * 4 + 1 * (y 0).val = (i 0).val; rw [e]; show t.val * 4 + 1 * (y 0).val = _; omega
  | ⟨1, _⟩ => show win0_2.index t (1 : Fin 2) * 128 + 1 * (y 1).val = (i 1).val; rw [e]; show 0 * 128 + 1 * (y 1).val = _; omega
theorem vB_apply (c : Dev nD) (t : Fin cfg0.N) (y : S4x128.Idx) (i : S4x128.Idx) (h0 : (i 0).val = t.val * 4 + (y 0).val) (h1 : (i 1).val = (y 1).val) :
    (vB m c t y : EReal) = vA m c i := by
  have e : win0_3.index t = ![t.val, 0] := (idx t).2.2.2
  show V m c main_arg3 (((cfg0.win 3).blk t).view.emb y) = vA m c i
  rw [V_main_arg3]
  refine congrArg (vA m c) (funext fun a => Fin.ext ?_)
  match a with
  | ⟨0, _⟩ => show win0_3.index t (0 : Fin 2) * 4 + 1 * (y 0).val = (i 0).val; rw [e]; show t.val * 4 + 1 * (y 0).val = _; omega
  | ⟨1, _⟩ => show win0_3.index t (1 : Fin 2) * 128 + 1 * (y 1).val = (i 1).val; rw [e]; show 0 * 128 + 1 * (y 1).val = _; omega

/-! ## The results -/

/-- What a point writes back of the gradient is its block, -/
theorem flushed4 (c : Dev nD) (t : Fin cfg0.N) : (dats m 0 c).flushed 4 t = ((cfg0.win 4).blk t).view.read (Elt Ideal) (G4 (gA m c)) := by
  show (cfg0.win 4).cut (grid0.coords t) ((dats m 0 c).after 4 t) = _
  rw [after0_4, out4_eq]
  funext y
  have e0 : win0_4.index t (0 : Fin 2) = t.val := congrFun (idxR t).1 0
  have e1 : win0_4.index t (1 : Fin 2) = 0 := congrFun (idxR t).1 1
  have hb0 : (((cfg0.win 4).blk t).view.emb y 0).val = win0_4.index t (0 : Fin 2) * 4 + 1 * (y 0).val := rfl
  have hb1 : (((cfg0.win 4).blk t).view.emb y 1).val = win0_4.index t (1 : Fin 2) * 128 + 1 * (y 1).val := rfl
  have h0 : (((cfg0.win 4).blk t).view.emb y 0).val = t.val * 4 + (((cfg0.win 4).xinj (grid0.coords t) y) 0).val := by
    show _ = t.val * 4 + (y 0).val
    rw [hb0, e0]; omega
  have h1 : (((cfg0.win 4).blk t).view.emb y 1).val = (((cfg0.win 4).xinj (grid0.coords t) y) 1).val := by
    show _ = (y 1).val
    rw [hb1, e1]; omega
  exact gB_apply m c t _ _ h0 h1

/-- and the array after the run. -/
theorem final4 (c : Dev nD) : (dats m 0 c).arrAt 4 cfg0.N = G4 (gA m c) :=
  (dats m 0 c).arrAt_eq_of_cover 4 _ (fun t _ => flushed4 m c t) (fun i => by
    have hi0 : (i 0).val < 4 := (i 0).isLt
    have hi1 : (i 1).val < 128 := (i 1).isLt
    have hlt : (i 0).val / 4 < grid0.N := lt_of_lt_of_eq (by omega : _ < 1) N_0.symm
    have ht := (idxR ⟨(i 0).val / 4, hlt⟩).1
    refine ⟨⟨(i 0).val / 4, hlt⟩, flush0_4 _, ?_⟩
    have q0 : win0_4.index (⟨(i 0).val / 4, hlt⟩ : Fin grid0.N) (0 : Fin 2) = (i 0).val / 4 := congrFun ht 0
    have q1 : win0_4.index (⟨(i 0).val / 4, hlt⟩ : Fin grid0.N) (1 : Fin 2) = 0 := congrFun ht 1
    generalize (⟨(i 0).val / 4, hlt⟩ : Fin grid0.N) = t at q0 q1 ⊢
    show i ∈ ((View.whole main_v0_0).slice (win0_4.rect t)).set
    rw [View.set_slice_whole, Rect.mem_set_unit]
    intro a
    match a with
    | ⟨0, _⟩ => show win0_4.index t (0 : Fin 2) * 4 ≤ (i 0).val ∧ (i 0).val < win0_4.index t (0 : Fin 2) * 4 + 4; omega
    | ⟨1, _⟩ => show win0_4.index t (1 : Fin 2) * 128 ≤ (i 1).val ∧ (i 1).val < win0_4.index t (1 : Fin 2) * 128 + 128; omega)

/-- What a point writes back of the weight's change is its block, -/
theorem flushed5 (c : Dev nD) (t : Fin cfg0.N) : (dats m 0 c).flushed 5 t = ((cfg0.win 5).blk t).view.read (Elt Ideal) (G5 (gA m c) (wA m c) (mA m c) (vA m c)) := by
  show (cfg0.win 5).cut (grid0.coords t) ((dats m 0 c).after 5 t) = _
  rw [after0_5, out5_eq]
  funext y
  have e0 : win0_5.index t (0 : Fin 2) = t.val := congrFun (idxR t).2.1 0
  have e1 : win0_5.index t (1 : Fin 2) = 0 := congrFun (idxR t).2.1 1
  have hb0 : (((cfg0.win 5).blk t).view.emb y 0).val = win0_5.index t (0 : Fin 2) * 4 + 1 * (y 0).val := rfl
  have hb1 : (((cfg0.win 5).blk t).view.emb y 1).val = win0_5.index t (1 : Fin 2) * 128 + 1 * (y 1).val := rfl
  have h0 : (((cfg0.win 5).blk t).view.emb y 0).val = t.val * 4 + (((cfg0.win 5).xinj (grid0.coords t) y) 0).val := by
    show _ = t.val * 4 + (y 0).val
    rw [hb0, e0]; omega
  have h1 : (((cfg0.win 5).blk t).view.emb y 1).val = (((cfg0.win 5).xinj (grid0.coords t) y) 1).val := by
    show _ = (y 1).val
    rw [hb1, e1]; omega
  exact (delta_apply _ _ _ _ _).trans (by show delta (gS (gB m c t) _) (wB m c t _) (mB m c t _) (vB m c t _) = delta (G4 (gA m c) _) (wA m c _) (mA m c _) (vA m c _); rw [gB_apply m c t _ _ h0 h1, wB_apply m c t _ _ h0 h1, mB_apply m c t _ _ h0 h1, vB_apply m c t _ _ h0 h1])

/-- and the array after the run. -/
theorem final5 (c : Dev nD) : (dats m 0 c).arrAt 5 cfg0.N = G5 (gA m c) (wA m c) (mA m c) (vA m c) :=
  (dats m 0 c).arrAt_eq_of_cover 5 _ (fun t _ => flushed5 m c t) (fun i => by
    have hi0 : (i 0).val < 4 := (i 0).isLt
    have hi1 : (i 1).val < 128 := (i 1).isLt
    have hlt : (i 0).val / 4 < grid0.N := lt_of_lt_of_eq (by omega : _ < 1) N_0.symm
    have ht := (idxR ⟨(i 0).val / 4, hlt⟩).2.1
    refine ⟨⟨(i 0).val / 4, hlt⟩, flush0_5 _, ?_⟩
    have q0 : win0_5.index (⟨(i 0).val / 4, hlt⟩ : Fin grid0.N) (0 : Fin 2) = (i 0).val / 4 := congrFun ht 0
    have q1 : win0_5.index (⟨(i 0).val / 4, hlt⟩ : Fin grid0.N) (1 : Fin 2) = 0 := congrFun ht 1
    generalize (⟨(i 0).val / 4, hlt⟩ : Fin grid0.N) = t at q0 q1 ⊢
    show i ∈ ((View.whole main_v0_1).slice (win0_5.rect t)).set
    rw [View.set_slice_whole, Rect.mem_set_unit]
    intro a
    match a with
    | ⟨0, _⟩ => show win0_5.index t (0 : Fin 2) * 4 ≤ (i 0).val ∧ (i 0).val < win0_5.index t (0 : Fin 2) * 4 + 4; omega
    | ⟨1, _⟩ => show win0_5.index t (1 : Fin 2) * 128 ≤ (i 1).val ∧ (i 1).val < win0_5.index t (1 : Fin 2) * 128 + 128; omega)

/-- What a point writes back of the first moment is its block, -/
theorem flushed6 (c : Dev nD) (t : Fin cfg0.N) : (dats m 0 c).flushed 6 t = ((cfg0.win 6).blk t).view.read (Elt Ideal) (G6 (gA m c) (mA m c)) := by
  show (cfg0.win 6).cut (grid0.coords t) ((dats m 0 c).after 6 t) = _
  rw [after0_6, out6_eq]
  funext y
  have e0 : win0_6.index t (0 : Fin 2) = t.val := congrFun (idxR t).2.2.1 0
  have e1 : win0_6.index t (1 : Fin 2) = 0 := congrFun (idxR t).2.2.1 1
  have hb0 : (((cfg0.win 6).blk t).view.emb y 0).val = win0_6.index t (0 : Fin 2) * 4 + 1 * (y 0).val := rfl
  have hb1 : (((cfg0.win 6).blk t).view.emb y 1).val = win0_6.index t (1 : Fin 2) * 128 + 1 * (y 1).val := rfl
  have h0 : (((cfg0.win 6).blk t).view.emb y 0).val = t.val * 4 + (((cfg0.win 6).xinj (grid0.coords t) y) 0).val := by
    show _ = t.val * 4 + (y 0).val
    rw [hb0, e0]; omega
  have h1 : (((cfg0.win 6).blk t).view.emb y 1).val = (((cfg0.win 6).xinj (grid0.coords t) y) 1).val := by
    show _ = (y 1).val
    rw [hb1, e1]; omega
  exact (mom_apply _ _ _).trans (by show mom (gS (gB m c t) _) (mB m c t _) = mom (G4 (gA m c) _) (mA m c _); rw [gB_apply m c t _ _ h0 h1, mB_apply m c t _ _ h0 h1])

/-- and the array after the run. -/
theorem final6 (c : Dev nD) : (dats m 0 c).arrAt 6 cfg0.N = G6 (gA m c) (mA m c) :=
  (dats m 0 c).arrAt_eq_of_cover 6 _ (fun t _ => flushed6 m c t) (fun i => by
    have hi0 : (i 0).val < 4 := (i 0).isLt
    have hi1 : (i 1).val < 128 := (i 1).isLt
    have hlt : (i 0).val / 4 < grid0.N := lt_of_lt_of_eq (by omega : _ < 1) N_0.symm
    have ht := (idxR ⟨(i 0).val / 4, hlt⟩).2.2.1
    refine ⟨⟨(i 0).val / 4, hlt⟩, flush0_6 _, ?_⟩
    have q0 : win0_6.index (⟨(i 0).val / 4, hlt⟩ : Fin grid0.N) (0 : Fin 2) = (i 0).val / 4 := congrFun ht 0
    have q1 : win0_6.index (⟨(i 0).val / 4, hlt⟩ : Fin grid0.N) (1 : Fin 2) = 0 := congrFun ht 1
    generalize (⟨(i 0).val / 4, hlt⟩ : Fin grid0.N) = t at q0 q1 ⊢
    show i ∈ ((View.whole main_v0_2).slice (win0_6.rect t)).set
    rw [View.set_slice_whole, Rect.mem_set_unit]
    intro a
    match a with
    | ⟨0, _⟩ => show win0_6.index t (0 : Fin 2) * 4 ≤ (i 0).val ∧ (i 0).val < win0_6.index t (0 : Fin 2) * 4 + 4; omega
    | ⟨1, _⟩ => show win0_6.index t (1 : Fin 2) * 128 ≤ (i 1).val ∧ (i 1).val < win0_6.index t (1 : Fin 2) * 128 + 128; omega)

/-- What a point writes back of the second moment is its block, -/
theorem flushed7 (c : Dev nD) (t : Fin cfg0.N) : (dats m 0 c).flushed 7 t = ((cfg0.win 7).blk t).view.read (Elt Ideal) (G7 (gA m c) (vA m c)) := by
  show (cfg0.win 7).cut (grid0.coords t) ((dats m 0 c).after 7 t) = _
  rw [after0_7, out7_eq]
  funext y
  have e0 : win0_7.index t (0 : Fin 2) = t.val := congrFun (idxR t).2.2.2 0
  have e1 : win0_7.index t (1 : Fin 2) = 0 := congrFun (idxR t).2.2.2 1
  have hb0 : (((cfg0.win 7).blk t).view.emb y 0).val = win0_7.index t (0 : Fin 2) * 4 + 1 * (y 0).val := rfl
  have hb1 : (((cfg0.win 7).blk t).view.emb y 1).val = win0_7.index t (1 : Fin 2) * 128 + 1 * (y 1).val := rfl
  have h0 : (((cfg0.win 7).blk t).view.emb y 0).val = t.val * 4 + (((cfg0.win 7).xinj (grid0.coords t) y) 0).val := by
    show _ = t.val * 4 + (y 0).val
    rw [hb0, e0]; omega
  have h1 : (((cfg0.win 7).blk t).view.emb y 1).val = (((cfg0.win 7).xinj (grid0.coords t) y) 1).val := by
    show _ = (y 1).val
    rw [hb1, e1]; omega
  exact (sqm_apply _ _ _).trans (by show sqm (gS (gB m c t) _) (vB m c t _) = sqm (G4 (gA m c) _) (vA m c _); rw [gB_apply m c t _ _ h0 h1, vB_apply m c t _ _ h0 h1])

/-- and the array after the run. -/
theorem final7 (c : Dev nD) : (dats m 0 c).arrAt 7 cfg0.N = G7 (gA m c) (vA m c) :=
  (dats m 0 c).arrAt_eq_of_cover 7 _ (fun t _ => flushed7 m c t) (fun i => by
    have hi0 : (i 0).val < 4 := (i 0).isLt
    have hi1 : (i 1).val < 128 := (i 1).isLt
    have hlt : (i 0).val / 4 < grid0.N := lt_of_lt_of_eq (by omega : _ < 1) N_0.symm
    have ht := (idxR ⟨(i 0).val / 4, hlt⟩).2.2.2
    refine ⟨⟨(i 0).val / 4, hlt⟩, flush0_7 _, ?_⟩
    have q0 : win0_7.index (⟨(i 0).val / 4, hlt⟩ : Fin grid0.N) (0 : Fin 2) = (i 0).val / 4 := congrFun ht 0
    have q1 : win0_7.index (⟨(i 0).val / 4, hlt⟩ : Fin grid0.N) (1 : Fin 2) = 0 := congrFun ht 1
    generalize (⟨(i 0).val / 4, hlt⟩ : Fin grid0.N) = t at q0 q1 ⊢
    show i ∈ ((View.whole main_v0_3).slice (win0_7.rect t)).set
    rw [View.set_slice_whole, Rect.mem_set_unit]
    intro a
    match a with
    | ⟨0, _⟩ => show win0_7.index t (0 : Fin 2) * 4 ≤ (i 0).val ∧ (i 0).val < win0_7.index t (0 : Fin 2) * 4 + 4; omega
    | ⟨1, _⟩ => show win0_7.index t (1 : Fin 2) * 128 ≤ (i 1).val ∧ (i 1).val < win0_7.index t (1 : Fin 2) * 128 + 128; omega)

/-! ## The reference -/

/-- the change of the weight, -/
theorem ref5 (g : S4x128.Idx → EReal) (w x y : S4x128.Idx → EReal) : (Cert.Reference15Ideal.Read.val_main_v23 (F := Ideal) g w x y : S4x128.Idx → EReal) = G5 g w x y := by
  unfold G5
  funext i
  simp only [Cert.Reference15Ideal.Read.val_main_cst_0_apply, Cert.Reference15Ideal.Read.val_main_cst_1_apply, Cert.Reference15Ideal.Read.val_main_cst_2_apply, Cert.Reference15Ideal.Read.val_main_cst_3_apply, Cert.Reference15Ideal.Read.val_main_cst_4_apply, Cert.Reference15Ideal.Read.val_main_cst_5_apply, Cert.Reference15Ideal.Read.val_main_cst_6_apply, Cert.Reference15Ideal.Read.val_main_cst_7_apply, Cert.Reference15Ideal.Read.val_main_cst_apply, Cert.Reference15Ideal.Read.val_main_v0_apply, Cert.Reference15Ideal.Read.val_main_v10_apply, Cert.Reference15Ideal.Read.val_main_v11_apply, Cert.Reference15Ideal.Read.val_main_v12_apply, Cert.Reference15Ideal.Read.val_main_v13_apply, Cert.Reference15Ideal.Read.val_main_v14_apply, Cert.Reference15Ideal.Read.val_main_v15_apply, Cert.Reference15Ideal.Read.val_main_v16_apply, Cert.Reference15Ideal.Read.val_main_v17_apply, Cert.Reference15Ideal.Read.val_main_v18_apply, Cert.Reference15Ideal.Read.val_main_v19_apply, Cert.Reference15Ideal.Read.val_main_v1_apply, Cert.Reference15Ideal.Read.val_main_v20_apply, Cert.Reference15Ideal.Read.val_main_v21_apply, Cert.Reference15Ideal.Read.val_main_v22_apply, Cert.Reference15Ideal.Read.val_main_v23_apply, Cert.Reference15Ideal.Read.val_main_v2_apply, Cert.Reference15Ideal.Read.val_main_v3_apply, Cert.Reference15Ideal.Read.val_main_v4_apply, Cert.Reference15Ideal.Read.val_main_v5_apply, Cert.Reference15Ideal.Read.val_main_v6_apply, Cert.Reference15Ideal.Read.val_main_v7_apply, Cert.Reference15Ideal.Read.val_main_v8_apply, Cert.Reference15Ideal.Read.val_main_v9_apply]
  rfl
/-- the first moment -/
theorem ref6 (g : S4x128.Idx → EReal) (x : S4x128.Idx → EReal) : (Cert.Reference15Ideal.Read.val_main_v4 (F := Ideal) g x : S4x128.Idx → EReal) = G6 g x := by
  unfold G6
  funext i
  simp only [Cert.Reference15Ideal.Read.val_main_cst_0_apply, Cert.Reference15Ideal.Read.val_main_cst_1_apply, Cert.Reference15Ideal.Read.val_main_cst_2_apply, Cert.Reference15Ideal.Read.val_main_cst_3_apply, Cert.Reference15Ideal.Read.val_main_cst_4_apply, Cert.Reference15Ideal.Read.val_main_cst_5_apply, Cert.Reference15Ideal.Read.val_main_cst_6_apply, Cert.Reference15Ideal.Read.val_main_cst_7_apply, Cert.Reference15Ideal.Read.val_main_cst_apply, Cert.Reference15Ideal.Read.val_main_v0_apply, Cert.Reference15Ideal.Read.val_main_v10_apply, Cert.Reference15Ideal.Read.val_main_v11_apply, Cert.Reference15Ideal.Read.val_main_v12_apply, Cert.Reference15Ideal.Read.val_main_v13_apply, Cert.Reference15Ideal.Read.val_main_v14_apply, Cert.Reference15Ideal.Read.val_main_v15_apply, Cert.Reference15Ideal.Read.val_main_v16_apply, Cert.Reference15Ideal.Read.val_main_v17_apply, Cert.Reference15Ideal.Read.val_main_v18_apply, Cert.Reference15Ideal.Read.val_main_v19_apply, Cert.Reference15Ideal.Read.val_main_v1_apply, Cert.Reference15Ideal.Read.val_main_v20_apply, Cert.Reference15Ideal.Read.val_main_v21_apply, Cert.Reference15Ideal.Read.val_main_v22_apply, Cert.Reference15Ideal.Read.val_main_v23_apply, Cert.Reference15Ideal.Read.val_main_v2_apply, Cert.Reference15Ideal.Read.val_main_v3_apply, Cert.Reference15Ideal.Read.val_main_v4_apply, Cert.Reference15Ideal.Read.val_main_v5_apply, Cert.Reference15Ideal.Read.val_main_v6_apply, Cert.Reference15Ideal.Read.val_main_v7_apply, Cert.Reference15Ideal.Read.val_main_v8_apply, Cert.Reference15Ideal.Read.val_main_v9_apply]
  rfl
/-- and the second. -/
theorem ref7 (g : S4x128.Idx → EReal) (y : S4x128.Idx → EReal) : (Cert.Reference15Ideal.Read.val_main_v10 (F := Ideal) g y : S4x128.Idx → EReal) = G7 g y := by
  unfold G7
  funext i
  simp only [Cert.Reference15Ideal.Read.val_main_cst_0_apply, Cert.Reference15Ideal.Read.val_main_cst_1_apply, Cert.Reference15Ideal.Read.val_main_cst_2_apply, Cert.Reference15Ideal.Read.val_main_cst_3_apply, Cert.Reference15Ideal.Read.val_main_cst_4_apply, Cert.Reference15Ideal.Read.val_main_cst_5_apply, Cert.Reference15Ideal.Read.val_main_cst_6_apply, Cert.Reference15Ideal.Read.val_main_cst_7_apply, Cert.Reference15Ideal.Read.val_main_cst_apply, Cert.Reference15Ideal.Read.val_main_v0_apply, Cert.Reference15Ideal.Read.val_main_v10_apply, Cert.Reference15Ideal.Read.val_main_v11_apply, Cert.Reference15Ideal.Read.val_main_v12_apply, Cert.Reference15Ideal.Read.val_main_v13_apply, Cert.Reference15Ideal.Read.val_main_v14_apply, Cert.Reference15Ideal.Read.val_main_v15_apply, Cert.Reference15Ideal.Read.val_main_v16_apply, Cert.Reference15Ideal.Read.val_main_v17_apply, Cert.Reference15Ideal.Read.val_main_v18_apply, Cert.Reference15Ideal.Read.val_main_v19_apply, Cert.Reference15Ideal.Read.val_main_v1_apply, Cert.Reference15Ideal.Read.val_main_v20_apply, Cert.Reference15Ideal.Read.val_main_v21_apply, Cert.Reference15Ideal.Read.val_main_v22_apply, Cert.Reference15Ideal.Read.val_main_v23_apply, Cert.Reference15Ideal.Read.val_main_v2_apply, Cert.Reference15Ideal.Read.val_main_v3_apply, Cert.Reference15Ideal.Read.val_main_v4_apply, Cert.Reference15Ideal.Read.val_main_v5_apply, Cert.Reference15Ideal.Read.val_main_v6_apply, Cert.Reference15Ideal.Read.val_main_v7_apply, Cert.Reference15Ideal.Read.val_main_v8_apply, Cert.Reference15Ideal.Read.val_main_v9_apply]
  rfl

/-- The optimiser step: from the same arguments the kernel and the reference end at the same four arrays. -/
theorem algebraic : Cert.algebraic_Kernel15Ideal_Reference15Ideal (hKernel15Ideal := Cert.Kernel15Ideal.Gen.facts)
    (hReference15Ideal := Cert.Reference15Ideal.Gen.facts) := by
  intro m g m' g' _ hargs
  refine ⟨fun c => G4 (gA m c), fun c => G5 (gA m c) (wA m c) (mA m c) (vA m c), fun c => G6 (gA m c) (mA m c), fun c => G7 (gA m c) (vA m c), ?_, ?_⟩
  · refine (θ_run _ _ _).mono (fun r h c => ?_) (Cert.Kernel15Ideal.Value.run_blocks (F := Ideal) m g)
    obtain ⟨h4, h5, h6, h7, hr⟩ := h c
    exact ⟨h4.trans (final4 m c), h5.trans (final5 m c), h6.trans (final6 m c), h7.trans (final7 m c), hr⟩
  · refine (θ_run _ _ _).mono (fun r h c => ?_) (Cert.Reference15Ideal.Value.run (F := Ideal) m' g')
    obtain ⟨h4, h5, h6, h7, hr⟩ := h c
    obtain ⟨e0, e1, e2, e3⟩ := hargs c
    refine ⟨h4.trans e0, h5.trans ((Cert.Reference15Ideal.Read.val_main_v23_eq _ _ _ _).trans ?_), h6.trans ((Cert.Reference15Ideal.Read.val_main_v4_eq _ _).trans ?_), h7.trans ((Cert.Reference15Ideal.Read.val_main_v10_eq _ _).trans ?_), hr⟩
    · rw [e0, e1, e2, e3]; exact ref5 _ _ _ _
    · rw [e0, e2]; exact ref6 _ _
    · rw [e0, e3]; exact ref7 _ _

/-- The reference's run leaves its arguments alone; it declares no counter. -/
theorem frame_reference : Cert.quiescent_Reference15Ideal (hReference15Ideal := Cert.Reference15Ideal.Gen.facts) := fun m g _ =>
  (θ_run Cert.Reference15Ideal.defs _ _).mono (fun r h => ⟨fun c => (h c).2.2.2.2, sem_eq_zero_of_no_sems (by decide) r.2⟩)
    (Cert.Reference15Ideal.Value.run (F := Ideal) m g)

end Cert.Proof.Adam15

end
-- ==== Proof.Adam16.lean ====
/-
  The optimiser step of the odd norm's gain: every entry of the four results is the step's own function of the entry's gradient,
  weight and moments, in the kernel as in the reference.
-/
module

public import proofs.«01_k».proof.Proof.AdamStep
public import proofs.«01_k».proof.Defs
public import proofs.«01_k».proof.Proof.Gen.Kernel16Ideal.Value
public import proofs.«01_k».proof.Proof.Gen.Reference16Ideal.Run
public import proofs.«01_k».proof.Proof.Gen.Reference16Ideal.Read
public import Idealize.ShloMosaic.Lib.Pipeline.ValueKit.Acc
public import Idealize.ShloMosaic.Lib.Pipeline.ValueKit.Point
public import Idealize.ShloMosaic.Lib.Claim
public import Idealize.ShloMosaic.Lib.Tactic

@[expose] public section

noncomputable section

namespace Cert.Proof.Adam16

open Idealize.ShloMosaic hiding ix2 ix3 addf_apply
open Idealize.ShloMosaic.TcCoe Idealize.SL.Sem
open Cert.Kernel16Ideal Cert.Kernel16Ideal.Gen Cert.Proof.AdamStep Idealize.ShloMosaic.ValueIdx
open Idealize.ShloMosaic.Pipeline (Dat Cfg Window)

variable (m : (ℓ : Loc nD τ sig) → Buf (Elt Ideal) ℓ) (ρ : Dev nD → PrngReg)

/-- The gradient at launch, -/
def gA (c : Dev nD) : S1x128.Idx → EReal := m ((c : Thread nD τ).loc main_arg0)
/-- the weight, -/
def wA (c : Dev nD) : S1x128.Idx → EReal := m ((c : Thread nD τ).loc main_arg1)
/-- the first moment -/
def mA (c : Dev nD) : S1x128.Idx → EReal := m ((c : Thread nD τ).loc main_arg2)
/-- and the second. -/
def vA (c : Dev nD) : S1x128.Idx → EReal := m ((c : Thread nD τ).loc main_arg3)

/-- The gradient, -/
def G4 (g : S1x128.Idx → EReal) : S1x128.Idx → EReal := g
/-- the change of the weight, -/
def G5 (g : S1x128.Idx → EReal) (w x y : S1x128.Idx → EReal) : S1x128.Idx → EReal := fun i => delta (G4 g i) (w i) (x i) (y i)
/-- the first moment after the step -/
def G6 (g : S1x128.Idx → EReal) (x : S1x128.Idx → EReal) : S1x128.Idx → EReal := fun i => mom (G4 g i) (x i)
/-- and the second. -/
def G7 (g : S1x128.Idx → EReal) (y : S1x128.Idx → EReal) : S1x128.Idx → EReal := fun i => sqm (G4 g i) (y i)

/-! ## The body -/

/-- The first moment's payload, -/
theorem mom_apply (g x : Vec Ideal S1x128 .f32) (j : S1x128.Idx) : k0_pay1 (F := Ideal) g x j = mom (g j) (x j) := rfl
/-- the second's -/
theorem sqm_apply (g x : Vec Ideal S1x128 .f32) (j : S1x128.Idx) : k0_pay2 (F := Ideal) g x j = sqm (g j) (x j) := rfl
/-- and the change's, entry by entry. -/
theorem delta_apply (g w x y : Vec Ideal S1x128 .f32) (j : S1x128.Idx) : k0_pay3 (F := Ideal) g w x y j = delta (g j) (w j) (x j) (y j) := rfl

/-- The offset of a whole block. -/
theorem hz : (![0, 0] : Fin 2 → Nat) = fun _ => 0 := funext fun a => by fin_cases a <;> rfl

/-- The block of the gradient that the body steps with. -/
def gS (g : Vec Ideal S1x128 .f32) : Vec Ideal S1x128 .f32 := g

/-- What the body leaves in the four results' blocks. -/
theorem out4_eq (g : Vec Ideal S1x128 .f32) (w x y : Vec Ideal S1x128 .f32) : out0_4 (F := Ideal) g w x y = gS g := by
  unfold out0_4 gS
  rw [View.canon_unit_zero hz, View.ld_unit_zero (S := S1x128) hz _ g]
theorem out5_eq (g : Vec Ideal S1x128 .f32) (w x y : Vec Ideal S1x128 .f32) : out0_5 (F := Ideal) g w x y = k0_pay3 (F := Ideal) (gS g) w x y := by
  unfold out0_5 gS
  rw [View.canon_unit_zero hz, View.ld_unit_zero (S := S1x128) hz _ g, View.ld_unit_zero (S := S1x128) hz _ w, View.ld_unit_zero (S := S1x128) hz _ x, View.ld_unit_zero (S := S1x128) hz _ y]
theorem out6_eq (g : Vec Ideal S1x128 .f32) (w x y : Vec Ideal S1x128 .f32) : out0_6 (F := Ideal) g w x y = k0_pay1 (F := Ideal) (gS g) x := by
  unfold out0_6 gS
  rw [View.canon_unit_zero hz, View.ld_unit_zero (S := S1x128) hz _ g, View.ld_unit_zero (S := S1x128) hz _ x]
theorem out7_eq (g : Vec Ideal S1x128 .f32) (w x y : Vec Ideal S1x128 .f32) : out0_7 (F := Ideal) g w x y = k0_pay2 (F := Ideal) (gS g) y := by
  unfold out0_7 gS
  rw [View.canon_unit_zero hz, View.ld_unit_zero (S := S1x128) hz _ g, View.ld_unit_zero (S := S1x128) hz _ y]

/-! ## The blocks -/

/-- Where the windows' blocks lie, decided over the grid. -/
theorem idx : ∀ t : Fin cfg0.N, win0_0.index t = ![t.val, 0] ∧ win0_1.index t = ![t.val, 0] ∧ win0_2.index t = ![t.val, 0] ∧ win0_3.index t = ![t.val, 0] :=
  (by decide +kernel : ∀ t : Fin grid0.N, _)
theorem idxR : ∀ t : Fin cfg0.N, win0_4.index t = ![t.val, 0] ∧ win0_5.index t = ![t.val, 0] ∧ win0_6.index t = ![t.val, 0] ∧ win0_7.index t = ![t.val, 0] :=
  (by decide +kernel : ∀ t : Fin grid0.N, _)

/-- The input blocks at point `t`. -/
def gB (c : Dev nD) (t : Fin cfg0.N) : S1x128.Idx → EReal := iblk m c 0 t
def wB (c : Dev nD) (t : Fin cfg0.N) : S1x128.Idx → EReal := iblk m c 1 t
def mB (c : Dev nD) (t : Fin cfg0.N) : S1x128.Idx → EReal := iblk m c 2 t
def vB (c : Dev nD) (t : Fin cfg0.N) : S1x128.Idx → EReal := iblk m c 3 t

/-- An entry of a block is the array's entry. -/
theorem gB_apply (c : Dev nD) (t : Fin cfg0.N) (y : S1x128.Idx) (i : S1x128.Idx) (h0 : (i 0).val = t.val * 1 + (y 0).val) (h1 : (i 1).val = (y 1).val) :
    (gS (gB m c t) y : EReal) = G4 (gA m c) i := by
  have e : win0_0.index t = ![t.val, 0] := (idx t).1
  show V m c main_arg0 (((cfg0.win 0).blk t).view.emb y) = gA m c i
  rw [V_main_arg0]
  refine congrArg (gA m c) (funext fun a => Fin.ext ?_)
  match a with
  | ⟨0, _⟩ => show win0_0.index t (0 : Fin 2) * 1 + 1 * (y 0).val = (i 0).val; rw [e]; show t.val * 1 + 1 * (y 0).val = _; omega
  | ⟨1, _⟩ => show win0_0.index t (1 : Fin 2) * 128 + 1 * (y 1).val = (i 1).val; rw [e]; show 0 * 128 + 1 * (y 1).val = _; omega
theorem wB_apply (c : Dev nD) (t : Fin cfg0.N) (y : S1x128.Idx) (i : S1x128.Idx) (h0 : (i 0).val = t.val * 1 + (y 0).val) (h1 : (i 1).val = (y 1).val) :
    (wB m c t y : EReal) = wA m c i := by
  have e : win0_1.index t = ![t.val, 0] := (idx t).2.1
  show V m c main_arg1 (((cfg0.win 1).blk t).view.emb y) = wA m c i
  rw [V_main_arg1]
  refine congrArg (wA m c) (funext fun a => Fin.ext ?_)
  match a with
  | ⟨0, _⟩ => show win0_1.index t (0 : Fin 2) * 1 + 1 * (y 0).val = (i 0).val; rw [e]; show t.val * 1 + 1 * (y 0).val = _; omega
  | ⟨1, _⟩ => show win0_1.index t (1 : Fin 2) * 128 + 1 * (y 1).val = (i 1).val; rw [e]; show 0 * 128 + 1 * (y 1).val = _; omega
theorem mB_apply (c : Dev nD) (t : Fin cfg0.N) (y : S1x128.Idx) (i : S1x128.Idx) (h0 : (i 0).val = t.val * 1 + (y 0).val) (h1 : (i 1).val = (y 1).val) :
    (mB m c t y : EReal) = mA m c i := by
  have e : win0_2.index t = ![t.val, 0] := (idx t).2.2.1
  show V m c main_arg2 (((cfg0.win 2).blk t).view.emb y) = mA m c i
  rw [V_main_arg2]
  refine congrArg (mA m c) (funext fun a => Fin.ext ?_)
  match a with
  | ⟨0, _⟩ => show win0_2.index t (0 : Fin 2) * 1 + 1 * (y 0).val = (i 0).val; rw [e]; show t.val * 1 + 1 * (y 0).val = _; omega
  | ⟨1, _⟩ => show win0_2.index t (1 : Fin 2) * 128 + 1 * (y 1).val = (i 1).val; rw [e]; show 0 * 128 + 1 * (y 1).val = _; omega
theorem vB_apply (c : Dev nD) (t : Fin cfg0.N) (y : S1x128.Idx) (i : S1x128.Idx) (h0 : (i 0).val = t.val * 1 + (y 0).val) (h1 : (i 1).val = (y 1).val) :
    (vB m c t y : EReal) = vA m c i := by
  have e : win0_3.index t = ![t.val, 0] := (idx t).2.2.2
  show V m c main_arg3 (((cfg0.win 3).blk t).view.emb y) = vA m c i
  rw [V_main_arg3]
  refine congrArg (vA m c) (funext fun a => Fin.ext ?_)
  match a with
  | ⟨0, _⟩ => show win0_3.index t (0 : Fin 2) * 1 + 1 * (y 0).val = (i 0).val; rw [e]; show t.val * 1 + 1 * (y 0).val = _; omega
  | ⟨1, _⟩ => show win0_3.index t (1 : Fin 2) * 128 + 1 * (y 1).val = (i 1).val; rw [e]; show 0 * 128 + 1 * (y 1).val = _; omega

/-! ## The results -/

/-- What a point writes back of the gradient is its block, -/
theorem flushed4 (c : Dev nD) (t : Fin cfg0.N) : (dats m 0 c).flushed 4 t = ((cfg0.win 4).blk t).view.read (Elt Ideal) (G4 (gA m c)) := by
  show (cfg0.win 4).cut (grid0.coords t) ((dats m 0 c).after 4 t) = _
  rw [after0_4, out4_eq]
  funext y
  have e0 : win0_4.index t (0 : Fin 2) = t.val := congrFun (idxR t).1 0
  have e1 : win0_4.index t (1 : Fin 2) = 0 := congrFun (idxR t).1 1
  have hb0 : (((cfg0.win 4).blk t).view.emb y 0).val = win0_4.index t (0 : Fin 2) * 1 + 1 * (y 0).val := rfl
  have hb1 : (((cfg0.win 4).blk t).view.emb y 1).val = win0_4.index t (1 : Fin 2) * 128 + 1 * (y 1).val := rfl
  have h0 : (((cfg0.win 4).blk t).view.emb y 0).val = t.val * 1 + (((cfg0.win 4).xinj (grid0.coords t) y) 0).val := by
    show _ = t.val * 1 + (y 0).val
    rw [hb0, e0]; omega
  have h1 : (((cfg0.win 4).blk t).view.emb y 1).val = (((cfg0.win 4).xinj (grid0.coords t) y) 1).val := by
    show _ = (y 1).val
    rw [hb1, e1]; omega
  exact gB_apply m c t _ _ h0 h1

/-- and the array after the run. -/
theorem final4 (c : Dev nD) : (dats m 0 c).arrAt 4 cfg0.N = G4 (gA m c) :=
  (dats m 0 c).arrAt_eq_of_cover 4 _ (fun t _ => flushed4 m c t) (fun i => by
    have hi0 : (i 0).val < 1 := (i 0).isLt
    have hi1 : (i 1).val < 128 := (i 1).isLt
    have hlt : (i 0).val / 1 < grid0.N := lt_of_lt_of_eq (by omega : _ < 1) N_0.symm
    have ht := (idxR ⟨(i 0).val / 1, hlt⟩).1
    refine ⟨⟨(i 0).val / 1, hlt⟩, flush0_4 _, ?_⟩
    have q0 : win0_4.index (⟨(i 0).val / 1, hlt⟩ : Fin grid0.N) (0 : Fin 2) = (i 0).val / 1 := congrFun ht 0
    have q1 : win0_4.index (⟨(i 0).val / 1, hlt⟩ : Fin grid0.N) (1 : Fin 2) = 0 := congrFun ht 1
    generalize (⟨(i 0).val / 1, hlt⟩ : Fin grid0.N) = t at q0 q1 ⊢
    show i ∈ ((View.whole main_v0_0).slice (win0_4.rect t)).set
    rw [View.set_slice_whole, Rect.mem_set_unit]
    intro a
    match a with
    | ⟨0, _⟩ => show win0_4.index t (0 : Fin 2) * 1 ≤ (i 0).val ∧ (i 0).val < win0_4.index t (0 : Fin 2) * 1 + 1; omega
    | ⟨1, _⟩ => show win0_4.index t (1 : Fin 2) * 128 ≤ (i 1).val ∧ (i 1).val < win0_4.index t (1 : Fin 2) * 128 + 128; omega)

/-- What a point writes back of the weight's change is its block, -/
theorem flushed5 (c : Dev nD) (t : Fin cfg0.N) : (dats m 0 c).flushed 5 t = ((cfg0.win 5).blk t).view.read (Elt Ideal) (G5 (gA m c) (wA m c) (mA m c) (vA m c)) := by
  show (cfg0.win 5).cut (grid0.coords t) ((dats m 0 c).after 5 t) = _
  rw [after0_5, out5_eq]
  funext y
  have e0 : win0_5.index t (0 : Fin 2) = t.val := congrFun (idxR t).2.1 0
  have e1 : win0_5.index t (1 : Fin 2) = 0 := congrFun (idxR t).2.1 1
  have hb0 : (((cfg0.win 5).blk t).view.emb y 0).val = win0_5.index t (0 : Fin 2) * 1 + 1 * (y 0).val := rfl
  have hb1 : (((cfg0.win 5).blk t).view.emb y 1).val = win0_5.index t (1 : Fin 2) * 128 + 1 * (y 1).val := rfl
  have h0 : (((cfg0.win 5).blk t).view.emb y 0).val = t.val * 1 + (((cfg0.win 5).xinj (grid0.coords t) y) 0).val := by
    show _ = t.val * 1 + (y 0).val
    rw [hb0, e0]; omega
  have h1 : (((cfg0.win 5).blk t).view.emb y 1).val = (((cfg0.win 5).xinj (grid0.coords t) y) 1).val := by
    show _ = (y 1).val
    rw [hb1, e1]; omega
  exact (delta_apply _ _ _ _ _).trans (by show delta (gS (gB m c t) _) (wB m c t _) (mB m c t _) (vB m c t _) = delta (G4 (gA m c) _) (wA m c _) (mA m c _) (vA m c _); rw [gB_apply m c t _ _ h0 h1, wB_apply m c t _ _ h0 h1, mB_apply m c t _ _ h0 h1, vB_apply m c t _ _ h0 h1])

/-- and the array after the run. -/
theorem final5 (c : Dev nD) : (dats m 0 c).arrAt 5 cfg0.N = G5 (gA m c) (wA m c) (mA m c) (vA m c) :=
  (dats m 0 c).arrAt_eq_of_cover 5 _ (fun t _ => flushed5 m c t) (fun i => by
    have hi0 : (i 0).val < 1 := (i 0).isLt
    have hi1 : (i 1).val < 128 := (i 1).isLt
    have hlt : (i 0).val / 1 < grid0.N := lt_of_lt_of_eq (by omega : _ < 1) N_0.symm
    have ht := (idxR ⟨(i 0).val / 1, hlt⟩).2.1
    refine ⟨⟨(i 0).val / 1, hlt⟩, flush0_5 _, ?_⟩
    have q0 : win0_5.index (⟨(i 0).val / 1, hlt⟩ : Fin grid0.N) (0 : Fin 2) = (i 0).val / 1 := congrFun ht 0
    have q1 : win0_5.index (⟨(i 0).val / 1, hlt⟩ : Fin grid0.N) (1 : Fin 2) = 0 := congrFun ht 1
    generalize (⟨(i 0).val / 1, hlt⟩ : Fin grid0.N) = t at q0 q1 ⊢
    show i ∈ ((View.whole main_v0_1).slice (win0_5.rect t)).set
    rw [View.set_slice_whole, Rect.mem_set_unit]
    intro a
    match a with
    | ⟨0, _⟩ => show win0_5.index t (0 : Fin 2) * 1 ≤ (i 0).val ∧ (i 0).val < win0_5.index t (0 : Fin 2) * 1 + 1; omega
    | ⟨1, _⟩ => show win0_5.index t (1 : Fin 2) * 128 ≤ (i 1).val ∧ (i 1).val < win0_5.index t (1 : Fin 2) * 128 + 128; omega)

/-- What a point writes back of the first moment is its block, -/
theorem flushed6 (c : Dev nD) (t : Fin cfg0.N) : (dats m 0 c).flushed 6 t = ((cfg0.win 6).blk t).view.read (Elt Ideal) (G6 (gA m c) (mA m c)) := by
  show (cfg0.win 6).cut (grid0.coords t) ((dats m 0 c).after 6 t) = _
  rw [after0_6, out6_eq]
  funext y
  have e0 : win0_6.index t (0 : Fin 2) = t.val := congrFun (idxR t).2.2.1 0
  have e1 : win0_6.index t (1 : Fin 2) = 0 := congrFun (idxR t).2.2.1 1
  have hb0 : (((cfg0.win 6).blk t).view.emb y 0).val = win0_6.index t (0 : Fin 2) * 1 + 1 * (y 0).val := rfl
  have hb1 : (((cfg0.win 6).blk t).view.emb y 1).val = win0_6.index t (1 : Fin 2) * 128 + 1 * (y 1).val := rfl
  have h0 : (((cfg0.win 6).blk t).view.emb y 0).val = t.val * 1 + (((cfg0.win 6).xinj (grid0.coords t) y) 0).val := by
    show _ = t.val * 1 + (y 0).val
    rw [hb0, e0]; omega
  have h1 : (((cfg0.win 6).blk t).view.emb y 1).val = (((cfg0.win 6).xinj (grid0.coords t) y) 1).val := by
    show _ = (y 1).val
    rw [hb1, e1]; omega
  exact (mom_apply _ _ _).trans (by show mom (gS (gB m c t) _) (mB m c t _) = mom (G4 (gA m c) _) (mA m c _); rw [gB_apply m c t _ _ h0 h1, mB_apply m c t _ _ h0 h1])

/-- and the array after the run. -/
theorem final6 (c : Dev nD) : (dats m 0 c).arrAt 6 cfg0.N = G6 (gA m c) (mA m c) :=
  (dats m 0 c).arrAt_eq_of_cover 6 _ (fun t _ => flushed6 m c t) (fun i => by
    have hi0 : (i 0).val < 1 := (i 0).isLt
    have hi1 : (i 1).val < 128 := (i 1).isLt
    have hlt : (i 0).val / 1 < grid0.N := lt_of_lt_of_eq (by omega : _ < 1) N_0.symm
    have ht := (idxR ⟨(i 0).val / 1, hlt⟩).2.2.1
    refine ⟨⟨(i 0).val / 1, hlt⟩, flush0_6 _, ?_⟩
    have q0 : win0_6.index (⟨(i 0).val / 1, hlt⟩ : Fin grid0.N) (0 : Fin 2) = (i 0).val / 1 := congrFun ht 0
    have q1 : win0_6.index (⟨(i 0).val / 1, hlt⟩ : Fin grid0.N) (1 : Fin 2) = 0 := congrFun ht 1
    generalize (⟨(i 0).val / 1, hlt⟩ : Fin grid0.N) = t at q0 q1 ⊢
    show i ∈ ((View.whole main_v0_2).slice (win0_6.rect t)).set
    rw [View.set_slice_whole, Rect.mem_set_unit]
    intro a
    match a with
    | ⟨0, _⟩ => show win0_6.index t (0 : Fin 2) * 1 ≤ (i 0).val ∧ (i 0).val < win0_6.index t (0 : Fin 2) * 1 + 1; omega
    | ⟨1, _⟩ => show win0_6.index t (1 : Fin 2) * 128 ≤ (i 1).val ∧ (i 1).val < win0_6.index t (1 : Fin 2) * 128 + 128; omega)

/-- What a point writes back of the second moment is its block, -/
theorem flushed7 (c : Dev nD) (t : Fin cfg0.N) : (dats m 0 c).flushed 7 t = ((cfg0.win 7).blk t).view.read (Elt Ideal) (G7 (gA m c) (vA m c)) := by
  show (cfg0.win 7).cut (grid0.coords t) ((dats m 0 c).after 7 t) = _
  rw [after0_7, out7_eq]
  funext y
  have e0 : win0_7.index t (0 : Fin 2) = t.val := congrFun (idxR t).2.2.2 0
  have e1 : win0_7.index t (1 : Fin 2) = 0 := congrFun (idxR t).2.2.2 1
  have hb0 : (((cfg0.win 7).blk t).view.emb y 0).val = win0_7.index t (0 : Fin 2) * 1 + 1 * (y 0).val := rfl
  have hb1 : (((cfg0.win 7).blk t).view.emb y 1).val = win0_7.index t (1 : Fin 2) * 128 + 1 * (y 1).val := rfl
  have h0 : (((cfg0.win 7).blk t).view.emb y 0).val = t.val * 1 + (((cfg0.win 7).xinj (grid0.coords t) y) 0).val := by
    show _ = t.val * 1 + (y 0).val
    rw [hb0, e0]; omega
  have h1 : (((cfg0.win 7).blk t).view.emb y 1).val = (((cfg0.win 7).xinj (grid0.coords t) y) 1).val := by
    show _ = (y 1).val
    rw [hb1, e1]; omega
  exact (sqm_apply _ _ _).trans (by show sqm (gS (gB m c t) _) (vB m c t _) = sqm (G4 (gA m c) _) (vA m c _); rw [gB_apply m c t _ _ h0 h1, vB_apply m c t _ _ h0 h1])

/-- and the array after the run. -/
theorem final7 (c : Dev nD) : (dats m 0 c).arrAt 7 cfg0.N = G7 (gA m c) (vA m c) :=
  (dats m 0 c).arrAt_eq_of_cover 7 _ (fun t _ => flushed7 m c t) (fun i => by
    have hi0 : (i 0).val < 1 := (i 0).isLt
    have hi1 : (i 1).val < 128 := (i 1).isLt
    have hlt : (i 0).val / 1 < grid0.N := lt_of_lt_of_eq (by omega : _ < 1) N_0.symm
    have ht := (idxR ⟨(i 0).val / 1, hlt⟩).2.2.2
    refine ⟨⟨(i 0).val / 1, hlt⟩, flush0_7 _, ?_⟩
    have q0 : win0_7.index (⟨(i 0).val / 1, hlt⟩ : Fin grid0.N) (0 : Fin 2) = (i 0).val / 1 := congrFun ht 0
    have q1 : win0_7.index (⟨(i 0).val / 1, hlt⟩ : Fin grid0.N) (1 : Fin 2) = 0 := congrFun ht 1
    generalize (⟨(i 0).val / 1, hlt⟩ : Fin grid0.N) = t at q0 q1 ⊢
    show i ∈ ((View.whole main_v0_3).slice (win0_7.rect t)).set
    rw [View.set_slice_whole, Rect.mem_set_unit]
    intro a
    match a with
    | ⟨0, _⟩ => show win0_7.index t (0 : Fin 2) * 1 ≤ (i 0).val ∧ (i 0).val < win0_7.index t (0 : Fin 2) * 1 + 1; omega
    | ⟨1, _⟩ => show win0_7.index t (1 : Fin 2) * 128 ≤ (i 1).val ∧ (i 1).val < win0_7.index t (1 : Fin 2) * 128 + 128; omega)

/-! ## The reference -/

/-- the change of the weight, -/
theorem ref5 (g : S1x128.Idx → EReal) (w x y : S1x128.Idx → EReal) : (Cert.Reference16Ideal.Read.val_main_v23 (F := Ideal) g w x y : S1x128.Idx → EReal) = G5 g w x y := by
  unfold G5
  funext i
  simp only [Cert.Reference16Ideal.Read.val_main_cst_0_apply, Cert.Reference16Ideal.Read.val_main_cst_1_apply, Cert.Reference16Ideal.Read.val_main_cst_2_apply, Cert.Reference16Ideal.Read.val_main_cst_3_apply, Cert.Reference16Ideal.Read.val_main_cst_4_apply, Cert.Reference16Ideal.Read.val_main_cst_5_apply, Cert.Reference16Ideal.Read.val_main_cst_6_apply, Cert.Reference16Ideal.Read.val_main_cst_7_apply, Cert.Reference16Ideal.Read.val_main_cst_apply, Cert.Reference16Ideal.Read.val_main_v0_apply, Cert.Reference16Ideal.Read.val_main_v10_apply, Cert.Reference16Ideal.Read.val_main_v11_apply, Cert.Reference16Ideal.Read.val_main_v12_apply, Cert.Reference16Ideal.Read.val_main_v13_apply, Cert.Reference16Ideal.Read.val_main_v14_apply, Cert.Reference16Ideal.Read.val_main_v15_apply, Cert.Reference16Ideal.Read.val_main_v16_apply, Cert.Reference16Ideal.Read.val_main_v17_apply, Cert.Reference16Ideal.Read.val_main_v18_apply, Cert.Reference16Ideal.Read.val_main_v19_apply, Cert.Reference16Ideal.Read.val_main_v1_apply, Cert.Reference16Ideal.Read.val_main_v20_apply, Cert.Reference16Ideal.Read.val_main_v21_apply, Cert.Reference16Ideal.Read.val_main_v22_apply, Cert.Reference16Ideal.Read.val_main_v23_apply, Cert.Reference16Ideal.Read.val_main_v2_apply, Cert.Reference16Ideal.Read.val_main_v3_apply, Cert.Reference16Ideal.Read.val_main_v4_apply, Cert.Reference16Ideal.Read.val_main_v5_apply, Cert.Reference16Ideal.Read.val_main_v6_apply, Cert.Reference16Ideal.Read.val_main_v7_apply, Cert.Reference16Ideal.Read.val_main_v8_apply, Cert.Reference16Ideal.Read.val_main_v9_apply]
  rfl
/-- the first moment -/
theorem ref6 (g : S1x128.Idx → EReal) (x : S1x128.Idx → EReal) : (Cert.Reference16Ideal.Read.val_main_v4 (F := Ideal) g x : S1x128.Idx → EReal) = G6 g x := by
  unfold G6
  funext i
  simp only [Cert.Reference16Ideal.Read.val_main_cst_0_apply, Cert.Reference16Ideal.Read.val_main_cst_1_apply, Cert.Reference16Ideal.Read.val_main_cst_2_apply, Cert.Reference16Ideal.Read.val_main_cst_3_apply, Cert.Reference16Ideal.Read.val_main_cst_4_apply, Cert.Reference16Ideal.Read.val_main_cst_5_apply, Cert.Reference16Ideal.Read.val_main_cst_6_apply, Cert.Reference16Ideal.Read.val_main_cst_7_apply, Cert.Reference16Ideal.Read.val_main_cst_apply, Cert.Reference16Ideal.Read.val_main_v0_apply, Cert.Reference16Ideal.Read.val_main_v10_apply, Cert.Reference16Ideal.Read.val_main_v11_apply, Cert.Reference16Ideal.Read.val_main_v12_apply, Cert.Reference16Ideal.Read.val_main_v13_apply, Cert.Reference16Ideal.Read.val_main_v14_apply, Cert.Reference16Ideal.Read.val_main_v15_apply, Cert.Reference16Ideal.Read.val_main_v16_apply, Cert.Reference16Ideal.Read.val_main_v17_apply, Cert.Reference16Ideal.Read.val_main_v18_apply, Cert.Reference16Ideal.Read.val_main_v19_apply, Cert.Reference16Ideal.Read.val_main_v1_apply, Cert.Reference16Ideal.Read.val_main_v20_apply, Cert.Reference16Ideal.Read.val_main_v21_apply, Cert.Reference16Ideal.Read.val_main_v22_apply, Cert.Reference16Ideal.Read.val_main_v23_apply, Cert.Reference16Ideal.Read.val_main_v2_apply, Cert.Reference16Ideal.Read.val_main_v3_apply, Cert.Reference16Ideal.Read.val_main_v4_apply, Cert.Reference16Ideal.Read.val_main_v5_apply, Cert.Reference16Ideal.Read.val_main_v6_apply, Cert.Reference16Ideal.Read.val_main_v7_apply, Cert.Reference16Ideal.Read.val_main_v8_apply, Cert.Reference16Ideal.Read.val_main_v9_apply]
  rfl
/-- and the second. -/
theorem ref7 (g : S1x128.Idx → EReal) (y : S1x128.Idx → EReal) : (Cert.Reference16Ideal.Read.val_main_v10 (F := Ideal) g y : S1x128.Idx → EReal) = G7 g y := by
  unfold G7
  funext i
  simp only [Cert.Reference16Ideal.Read.val_main_cst_0_apply, Cert.Reference16Ideal.Read.val_main_cst_1_apply, Cert.Reference16Ideal.Read.val_main_cst_2_apply, Cert.Reference16Ideal.Read.val_main_cst_3_apply, Cert.Reference16Ideal.Read.val_main_cst_4_apply, Cert.Reference16Ideal.Read.val_main_cst_5_apply, Cert.Reference16Ideal.Read.val_main_cst_6_apply, Cert.Reference16Ideal.Read.val_main_cst_7_apply, Cert.Reference16Ideal.Read.val_main_cst_apply, Cert.Reference16Ideal.Read.val_main_v0_apply, Cert.Reference16Ideal.Read.val_main_v10_apply, Cert.Reference16Ideal.Read.val_main_v11_apply, Cert.Reference16Ideal.Read.val_main_v12_apply, Cert.Reference16Ideal.Read.val_main_v13_apply, Cert.Reference16Ideal.Read.val_main_v14_apply, Cert.Reference16Ideal.Read.val_main_v15_apply, Cert.Reference16Ideal.Read.val_main_v16_apply, Cert.Reference16Ideal.Read.val_main_v17_apply, Cert.Reference16Ideal.Read.val_main_v18_apply, Cert.Reference16Ideal.Read.val_main_v19_apply, Cert.Reference16Ideal.Read.val_main_v1_apply, Cert.Reference16Ideal.Read.val_main_v20_apply, Cert.Reference16Ideal.Read.val_main_v21_apply, Cert.Reference16Ideal.Read.val_main_v22_apply, Cert.Reference16Ideal.Read.val_main_v23_apply, Cert.Reference16Ideal.Read.val_main_v2_apply, Cert.Reference16Ideal.Read.val_main_v3_apply, Cert.Reference16Ideal.Read.val_main_v4_apply, Cert.Reference16Ideal.Read.val_main_v5_apply, Cert.Reference16Ideal.Read.val_main_v6_apply, Cert.Reference16Ideal.Read.val_main_v7_apply, Cert.Reference16Ideal.Read.val_main_v8_apply, Cert.Reference16Ideal.Read.val_main_v9_apply]
  rfl

/-- The optimiser step: from the same arguments the kernel and the reference end at the same four arrays. -/
theorem algebraic : Cert.algebraic_Kernel16Ideal_Reference16Ideal (hKernel16Ideal := Cert.Kernel16Ideal.Gen.facts)
    (hReference16Ideal := Cert.Reference16Ideal.Gen.facts) := by
  intro m g m' g' _ hargs
  refine ⟨fun c => G4 (gA m c), fun c => G5 (gA m c) (wA m c) (mA m c) (vA m c), fun c => G6 (gA m c) (mA m c), fun c => G7 (gA m c) (vA m c), ?_, ?_⟩
  · refine (θ_run _ _ _).mono (fun r h c => ?_) (Cert.Kernel16Ideal.Value.run_blocks (F := Ideal) m g)
    obtain ⟨h4, h5, h6, h7, hr⟩ := h c
    exact ⟨h4.trans (final4 m c), h5.trans (final5 m c), h6.trans (final6 m c), h7.trans (final7 m c), hr⟩
  · refine (θ_run _ _ _).mono (fun r h c => ?_) (Cert.Reference16Ideal.Value.run (F := Ideal) m' g')
    obtain ⟨h4, h5, h6, h7, hr⟩ := h c
    obtain ⟨e0, e1, e2, e3⟩ := hargs c
    refine ⟨h4.trans e0, h5.trans ((Cert.Reference16Ideal.Read.val_main_v23_eq _ _ _ _).trans ?_), h6.trans ((Cert.Reference16Ideal.Read.val_main_v4_eq _ _).trans ?_), h7.trans ((Cert.Reference16Ideal.Read.val_main_v10_eq _ _).trans ?_), hr⟩
    · rw [e0, e1, e2, e3]; exact ref5 _ _ _ _
    · rw [e0, e2]; exact ref6 _ _
    · rw [e0, e3]; exact ref7 _ _

/-- The reference's run leaves its arguments alone; it declares no counter. -/
theorem frame_reference : Cert.quiescent_Reference16Ideal (hReference16Ideal := Cert.Reference16Ideal.Gen.facts) := fun m g _ =>
  (θ_run Cert.Reference16Ideal.defs _ _).mono (fun r h => ⟨fun c => (h c).2.2.2.2, sem_eq_zero_of_no_sems (by decide) r.2⟩)
    (Cert.Reference16Ideal.Value.run (F := Ideal) m g)

end Cert.Proof.Adam16

end
-- ==== Proof.Adam17.lean ====
/-
  The optimiser step of the convolution's taps: every entry of the four results is the step's own function of the entry's gradient,
  weight and moments, in the kernel as in the reference.
-/
module

public import proofs.«01_k».proof.Proof.AdamStep
public import proofs.«01_k».proof.Defs
public import proofs.«01_k».proof.Proof.Gen.Kernel17Ideal.Value
public import proofs.«01_k».proof.Proof.Gen.Reference17Ideal.Run
public import proofs.«01_k».proof.Proof.Gen.Reference17Ideal.Read
public import Idealize.ShloMosaic.Lib.Pipeline.ValueKit.Acc
public import Idealize.ShloMosaic.Lib.Pipeline.ValueKit.Point
public import Idealize.ShloMosaic.Lib.Claim
public import Idealize.ShloMosaic.Lib.Tactic

@[expose] public section

noncomputable section

namespace Cert.Proof.Adam17

open Idealize.ShloMosaic hiding ix2 ix3 addf_apply
open Idealize.ShloMosaic.TcCoe Idealize.SL.Sem
open Cert.Kernel17Ideal Cert.Kernel17Ideal.Gen Cert.Proof.AdamStep Idealize.ShloMosaic.ValueIdx
open Idealize.ShloMosaic.Pipeline (Dat Cfg Window)

variable (m : (ℓ : Loc nD τ sig) → Buf (Elt Ideal) ℓ) (ρ : Dev nD → PrngReg)

/-- The gradient at launch, -/
def gA (c : Dev nD) : S3x128.Idx → EReal := m ((c : Thread nD τ).loc main_arg0)
/-- the weight, -/
def wA (c : Dev nD) : S3x128.Idx → EReal := m ((c : Thread nD τ).loc main_arg1)
/-- the first moment -/
def mA (c : Dev nD) : S3x128.Idx → EReal := m ((c : Thread nD τ).loc main_arg2)
/-- and the second. -/
def vA (c : Dev nD) : S3x128.Idx → EReal := m ((c : Thread nD τ).loc main_arg3)

/-- The gradient, -/
def G4 (g : S3x128.Idx → EReal) : S3x128.Idx → EReal := g
/-- the change of the weight, -/
def G5 (g : S3x128.Idx → EReal) (w x y : S3x128.Idx → EReal) : S3x128.Idx → EReal := fun i => delta (G4 g i) (w i) (x i) (y i)
/-- the first moment after the step -/
def G6 (g : S3x128.Idx → EReal) (x : S3x128.Idx → EReal) : S3x128.Idx → EReal := fun i => mom (G4 g i) (x i)
/-- and the second. -/
def G7 (g : S3x128.Idx → EReal) (y : S3x128.Idx → EReal) : S3x128.Idx → EReal := fun i => sqm (G4 g i) (y i)

/-! ## The body -/

/-- The first moment's payload, -/
theorem mom_apply (g x : Vec Ideal S3x128 .f32) (j : S3x128.Idx) : k0_pay1 (F := Ideal) g x j = mom (g j) (x j) := rfl
/-- the second's -/
theorem sqm_apply (g x : Vec Ideal S3x128 .f32) (j : S3x128.Idx) : k0_pay2 (F := Ideal) g x j = sqm (g j) (x j) := rfl
/-- and the change's, entry by entry. -/
theorem delta_apply (g w x y : Vec Ideal S3x128 .f32) (j : S3x128.Idx) : k0_pay3 (F := Ideal) g w x y j = delta (g j) (w j) (x j) (y j) := rfl

/-- The offset of a whole block. -/
theorem hz : (![0, 0] : Fin 2 → Nat) = fun _ => 0 := funext fun a => by fin_cases a <;> rfl

/-- The block of the gradient that the body steps with. -/
def gS (g : Vec Ideal S3x128 .f32) : Vec Ideal S3x128 .f32 := g

/-- What the body leaves in the four results' blocks. -/
theorem out4_eq (g : Vec Ideal S3x128 .f32) (w x y : Vec Ideal S3x128 .f32) : out0_4 (F := Ideal) g w x y = gS g := by
  unfold out0_4 gS
  rw [View.canon_unit_zero hz, View.ld_unit_zero (S := S3x128) hz _ g]
theorem out5_eq (g : Vec Ideal S3x128 .f32) (w x y : Vec Ideal S3x128 .f32) : out0_5 (F := Ideal) g w x y = k0_pay3 (F := Ideal) (gS g) w x y := by
  unfold out0_5 gS
  rw [View.canon_unit_zero hz, View.ld_unit_zero (S := S3x128) hz _ g, View.ld_unit_zero (S := S3x128) hz _ w, View.ld_unit_zero (S := S3x128) hz _ x, View.ld_unit_zero (S := S3x128) hz _ y]
theorem out6_eq (g : Vec Ideal S3x128 .f32) (w x y : Vec Ideal S3x128 .f32) : out0_6 (F := Ideal) g w x y = k0_pay1 (F := Ideal) (gS g) x := by
  unfold out0_6 gS
  rw [View.canon_unit_zero hz, View.ld_unit_zero (S := S3x128) hz _ g, View.ld_unit_zero (S := S3x128) hz _ x]
theorem out7_eq (g : Vec Ideal S3x128 .f32) (w x y : Vec Ideal S3x128 .f32) : out0_7 (F := Ideal) g w x y = k0_pay2 (F := Ideal) (gS g) y := by
  unfold out0_7 gS
  rw [View.canon_unit_zero hz, View.ld_unit_zero (S := S3x128) hz _ g, View.ld_unit_zero (S := S3x128) hz _ y]

/-! ## The blocks -/

/-- Where the windows' blocks lie, decided over the grid. -/
theorem idx : ∀ t : Fin cfg0.N, win0_0.index t = ![t.val, 0] ∧ win0_1.index t = ![t.val, 0] ∧ win0_2.index t = ![t.val, 0] ∧ win0_3.index t = ![t.val, 0] :=
  (by decide +kernel : ∀ t : Fin grid0.N, _)
theorem idxR : ∀ t : Fin cfg0.N, win0_4.index t = ![t.val, 0] ∧ win0_5.index t = ![t.val, 0] ∧ win0_6.index t = ![t.val, 0] ∧ win0_7.index t = ![t.val, 0] :=
  (by decide +kernel : ∀ t : Fin grid0.N, _)

/-- The input blocks at point `t`. -/
def gB (c : Dev nD) (t : Fin cfg0.N) : S3x128.Idx → EReal := iblk m c 0 t
def wB (c : Dev nD) (t : Fin cfg0.N) : S3x128.Idx → EReal := iblk m c 1 t
def mB (c : Dev nD) (t : Fin cfg0.N) : S3x128.Idx → EReal := iblk m c 2 t
def vB (c : Dev nD) (t : Fin cfg0.N) : S3x128.Idx → EReal := iblk m c 3 t

/-- An entry of a block is the array's entry. -/
theorem gB_apply (c : Dev nD) (t : Fin cfg0.N) (y : S3x128.Idx) (i : S3x128.Idx) (h0 : (i 0).val = t.val * 3 + (y 0).val) (h1 : (i 1).val = (y 1).val) :
    (gS (gB m c t) y : EReal) = G4 (gA m c) i := by
  have e : win0_0.index t = ![t.val, 0] := (idx t).1
  show V m c main_arg0 (((cfg0.win 0).blk t).view.emb y) = gA m c i
  rw [V_main_arg0]
  refine congrArg (gA m c) (funext fun a => Fin.ext ?_)
  match a with
  | ⟨0, _⟩ => show win0_0.index t (0 : Fin 2) * 3 + 1 * (y 0).val = (i 0).val; rw [e]; show t.val * 3 + 1 * (y 0).val = _; omega
  | ⟨1, _⟩ => show win0_0.index t (1 : Fin 2) * 128 + 1 * (y 1).val = (i 1).val; rw [e]; show 0 * 128 + 1 * (y 1).val = _; omega
theorem wB_apply (c : Dev nD) (t : Fin cfg0.N) (y : S3x128.Idx) (i : S3x128.Idx) (h0 : (i 0).val = t.val * 3 + (y 0).val) (h1 : (i 1).val = (y 1).val) :
    (wB m c t y : EReal) = wA m c i := by
  have e : win0_1.index t = ![t.val, 0] := (idx t).2.1
  show V m c main_arg1 (((cfg0.win 1).blk t).view.emb y) = wA m c i
  rw [V_main_arg1]
  refine congrArg (wA m c) (funext fun a => Fin.ext ?_)
  match a with
  | ⟨0, _⟩ => show win0_1.index t (0 : Fin 2) * 3 + 1 * (y 0).val = (i 0).val; rw [e]; show t.val * 3 + 1 * (y 0).val = _; omega
  | ⟨1, _⟩ => show win0_1.index t (1 : Fin 2) * 128 + 1 * (y 1).val = (i 1).val; rw [e]; show 0 * 128 + 1 * (y 1).val = _; omega
theorem mB_apply (c : Dev nD) (t : Fin cfg0.N) (y : S3x128.Idx) (i : S3x128.Idx) (h0 : (i 0).val = t.val * 3 + (y 0).val) (h1 : (i 1).val = (y 1).val) :
    (mB m c t y : EReal) = mA m c i := by
  have e : win0_2.index t = ![t.val, 0] := (idx t).2.2.1
  show V m c main_arg2 (((cfg0.win 2).blk t).view.emb y) = mA m c i
  rw [V_main_arg2]
  refine congrArg (mA m c) (funext fun a => Fin.ext ?_)
  match a with
  | ⟨0, _⟩ => show win0_2.index t (0 : Fin 2) * 3 + 1 * (y 0).val = (i 0).val; rw [e]; show t.val * 3 + 1 * (y 0).val = _; omega
  | ⟨1, _⟩ => show win0_2.index t (1 : Fin 2) * 128 + 1 * (y 1).val = (i 1).val; rw [e]; show 0 * 128 + 1 * (y 1).val = _; omega
theorem vB_apply (c : Dev nD) (t : Fin cfg0.N) (y : S3x128.Idx) (i : S3x128.Idx) (h0 : (i 0).val = t.val * 3 + (y 0).val) (h1 : (i 1).val = (y 1).val) :
    (vB m c t y : EReal) = vA m c i := by
  have e : win0_3.index t = ![t.val, 0] := (idx t).2.2.2
  show V m c main_arg3 (((cfg0.win 3).blk t).view.emb y) = vA m c i
  rw [V_main_arg3]
  refine congrArg (vA m c) (funext fun a => Fin.ext ?_)
  match a with
  | ⟨0, _⟩ => show win0_3.index t (0 : Fin 2) * 3 + 1 * (y 0).val = (i 0).val; rw [e]; show t.val * 3 + 1 * (y 0).val = _; omega
  | ⟨1, _⟩ => show win0_3.index t (1 : Fin 2) * 128 + 1 * (y 1).val = (i 1).val; rw [e]; show 0 * 128 + 1 * (y 1).val = _; omega

/-! ## The results -/

/-- What a point writes back of the gradient is its block, -/
theorem flushed4 (c : Dev nD) (t : Fin cfg0.N) : (dats m 0 c).flushed 4 t = ((cfg0.win 4).blk t).view.read (Elt Ideal) (G4 (gA m c)) := by
  show (cfg0.win 4).cut (grid0.coords t) ((dats m 0 c).after 4 t) = _
  rw [after0_4, out4_eq]
  funext y
  have e0 : win0_4.index t (0 : Fin 2) = t.val := congrFun (idxR t).1 0
  have e1 : win0_4.index t (1 : Fin 2) = 0 := congrFun (idxR t).1 1
  have hb0 : (((cfg0.win 4).blk t).view.emb y 0).val = win0_4.index t (0 : Fin 2) * 3 + 1 * (y 0).val := rfl
  have hb1 : (((cfg0.win 4).blk t).view.emb y 1).val = win0_4.index t (1 : Fin 2) * 128 + 1 * (y 1).val := rfl
  have h0 : (((cfg0.win 4).blk t).view.emb y 0).val = t.val * 3 + (((cfg0.win 4).xinj (grid0.coords t) y) 0).val := by
    show _ = t.val * 3 + (y 0).val
    rw [hb0, e0]; omega
  have h1 : (((cfg0.win 4).blk t).view.emb y 1).val = (((cfg0.win 4).xinj (grid0.coords t) y) 1).val := by
    show _ = (y 1).val
    rw [hb1, e1]; omega
  exact gB_apply m c t _ _ h0 h1

/-- and the array after the run. -/
theorem final4 (c : Dev nD) : (dats m 0 c).arrAt 4 cfg0.N = G4 (gA m c) :=
  (dats m 0 c).arrAt_eq_of_cover 4 _ (fun t _ => flushed4 m c t) (fun i => by
    have hi0 : (i 0).val < 3 := (i 0).isLt
    have hi1 : (i 1).val < 128 := (i 1).isLt
    have hlt : (i 0).val / 3 < grid0.N := lt_of_lt_of_eq (by omega : _ < 1) N_0.symm
    have ht := (idxR ⟨(i 0).val / 3, hlt⟩).1
    refine ⟨⟨(i 0).val / 3, hlt⟩, flush0_4 _, ?_⟩
    have q0 : win0_4.index (⟨(i 0).val / 3, hlt⟩ : Fin grid0.N) (0 : Fin 2) = (i 0).val / 3 := congrFun ht 0
    have q1 : win0_4.index (⟨(i 0).val / 3, hlt⟩ : Fin grid0.N) (1 : Fin 2) = 0 := congrFun ht 1
    generalize (⟨(i 0).val / 3, hlt⟩ : Fin grid0.N) = t at q0 q1 ⊢
    show i ∈ ((View.whole main_v0_0).slice (win0_4.rect t)).set
    rw [View.set_slice_whole, Rect.mem_set_unit]
    intro a
    match a with
    | ⟨0, _⟩ => show win0_4.index t (0 : Fin 2) * 3 ≤ (i 0).val ∧ (i 0).val < win0_4.index t (0 : Fin 2) * 3 + 3; omega
    | ⟨1, _⟩ => show win0_4.index t (1 : Fin 2) * 128 ≤ (i 1).val ∧ (i 1).val < win0_4.index t (1 : Fin 2) * 128 + 128; omega)

/-- What a point writes back of the weight's change is its block, -/
theorem flushed5 (c : Dev nD) (t : Fin cfg0.N) : (dats m 0 c).flushed 5 t = ((cfg0.win 5).blk t).view.read (Elt Ideal) (G5 (gA m c) (wA m c) (mA m c) (vA m c)) := by
  show (cfg0.win 5).cut (grid0.coords t) ((dats m 0 c).after 5 t) = _
  rw [after0_5, out5_eq]
  funext y
  have e0 : win0_5.index t (0 : Fin 2) = t.val := congrFun (idxR t).2.1 0
  have e1 : win0_5.index t (1 : Fin 2) = 0 := congrFun (idxR t).2.1 1
  have hb0 : (((cfg0.win 5).blk t).view.emb y 0).val = win0_5.index t (0 : Fin 2) * 3 + 1 * (y 0).val := rfl
  have hb1 : (((cfg0.win 5).blk t).view.emb y 1).val = win0_5.index t (1 : Fin 2) * 128 + 1 * (y 1).val := rfl
  have h0 : (((cfg0.win 5).blk t).view.emb y 0).val = t.val * 3 + (((cfg0.win 5).xinj (grid0.coords t) y) 0).val := by
    show _ = t.val * 3 + (y 0).val
    rw [hb0, e0]; omega
  have h1 : (((cfg0.win 5).blk t).view.emb y 1).val = (((cfg0.win 5).xinj (grid0.coords t) y) 1).val := by
    show _ = (y 1).val
    rw [hb1, e1]; omega
  exact (delta_apply _ _ _ _ _).trans (by show delta (gS (gB m c t) _) (wB m c t _) (mB m c t _) (vB m c t _) = delta (G4 (gA m c) _) (wA m c _) (mA m c _) (vA m c _); rw [gB_apply m c t _ _ h0 h1, wB_apply m c t _ _ h0 h1, mB_apply m c t _ _ h0 h1, vB_apply m c t _ _ h0 h1])

/-- and the array after the run. -/
theorem final5 (c : Dev nD) : (dats m 0 c).arrAt 5 cfg0.N = G5 (gA m c) (wA m c) (mA m c) (vA m c) :=
  (dats m 0 c).arrAt_eq_of_cover 5 _ (fun t _ => flushed5 m c t) (fun i => by
    have hi0 : (i 0).val < 3 := (i 0).isLt
    have hi1 : (i 1).val < 128 := (i 1).isLt
    have hlt : (i 0).val / 3 < grid0.N := lt_of_lt_of_eq (by omega : _ < 1) N_0.symm
    have ht := (idxR ⟨(i 0).val / 3, hlt⟩).2.1
    refine ⟨⟨(i 0).val / 3, hlt⟩, flush0_5 _, ?_⟩
    have q0 : win0_5.index (⟨(i 0).val / 3, hlt⟩ : Fin grid0.N) (0 : Fin 2) = (i 0).val / 3 := congrFun ht 0
    have q1 : win0_5.index (⟨(i 0).val / 3, hlt⟩ : Fin grid0.N) (1 : Fin 2) = 0 := congrFun ht 1
    generalize (⟨(i 0).val / 3, hlt⟩ : Fin grid0.N) = t at q0 q1 ⊢
    show i ∈ ((View.whole main_v0_1).slice (win0_5.rect t)).set
    rw [View.set_slice_whole, Rect.mem_set_unit]
    intro a
    match a with
    | ⟨0, _⟩ => show win0_5.index t (0 : Fin 2) * 3 ≤ (i 0).val ∧ (i 0).val < win0_5.index t (0 : Fin 2) * 3 + 3; omega
    | ⟨1, _⟩ => show win0_5.index t (1 : Fin 2) * 128 ≤ (i 1).val ∧ (i 1).val < win0_5.index t (1 : Fin 2) * 128 + 128; omega)

/-- What a point writes back of the first moment is its block, -/
theorem flushed6 (c : Dev nD) (t : Fin cfg0.N) : (dats m 0 c).flushed 6 t = ((cfg0.win 6).blk t).view.read (Elt Ideal) (G6 (gA m c) (mA m c)) := by
  show (cfg0.win 6).cut (grid0.coords t) ((dats m 0 c).after 6 t) = _
  rw [after0_6, out6_eq]
  funext y
  have e0 : win0_6.index t (0 : Fin 2) = t.val := congrFun (idxR t).2.2.1 0
  have e1 : win0_6.index t (1 : Fin 2) = 0 := congrFun (idxR t).2.2.1 1
  have hb0 : (((cfg0.win 6).blk t).view.emb y 0).val = win0_6.index t (0 : Fin 2) * 3 + 1 * (y 0).val := rfl
  have hb1 : (((cfg0.win 6).blk t).view.emb y 1).val = win0_6.index t (1 : Fin 2) * 128 + 1 * (y 1).val := rfl
  have h0 : (((cfg0.win 6).blk t).view.emb y 0).val = t.val * 3 + (((cfg0.win 6).xinj (grid0.coords t) y) 0).val := by
    show _ = t.val * 3 + (y 0).val
    rw [hb0, e0]; omega
  have h1 : (((cfg0.win 6).blk t).view.emb y 1).val = (((cfg0.win 6).xinj (grid0.coords t) y) 1).val := by
    show _ = (y 1).val
    rw [hb1, e1]; omega
  exact (mom_apply _ _ _).trans (by show mom (gS (gB m c t) _) (mB m c t _) = mom (G4 (gA m c) _) (mA m c _); rw [gB_apply m c t _ _ h0 h1, mB_apply m c t _ _ h0 h1])

/-- and the array after the run. -/
theorem final6 (c : Dev nD) : (dats m 0 c).arrAt 6 cfg0.N = G6 (gA m c) (mA m c) :=
  (dats m 0 c).arrAt_eq_of_cover 6 _ (fun t _ => flushed6 m c t) (fun i => by
    have hi0 : (i 0).val < 3 := (i 0).isLt
    have hi1 : (i 1).val < 128 := (i 1).isLt
    have hlt : (i 0).val / 3 < grid0.N := lt_of_lt_of_eq (by omega : _ < 1) N_0.symm
    have ht := (idxR ⟨(i 0).val / 3, hlt⟩).2.2.1
    refine ⟨⟨(i 0).val / 3, hlt⟩, flush0_6 _, ?_⟩
    have q0 : win0_6.index (⟨(i 0).val / 3, hlt⟩ : Fin grid0.N) (0 : Fin 2) = (i 0).val / 3 := congrFun ht 0
    have q1 : win0_6.index (⟨(i 0).val / 3, hlt⟩ : Fin grid0.N) (1 : Fin 2) = 0 := congrFun ht 1
    generalize (⟨(i 0).val / 3, hlt⟩ : Fin grid0.N) = t at q0 q1 ⊢
    show i ∈ ((View.whole main_v0_2).slice (win0_6.rect t)).set
    rw [View.set_slice_whole, Rect.mem_set_unit]
    intro a
    match a with
    | ⟨0, _⟩ => show win0_6.index t (0 : Fin 2) * 3 ≤ (i 0).val ∧ (i 0).val < win0_6.index t (0 : Fin 2) * 3 + 3; omega
    | ⟨1, _⟩ => show win0_6.index t (1 : Fin 2) * 128 ≤ (i 1).val ∧ (i 1).val < win0_6.index t (1 : Fin 2) * 128 + 128; omega)

/-- What a point writes back of the second moment is its block, -/
theorem flushed7 (c : Dev nD) (t : Fin cfg0.N) : (dats m 0 c).flushed 7 t = ((cfg0.win 7).blk t).view.read (Elt Ideal) (G7 (gA m c) (vA m c)) := by
  show (cfg0.win 7).cut (grid0.coords t) ((dats m 0 c).after 7 t) = _
  rw [after0_7, out7_eq]
  funext y
  have e0 : win0_7.index t (0 : Fin 2) = t.val := congrFun (idxR t).2.2.2 0
  have e1 : win0_7.index t (1 : Fin 2) = 0 := congrFun (idxR t).2.2.2 1
  have hb0 : (((cfg0.win 7).blk t).view.emb y 0).val = win0_7.index t (0 : Fin 2) * 3 + 1 * (y 0).val := rfl
  have hb1 : (((cfg0.win 7).blk t).view.emb y 1).val = win0_7.index t (1 : Fin 2) * 128 + 1 * (y 1).val := rfl
  have h0 : (((cfg0.win 7).blk t).view.emb y 0).val = t.val * 3 + (((cfg0.win 7).xinj (grid0.coords t) y) 0).val := by
    show _ = t.val * 3 + (y 0).val
    rw [hb0, e0]; omega
  have h1 : (((cfg0.win 7).blk t).view.emb y 1).val = (((cfg0.win 7).xinj (grid0.coords t) y) 1).val := by
    show _ = (y 1).val
    rw [hb1, e1]; omega
  exact (sqm_apply _ _ _).trans (by show sqm (gS (gB m c t) _) (vB m c t _) = sqm (G4 (gA m c) _) (vA m c _); rw [gB_apply m c t _ _ h0 h1, vB_apply m c t _ _ h0 h1])

/-- and the array after the run. -/
theorem final7 (c : Dev nD) : (dats m 0 c).arrAt 7 cfg0.N = G7 (gA m c) (vA m c) :=
  (dats m 0 c).arrAt_eq_of_cover 7 _ (fun t _ => flushed7 m c t) (fun i => by
    have hi0 : (i 0).val < 3 := (i 0).isLt
    have hi1 : (i 1).val < 128 := (i 1).isLt
    have hlt : (i 0).val / 3 < grid0.N := lt_of_lt_of_eq (by omega : _ < 1) N_0.symm
    have ht := (idxR ⟨(i 0).val / 3, hlt⟩).2.2.2
    refine ⟨⟨(i 0).val / 3, hlt⟩, flush0_7 _, ?_⟩
    have q0 : win0_7.index (⟨(i 0).val / 3, hlt⟩ : Fin grid0.N) (0 : Fin 2) = (i 0).val / 3 := congrFun ht 0
    have q1 : win0_7.index (⟨(i 0).val / 3, hlt⟩ : Fin grid0.N) (1 : Fin 2) = 0 := congrFun ht 1
    generalize (⟨(i 0).val / 3, hlt⟩ : Fin grid0.N) = t at q0 q1 ⊢
    show i ∈ ((View.whole main_v0_3).slice (win0_7.rect t)).set
    rw [View.set_slice_whole, Rect.mem_set_unit]
    intro a
    match a with
    | ⟨0, _⟩ => show win0_7.index t (0 : Fin 2) * 3 ≤ (i 0).val ∧ (i 0).val < win0_7.index t (0 : Fin 2) * 3 + 3; omega
    | ⟨1, _⟩ => show win0_7.index t (1 : Fin 2) * 128 ≤ (i 1).val ∧ (i 1).val < win0_7.index t (1 : Fin 2) * 128 + 128; omega)

/-! ## The reference -/

/-- the change of the weight, -/
theorem ref5 (g : S3x128.Idx → EReal) (w x y : S3x128.Idx → EReal) : (Cert.Reference17Ideal.Read.val_main_v23 (F := Ideal) g w x y : S3x128.Idx → EReal) = G5 g w x y := by
  unfold G5
  funext i
  simp only [Cert.Reference17Ideal.Read.val_main_cst_0_apply, Cert.Reference17Ideal.Read.val_main_cst_1_apply, Cert.Reference17Ideal.Read.val_main_cst_2_apply, Cert.Reference17Ideal.Read.val_main_cst_3_apply, Cert.Reference17Ideal.Read.val_main_cst_4_apply, Cert.Reference17Ideal.Read.val_main_cst_5_apply, Cert.Reference17Ideal.Read.val_main_cst_6_apply, Cert.Reference17Ideal.Read.val_main_cst_7_apply, Cert.Reference17Ideal.Read.val_main_cst_apply, Cert.Reference17Ideal.Read.val_main_v0_apply, Cert.Reference17Ideal.Read.val_main_v10_apply, Cert.Reference17Ideal.Read.val_main_v11_apply, Cert.Reference17Ideal.Read.val_main_v12_apply, Cert.Reference17Ideal.Read.val_main_v13_apply, Cert.Reference17Ideal.Read.val_main_v14_apply, Cert.Reference17Ideal.Read.val_main_v15_apply, Cert.Reference17Ideal.Read.val_main_v16_apply, Cert.Reference17Ideal.Read.val_main_v17_apply, Cert.Reference17Ideal.Read.val_main_v18_apply, Cert.Reference17Ideal.Read.val_main_v19_apply, Cert.Reference17Ideal.Read.val_main_v1_apply, Cert.Reference17Ideal.Read.val_main_v20_apply, Cert.Reference17Ideal.Read.val_main_v21_apply, Cert.Reference17Ideal.Read.val_main_v22_apply, Cert.Reference17Ideal.Read.val_main_v23_apply, Cert.Reference17Ideal.Read.val_main_v2_apply, Cert.Reference17Ideal.Read.val_main_v3_apply, Cert.Reference17Ideal.Read.val_main_v4_apply, Cert.Reference17Ideal.Read.val_main_v5_apply, Cert.Reference17Ideal.Read.val_main_v6_apply, Cert.Reference17Ideal.Read.val_main_v7_apply, Cert.Reference17Ideal.Read.val_main_v8_apply, Cert.Reference17Ideal.Read.val_main_v9_apply]
  rfl
/-- the first moment -/
theorem ref6 (g : S3x128.Idx → EReal) (x : S3x128.Idx → EReal) : (Cert.Reference17Ideal.Read.val_main_v4 (F := Ideal) g x : S3x128.Idx → EReal) = G6 g x := by
  unfold G6
  funext i
  simp only [Cert.Reference17Ideal.Read.val_main_cst_0_apply, Cert.Reference17Ideal.Read.val_main_cst_1_apply, Cert.Reference17Ideal.Read.val_main_cst_2_apply, Cert.Reference17Ideal.Read.val_main_cst_3_apply, Cert.Reference17Ideal.Read.val_main_cst_4_apply, Cert.Reference17Ideal.Read.val_main_cst_5_apply, Cert.Reference17Ideal.Read.val_main_cst_6_apply, Cert.Reference17Ideal.Read.val_main_cst_7_apply, Cert.Reference17Ideal.Read.val_main_cst_apply, Cert.Reference17Ideal.Read.val_main_v0_apply, Cert.Reference17Ideal.Read.val_main_v10_apply, Cert.Reference17Ideal.Read.val_main_v11_apply, Cert.Reference17Ideal.Read.val_main_v12_apply, Cert.Reference17Ideal.Read.val_main_v13_apply, Cert.Reference17Ideal.Read.val_main_v14_apply, Cert.Reference17Ideal.Read.val_main_v15_apply, Cert.Reference17Ideal.Read.val_main_v16_apply, Cert.Reference17Ideal.Read.val_main_v17_apply, Cert.Reference17Ideal.Read.val_main_v18_apply, Cert.Reference17Ideal.Read.val_main_v19_apply, Cert.Reference17Ideal.Read.val_main_v1_apply, Cert.Reference17Ideal.Read.val_main_v20_apply, Cert.Reference17Ideal.Read.val_main_v21_apply, Cert.Reference17Ideal.Read.val_main_v22_apply, Cert.Reference17Ideal.Read.val_main_v23_apply, Cert.Reference17Ideal.Read.val_main_v2_apply, Cert.Reference17Ideal.Read.val_main_v3_apply, Cert.Reference17Ideal.Read.val_main_v4_apply, Cert.Reference17Ideal.Read.val_main_v5_apply, Cert.Reference17Ideal.Read.val_main_v6_apply, Cert.Reference17Ideal.Read.val_main_v7_apply, Cert.Reference17Ideal.Read.val_main_v8_apply, Cert.Reference17Ideal.Read.val_main_v9_apply]
  rfl
/-- and the second. -/
theorem ref7 (g : S3x128.Idx → EReal) (y : S3x128.Idx → EReal) : (Cert.Reference17Ideal.Read.val_main_v10 (F := Ideal) g y : S3x128.Idx → EReal) = G7 g y := by
  unfold G7
  funext i
  simp only [Cert.Reference17Ideal.Read.val_main_cst_0_apply, Cert.Reference17Ideal.Read.val_main_cst_1_apply, Cert.Reference17Ideal.Read.val_main_cst_2_apply, Cert.Reference17Ideal.Read.val_main_cst_3_apply, Cert.Reference17Ideal.Read.val_main_cst_4_apply, Cert.Reference17Ideal.Read.val_main_cst_5_apply, Cert.Reference17Ideal.Read.val_main_cst_6_apply, Cert.Reference17Ideal.Read.val_main_cst_7_apply, Cert.Reference17Ideal.Read.val_main_cst_apply, Cert.Reference17Ideal.Read.val_main_v0_apply, Cert.Reference17Ideal.Read.val_main_v10_apply, Cert.Reference17Ideal.Read.val_main_v11_apply, Cert.Reference17Ideal.Read.val_main_v12_apply, Cert.Reference17Ideal.Read.val_main_v13_apply, Cert.Reference17Ideal.Read.val_main_v14_apply, Cert.Reference17Ideal.Read.val_main_v15_apply, Cert.Reference17Ideal.Read.val_main_v16_apply, Cert.Reference17Ideal.Read.val_main_v17_apply, Cert.Reference17Ideal.Read.val_main_v18_apply, Cert.Reference17Ideal.Read.val_main_v19_apply, Cert.Reference17Ideal.Read.val_main_v1_apply, Cert.Reference17Ideal.Read.val_main_v20_apply, Cert.Reference17Ideal.Read.val_main_v21_apply, Cert.Reference17Ideal.Read.val_main_v22_apply, Cert.Reference17Ideal.Read.val_main_v23_apply, Cert.Reference17Ideal.Read.val_main_v2_apply, Cert.Reference17Ideal.Read.val_main_v3_apply, Cert.Reference17Ideal.Read.val_main_v4_apply, Cert.Reference17Ideal.Read.val_main_v5_apply, Cert.Reference17Ideal.Read.val_main_v6_apply, Cert.Reference17Ideal.Read.val_main_v7_apply, Cert.Reference17Ideal.Read.val_main_v8_apply, Cert.Reference17Ideal.Read.val_main_v9_apply]
  rfl

/-- The optimiser step: from the same arguments the kernel and the reference end at the same four arrays. -/
theorem algebraic : Cert.algebraic_Kernel17Ideal_Reference17Ideal (hKernel17Ideal := Cert.Kernel17Ideal.Gen.facts)
    (hReference17Ideal := Cert.Reference17Ideal.Gen.facts) := by
  intro m g m' g' _ hargs
  refine ⟨fun c => G4 (gA m c), fun c => G5 (gA m c) (wA m c) (mA m c) (vA m c), fun c => G6 (gA m c) (mA m c), fun c => G7 (gA m c) (vA m c), ?_, ?_⟩
  · refine (θ_run _ _ _).mono (fun r h c => ?_) (Cert.Kernel17Ideal.Value.run_blocks (F := Ideal) m g)
    obtain ⟨h4, h5, h6, h7, hr⟩ := h c
    exact ⟨h4.trans (final4 m c), h5.trans (final5 m c), h6.trans (final6 m c), h7.trans (final7 m c), hr⟩
  · refine (θ_run _ _ _).mono (fun r h c => ?_) (Cert.Reference17Ideal.Value.run (F := Ideal) m' g')
    obtain ⟨h4, h5, h6, h7, hr⟩ := h c
    obtain ⟨e0, e1, e2, e3⟩ := hargs c
    refine ⟨h4.trans e0, h5.trans ((Cert.Reference17Ideal.Read.val_main_v23_eq _ _ _ _).trans ?_), h6.trans ((Cert.Reference17Ideal.Read.val_main_v4_eq _ _).trans ?_), h7.trans ((Cert.Reference17Ideal.Read.val_main_v10_eq _ _).trans ?_), hr⟩
    · rw [e0, e1, e2, e3]; exact ref5 _ _ _ _
    · rw [e0, e2]; exact ref6 _ _
    · rw [e0, e3]; exact ref7 _ _

/-- The reference's run leaves its arguments alone; it declares no counter. -/
theorem frame_reference : Cert.quiescent_Reference17Ideal (hReference17Ideal := Cert.Reference17Ideal.Gen.facts) := fun m g _ =>
  (θ_run Cert.Reference17Ideal.defs _ _).mono (fun r h => ⟨fun c => (h c).2.2.2.2, sem_eq_zero_of_no_sems (by decide) r.2⟩)
    (Cert.Reference17Ideal.Value.run (F := Ideal) m g)

end Cert.Proof.Adam17

end
-- ==== Proof.SumSlots.lean ====
/-
  The sum over the devices of the small gradients and of the loss: the kernel adds the devices' slices one after another, the reference
  sums them, and the two are the same array.
-/
module

public import proofs.«01_k».proof.Defs
public import proofs.«01_k».proof.Proof.Gen.Kernel18Ideal.Value
public import proofs.«01_k».proof.Proof.Gen.Reference18Ideal.Run
public import proofs.«01_k».proof.Proof.Gen.Reference18Ideal.Read
public import Idealize.ShloMosaic.Lib.Pipeline.ValueKit.Acc
public import Idealize.ShloMosaic.Lib.Pipeline.ValueKit.Point
public import Idealize.ShloMosaic.Lib.Claim
public import Idealize.ShloMosaic.Lib.Tactic

@[expose] public section

noncomputable section

namespace Cert.Proof.SumSlots

open Idealize.ShloMosaic hiding ix2 ix3 addf_apply
open Idealize.ShloMosaic.TcCoe Idealize.SL.Sem
open Cert.Kernel18Ideal Cert.Kernel18Ideal.Gen Idealize.ShloMosaic.ValueIdx

/-- The sum over the devices, entry by entry. -/
def S (g : S8x584x128.Idx → EReal) : S584x128.Idx → EReal := fun i => ∑ k : Fin 8, g (ix3 k (i 0) (i 1))

/-- One device's slice as a matrix. -/
theorem cast_apply (y : Vec Ideal S1x584x128 .f32) (j : S584x128.Idx) :
    shapeCast S584x128 y shapeCasts_S1x584x128_S584x128 j = y (ix3 0 (j 0) (j 1)) := by
  obtain ⟨p, q, rfl⟩ : ∃ (p : Fin 584) (q : Fin 128), j = ix2 p q := ⟨j 0, j 1, funext fun a => by match a with | ⟨0, _⟩ => rfl | ⟨1, _⟩ => rfl⟩
  show shapeCast S584x128 y shapeCasts_S1x584x128_S584x128 (ix2 p q) = y (ix3 0 p q)
  pointwise
  rfl

/-- What the kernel leaves is the sum. -/
theorem G1_eq (g : S8x584x128.Idx → EReal) : (Cert.Kernel18Ideal.Value.G1 (F := Ideal) g : S584x128.Idx → EReal) = S g := by
  funext j
  show k0_pay1 (F := Ideal) (View.ld g r0_0) (View.ld g r0_1) (View.ld g r0_2) (View.ld g r0_3) (View.ld g r0_4) (View.ld g r0_5) (View.ld g r0_6) (View.ld g r0_7) j = _
  unfold k0_pay1
  simp only [addf_apply]
  unfold S
  rw [Fin.sum_univ_eight]
  refine congrArg₂ (· + ·) (congrArg₂ (· + ·) (congrArg₂ (· + ·) (congrArg₂ (· + ·) (congrArg₂ (· + ·) (congrArg₂ (· + ·) (congrArg₂ (· + ·) ?_ ?_) ?_) ?_) ?_) ?_) ?_) ?_
  all_goals
    refine (cast_apply _ j).trans ?_
    refine congrArg g (funext fun a => Fin.ext ?_)
    match a with
    | ⟨0, _⟩ => rfl
    | ⟨1, _⟩ => show 0 + 1 * (j 0).val = (j 0).val; omega
    | ⟨2, _⟩ => show 0 + 1 * (j 1).val = (j 1).val; omega

/-- And so is the reference's. -/
theorem ref_eq (g : S8x584x128.Idx → EReal) : (Cert.Reference18Ideal.Read.val_main_v0 (F := Ideal) g : S584x128.Idx → EReal) = S g := by
  funext i
  refine (Cert.Reference18Ideal.Read.val_main_v0_apply g i).trans ?_
  refine (congrArg (· + _) (Ideal.ofBits_zero_f32 : _ = (0 : EReal))).trans ?_
  rw [zero_add]
  refine Finset.sum_congr rfl fun k _ => congrArg g (funext fun a => Fin.ext ?_)
  match a with
  | ⟨0, _⟩ => rfl
  | ⟨1, _⟩ => rfl
  | ⟨2, _⟩ => rfl

/-- The sum over the devices: from the same argument the kernel and the reference end at the same array. -/
theorem algebraic : Cert.algebraic_Kernel18Ideal_Reference18Ideal (hKernel18Ideal := Cert.Kernel18Ideal.Gen.facts)
    (hReference18Ideal := Cert.Reference18Ideal.Gen.facts) := by
  intro m g m' g' _ hargs
  refine ⟨fun c => S (m ((c : Thread nD τ).loc main_arg0)), ?_, ?_⟩
  · refine (θ_run _ _ _).mono (fun r h c => ?_) (Cert.Kernel18Ideal.Value.run (F := Ideal) m g)
    exact ⟨(h c).1.trans (G1_eq _), (h c).2⟩
  · refine (θ_run _ _ _).mono (fun r h c => ?_) (Cert.Reference18Ideal.Value.run (F := Ideal) m' g')
    have e0 := hargs c
    refine ⟨(h c).1.trans ((Cert.Reference18Ideal.Read.val_main_v0_eq _).trans ?_), (h c).2⟩
    rw [e0]
    exact ref_eq _

/-- The reference's run leaves its arguments alone; it declares no counter. -/
theorem frame_reference : Cert.quiescent_Reference18Ideal (hReference18Ideal := Cert.Reference18Ideal.Gen.facts) := fun m g _ =>
  (θ_run Cert.Reference18Ideal.defs _ _).mono (fun r h => ⟨fun c => (h c).2, sem_eq_zero_of_no_sems (by decide) r.2⟩)
    (Cert.Reference18Ideal.Value.run (F := Ideal) m g)

end Cert.Proof.SumSlots

end
-- ==== Proof.LossMath.lean ====
/-
  The loss of one row after the norm and what it sends back, on the extended reals: the row's error, its mean square, and the error's gradient
  as the kernel writes it (the error times the reciprocal of the row's length) and as differentiating the lines gives it.
-/
module

public import proofs.«01_k».proof.Proof.DxMath

@[expose] public section

noncomputable section

namespace Cert.Proof.LossMath

open Idealize.ShloMosaic Cert.Proof.DxMath

/-- A row's error: the normed row times the gain, less the target. -/
def err (x g t : Fin 1024 → EReal) (j : Fin 1024) : EReal := x j * scl x * g j - t j

/-- The error's gradient. -/
def dy (x g t : Fin 1024 → EReal) (j : Fin 1024) : EReal := err x g t j * Ideal.ofBits .f32 0x3A800000#32

/-- The gradient times the gain. -/
def dyg (x g t : Fin 1024 → EReal) (j : Fin 1024) : EReal := dy x g t j * g j

/-- The row's mean squared error. -/
def mse (x g t : Fin 1024 → EReal) : EReal := Ideal.div (∑ k : Fin 1024, err x g t k * err x g t k) (Ideal.ofBits .f32 0x44800000#32)

/-- One half as a real. -/
theorem half : Ideal.ofBits .f32 0x3F000000#32 = ((1 / 2 : ℝ) : EReal) := by
  simp [Ideal.ofBits, Ideal.ieee, -EReal.coe_mul]; norm_num
/-- One as a real. -/
theorem one : Ideal.ofBits .f32 0x3F800000#32 = ((1 : ℝ) : EReal) := by
  simp [Ideal.ofBits, Ideal.ieee, -EReal.coe_mul]; norm_num
/-- Two as a real. -/
theorem two : Ideal.ofBits .f32 0x40000000#32 = ((2 : ℝ) : EReal) := by
  simp [Ideal.ofBits, Ideal.ieee, -EReal.coe_mul]; norm_num
/-- The reciprocal of a row's length as a real. -/
theorem r1024 : Ideal.ofBits .f32 0x3A800000#32 = ((1 / 1024 : ℝ) : EReal) := by
  simp [Ideal.ofBits, Ideal.ieee, -EReal.coe_mul]; norm_num

/-- The error's gradient as differentiating the mean of the squares gives it. -/
theorem dy_eq (x g t : Fin 1024 → EReal) (j : Fin 1024) :
    Ideal.div (Ideal.ofBits .f32 0x3F000000#32 * Ideal.ofBits .f32 0x3F800000#32) (Ideal.ofBits .f32 0x44800000#32)
      * (Ideal.ofBits .f32 0x40000000#32 * err x g t j) = dy x g t j := by
  unfold dy
  rw [half, one, two, r1024, c1024, Ideal.div_coe (by norm_num), ← EReal.coe_mul, ← EReal.coe_mul, ← mul_assoc, ← EReal.coe_mul, mul_comm]
  congr 2
  norm_num

/-- A sum of halves. -/
theorem sum_half {n : ℕ} (f : Fin n → EReal) :
    ∑ k : Fin n, Ideal.ofBits .f32 0x3F000000#32 * f k = Ideal.ofBits .f32 0x3F000000#32 * ∑ k : Fin n, f k := by
  rw [half]
  have : ∀ s : Finset (Fin n), ∑ k ∈ s, ((1 / 2 : ℝ) : EReal) * f k = ((1 / 2 : ℝ) : EReal) * ∑ k ∈ s, f k := by
    intro s
    induction s using Finset.induction_on with
    | empty => simp
    | insert a s ha ih =>
      rw [Finset.sum_insert ha, Finset.sum_insert ha, ih,
        EReal.left_distrib_of_nonneg_of_ne_top (by exact_mod_cast (by norm_num : (0 : ℝ) ≤ 1 / 2)) (EReal.coe_ne_top _)]
  exact this Finset.univ

end Cert.Proof.LossMath

end
-- ==== Proof.LossTile.lean ====
/-
  The odd layer's output projection, the final norm and the loss, one tile of 1024 rows: the values the run is to end at, and what the
  body makes of a tile, the gradient of the residual stream, the tile's loss and its part of the gain's gradient, entry by entry.
-/
module

public import proofs.«01_k».proof.Proof.Sums
public import proofs.«01_k».proof.Proof.LossMath
public import proofs.«01_k».proof.Proof.DxKit
public import proofs.«01_k».proof.Proof.Gen.Kernel19Ideal.Value
public import Idealize.ShloMosaic.Lib.Pipeline.CanonAppend
public import Idealize.ShloMosaic.Lib.Pipeline.ValueKit.Acc
public import Idealize.ShloMosaic.Lib.Pipeline.ValueKit.Point
public import Idealize.ShloMosaic.Lib.Pipeline.ValueKit.Tiles
public import Idealize.ShloMosaic.Lib.Pipeline.ReadBack
public import Idealize.ShloMosaic.Lib.Pointwise
public import Idealize.ShloMosaic.Lib.Claim
public import Idealize.ShloMosaic.Lib.Tactic

@[expose] public section

set_option maxRecDepth 4096

noncomputable section

namespace Cert.Proof.LossHead

open Idealize.ShloMosaic hiding ix2
open Idealize.ShloMosaic.TcCoe Idealize.SL.Sem
open Cert.Kernel19Ideal Cert.Kernel19Ideal.Gen Cert.Kernel19Ideal.Value Cert.Proof.Sums Cert.Proof.DxMath Cert.Proof.LossMath Idealize.ShloMosaic.ValueIdx
open Idealize.ShloMosaic.Pipeline (Dat Cfg Window)

variable (m : (ℓ : Loc nD τ sig) → Buf (Elt Ideal) ℓ) (ρ : Dev nD → PrngReg)

/-! ## The values -/

/-- A row of the residual stream after the output projection. -/
def xr (y : S8192x2048.Idx → EReal) (w : S2048x1024.Idx → EReal) (x : S8192x1024.Idx → EReal) (i : Fin 8192) (l : Fin 1024) : EReal :=
  x (ix2 i l) + ∑ k : Fin 2048, y (ix2 i k) * w (ix2 k l)

/-- The gradient of the residual stream. -/
def Gdx (y : S8192x2048.Idx → EReal) (w : S2048x1024.Idx → EReal) (x : S8192x1024.Idx → EReal) (g : S1x1024.Idx → EReal)
    (t : S8192x1024.Idx → EReal) : S8192x1024.Idx → EReal := fun i =>
  rowDx (xr y w x (i 0)) (dyg (xr y w x (i 0)) (fun l => g (ix2 0 l)) (fun l => t (ix2 (i 0) l))) 0 (i 1)

/-- The loss, in every entry of the block that carries it. -/
def Gls (y : S8192x2048.Idx → EReal) (w : S2048x1024.Idx → EReal) (x : S8192x1024.Idx → EReal) (g : S1x1024.Idx → EReal)
    (t : S8192x1024.Idx → EReal) : S8x128.Idx → EReal := fun _ =>
  Ideal.ofBits .f32 0x3F000000#32 * ∑ i : Fin 8192, mse (xr y w x i) (fun l => g (ix2 0 l)) (fun l => t (ix2 i l))

/-- The gain's gradient. -/
def Gdg (y : S8192x2048.Idx → EReal) (w : S2048x1024.Idx → EReal) (x : S8192x1024.Idx → EReal) (g : S1x1024.Idx → EReal)
    (t : S8192x1024.Idx → EReal) : S1x1024.Idx → EReal := fun j =>
  ∑ i : Fin 8192, dy (xr y w x i) (fun l => g (ix2 0 l)) (fun l => t (ix2 i l)) (j 1) * (xr y w x i (j 1) * scl (xr y w x i))

/-- The mixed rows, -/
abbrev yA (c : Dev nD) : S8192x2048.Idx → EReal := m (((c : Thread nD τ)).loc main_arg0)
/-- the output weight, -/
abbrev wA (c : Dev nD) : S2048x1024.Idx → EReal := m (((c : Thread nD τ)).loc main_arg1)
/-- the residual stream, -/
abbrev xA (c : Dev nD) : S8192x1024.Idx → EReal := m (((c : Thread nD τ)).loc main_arg2)
/-- the gain -/
abbrev gA (c : Dev nD) : S1x1024.Idx → EReal := m (((c : Thread nD τ)).loc main_arg3)
/-- and the target. -/
abbrev tA (c : Dev nD) : S8192x1024.Idx → EReal := m (((c : Thread nD τ)).loc main_arg4)

/-! ## The payloads -/

/-- A tile of the residual stream with the product added. -/
theorem x_apply (b : Vec Ideal S1024x1024 .f32) (x : Vec Ideal S1024x2048 .bf16) (y : Vec Ideal S2048x1024 .bf16) (j : S1024x1024.Idx) :
    k0_pay8 (F := Ideal) b x y j = b j + ∑ k : Fin 2048, x (ix2 (j 0) k) * y (ix2 k (j 1)) := by
  unfold k0_pay8
  rw [addf_apply, matmul_sum dot_S1024x2048_S2048x1024_S1024x1024_1_0_0_1_n_n 2048 rfl rfl _ _ _ j
    (fun k => ix2 (j 0) k) (fun k => ix2 k (j 1))
    (fun q k hk a => by
      match a with
      | ⟨0, _⟩ => rfl
      | ⟨1, _⟩ => exact (dot_S1024x2048_S2048x1024_S1024x1024_1_0_0_1_n_n.lhsIdx_val_of_single rfl j q).trans hk)
    (fun q k hk a => by
      match a with
      | ⟨0, _⟩ => exact (dot_S1024x2048_S2048x1024_S1024x1024_1_0_0_1_n_n.rhsIdx_val_of_single rfl j q).trans hk
      | ⟨1, _⟩ => rfl), constant_apply, Ideal.ofBits_zero_f32, zero_add]

/-- A chunk of 256 rows of the gradient, -/
def chunkDx (g : Vec Ideal S1x1024 .f32) (v t : Vec Ideal S256x1024 .f32) : Vec Ideal S256x1024 .f32 :=
  k0_pay18 (F := Ideal) g (k0_pay12 v) (k0_pay13 v) (k0_pay14 g v t)
/-- its half of the rows' errors -/
def chunkLs (g : Vec Ideal S1x1024 .f32) (v t : Vec Ideal S256x1024 .f32) : Vec Ideal S1x1 .f32 := k0_pay15 (F := Ideal) g v t
/-- and the gain's gradient with the chunk's added. -/
def chunkDg (a : Vec Ideal S1x1024 .f32) (g : Vec Ideal S1x1024 .f32) (v t : Vec Ideal S256x1024 .f32) : Vec Ideal S1x1024 .f32 :=
  k0_pay19 (F := Ideal) a (k0_pay13 v) (k0_pay14 g v t)

/-- A chunk of the gradient, entry by entry, -/
theorem dx_apply (g : Vec Ideal S1x1024 .f32) (v t : Vec Ideal S256x1024 .f32) (p : Fin 256) (q : Fin 1024) :
    chunkDx g v t (ix2 p q) = rowDx (fun l => v (ix2 p l)) (dyg (fun l => v (ix2 p l)) (fun l => g (ix2 0 l)) (fun l => t (ix2 p l))) 0 q := by
  unfold chunkDx k0_pay18 k0_pay17 k0_pay14 k0_pay13 k0_pay12 k0_pay11 rowDx dyg dy err scl msq
  rw [zero_add]
  pointwise
  rfl

/-- its errors -/
theorem ls_apply (g : Vec Ideal S1x1024 .f32) (v t : Vec Ideal S256x1024 .f32) :
    chunkLs g v t (ix2 0 0) = Ideal.ofBits .f32 0x3F000000#32 * ∑ p : Fin 256, mse (fun l => v (ix2 p l)) (fun l => g (ix2 0 l)) (fun l => t (ix2 p l)) := by
  unfold chunkLs k0_pay15 k0_pay14 k0_pay13 k0_pay12 k0_pay11 mse err scl msq
  pointwise
  rfl

/-- and its part of the gain's gradient. -/
theorem dg_apply (a g : Vec Ideal S1x1024 .f32) (v t : Vec Ideal S256x1024 .f32) (q : Fin 1024) :
    chunkDg a g v t (ix2 0 q) = a (ix2 0 q) + ∑ p : Fin 256, dy (fun l => v (ix2 p l)) (fun l => g (ix2 0 l)) (fun l => t (ix2 p l)) q
      * (v (ix2 p q) * scl (fun l => v (ix2 p l))) := by
  unfold chunkDg k0_pay19 k0_pay17 k0_pay14 k0_pay13 k0_pay12 k0_pay11 dy err scl msq
  pointwise
  rfl

/-! ## A row tile -/

/-- The rows a chunk takes of a tile, -/
def ch (u : Vec Ideal S1024x1024 .f32) (o : ℕ) (inb : ∀ a, (![o, 0] : Fin 2 → ℕ) a + S256x1024.size a ≤ S1024x1024.size a) : Vec Ideal S256x1024 .f32 :=
  View.ld u (Rect.unit (s := S1024x1024) ![o, 0] S256x1024.size inb)

/-- entry by entry. -/
theorem ch_apply (u : Vec Ideal S1024x1024 .f32) (o : ℕ) (inb : ∀ a, (![o, 0] : Fin 2 → ℕ) a + S256x1024.size a ≤ S1024x1024.size a)
    (p : Fin 256) (l : Fin 1024) (i : Fin 1024) (hi : i.val = o + p.val) : ch u o inb (ix2 p l) = u (ix2 i l) :=
  View.ld_unit_apply_of u _ _ inb _ _ (fun a => by
    match a with
    | ⟨0, _⟩ => exact hi
    | ⟨1, _⟩ => show l.val = 0 + l.val; omega)

/-- The gradient over a tile, entry by entry, -/
def tileG (x t : Vec Ideal S1024x1024 .f32) (g : Vec Ideal S1x1024 .f32) : Vec Ideal S1024x1024 .f32 := fun y =>
  (rowDx (fun l => x (ix2 (y 0) l)) (dyg (fun l => x (ix2 (y 0) l)) (fun l => g (ix2 0 l)) (fun l => t (ix2 (y 0) l))) 0 (y 1) : EReal)
/-- the tile's loss -/
def tileL (x t : Vec Ideal S1024x1024 .f32) (g : Vec Ideal S1x1024 .f32) : EReal :=
  Ideal.ofBits .f32 0x3F000000#32 * ∑ i : Fin 1024, mse (fun l => x (ix2 i l)) (fun l => g (ix2 0 l)) (fun l => t (ix2 i l))
/-- and its part of the gain's gradient. -/
def tileS (x t : Vec Ideal S1024x1024 .f32) (g : Vec Ideal S1x1024 .f32) (q : Fin 1024) : EReal :=
  ∑ i : Fin 1024, dy (fun l => x (ix2 i l)) (fun l => g (ix2 0 l)) (fun l => t (ix2 i l)) q * (x (ix2 i q) * scl (fun l => x (ix2 i l)))

/-- A chunk of a tile's gradient as a piece of the tile. -/
def piece (x t : Vec Ideal S1024x1024 .f32) (g : Vec Ideal S1x1024 .f32) (o : ℕ) (inb : ∀ a, (![o, 0] : Fin 2 → ℕ) a + S256x1024.size a ≤ S1024x1024.size a) :
    View.Piece (Elt Ideal) S1024x1024 .f32 := ⟨Rect.unit (s := S1024x1024) ![o, 0] S256x1024.size inb, chunkDx g (ch x o inb) (ch t o inb)⟩

/-- The four chunks of a tile. -/
def pieces (x t : Vec Ideal S1024x1024 .f32) (g : Vec Ideal S1x1024 .f32) : List (View.Piece (Elt Ideal) S1024x1024 .f32) :=
  [piece x t g 768 inb_S1024x1024_S256x1024_768_0, piece x t g 512 inb_S1024x1024_S256x1024_512_0,
    piece x t g 256 inb_S1024x1024_S256x1024_256_0, piece x t g 0 inb_S1024x1024_S256x1024_0_0]

/-- They hold the gradient. -/
theorem piece_apply (x t : Vec Ideal S1024x1024 .f32) (g : Vec Ideal S1x1024 .f32) (o : ℕ)
    (inb : ∀ a, (![o, 0] : Fin 2 → ℕ) a + S256x1024.size a ≤ S1024x1024.size a) (z : S256x1024.Idx) :
    chunkDx g (ch x o inb) (ch t o inb) z = tileG x t g ((Rect.unit (s := S1024x1024) ![o, 0] S256x1024.size inb).emb z) := by
  obtain ⟨p, q, rfl⟩ : ∃ (p : Fin 256) (q : Fin 1024), z = ix2 p q := ⟨z 0, z 1, funext fun a => by match a with | ⟨0, _⟩ => rfl | ⟨1, _⟩ => rfl⟩
  have e : ∀ (u : Vec Ideal S1024x1024 .f32) (l : Fin 1024), ch u o inb (ix2 p l)
      = u (ix2 ((Rect.unit (s := S1024x1024) ![o, 0] S256x1024.size inb).emb (ix2 p q) 0) l) := fun u l =>
    ch_apply u o inb p l _ (by show o + 1 * p.val = o + p.val; omega)
  have eq : (Rect.unit (s := S1024x1024) ![o, 0] S256x1024.size inb).emb (ix2 p q) 1 = q := Fin.ext (by show 0 + 1 * q.val = q.val; omega)
  have ex := funext fun l => e x l
  have et := funext fun l => e t l
  refine (dx_apply _ _ _ p q).trans (rowDx_congr ex ?_ rfl eq.symm)
  rw [ex, et]

/-- They cover the tile. -/
theorem cover (x t : Vec Ideal S1024x1024 .f32) (g : Vec Ideal S1x1024 .f32) (y : S1024x1024.Idx) : ∃ p ∈ pieces x t g, y ∈ p.1.set := by
  have h0 : (y 0).val < 1024 := (y 0).isLt
  have h1 : (y 1).val < 1024 := (y 1).isLt
  have fits : ∀ (o : ℕ) (inb : ∀ a, (![o, 0] : Fin 2 → ℕ) a + S256x1024.size a ≤ S1024x1024.size a), o ≤ (y 0).val → (y 0).val < o + 256 →
      y ∈ (Rect.unit (s := S1024x1024) ![o, 0] S256x1024.size inb).set := by
    intro o inb l u
    rw [Rect.mem_set_unit]
    intro a
    match a with
    | ⟨0, _⟩ => show o ≤ (y 0).val ∧ (y 0).val < o + 256; omega
    | ⟨1, _⟩ => show 0 ≤ (y 1).val ∧ (y 1).val < 0 + 1024; omega
  unfold pieces
  by_cases a3 : 768 ≤ (y 0).val
  · exact ⟨_, List.mem_cons_self, fits 768 inb_S1024x1024_S256x1024_768_0 a3 (by omega)⟩
  · by_cases a2 : 512 ≤ (y 0).val
    · exact ⟨_, List.mem_cons_of_mem _ List.mem_cons_self, fits 512 inb_S1024x1024_S256x1024_512_0 a2 (by omega)⟩
    · by_cases a1 : 256 ≤ (y 0).val
      · exact ⟨_, List.mem_cons_of_mem _ (List.mem_cons_of_mem _ List.mem_cons_self), fits 256 inb_S1024x1024_S256x1024_256_0 a1 (by omega)⟩
      · exact ⟨_, List.mem_cons_of_mem _ (List.mem_cons_of_mem _ (List.mem_cons_of_mem _ List.mem_cons_self)), fits 0 inb_S1024x1024_S256x1024_0_0 (Nat.zero_le _) (by omega)⟩

/-- Written over whatever the tile held, they are the gradient. -/
theorem dxTile_apply (x t : Vec Ideal S1024x1024 .f32) (g : Vec Ideal S1x1024 .f32) (L : List (View.Piece (Elt Ideal) S1024x1024 .f32)) (y : S1024x1024.Idx) :
    View.canon (pieces x t g ++ L) y = tileG x t g y :=
  View.canon_append_of_pieces (tileG x t g) L (pieces x t g) (fun p hp z => by
    unfold pieces at hp
    simp only [List.mem_cons, List.not_mem_nil, or_false] at hp
    rcases hp with rfl | rfl | rfl | rfl
    · exact piece_apply x t g 768 _ z
    · exact piece_apply x t g 512 _ z
    · exact piece_apply x t g 256 _ z
    · exact piece_apply x t g 0 _ z) y (cover x t g y)

/-- The loss over a tile, chunk by chunk, -/
def lsTile (x t : Vec Ideal S1024x1024 .f32) (g : Vec Ideal S1x1024 .f32) : Vec Ideal S1x1 .f32 :=
  addf (addf (addf (addf (k0_pay9 (F := Ideal)) (chunkLs g (ch x 0 inb_S1024x1024_S256x1024_0_0) (ch t 0 inb_S1024x1024_S256x1024_0_0)))
    (chunkLs g (ch x 256 inb_S1024x1024_S256x1024_256_0) (ch t 256 inb_S1024x1024_S256x1024_256_0)))
    (chunkLs g (ch x 512 inb_S1024x1024_S256x1024_512_0) (ch t 512 inb_S1024x1024_S256x1024_512_0)))
    (chunkLs g (ch x 768 inb_S1024x1024_S256x1024_768_0) (ch t 768 inb_S1024x1024_S256x1024_768_0))

/-- and the gain's gradient. -/
def dgTile (x t : Vec Ideal S1024x1024 .f32) (g : Vec Ideal S1x1024 .f32) : Vec Ideal S1x1024 .f32 :=
  chunkDg (chunkDg (chunkDg (chunkDg (k0_pay10 (F := Ideal)) g (ch x 0 inb_S1024x1024_S256x1024_0_0) (ch t 0 inb_S1024x1024_S256x1024_0_0))
    g (ch x 256 inb_S1024x1024_S256x1024_256_0) (ch t 256 inb_S1024x1024_S256x1024_256_0))
    g (ch x 512 inb_S1024x1024_S256x1024_512_0) (ch t 512 inb_S1024x1024_S256x1024_512_0))
    g (ch x 768 inb_S1024x1024_S256x1024_768_0) (ch t 768 inb_S1024x1024_S256x1024_768_0)

/-- Four chunks' losses are the tile's, -/
theorem lsTile_apply (x t : Vec Ideal S1024x1024 .f32) (g : Vec Ideal S1x1024 .f32) : lsTile x t g (ix2 0 0) = tileL x t g := by
  have key : ∀ (o : ℕ) (inb) (s : ℕ) (hs : o = s * 256) (h4 : s < 4), chunkLs g (ch x o inb) (ch t o inb) (ix2 0 0)
      = Ideal.ofBits .f32 0x3F000000#32 * ∑ p : Fin 256, mse (fun l => x (ix2 (Fin.mk (s * 256 + p.val) (by omega)) l)) (fun l => g (ix2 0 l))
        (fun l => t (ix2 (Fin.mk (s * 256 + p.val) (by omega)) l)) := by
    intro o inb s hs h4
    rw [ls_apply]
    refine congrArg (_ * ·) (Finset.sum_congr rfl fun p _ => ?_)
    have e : ∀ (u : Vec Ideal S1024x1024 .f32), (fun l => ch u o inb (ix2 p l)) = fun l => u (ix2 (Fin.mk (s * 256 + p.val) (by omega)) l) := fun u =>
      funext fun l => ch_apply u o inb p l _ (by show s * 256 + p.val = o + p.val; omega)
    rw [e x, e t]
  have z0 : k0_pay9 (F := Ideal) (ix2 0 0) = (0 : EReal) := Ideal.ofBits_zero_f32
  unfold lsTile
  simp only [addf_apply]
  rw [z0, key 0 _ 0 rfl (by omega), key 256 _ 1 rfl (by omega), key 512 _ 2 rfl (by omega), key 768 _ 3 rfl (by omega), zero_add]
  unfold tileL
  refine Eq.trans ?_ (congrArg (Ideal.ofBits .f32 0x3F000000#32 * ·) (Fin.sum_mul_add_congr (S := 4) (n := 256)
    (F := fun s p => mse (fun l => x (ix2 (Fin.mk (s.val * 256 + p.val) (by omega)) l)) (fun l => g (ix2 0 l))
        (fun l => t (ix2 (Fin.mk (s.val * 256 + p.val) (by omega)) l)))
    (fun s k hl => rfl)))
  refine Eq.trans ?_ (sum_half _)
  rw [Fin.sum_univ_four]
  rfl

/-- and so are the four parts of the gain's gradient. -/
theorem dgTile_apply (x t : Vec Ideal S1024x1024 .f32) (g : Vec Ideal S1x1024 .f32) (q : Fin 1024) : dgTile x t g (ix2 0 q) = tileS x t g q := by
  have key : ∀ (a : Vec Ideal S1x1024 .f32) (o : ℕ) (inb) (s : ℕ) (hs : o = s * 256) (h4 : s < 4), chunkDg a g (ch x o inb) (ch t o inb) (ix2 0 q)
      = a (ix2 0 q) + ∑ p : Fin 256, dy (fun l => x (ix2 (Fin.mk (s * 256 + p.val) (by omega)) l)) (fun l => g (ix2 0 l))
        (fun l => t (ix2 (Fin.mk (s * 256 + p.val) (by omega)) l)) q
        * (x (ix2 (Fin.mk (s * 256 + p.val) (by omega)) q) * scl (fun l => x (ix2 (Fin.mk (s * 256 + p.val) (by omega)) l))) := by
    intro a o inb s hs h4
    rw [dg_apply]
    refine congrArg (a (ix2 0 q) + ·) (Finset.sum_congr rfl fun p _ => ?_)
    have e : ∀ (u : Vec Ideal S1024x1024 .f32), (fun l => ch u o inb (ix2 p l)) = fun l => u (ix2 (Fin.mk (s * 256 + p.val) (by omega)) l) := fun u =>
      funext fun l => ch_apply u o inb p l _ (by show s * 256 + p.val = o + p.val; omega)
    have eq := congrFun (e x) q
    rw [e x, e t]
    exact congrArg (fun b => _ * (b * _)) eq
  have z0 : k0_pay10 (F := Ideal) (ix2 0 q) = (0 : EReal) := Ideal.ofBits_zero_f32
  unfold dgTile
  rw [key _ 768 _ 3 rfl (by omega), key _ 512 _ 2 rfl (by omega), key _ 256 _ 1 rfl (by omega), key _ 0 _ 0 rfl (by omega), z0, zero_add]
  unfold tileS
  refine Eq.trans ?_ (Fin.sum_mul_add_congr (S := 4) (n := 256)
    (F := fun s p => dy (fun l => x (ix2 (Fin.mk (s.val * 256 + p.val) (by omega)) l)) (fun l => g (ix2 0 l))
        (fun l => t (ix2 (Fin.mk (s.val * 256 + p.val) (by omega)) l)) q
        * (x (ix2 (Fin.mk (s.val * 256 + p.val) (by omega)) q) * scl (fun l => x (ix2 (Fin.mk (s.val * 256 + p.val) (by omega)) l))))
    (fun s k hl => rfl))
  rw [Fin.sum_univ_four]
  rfl

end Cert.Proof.LossHead

end
-- ==== Proof.LossRef.lean ====
/-
  The loss and its gradients as the reference computes them, read entry by entry: the residual stream with the product added, the norm's
  scale, the error, and the three results.
-/
module

public import proofs.«01_k».proof.Proof.LossTile
public import proofs.«01_k».proof.Proof.Gen.Reference19Ideal.Run
public import proofs.«01_k».proof.Proof.Gen.Reference19Ideal.Read

@[expose] public section

set_option maxRecDepth 4096

noncomputable section

namespace Cert.Proof.LossHead

open Idealize.ShloMosaic hiding ix1 ix2
open Idealize.ShloMosaic.TcCoe Idealize.SL.Sem
open Cert.Kernel19Ideal Cert.Kernel19Ideal.Gen Cert.Proof.Sums Cert.Proof.DxMath Cert.Proof.LossMath Idealize.ShloMosaic.ValueIdx
open Cert.Reference19Ideal.Read

variable (y : S8192x2048.Idx → EReal) (w : S2048x1024.Idx → EReal) (x : S8192x1024.Idx → EReal) (g : S1x1024.Idx → EReal) (t : S8192x1024.Idx → EReal)

/-- A sum over the indices of a list is the sum over its entries. -/
theorem sum_list (f : Cert.Reference19Ideal.S8192.Idx → EReal) : ∑ j : Cert.Reference19Ideal.S8192.Idx, f j = ∑ i : Fin 8192, f (ix1 i) := by
  have e : ∀ j : Cert.Reference19Ideal.S8192.Idx, ix1 (n := 8192) (j 0) = j := fun j => funext fun a => by match a with | ⟨0, _⟩ => rfl
  exact Fintype.sum_equiv (⟨fun j => j 0, fun i => ix1 (n := 8192) i, e, fun i => rfl⟩ : Cert.Reference19Ideal.S8192.Idx ≃ Fin 8192) _ _
    (fun j => (congrArg f (e j)).symm)

/-- The residual stream, -/
theorem ref_x (i : Fin 8192) (l : Fin 1024) : (val_main_v3 (F := Ideal) y w x (ix2 i l) : EReal) = xr y w x i l := by
  rw [val_main_v3_apply, val_main_v2_apply]
  unfold xr
  refine congrArg (x (ix2 i l) + ·) (Finset.sum_congr rfl fun k _ => congrArg₂ (· * ·) ?_ ?_)
  · exact congrArg y (funext fun a => Fin.ext (by match a with | ⟨0, _⟩ => rfl | ⟨1, _⟩ => rfl))
  · exact congrArg w (funext fun a => Fin.ext (by match a with | ⟨0, _⟩ => rfl | ⟨1, _⟩ => rfl))

/-- its mean square, -/
theorem ref_msq (i : Fin 8192) : (val_main_v10 (F := Ideal) y w x (ix2 i 0) : EReal) = msq (xr y w x i) := by
  rw [val_main_v10_apply, val_main_v8_apply, val_main_v6_apply, val_main_v5_apply, val_main_v7_apply, val_main_v9_apply]
  have e1 : ∀ l : Fin 1024, idx_main_v5 (idx_main_v6 (ix2 i 0)) l = ix2 i l := fun l =>
    funext fun a => by match a with | ⟨0, _⟩ => rfl | ⟨1, _⟩ => rfl
  have e4 : val_main_cst (F := Ideal) (Shape.Idx.first Cert.Reference19Ideal.Gen.h_S_) = (0 : EReal) := Ideal.ofBits_zero_f32
  simp only [e1, val_main_v4_apply, ref_x]
  rw [e4, zero_add]
  rfl

/-- its scale, -/
theorem ref_scl (i : Fin 8192) : (val_main_v11 (F := Ideal) y w x (ix2 i 0) : EReal) = scl (xr y w x i) := by
  rw [val_main_v11_apply, ref_msq]
  rfl

/-- the normed rows, -/
theorem ref_n (i : Fin 8192) (j : Fin 1024) : (val_main_v16 (F := Ideal) y w x (ix2 i j) : EReal) = xr y w x i j * scl (xr y w x i) := by
  rw [val_main_v16_apply, ref_x, val_main_v15_apply]
  have e : idx_main_v15 (ix2 i j) = ix2 i 0 := funext fun a => by match a with | ⟨0, _⟩ => rfl | ⟨1, _⟩ => rfl
  rw [e, ref_scl]
  rfl

/-- the error, -/
theorem ref_err (i : Fin 8192) (j : Fin 1024) : (val_main_v19 (F := Ideal) y w x g t (ix2 i j) : EReal)
    = err (xr y w x i) (fun l => g (ix2 0 l)) (fun l => t (ix2 i l)) j := by
  rw [val_main_v19_apply, val_main_v18_apply, ref_n, val_main_v17_apply]
  have e : idx_main_v17 (ix2 i j) = ix2 0 j := funext fun a => by match a with | ⟨0, _⟩ => rfl | ⟨1, _⟩ => rfl
  rw [e]
  rfl

/-- its gradient, -/
theorem ref_dy (i : Fin 8192) (j : Fin 1024) : (val_main_v33 (F := Ideal) y w x g t (ix2 i j) : EReal)
    = dy (xr y w x i) (fun l => g (ix2 0 l)) (fun l => t (ix2 i l)) j := by
  rw [val_main_v33_apply, val_main_v22_apply, ref_err, val_main_v21_apply, val_main_v32_apply, val_main_v31_apply, val_main_v29_apply,
    val_main_v28_apply, val_main_v30_apply]
  exact dy_eq _ _ _ j

/-- times the gain, -/
theorem ref_h (i : Fin 8192) (j : Fin 1024) : (val_main_v38 (F := Ideal) y w x g t (ix2 i j) : EReal)
    = dyg (xr y w x i) (fun l => g (ix2 0 l)) (fun l => t (ix2 i l)) j := by
  rw [val_main_v38_apply, ref_dy, val_main_v37_apply]
  have e : idx_main_v37 (ix2 i j) = ix2 0 j := funext fun a => by match a with | ⟨0, _⟩ => rfl | ⟨1, _⟩ => rfl
  rw [e]
  rfl

/-- and what the mean square contributes. -/
theorem ref_P (i : Fin 8192) (j : Fin 1024) : (val_main_v48 (F := Ideal) y w x g t (ix2 i j) : EReal)
    = rowP (xr y w x i) (dyg (xr y w x i) (fun l => g (ix2 0 l)) (fun l => t (ix2 i l))) := by
  rw [val_main_v48_apply, val_main_v47_apply]
  have e4 : val_main_cst_14 (F := Ideal) (Shape.Idx.first Cert.Reference19Ideal.Gen.h_S_) = (0 : EReal) := Ideal.ofBits_zero_f32
  have e5 : val_main_cst_12 (F := Ideal) (Shape.Idx.first Cert.Reference19Ideal.Gen.h_S_) = (0 : EReal) := Ideal.ofBits_zero_f32
  have e1 : idx_main_v47 (idx_main_v48 (ix2 i j)) (0 : Fin 1) = ix2 i 0 := funext fun a => by match a with | ⟨0, _⟩ => rfl | ⟨1, _⟩ => rfl
  have e2 : ∀ l : Fin 1024, idx_main_v40 (idx_main_v41 (ix2 i 0)) l = ix2 i l := fun l =>
    funext fun a => by
      match a with
      | ⟨0, _⟩ => exact Fin.ext (by show i.val * 1 + 0 = i.val; omega)
      | ⟨1, _⟩ => rfl
  rw [e4, zero_add, Fin.sum_univ_one, e1, val_main_v46_apply, val_main_v44_apply, val_main_v41_apply, val_main_v40_apply, e5, zero_add,
    val_main_v14_apply, val_main_v12_apply, ref_scl, ref_msq, val_main_v13_apply, val_main_v45_apply]
  simp only [e2, val_main_v39_apply, ref_h, ref_x]
  rfl

/-- The reference's gradient of the residual stream, -/
theorem ref_dx : (val_main_v52 (F := Ideal) y w x g t : S8192x1024.Idx → EReal) = Gdx y w x g t := by
  funext i
  obtain ⟨p, q, rfl⟩ : ∃ (p : Fin 8192) (q : Fin 1024), i = ix2 p q := ⟨i 0, i 1, funext fun a => by match a with | ⟨0, _⟩ => rfl | ⟨1, _⟩ => rfl⟩
  rw [val_main_v52_apply, val_main_v51_apply, val_main_v50_apply, val_main_v49_apply, val_main_v43_apply, val_main_v42_apply, ref_h, ref_P, ref_x]
  have e : idx_main_v42 (ix2 p q) = ix2 p 0 := funext fun a => by match a with | ⟨0, _⟩ => rfl | ⟨1, _⟩ => rfl
  rw [e, ref_scl]
  refine Eq.trans ?_ (rowDx_eq (xr y w x p) (dyg (xr y w x p) (fun l => g (ix2 0 l)) (fun l => t (ix2 p l))) 0 q)
  rw [zero_add]
  rfl

/-- its loss -/
theorem ref_ls : (val_main_v53 (F := Ideal) y w x g t : S8x128.Idx → EReal) = Gls y w x g t := by
  funext j
  rw [val_main_v53_apply, val_main_v27_apply, val_main_v26_apply, sum_list]
  have e4 : val_main_cst_6 (F := Ideal) (Shape.Idx.first Cert.Reference19Ideal.Gen.h_S_) = (0 : EReal) := Ideal.ofBits_zero_f32
  have e5 : val_main_cst_4 (F := Ideal) (Shape.Idx.first Cert.Reference19Ideal.Gen.h_S_) = (0 : EReal) := Ideal.ofBits_zero_f32
  have e1 : ∀ (i : Fin 8192) (l : Fin 1024), idx_main_v23 (ix1 i) l = ix2 i l := fun i l =>
    funext fun a => by match a with | ⟨0, _⟩ => rfl | ⟨1, _⟩ => rfl
  rw [e4, zero_add]
  unfold Gls
  refine congrArg (Ideal.ofBits .f32 0x3F000000#32 * ·) (Finset.sum_congr rfl fun i _ => ?_)
  rw [val_main_v25_apply, val_main_v23_apply, val_main_v24_apply, e5, zero_add]
  simp only [e1, val_main_v20_apply, ref_err]
  rfl

/-- and its gradient of the gain. -/
theorem ref_dg : (val_main_v36 (F := Ideal) y w x g t : S1x1024.Idx → EReal) = Gdg y w x g t := by
  funext j
  obtain ⟨q, rfl⟩ : ∃ q : Fin 1024, j = ix2 0 q := ⟨j 1, funext fun a => by
    match a with
    | ⟨0, _⟩ => exact Fin.ext (by have : (j 0).val < 1 := (j 0).isLt; show (j 0).val = 0; omega)
    | ⟨1, _⟩ => rfl⟩
  rw [val_main_v36_apply, val_main_v35_apply]
  have e4 : val_main_cst_11 (F := Ideal) (Shape.Idx.first Cert.Reference19Ideal.Gen.h_S_) = (0 : EReal) := Ideal.ofBits_zero_f32
  rw [e4, zero_add]
  unfold Gdg
  refine Finset.sum_congr rfl fun k _ => ?_
  have e1 : idx_main_v35 (idx_main_v36 (ix2 0 q)) k = ix2 k q := funext fun a => by
    match a with
    | ⟨0, _⟩ => rfl
    | ⟨1, _⟩ => exact Fin.ext (by show 0 * 1024 + q.val = q.val; omega)
  rw [e1, val_main_v34_apply, ref_dy, ref_n]
  exact mul_comm _ _

end Cert.Proof.LossHead

end
-- ==== Proof.LossHead.lean ====
/-
  The odd layer's output projection, the final norm and the loss: what the kernel leaves, the gradient of the residual stream tile by tile
  and the loss and the gain's gradient added up over the tiles, is what differentiating the loss gives, element by element, and the claim
  that the two runs end at the same arrays.
-/
module

public import proofs.«01_k».proof.Proof.LossRef
public import proofs.«01_k».proof.Proof.DxKit
public import proofs.«01_k».proof.Defs
public import proofs.«01_k».proof.Proof.Gen.Kernel19Ideal.Value
public import Idealize.ShloMosaic.Lib.Pipeline.CanonAppend
public import Idealize.ShloMosaic.Lib.Pipeline.ValueKit.Acc
public import Idealize.ShloMosaic.Lib.Pipeline.ValueKit.Point
public import Idealize.ShloMosaic.Lib.Pipeline.ValueKit.Tiles
public import Idealize.ShloMosaic.Lib.Pipeline.ReadBack
public import Idealize.ShloMosaic.Lib.Pointwise
public import Idealize.ShloMosaic.Lib.Claim
public import Idealize.ShloMosaic.Lib.Tactic

@[expose] public section

set_option maxRecDepth 4096

noncomputable section

namespace Cert.Proof.LossHead

open Idealize.ShloMosaic hiding ix2
open Idealize.ShloMosaic.TcCoe Idealize.SL.Sem
open Cert.Kernel19Ideal Cert.Kernel19Ideal.Gen Cert.Kernel19Ideal.Value Cert.Proof.Sums Cert.Proof.DxKit Cert.Proof.DxMath Cert.Proof.LossMath Idealize.ShloMosaic.ValueIdx
open Idealize.ShloMosaic.Pipeline (Dat Cfg Window)

variable (m : (ℓ : Loc nD τ sig) → Buf (Elt Ideal) ℓ) (ρ : Dev nD → PrngReg)

/-! ## The points -/

/-- A load of rows above a chunk's is as before that chunk's store. -/
theorem skip {d : Fin 2 → ℕ} (v : View sig .tc .vmem (⟨2, d⟩ : Shape) .f32) {off off' size size' : Fin 2 → ℕ} (h : off 0 + size 0 ≤ off' 0)
    (inb : ∀ a : Fin 2, off a + size a ≤ d a) (inb' : ∀ a : Fin 2, off' a + size' a ≤ d a)
    (x : (Rect.unit (s := (⟨2, d⟩ : Shape)) off size inb).shape.Idx → Elt Ideal .f32) (L : List (View.Piece (Elt Ideal) (⟨2, d⟩ : Shape) .f32)) :
    v.readCov ((⟨Rect.unit (s := (⟨2, d⟩ : Shape)) off size inb, x⟩ : View.Piece (Elt Ideal) (⟨2, d⟩ : Shape) .f32) :: L)
      (Rect.unit (s := (⟨2, d⟩ : Shape)) off' size' inb').toLoadRect
      = v.readCov L (Rect.unit (s := (⟨2, d⟩ : Shape)) off' size' inb').toLoadRect :=
  View.readCov_cons_of_disjoint v (⟨Rect.unit (s := (⟨2, d⟩ : Shape)) off size inb, x⟩ : View.Piece (Elt Ideal) (⟨2, d⟩ : Shape) .f32) L
    (Rect.unit (s := (⟨2, d⟩ : Shape)) off' size' inb').toLoadRect (Rect.unit_disjoint (inb := inb) (inb' := inb') 0 (.inl h))

/-- A tile of the residual stream at a point, -/
def xT (c : Dev nD) (t : Fin cfg0.N) : Vec Ideal S1024x1024 .f32 := k0_pay8 (F := Ideal) (iblk m c 2 t) (iblk m c 0 t) (iblk m c 1 t)
/-- of the target, -/
def tT (c : Dev nD) (t : Fin cfg0.N) : Vec Ideal S1024x1024 .f32 := iblk m c 4 t
/-- and the gain. -/
def gT (c : Dev nD) (t : Fin cfg0.N) : Vec Ideal S1x1024 .f32 := iblk m c 3 t

/-- The tile's loss, spread over the block that carries it, -/
theorem spread_apply (x t : Vec Ideal S1024x1024 .f32) (g : Vec Ideal S1x1024 .f32) (j : S8x128.Idx) :
    broadcastTo S8x128 (shapeCast S1x1 (lsTile x t g) shapeCasts_S1x1_S1x1) broadcasts_S1x1_S8x128 j = tileL x t g := by
  rw [← lsTile_apply]
  obtain ⟨p, q, rfl⟩ : ∃ (p : Fin 8) (q : Fin 128), j = ix2 p q := ⟨j 0, j 1, funext fun a => by match a with | ⟨0, _⟩ => rfl | ⟨1, _⟩ => rfl⟩
  generalize lsTile x t g = u
  pointwise
  exact congrArg u (funext fun a => by match a with | ⟨0, _⟩ => rfl | ⟨1, _⟩ => rfl)

/-- The gradient's block after a point. -/
theorem out5 (c : Dev nD) (t : Fin cfg0.N) (y : S1024x1024.Idx) : (outsAt0 m c t.val t.isLt).1 y = tileG (xT m c t) (tT m c t) (gT m c t) y := by
  by_cases h0 : t.val % 8 = 0
  · rw [outsAt0_A m c t h0 (by have := lt_of_lt_of_eq t.isLt N_0; omega)]
    frame_out
    simp (disch := decide) only [skip, readCov_unit_whole]
    exact dxTile_apply (xT m c t) (tT m c t) (gT m c t) _ y
  · rw [outsAt0_B m c t h0 (by omega)]
    frame_out
    simp (disch := decide) only [skip, readCov_unit_whole]
    exact dxTile_apply (xT m c t) (tT m c t) (gT m c t) _ y

/-- The first point leaves its tile's loss, -/
theorem out6_A (c : Dev nD) (t : Fin cfg0.N) (h0 : t.val % 8 = 0) (j : S8x128.Idx) :
    (outsAt0 m c t.val t.isLt).2.1 j = 0 + tileL (xT m c t) (tT m c t) (gT m c t) := by
  rw [outsAt0_A m c t h0 (by have := lt_of_lt_of_eq t.isLt N_0; omega), zero_add, ← spread_apply _ _ _ j]
  frame_out
  simp (disch := decide) only [skip, readCov_unit_whole]
  rfl

/-- every other adds its own, -/
theorem out6_step (c : Dev nD) (t : Fin cfg0.N) (h0 : ¬t.val % 8 = 0) (j : S8x128.Idx) :
    (outsAt0 m c t.val t.isLt).2.1 j
      = (outsAt0 m c (t.val - 1) (Nat.lt_of_le_of_lt (Nat.sub_le _ _) t.isLt)).2.1 j + tileL (xT m c t) (tT m c t) (gT m c t) := by
  rw [outsAt0_B m c t h0 (by omega), ← spread_apply _ _ _ j]
  frame_out
  simp (disch := decide) only [skip, readCov_unit_whole]
  unfold k0_pay6
  rw [shapeCast_self]
  rfl

/-- and the last leaves the sum. -/
theorem out6_last (c : Dev nD) (t : Fin cfg0.N) (h7 : t.val % 8 = 7) (j : S8x128.Idx) :
    (outsAt0 m c t.val t.isLt).2.1 j
      = ∑ s : Fin 8, tileL (xT m c ⟨8 * (t.val / 8) + s.val, Pipeline.run_point_lt_of_flush t h7 s⟩) (tT m c ⟨8 * (t.val / 8) + s.val, Pipeline.run_point_lt_of_flush t h7 s⟩)
        (gT m c ⟨8 * (t.val / 8) + s.val, Pipeline.run_point_lt_of_flush t h7 s⟩) :=
  (Pipeline.eq_sum_fin_of_reset_step_apply_of_flush (fun n h => (outsAt0 m c n h).2.1) 8 (fun _ => 0) (fun t _ => tileL (xT m c t) (tT m c t) (gT m c t))
    (out6_A m c) (out6_step m c) t h7 j).trans (zero_add _)

/-- A tile's part of the gain's gradient, -/
theorem part_apply (x t : Vec Ideal S1024x1024 .f32) (g : Vec Ideal S1x1024 .f32) (j : S1x1024.Idx) : dgTile x t g j = tileS x t g (j 1) := by
  obtain ⟨q, rfl⟩ : ∃ q : Fin 1024, j = ix2 0 q := ⟨j 1, funext fun a => by
    match a with
    | ⟨0, _⟩ => exact Fin.ext (by have : (j 0).val < 1 := (j 0).isLt; show (j 0).val = 0; omega)
    | ⟨1, _⟩ => rfl⟩
  exact dgTile_apply x t g q

/-- which the first point leaves, -/
theorem out7_A (c : Dev nD) (t : Fin cfg0.N) (h0 : t.val % 8 = 0) (j : S1x1024.Idx) :
    (outsAt0 m c t.val t.isLt).2.2 j = 0 + tileS (xT m c t) (tT m c t) (gT m c t) (j 1) := by
  rw [outsAt0_A m c t h0 (by have := lt_of_lt_of_eq t.isLt N_0; omega), zero_add, ← part_apply _ _ _ j]
  frame_out
  simp (disch := decide) only [skip, readCov_unit_whole]
  rfl

/-- every other adds to, -/
theorem out7_step (c : Dev nD) (t : Fin cfg0.N) (h0 : ¬t.val % 8 = 0) (j : S1x1024.Idx) :
    (outsAt0 m c t.val t.isLt).2.2 j
      = (outsAt0 m c (t.val - 1) (Nat.lt_of_le_of_lt (Nat.sub_le _ _) t.isLt)).2.2 j + tileS (xT m c t) (tT m c t) (gT m c t) (j 1) := by
  rw [outsAt0_B m c t h0 (by omega), ← part_apply _ _ _ j]
  frame_out
  simp (disch := decide) only [skip, readCov_unit_whole]
  unfold k0_pay7
  rw [shapeCast_self]
  rfl

/-- and the last leaves the sum of. -/
theorem out7_last (c : Dev nD) (t : Fin cfg0.N) (h7 : t.val % 8 = 7) (j : S1x1024.Idx) :
    (outsAt0 m c t.val t.isLt).2.2 j
      = ∑ s : Fin 8, tileS (xT m c ⟨8 * (t.val / 8) + s.val, Pipeline.run_point_lt_of_flush t h7 s⟩) (tT m c ⟨8 * (t.val / 8) + s.val, Pipeline.run_point_lt_of_flush t h7 s⟩)
        (gT m c ⟨8 * (t.val / 8) + s.val, Pipeline.run_point_lt_of_flush t h7 s⟩) (j 1) :=
  (Pipeline.eq_sum_fin_of_reset_step_apply_of_flush (fun n h => (outsAt0 m c n h).2.2) 8 (fun _ => 0) (fun t j => tileS (xT m c t) (tT m c t) (gT m c t) (j 1))
    (out7_A m c) (out7_step m c) t h7 j).trans (zero_add _)

/-! ## The blocks -/

/-- Where the arguments' blocks lie, decided over the grid, -/
theorem idx : ∀ t : Fin cfg0.N, win0_0.index t = ![t.val, 0] ∧ win0_1.index t = ![0, 0] ∧ win0_2.index t = ![t.val, 0] ∧ win0_3.index t = ![0, 0]
    ∧ win0_4.index t = ![t.val, 0] := (by decide +kernel : ∀ t : Fin grid0.N, _)
/-- and the results'. -/
theorem idxR : ∀ t : Fin cfg0.N, win0_5.index t = ![t.val, 0] ∧ win0_6.index t = ![0, 0] ∧ win0_7.index t = ![0, 0] :=
  (by decide +kernel : ∀ t : Fin grid0.N, _)

/-- A point's row as a row of the arrays. -/
def row (t : Fin cfg0.N) (i : Fin 1024) : Fin 8192 := Fin.mk (t.val * 1024 + i.val) (by have := lt_of_lt_of_eq t.isLt N_0; omega)

/-- The block of the mixed rows that a point sees, -/
def yBlk (c : Dev nD) (t : Fin cfg0.N) : S1024x2048.Idx → EReal := iblk m c 0 t
/-- the weight's -/
def wBlk (c : Dev nD) (t : Fin cfg0.N) : S2048x1024.Idx → EReal := iblk m c 1 t
/-- and the residual stream's. -/
def xBlk (c : Dev nD) (t : Fin cfg0.N) : S1024x1024.Idx → EReal := iblk m c 2 t

/-- An entry of a block of mixed rows is the array's, -/
theorem yBlk_apply (c : Dev nD) (t : Fin cfg0.N) (i : Fin 1024) (k : Fin 2048) : yBlk m c t (ix2 i k) = yA m c (ix2 (row t i) k) := by
  unfold yBlk row
  blk_ext [iblk, V, idx t]
/-- of the weight's -/
theorem wBlk_apply (c : Dev nD) (t : Fin cfg0.N) (k : Fin 2048) (l : Fin 1024) : wBlk m c t (ix2 k l) = wA m c (ix2 k l) := by
  unfold wBlk
  blk_ext [iblk, V, idx t]
/-- of the residual stream's, -/
theorem xBlk_apply (c : Dev nD) (t : Fin cfg0.N) (i l : Fin 1024) : xBlk m c t (ix2 i l) = xA m c (ix2 (row t i) l) := by
  unfold xBlk row
  blk_ext [iblk, V, idx t]
/-- of the target's -/
theorem tT_apply (c : Dev nD) (t : Fin cfg0.N) (i l : Fin 1024) : tT m c t (ix2 i l) = tA m c (ix2 (row t i) l) := by
  unfold tT row
  blk_ext [iblk, V, idx t]
/-- and of the gain's. -/
theorem gT_apply (c : Dev nD) (t : Fin cfg0.N) (l : Fin 1024) : gT m c t (ix2 0 l) = gA m c (ix2 0 l) := by
  unfold gT
  blk_ext [iblk, V, idx t]

/-- A tile's entry is the residual stream's with the product added. -/
theorem xT_apply (c : Dev nD) (t : Fin cfg0.N) (i l : Fin 1024) : xT m c t (ix2 i l) = xr (yA m c) (wA m c) (xA m c) (row t i) l := by
  unfold xr
  refine (x_apply _ _ _ _).trans (congrArg₂ (· + ·) (xBlk_apply m c t i l) (Finset.sum_congr rfl fun k _ => ?_))
  exact congrArg₂ (· * ·) (yBlk_apply m c t i k) (wBlk_apply m c t k l)

/-! ## The results -/

/-- A tile of the gradient is the gradient's, -/
theorem tileG_eq (c : Dev nD) (t : Fin cfg0.N) (y : S1024x1024.Idx) (i : S8192x1024.Idx) (h0 : (i 0).val = t.val * 1024 + (y 0).val)
    (h1 : (i 1).val = (y 1).val) : tileG (xT m c t) (tT m c t) (gT m c t) y = Gdx (yA m c) (wA m c) (xA m c) (gA m c) (tA m c) i := by
  obtain ⟨p, q, rfl⟩ : ∃ (p : Fin 1024) (q : Fin 1024), y = ix2 p q := ⟨y 0, y 1, funext fun a => by match a with | ⟨0, _⟩ => rfl | ⟨1, _⟩ => rfl⟩
  have e0 : i 0 = row t p := Fin.ext h0
  have e1 : i 1 = q := Fin.ext h1
  show rowDx (fun l => xT m c t (ix2 p l)) (dyg (fun l => xT m c t (ix2 p l)) (fun l => gT m c t (ix2 0 l)) (fun l => tT m c t (ix2 p l))) 0 q
    = rowDx (xr (yA m c) (wA m c) (xA m c) (i 0)) (dyg (xr (yA m c) (wA m c) (xA m c) (i 0)) (fun l => gA m c (ix2 0 l)) (fun l => tA m c (ix2 (i 0) l))) 0 (i 1)
  rw [e0, e1]
  simp only [xT_apply, gT_apply, tT_apply]

/-- eight tiles' losses are the loss -/
theorem ls_eq (c : Dev nD) (t : Fin cfg0.N) (h7 : t.val % 8 = 7) (j : S8x128.Idx) :
    (outsAt0 m c t.val t.isLt).2.1 j = Gls (yA m c) (wA m c) (xA m c) (gA m c) (tA m c) j := by
  rw [out6_last m c t h7]
  have ht := lt_of_lt_of_eq t.isLt N_0
  unfold Gls tileL
  refine (sum_half _).trans (congrArg (Ideal.ofBits .f32 0x3F000000#32 * ·) (Fin.sum_mul_add_congr (S := 8) (n := 1024) (fun s i hl => ?_)))
  have er : row ⟨8 * (t.val / 8) + s.val, Pipeline.run_point_lt_of_flush t h7 s⟩ i = Fin.mk (s.val * 1024 + i.val) hl :=
    Fin.ext (by show (8 * (t.val / 8) + s.val) * 1024 + i.val = s.val * 1024 + i.val; omega)
  simp only [xT_apply, gT_apply, tT_apply, er]

/-- and their parts, added up, -/
theorem dg_sum (c : Dev nD) (t : Fin cfg0.N) (h7 : t.val % 8 = 7) (q : Fin 1024) :
    ∑ s : Fin 8, tileS (xT m c ⟨8 * (t.val / 8) + s.val, Pipeline.run_point_lt_of_flush t h7 s⟩) (tT m c ⟨8 * (t.val / 8) + s.val, Pipeline.run_point_lt_of_flush t h7 s⟩)
        (gT m c ⟨8 * (t.val / 8) + s.val, Pipeline.run_point_lt_of_flush t h7 s⟩) q
      = ∑ i : Fin 8192, dy (xr (yA m c) (wA m c) (xA m c) i) (fun l => gA m c (ix2 0 l)) (fun l => tA m c (ix2 i l)) q
        * (xr (yA m c) (wA m c) (xA m c) i q * scl (xr (yA m c) (wA m c) (xA m c) i)) := by
  have ht := lt_of_lt_of_eq t.isLt N_0
  unfold tileS
  refine Fin.sum_mul_add_congr (S := 8) (n := 1024) (fun s i hl => ?_)
  have er : row ⟨8 * (t.val / 8) + s.val, Pipeline.run_point_lt_of_flush t h7 s⟩ i = Fin.mk (s.val * 1024 + i.val) hl :=
    Fin.ext (by show (8 * (t.val / 8) + s.val) * 1024 + i.val = s.val * 1024 + i.val; omega)
  simp only [xT_apply, gT_apply, tT_apply, er]

/-- are the gain's gradient. -/
theorem dg_eq (c : Dev nD) (t : Fin cfg0.N) (h7 : t.val % 8 = 7) (j : S1x1024.Idx) :
    (outsAt0 m c t.val t.isLt).2.2 j = Gdg (yA m c) (wA m c) (xA m c) (gA m c) (tA m c) j :=
  (out7_last m c t h7 j).trans (dg_sum m c t h7 (j 1))

/-- What a point writes back of the gradient is its block. -/
theorem flushed_dx (c : Dev nD) (t : Fin cfg0.N) : (dats m 0 c).flushed 5 t
    = ((cfg0.win 5).blk t).view.read (Elt Ideal) (Gdx (yA m c) (wA m c) (xA m c) (gA m c) (tA m c)) := by
  rw [flushed5]
  funext y
  have e0 : win0_5.index t (0 : Fin 2) = t.val := congrFun (idxR t).1 0
  have e1 : win0_5.index t (1 : Fin 2) = 0 := congrFun (idxR t).1 1
  have hb0 : (((cfg0.win 5).blk t).view.emb y 0).val = win0_5.index t (0 : Fin 2) * 1024 + 1 * (y 0).val := rfl
  have hb1 : (((cfg0.win 5).blk t).view.emb y 1).val = win0_5.index t (1 : Fin 2) * 1024 + 1 * (y 1).val := rfl
  have hr : ∀ g : S8192x1024.Idx → EReal, (((cfg0.win 5).blk t).view.read (Elt Ideal) g y : EReal) = g (((cfg0.win 5).blk t).view.emb y) := fun g => rfl
  have ha := (out5 m c t ((cfg0.win 5).xinj (grid0.coords t) y)).trans (tileG_eq m c t ((cfg0.win 5).xinj (grid0.coords t) y) (((cfg0.win 5).blk t).view.emb y)
    (by show (((cfg0.win 5).blk t).view.emb y 0).val = t.val * 1024 + (y 0).val; rw [hb0, e0]; omega)
    (by show (((cfg0.win 5).blk t).view.emb y 1).val = (y 1).val; rw [hb1, e1]; omega))
  exact ha.trans (hr _).symm

/-- The gradient after the run. -/
theorem final_dx (c : Dev nD) : (dats m 0 c).arrAt 5 cfg0.N = Gdx (yA m c) (wA m c) (xA m c) (gA m c) (tA m c) :=
  (dats m 0 c).arrAt_eq_of_cover 5 _ (fun t _ => flushed_dx m c t) (fun i => by
    have hi0 : (i 0).val < 8192 := (i 0).isLt
    have hi1 : (i 1).val < 1024 := (i 1).isLt
    have hlt : (i 0).val / 1024 < grid0.N := lt_of_lt_of_eq (by omega) N_0.symm
    have ht := (idxR ⟨(i 0).val / 1024, hlt⟩).1
    refine ⟨⟨(i 0).val / 1024, hlt⟩, flush0_5 _, ?_⟩
    have q0 : win0_5.index (⟨(i 0).val / 1024, hlt⟩ : Fin grid0.N) (0 : Fin 2) = (i 0).val / 1024 := congrFun ht 0
    have q1 : win0_5.index (⟨(i 0).val / 1024, hlt⟩ : Fin grid0.N) (1 : Fin 2) = 0 := congrFun ht 1
    generalize (⟨(i 0).val / 1024, hlt⟩ : Fin grid0.N) = t at q0 q1 ⊢
    show i ∈ ((View.whole main_v0_0).slice (win0_5.rect t)).set
    rw [View.set_slice_whole, Rect.mem_set_unit]
    intro a
    match a with
    | ⟨0, _⟩ => show win0_5.index t (0 : Fin 2) * 1024 ≤ (i 0).val ∧ (i 0).val < win0_5.index t (0 : Fin 2) * 1024 + 1024; omega
    | ⟨1, _⟩ => show win0_5.index t (1 : Fin 2) * 1024 ≤ (i 1).val ∧ (i 1).val < win0_5.index t (1 : Fin 2) * 1024 + 1024; omega)

/-- What the last point writes back of the loss, -/
theorem flushed_ls (c : Dev nD) (t : Fin cfg0.N) (h : t.val % 8 = 7) : (dats m 0 c).flushed 6 t
    = ((cfg0.win 6).blk t).view.read (Elt Ideal) (Gls (yA m c) (wA m c) (xA m c) (gA m c) (tA m c)) := by
  rw [flushed6]
  funext y
  exact ls_eq m c t h ((cfg0.win 6).xinj (grid0.coords t) y)

/-- and the loss after the run. -/
theorem final_ls (c : Dev nD) : (dats m 0 c).arrAt 6 cfg0.N = Gls (yA m c) (wA m c) (xA m c) (gA m c) (tA m c) :=
  (dats m 0 c).arrAt_eq_of_cover 6 _ (fun t ht => flushed_ls m c t ((flush0_6 t).mp ht)) (fun i => by
    have hi0 : (i 0).val < 8 := (i 0).isLt
    have hi1 : (i 1).val < 128 := (i 1).isLt
    have hlt : 7 < grid0.N := lt_of_lt_of_eq (by omega) N_0.symm
    have ht := (idxR ⟨7, hlt⟩).2.1
    refine ⟨⟨7, hlt⟩, (flush0_6 _).mpr (by show 7 % 8 = 7; omega), ?_⟩
    have q0 : win0_6.index (⟨7, hlt⟩ : Fin grid0.N) (0 : Fin 2) = 0 := congrFun ht 0
    have q1 : win0_6.index (⟨7, hlt⟩ : Fin grid0.N) (1 : Fin 2) = 0 := congrFun ht 1
    generalize (⟨7, hlt⟩ : Fin grid0.N) = t at q0 q1 ⊢
    show i ∈ ((View.whole main_v0_1).slice (win0_6.rect t)).set
    rw [View.set_slice_whole, Rect.mem_set_unit]
    intro a
    match a with
    | ⟨0, _⟩ => show win0_6.index t (0 : Fin 2) * 8 ≤ (i 0).val ∧ (i 0).val < win0_6.index t (0 : Fin 2) * 8 + 8; omega
    | ⟨1, _⟩ => show win0_6.index t (1 : Fin 2) * 128 ≤ (i 1).val ∧ (i 1).val < win0_6.index t (1 : Fin 2) * 128 + 128; omega)

/-- What the last point writes back of the gain's gradient, -/
theorem flushed_dg (c : Dev nD) (t : Fin cfg0.N) (h : t.val % 8 = 7) : (dats m 0 c).flushed 7 t
    = ((cfg0.win 7).blk t).view.read (Elt Ideal) (Gdg (yA m c) (wA m c) (xA m c) (gA m c) (tA m c)) := by
  rw [flushed7]
  funext y
  have e0 : win0_7.index t (0 : Fin 2) = 0 := congrFun (idxR t).2.2 0
  have e1 : win0_7.index t (1 : Fin 2) = 0 := congrFun (idxR t).2.2 1
  have hb0 : (((cfg0.win 7).blk t).view.emb y 0).val = win0_7.index t (0 : Fin 2) * 1 + 1 * (y 0).val := rfl
  have hb1 : (((cfg0.win 7).blk t).view.emb y 1).val = win0_7.index t (1 : Fin 2) * 1024 + 1 * (y 1).val := rfl
  have hr : ∀ g : S1x1024.Idx → EReal, (((cfg0.win 7).blk t).view.read (Elt Ideal) g y : EReal) = g (((cfg0.win 7).blk t).view.emb y) := fun g => rfl
  have ha := dg_eq m c t h ((cfg0.win 7).xinj (grid0.coords t) y)
  refine ha.trans ((congrArg (Gdg (yA m c) (wA m c) (xA m c) (gA m c) (tA m c)) (funext fun a => Fin.ext ?_)).trans (hr _).symm)
  match a with
  | ⟨0, _⟩ => show (y 0).val = (((cfg0.win 7).blk t).view.emb y 0).val; rw [hb0, e0]; omega
  | ⟨1, _⟩ => show (y 1).val = (((cfg0.win 7).blk t).view.emb y 1).val; rw [hb1, e1]; omega

/-- and the gain's gradient after the run. -/
theorem final_dg (c : Dev nD) : (dats m 0 c).arrAt 7 cfg0.N = Gdg (yA m c) (wA m c) (xA m c) (gA m c) (tA m c) :=
  (dats m 0 c).arrAt_eq_of_cover 7 _ (fun t ht => flushed_dg m c t ((flush0_7 t).mp ht)) (fun i => by
    have hi0 : (i 0).val < 1 := (i 0).isLt
    have hi1 : (i 1).val < 1024 := (i 1).isLt
    have hlt : 7 < grid0.N := lt_of_lt_of_eq (by omega) N_0.symm
    have ht := (idxR ⟨7, hlt⟩).2.2
    refine ⟨⟨7, hlt⟩, (flush0_7 _).mpr (by show 7 % 8 = 7; omega), ?_⟩
    have q0 : win0_7.index (⟨7, hlt⟩ : Fin grid0.N) (0 : Fin 2) = 0 := congrFun ht 0
    have q1 : win0_7.index (⟨7, hlt⟩ : Fin grid0.N) (1 : Fin 2) = 0 := congrFun ht 1
    generalize (⟨7, hlt⟩ : Fin grid0.N) = t at q0 q1 ⊢
    show i ∈ ((View.whole main_v0_2).slice (win0_7.rect t)).set
    rw [View.set_slice_whole, Rect.mem_set_unit]
    intro a
    match a with
    | ⟨0, _⟩ => show win0_7.index t (0 : Fin 2) * 1 ≤ (i 0).val ∧ (i 0).val < win0_7.index t (0 : Fin 2) * 1 + 1; omega
    | ⟨1, _⟩ => show win0_7.index t (1 : Fin 2) * 1024 ≤ (i 1).val ∧ (i 1).val < win0_7.index t (1 : Fin 2) * 1024 + 1024; omega)

/-! ## The claims -/

/-- The odd layer's output projection, the final norm and the loss: from the same arguments the kernel and the reference end at the same
    gradient of the residual stream, loss and gradient of the gain. -/
theorem algebraic : Cert.algebraic_Kernel19Ideal_Reference19Ideal (hKernel19Ideal := Cert.Kernel19Ideal.Gen.facts)
    (hReference19Ideal := Cert.Reference19Ideal.Gen.facts) := by
  intro m g m' g' _ hargs
  refine ⟨fun c => Gdx (yA m c) (wA m c) (xA m c) (gA m c) (tA m c), fun c => Gls (yA m c) (wA m c) (xA m c) (gA m c) (tA m c),
    fun c => Gdg (yA m c) (wA m c) (xA m c) (gA m c) (tA m c),
    (θ_run _ _ _).mono (fun r h c => ⟨(h c).1.trans (final_dx m c), (h c).2.1.trans (final_ls m c), (h c).2.2.1.trans (final_dg m c), (h c).2.2.2⟩)
      (Cert.Kernel19Ideal.Value.run_blocks m g), ?_⟩
  refine (θ_run _ _ _).mono (fun r h c => ?_) (Cert.Reference19Ideal.Value.run (F := Ideal) m' g')
  obtain ⟨h5, h6, h7, h0, h1, h2, h3, h4⟩ := h c
  obtain ⟨e0, e1, e2, e3, e4⟩ := hargs c
  refine ⟨?_, ?_, ?_, h0, h1, h2, h3, h4⟩
  · rw [Cert.Reference19Ideal.Read.val_main_v52_eq, e0, e1, e2, e3, e4] at h5
    exact h5.trans (ref_dx _ _ _ _ _)
  · rw [e0, e1, e2, e3, e4] at h6
    exact h6.trans ((Cert.Reference19Ideal.Read.val_main_v53_eq _ _ _ _ _).trans (ref_ls _ _ _ _ _))
  · rw [e0, e1, e2, e3, e4] at h7
    exact h7.trans ((Cert.Reference19Ideal.Read.val_main_v36_eq _ _ _ _ _).trans (ref_dg _ _ _ _ _))

/-- The reference's run leaves its arguments alone; it declares no counter. -/
theorem frame_reference : Cert.quiescent_Reference19Ideal (hReference19Ideal := Cert.Reference19Ideal.Gen.facts) := fun m g _ =>
  (θ_run Cert.Reference19Ideal.defs _ _).mono (fun r h => ⟨fun c => (h c).2.2.2, sem_eq_zero_of_no_sems (by decide) r.2⟩)
    (Cert.Reference19Ideal.Value.run (F := Ideal) m g)

end Cert.Proof.LossHead

end
-- ==== Proof.lean ====
/-
  The certificate: each program's frame, that each ideal program is the printed program's idealization, and that each kernel
  and its reference end at the same arrays.
  Proof/OutProj.lean: the output projection's gradient.
  Proof/EvenDw.lean: the even weight gradient.
  Proof/NormMatmul.lean: the norm and the even input projection.
  Proof/OddIn.lean: the odd input projection.
  Proof/OddDw.lean: the odd weight gradient.
  Proof/EvenDx.lean: the even input gradient.
  Proof/OddDx.lean: the odd input gradient.
  Proof/Adam9.lean: the optimiser step of Kernel9.
  Proof/Adam10.lean: the optimiser step of Kernel10.
  Proof/Adam11.lean: the optimiser step of Kernel11.
  Proof/Adam12.lean: the optimiser step of Kernel12.
  Proof/Adam13.lean: the optimiser step of Kernel13.
  Proof/Adam14.lean: the optimiser step of Kernel14.
  Proof/Adam15.lean: the optimiser step of Kernel15.
  Proof/Adam16.lean: the optimiser step of Kernel16.
  Proof/Adam17.lean: the optimiser step of Kernel17.
  Proof/SumSlots.lean: the sum over the devices.
  Proof/LossHead.lean: the odd output projection, the final norm and the loss.
-/
module

public import proofs.«01_k».proof.Defs
public import proofs.«01_k».proof.Proof.Gen.Kernel2.Frame
public import proofs.«01_k».proof.Proof.Gen.Kernel2Ideal.Value
public import proofs.«01_k».proof.Proof.Gen.Reference2Ideal.Run
public import proofs.«01_k».proof.Proof.Gen.Reference2Ideal.Read
public import proofs.«01_k».proof.Proof.Gen.Kernel3.Frame
public import proofs.«01_k».proof.Proof.Gen.Kernel3Ideal.Value
public import proofs.«01_k».proof.Proof.Gen.Reference3Ideal.Run
public import proofs.«01_k».proof.Proof.Gen.Reference3Ideal.Read
public import proofs.«01_k».proof.Proof.Gen.Kernel4.Launch
public import proofs.«01_k».proof.Proof.Gen.Kernel4Ideal.Frame
public import proofs.«01_k».proof.Proof.Gen.Kernel4Ideal.Skeleton
public import proofs.«01_k».proof.Proof.Gen.Reference4Ideal.Run
public import proofs.«01_k».proof.Proof.Gen.Reference4Ideal.Read
public import proofs.«01_k».proof.Proof.Gen.Kernel5.Launch
public import proofs.«01_k».proof.Proof.Gen.Kernel5Ideal.Frame
public import proofs.«01_k».proof.Proof.Gen.Kernel5Ideal.Skeleton
public import proofs.«01_k».proof.Proof.Gen.Reference5Ideal.Run
public import proofs.«01_k».proof.Proof.Gen.Reference5Ideal.Read
public import proofs.«01_k».proof.Proof.Gen.Kernel6.Launch
public import proofs.«01_k».proof.Proof.Gen.Kernel6Ideal.Frame
public import proofs.«01_k».proof.Proof.Gen.Kernel6Ideal.Skeleton
public import proofs.«01_k».proof.Proof.Gen.Reference6Ideal.Run
public import proofs.«01_k».proof.Proof.Gen.Reference6Ideal.Read
public import proofs.«01_k».proof.Proof.Gen.Kernel7.Launch
public import proofs.«01_k».proof.Proof.Gen.Kernel7Ideal.Frame
public import proofs.«01_k».proof.Proof.Gen.Kernel7Ideal.Skeleton
public import proofs.«01_k».proof.Proof.Gen.Reference7Ideal.Run
public import proofs.«01_k».proof.Proof.Gen.Reference7Ideal.Read
public import proofs.«01_k».proof.Proof.Gen.Kernel8.Launch
public import proofs.«01_k».proof.Proof.Gen.Kernel8Ideal.Frame
public import proofs.«01_k».proof.Proof.Gen.Kernel8Ideal.Skeleton
public import proofs.«01_k».proof.Proof.Gen.Reference8Ideal.Run
public import proofs.«01_k».proof.Proof.Gen.Reference8Ideal.Read
public import proofs.«01_k».proof.Proof.Gen.Kernel9.Frame
public import proofs.«01_k».proof.Proof.Gen.Kernel9Ideal.Value
public import proofs.«01_k».proof.Proof.Gen.Reference9Ideal.Run
public import proofs.«01_k».proof.Proof.Gen.Reference9Ideal.Read
public import proofs.«01_k».proof.Proof.Gen.Kernel10.Frame
public import proofs.«01_k».proof.Proof.Gen.Kernel10Ideal.Value
public import proofs.«01_k».proof.Proof.Gen.Reference10Ideal.Run
public import proofs.«01_k».proof.Proof.Gen.Reference10Ideal.Read
public import proofs.«01_k».proof.Proof.Gen.Kernel11.Frame
public import proofs.«01_k».proof.Proof.Gen.Kernel11Ideal.Value
public import proofs.«01_k».proof.Proof.Gen.Reference11Ideal.Run
public import proofs.«01_k».proof.Proof.Gen.Reference11Ideal.Read
public import proofs.«01_k».proof.Proof.Gen.Kernel12.Frame
public import proofs.«01_k».proof.Proof.Gen.Kernel12Ideal.Value
public import proofs.«01_k».proof.Proof.Gen.Reference12Ideal.Run
public import proofs.«01_k».proof.Proof.Gen.Reference12Ideal.Read
public import proofs.«01_k».proof.Proof.Gen.Kernel13.Frame
public import proofs.«01_k».proof.Proof.Gen.Kernel13Ideal.Value
public import proofs.«01_k».proof.Proof.Gen.Reference13Ideal.Run
public import proofs.«01_k».proof.Proof.Gen.Reference13Ideal.Read
public import proofs.«01_k».proof.Proof.Gen.Kernel14.Frame
public import proofs.«01_k».proof.Proof.Gen.Kernel14Ideal.Value
public import proofs.«01_k».proof.Proof.Gen.Reference14Ideal.Run
public import proofs.«01_k».proof.Proof.Gen.Reference14Ideal.Read
public import proofs.«01_k».proof.Proof.Gen.Kernel15.Frame
public import proofs.«01_k».proof.Proof.Gen.Kernel15Ideal.Value
public import proofs.«01_k».proof.Proof.Gen.Reference15Ideal.Run
public import proofs.«01_k».proof.Proof.Gen.Reference15Ideal.Read
public import proofs.«01_k».proof.Proof.Gen.Kernel16.Frame
public import proofs.«01_k».proof.Proof.Gen.Kernel16Ideal.Value
public import proofs.«01_k».proof.Proof.Gen.Reference16Ideal.Run
public import proofs.«01_k».proof.Proof.Gen.Reference16Ideal.Read
public import proofs.«01_k».proof.Proof.Gen.Kernel17.Frame
public import proofs.«01_k».proof.Proof.Gen.Kernel17Ideal.Value
public import proofs.«01_k».proof.Proof.Gen.Reference17Ideal.Run
public import proofs.«01_k».proof.Proof.Gen.Reference17Ideal.Read
public import proofs.«01_k».proof.Proof.Gen.Kernel18.Frame
public import proofs.«01_k».proof.Proof.Gen.Kernel18Ideal.Value
public import proofs.«01_k».proof.Proof.Gen.Reference18Ideal.Run
public import proofs.«01_k».proof.Proof.Gen.Reference18Ideal.Read
public import proofs.«01_k».proof.Proof.Gen.Kernel19.Frame
public import proofs.«01_k».proof.Proof.Gen.Kernel19Ideal.Value
public import proofs.«01_k».proof.Proof.Gen.Reference19Ideal.Run
public import proofs.«01_k».proof.Proof.Gen.Reference19Ideal.Read
public import proofs.«01_k».proof.Proof.OutProj
public import proofs.«01_k».proof.Proof.EvenDw
public import proofs.«01_k».proof.Proof.NormMatmul
public import proofs.«01_k».proof.Proof.OddIn
public import proofs.«01_k».proof.Proof.OddDw
public import proofs.«01_k».proof.Proof.EvenDx
public import proofs.«01_k».proof.Proof.OddDx
public import proofs.«01_k».proof.Proof.Adam9
public import proofs.«01_k».proof.Proof.Adam10
public import proofs.«01_k».proof.Proof.Adam11
public import proofs.«01_k».proof.Proof.Adam12
public import proofs.«01_k».proof.Proof.Adam13
public import proofs.«01_k».proof.Proof.Adam14
public import proofs.«01_k».proof.Proof.Adam15
public import proofs.«01_k».proof.Proof.Adam16
public import proofs.«01_k».proof.Proof.Adam17
public import proofs.«01_k».proof.Proof.SumSlots
public import proofs.«01_k».proof.Proof.LossHead

@[expose] public section

noncomputable section

namespace Cert.Proof

open Idealize.ShloMosaic Idealize.SL.Sem

/-- Every claim, from the modules that prove them. -/
theorem claim : Cert.Claim :=
  ⟨Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Kernel11.Gen.facts, Cert.Kernel11Ideal.Gen.facts, Cert.Reference11Ideal.Gen.facts,
    Cert.Kernel12.Gen.facts, Cert.Kernel12Ideal.Gen.facts, Cert.Reference12Ideal.Gen.facts,
    Cert.Kernel13.Gen.facts, Cert.Kernel13Ideal.Gen.facts, Cert.Reference13Ideal.Gen.facts,
    Cert.Kernel14.Gen.facts, Cert.Kernel14Ideal.Gen.facts, Cert.Reference14Ideal.Gen.facts,
    Cert.Kernel15.Gen.facts, Cert.Kernel15Ideal.Gen.facts, Cert.Reference15Ideal.Gen.facts,
    Cert.Kernel16.Gen.facts, Cert.Kernel16Ideal.Gen.facts, Cert.Reference16Ideal.Gen.facts,
    Cert.Kernel17.Gen.facts, Cert.Kernel17Ideal.Gen.facts, Cert.Reference17Ideal.Gen.facts,
    Cert.Kernel18.Gen.facts, Cert.Kernel18Ideal.Gen.facts, Cert.Reference18Ideal.Gen.facts,
    Cert.Kernel19.Gen.facts, Cert.Kernel19Ideal.Gen.facts, Cert.Reference19Ideal.Gen.facts,
    fun m ρ _ => Cert.Kernel2.Gen.frame m ρ, fun m ρ _ => Cert.Kernel2Ideal.Gen.frame m ρ, OutProj.frame_reference,
    fun m ρ _ => Cert.Kernel3.Gen.frame m ρ, fun m ρ _ => Cert.Kernel3Ideal.Gen.frame m ρ, EvenDw.frame_reference,
    NormMatmul.frame_kernel, NormMatmul.frame_ideal, NormMatmul.frame_reference,
    OddIn.frame_kernel, OddIn.frame_ideal, OddIn.frame_reference,
    OddDw.frame_kernel, OddDw.frame_ideal, OddDw.frame_reference,
    EvenDx.frame_kernel, EvenDx.frame_ideal, EvenDx.frame_reference,
    OddDx.frame_kernel, OddDx.frame_ideal, OddDx.frame_reference,
    fun m ρ _ => Cert.Kernel9.Gen.frame m ρ, fun m ρ _ => Cert.Kernel9Ideal.Gen.frame m ρ, Adam9.frame_reference,
    fun m ρ _ => Cert.Kernel10.Gen.frame m ρ, fun m ρ _ => Cert.Kernel10Ideal.Gen.frame m ρ, Adam10.frame_reference,
    fun m ρ _ => Cert.Kernel11.Gen.frame m ρ, fun m ρ _ => Cert.Kernel11Ideal.Gen.frame m ρ, Adam11.frame_reference,
    fun m ρ _ => Cert.Kernel12.Gen.frame m ρ, fun m ρ _ => Cert.Kernel12Ideal.Gen.frame m ρ, Adam12.frame_reference,
    fun m ρ _ => Cert.Kernel13.Gen.frame m ρ, fun m ρ _ => Cert.Kernel13Ideal.Gen.frame m ρ, Adam13.frame_reference,
    fun m ρ _ => Cert.Kernel14.Gen.frame m ρ, fun m ρ _ => Cert.Kernel14Ideal.Gen.frame m ρ, Adam14.frame_reference,
    fun m ρ _ => Cert.Kernel15.Gen.frame m ρ, fun m ρ _ => Cert.Kernel15Ideal.Gen.frame m ρ, Adam15.frame_reference,
    fun m ρ _ => Cert.Kernel16.Gen.frame m ρ, fun m ρ _ => Cert.Kernel16Ideal.Gen.frame m ρ, Adam16.frame_reference,
    fun m ρ _ => Cert.Kernel17.Gen.frame m ρ, fun m ρ _ => Cert.Kernel17Ideal.Gen.frame m ρ, Adam17.frame_reference,
    fun m ρ _ => Cert.Kernel18.Gen.frame m ρ, fun m ρ _ => Cert.Kernel18Ideal.Gen.frame m ρ, SumSlots.frame_reference,
    fun m ρ _ => Cert.Kernel19.Gen.frame m ρ, fun m ρ _ => Cert.Kernel19Ideal.Gen.frame m ρ, LossHead.frame_reference,
    trivial, OutProj.algebraic,
    trivial, EvenDw.algebraic,
    trivial, NormMatmul.algebraic,
    trivial, OddIn.algebraic,
    trivial, OddDw.algebraic,
    trivial, EvenDx.algebraic,
    trivial, OddDx.algebraic,
    trivial, Adam9.algebraic,
    trivial, Adam10.algebraic,
    trivial, Adam11.algebraic,
    trivial, Adam12.algebraic,
    trivial, Adam13.algebraic,
    trivial, Adam14.algebraic,
    trivial, Adam15.algebraic,
    trivial, Adam16.algebraic,
    trivial, Adam17.algebraic,
    trivial, SumSlots.algebraic,
    trivial, LossHead.algebraic⟩

end Cert.Proof

end
